-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsReferenceIdeal (m : (ℓ : Loc Cert.HeadsReferenceIdeal.nD Cert.HeadsReferenceIdeal.τ Cert.HeadsReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Down [hPre_tables : Cert.Pre_tables.Facts] (m : (ℓ : Loc Cert.Down.nD Cert.Down.τ Cert.Down.sig) → Buf (Elt Bits) ℓ) : Prop :=
  ∀ c : Dev Cert.Down.nD,
    (Cert.Pre_tables.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))).1 = (fun _ => 1#1)
    ∧ (Cert.Pre_tables.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))).2.1 = (fun _ => 1#1)
    ∧ (Cert.Pre_tables.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))).2.2.1 = (fun _ => 1#1)
    ∧ (Cert.Pre_tables.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))).2.2.2.1 = (fun _ => 1#1)
    ∧ (Cert.Pre_tables.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))).2.2.2.2.1 = (fun _ => 1#1)
    ∧ (Cert.Pre_tables.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))).2.2.2.2.2 = (fun _ => 1#1)

def Pre_DownIdeal [hPre_tables : Cert.Pre_tables.Facts] (m : (ℓ : Loc Cert.DownIdeal.nD Cert.DownIdeal.τ Cert.DownIdeal.sig) → Buf (Elt Ideal) ℓ) : Prop :=
  ∀ c : Dev Cert.DownIdeal.nD,
    (Cert.Pre_tables.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).1 = (fun _ => 1#1)
    ∧ (Cert.Pre_tables.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.1 = (fun _ => 1#1)
    ∧ (Cert.Pre_tables.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2.1 = (fun _ => 1#1)
    ∧ (Cert.Pre_tables.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2.2.1 = (fun _ => 1#1)
    ∧ (Cert.Pre_tables.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2.2.2.1 = (fun _ => 1#1)
    ∧ (Cert.Pre_tables.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2.2.2.2 = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_tables [hPre_tables : Cert.Pre_tables.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_tables.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5))).1 = (fun _ => 1#1)
    ∧ (Cert.Pre_tables.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5))).2.1 = (fun _ => 1#1)
    ∧ (Cert.Pre_tables.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5))).2.2.1 = (fun _ => 1#1)
    ∧ (Cert.Pre_tables.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5))).2.2.2.1 = (fun _ => 1#1)
    ∧ (Cert.Pre_tables.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5))).2.2.2.2.1 = (fun _ => 1#1)
    ∧ (Cert.Pre_tables.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5))).2.2.2.2.2 = (fun _ => 1#1)

def Pre_Up [hPre_up_tables : Cert.Pre_up_tables.Facts] (m : (ℓ : Loc Cert.Up.nD Cert.Up.τ Cert.Up.sig) → Buf (Elt Bits) ℓ) : Prop :=
  ∀ c : Dev Cert.Up.nD,
    (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).1 = (fun _ => 1#1)
    ∧ (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).2.1 = (fun _ => 1#1)
    ∧ (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).2.2.1 = (fun _ => 1#1)
    ∧ (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).2.2.2.1 = (fun _ => 1#1)
    ∧ (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).2.2.2.2.1 = (fun _ => 1#1)
    ∧ (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).2.2.2.2.2.1 = (fun _ => 1#1)
    ∧ (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).2.2.2.2.2.2.1 = (fun _ => 1#1)
    ∧ (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).2.2.2.2.2.2.2.1 = (fun _ => 1#1)
    ∧ (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).2.2.2.2.2.2.2.2 = (fun _ => 1#1)

def Pre_UpIdeal [hPre_up_tables : Cert.Pre_up_tables.Facts] (m : (ℓ : Loc Cert.UpIdeal.nD Cert.UpIdeal.τ Cert.UpIdeal.sig) → Buf (Elt Ideal) ℓ) : Prop :=
  ∀ c : Dev Cert.UpIdeal.nD,
    (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).1 = (fun _ => 1#1)
    ∧ (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).2.1 = (fun _ => 1#1)
    ∧ (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).2.2.1 = (fun _ => 1#1)
    ∧ (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).2.2.2.1 = (fun _ => 1#1)
    ∧ (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).2.2.2.2.1 = (fun _ => 1#1)
    ∧ (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).2.2.2.2.2.1 = (fun _ => 1#1)
    ∧ (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).2.2.2.2.2.2.1 = (fun _ => 1#1)
    ∧ (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).2.2.2.2.2.2.2.1 = (fun _ => 1#1)
    ∧ (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).2.2.2.2.2.2.2.2 = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_up_tables [hPre_up_tables : Cert.Pre_up_tables.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_up_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7)) (m ((c.tc : Thread Cert.UpReferenceIdeal.nD Cert.UpReferenceIdeal.τ).loc Cert.UpReferenceIdeal.main_arg8))).1 = (fun _ => 1#1)
    ∧ (Cert.Pre_up_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7)) (m ((c.tc : Thread Cert.UpReferenceIdeal.nD Cert.UpReferenceIdeal.τ).loc Cert.UpReferenceIdeal.main_arg8))).2.1 = (fun _ => 1#1)
    ∧ (Cert.Pre_up_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7)) (m ((c.tc : Thread Cert.UpReferenceIdeal.nD Cert.UpReferenceIdeal.τ).loc Cert.UpReferenceIdeal.main_arg8))).2.2.1 = (fun _ => 1#1)
    ∧ (Cert.Pre_up_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7)) (m ((c.tc : Thread Cert.UpReferenceIdeal.nD Cert.UpReferenceIdeal.τ).loc Cert.UpReferenceIdeal.main_arg8))).2.2.2.1 = (fun _ => 1#1)
    ∧ (Cert.Pre_up_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7)) (m ((c.tc : Thread Cert.UpReferenceIdeal.nD Cert.UpReferenceIdeal.τ).loc Cert.UpReferenceIdeal.main_arg8))).2.2.2.2.1 = (fun _ => 1#1)
    ∧ (Cert.Pre_up_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7)) (m ((c.tc : Thread Cert.UpReferenceIdeal.nD Cert.UpReferenceIdeal.τ).loc Cert.UpReferenceIdeal.main_arg8))).2.2.2.2.2.1 = (fun _ => 1#1)
    ∧ (Cert.Pre_up_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7)) (m ((c.tc : Thread Cert.UpReferenceIdeal.nD Cert.UpReferenceIdeal.τ).loc Cert.UpReferenceIdeal.main_arg8))).2.2.2.2.2.2.1 = (fun _ => 1#1)
    ∧ (Cert.Pre_up_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7)) (m ((c.tc : Thread Cert.UpReferenceIdeal.nD Cert.UpReferenceIdeal.τ).loc Cert.UpReferenceIdeal.main_arg8))).2.2.2.2.2.2.2.1 = (fun _ => 1#1)
    ∧ (Cert.Pre_up_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7)) (m ((c.tc : Thread Cert.UpReferenceIdeal.nD Cert.UpReferenceIdeal.τ).loc Cert.UpReferenceIdeal.main_arg8))).2.2.2.2.2.2.2.2 = (fun _ => 1#1)

def Pre_Means (m : (ℓ : Loc Cert.Means.nD Cert.Means.τ Cert.Means.sig) → Buf (Elt Bits) ℓ) : Prop :=
  True

def Pre_MeansIdeal (m : (ℓ : Loc Cert.MeansIdeal.nD Cert.MeansIdeal.τ Cert.MeansIdeal.sig) → Buf (Elt Ideal) ℓ) : Prop :=
  True

def Pre_MeansReferenceIdeal (m : (ℓ : Loc Cert.MeansReferenceIdeal.nD Cert.MeansReferenceIdeal.τ Cert.MeansReferenceIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedReferenceIdeal (m : (ℓ : Loc Cert.MixedReferenceIdeal.nD Cert.MixedReferenceIdeal.τ Cert.MixedReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2)
      ∧ r.2.mem ((c.tc : Thread Cert.HeadsReferenceIdeal.nD Cert.HeadsReferenceIdeal.τ).loc Cert.HeadsReferenceIdeal.main_arg3) = m ((c.tc : Thread Cert.HeadsReferenceIdeal.nD Cert.HeadsReferenceIdeal.τ).loc Cert.HeadsReferenceIdeal.main_arg3)
      ∧ r.2.mem ((c.tc : Thread Cert.HeadsReferenceIdeal.nD Cert.HeadsReferenceIdeal.τ).loc Cert.HeadsReferenceIdeal.main_arg4) = m ((c.tc : Thread Cert.HeadsReferenceIdeal.nD Cert.HeadsReferenceIdeal.τ).loc Cert.HeadsReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def quiescent_Down [hDown : Cert.Down.Facts] [hPre_tables : Cert.Pre_tables.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] [hPre_tables : Cert.Pre_tables.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_DownReferenceIdeal_pre_tables [hDownReferenceIdeal : Cert.DownReferenceIdeal.Facts] [hPre_tables : Cert.Pre_tables.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_tables m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_Up [hUp : Cert.Up.Facts] [hPre_up_tables : Cert.Pre_up_tables.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6)
      ∧ r.2.mem ((c.tc : Thread Cert.Up.nD Cert.Up.τ).loc Cert.Up.main_arg7) = m ((c.tc : Thread Cert.Up.nD Cert.Up.τ).loc Cert.Up.main_arg7)
      ∧ r.2.mem ((c.tc : Thread Cert.Up.nD Cert.Up.τ).loc Cert.Up.main_arg8) = m ((c.tc : Thread Cert.Up.nD Cert.Up.τ).loc Cert.Up.main_arg8))
      ∧ r.2.sem = fun _ => 0)

def quiescent_UpIdeal [hUpIdeal : Cert.UpIdeal.Facts] [hPre_up_tables : Cert.Pre_up_tables.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
      ∧ r.2.mem ((c.tc : Thread Cert.UpIdeal.nD Cert.UpIdeal.τ).loc Cert.UpIdeal.main_arg8) = m ((c.tc : Thread Cert.UpIdeal.nD Cert.UpIdeal.τ).loc Cert.UpIdeal.main_arg8))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6)
      ∧ r.2.mem ((c.tc : Thread Cert.UpReferenceIdeal.nD Cert.UpReferenceIdeal.τ).loc Cert.UpReferenceIdeal.main_arg7) = m ((c.tc : Thread Cert.UpReferenceIdeal.nD Cert.UpReferenceIdeal.τ).loc Cert.UpReferenceIdeal.main_arg7)
      ∧ r.2.mem ((c.tc : Thread Cert.UpReferenceIdeal.nD Cert.UpReferenceIdeal.τ).loc Cert.UpReferenceIdeal.main_arg8) = m ((c.tc : Thread Cert.UpReferenceIdeal.nD Cert.UpReferenceIdeal.τ).loc Cert.UpReferenceIdeal.main_arg8))
      ∧ r.2.sem = fun _ => 0)

def quiescent_UpReferenceIdeal_pre_up_tables [hUpReferenceIdeal : Cert.UpReferenceIdeal.Facts] [hPre_up_tables : Cert.Pre_up_tables.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_up_tables m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6)
      ∧ r.2.mem ((c.tc : Thread Cert.UpReferenceIdeal.nD Cert.UpReferenceIdeal.τ).loc Cert.UpReferenceIdeal.main_arg7) = m ((c.tc : Thread Cert.UpReferenceIdeal.nD Cert.UpReferenceIdeal.τ).loc Cert.UpReferenceIdeal.main_arg7)
      ∧ r.2.mem ((c.tc : Thread Cert.UpReferenceIdeal.nD Cert.UpReferenceIdeal.τ).loc Cert.UpReferenceIdeal.main_arg8) = m ((c.tc : Thread Cert.UpReferenceIdeal.nD Cert.UpReferenceIdeal.τ).loc Cert.UpReferenceIdeal.main_arg8))
      ∧ r.2.sem = fun _ => 0)

def quiescent_Means [hMeans : Cert.Means.Facts] : Prop :=
  ∀ (m : (ℓ : Loc Cert.Means.nD Cert.Means.τ Cert.Means.sig) → Buf (Elt Bits) ℓ) (g : Dev Cert.Means.nD → PrngReg), Pre_Means m →
    θ_run (Cert.Means.defs (F := Bits)) (onTc (τ := Cert.Means.τ) (Cert.Means.main (F := Bits))) ⟨m, fun _ => 0, g⟩ (fun r => (∀ c : Dev Cert.Means.nD,
      r.2.mem ((c.tc : Thread Cert.Means.nD Cert.Means.τ).loc Cert.Means.main_arg0) = m ((c.tc : Thread Cert.Means.nD Cert.Means.τ).loc Cert.Means.main_arg0))
      ∧ r.2.sem = fun _ => 0)

def quiescent_MeansIdeal [hMeansIdeal : Cert.MeansIdeal.Facts] : Prop :=
  ∀ (m : (ℓ : Loc Cert.MeansIdeal.nD Cert.MeansIdeal.τ Cert.MeansIdeal.sig) → Buf (Elt Ideal) ℓ) (g : Dev Cert.MeansIdeal.nD → PrngReg), Pre_MeansIdeal m →
    θ_run (Cert.MeansIdeal.defs (F := Ideal)) (onTc (τ := Cert.MeansIdeal.τ) (Cert.MeansIdeal.main (F := Ideal))) ⟨m, fun _ => 0, g⟩ (fun r => (∀ c : Dev Cert.MeansIdeal.nD,
      r.2.mem ((c.tc : Thread Cert.MeansIdeal.nD Cert.MeansIdeal.τ).loc Cert.MeansIdeal.main_arg0) = m ((c.tc : Thread Cert.MeansIdeal.nD Cert.MeansIdeal.τ).loc Cert.MeansIdeal.main_arg0))
      ∧ r.2.sem = fun _ => 0)

def quiescent_MeansReferenceIdeal [hMeansReferenceIdeal : Cert.MeansReferenceIdeal.Facts] : Prop :=
  ∀ (m : (ℓ : Loc Cert.MeansReferenceIdeal.nD Cert.MeansReferenceIdeal.τ Cert.MeansReferenceIdeal.sig) → Buf (Elt Ideal) ℓ) (g : Dev Cert.MeansReferenceIdeal.nD → PrngReg), Pre_MeansReferenceIdeal m →
    θ_run (Cert.MeansReferenceIdeal.defs (F := Ideal)) (onTc (τ := Cert.MeansReferenceIdeal.τ) (Cert.MeansReferenceIdeal.main (F := Ideal))) ⟨m, fun _ => 0, g⟩ (fun r => (∀ c : Dev Cert.MeansReferenceIdeal.nD,
      r.2.mem ((c.tc : Thread Cert.MeansReferenceIdeal.nD Cert.MeansReferenceIdeal.τ).loc Cert.MeansReferenceIdeal.main_arg0) = m ((c.tc : Thread Cert.MeansReferenceIdeal.nD Cert.MeansReferenceIdeal.τ).loc Cert.MeansReferenceIdeal.main_arg0))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4)
      ∧ r.2.mem ((c.tc : Thread Cert.Mixed.nD Cert.Mixed.τ).loc Cert.Mixed.main_arg5) = m ((c.tc : Thread Cert.Mixed.nD Cert.Mixed.τ).loc Cert.Mixed.main_arg5)
      ∧ r.2.mem ((c.tc : Thread Cert.Mixed.nD Cert.Mixed.τ).loc Cert.Mixed.main_arg6) = m ((c.tc : Thread Cert.Mixed.nD Cert.Mixed.τ).loc Cert.Mixed.main_arg6)
      ∧ r.2.mem ((c.tc : Thread Cert.Mixed.nD Cert.Mixed.τ).loc Cert.Mixed.main_arg7) = m ((c.tc : Thread Cert.Mixed.nD Cert.Mixed.τ).loc Cert.Mixed.main_arg7)
      ∧ r.2.mem ((c.tc : Thread Cert.Mixed.nD Cert.Mixed.τ).loc Cert.Mixed.main_arg8) = m ((c.tc : Thread Cert.Mixed.nD Cert.Mixed.τ).loc Cert.Mixed.main_arg8))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
      ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8))
      ∧ r.2.sem = fun _ => 0)

def quiescent_MixedReferenceIdeal [hMixedReferenceIdeal : Cert.MixedReferenceIdeal.Facts] : Prop :=
  ∀ (m : (ℓ : Loc Cert.MixedReferenceIdeal.nD Cert.MixedReferenceIdeal.τ Cert.MixedReferenceIdeal.sig) → Buf (Elt Ideal) ℓ) (g : Dev Cert.MixedReferenceIdeal.nD → PrngReg), Pre_MixedReferenceIdeal m →
    θ_run (Cert.MixedReferenceIdeal.defs (F := Ideal)) (onTc (τ := Cert.MixedReferenceIdeal.τ) (Cert.MixedReferenceIdeal.main (F := Ideal))) ⟨m, fun _ => 0, g⟩ (fun r => (∀ c : Dev Cert.MixedReferenceIdeal.nD,
      r.2.mem ((c.tc : Thread Cert.MixedReferenceIdeal.nD Cert.MixedReferenceIdeal.τ).loc Cert.MixedReferenceIdeal.main_arg0) = m ((c.tc : Thread Cert.MixedReferenceIdeal.nD Cert.MixedReferenceIdeal.τ).loc Cert.MixedReferenceIdeal.main_arg0)
      ∧ r.2.mem ((c.tc : Thread Cert.MixedReferenceIdeal.nD Cert.MixedReferenceIdeal.τ).loc Cert.MixedReferenceIdeal.main_arg1) = m ((c.tc : Thread Cert.MixedReferenceIdeal.nD Cert.MixedReferenceIdeal.τ).loc Cert.MixedReferenceIdeal.main_arg1)
      ∧ r.2.mem ((c.tc : Thread Cert.MixedReferenceIdeal.nD Cert.MixedReferenceIdeal.τ).loc Cert.MixedReferenceIdeal.main_arg2) = m ((c.tc : Thread Cert.MixedReferenceIdeal.nD Cert.MixedReferenceIdeal.τ).loc Cert.MixedReferenceIdeal.main_arg2)
      ∧ r.2.mem ((c.tc : Thread Cert.MixedReferenceIdeal.nD Cert.MixedReferenceIdeal.τ).loc Cert.MixedReferenceIdeal.main_arg3) = m ((c.tc : Thread Cert.MixedReferenceIdeal.nD Cert.MixedReferenceIdeal.τ).loc Cert.MixedReferenceIdeal.main_arg3)
      ∧ r.2.mem ((c.tc : Thread Cert.MixedReferenceIdeal.nD Cert.MixedReferenceIdeal.τ).loc Cert.MixedReferenceIdeal.main_arg4) = m ((c.tc : Thread Cert.MixedReferenceIdeal.nD Cert.MixedReferenceIdeal.τ).loc Cert.MixedReferenceIdeal.main_arg4)
      ∧ r.2.mem ((c.tc : Thread Cert.MixedReferenceIdeal.nD Cert.MixedReferenceIdeal.τ).loc Cert.MixedReferenceIdeal.main_arg5) = m ((c.tc : Thread Cert.MixedReferenceIdeal.nD Cert.MixedReferenceIdeal.τ).loc Cert.MixedReferenceIdeal.main_arg5)
      ∧ r.2.mem ((c.tc : Thread Cert.MixedReferenceIdeal.nD Cert.MixedReferenceIdeal.τ).loc Cert.MixedReferenceIdeal.main_arg6) = m ((c.tc : Thread Cert.MixedReferenceIdeal.nD Cert.MixedReferenceIdeal.τ).loc Cert.MixedReferenceIdeal.main_arg6)
      ∧ r.2.mem ((c.tc : Thread Cert.MixedReferenceIdeal.nD Cert.MixedReferenceIdeal.τ).loc Cert.MixedReferenceIdeal.main_arg7) = m ((c.tc : Thread Cert.MixedReferenceIdeal.nD Cert.MixedReferenceIdeal.τ).loc Cert.MixedReferenceIdeal.main_arg7)
      ∧ r.2.mem ((c.tc : Thread Cert.MixedReferenceIdeal.nD Cert.MixedReferenceIdeal.τ).loc Cert.MixedReferenceIdeal.main_arg8) = m ((c.tc : Thread Cert.MixedReferenceIdeal.nD Cert.MixedReferenceIdeal.τ).loc Cert.MixedReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Heads_HeadsIdeal : Prop :=
  True

def algebraic_HeadsIdeal_HeadsReferenceIdeal [hHeadsIdeal : Cert.HeadsIdeal.Facts] [hHeadsReferenceIdeal : Cert.HeadsReferenceIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsIdeal m →
    (∀ c : Dev Cert.HeadsIdeal.nD,
      m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0)
      ∧ m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)
      ∧ m' ((c.tc : Thread Cert.HeadsReferenceIdeal.nD Cert.HeadsReferenceIdeal.τ).loc Cert.HeadsReferenceIdeal.main_arg2) = m ((c.tc : Thread Cert.HeadsIdeal.nD Cert.HeadsIdeal.τ).loc Cert.HeadsIdeal.main_arg2)
      ∧ m' ((c.tc : Thread Cert.HeadsReferenceIdeal.nD Cert.HeadsReferenceIdeal.τ).loc Cert.HeadsReferenceIdeal.main_arg3) = m ((c.tc : Thread Cert.HeadsIdeal.nD Cert.HeadsIdeal.τ).loc Cert.HeadsIdeal.main_arg3)
      ∧ m' ((c.tc : Thread Cert.HeadsReferenceIdeal.nD Cert.HeadsReferenceIdeal.τ).loc Cert.HeadsReferenceIdeal.main_arg4) = m ((c.tc : Thread Cert.HeadsIdeal.nD Cert.HeadsIdeal.τ).loc Cert.HeadsIdeal.main_arg4)) →
    ∃ (v0 : (c : Dev Cert.HeadsIdeal.nD) → Buf (Elt Ideal) ((c.tc : Thread Cert.HeadsIdeal.nD Cert.HeadsIdeal.τ).loc Cert.HeadsIdeal.main_v37_0)) (v1 : (c : Dev Cert.HeadsIdeal.nD) → Buf (Elt Ideal) ((c.tc : Thread Cert.HeadsIdeal.nD Cert.HeadsIdeal.τ).loc Cert.HeadsIdeal.main_v37_1)) (v2 : (c : Dev Cert.HeadsIdeal.nD) → Buf (Elt Ideal) ((c.tc : Thread Cert.HeadsIdeal.nD Cert.HeadsIdeal.τ).loc Cert.HeadsIdeal.main_v38_0)) (v3 : (c : Dev Cert.HeadsIdeal.nD) → Buf (Elt Ideal) ((c.tc : Thread Cert.HeadsIdeal.nD Cert.HeadsIdeal.τ).loc Cert.HeadsIdeal.main_v38_1)) (v4 : (c : Dev Cert.HeadsIdeal.nD) → Buf (Elt Ideal) ((c.tc : Thread Cert.HeadsIdeal.nD Cert.HeadsIdeal.τ).loc Cert.HeadsIdeal.main_v39_0)) (v5 : (c : Dev Cert.HeadsIdeal.nD) → Buf (Elt Ideal) ((c.tc : Thread Cert.HeadsIdeal.nD Cert.HeadsIdeal.τ).loc Cert.HeadsIdeal.main_v39_1)) (v6 : (c : Dev Cert.HeadsIdeal.nD) → Buf (Elt Ideal) ((c.tc : Thread Cert.HeadsIdeal.nD Cert.HeadsIdeal.τ).loc Cert.HeadsIdeal.main_v40_0)) (v7 : (c : Dev Cert.HeadsIdeal.nD) → Buf (Elt Ideal) ((c.tc : Thread Cert.HeadsIdeal.nD Cert.HeadsIdeal.τ).loc Cert.HeadsIdeal.main_v40_1)) (v8 : (c : Dev Cert.HeadsIdeal.nD) → Buf (Elt Ideal) ((c.tc : Thread Cert.HeadsIdeal.nD Cert.HeadsIdeal.τ).loc Cert.HeadsIdeal.main_v41_0)) (v9 : (c : Dev Cert.HeadsIdeal.nD) → Buf (Elt Ideal) ((c.tc : Thread Cert.HeadsIdeal.nD Cert.HeadsIdeal.τ).loc Cert.HeadsIdeal.main_v41_1)) (v10 : (c : Dev Cert.HeadsIdeal.nD) → Buf (Elt Ideal) ((c.tc : Thread Cert.HeadsIdeal.nD Cert.HeadsIdeal.τ).loc Cert.HeadsIdeal.main_v42_0)) (v11 : (c : Dev Cert.HeadsIdeal.nD) → Buf (Elt Ideal) ((c.tc : Thread Cert.HeadsIdeal.nD Cert.HeadsIdeal.τ).loc Cert.HeadsIdeal.main_v42_1)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v37_0) = v0 c
          ∧ r.2.mem ((c.tc : Thread Cert.HeadsIdeal.nD Cert.HeadsIdeal.τ).loc Cert.HeadsIdeal.main_v37_1) = v1 c
          ∧ r.2.mem ((c.tc : Thread Cert.HeadsIdeal.nD Cert.HeadsIdeal.τ).loc Cert.HeadsIdeal.main_v38_0) = v2 c
          ∧ r.2.mem ((c.tc : Thread Cert.HeadsIdeal.nD Cert.HeadsIdeal.τ).loc Cert.HeadsIdeal.main_v38_1) = v3 c
          ∧ r.2.mem ((c.tc : Thread Cert.HeadsIdeal.nD Cert.HeadsIdeal.τ).loc Cert.HeadsIdeal.main_v39_0) = v4 c
          ∧ r.2.mem ((c.tc : Thread Cert.HeadsIdeal.nD Cert.HeadsIdeal.τ).loc Cert.HeadsIdeal.main_v39_1) = v5 c
          ∧ r.2.mem ((c.tc : Thread Cert.HeadsIdeal.nD Cert.HeadsIdeal.τ).loc Cert.HeadsIdeal.main_v40_0) = v6 c
          ∧ r.2.mem ((c.tc : Thread Cert.HeadsIdeal.nD Cert.HeadsIdeal.τ).loc Cert.HeadsIdeal.main_v40_1) = v7 c
          ∧ r.2.mem ((c.tc : Thread Cert.HeadsIdeal.nD Cert.HeadsIdeal.τ).loc Cert.HeadsIdeal.main_v41_0) = v8 c
          ∧ r.2.mem ((c.tc : Thread Cert.HeadsIdeal.nD Cert.HeadsIdeal.τ).loc Cert.HeadsIdeal.main_v41_1) = v9 c
          ∧ r.2.mem ((c.tc : Thread Cert.HeadsIdeal.nD Cert.HeadsIdeal.τ).loc Cert.HeadsIdeal.main_v42_0) = v10 c
          ∧ r.2.mem ((c.tc : Thread Cert.HeadsIdeal.nD Cert.HeadsIdeal.τ).loc Cert.HeadsIdeal.main_v42_1) = v11 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v174) = v0 c
          ∧ r.2.mem ((c.tc : Thread Cert.HeadsReferenceIdeal.nD Cert.HeadsReferenceIdeal.τ).loc Cert.HeadsReferenceIdeal.main_v176) = v1 c
          ∧ r.2.mem ((c.tc : Thread Cert.HeadsReferenceIdeal.nD Cert.HeadsReferenceIdeal.τ).loc Cert.HeadsReferenceIdeal.main_v107) = v2 c
          ∧ r.2.mem ((c.tc : Thread Cert.HeadsReferenceIdeal.nD Cert.HeadsReferenceIdeal.τ).loc Cert.HeadsReferenceIdeal.main_v177) = v3 c
          ∧ r.2.mem ((c.tc : Thread Cert.HeadsReferenceIdeal.nD Cert.HeadsReferenceIdeal.τ).loc Cert.HeadsReferenceIdeal.main_v27) = v4 c
          ∧ r.2.mem ((c.tc : Thread Cert.HeadsReferenceIdeal.nD Cert.HeadsReferenceIdeal.τ).loc Cert.HeadsReferenceIdeal.main_v179) = v5 c
          ∧ r.2.mem ((c.tc : Thread Cert.HeadsReferenceIdeal.nD Cert.HeadsReferenceIdeal.τ).loc Cert.HeadsReferenceIdeal.main_v180) = v6 c
          ∧ r.2.mem ((c.tc : Thread Cert.HeadsReferenceIdeal.nD Cert.HeadsReferenceIdeal.τ).loc Cert.HeadsReferenceIdeal.main_v182) = v7 c
          ∧ r.2.mem ((c.tc : Thread Cert.HeadsReferenceIdeal.nD Cert.HeadsReferenceIdeal.τ).loc Cert.HeadsReferenceIdeal.main_v173) = v8 c
          ∧ r.2.mem ((c.tc : Thread Cert.HeadsReferenceIdeal.nD Cert.HeadsReferenceIdeal.τ).loc Cert.HeadsReferenceIdeal.main_v183) = v9 c
          ∧ r.2.mem ((c.tc : Thread Cert.HeadsReferenceIdeal.nD Cert.HeadsReferenceIdeal.τ).loc Cert.HeadsReferenceIdeal.main_v30) = v10 c
          ∧ r.2.mem ((c.tc : Thread Cert.HeadsReferenceIdeal.nD Cert.HeadsReferenceIdeal.τ).loc Cert.HeadsReferenceIdeal.main_v185) = v11 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1)
          ∧ r.2.mem ((c.tc : Thread Cert.HeadsReferenceIdeal.nD Cert.HeadsReferenceIdeal.τ).loc Cert.HeadsReferenceIdeal.main_arg2) = m' ((c.tc : Thread Cert.HeadsReferenceIdeal.nD Cert.HeadsReferenceIdeal.τ).loc Cert.HeadsReferenceIdeal.main_arg2)
          ∧ r.2.mem ((c.tc : Thread Cert.HeadsReferenceIdeal.nD Cert.HeadsReferenceIdeal.τ).loc Cert.HeadsReferenceIdeal.main_arg3) = m' ((c.tc : Thread Cert.HeadsReferenceIdeal.nD Cert.HeadsReferenceIdeal.τ).loc Cert.HeadsReferenceIdeal.main_arg3)
          ∧ r.2.mem ((c.tc : Thread Cert.HeadsReferenceIdeal.nD Cert.HeadsReferenceIdeal.τ).loc Cert.HeadsReferenceIdeal.main_arg4) = m' ((c.tc : Thread Cert.HeadsReferenceIdeal.nD Cert.HeadsReferenceIdeal.τ).loc Cert.HeadsReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def preserves_Down_DownIdeal : Prop :=
  True

def algebraic_DownIdeal_DownReferenceIdeal [hDownIdeal : Cert.DownIdeal.Facts] [hDownReferenceIdeal : Cert.DownReferenceIdeal.Facts] [hPre_tables : Cert.Pre_tables.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v18) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5))

def preserves_Up_UpIdeal : Prop :=
  True

def algebraic_UpIdeal_UpReferenceIdeal [hUpIdeal : Cert.UpIdeal.Facts] [hUpReferenceIdeal : Cert.UpReferenceIdeal.Facts] [hPre_up_tables : Cert.Pre_up_tables.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)
      ∧ m' ((c.tc : Thread Cert.UpReferenceIdeal.nD Cert.UpReferenceIdeal.τ).loc Cert.UpReferenceIdeal.main_arg5) = m ((c.tc : Thread Cert.UpIdeal.nD Cert.UpIdeal.τ).loc Cert.UpIdeal.main_arg5)
      ∧ m' ((c.tc : Thread Cert.UpReferenceIdeal.nD Cert.UpReferenceIdeal.τ).loc Cert.UpReferenceIdeal.main_arg6) = m ((c.tc : Thread Cert.UpIdeal.nD Cert.UpIdeal.τ).loc Cert.UpIdeal.main_arg6)
      ∧ m' ((c.tc : Thread Cert.UpReferenceIdeal.nD Cert.UpReferenceIdeal.τ).loc Cert.UpReferenceIdeal.main_arg7) = m ((c.tc : Thread Cert.UpIdeal.nD Cert.UpIdeal.τ).loc Cert.UpIdeal.main_arg7)
      ∧ m' ((c.tc : Thread Cert.UpReferenceIdeal.nD Cert.UpReferenceIdeal.τ).loc Cert.UpReferenceIdeal.main_arg8) = m ((c.tc : Thread Cert.UpIdeal.nD Cert.UpIdeal.τ).loc Cert.UpIdeal.main_arg8)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
          ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
          ∧ r.2.mem ((c.tc : Thread Cert.UpIdeal.nD Cert.UpIdeal.τ).loc Cert.UpIdeal.main_arg8) = m ((c.tc : Thread Cert.UpIdeal.nD Cert.UpIdeal.τ).loc Cert.UpIdeal.main_arg8))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v39) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5)
          ∧ r.2.mem ((c.tc : Thread Cert.UpReferenceIdeal.nD Cert.UpReferenceIdeal.τ).loc Cert.UpReferenceIdeal.main_arg6) = m' ((c.tc : Thread Cert.UpReferenceIdeal.nD Cert.UpReferenceIdeal.τ).loc Cert.UpReferenceIdeal.main_arg6)
          ∧ r.2.mem ((c.tc : Thread Cert.UpReferenceIdeal.nD Cert.UpReferenceIdeal.τ).loc Cert.UpReferenceIdeal.main_arg7) = m' ((c.tc : Thread Cert.UpReferenceIdeal.nD Cert.UpReferenceIdeal.τ).loc Cert.UpReferenceIdeal.main_arg7)
          ∧ r.2.mem ((c.tc : Thread Cert.UpReferenceIdeal.nD Cert.UpReferenceIdeal.τ).loc Cert.UpReferenceIdeal.main_arg8) = m' ((c.tc : Thread Cert.UpReferenceIdeal.nD Cert.UpReferenceIdeal.τ).loc Cert.UpReferenceIdeal.main_arg8))

def preserves_Means_MeansIdeal : Prop :=
  True

def algebraic_MeansIdeal_MeansReferenceIdeal [hMeansIdeal : Cert.MeansIdeal.Facts] [hMeansReferenceIdeal : Cert.MeansReferenceIdeal.Facts] : Prop :=
  ∀ (m : (ℓ : Loc Cert.MeansIdeal.nD Cert.MeansIdeal.τ Cert.MeansIdeal.sig) → Buf (Elt Ideal) ℓ) (g : Dev Cert.MeansIdeal.nD → PrngReg)
    (m' : (ℓ : Loc Cert.MeansReferenceIdeal.nD Cert.MeansReferenceIdeal.τ Cert.MeansReferenceIdeal.sig) → Buf (Elt Ideal) ℓ) (g' : Dev Cert.MeansReferenceIdeal.nD → PrngReg), Pre_MeansIdeal m →
    (∀ c : Dev Cert.MeansIdeal.nD,
      m' ((c.tc : Thread Cert.MeansReferenceIdeal.nD Cert.MeansReferenceIdeal.τ).loc Cert.MeansReferenceIdeal.main_arg0) = m ((c.tc : Thread Cert.MeansIdeal.nD Cert.MeansIdeal.τ).loc Cert.MeansIdeal.main_arg0)) →
    ∃ (v0 : (c : Dev Cert.MeansIdeal.nD) → Buf (Elt Ideal) ((c.tc : Thread Cert.MeansIdeal.nD Cert.MeansIdeal.τ).loc Cert.MeansIdeal.main_v0)),
      θ_run (Cert.MeansIdeal.defs (F := Ideal)) (onTc (τ := Cert.MeansIdeal.τ) (Cert.MeansIdeal.main (F := Ideal))) ⟨m, fun _ => 0, g⟩ (fun r => ∀ c : Dev Cert.MeansIdeal.nD,
          r.2.mem ((c.tc : Thread Cert.MeansIdeal.nD Cert.MeansIdeal.τ).loc Cert.MeansIdeal.main_v0) = v0 c
          ∧ r.2.mem ((c.tc : Thread Cert.MeansIdeal.nD Cert.MeansIdeal.τ).loc Cert.MeansIdeal.main_arg0) = m ((c.tc : Thread Cert.MeansIdeal.nD Cert.MeansIdeal.τ).loc Cert.MeansIdeal.main_arg0))
      ∧ θ_run (Cert.MeansReferenceIdeal.defs (F := Ideal)) (onTc (τ := Cert.MeansReferenceIdeal.τ) (Cert.MeansReferenceIdeal.main (F := Ideal))) ⟨m', fun _ => 0, g'⟩ (fun r => ∀ c : Dev Cert.MeansReferenceIdeal.nD,
          r.2.mem ((c.tc : Thread Cert.MeansReferenceIdeal.nD Cert.MeansReferenceIdeal.τ).loc Cert.MeansReferenceIdeal.main_v5) = v0 c
          ∧ r.2.mem ((c.tc : Thread Cert.MeansReferenceIdeal.nD Cert.MeansReferenceIdeal.τ).loc Cert.MeansReferenceIdeal.main_arg0) = m' ((c.tc : Thread Cert.MeansReferenceIdeal.nD Cert.MeansReferenceIdeal.τ).loc Cert.MeansReferenceIdeal.main_arg0))

def preserves_Mixed_MixedIdeal : Prop :=
  True

def algebraic_MixedIdeal_MixedReferenceIdeal [hMixedIdeal : Cert.MixedIdeal.Facts] [hMixedReferenceIdeal : Cert.MixedReferenceIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedReferenceIdeal.nD Cert.MixedReferenceIdeal.τ Cert.MixedReferenceIdeal.sig) → Buf (Elt Ideal) ℓ) (g' : Dev Cert.MixedReferenceIdeal.nD → PrngReg), Pre_MixedIdeal m →
    (∀ c : Dev Cert.MixedIdeal.nD,
      m' ((c.tc : Thread Cert.MixedReferenceIdeal.nD Cert.MixedReferenceIdeal.τ).loc Cert.MixedReferenceIdeal.main_arg0) = m ((c.tc : Thread Cert.MixedIdeal.nD Cert.MixedIdeal.τ).loc Cert.MixedIdeal.main_arg0)
      ∧ m' ((c.tc : Thread Cert.MixedReferenceIdeal.nD Cert.MixedReferenceIdeal.τ).loc Cert.MixedReferenceIdeal.main_arg1) = m ((c.tc : Thread Cert.MixedIdeal.nD Cert.MixedIdeal.τ).loc Cert.MixedIdeal.main_arg1)
      ∧ m' ((c.tc : Thread Cert.MixedReferenceIdeal.nD Cert.MixedReferenceIdeal.τ).loc Cert.MixedReferenceIdeal.main_arg2) = m ((c.tc : Thread Cert.MixedIdeal.nD Cert.MixedIdeal.τ).loc Cert.MixedIdeal.main_arg2)
      ∧ m' ((c.tc : Thread Cert.MixedReferenceIdeal.nD Cert.MixedReferenceIdeal.τ).loc Cert.MixedReferenceIdeal.main_arg3) = m ((c.tc : Thread Cert.MixedIdeal.nD Cert.MixedIdeal.τ).loc Cert.MixedIdeal.main_arg3)
      ∧ m' ((c.tc : Thread Cert.MixedReferenceIdeal.nD Cert.MixedReferenceIdeal.τ).loc Cert.MixedReferenceIdeal.main_arg4) = m ((c.tc : Thread Cert.MixedIdeal.nD Cert.MixedIdeal.τ).loc Cert.MixedIdeal.main_arg4)
      ∧ m' ((c.tc : Thread Cert.MixedReferenceIdeal.nD Cert.MixedReferenceIdeal.τ).loc Cert.MixedReferenceIdeal.main_arg5) = m ((c.tc : Thread Cert.MixedIdeal.nD Cert.MixedIdeal.τ).loc Cert.MixedIdeal.main_arg5)
      ∧ m' ((c.tc : Thread Cert.MixedReferenceIdeal.nD Cert.MixedReferenceIdeal.τ).loc Cert.MixedReferenceIdeal.main_arg6) = m ((c.tc : Thread Cert.MixedIdeal.nD Cert.MixedIdeal.τ).loc Cert.MixedIdeal.main_arg6)
      ∧ m' ((c.tc : Thread Cert.MixedReferenceIdeal.nD Cert.MixedReferenceIdeal.τ).loc Cert.MixedReferenceIdeal.main_arg7) = m ((c.tc : Thread Cert.MixedIdeal.nD Cert.MixedIdeal.τ).loc Cert.MixedIdeal.main_arg7)
      ∧ m' ((c.tc : Thread Cert.MixedReferenceIdeal.nD Cert.MixedReferenceIdeal.τ).loc Cert.MixedReferenceIdeal.main_arg8) = m ((c.tc : Thread Cert.MixedIdeal.nD Cert.MixedIdeal.τ).loc Cert.MixedIdeal.main_arg8)) →
    ∃ (v0 : (c : Dev Cert.MixedIdeal.nD) → Buf (Elt Ideal) ((c.tc : Thread Cert.MixedIdeal.nD Cert.MixedIdeal.τ).loc Cert.MixedIdeal.main_v14_0)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v14_0) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
          ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
          ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8))
      ∧ θ_run (Cert.MixedReferenceIdeal.defs (F := Ideal)) (onTc (τ := Cert.MixedReferenceIdeal.τ) (Cert.MixedReferenceIdeal.main (F := Ideal))) ⟨m', fun _ => 0, g'⟩ (fun r => ∀ c : Dev Cert.MixedReferenceIdeal.nD,
          r.2.mem ((c.tc : Thread Cert.MixedReferenceIdeal.nD Cert.MixedReferenceIdeal.τ).loc Cert.MixedReferenceIdeal.main_v49) = v0 c
          ∧ r.2.mem ((c.tc : Thread Cert.MixedReferenceIdeal.nD Cert.MixedReferenceIdeal.τ).loc Cert.MixedReferenceIdeal.main_arg0) = m' ((c.tc : Thread Cert.MixedReferenceIdeal.nD Cert.MixedReferenceIdeal.τ).loc Cert.MixedReferenceIdeal.main_arg0)
          ∧ r.2.mem ((c.tc : Thread Cert.MixedReferenceIdeal.nD Cert.MixedReferenceIdeal.τ).loc Cert.MixedReferenceIdeal.main_arg1) = m' ((c.tc : Thread Cert.MixedReferenceIdeal.nD Cert.MixedReferenceIdeal.τ).loc Cert.MixedReferenceIdeal.main_arg1)
          ∧ r.2.mem ((c.tc : Thread Cert.MixedReferenceIdeal.nD Cert.MixedReferenceIdeal.τ).loc Cert.MixedReferenceIdeal.main_arg2) = m' ((c.tc : Thread Cert.MixedReferenceIdeal.nD Cert.MixedReferenceIdeal.τ).loc Cert.MixedReferenceIdeal.main_arg2)
          ∧ r.2.mem ((c.tc : Thread Cert.MixedReferenceIdeal.nD Cert.MixedReferenceIdeal.τ).loc Cert.MixedReferenceIdeal.main_arg3) = m' ((c.tc : Thread Cert.MixedReferenceIdeal.nD Cert.MixedReferenceIdeal.τ).loc Cert.MixedReferenceIdeal.main_arg3)
          ∧ r.2.mem ((c.tc : Thread Cert.MixedReferenceIdeal.nD Cert.MixedReferenceIdeal.τ).loc Cert.MixedReferenceIdeal.main_arg4) = m' ((c.tc : Thread Cert.MixedReferenceIdeal.nD Cert.MixedReferenceIdeal.τ).loc Cert.MixedReferenceIdeal.main_arg4)
          ∧ r.2.mem ((c.tc : Thread Cert.MixedReferenceIdeal.nD Cert.MixedReferenceIdeal.τ).loc Cert.MixedReferenceIdeal.main_arg5) = m' ((c.tc : Thread Cert.MixedReferenceIdeal.nD Cert.MixedReferenceIdeal.τ).loc Cert.MixedReferenceIdeal.main_arg5)
          ∧ r.2.mem ((c.tc : Thread Cert.MixedReferenceIdeal.nD Cert.MixedReferenceIdeal.τ).loc Cert.MixedReferenceIdeal.main_arg6) = m' ((c.tc : Thread Cert.MixedReferenceIdeal.nD Cert.MixedReferenceIdeal.τ).loc Cert.MixedReferenceIdeal.main_arg6)
          ∧ r.2.mem ((c.tc : Thread Cert.MixedReferenceIdeal.nD Cert.MixedReferenceIdeal.τ).loc Cert.MixedReferenceIdeal.main_arg7) = m' ((c.tc : Thread Cert.MixedReferenceIdeal.nD Cert.MixedReferenceIdeal.τ).loc Cert.MixedReferenceIdeal.main_arg7)
          ∧ r.2.mem ((c.tc : Thread Cert.MixedReferenceIdeal.nD Cert.MixedReferenceIdeal.τ).loc Cert.MixedReferenceIdeal.main_arg8) = m' ((c.tc : Thread Cert.MixedReferenceIdeal.nD Cert.MixedReferenceIdeal.τ).loc Cert.MixedReferenceIdeal.main_arg8))

def Claim : Prop :=
  ∃ (hKernel : Cert.Kernel.Facts) (hKernelIdeal : Cert.KernelIdeal.Facts) (hReferenceIdeal : Cert.ReferenceIdeal.Facts) (hHeads : Cert.Heads.Facts) (hHeadsIdeal : Cert.HeadsIdeal.Facts) (hHeadsReferenceIdeal : Cert.HeadsReferenceIdeal.Facts) (hOutProj : Cert.OutProj.Facts) (hOutProjIdeal : Cert.OutProjIdeal.Facts) (hOutProjReferenceIdeal : Cert.OutProjReferenceIdeal.Facts) (hDown : Cert.Down.Facts) (hDownIdeal : Cert.DownIdeal.Facts) (hDownReferenceIdeal : Cert.DownReferenceIdeal.Facts) (hUp : Cert.Up.Facts) (hUpIdeal : Cert.UpIdeal.Facts) (hUpReferenceIdeal : Cert.UpReferenceIdeal.Facts) (hMeans : Cert.Means.Facts) (hMeansIdeal : Cert.MeansIdeal.Facts) (hMeansReferenceIdeal : Cert.MeansReferenceIdeal.Facts) (hMixed : Cert.Mixed.Facts) (hMixedIdeal : Cert.MixedIdeal.Facts) (hMixedReferenceIdeal : Cert.MixedReferenceIdeal.Facts) (hPre_finite : Cert.Pre_finite.Facts) (hPre_tables : Cert.Pre_tables.Facts) (hPre_up_tables : Cert.Pre_up_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Heads (hHeads := hHeads)
    ∧ quiescent_HeadsIdeal (hHeadsIdeal := hHeadsIdeal)
    ∧ quiescent_HeadsReferenceIdeal (hHeadsReferenceIdeal := hHeadsReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Down (hDown := hDown) (hPre_tables := hPre_tables)
    ∧ quiescent_DownIdeal (hDownIdeal := hDownIdeal) (hPre_tables := hPre_tables)
    ∧ quiescent_DownReferenceIdeal (hDownReferenceIdeal := hDownReferenceIdeal)
    ∧ quiescent_DownReferenceIdeal_pre_tables (hDownReferenceIdeal := hDownReferenceIdeal) (hPre_tables := hPre_tables)
    ∧ quiescent_Up (hUp := hUp) (hPre_up_tables := hPre_up_tables)
    ∧ quiescent_UpIdeal (hUpIdeal := hUpIdeal) (hPre_up_tables := hPre_up_tables)
    ∧ quiescent_UpReferenceIdeal (hUpReferenceIdeal := hUpReferenceIdeal)
    ∧ quiescent_UpReferenceIdeal_pre_up_tables (hUpReferenceIdeal := hUpReferenceIdeal) (hPre_up_tables := hPre_up_tables)
    ∧ quiescent_Means (hMeans := hMeans)
    ∧ quiescent_MeansIdeal (hMeansIdeal := hMeansIdeal)
    ∧ quiescent_MeansReferenceIdeal (hMeansReferenceIdeal := hMeansReferenceIdeal)
    ∧ quiescent_Mixed (hMixed := hMixed)
    ∧ quiescent_MixedIdeal (hMixedIdeal := hMixedIdeal)
    ∧ quiescent_MixedReferenceIdeal (hMixedReferenceIdeal := hMixedReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Heads_HeadsIdeal
    ∧ algebraic_HeadsIdeal_HeadsReferenceIdeal (hHeadsIdeal := hHeadsIdeal) (hHeadsReferenceIdeal := hHeadsReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Down_DownIdeal
    ∧ algebraic_DownIdeal_DownReferenceIdeal (hDownIdeal := hDownIdeal) (hDownReferenceIdeal := hDownReferenceIdeal) (hPre_tables := hPre_tables)
    ∧ preserves_Up_UpIdeal
    ∧ algebraic_UpIdeal_UpReferenceIdeal (hUpIdeal := hUpIdeal) (hUpReferenceIdeal := hUpReferenceIdeal) (hPre_up_tables := hPre_up_tables)
    ∧ preserves_Means_MeansIdeal
    ∧ algebraic_MeansIdeal_MeansReferenceIdeal (hMeansIdeal := hMeansIdeal) (hMeansReferenceIdeal := hMeansReferenceIdeal)
    ∧ preserves_Mixed_MixedIdeal
    ∧ algebraic_MixedIdeal_MixedReferenceIdeal (hMixedIdeal := hMixedIdeal) (hMixedReferenceIdeal := hMixedReferenceIdeal)
-- ==== Pre_finite.lean ====
abbrev S2048x8192 : Shape := ⟨2, ![2048, 8192]⟩
abbrev S8192x2048 : Shape := ⟨2, ![8192, 2048]⟩
abbrev S1x256 : Shape := ⟨2, ![1, 256]⟩
abbrev S1x128 : Shape := ⟨2, ![1, 128]⟩
abbrev S_ : Shape := ⟨0, ![]⟩

class Facts : Prop where
  bitsLt_bf16_f32 : FTy.bits .bf16 < FTy.bits .f32
  bcast_S_S2048x8192 : S_.BroadcastsInDim S2048x8192 (![] : Fin 0 → Fin S2048x8192.rank)
  bcast_S_S8192x2048 : S_.BroadcastsInDim S8192x2048 (![] : Fin 0 → Fin S8192x2048.rank)
  bcast_S_S1x128 : S_.BroadcastsInDim S1x128 (![] : Fin 0 → Fin S1x128.rank)

variable [Facts]

def fn_part1 {F : FTy → Type} [FloatOps F] (main_arg7 : FVec F S1x128 .f32) (main_v3 : IVec S2048x8192 1) (main_v7 : IVec S8192x2048 1) (main_v11 : IVec S2048x8192 1) (main_v14 : IVec S1x128 1) (main_v17 : IVec S1x128 1) (main_v18 : FVec F S1x128 .f32) : IVec S2048x8192 1 × IVec S8192x2048 1 × IVec S2048x8192 1 × IVec S1x128 1 × IVec S1x128 1 × IVec S1x128 1 × IVec S1x128 1 :=
  let main_cst_4 : FVec F S_ .f32 := constant S_ .f32 0x7F800000#32
  let main_v19 : FVec F S1x128 .f32 := broadcastInDim S1x128 ![] bcast_S_S1x128 main_cst_4
  let main_v20 : IVec S1x128 1 := cmpf .olt main_v18 main_v19
  let main_v21 : FVec F S1x128 .f32 := Host.absf main_arg7
  let main_cst_5 : FVec F S_ .f32 := constant S_ .f32 0x7F800000#32
  let main_v22 : FVec F S1x128 .f32 := broadcastInDim S1x128 ![] bcast_S_S1x128 main_cst_5
  let main_v23 : IVec S1x128 1 := cmpf .olt main_v21 main_v22
  (main_v3, main_v7, main_v11, main_v14, main_v17, main_v20, main_v23)

def fn {F : FTy → Type} [FloatOps F] (main_arg0 : FVec F S2048x8192 .bf16) (main_arg1 : FVec F S8192x2048 .bf16) (main_arg2 : FVec F S2048x8192 .bf16) (main_arg3 : FVec F S1x256 .f32) (main_arg4 : FVec F S1x128 .f32) (main_arg5 : FVec F S1x128 .f32) (main_arg6 : FVec F S1x128 .f32) (main_arg7 : FVec F S1x128 .f32) : IVec S2048x8192 1 × IVec S8192x2048 1 × IVec S2048x8192 1 × IVec S1x128 1 × IVec S1x128 1 × IVec S1x128 1 × IVec S1x128 1 :=
  let main_v0 : FVec F S2048x8192 .f32 := (extf .f32 · bitsLt_bf16_f32) main_arg0
  let main_v1 : FVec F S2048x8192 .f32 := Host.absf main_v0
  let main_cst : FVec F S_ .f32 := constant S_ .f32 0x7F800000#32
  let main_v2 : FVec F S2048x8192 .f32 := broadcastInDim S2048x8192 ![] bcast_S_S2048x8192 main_cst
  let main_v3 : IVec S2048x8192 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S2048x8192 .f32 := (extf .f32 · bitsLt_bf16_f32) main_arg2
  let main_v9 : FVec F S2048x8192 .f32 := Host.absf main_v8
  let main_cst_1 : FVec F S_ .f32 := constant S_ .f32 0x7F800000#32
  let main_v10 : FVec F S2048x8192 .f32 := broadcastInDim S2048x8192 ![] bcast_S_S2048x8192 main_cst_1
  let main_v11 : IVec S2048x8192 1 := cmpf .olt main_v9 main_v10
  let main_v12 : FVec F S1x128 .f32 := Host.absf main_arg4
  let main_cst_2 : FVec F S_ .f32 := constant S_ .f32 0x7F800000#32
  let main_v13 : FVec F S1x128 .f32 := broadcastInDim S1x128 ![] bcast_S_S1x128 main_cst_2
  let main_v14 : IVec S1x128 1 := cmpf .olt main_v12 main_v13
  let main_v15 : FVec F S1x128 .f32 := Host.absf main_arg5
  let main_cst_3 : FVec F S_ .f32 := constant S_ .f32 0x7F800000#32
  let main_v16 : FVec F S1x128 .f32 := broadcastInDim S1x128 ![] bcast_S_S1x128 main_cst_3
  let main_v17 : IVec S1x128 1 := cmpf .olt main_v15 main_v16
  let main_v18 : FVec F S1x128 .f32 := Host.absf main_arg6
  fn_part1 (F := F) main_arg7 main_v3 main_v7 main_v11 main_v14 main_v17 main_v18
-- ==== Pre_tables.lean ====
abbrev S336 : Shape := ⟨1, ![336]⟩
abbrev S86016x1024 : Shape := ⟨2, ![86016, 1024]⟩
abbrev S64x1024x4096 : Shape := ⟨3, ![64, 1024, 4096]⟩
abbrev S_ : Shape := ⟨0, ![]⟩
abbrev S1 : Shape := ⟨1, ![1]⟩
abbrev S335 : Shape := ⟨1, ![335]⟩

class Facts : Prop where
  bcast_S_S336 : S_.BroadcastsInDim S336 (![] : Fin 0 → Fin S336.rank)
  slices_S336_S1_0 : S336.Slices ![0] S1
  slices_S336_S1_335 : S336.Slices ![335] S1
  bcast_S_S1 : S_.BroadcastsInDim S1 (![] : Fin 0 → Fin S1.rank)
  slices_S336_S335_1 : S336.Slices ![1] S335
  slices_S336_S335_0 : S336.Slices ![0] S335

variable [Facts]

def fn_where {F : FTy → Type} [FloatOps F] (arg0 : IVec S335 1) (arg1 : IVec S335 1) (arg2 : IVec S335 1) : IVec S335 1 :=
  let v0 : IVec S335 1 := select arg0 arg1 arg2
  v0

def fn_part1 {F : FTy → Type} [FloatOps F] (main_arg1 : IVec S336 32) (main_arg2 : IVec S336 32) (main_arg3 : IVec S336 32) (main_v3 : IVec S336 1) (main_v5 : IVec S336 1) (main_v7 : IVec S336 1) (main_v12 : IVec S336 1) (main_v14 : IVec S336 1) (main_v16 : IVec S336 1) : IVec S336 1 × IVec S336 1 × IVec S336 1 × IVec S1 1 × IVec S1 1 × IVec S335 1 :=
  let main_v17 : IVec S336 1 := andi main_v14 main_v16
  let main_v18 : IVec S1 1 := (extractStridedSlice S1 ![0] · slices_S336_S1_0) main_v3
  let main_v19 : IVec S1 32 := (extractStridedSlice S1 ![335] · slices_S336_S1_335) main_arg2
  let main_c_6 : IVec S_ 32 := constantI S_ 32 4#32
  let main_v20 : IVec S1 32 := broadcastInDim S1 ![] bcast_S_S1 main_c_6
  let main_v21 : IVec S1 1 := cmpi .slt main_v19 main_v20
  let main_v22 : IVec S335 1 := (extractStridedSlice S335 ![1] · slices_S336_S335_1) main_v3
  let main_v23 : IVec S335 1 := (extractStridedSlice S335 ![0] · slices_S336_S335_0) main_v5
  let main_v24 : IVec S335 32 := (extractStridedSlice S335 ![0] · slices_S336_S335_0) main_arg3
  let main_v25 : IVec S335 32 := (extractStridedSlice S335 ![1] · slices_S336_S335_1) main_arg1
  let main_v26 : IVec S335 1 := cmpi .eq main_v24 main_v25
  let main_v27 : IVec S335 1 := andi main_v23 main_v26
  let main_v28 : IVec S335 32 := (extractStridedSlice S335 ![1] · slices_S336_S335_1) main_arg1
  let main_v29 : IVec S335 32 := (extractStridedSlice S335 ![0] · slices_S336_S335_0) main_arg1
  let main_v30 : IVec S335 1 := cmpi .eq main_v28 main_v29
  let main_v31 : IVec S335 32 := (extractStridedSlice S335 ![1] · slices_S336_S335_1) main_arg3
  let main_v32 : IVec S335 32 := (extractStridedSlice S335 ![0] · slices_S336_S335_0) main_arg3
  let main_v33 : IVec S335 1 := cmpi .eq main_v31 main_v32
  let main_v34 : IVec S335 1 := andi main_v30 main_v33
  let main_v35 : IVec S335 1 := (extractStridedSlice S335 ![1] · slices_S336_S335_1) main_v5
  let main_v36 : IVec S335 1 := (extractStridedSlice S335 ![0] · slices_S336_S335_0) main_v5
  let main_v37 : IVec S335 1 := cmpi .eq main_v35 main_v36
  let main_v38 : IVec S335 1 := andi main_v34 main_v37
  let main_v39 : IVec S335 1 := fn_where (F := F) main_v22 main_v27 main_v38
  (main_v7, main_v12, main_v17, main_v18, main_v21, main_v39)

def fn {F : FTy → Type} [FloatOps F] (main_arg0 : IVec S336 32) (main_arg1 : IVec S336 32) (main_arg2 : IVec S336 32) (main_arg3 : IVec S336 32) (main_arg4 : FVec F S86016x1024 .bf16) (main_arg5 : FVec F S64x1024x4096 .f32) : IVec S336 1 × IVec S336 1 × IVec S336 1 × IVec S1 1 × IVec S1 1 × IVec S335 1 :=
  let main_c : IVec S_ 32 := constantI S_ 32 1#32
  let main_v0 : IVec S336 32 := broadcastInDim S336 ![] bcast_S_S336 main_c
  let main_v1 : IVec S336 32 := andi main_arg2 main_v0
  let main_c_0 : IVec S_ 32 := constantI S_ 32 1#32
  let main_v2 : IVec S336 32 := broadcastInDim S336 ![] bcast_S_S336 main_c_0
  let main_v3 : IVec S336 1 := cmpi .eq main_v1 main_v2
  let main_c_1 : IVec S_ 32 := constantI S_ 32 4#32
  let main_v4 : IVec S336 32 := broadcastInDim S336 ![] bcast_S_S336 main_c_1
  let main_v5 : IVec S336 1 := cmpi .sge main_arg2 main_v4
  let main_v6 : IVec S336 32 := iotaInDim S336 32 0
  let main_v7 : IVec S336 1 := cmpi .eq main_arg0 main_v6
  let main_c_2 : IVec S_ 32 := constantI S_ 32 0#32
  let main_v8 : IVec S336 32 := broadcastInDim S336 ![] bcast_S_S336 main_c_2
  let main_v9 : IVec S336 1 := cmpi .sge main_arg1 main_v8
  let main_c_3 : IVec S_ 32 := constantI S_ 32 64#32
  let main_v10 : IVec S336 32 := broadcastInDim S336 ![] bcast_S_S336 main_c_3
  let main_v11 : IVec S336 1 := cmpi .slt main_arg1 main_v10
  let main_v12 : IVec S336 1 := andi main_v9 main_v11
  let main_c_4 : IVec S_ 32 := constantI S_ 32 0#32
  let main_v13 : IVec S336 32 := broadcastInDim S336 ![] bcast_S_S336 main_c_4
  let main_v14 : IVec S336 1 := cmpi .sge main_arg2 main_v13
  let main_c_5 : IVec S_ 32 := constantI S_ 32 8#32
  let main_v15 : IVec S336 32 := broadcastInDim S336 ![] bcast_S_S336 main_c_5
  let main_v16 : IVec S336 1 := cmpi .slt main_arg2 main_v15
  fn_part1 (F := F) main_arg1 main_arg2 main_arg3 main_v3 main_v5 main_v7 main_v12 main_v14 main_v16
-- ==== Pre_up_tables.lean ====
abbrev S672 : Shape := ⟨1, ![672]⟩
abbrev S86016x2048 : Shape := ⟨2, ![86016, 2048]⟩
abbrev S64x4096x1024 : Shape := ⟨3, ![64, 4096, 1024]⟩
abbrev S_ : Shape := ⟨0, ![]⟩
abbrev S672x1 : Shape := ⟨2, ![672, 1]⟩
abbrev S1x672 : Shape := ⟨2, ![1, 672]⟩
abbrev S672x672 : Shape := ⟨2, ![672, 672]⟩
abbrev S1 : Shape := ⟨1, ![1]⟩
abbrev S671 : Shape := ⟨1, ![671]⟩

class Facts : Prop where
  bcast_S_S672 : S_.BroadcastsInDim S672 (![] : Fin 0 → Fin S672.rank)
  bcast_S672_S672x1_0 : S672.BroadcastsInDim S672x1 (![0] : Fin 1 → Fin S672x1.rank)
  bcast_S672_S1x672_1 : S672.BroadcastsInDim S1x672 (![1] : Fin 1 → Fin S1x672.rank)
  bcast_S672x1_S672x672_0_1 : S672x1.BroadcastsInDim S672x672 (![0, 1] : Fin 2 → Fin S672x672.rank)
  bcast_S1x672_S672x672_0_1 : S1x672.BroadcastsInDim S672x672 (![0, 1] : Fin 2 → Fin S672x672.rank)
  slices_S672_S1_0 : S672.Slices ![0] S1
  slices_S672_S1_671 : S672.Slices ![671] S1
  bcast_S_S1 : S_.BroadcastsInDim S1 (![] : Fin 0 → Fin S1.rank)
  slices_S672_S671_1 : S672.Slices ![1] S671
  slices_S672_S671_0 : S672.Slices ![0] S671

variable [Facts]

def fn_where {F : FTy → Type} [FloatOps F] (arg0 : IVec S671 1) (arg1 : IVec S671 1) (arg2 : IVec S671 1) : IVec S671 1 :=
  let v0 : IVec S671 1 := select arg0 arg1 arg2
  v0

def fn_part4 {F : FTy → Type} [FloatOps F] (main_arg2 : IVec S672 32) (main_v9 : IVec S672 1) (main_v15 : IVec S672x672 1) (main_v20 : IVec S672 1) (main_v25 : IVec S672 1) (main_v30 : IVec S672 1) (main_v35 : IVec S672 1) (main_v36 : IVec S1 1) (main_v39 : IVec S1 1) (main_v69 : IVec S671 1) (main_v81 : IVec S672x672 1) : IVec S672 1 × IVec S672 1 × IVec S672 1 × IVec S672 1 × IVec S1 1 × IVec S1 1 × IVec S671 1 × IVec S672x672 1 × IVec S672x672 1 :=
  let main_v82 : IVec S672x1 32 := broadcastInDim S672x1 ![0] bcast_S672_S672x1_0 main_arg2
  let main_v83 : IVec S1x672 32 := broadcastInDim S1x672 ![1] bcast_S672_S1x672_1 main_arg2
  let main_v84 : IVec S672x672 32 := broadcastInDim S672x672 ![0, 1] bcast_S672x1_S672x672_0_1 main_v82
  let main_v85 : IVec S672x672 32 := broadcastInDim S672x672 ![0, 1] bcast_S1x672_S672x672_0_1 main_v83
  let main_v86 : IVec S672x672 1 := cmpi .eq main_v84 main_v85
  let main_v87 : IVec S672x1 1 := broadcastInDim S672x1 ![0] bcast_S672_S672x1_0 main_v9
  let main_v88 : IVec S1x672 1 := broadcastInDim S1x672 ![1] bcast_S672_S1x672_1 main_v9
  let main_v89 : IVec S672x672 1 := broadcastInDim S672x672 ![0, 1] bcast_S672x1_S672x672_0_1 main_v87
  let main_v90 : IVec S672x672 1 := broadcastInDim S672x672 ![0, 1] bcast_S1x672_S672x672_0_1 main_v88
  let main_v91 : IVec S672x672 1 := cmpi .eq main_v89 main_v90
  let main_v92 : IVec S672x672 1 := andi main_v86 main_v91
  let main_v93 : IVec S672x672 1 := ori main_v15 main_v92
  (main_v20, main_v25, main_v30, main_v35, main_v36, main_v39, main_v69, main_v81, main_v93)

def fn_part3 {F : FTy → Type} [FloatOps F] (main_arg1 : IVec S672 32) (main_arg2 : IVec S672 32) (main_arg4 : IVec S672 32) (main_arg5 : IVec S672 32) (main_v5 : IVec S672 1) (main_v9 : IVec S672 1) (main_v10 : IVec S672 32) (main_v15 : IVec S672x672 1) (main_v20 : IVec S672 1) (main_v25 : IVec S672 1) (main_v30 : IVec S672 1) (main_v35 : IVec S672 1) (main_v36 : IVec S1 1) (main_v39 : IVec S1 1) (main_v40 : IVec S671 1) (main_v49 : IVec S671 1) (main_v56 : IVec S671 1) (main_v57 : IVec S671 32) : IVec S672 1 × IVec S672 1 × IVec S672 1 × IVec S672 1 × IVec S1 1 × IVec S1 1 × IVec S671 1 × IVec S672x672 1 × IVec S672x672 1 :=
  let main_v58 : IVec S671 32 := (extractStridedSlice S671 ![0] · slices_S672_S671_0) main_arg4
  let main_v59 : IVec S671 1 := cmpi .eq main_v57 main_v58
  let main_v60 : IVec S671 1 := andi main_v56 main_v59
  let main_v61 : IVec S671 32 := (extractStridedSlice S671 ![1] · slices_S672_S671_1) main_arg5
  let main_v62 : IVec S671 32 := (extractStridedSlice S671 ![0] · slices_S672_S671_0) main_arg5
  let main_v63 : IVec S671 1 := cmpi .eq main_v61 main_v62
  let main_v64 : IVec S671 1 := andi main_v60 main_v63
  let main_v65 : IVec S671 1 := (extractStridedSlice S671 ![1] · slices_S672_S671_1) main_v5
  let main_v66 : IVec S671 1 := (extractStridedSlice S671 ![0] · slices_S672_S671_0) main_v5
  let main_v67 : IVec S671 1 := cmpi .eq main_v65 main_v66
  let main_v68 : IVec S671 1 := andi main_v64 main_v67
  let main_v69 : IVec S671 1 := fn_where (F := F) main_v40 main_v49 main_v68
  let main_v70 : IVec S672x1 32 := broadcastInDim S672x1 ![0] bcast_S672_S672x1_0 main_v10
  let main_v71 : IVec S1x672 32 := broadcastInDim S1x672 ![1] bcast_S672_S1x672_1 main_v10
  let main_v72 : IVec S672x672 32 := broadcastInDim S672x672 ![0, 1] bcast_S672x1_S672x672_0_1 main_v70
  let main_v73 : IVec S672x672 32 := broadcastInDim S672x672 ![0, 1] bcast_S1x672_S672x672_0_1 main_v71
  let main_v74 : IVec S672x672 1 := cmpi .eq main_v72 main_v73
  let main_v75 : IVec S672x672 1 := ori main_v74 main_v15
  let main_v76 : IVec S672x1 32 := broadcastInDim S672x1 ![0] bcast_S672_S672x1_0 main_arg1
  let main_v77 : IVec S1x672 32 := broadcastInDim S1x672 ![1] bcast_S672_S1x672_1 main_arg1
  let main_v78 : IVec S672x672 32 := broadcastInDim S672x672 ![0, 1] bcast_S672x1_S672x672_0_1 main_v76
  let main_v79 : IVec S672x672 32 := broadcastInDim S672x672 ![0, 1] bcast_S1x672_S672x672_0_1 main_v77
  let main_v80 : IVec S672x672 1 := cmpi .ne main_v78 main_v79
  let main_v81 : IVec S672x672 1 := ori main_v75 main_v80
  fn_part4 (F := F) main_arg2 main_v9 main_v15 main_v20 main_v25 main_v30 main_v35 main_v36 main_v39 main_v69 main_v81

def fn_part2 {F : FTy → Type} [FloatOps F] (main_arg1 : IVec S672 32) (main_arg2 : IVec S672 32) (main_arg3 : IVec S672 32) (main_arg4 : IVec S672 32) (main_arg5 : IVec S672 32) (main_v3 : IVec S672 1) (main_v5 : IVec S672 1) (main_v9 : IVec S672 1) (main_v10 : IVec S672 32) (main_v15 : IVec S672x672 1) (main_v20 : IVec S672 1) (main_v25 : IVec S672 1) (main_v30 : IVec S672 1) (main_v32 : IVec S672 1) (main_v34 : IVec S672 1) : IVec S672 1 × IVec S672 1 × IVec S672 1 × IVec S672 1 × IVec S1 1 × IVec S1 1 × IVec S671 1 × IVec S672x672 1 × IVec S672x672 1 :=
  let main_v35 : IVec S672 1 := andi main_v32 main_v34
  let main_v36 : IVec S1 1 := (extractStridedSlice S1 ![0] · slices_S672_S1_0) main_v3
  let main_v37 : IVec S1 32 := (extractStridedSlice S1 ![671] · slices_S672_S1_671) main_arg3
  let main_c_12 : IVec S_ 32 := constantI S_ 32 4#32
  let main_v38 : IVec S1 32 := broadcastInDim S1 ![] bcast_S_S1 main_c_12
  let main_v39 : IVec S1 1 := cmpi .slt main_v37 main_v38
  let main_v40 : IVec S671 1 := (extractStridedSlice S671 ![1] · slices_S672_S671_1) main_v3
  let main_v41 : IVec S671 1 := (extractStridedSlice S671 ![0] · slices_S672_S671_0) main_v5
  let main_v42 : IVec S671 32 := (extractStridedSlice S671 ![0] · slices_S672_S671_0) main_arg4
  let main_v43 : IVec S671 32 := (extractStridedSlice S671 ![1] · slices_S672_S671_1) main_arg2
  let main_v44 : IVec S671 1 := cmpi .eq main_v42 main_v43
  let main_v45 : IVec S671 1 := andi main_v41 main_v44
  let main_v46 : IVec S671 32 := (extractStridedSlice S671 ![0] · slices_S672_S671_0) main_arg5
  let main_v47 : IVec S671 32 := (extractStridedSlice S671 ![1] · slices_S672_S671_1) main_arg1
  let main_v48 : IVec S671 1 := cmpi .eq main_v46 main_v47
  let main_v49 : IVec S671 1 := andi main_v45 main_v48
  let main_v50 : IVec S671 32 := (extractStridedSlice S671 ![1] · slices_S672_S671_1) main_arg2
  let main_v51 : IVec S671 32 := (extractStridedSlice S671 ![0] · slices_S672_S671_0) main_arg2
  let main_v52 : IVec S671 1 := cmpi .eq main_v50 main_v51
  let main_v53 : IVec S671 32 := (extractStridedSlice S671 ![1] · slices_S672_S671_1) main_arg1
  let main_v54 : IVec S671 32 := (extractStridedSlice S671 ![0] · slices_S672_S671_0) main_arg1
  let main_v55 : IVec S671 1 := cmpi .eq main_v53 main_v54
  let main_v56 : IVec S671 1 := andi main_v52 main_v55
  let main_v57 : IVec S671 32 := (extractStridedSlice S671 ![1] · slices_S672_S671_1) main_arg4
  fn_part3 (F := F) main_arg1 main_arg2 main_arg4 main_arg5 main_v5 main_v9 main_v10 main_v15 main_v20 main_v25 main_v30 main_v35 main_v36 main_v39 main_v40 main_v49 main_v56 main_v57

def fn_part1 {F : FTy → Type} [FloatOps F] (main_arg0 : IVec S672 32) (main_arg1 : IVec S672 32) (main_arg2 : IVec S672 32) (main_arg3 : IVec S672 32) (main_arg4 : IVec S672 32) (main_arg5 : IVec S672 32) (main_v3 : IVec S672 1) (main_v5 : IVec S672 1) (main_v9 : IVec S672 1) (main_v10 : IVec S672 32) (main_v15 : IVec S672x672 1) (main_v17 : IVec S672 1) : IVec S672 1 × IVec S672 1 × IVec S672 1 × IVec S672 1 × IVec S1 1 × IVec S1 1 × IVec S671 1 × IVec S672x672 1 × IVec S672x672 1 :=
  let main_c_5 : IVec S_ 32 := constantI S_ 32 336#32
  let main_v18 : IVec S672 32 := broadcastInDim S672 ![] bcast_S_S672 main_c_5
  let main_v19 : IVec S672 1 := cmpi .slt main_arg0 main_v18
  let main_v20 : IVec S672 1 := andi main_v17 main_v19
  let main_c_6 : IVec S_ 32 := constantI S_ 32 0#32
  let main_v21 : IVec S672 32 := broadcastInDim S672 ![] bcast_S_S672 main_c_6
  let main_v22 : IVec S672 1 := cmpi .sge main_arg1 main_v21
  let main_c_7 : IVec S_ 32 := constantI S_ 32 2#32
  let main_v23 : IVec S672 32 := broadcastInDim S672 ![] bcast_S_S672 main_c_7
  let main_v24 : IVec S672 1 := cmpi .slt main_arg1 main_v23
  let main_v25 : IVec S672 1 := andi main_v22 main_v24
  let main_c_8 : IVec S_ 32 := constantI S_ 32 0#32
  let main_v26 : IVec S672 32 := broadcastInDim S672 ![] bcast_S_S672 main_c_8
  let main_v27 : IVec S672 1 := cmpi .sge main_arg2 main_v26
  let main_c_9 : IVec S_ 32 := constantI S_ 32 64#32
  let main_v28 : IVec S672 32 := broadcastInDim S672 ![] bcast_S_S672 main_c_9
  let main_v29 : IVec S672 1 := cmpi .slt main_arg2 main_v28
  let main_v30 : IVec S672 1 := andi main_v27 main_v29
  let main_c_10 : IVec S_ 32 := constantI S_ 32 0#32
  let main_v31 : IVec S672 32 := broadcastInDim S672 ![] bcast_S_S672 main_c_10
  let main_v32 : IVec S672 1 := cmpi .sge main_arg3 main_v31
  let main_c_11 : IVec S_ 32 := constantI S_ 32 8#32
  let main_v33 : IVec S672 32 := broadcastInDim S672 ![] bcast_S_S672 main_c_11
  let main_v34 : IVec S672 1 := cmpi .slt main_arg3 main_v33
  fn_part2 (F := F) main_arg1 main_arg2 main_arg3 main_arg4 main_arg5 main_v3 main_v5 main_v9 main_v10 main_v15 main_v20 main_v25 main_v30 main_v32 main_v34

def fn {F : FTy → Type} [FloatOps F] (main_arg0 : IVec S672 32) (main_arg1 : IVec S672 32) (main_arg2 : IVec S672 32) (main_arg3 : IVec S672 32) (main_arg4 : IVec S672 32) (main_arg5 : IVec S672 32) (main_arg6 : IVec S86016x2048 32) (main_arg7 : FVec F S64x4096x1024 .f32) (main_arg8 : FVec F S64x4096x1024 .f32) : IVec S672 1 × IVec S672 1 × IVec S672 1 × IVec S672 1 × IVec S1 1 × IVec S1 1 × IVec S671 1 × IVec S672x672 1 × IVec S672x672 1 :=
  let main_c : IVec S_ 32 := constantI S_ 32 1#32
  let main_v0 : IVec S672 32 := broadcastInDim S672 ![] bcast_S_S672 main_c
  let main_v1 : IVec S672 32 := andi main_arg3 main_v0
  let main_c_0 : IVec S_ 32 := constantI S_ 32 1#32
  let main_v2 : IVec S672 32 := broadcastInDim S672 ![] bcast_S_S672 main_c_0
  let main_v3 : IVec S672 1 := cmpi .eq main_v1 main_v2
  let main_c_1 : IVec S_ 32 := constantI S_ 32 4#32
  let main_v4 : IVec S672 32 := broadcastInDim S672 ![] bcast_S_S672 main_c_1
  let main_v5 : IVec S672 1 := cmpi .sge main_arg3 main_v4
  let main_c_2 : IVec S_ 32 := constantI S_ 32 2#32
  let main_v6 : IVec S672 32 := broadcastInDim S672 ![] bcast_S_S672 main_c_2
  let main_v7 : IVec S672 32 := andi main_arg3 main_v6
  let main_c_3 : IVec S_ 32 := constantI S_ 32 2#32
  let main_v8 : IVec S672 32 := broadcastInDim S672 ![] bcast_S_S672 main_c_3
  let main_v9 : IVec S672 1 := cmpi .eq main_v7 main_v8
  let main_v10 : IVec S672 32 := iotaInDim S672 32 0
  let main_v11 : IVec S672x1 32 := broadcastInDim S672x1 ![0] bcast_S672_S672x1_0 main_arg0
  let main_v12 : IVec S1x672 32 := broadcastInDim S1x672 ![1] bcast_S672_S1x672_1 main_arg0
  let main_v13 : IVec S672x672 32 := broadcastInDim S672x672 ![0, 1] bcast_S672x1_S672x672_0_1 main_v11
  let main_v14 : IVec S672x672 32 := broadcastInDim S672x672 ![0, 1] bcast_S1x672_S672x672_0_1 main_v12
  let main_v15 : IVec S672x672 1 := cmpi .ne main_v13 main_v14
  let main_c_4 : IVec S_ 32 := constantI S_ 32 0#32
  let main_v16 : IVec S672 32 := broadcastInDim S672 ![] bcast_S_S672 main_c_4
  let main_v17 : IVec S672 1 := cmpi .sge main_arg0 main_v16
  fn_part1 (F := F) main_arg0 main_arg1 main_arg2 main_arg3 main_arg4 main_arg5 main_v3 main_v5 main_v9 main_v10 main_v15 main_v17
-- ==== Kernel.lean ====
abbrev S2048x8192 : Shape := ⟨2, ![2048, 8192]⟩
abbrev S8192x2048 : Shape := ⟨2, ![8192, 2048]⟩
abbrev S1x256 : Shape := ⟨2, ![1, 256]⟩
abbrev S1x128 : Shape := ⟨2, ![1, 128]⟩
abbrev S256x1 : Shape := ⟨2, ![256, 1]⟩
abbrev S512x256 : Shape := ⟨2, ![512, 256]⟩
abbrev S4096x512 : Shape := ⟨2, ![4096, 512]⟩
abbrev S512x4096 : Shape := ⟨2, ![512, 4096]⟩
abbrev S256x512 : Shape := ⟨2, ![256, 512]⟩
abbrev S4x1x256 : Shape := ⟨3, ![4, 1, 256]⟩
abbrev S4x256x256 : Shape := ⟨3, ![4, 256, 256]⟩
abbrev S256x256 : Shape := ⟨2, ![256, 256]⟩
abbrev S256x128 : Shape := ⟨2, ![256, 128]⟩
abbrev S128x256 : Shape := ⟨2, ![128, 256]⟩
abbrev S256 : Shape := ⟨1, ![256]⟩
abbrev S1x1x256 : Shape := ⟨3, ![1, 1, 256]⟩
abbrev S1x256x256 : Shape := ⟨3, ![1, 256, 256]⟩
abbrev S1 : Shape := ⟨1, ![1]⟩
abbrev S1x1 : Shape := ⟨2, ![1, 1]⟩

abbrev nBuf : Space → Nat
  | .hbm => 10
  | .vmem => 16
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .bf16⟩
  | .hbm, ⟨3, _⟩ => ⟨S1x256, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S256x1, .f32⟩
  | .hbm, ⟨9, _⟩ => ⟨S8192x2048, .bf16⟩
  | .local _ .vmem, ⟨0, _⟩ => ⟨S512x256, .bf16⟩
  | .local _ .vmem, ⟨1, _⟩ => ⟨S512x256, .bf16⟩
  | .local _ .vmem, ⟨2, _⟩ => ⟨S4096x512, .bf16⟩
  | .local _ .vmem, ⟨3, _⟩ => ⟨S4096x512, .bf16⟩
  | .local _ .vmem, ⟨4, _⟩ => ⟨S512x4096, .bf16⟩
  | .local _ .vmem, ⟨5, _⟩ => ⟨S512x4096, .bf16⟩
  | .local _ .vmem, ⟨6, _⟩ => ⟨S256x1, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S256x512, .bf16⟩
  | .local _ .vmem, ⟨12, _⟩ => ⟨S256x512, .bf16⟩
  | .local _ .vmem, ⟨13, _⟩ => ⟨S4x1x256, .f32⟩
  | .local _ .vmem, ⟨14, _⟩ => ⟨S4x1x256, .f32⟩
  | .local _ .vmem, ⟨15, _⟩ => ⟨S4x256x256, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c256_i32 : BitVec 32 := 256#32
  let v2 : BitVec 32 := Scalar.muli arg2 c256_i32
  v2
def k0_off1 (i : grid0.Coords) : Fin 2 → Nat :=
  let arg2 : BitVec 32 := BitVec.ofNat 32 (i 2).val
  let c256_i32 : BitVec 32 := 256#32
  let v2 : BitVec 32 := Scalar.muli arg2 c256_i32
  let v3 : BitVec 32 := v2
  let v5 : Index := Scalar.indexCast v3
  let c0 : Index := 0#32
  ![v5.toNat, 0]
def k0_off2 (i : grid0.Coords) : Fin 2 → Nat :=
  let c0_3 : Index := 0#32
  let arg2 : BitVec 32 := BitVec.ofNat 32 (i 2).val
  let c256_i32 : BitVec 32 := 256#32
  let v2 : BitVec 32 := Scalar.muli arg2 c256_i32
  let v3 : BitVec 32 := v2
  let v11 : Index := Scalar.indexCast v3
  ![0, v11.toNat]
def k0_off3 (i : grid0.Coords) : Fin 2 → Nat :=
  let arg2 : BitVec 32 := BitVec.ofNat 32 (i 2).val
  let c256_i32 : BitVec 32 := 256#32
  let v2 : BitVec 32 := Scalar.muli arg2 c256_i32
  let v3 : BitVec 32 := v2
  let v32 : Index := Scalar.indexCast v3
  let c128 : Index := 128#32
  ![v32.toNat, 128]
def k0_off4 (i : grid0.Coords) : Fin 2 → Nat :=
  let arg2 : BitVec 32 := BitVec.ofNat 32 (i 2).val
  let c256_i32 : BitVec 32 := 256#32
  let v2 : BitVec 32 := Scalar.muli arg2 c256_i32
  let v3 : BitVec 32 := v2
  let v59 : Index := Scalar.indexCast v3
  let c256 : Index := 256#32
  ![v59.toNat, 256]
def k0_off5 (i : grid0.Coords) : Fin 2 → Nat :=
  let c256_36 : Index := 256#32
  let arg2 : BitVec 32 := BitVec.ofNat 32 (i 2).val
  let c256_i32 : BitVec 32 := 256#32
  let v2 : BitVec 32 := Scalar.muli arg2 c256_i32
  let v3 : BitVec 32 := v2
  let v65 : Index := Scalar.indexCast v3
  ![256, v65.toNat]
def k0_off6 (i : grid0.Coords) : Fin 2 → Nat :=
  let arg2 : BitVec 32 := BitVec.ofNat 32 (i 2).val
  let c256_i32 : BitVec 32 := 256#32
  let v2 : BitVec 32 := Scalar.muli arg2 c256_i32
  let v3 : BitVec 32 := v2
  let v86 : Index := Scalar.indexCast v3
  let c384 : Index := 384#32
  ![v86.toNat, 384]
@[reducible] def k0_t1_loop (i : grid0.Coords) : Scf.Loop 32 :=
  let c0_i32_64 : BitVec 32 := 0#32
  let arg2 : BitVec 32 := BitVec.ofNat 32 (i 2).val
  let v112 : BitVec 32 := Scalar.subi arg2 c0_i32_64
  let c1_i32 : BitVec 32 := 1#32
  let v114 : BitVec 32 := Scalar.divsi v112 c1_i32
  let v115 : BitVec 32 := Scalar.muli v114 c1_i32
  let v116 : BitVec 32 := Scalar.addi c0_i32_64 v115
  let c1_i32_65 : BitVec 32 := 1#32
  ⟨c0_i32_64, v116, c1_i32_65⟩
def k0_mult2 (i : grid0.Coords) (k0_t1 : Fin (k0_t1_loop i).trips) : BitVec 32 :=
  let c0_i32_64 : BitVec 32 := 0#32
  let c1_i32_65 : BitVec 32 := 1#32
  let arg15 : BitVec 32 := Scf.iv c0_i32_64 c1_i32_65 k0_t1
  let c256_i32_118 : BitVec 32 := 256#32
  let v200 : BitVec 32 := Scalar.muli arg15 c256_i32_118
  v200
def k0_off7 (i : grid0.Coords) (k0_t1 : Fin (k0_t1_loop i).trips) : Fin 2 → Nat :=
  let c0_i32_64 : BitVec 32 := 0#32
  let c1_i32_65 : BitVec 32 := 1#32
  let arg15 : BitVec 32 := Scf.iv c0_i32_64 c1_i32_65 k0_t1
  let c256_i32_118 : BitVec 32 := 256#32
  let v200 : BitVec 32 := Scalar.muli arg15 c256_i32_118
  let v201 : BitVec 32 := v200
  let v202 : Index := Scalar.indexCast v201
  let c0_119 : Index := 0#32
  ![v202.toNat, 0]
def k0_off8 (i : grid0.Coords) (k0_t1 : Fin (k0_t1_loop i).trips) : Fin 2 → Nat :=
  let c0_123 : Index := 0#32
  let c0_i32_64 : BitVec 32 := 0#32
  let c1_i32_65 : BitVec 32 := 1#32
  let arg15 : BitVec 32 := Scf.iv c0_i32_64 c1_i32_65 k0_t1
  let c256_i32_118 : BitVec 32 := 256#32
  let v200 : BitVec 32 := Scalar.muli arg15 c256_i32_118
  let v201 : BitVec 32 := v200
  let v206 : Index := Scalar.indexCast v201
  ![0, v206.toNat]
def k0_off9 (i : grid0.Coords) (k0_t1 : Fin (k0_t1_loop i).trips) : Fin 2 → Nat :=
  let c0_i32_64 : BitVec 32 := 0#32
  let c1_i32_65 : BitVec 32 := 1#32
  let arg15 : BitVec 32 := Scf.iv c0_i32_64 c1_i32_65 k0_t1
  let c256_i32_118 : BitVec 32 := 256#32
  let v200 : BitVec 32 := Scalar.muli arg15 c256_i32_118
  let v201 : BitVec 32 := v200
  let v240 : Index := Scalar.indexCast v201
  let c128_145 : Index := 128#32
  ![v240.toNat, 128]
def k0_off10 (i : grid0.Coords) (k0_t1 : Fin (k0_t1_loop i).trips) : Fin 2 → Nat :=
  let c0_i32_64 : BitVec 32 := 0#32
  let c1_i32_65 : BitVec 32 := 1#32
  let arg15 : BitVec 32 := Scf.iv c0_i32_64 c1_i32_65 k0_t1
  let c256_i32_118 : BitVec 32 := 256#32
  let v200 : BitVec 32 := Scalar.muli arg15 c256_i32_118
  let v201 : BitVec 32 := v200
  let v278 : Index := Scalar.indexCast v201
  let c256_171 : Index := 256#32
  ![v278.toNat, 256]
def k0_off11 (i : grid0.Coords) (k0_t1 : Fin (k0_t1_loop i).trips) : Fin 2 → Nat :=
  let c256_175 : Index := 256#32
  let c0_i32_64 : BitVec 32 := 0#32
  let c1_i32_65 : BitVec 32 := 1#32
  let arg15 : BitVec 32 := Scf.iv c0_i32_64 c1_i32_65 k0_t1
  let c256_i32_118 : BitVec 32 := 256#32
  let v200 : BitVec 32 := Scalar.muli arg15 c256_i32_118
  let v201 : BitVec 32 := v200
  let v282 : Index := Scalar.indexCast v201
  ![256, v282.toNat]
def k0_off12 (i : grid0.Coords) (k0_t1 : Fin (k0_t1_loop i).trips) : Fin 2 → Nat :=
  let c0_i32_64 : BitVec 32 := 0#32
  let c1_i32_65 : BitVec 32 := 1#32
  let arg15 : BitVec 32 := Scf.iv c0_i32_64 c1_i32_65 k0_t1
  let c256_i32_118 : BitVec 32 := 256#32
  let v200 : BitVec 32 := Scalar.muli arg15 c256_i32_118
  let v201 : BitVec 32 := v200
  let v316 : Index := Scalar.indexCast v201
  let c384_197 : Index := 384#32
  ![v316.toNat, 384]
@[reducible] def k0_t2_loop (i : grid0.Coords) : Scf.Loop 32 :=
  let c0_i32_64 : BitVec 32 := 0#32
  let arg2 : BitVec 32 := BitVec.ofNat 32 (i 2).val
  let v112 : BitVec 32 := Scalar.subi arg2 c0_i32_64
  let c1_i32 : BitVec 32 := 1#32
  let v114 : BitVec 32 := Scalar.divsi v112 c1_i32
  let v115 : BitVec 32 := Scalar.muli v114 c1_i32
  let v116 : BitVec 32 := Scalar.addi c0_i32_64 v115
  let v113 : BitVec 32 := Scalar.addi c0_i32_64 v112
  let c1_i32_66 : BitVec 32 := 1#32
  ⟨v116, v113, c1_i32_66⟩
def k0_mult3 (i : grid0.Coords) (k0_t2 : Fin (k0_t2_loop i).trips) : BitVec 32 :=
  let c0_i32_64 : BitVec 32 := 0#32
  let arg2 : BitVec 32 := BitVec.ofNat 32 (i 2).val
  let v112 : BitVec 32 := Scalar.subi arg2 c0_i32_64
  let c1_i32 : BitVec 32 := 1#32
  let v114 : BitVec 32 := Scalar.divsi v112 c1_i32
  let v115 : BitVec 32 := Scalar.muli v114 c1_i32
  let v116 : BitVec 32 := Scalar.addi c0_i32_64 v115
  let c1_i32_66 : BitVec 32 := 1#32
  let arg15 : BitVec 32 := Scf.iv v116 c1_i32_66 k0_t2
  let c256_i32_118 : BitVec 32 := 256#32
  let v200 : BitVec 32 := Scalar.muli arg15 c256_i32_118
  v200
def k0_off13 (i : grid0.Coords) (k0_t2 : Fin (k0_t2_loop i).trips) : Fin 2 → Nat :=
  let c0_i32_64 : BitVec 32 := 0#32
  let arg2 : BitVec 32 := BitVec.ofNat 32 (i 2).val
  let v112 : BitVec 32 := Scalar.subi arg2 c0_i32_64
  let c1_i32 : BitVec 32 := 1#32
  let v114 : BitVec 32 := Scalar.divsi v112 c1_i32
  let v115 : BitVec 32 := Scalar.muli v114 c1_i32
  let v116 : BitVec 32 := Scalar.addi c0_i32_64 v115
  let c1_i32_66 : BitVec 32 := 1#32
  let arg15 : BitVec 32 := Scf.iv v116 c1_i32_66 k0_t2
  let c256_i32_118 : BitVec 32 := 256#32
  let v200 : BitVec 32 := Scalar.muli arg15 c256_i32_118
  let v201 : BitVec 32 := v200
  let v202 : Index := Scalar.indexCast v201
  let c0_119 : Index := 0#32
  ![v202.toNat, 0]
def k0_off14 (i : grid0.Coords) (k0_t2 : Fin (k0_t2_loop i).trips) : Fin 2 → Nat :=
  let c0_123 : Index := 0#32
  let c0_i32_64 : BitVec 32 := 0#32
  let arg2 : BitVec 32 := BitVec.ofNat 32 (i 2).val
  let v112 : BitVec 32 := Scalar.subi arg2 c0_i32_64
  let c1_i32 : BitVec 32 := 1#32
  let v114 : BitVec 32 := Scalar.divsi v112 c1_i32
  let v115 : BitVec 32 := Scalar.muli v114 c1_i32
  let v116 : BitVec 32 := Scalar.addi c0_i32_64 v115
  let c1_i32_66 : BitVec 32 := 1#32
  let arg15 : BitVec 32 := Scf.iv v116 c1_i32_66 k0_t2
  let c256_i32_118 : BitVec 32 := 256#32
  let v200 : BitVec 32 := Scalar.muli arg15 c256_i32_118
  let v201 : BitVec 32 := v200
  let v206 : Index := Scalar.indexCast v201
  ![0, v206.toNat]
def k0_off15 (i : grid0.Coords) (k0_t2 : Fin (k0_t2_loop i).trips) : Fin 2 → Nat :=
  let c0_i32_64 : BitVec 32 := 0#32
  let arg2 : BitVec 32 := BitVec.ofNat 32 (i 2).val
  let v112 : BitVec 32 := Scalar.subi arg2 c0_i32_64
  let c1_i32 : BitVec 32 := 1#32
  let v114 : BitVec 32 := Scalar.divsi v112 c1_i32
  let v115 : BitVec 32 := Scalar.muli v114 c1_i32
  let v116 : BitVec 32 := Scalar.addi c0_i32_64 v115
  let c1_i32_66 : BitVec 32 := 1#32
  let arg15 : BitVec 32 := Scf.iv v116 c1_i32_66 k0_t2
  let c256_i32_118 : BitVec 32 := 256#32
  let v200 : BitVec 32 := Scalar.muli arg15 c256_i32_118
  let v201 : BitVec 32 := v200
  let v240 : Index := Scalar.indexCast v201
  let c128_145 : Index := 128#32
  ![v240.toNat, 128]
def k0_off16 (i : grid0.Coords) (k0_t2 : Fin (k0_t2_loop i).trips) : Fin 2 → Nat :=
  let c0_i32_64 : BitVec 32 := 0#32
  let arg2 : BitVec 32 := BitVec.ofNat 32 (i 2).val
  let v112 : BitVec 32 := Scalar.subi arg2 c0_i32_64
  let c1_i32 : BitVec 32 := 1#32
  let v114 : BitVec 32 := Scalar.divsi v112 c1_i32
  let v115 : BitVec 32 := Scalar.muli v114 c1_i32
  let v116 : BitVec 32 := Scalar.addi c0_i32_64 v115
  let c1_i32_66 : BitVec 32 := 1#32
  let arg15 : BitVec 32 := Scf.iv v116 c1_i32_66 k0_t2
  let c256_i32_118 : BitVec 32 := 256#32
  let v200 : BitVec 32 := Scalar.muli arg15 c256_i32_118
  let v201 : BitVec 32 := v200
  let v278 : Index := Scalar.indexCast v201
  let c256_171 : Index := 256#32
  ![v278.toNat, 256]
def k0_off17 (i : grid0.Coords) (k0_t2 : Fin (k0_t2_loop i).trips) : Fin 2 → Nat :=
  let c256_175 : Index := 256#32
  let c0_i32_64 : BitVec 32 := 0#32
  let arg2 : BitVec 32 := BitVec.ofNat 32 (i 2).val
  let v112 : BitVec 32 := Scalar.subi arg2 c0_i32_64
  let c1_i32 : BitVec 32 := 1#32
  let v114 : BitVec 32 := Scalar.divsi v112 c1_i32
  let v115 : BitVec 32 := Scalar.muli v114 c1_i32
  let v116 : BitVec 32 := Scalar.addi c0_i32_64 v115
  let c1_i32_66 : BitVec 32 := 1#32
  let arg15 : BitVec 32 := Scf.iv v116 c1_i32_66 k0_t2
  let c256_i32_118 : BitVec 32 := 256#32
  let v200 : BitVec 32 := Scalar.muli arg15 c256_i32_118
  let v201 : BitVec 32 := v200
  let v282 : Index := Scalar.indexCast v201
  ![256, v282.toNat]
def k0_off18 (i : grid0.Coords) (k0_t2 : Fin (k0_t2_loop i).trips) : Fin 2 → Nat :=
  let c0_i32_64 : BitVec 32 := 0#32
  let arg2 : BitVec 32 := BitVec.ofNat 32 (i 2).val
  let v112 : BitVec 32 := Scalar.subi arg2 c0_i32_64
  let c1_i32 : BitVec 32 := 1#32
  let v114 : BitVec 32 := Scalar.divsi v112 c1_i32
  let v115 : BitVec 32 := Scalar.muli v114 c1_i32
  let v116 : BitVec 32 := Scalar.addi c0_i32_64 v115
  let c1_i32_66 : BitVec 32 := 1#32
  let arg15 : BitVec 32 := Scf.iv v116 c1_i32_66 k0_t2
  let c256_i32_118 : BitVec 32 := 256#32
  let v200 : BitVec 32 := Scalar.muli arg15 c256_i32_118
  let v201 : BitVec 32 := v200
  let v316 : Index := Scalar.indexCast v201
  let c384_197 : Index := 384#32
  ![v316.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2048x8192 : Shape := ⟨2, ![2048, 8192]⟩
abbrev S8192x2048 : Shape := ⟨2, ![8192, 2048]⟩
abbrev S1x256 : Shape := ⟨2, ![1, 256]⟩
abbrev S1x128 : Shape := ⟨2, ![1, 128]⟩
abbrev S_ : Shape := ⟨0, ![]⟩
abbrev S2x4096x8x2x128 : Shape := ⟨5, ![2, 4096, 8, 2, 128]⟩
abbrev S2x4096x8x256 : Shape := ⟨4, ![2, 4096, 8, 256]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x2x4096x4096 : Shape := ⟨5, ![2, 8, 2, 4096, 4096]⟩
abbrev S2x8x2x4096 : Shape := ⟨4, ![2, 8, 2, 4096]⟩
abbrev S2x8x2x4096x1 : Shape := ⟨5, ![2, 8, 2, 4096, 1]⟩
abbrev S2x8x1x4096x4096 : Shape := ⟨5, ![2, 8, 1, 4096, 4096]⟩
abbrev S2x8x4096x4096 : Shape := ⟨4, ![2, 8, 4096, 4096]⟩
abbrev S2x8x256x4096 : Shape := ⟨4, ![2, 8, 256, 4096]⟩
abbrev S2x4096x8 : Shape := ⟨3, ![2, 4096, 8]⟩
abbrev S2x4096x8x1 : Shape := ⟨4, ![2, 4096, 8, 1]⟩
abbrev S256 : Shape := ⟨1, ![256]⟩
abbrev S1x1x1x256 : Shape := ⟨4, ![1, 1, 1, 256]⟩

abbrev nBuf : Space → Nat
  | .hbm => 84
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .bf16⟩
  | .hbm, ⟨3, _⟩ => ⟨S1x256, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048x8192, .f32⟩
  | .hbm, ⟨20, _⟩ => ⟨S8192x2048, .f32⟩
  | .hbm, ⟨21, _⟩ => ⟨S2x4096x8x2x128, .f32⟩
  | .hbm, ⟨22, _⟩ => ⟨S8192x2048, .f32⟩
  | .hbm, ⟨23, _⟩ => ⟨S2x4096x8x2x128, .f32⟩
  | .hbm, ⟨24, _⟩ => ⟨S2048x8192, .f32⟩
  | .hbm, ⟨25, _⟩ => ⟨S8192x2048, .f32⟩
  | .hbm, ⟨26, _⟩ => ⟨S2x4096x8x256, .f32⟩
  | .hbm, ⟨27, _⟩ => ⟨S4096, .i32⟩
  | .hbm, ⟨28, _⟩ => ⟨S1x4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S2x8x2x4096x4096, .f32⟩
  | .hbm, ⟨34, _⟩ => ⟨S_, .f32⟩
  | .hbm, ⟨35, _⟩ => ⟨S_, .f32⟩
  | .hbm, ⟨36, _⟩ => ⟨S2x8x2x4096x4096, .i1⟩
  | .hbm, ⟨37, _⟩ => ⟨S2x8x2x4096x4096, .f32⟩
  | .hbm, ⟨38, _⟩ => ⟨S2x8x2x4096x4096, .f32⟩
  | .hbm, ⟨39, _⟩ => ⟨S_, .f32⟩
  | .hbm, ⟨40, _⟩ => ⟨S2x8x2x4096, .f32⟩
  | .hbm, ⟨41, _⟩ => ⟨S_, .f32⟩
  | .hbm, ⟨42, _⟩ => ⟨S2x8x2x4096, .f32⟩
  | .hbm, ⟨43, _⟩ => ⟨S2x8x2x4096, .f32⟩
  | .hbm, ⟨44, _⟩ => ⟨S2x8x2x4096x1, .f32⟩
  | .hbm, ⟨45, _⟩ => ⟨S2x8x2x4096x4096, .f32⟩
  | .hbm, ⟨46, _⟩ => ⟨S2x8x2x4096x4096, .f32⟩
  | .hbm, ⟨47, _⟩ => ⟨S2x8x2x4096x4096, .f32⟩
  | .hbm, ⟨48, _⟩ => ⟨S_, .f32⟩
  | .hbm, ⟨49, _⟩ => ⟨S2x8x2x4096, .f32⟩
  | .hbm, ⟨50, _⟩ => ⟨S2x8x2x4096x1, .f32⟩
  | .hbm, ⟨51, _⟩ => ⟨S2x8x2x4096x4096, .f32⟩
  | .hbm, ⟨52, _⟩ => ⟨S2x8x2x4096x4096, .f32⟩
  | .hbm, ⟨53, _⟩ => ⟨S2x8x1x4096x4096, .f32⟩
  | .hbm, ⟨54, _⟩ => ⟨S2x8x4096x4096, .f32⟩
  | .hbm, ⟨55, _⟩ => ⟨S2x8x1x4096x4096, .f32⟩
  | .hbm, ⟨56, _⟩ => ⟨S2x8x4096x4096, .f32⟩
  | .hbm, ⟨57, _⟩ => ⟨S2x8x4096x4096, .f32⟩
  | .hbm, ⟨58, _⟩ => ⟨S2x8x4096x4096, .f32⟩
  | .hbm, ⟨59, _⟩ => ⟨S2x8x4096x4096, .f32⟩
  | .hbm, ⟨60, _⟩ => ⟨S2x8x256x4096, .f32⟩
  | .hbm, ⟨61, _⟩ => ⟨S2x4096x8x256, .f32⟩
  | .hbm, ⟨62, _⟩ => ⟨S2x4096x8x256, .f32⟩
  | .hbm, ⟨63, _⟩ => ⟨S_, .f32⟩
  | .hbm, ⟨64, _⟩ => ⟨S2x4096x8, .f32⟩
  | .hbm, ⟨65, _⟩ => ⟨S2x4096x8x1, .f32⟩
  | .hbm, ⟨66, _⟩ => ⟨S_, .f32⟩
  | .hbm, ⟨67, _⟩ => ⟨S2x4096x8x1, .f32⟩
  | .hbm, ⟨68, _⟩ => ⟨S2x4096x8x1, .f32⟩
  | .hbm, ⟨69, _⟩ => ⟨S_, .f32⟩
  | .hbm, ⟨70, _⟩ => ⟨S2x4096x8x1, .f32⟩
  | .hbm, ⟨71, _⟩ => ⟨S2x4096x8x1, .f32⟩
  | .hbm, ⟨72, _⟩ => ⟨S2x4096x8x1, .f32⟩
  | .hbm, ⟨73, _⟩ => ⟨S2x4096x8x256, .f32⟩
  | .hbm, ⟨74, _⟩ => ⟨S2x4096x8x256, .f32⟩
  | .hbm, ⟨75, _⟩ => ⟨S256, .f32⟩
  | .hbm, ⟨76, _⟩ => ⟨S1x1x1x256, .f32⟩
  | .hbm, ⟨77, _⟩ => ⟨S2x4096x8x256, .f32⟩
  | .hbm, ⟨78, _⟩ => ⟨S2x4096x8x256, .f32⟩
  | .hbm, ⟨79, _⟩ => ⟨S_, .f32⟩
  | .hbm, ⟨80, _⟩ => ⟨S2x4096x8x256, .f32⟩
  | .hbm, ⟨81, _⟩ => ⟨S2x4096x8x256, .f32⟩
  | .hbm, ⟨82, _⟩ => ⟨S8192x2048, .f32⟩
  | .hbm, ⟨83, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Heads.lean ====
abbrev S8192x4096 : Shape := ⟨2, ![8192, 4096]⟩
abbrev S512x4096 : Shape := ⟨2, ![512, 4096]⟩
abbrev S4096 : Shape := ⟨1, ![4096]⟩
abbrev S1x4096x12288 : Shape := ⟨3, ![1, 4096, 12288]⟩
abbrev S1x4096 : Shape := ⟨2, ![1, 4096]⟩
abbrev S2x4096 : Shape := ⟨2, ![2, 4096]⟩
abbrev S8192 : Shape := ⟨1, ![8192]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S16 : Shape := ⟨1, ![16]⟩
abbrev S8704x1 : Shape := ⟨2, ![8704, 1]⟩
abbrev S1x16 : Shape := ⟨2, ![1, 16]⟩
abbrev S8704x16 : Shape := ⟨2, ![8704, 16]⟩
abbrev S8704x96 : Shape := ⟨2, ![8704, 96]⟩
abbrev S8704x128 : Shape := ⟨2, ![8704, 128]⟩
abbrev S8704x4096 : Shape := ⟨2, ![8704, 4096]⟩
abbrev S256x4096 : Shape := ⟨2, ![256, 4096]⟩
abbrev S256 : Shape := ⟨1, ![256]⟩
abbrev S256x1 : Shape := ⟨2, ![256, 1]⟩
abbrev S4096x12288 : Shape := ⟨2, ![4096, 12288]⟩
abbrev S8704x2048 : Shape := ⟨2, ![8704, 2048]⟩
abbrev S2048x8704 : Shape := ⟨2, ![2048, 8704]⟩
abbrev S4096x1024 : Shape := ⟨2, ![4096, 1024]⟩
abbrev S512x128 : Shape := ⟨2, ![512, 128]⟩
abbrev S512x1024 : Shape := ⟨2, ![512, 1024]⟩
abbrev S1024x512 : Shape := ⟨2, ![1024, 512]⟩

abbrev nBuf : Space → Nat
  | .hbm => 60
  | .vmem => 80
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S4096, .f32⟩
  | .hbm, ⟨3, _⟩ => ⟨S4096, .f32⟩
  | .hbm, ⟨4, _⟩ => ⟨S1x4096x12288, .f32⟩
  | .hbm, ⟨5, _⟩ => ⟨S4096, .i32⟩
  | .hbm, ⟨6, _⟩ => ⟨S1x4096, .i32⟩
  | .hbm, ⟨7, _⟩ => ⟨S2x4096, .i32⟩
  | .hbm, ⟨8, _⟩ => ⟨S8192, .i32⟩
  | .hbm, ⟨9, _⟩ => ⟨S4, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S1x4, .i32⟩
  | .hbm, ⟨14, _⟩ => ⟨S128x4, .i32⟩
  | .hbm, ⟨15, _⟩ => ⟨S512, .i32⟩
  | .hbm, ⟨16, _⟩ => ⟨S8704, .i32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S8704, .f32⟩
  | .hbm, ⟨26, _⟩ => ⟨S8704x1, .f32⟩
  | .hbm, ⟨27, _⟩ => ⟨S1x16, .f32⟩
  | .hbm, ⟨28, _⟩ => ⟨S8704x16, .f32⟩
  | .hbm, ⟨29, _⟩ => ⟨S8704x16, .f32⟩
  | .hbm, ⟨30, _⟩ => ⟨S8704x16, .f32⟩
  | .hbm, ⟨31, _⟩ => ⟨S8704x16, .f32⟩
  | .hbm, ⟨32, _⟩ => ⟨S8704x16, .f32⟩
  | .hbm, ⟨33, _⟩ => ⟨S_, .f32⟩
  | .hbm, ⟨34, _⟩ => ⟨S8704x96, .f32⟩
  | .hbm, ⟨35, _⟩ => ⟨S_, .f32⟩
  | .hbm, ⟨36, _⟩ => ⟨S8704x96, .f32⟩
  | .hbm, ⟨37, _⟩ => ⟨S_, .f32⟩
  | .hbm, ⟨38, _⟩ => ⟨S8704x16, .f32⟩
  | .hbm, ⟨39, _⟩ => ⟨S8704x128, .f32⟩
  | .hbm, ⟨40, _⟩ => ⟨S8704x16, .f32⟩
  | .hbm, ⟨41, _⟩ => ⟨S8704x128, .f32⟩
  | .hbm, ⟨42, _⟩ => ⟨S8704x128, .f32⟩
  | .hbm, ⟨43, _⟩ => ⟨S1x4096, .f32⟩
  | .hbm, ⟨44, _⟩ => ⟨S1x4096, .f32⟩
  | .hbm, ⟨45, _⟩ => ⟨S8704x4096, .bf16⟩
  | .hbm, ⟨46, _⟩ => ⟨S4096x12288, .f32⟩
  | .hbm, ⟨47, _⟩ => ⟨S4096x12288, .bf16⟩
  | .hbm, ⟨48, _⟩ => ⟨S8704x2048, .bf16⟩
  | .hbm, ⟨49, _⟩ => ⟨S2048x8704, .bf16⟩
  | .hbm, ⟨50, _⟩ => ⟨S8704x2048, .f32⟩
  | .hbm, ⟨51, _⟩ => ⟨S8704x2048, .bf16⟩
  | .hbm, ⟨52, _⟩ => ⟨S8704x2048, .f32⟩
  | .hbm, ⟨53, _⟩ => ⟨S2048x8704, .bf16⟩
  | .hbm, ⟨54, _⟩ => ⟨S8704x2048, .bf16⟩
  | .hbm, ⟨55, _⟩ => ⟨S2048x8704, .bf16⟩
  | .hbm, ⟨56, _⟩ => ⟨S8704x2048, .f32⟩
  | .hbm, ⟨57, _⟩ => ⟨S8704x2048, .bf16⟩
  | .hbm, ⟨58, _⟩ => ⟨S8704x2048, .f32⟩
  | .hbm, ⟨59, _⟩ => ⟨S2048x8704, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | .local _ .vmem, ⟨8, _⟩ => ⟨S512x4096, .bf16⟩
  | .local _ .vmem, ⟨9, _⟩ => ⟨S512x4096, .bf16⟩
  | .local _ .vmem, ⟨10, _⟩ => ⟨S4096x1024, .bf16⟩
  | .local _ .vmem, ⟨11, _⟩ => ⟨S4096x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S1024x512, .bf16⟩
  | .local _ .vmem, ⟨21, _⟩ => ⟨S1024x512, .bf16⟩
  | .local _ .vmem, ⟨22, _⟩ => ⟨S512x4096, .bf16⟩
  | .local _ .vmem, ⟨23, _⟩ => ⟨S512x4096, .bf16⟩
  | .local _ .vmem, ⟨24, _⟩ => ⟨S4096x1024, .bf16⟩
  | .local _ .vmem, ⟨25, _⟩ => ⟨S4096x1024, .bf16⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x1024, .f32⟩
  | .local _ .vmem, ⟨33, _⟩ => ⟨S512x1024, .f32⟩
  | .local _ .vmem, ⟨34, _⟩ => ⟨S512x1024, .bf16⟩
  | .local _ .vmem, ⟨35, _⟩ => ⟨S512x1024, .bf16⟩
  | .local _ .vmem, ⟨36, _⟩ => ⟨S512x4096, .bf16⟩
  | .local _ .vmem, ⟨37, _⟩ => ⟨S512x4096, .bf16⟩
  | .local _ .vmem, ⟨38, _⟩ => ⟨S4096x1024, .bf16⟩
  | .local _ .vmem, ⟨39, _⟩ => ⟨S4096x1024, .bf16⟩
  | .local _ .vmem, ⟨40, _⟩ => ⟨S512x1024, .f32⟩
  | .local _ .vmem, ⟨41, _⟩ => ⟨S512x1024, .f32⟩
  | .local _ .vmem, ⟨42, _⟩ => ⟨S1024x512, .bf16⟩
  | .local _ .vmem, ⟨43, _⟩ => ⟨S1024x512, .bf16⟩
  | .local _ .vmem, ⟨44, _⟩ => ⟨S512x4096, .bf16⟩
  | .local _ .vmem, ⟨45, _⟩ => ⟨S512x4096, .bf16⟩
  | .local _ .vmem, ⟨46, _⟩ => ⟨S4096x1024, .bf16⟩
  | .local _ .vmem, ⟨47, _⟩ => ⟨S4096x1024, .bf16⟩
  | .local _ .vmem, ⟨48, _⟩ => ⟨S512x128, .f32⟩
  | .local _ .vmem, ⟨49, _⟩ => ⟨S512x128, .f32⟩
  | .local _ .vmem, ⟨50, _⟩ => ⟨S512x128, .f32⟩
  | .local _ .vmem, ⟨51, _⟩ => ⟨S512x128, .f32⟩
  | .local _ .vmem, ⟨52, _⟩ => ⟨S512x128, .f32⟩
  | .local _ .vmem, ⟨53, _⟩ => ⟨S512x128, .f32⟩
  | .local _ .vmem, ⟨54, _⟩ => ⟨S512x1024, .bf16⟩
  | .local _ .vmem, ⟨55, _⟩ => ⟨S512x1024, .bf16⟩
  | .local _ .vmem, ⟨56, _⟩ => ⟨S1024x512, .bf16⟩
  | .local _ .vmem, ⟨57, _⟩ => ⟨S1024x512, .bf16⟩
  | .local _ .vmem, ⟨58, _⟩ => ⟨S512x4096, .bf16⟩
  | .local _ .vmem, ⟨59, _⟩ => ⟨S512x4096, .bf16⟩
  | .local _ .vmem, ⟨60, _⟩ => ⟨S4096x1024, .bf16⟩
  | .local _ .vmem, ⟨61, _⟩ => ⟨S4096x1024, .bf16⟩
  | .local _ .vmem, ⟨62, _⟩ => ⟨S512x128, .f32⟩
  | .local _ .vmem, ⟨63, _⟩ => ⟨S512x128, .f32⟩
  | .local _ .vmem, ⟨64, _⟩ => ⟨S512x128, .f32⟩
  | .local _ .vmem, ⟨65, _⟩ => ⟨S512x128, .f32⟩
  | .local _ .vmem, ⟨66, _⟩ => ⟨S512x128, .f32⟩
  | .local _ .vmem, ⟨67, _⟩ => ⟨S512x128, .f32⟩
  | .local _ .vmem, ⟨68, _⟩ => ⟨S512x1024, .f32⟩
  | .local _ .vmem, ⟨69, _⟩ => ⟨S512x1024, .f32⟩
  | .local _ .vmem, ⟨70, _⟩ => ⟨S512x1024, .bf16⟩
  | .local _ .vmem, ⟨71, _⟩ => ⟨S512x1024, .bf16⟩
  | .local _ .vmem, ⟨72, _⟩ => ⟨S512x4096, .bf16⟩
  | .local _ .vmem, ⟨73, _⟩ => ⟨S512x4096, .bf16⟩
  | .local _ .vmem, ⟨74, _⟩ => ⟨S4096x1024, .bf16⟩
  | .local _ .vmem, ⟨75, _⟩ => ⟨S4096x1024, .bf16⟩
  | .local _ .vmem, ⟨76, _⟩ => ⟨S512x1024, .f32⟩
  | .local _ .vmem, ⟨77, _⟩ => ⟨S512x1024, .f32⟩
  | .local _ .vmem, ⟨78, _⟩ => ⟨S1024x512, .bf16⟩
  | .local _ .vmem, ⟨79, _⟩ => ⟨S1024x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev main_v38_0 : Ref sig .tc := ⟨.hbm, 50, rfl⟩
abbrev main_v38_1 : Ref sig .tc := ⟨.hbm, 51, rfl⟩
abbrev main_v39_0 : Ref sig .tc := ⟨.hbm, 52, rfl⟩
abbrev main_v39_1 : Ref sig .tc := ⟨.hbm, 53, rfl⟩
abbrev main_v40_0 : Ref sig .tc := ⟨.hbm, 54, rfl⟩
abbrev main_v40_1 : Ref sig .tc := ⟨.hbm, 55, rfl⟩
abbrev main_v41_0 : Ref sig .tc := ⟨.hbm, 56, rfl⟩
abbrev main_v41_1 : Ref sig .tc := ⟨.hbm, 57, rfl⟩
abbrev main_v42_0 : Ref sig .tc := ⟨.hbm, 58, rfl⟩
abbrev main_v42_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg4_1 : Ref sig .tc := ⟨.vmem, 53, rfl⟩
abbrev cc4_stg5_0 : Ref sig .tc := ⟨.vmem, 54, rfl⟩
abbrev cc4_stg5_1 : Ref sig .tc := ⟨.vmem, 55, rfl⟩
abbrev cc4_stg6_0 : Ref sig .tc := ⟨.vmem, 56, rfl⟩
abbrev cc4_stg6_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg2_1 : Ref sig .tc := ⟨.vmem, 63, rfl⟩
abbrev cc5_stg3_0 : Ref sig .tc := ⟨.vmem, 64, rfl⟩
abbrev cc5_stg3_1 : Ref sig .tc := ⟨.vmem, 65, rfl⟩
abbrev cc5_stg4_0 : Ref sig .tc := ⟨.vmem, 66, rfl⟩
abbrev cc5_stg4_1 : Ref sig .tc := ⟨.vmem, 67, rfl⟩
abbrev cc5_stg5_0 : Ref sig .tc := ⟨.vmem, 68, rfl⟩
abbrev cc5_stg5_1 : Ref sig .tc := ⟨.vmem, 69, rfl⟩
abbrev cc5_stg6_0 : Ref sig .tc := ⟨.vmem, 70, rfl⟩
abbrev cc5_stg6_1 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg1_1 : Ref sig .tc := ⟨.vmem, 75, rfl⟩
abbrev cc6_stg2_0 : Ref sig .tc := ⟨.vmem, 76, rfl⟩
abbrev cc6_stg2_1 : Ref sig .tc := ⟨.vmem, 77, rfl⟩
abbrev cc6_stg3_0 : Ref sig .tc := ⟨.vmem, 78, rfl⟩
abbrev cc6_stg3_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem4_1 : DmaSem sig := 53
abbrev cc4_sem5_0 : DmaSem sig := 54
abbrev cc4_sem5_1 : DmaSem sig := 55
abbrev cc4_sem6_0 : DmaSem sig := 56
abbrev cc4_sem6_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem2_1 : DmaSem sig := 63
abbrev cc5_sem3_0 : DmaSem sig := 64
abbrev cc5_sem3_1 : DmaSem sig := 65
abbrev cc5_sem4_0 : DmaSem sig := 66
abbrev cc5_sem4_1 : DmaSem sig := 67
abbrev cc5_sem5_0 : DmaSem sig := 68
abbrev cc5_sem5_1 : DmaSem sig := 69
abbrev cc5_sem6_0 : DmaSem sig := 70
abbrev cc5_sem6_1 : DmaSem sig := 71
abbrev cc6_sem0_0 : DmaSem sig := 72
abbrev cc6_sem0_1 : DmaSem sig := 73
abbrev cc6_sem1_0 : DmaSem sig := 74
abbrev cc6_sem1_1 : DmaSem sig := 75
abbrev cc6_sem2_0 : DmaSem sig := 76
abbrev cc6_sem2_1 : DmaSem sig := 77
abbrev cc6_sem3_0 : DmaSem sig := 78
abbrev cc6_sem3_1 : DmaSem sig := 79

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![17, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![17, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![17, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![17, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S512x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S512x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S512x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1024x512 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨2, ![17, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S512x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S512x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S512x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S512x1024 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev grid6 : Pipeline.Grid := ⟨2, ![17, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S512x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1024x512 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]
-- ==== HeadsReferenceIdeal.lean ====
abbrev S8192x4096 : Shape := ⟨2, ![8192, 4096]⟩
abbrev S512x4096 : Shape := ⟨2, ![512, 4096]⟩
abbrev S4096 : Shape := ⟨1, ![4096]⟩
abbrev S1x4096x12288 : Shape := ⟨3, ![1, 4096, 12288]⟩
abbrev S8704x4096 : Shape := ⟨2, ![8704, 4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩
abbrev S4096x12288 : Shape := ⟨2, ![4096, 12288]⟩
abbrev S8704x12288 : Shape := ⟨2, ![8704, 12288]⟩
abbrev S8704x2048 : Shape := ⟨2, ![8704, 2048]⟩
abbrev S4 : Shape := ⟨1, ![4]⟩
abbrev S2x4096 : Shape := ⟨2, ![2, 4096]⟩
abbrev S8192 : Shape := ⟨1, ![8192]⟩
abbrev S1x4 : Shape := ⟨2, ![1, 4]⟩
abbrev S128x4 : Shape := ⟨2, ![128, 4]⟩
abbrev S512 : Shape := ⟨1, ![512]⟩
abbrev S8704x16x128 : Shape := ⟨3, ![8704, 16, 128]⟩
abbrev S16 : Shape := ⟨1, ![16]⟩
abbrev S1x16 : Shape := ⟨2, ![1, 16]⟩
abbrev S8704x16 : Shape := ⟨2, ![8704, 16]⟩
abbrev S8704x1x16 : Shape := ⟨3, ![8704, 1, 16]⟩
abbrev S8704x16x16 : Shape := ⟨3, ![8704, 16, 16]⟩
abbrev S8704x16x96 : Shape := ⟨3, ![8704, 16, 96]⟩
abbrev S2048x8704 : Shape := ⟨2, ![2048, 8704]⟩

abbrev nBuf : Space → Nat
  | .hbm => 207
  | .vmem => 0
  | .smem => 0
  | _ => 0

abbrev hbmTy0_0 (i : Nat) : BufTy := match i % 128 with
  | 0 => ⟨S8192x4096, .f32⟩
  | 1 => ⟨S512x4096, .f32⟩
  | 2 => ⟨S4096, .f32⟩
  | 3 => ⟨S4096, .f32⟩
  | 4 => ⟨S1x4096x12288, .f32⟩
  | 5 => ⟨S8704x4096, .f32⟩
  | 6 => ⟨S_, .f32⟩
  | 7 => ⟨S8704, .f32⟩
  | 8 => ⟨S8704x1, .f32⟩
  | 9 => ⟨S_, .f32⟩
  | 10 => ⟨S8704x1, .f32⟩
  | 11 => ⟨S8704x1, .f32⟩
  | 12 => ⟨S8704x4096, .f32⟩
  | 13 => ⟨S8704x4096, .f32⟩
  | 14 => ⟨S8704x4096, .f32⟩
  | 15 => ⟨S_, .f32⟩
  | 16 => ⟨S8704, .f32⟩
  | 17 => ⟨S8704x1, .f32⟩
  | 18 => ⟨S_, .f32⟩
  | 19 => ⟨S8704x1, .f32⟩
  | 20 => ⟨S8704x1, .f32⟩
  | 21 => ⟨S_, .f32⟩
  | 22 => ⟨S8704x1, .f32⟩
  | 23 => ⟨S8704x1, .f32⟩
  | 24 => ⟨S8704x1, .f32⟩
  | 25 => ⟨S8704x4096, .f32⟩
  | 26 => ⟨S8704x4096, .f32⟩
  | 27 => ⟨S1x4096, .f32⟩
  | 28 => ⟨S8704x4096, .f32⟩
  | 29 => ⟨S8704x4096, .f32⟩
  | 30 => ⟨S1x4096, .f32⟩
  | 31 => ⟨S8704x4096, .f32⟩
  | 32 => ⟨S8704x4096, .f32⟩
  | 33 => ⟨S4096x12288, .f32⟩
  | 34 => ⟨S8704x12288, .f32⟩
  | 35 => ⟨S8704x2048, .f32⟩
  | 36 => ⟨S8704x2048, .f32⟩
  | 37 => ⟨S8704x2048, .f32⟩
  | 38 => ⟨S8704x2048, .f32⟩
  | 39 => ⟨S8704x2048, .f32⟩
  | 40 => ⟨S8704x2048, .f32⟩
  | 41 => ⟨S4096, .i32⟩
  | 42 => ⟨S4, .i32⟩
  | 43 => ⟨S_, .i32⟩
  | 44 => ⟨S4, .i32⟩
  | 45 => ⟨S4, .i32⟩
  | 46 => ⟨S1x4096, .i32⟩
  | 47 => ⟨S2x4096, .i32⟩
  | 48 => ⟨S8192, .i32⟩
  | 49 => ⟨S1x4, .i32⟩
  | 50 => ⟨S128x4, .i32⟩
  | 51 => ⟨S512, .i32⟩
  | 52 => ⟨S8704, .i32⟩
  | 53 => ⟨S8704x16x128, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S8704, .f32⟩
  | 63 => ⟨S8704x1, .f32⟩
  | 64 => ⟨S1x16, .f32⟩
  | 65 => ⟨S8704x16, .f32⟩
  | 66 => ⟨S8704x16, .f32⟩
  | 67 => ⟨S8704x16, .f32⟩
  | 68 => ⟨S8704x16, .f32⟩
  | 69 => ⟨S8704x1x16, .f32⟩
  | 70 => ⟨S8704x16, .f32⟩
  | 71 => ⟨S8704x1x16, .f32⟩
  | 72 => ⟨S8704x16x16, .f32⟩
  | 73 => ⟨S8704x16x16, .f32⟩
  | 74 => ⟨S8704x16x16, .f32⟩
  | 75 => ⟨S8704x16x16, .f32⟩
  | 76 => ⟨S8704x16x16, .f32⟩
  | 77 => ⟨S8704x16x16, .f32⟩
  | 78 => ⟨S8704x16x16, .f32⟩
  | 79 => ⟨S8704x16x16, .f32⟩
  | 80 => ⟨S8704x16x16, .f32⟩
  | 81 => ⟨S8704x16x16, .f32⟩
  | 82 => ⟨S8704x16x16, .f32⟩
  | 83 => ⟨S8704x16x16, .f32⟩
  | 84 => ⟨S8704x16x96, .f32⟩
  | 85 => ⟨S8704x16x128, .f32⟩
  | 86 => ⟨S8704x2048, .f32⟩
  | 87 => ⟨S_, .f32⟩
  | 88 => ⟨S8704x2048, .f32⟩
  | 89 => ⟨S8704x2048, .f32⟩
  | 90 => ⟨S8704x16x128, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S8704, .f32⟩
  | 100 => ⟨S8704x1, .f32⟩
  | 101 => ⟨S1x16, .f32⟩
  | 102 => ⟨S8704x16, .f32⟩
  | 103 => ⟨S8704x16, .f32⟩
  | 104 => ⟨S8704x16, .f32⟩
  | 105 => ⟨S8704x16, .f32⟩
  | 106 => ⟨S8704x1x16, .f32⟩
  | 107 => ⟨S8704x16, .f32⟩
  | 108 => ⟨S8704x1x16, .f32⟩
  | 109 => ⟨S8704x16x16, .f32⟩
  | 110 => ⟨S8704x16x16, .f32⟩
  | 111 => ⟨S8704x16x16, .f32⟩
  | 112 => ⟨S8704x16x16, .f32⟩
  | 113 => ⟨S8704x16x16, .f32⟩
  | 114 => ⟨S8704x16x16, .f32⟩
  | 115 => ⟨S8704x16x16, .f32⟩
  | 116 => ⟨S8704x16x16, .f32⟩
  | 117 => ⟨S8704x16x16, .f32⟩
  | 118 => ⟨S8704x16x16, .f32⟩
  | 119 => ⟨S8704x16x16, .f32⟩
  | 120 => ⟨S8704x16x16, .f32⟩
  | 121 => ⟨S8704x16x96, .f32⟩
  | 122 => ⟨S8704x16x128, .f32⟩
  | 123 => ⟨S8704x2048, .f32⟩
  | 124 => ⟨S8704x16x128, .f32⟩
  | 125 => ⟨S16, .f32⟩
  | 126 => ⟨S16, .f32⟩
  | 127 => ⟨S_, .f32⟩
  | _ => ⟨S8192x4096, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S8704, .f32⟩
  | 6 => ⟨S8704x1, .f32⟩
  | 7 => ⟨S1x16, .f32⟩
  | 8 => ⟨S8704x16, .f32⟩
  | 9 => ⟨S8704x16, .f32⟩
  | 10 => ⟨S8704x16, .f32⟩
  | 11 => ⟨S8704x16, .f32⟩
  | 12 => ⟨S8704x1x16, .f32⟩
  | 13 => ⟨S8704x16, .f32⟩
  | 14 => ⟨S8704x1x16, .f32⟩
  | 15 => ⟨S8704x16x16, .f32⟩
  | 16 => ⟨S8704x16x16, .f32⟩
  | 17 => ⟨S8704x16x16, .f32⟩
  | 18 => ⟨S8704x16x16, .f32⟩
  | 19 => ⟨S8704x16x16, .f32⟩
  | 20 => ⟨S8704x16x16, .f32⟩
  | 21 => ⟨S8704x16x16, .f32⟩
  | 22 => ⟨S8704x16x16, .f32⟩
  | 23 => ⟨S8704x16x16, .f32⟩
  | 24 => ⟨S8704x16x16, .f32⟩
  | 25 => ⟨S8704x16x16, .f32⟩
  | 26 => ⟨S8704x16x16, .f32⟩
  | 27 => ⟨S8704x16x96, .f32⟩
  | 28 => ⟨S8704x16x128, .f32⟩
  | 29 => ⟨S8704x2048, .f32⟩
  | 30 => ⟨S_, .f32⟩
  | 31 => ⟨S8704x2048, .f32⟩
  | 32 => ⟨S8704x2048, .f32⟩
  | 33 => ⟨S8704x16x128, .f32⟩
  | 34 => ⟨S16, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S8704, .f32⟩
  | 43 => ⟨S8704x1, .f32⟩
  | 44 => ⟨S1x16, .f32⟩
  | 45 => ⟨S8704x16, .f32⟩
  | 46 => ⟨S8704x16, .f32⟩
  | 47 => ⟨S8704x16, .f32⟩
  | 48 => ⟨S8704x16, .f32⟩
  | 49 => ⟨S8704x1x16, .f32⟩
  | 50 => ⟨S8704x16, .f32⟩
  | 51 => ⟨S8704x1x16, .f32⟩
  | 52 => ⟨S8704x16x16, .f32⟩
  | 53 => ⟨S8704x16x16, .f32⟩
  | 54 => ⟨S8704x16x16, .f32⟩
  | 55 => ⟨S8704x16x16, .f32⟩
  | 56 => ⟨S8704x16x16, .f32⟩
  | 57 => ⟨S8704x16x16, .f32⟩
  | 58 => ⟨S8704x16x16, .f32⟩
  | 59 => ⟨S8704x16x16, .f32⟩
  | 60 => ⟨S8704x16x16, .f32⟩
  | 61 => ⟨S8704x16x16, .f32⟩
  | 62 => ⟨S8704x16x16, .f32⟩
  | 63 => ⟨S8704x16x16, .f32⟩
  | 64 => ⟨S8704x16x96, .f32⟩
  | 65 => ⟨S8704x16x128, .f32⟩
  | 66 => ⟨S8704x2048, .f32⟩
  | 67 => ⟨S8704x2048, .bf16⟩
  | 68 => ⟨S2048x8704, .f32⟩
  | 69 => ⟨S2048x8704, .bf16⟩
  | 70 => ⟨S8704x2048, .bf16⟩
  | 71 => ⟨S2048x8704, .f32⟩
  | 72 => ⟨S2048x8704, .bf16⟩
  | 73 => ⟨S8704x2048, .bf16⟩
  | 74 => ⟨S2048x8704, .f32⟩
  | 75 => ⟨S2048x8704, .bf16⟩
  | 76 => ⟨S8704x2048, .bf16⟩
  | 77 => ⟨S2048x8704, .f32⟩
  | 78 => ⟨S2048x8704, .bf16⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_6 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_7 : Ref sig .tc := ⟨.hbm, 93, rfl⟩
abbrev main_v79 : Ref sig .tc := ⟨.hbm, 94, rfl⟩
abbrev main_v80 : Ref sig .tc := ⟨.hbm, 95, rfl⟩
abbrev main_cst_8 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_cst_9 : Ref sig .tc := ⟨.hbm, 127, rfl⟩
abbrev main_v111 : Ref sig .tc := ⟨.hbm, 128, rfl⟩
abbrev main_v112 : Ref sig .tc := ⟨.hbm, 129, rfl⟩
abbrev main_cst_10 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_cst_11 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_cst_12 : Ref sig .tc := ⟨.hbm, 164, rfl⟩
abbrev main_v145 : Ref sig .tc := ⟨.hbm, 165, rfl⟩
abbrev main_v146 : Ref sig .tc := ⟨.hbm, 166, rfl⟩
abbrev main_cst_13 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩

abbrev nD : Nat := 1
abbrev τ : Topo := Topo.v7x

variable {F : FTy → Type} [FloatOps F]
-- ==== OutProj.lean ====
abbrev S8704x4096 : Shape := ⟨2, ![8704, 4096]⟩
abbrev S1x4096x4096 : Shape := ⟨3, ![1, 4096, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S4096x4096, .f32⟩
  | .hbm, ⟨3, _⟩ => ⟨S4096x4096, .bf16⟩
  | .hbm, ⟨4, _⟩ => ⟨S8704x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjReferenceIdeal.lean ====
abbrev S8704x4096 : Shape := ⟨2, ![8704, 4096]⟩
abbrev S1x4096x4096 : Shape := ⟨3, ![1, 4096, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S8704x4096, .f32⟩
  | .hbm, ⟨3, _⟩ => ⟨S4096x4096, .f32⟩
  | .hbm, ⟨4, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S336 : Shape := ⟨1, ![336]⟩
abbrev S86016x1024 : Shape := ⟨2, ![86016, 1024]⟩
abbrev S64x1024x4096 : Shape := ⟨3, ![64, 1024, 4096]⟩
abbrev S86016x4096 : Shape := ⟨2, ![86016, 4096]⟩
abbrev S256x1024 : Shape := ⟨2, ![256, 1024]⟩
abbrev S1 : Shape := ⟨1, ![1]⟩
abbrev S256x4096 : Shape := ⟨2, ![256, 4096]⟩
abbrev S1024x4096 : Shape := ⟨2, ![1024, 4096]⟩
abbrev S_ : Shape := ⟨0, ![]⟩
abbrev S1x1024x4096 : Shape := ⟨3, ![1, 1024, 4096]⟩

abbrev nBuf : Space → Nat
  | .hbm => 3
  | .vmem => 6
  | .smem => 4
  | _ => 0

abbrev bufTy : (tb : Table) → Fin (tcTables nBuf tb) → BufTy
  | .hbm, ⟨0, _⟩ => ⟨S86016x1024, .bf16⟩
  | .hbm, ⟨1, _⟩ => ⟨S64x1024x4096, .f32⟩
  | .hbm, ⟨2, _⟩ => ⟨S86016x4096, .f32⟩
  | .local _ .vmem, ⟨0, _⟩ => ⟨S256x1024, .bf16⟩
  | .local _ .vmem, ⟨1, _⟩ => ⟨S256x1024, .bf16⟩
  | .local _ .vmem, ⟨2, _⟩ => ⟨S256x4096, .f32⟩
  | .local _ .vmem, ⟨3, _⟩ => ⟨S256x4096, .f32⟩
  | .local _ .vmem, ⟨4, _⟩ => ⟨S1024x4096, .bf16⟩
  | .local _ .vmem, ⟨5, _⟩ => ⟨S1024x4096, .f32⟩
  | .local _ .smem, ⟨0, _⟩ => ⟨S336, .i32⟩
  | .local _ .smem, ⟨1, _⟩ => ⟨S336, .i32⟩
  | .local _ .smem, ⟨2, _⟩ => ⟨S336, .i32⟩
  | .local _ .smem, ⟨3, _⟩ => ⟨S336, .i32⟩
  | _, _ => ⟨S86016x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![336], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_0 : BitVec 32 := 0#32
  let v8 : BitVec 1 := Scalar.cmpi .ne v7 c0_i32_0
  v8

def k0_off2 (v3 : BitVec 32) : Fin 3 → Nat :=
  let c0_i32_38 : BitVec 32 := 0#32
  let c0_i32_39 : BitVec 32 := 0#32
  ![v3.toNat, 0, 0]

def k0_off3 (v3 : BitVec 32) : Fin 3 → Nat :=
  let c0_i32_38 : BitVec 32 := 0#32
  let c0_i32_39 : BitVec 32 := 0#32
  ![v3.toNat, 0, 0]
def k0_cond2 (v1 : BitVec 32) : BitVec 1 :=
  let c2_i32 : BitVec 32 := 2#32
  let c0_i32_1 : BitVec 32 := 0#32
  let v9 : BitVec 1 := Scalar.cmpi .eq c2_i32 c0_i32_1
  let c1_i32 : BitVec 32 := 1#32
  let v10 : BitVec 32 := Scalar.select v9 c1_i32 c2_i32
  let v11 : BitVec 32 := Scalar.remsi v1 v10
  let c0_i32_3 : BitVec 32 := 0#32
  let v13 : BitVec 1 := Scalar.cmpi .slt v11 c0_i32_3
  let c0_i32_4 : BitVec 32 := 0#32
  let v14 : BitVec 1 := Scalar.cmpi .slt v10 c0_i32_4
  let v15 : BitVec 1 := Scalar.xori v13 v14
  let c0_i32_2 : BitVec 32 := 0#32
  let v12 : BitVec 1 := Scalar.cmpi .ne v11 c0_i32_2
  let v16 : BitVec 1 := Scalar.andi v15 v12
  let v17 : BitVec 32 := Scalar.addi v11 v10
  let v18 : BitVec 32 := Scalar.select v16 v17 v11
  let c1_i32_5 : BitVec 32 := 1#32
  let v19 : BitVec 1 := Scalar.cmpi .eq v18 c1_i32_5
  let v20 : BitVec 32 := Scalar.extui v19
  let c0_i32_6 : BitVec 32 := 0#32
  let v21 : BitVec 1 := Scalar.cmpi .ne v20 c0_i32_6
  v21

def k0_chk1 (i : grid0.Coords) (v1 : BitVec 32) (v3 : BitVec 32) : Prop :=
  (∀ (k0_h1 : k0_cond1 i = 1#1), ∀ a, (k0_off2 v3) a + S1x1024x4096.size a ≤ S64x1024x4096.size a) ∧
  (∀ (k0_h2 : k0_cond2 v1 = 1#1), ∀ a, (k0_off3 v3) a + S1x1024x4096.size a ≤ S64x1024x4096.size a)
theorem k0_off2_inb : ∀ (i : grid0.Coords) (v1 : BitVec 32) (v3 : BitVec 32) (k0_hw1 : k0_chk1 i v1 v3), ∀ (k0_h1 : k0_cond1 i = 1#1), ∀ a, (k0_off2 v3) a + S1x1024x4096.size a ≤ S64x1024x4096.size a := fun i v1 v3 k0_hw1 k0_h1 => k0_hw1.1 k0_h1
theorem k0_off3_inb : ∀ (i : grid0.Coords) (v1 : BitVec 32) (v3 : BitVec 32) (k0_hw1 : k0_chk1 i v1 v3), ∀ (k0_h2 : k0_cond2 v1 = 1#1), ∀ a, (k0_off3 v3) a + S1x1024x4096.size a ≤ S64x1024x4096.size a := fun i v1 v3 k0_hw1 k0_h2 => k0_hw1.2 k0_h2

def k0_off4 (v5 : BitVec 32) : Fin 3 → Nat :=
  let c0_i32_45 : BitVec 32 := 0#32
  let c0_i32_46 : BitVec 32 := 0#32
  ![v5.toNat, 0, 0]
def k0_cond3 (v1 : BitVec 32) : BitVec 1 :=
  let c4_i32 : BitVec 32 := 4#32
  let v91 : BitVec 1 := Scalar.cmpi .sge v1 c4_i32
  let v92 : BitVec 32 := Scalar.extui v91
  let c0_i32_43 : BitVec 32 := 0#32
  let v93 : BitVec 1 := Scalar.cmpi .ne v92 c0_i32_43
  v93

def k0_chk2 (v1 : BitVec 32) (v5 : BitVec 32) : Prop :=
  (∀ (k0_h2 : k0_cond2 v1 = 1#1), ∀ (k0_h3 : k0_cond3 v1 = 1#1), ∀ a, (k0_off4 v5) a + S1x1024x4096.size a ≤ S64x1024x4096.size a)
theorem k0_off4_inb : ∀ (v1 : BitVec 32) (v5 : BitVec 32) (k0_hw2 : k0_chk2 v1 v5), ∀ (k0_h2 : k0_cond2 v1 = 1#1), ∀ (k0_h3 : k0_cond3 v1 = 1#1), ∀ a, (k0_off4 v5) a + S1x1024x4096.size a ≤ S64x1024x4096.size a := fun v1 v5 k0_hw2 k0_h2 k0_h3 => k0_hw2 k0_h2 k0_h3

def k0_cond4 (v1 : BitVec 32) : BitVec 1 :=
  let c0_i32_8 : BitVec 32 := 0#32
  let v23 : BitVec 1 := Scalar.cmpi .sgt v1 c0_i32_8
  let v24 : BitVec 32 := Scalar.extui v23
  let c0_i32_9 : BitVec 32 := 0#32
  let v25 : BitVec 1 := Scalar.cmpi .slt v1 c0_i32_9
  let v26 : BitVec 32 := Scalar.extui v25
  let v27 : BitVec 32 := Scalar.subi v24 v26
  let c2_i32_7 : BitVec 32 := 2#32
  let c0_i32_10 : BitVec 32 := 0#32
  let v28 : BitVec 1 := Scalar.cmpi .sgt c2_i32_7 c0_i32_10
  let v29 : BitVec 32 := Scalar.extui v28
  let c0_i32_11 : BitVec 32 := 0#32
  let v30 : BitVec 1 := Scalar.cmpi .slt c2_i32_7 c0_i32_11
  let v31 : BitVec 32 := Scalar.extui v30
  let v32 : BitVec 32 := Scalar.subi v29 v31
  let v33 : BitVec 1 := Scalar.cmpi .ne v27 v32
  let v34 : BitVec 32 := Scalar.remsi v1 c2_i32_7
  let c0_i32_12 : BitVec 32 := 0#32
  let v35 : BitVec 1 := Scalar.cmpi .ne v34 c0_i32_12
  let v36 : BitVec 1 := Scalar.andi v33 v35
  let v22 : BitVec 32 := Scalar.divsi v1 c2_i32_7
  let c1_i32_13 : BitVec 32 := 1#32
  let v37 : BitVec 32 := Scalar.subi v22 c1_i32_13
  let v38 : BitVec 32 := Scalar.select v36 v37 v22
  let c2_i32_14 : BitVec 32 := 2#32
  let c0_i32_15 : BitVec 32 := 0#32
  let v39 : BitVec 1 := Scalar.cmpi .eq c2_i32_14 c0_i32_15
  let c1_i32_16 : BitVec 32 := 1#32
  let v40 : BitVec 32 := Scalar.select v39 c1_i32_16 c2_i32_14
  let v41 : BitVec 32 := Scalar.remsi v38 v40
  let c0_i32_18 : BitVec 32 := 0#32
  let v43 : BitVec 1 := Scalar.cmpi .slt v41 c0_i32_18
  let c0_i32_19 : BitVec 32 := 0#32
  let v44 : BitVec 1 := Scalar.cmpi .slt v40 c0_i32_19
  let v45 : BitVec 1 := Scalar.xori v43 v44
  let c0_i32_17 : BitVec 32 := 0#32
  let v42 : BitVec 1 := Scalar.cmpi .ne v41 c0_i32_17
  let v46 : BitVec 1 := Scalar.andi v45 v42
  let v47 : BitVec 32 := Scalar.addi v41 v40
  let v48 : BitVec 32 := Scalar.select v46 v47 v41
  let c1_i32_20 : BitVec 32 := 1#32
  let v49 : BitVec 1 := Scalar.cmpi .eq v48 c1_i32_20
  let v50 : BitVec 32 := Scalar.extui v49
  let c0_i32_21 : BitVec 32 := 0#32
  let v51 : BitVec 1 := Scalar.cmpi .ne v50 c0_i32_21
  v51

def k0_cond5 (v1 : BitVec 32) : BitVec 1 :=
  let c0_i32_23 : BitVec 32 := 0#32
  let v53 : BitVec 1 := Scalar.cmpi .sgt v1 c0_i32_23
  let v54 : BitVec 32 := Scalar.extui v53
  let c0_i32_24 : BitVec 32 := 0#32
  let v55 : BitVec 1 := Scalar.cmpi .slt v1 c0_i32_24
  let v56 : BitVec 32 := Scalar.extui v55
  let v57 : BitVec 32 := Scalar.subi v54 v56
  let c2_i32_22 : BitVec 32 := 2#32
  let c0_i32_25 : BitVec 32 := 0#32
  let v58 : BitVec 1 := Scalar.cmpi .sgt c2_i32_22 c0_i32_25
  let v59 : BitVec 32 := Scalar.extui v58
  let c0_i32_26 : BitVec 32 := 0#32
  let v60 : BitVec 1 := Scalar.cmpi .slt c2_i32_22 c0_i32_26
  let v61 : BitVec 32 := Scalar.extui v60
  let v62 : BitVec 32 := Scalar.subi v59 v61
  let v63 : BitVec 1 := Scalar.cmpi .ne v57 v62
  let v64 : BitVec 32 := Scalar.remsi v1 c2_i32_22
  let c0_i32_27 : BitVec 32 := 0#32
  let v65 : BitVec 1 := Scalar.cmpi .ne v64 c0_i32_27
  let v66 : BitVec 1 := Scalar.andi v63 v65
  let v52 : BitVec 32 := Scalar.divsi v1 c2_i32_22
  let c1_i32_28 : BitVec 32 := 1#32
  let v67 : BitVec 32 := Scalar.subi v52 c1_i32_28
  let v68 : BitVec 32 := Scalar.select v66 v67 v52
  let c2_i32_29 : BitVec 32 := 2#32
  let c0_i32_30 : BitVec 32 := 0#32
  let v69 : BitVec 1 := Scalar.cmpi .eq c2_i32_29 c0_i32_30
  let c1_i32_31 : BitVec 32 := 1#32
  let v70 : BitVec 32 := Scalar.select v69 c1_i32_31 c2_i32_29
  let v71 : BitVec 32 := Scalar.remsi v68 v70
  let c0_i32_33 : BitVec 32 := 0#32
  let v73 : BitVec 1 := Scalar.cmpi .slt v71 c0_i32_33
  let c0_i32_34 : BitVec 32 := 0#32
  let v74 : BitVec 1 := Scalar.cmpi .slt v70 c0_i32_34
  let v75 : BitVec 1 := Scalar.xori v73 v74
  let c0_i32_32 : BitVec 32 := 0#32
  let v72 : BitVec 1 := Scalar.cmpi .ne v71 c0_i32_32
  let v76 : BitVec 1 := Scalar.andi v75 v72
  let v77 : BitVec 32 := Scalar.addi v71 v70
  let v78 : BitVec 32 := Scalar.select v76 v77 v71
  let c0_i32_35 : BitVec 32 := 0#32
  let v79 : BitVec 1 := Scalar.cmpi .eq v78 c0_i32_35
  let v80 : BitVec 32 := Scalar.extui v79
  let c0_i32_36 : BitVec 32 := 0#32
  let v81 : BitVec 1 := Scalar.cmpi .ne v80 c0_i32_36
  v81

def cc0_transform_0 (k0_off1_inb : ∀ i : grid0.Coords, ∀ a, (k0_off1 i) a + S1.size a ≤ S336.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S336) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S336.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S336) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== DownReferenceIdeal.lean ====
abbrev S336 : Shape := ⟨1, ![336]⟩
abbrev S86016x1024 : Shape := ⟨2, ![86016, 1024]⟩
abbrev S64x1024x4096 : Shape := ⟨3, ![64, 1024, 4096]⟩
abbrev S336x256x1024 : Shape := ⟨3, ![336, 256, 1024]⟩
abbrev S336x256x64x4096 : Shape := ⟨4, ![336, 256, 64, 4096]⟩
abbrev S336x1 : Shape := ⟨2, ![336, 1]⟩
abbrev S64 : Shape := ⟨1, ![64]⟩
abbrev S1x64 : Shape := ⟨2, ![1, 64]⟩
abbrev S336x64 : Shape := ⟨2, ![336, 64]⟩
abbrev S336x1x64x1 : Shape := ⟨4, ![336, 1, 64, 1]⟩
abbrev S_ : Shape := ⟨0, ![]⟩
abbrev S336x256x4096 : Shape := ⟨3, ![336, 256, 4096]⟩
abbrev S336x1x1 : Shape := ⟨3, ![336, 1, 1]⟩
abbrev S86016x4096 : Shape := ⟨2, ![86016, 4096]⟩

abbrev nBuf : Space → Nat
  | .hbm => 36
  | .vmem => 0
  | .smem => 0
  | _ => 0

abbrev bufTy : (tb : Table) → Fin (tcTables nBuf tb) → BufTy
  | .hbm, ⟨0, _⟩ => ⟨S336, .i32⟩
  | .hbm, ⟨1, _⟩ => ⟨S336, .i32⟩
  | .hbm, ⟨2, _⟩ => ⟨S336, .i32⟩
  | .hbm, ⟨3, _⟩ => ⟨S336, .i32⟩
  | .hbm, ⟨4, _⟩ => ⟨S86016x1024, .bf16⟩
  | .hbm, ⟨5, _⟩ => ⟨S64x1024x4096, .f32⟩
  | .hbm, ⟨6, _⟩ => ⟨S86016x1024, .f32⟩
  | .hbm, ⟨7, _⟩ => ⟨S336x256x1024, .f32⟩
  | .hbm, ⟨8, _⟩ => ⟨S336x256x64x4096, .f32⟩
  | .hbm, ⟨9, _⟩ => ⟨S336x1, .i32⟩
  | .hbm, ⟨10, _⟩ => ⟨S64, .i32⟩
  | .hbm, ⟨11, _⟩ => ⟨S1x64, .i32⟩
  | .hbm, ⟨12, _⟩ => ⟨S336x64, .i32⟩
  | .hbm, ⟨13, _⟩ => ⟨S336x64, .i32⟩
  | .hbm, ⟨14, _⟩ => ⟨S336x64, .i1⟩
  | .hbm, ⟨15, _⟩ => ⟨S336x1x64x1, .i1⟩
  | .hbm, ⟨16, _⟩ => ⟨S_, .f32⟩
  | .hbm, ⟨17, _⟩ => ⟨S_, .f32⟩
  | .hbm, ⟨18, _⟩ => ⟨S336x256x64x4096, .i1⟩
  | .hbm, ⟨19, _⟩ => ⟨S336x256x64x4096, .f32⟩
  | .hbm, ⟨20, _⟩ => ⟨S336x256x64x4096, .f32⟩
  | .hbm, ⟨21, _⟩ => ⟨S_, .f32⟩
  | .hbm, ⟨22, _⟩ => ⟨S336x256x4096, .f32⟩
  | .hbm, ⟨23, _⟩ => ⟨S_, .i32⟩
  | .hbm, ⟨24, _⟩ => ⟨S336, .i32⟩
  | .hbm, ⟨25, _⟩ => ⟨S336, .i32⟩
  | .hbm, ⟨26, _⟩ => ⟨S_, .i32⟩
  | .hbm, ⟨27, _⟩ => ⟨S336, .i32⟩
  | .hbm, ⟨28, _⟩ => ⟨S336, .i1⟩
  | .hbm, ⟨29, _⟩ => ⟨S336x1x1, .i1⟩
  | .hbm, ⟨30, _⟩ => ⟨S_, .f32⟩
  | .hbm, ⟨31, _⟩ => ⟨S_, .f32⟩
  | .hbm, ⟨32, _⟩ => ⟨S336x256x4096, .i1⟩
  | .hbm, ⟨33, _⟩ => ⟨S336x256x4096, .f32⟩
  | .hbm, ⟨34, _⟩ => ⟨S336x256x4096, .f32⟩
  | .hbm, ⟨35, _⟩ => ⟨S86016x4096, .f32⟩
  | _, _ => ⟨S336, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Up.lean ====
abbrev S672 : Shape := ⟨1, ![672]⟩
abbrev S86016x2048 : Shape := ⟨2, ![86016, 2048]⟩
abbrev S64x4096x1024 : Shape := ⟨3, ![64, 4096, 1024]⟩
abbrev S86016x1024 : Shape := ⟨2, ![86016, 1024]⟩
abbrev S256x2048 : Shape := ⟨2, ![256, 2048]⟩
abbrev S1 : Shape := ⟨1, ![1]⟩
abbrev S256x512 : Shape := ⟨2, ![256, 512]⟩
abbrev S4096x512 : Shape := ⟨2, ![4096, 512]⟩
abbrev S2x4096x512 : Shape := ⟨3, ![2, 4096, 512]⟩
abbrev S2 : Shape := ⟨1, ![2]⟩
abbrev S_ : Shape := ⟨0, ![]⟩
abbrev S1x4096x512 : Shape := ⟨3, ![1, 4096, 512]⟩
abbrev S2048x512 : Shape := ⟨2, ![2048, 512]⟩

abbrev nBuf : Space → Nat
  | .hbm => 4
  | .vmem => 7
  | .smem => 6
  | _ => 0

abbrev bufTy : (tb : Table) → Fin (tcTables nBuf tb) → BufTy
  | .hbm, ⟨0, _⟩ => ⟨S86016x2048, .i32⟩
  | .hbm, ⟨1, _⟩ => ⟨S64x4096x1024, .f32⟩
  | .hbm, ⟨2, _⟩ => ⟨S64x4096x1024, .f32⟩
  | .hbm, ⟨3, _⟩ => ⟨S86016x1024, .bf16⟩
  | .local _ .vmem, ⟨0, _⟩ => ⟨S256x2048, .i32⟩
  | .local _ .vmem, ⟨1, _⟩ => ⟨S256x2048, .i32⟩
  | .local _ .vmem, ⟨2, _⟩ => ⟨S256x512, .bf16⟩
  | .local _ .vmem, ⟨3, _⟩ => ⟨S256x512, .bf16⟩
  | .local _ .vmem, ⟨4, _⟩ => ⟨S4096x512, .bf16⟩
  | .local _ .vmem, ⟨5, _⟩ => ⟨S4096x512, .bf16⟩
  | .local _ .vmem, ⟨6, _⟩ => ⟨S2x4096x512, .f32⟩
  | .local _ .smem, ⟨0, _⟩ => ⟨S672, .i32⟩
  | .local _ .smem, ⟨1, _⟩ => ⟨S672, .i32⟩
  | .local _ .smem, ⟨2, _⟩ => ⟨S672, .i32⟩
  | .local _ .smem, ⟨3, _⟩ => ⟨S672, .i32⟩
  | .local _ .smem, ⟨4, _⟩ => ⟨S672, .i32⟩
  | .local _ .smem, ⟨5, _⟩ => ⟨S672, .i32⟩
  | _, _ => ⟨S86016x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg6 : Ref sig .tc := ⟨.hbm, 0, rfl⟩
abbrev main_arg7 : Ref sig .tc := ⟨.hbm, 1, rfl⟩
abbrev main_arg8 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![672], ![false]⟩

abbrev pre0 : Pipeline.Prefetch sig := ⟨6, ![main_arg0.idx, main_arg1.idx, main_arg2.idx, main_arg3.idx, main_arg4.idx, main_arg5.idx], fun | 0 => main_arg0.names | 1 => main_arg1.names | 2 => main_arg2.names | 3 => main_arg3.names | 4 => main_arg4.names | 5 => main_arg5.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_0 : BitVec 32 := 0#32
  let v12 : BitVec 1 := Scalar.cmpi .ne v11 c0_i32_0
  v12

def k0_mult1 (v5 : BitVec 32) : BitVec 32 :=
  let c512_i32 : BitVec 32 := 512#32
  let v86 : BitVec 32 := Scalar.muli v5 c512_i32
  v86

def k0_off2 (v3 : BitVec 32) (v5 : BitVec 32) : Fin 3 → Nat :=
  let c0_i32_41 : BitVec 32 := 0#32
  let c512_i32 : BitVec 32 := 512#32
  let v86 : BitVec 32 := Scalar.muli v5 c512_i32
  let v87 : BitVec 32 := v86
  ![v3.toNat, 0, v87.toNat]
def k0_mult2 (v5 : BitVec 32) : BitVec 32 :=
  let c512_i32 : BitVec 32 := 512#32
  let v86 : BitVec 32 := Scalar.muli v5 c512_i32
  v86
def k0_cond2 (v1 : BitVec 32) : BitVec 1 :=
  let c2_i32 : BitVec 32 := 2#32
  let c0_i32_1 : BitVec 32 := 0#32
  let v13 : BitVec 1 := Scalar.cmpi .eq c2_i32 c0_i32_1
  let c1_i32 : BitVec 32 := 1#32
  let v14 : BitVec 32 := Scalar.select v13 c1_i32 c2_i32
  let v15 : BitVec 32 := Scalar.remsi v1 v14
  let c0_i32_3 : BitVec 32 := 0#32
  let v17 : BitVec 1 := Scalar.cmpi .slt v15 c0_i32_3
  let c0_i32_4 : BitVec 32 := 0#32
  let v18 : BitVec 1 := Scalar.cmpi .slt v14 c0_i32_4
  let v19 : BitVec 1 := Scalar.xori v17 v18
  let c0_i32_2 : BitVec 32 := 0#32
  let v16 : BitVec 1 := Scalar.cmpi .ne v15 c0_i32_2
  let v20 : BitVec 1 := Scalar.andi v19 v16
  let v21 : BitVec 32 := Scalar.addi v15 v14
  let v22 : BitVec 32 := Scalar.select v20 v21 v15
  let c1_i32_5 : BitVec 32 := 1#32
  let v23 : BitVec 1 := Scalar.cmpi .eq v22 c1_i32_5
  let v24 : BitVec 32 := Scalar.extui v23
  let c0_i32_6 : BitVec 32 := 0#32
  let v25 : BitVec 1 := Scalar.cmpi .ne v24 c0_i32_6
  v25

def k0_off3 (v3 : BitVec 32) (v5 : BitVec 32) : Fin 3 → Nat :=
  let c0_i32_41 : BitVec 32 := 0#32
  let c512_i32 : BitVec 32 := 512#32
  let v86 : BitVec 32 := Scalar.muli v5 c512_i32
  let v87 : BitVec 32 := v86
  ![v3.toNat, 0, v87.toNat]

def k0_chk1 (i : grid0.Coords) (v1 : BitVec 32) (v3 : BitVec 32) (v5 : BitVec 32) : Prop :=
  (∀ (k0_h1 : k0_cond1 i = 1#1), 512 ∣ (k0_mult1 v5).toNat) ∧
  (∀ (k0_h1 : k0_cond1 i = 1#1), ∀ a, (k0_off2 v3 v5) a + S1x4096x512.size a ≤ S64x4096x1024.size a) ∧
  (∀ (k0_h2 : k0_cond2 v1 = 1#1), 512 ∣ (k0_mult2 v5).toNat) ∧
  (∀ (k0_h2 : k0_cond2 v1 = 1#1), ∀ a, (k0_off3 v3 v5) a + S1x4096x512.size a ≤ S64x4096x1024.size a)
theorem k0_mult1_dvd : ∀ (i : grid0.Coords) (v1 : BitVec 32) (v3 : BitVec 32) (v5 : BitVec 32) (k0_hw1 : k0_chk1 i v1 v3 v5), ∀ (k0_h1 : k0_cond1 i = 1#1), 512 ∣ (k0_mult1 v5).toNat := fun i v1 v3 v5 k0_hw1 k0_h1 => k0_hw1.1 k0_h1
theorem k0_off2_inb : ∀ (i : grid0.Coords) (v1 : BitVec 32) (v3 : BitVec 32) (v5 : BitVec 32) (k0_hw1 : k0_chk1 i v1 v3 v5), ∀ (k0_h1 : k0_cond1 i = 1#1), ∀ a, (k0_off2 v3 v5) a + S1x4096x512.size a ≤ S64x4096x1024.size a := fun i v1 v3 v5 k0_hw1 k0_h1 => k0_hw1.2.1 k0_h1
theorem k0_mult2_dvd : ∀ (i : grid0.Coords) (v1 : BitVec 32) (v3 : BitVec 32) (v5 : BitVec 32) (k0_hw1 : k0_chk1 i v1 v3 v5), ∀ (k0_h2 : k0_cond2 v1 = 1#1), 512 ∣ (k0_mult2 v5).toNat := fun i v1 v3 v5 k0_hw1 k0_h2 => k0_hw1.2.2.1 k0_h2
theorem k0_off3_inb : ∀ (i : grid0.Coords) (v1 : BitVec 32) (v3 : BitVec 32) (v5 : BitVec 32) (k0_hw1 : k0_chk1 i v1 v3 v5), ∀ (k0_h2 : k0_cond2 v1 = 1#1), ∀ a, (k0_off3 v3 v5) a + S1x4096x512.size a ≤ S64x4096x1024.size a := fun i v1 v3 v5 k0_hw1 k0_h2 => k0_hw1.2.2.2 k0_h2

def k0_mult3 (v9 : BitVec 32) : BitVec 32 :=
  let c512_i32_56 : BitVec 32 := 512#32
  let v115 : BitVec 32 := Scalar.muli v9 c512_i32_56
  v115
def k0_cond3 (v1 : BitVec 32) : BitVec 1 :=
  let c4_i32 : BitVec 32 := 4#32
  let v112 : BitVec 1 := Scalar.cmpi .sge v1 c4_i32
  let v113 : BitVec 32 := Scalar.extui v112
  let c0_i32_55 : BitVec 32 := 0#32
  let v114 : BitVec 1 := Scalar.cmpi .ne v113 c0_i32_55
  v114

def k0_off4 (v7 : BitVec 32) (v9 : BitVec 32) : Fin 3 → Nat :=
  let c0_i32_61 : BitVec 32 := 0#32
  let c512_i32_56 : BitVec 32 := 512#32
  let v115 : BitVec 32 := Scalar.muli v9 c512_i32_56
  let v116 : BitVec 32 := v115
  ![v7.toNat, 0, v116.toNat]

def k0_chk2 (v1 : BitVec 32) (v7 : BitVec 32) (v9 : BitVec 32) : Prop :=
  (∀ (k0_h2 : k0_cond2 v1 = 1#1), ∀ (k0_h3 : k0_cond3 v1 = 1#1), 512 ∣ (k0_mult3 v9).toNat) ∧
  (∀ (k0_h2 : k0_cond2 v1 = 1#1), ∀ (k0_h3 : k0_cond3 v1 = 1#1), ∀ a, (k0_off4 v7 v9) a + S1x4096x512.size a ≤ S64x4096x1024.size a)
theorem k0_mult3_dvd : ∀ (v1 : BitVec 32) (v7 : BitVec 32) (v9 : BitVec 32) (k0_hw2 : k0_chk2 v1 v7 v9), ∀ (k0_h2 : k0_cond2 v1 = 1#1), ∀ (k0_h3 : k0_cond3 v1 = 1#1), 512 ∣ (k0_mult3 v9).toNat := fun v1 v7 v9 k0_hw2 k0_h2 k0_h3 => k0_hw2.1 k0_h2 k0_h3
theorem k0_off4_inb : ∀ (v1 : BitVec 32) (v7 : BitVec 32) (v9 : BitVec 32) (k0_hw2 : k0_chk2 v1 v7 v9), ∀ (k0_h2 : k0_cond2 v1 = 1#1), ∀ (k0_h3 : k0_cond3 v1 = 1#1), ∀ a, (k0_off4 v7 v9) a + S1x4096x512.size a ≤ S64x4096x1024.size a := fun v1 v7 v9 k0_hw2 k0_h2 k0_h3 => k0_hw2.2 k0_h2 k0_h3

def k0_cond4 (v1 : BitVec 32) : BitVec 1 :=
  let c0_i32_8 : BitVec 32 := 0#32
  let v27 : BitVec 1 := Scalar.cmpi .sgt v1 c0_i32_8
  let v28 : BitVec 32 := Scalar.extui v27
  let c0_i32_9 : BitVec 32 := 0#32
  let v29 : BitVec 1 := Scalar.cmpi .slt v1 c0_i32_9
  let v30 : BitVec 32 := Scalar.extui v29
  let v31 : BitVec 32 := Scalar.subi v28 v30
  let c2_i32_7 : BitVec 32 := 2#32
  let c0_i32_10 : BitVec 32 := 0#32
  let v32 : BitVec 1 := Scalar.cmpi .sgt c2_i32_7 c0_i32_10
  let v33 : BitVec 32 := Scalar.extui v32
  let c0_i32_11 : BitVec 32 := 0#32
  let v34 : BitVec 1 := Scalar.cmpi .slt c2_i32_7 c0_i32_11
  let v35 : BitVec 32 := Scalar.extui v34
  let v36 : BitVec 32 := Scalar.subi v33 v35
  let v37 : BitVec 1 := Scalar.cmpi .ne v31 v36
  let v38 : BitVec 32 := Scalar.remsi v1 c2_i32_7
  let c0_i32_12 : BitVec 32 := 0#32
  let v39 : BitVec 1 := Scalar.cmpi .ne v38 c0_i32_12
  let v40 : BitVec 1 := Scalar.andi v37 v39
  let v26 : BitVec 32 := Scalar.divsi v1 c2_i32_7
  let c1_i32_13 : BitVec 32 := 1#32
  let v41 : BitVec 32 := Scalar.subi v26 c1_i32_13
  let v42 : BitVec 32 := Scalar.select v40 v41 v26
  let c2_i32_14 : BitVec 32 := 2#32
  let c0_i32_15 : BitVec 32 := 0#32
  let v43 : BitVec 1 := Scalar.cmpi .eq c2_i32_14 c0_i32_15
  let c1_i32_16 : BitVec 32 := 1#32
  let v44 : BitVec 32 := Scalar.select v43 c1_i32_16 c2_i32_14
  let v45 : BitVec 32 := Scalar.remsi v42 v44
  let c0_i32_18 : BitVec 32 := 0#32
  let v47 : BitVec 1 := Scalar.cmpi .slt v45 c0_i32_18
  let c0_i32_19 : BitVec 32 := 0#32
  let v48 : BitVec 1 := Scalar.cmpi .slt v44 c0_i32_19
  let v49 : BitVec 1 := Scalar.xori v47 v48
  let c0_i32_17 : BitVec 32 := 0#32
  let v46 : BitVec 1 := Scalar.cmpi .ne v45 c0_i32_17
  let v50 : BitVec 1 := Scalar.andi v49 v46
  let v51 : BitVec 32 := Scalar.addi v45 v44
  let v52 : BitVec 32 := Scalar.select v50 v51 v45
  let c1_i32_20 : BitVec 32 := 1#32
  let v53 : BitVec 1 := Scalar.cmpi .eq v52 c1_i32_20
  let v54 : BitVec 32 := Scalar.extui v53
  let c0_i32_21 : BitVec 32 := 0#32
  let v55 : BitVec 1 := Scalar.cmpi .ne v54 c0_i32_21
  v55

def k0_cond5 (v1 : BitVec 32) : BitVec 1 :=
  let c0_i32_23 : BitVec 32 := 0#32
  let v57 : BitVec 1 := Scalar.cmpi .sgt v1 c0_i32_23
  let v58 : BitVec 32 := Scalar.extui v57
  let c0_i32_24 : BitVec 32 := 0#32
  let v59 : BitVec 1 := Scalar.cmpi .slt v1 c0_i32_24
  let v60 : BitVec 32 := Scalar.extui v59
  let v61 : BitVec 32 := Scalar.subi v58 v60
  let c2_i32_22 : BitVec 32 := 2#32
  let c0_i32_25 : BitVec 32 := 0#32
  let v62 : BitVec 1 := Scalar.cmpi .sgt c2_i32_22 c0_i32_25
  let v63 : BitVec 32 := Scalar.extui v62
  let c0_i32_26 : BitVec 32 := 0#32
  let v64 : BitVec 1 := Scalar.cmpi .slt c2_i32_22 c0_i32_26
  let v65 : BitVec 32 := Scalar.extui v64
  let v66 : BitVec 32 := Scalar.subi v63 v65
  let v67 : BitVec 1 := Scalar.cmpi .ne v61 v66
  let v68 : BitVec 32 := Scalar.remsi v1 c2_i32_22
  let c0_i32_27 : BitVec 32 := 0#32
  let v69 : BitVec 1 := Scalar.cmpi .ne v68 c0_i32_27
  let v70 : BitVec 1 := Scalar.andi v67 v69
  let v56 : BitVec 32 := Scalar.divsi v1 c2_i32_22
  let c1_i32_28 : BitVec 32 := 1#32
  let v71 : BitVec 32 := Scalar.subi v56 c1_i32_28
  let v72 : BitVec 32 := Scalar.select v70 v71 v56
  let c2_i32_29 : BitVec 32 := 2#32
  let c0_i32_30 : BitVec 32 := 0#32
  let v73 : BitVec 1 := Scalar.cmpi .eq c2_i32_29 c0_i32_30
  let c1_i32_31 : BitVec 32 := 1#32
  let v74 : BitVec 32 := Scalar.select v73 c1_i32_31 c2_i32_29
  let v75 : BitVec 32 := Scalar.remsi v72 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let c0_i32_35 : BitVec 32 := 0#32
  let v83 : BitVec 1 := Scalar.cmpi .eq v82 c0_i32_35
  let v84 : BitVec 32 := Scalar.extui v83
  let c0_i32_36 : BitVec 32 := 0#32
  let v85 : BitVec 1 := Scalar.cmpi .ne v84 c0_i32_36
  v85

def cc0_transform_0 (k0_off1_inb : ∀ i : grid0.Coords, ∀ a, (k0_off1 i) a + S1.size a ≤ S672.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S672.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let v2 : Index := Scalar.indexCast arg0
  let v3 : BitVec 32 := pf.at 1 (Rect.unit (s := S672) ![v2.toNat] S1.size (k0_off1_inb i)) numel1_S1
  let c0_i32 : BitVec 32 := 0#32
  ![v1.toNat, v3.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== UpReferenceIdeal.lean ====
abbrev S672 : Shape := ⟨1, ![672]⟩
abbrev S86016x2048 : Shape := ⟨2, ![86016, 2048]⟩
abbrev S64x4096x1024 : Shape := ⟨3, ![64, 4096, 1024]⟩
abbrev S1x672x1 : Shape := ⟨3, ![1, 672, 1]⟩
abbrev S336 : Shape := ⟨1, ![336]⟩
abbrev S336x1x1 : Shape := ⟨3, ![336, 1, 1]⟩
abbrev S336x672x1 : Shape := ⟨3, ![336, 672, 1]⟩
abbrev S64 : Shape := ⟨1, ![64]⟩
abbrev S1x1x64 : Shape := ⟨3, ![1, 1, 64]⟩
abbrev S1x672x64 : Shape := ⟨3, ![1, 672, 64]⟩
abbrev S336x672x64 : Shape := ⟨3, ![336, 672, 64]⟩
abbrev S_ : Shape := ⟨0, ![]⟩
abbrev S336x64 : Shape := ⟨2, ![336, 64]⟩
abbrev S86016x2048x2 : Shape := ⟨3, ![86016, 2048, 2]⟩
abbrev S86016x2048x1 : Shape := ⟨3, ![86016, 2048, 1]⟩
abbrev S86016x4096 : Shape := ⟨2, ![86016, 4096]⟩
abbrev S336x256x4096 : Shape := ⟨3, ![336, 256, 4096]⟩
abbrev S336x256x64x1024 : Shape := ⟨4, ![336, 256, 64, 1024]⟩
abbrev S336x1x64x1 : Shape := ⟨4, ![336, 1, 64, 1]⟩
abbrev S336x256x1024 : Shape := ⟨3, ![336, 256, 1024]⟩
abbrev S86016x1024 : Shape := ⟨2, ![86016, 1024]⟩

abbrev nBuf : Space → Nat
  | .hbm => 65
  | .vmem => 0
  | .smem => 0
  | _ => 0

abbrev bufTy : (tb : Table) → Fin (tcTables nBuf tb) → BufTy
  | .hbm, ⟨0, _⟩ => ⟨S672, .i32⟩
  | .hbm, ⟨1, _⟩ => ⟨S672, .i32⟩
  | .hbm, ⟨2, _⟩ => ⟨S672, .i32⟩
  | .hbm, ⟨3, _⟩ => ⟨S672, .i32⟩
  | .hbm, ⟨4, _⟩ => ⟨S672, .i32⟩
  | .hbm, ⟨5, _⟩ => ⟨S672, .i32⟩
  | .hbm, ⟨6, _⟩ => ⟨S86016x2048, .i32⟩
  | .hbm, ⟨7, _⟩ => ⟨S64x4096x1024, .f32⟩
  | .hbm, ⟨8, _⟩ => ⟨S64x4096x1024, .f32⟩
  | .hbm, ⟨9, _⟩ => ⟨S1x672x1, .i32⟩
  | .hbm, ⟨10, _⟩ => ⟨S336, .i32⟩
  | .hbm, ⟨11, _⟩ => ⟨S336x1x1, .i32⟩
  | .hbm, ⟨12, _⟩ => ⟨S336x672x1, .i32⟩
  | .hbm, ⟨13, _⟩ => ⟨S336x672x1, .i32⟩
  | .hbm, ⟨14, _⟩ => ⟨S336x672x1, .i1⟩
  | .hbm, ⟨15, _⟩ => ⟨S1x672x1, .i32⟩
  | .hbm, ⟨16, _⟩ => ⟨S64, .i32⟩
  | .hbm, ⟨17, _⟩ => ⟨S1x1x64, .i32⟩
  | .hbm, ⟨18, _⟩ => ⟨S1x672x64, .i32⟩
  | .hbm, ⟨19, _⟩ => ⟨S1x672x64, .i32⟩
  | .hbm, ⟨20, _⟩ => ⟨S1x672x64, .i1⟩
  | .hbm, ⟨21, _⟩ => ⟨S336x672x64, .i1⟩
  | .hbm, ⟨22, _⟩ => ⟨S336x672x64, .i1⟩
  | .hbm, ⟨23, _⟩ => ⟨S336x672x64, .i1⟩
  | .hbm, ⟨24, _⟩ => ⟨S_, .i32⟩
  | .hbm, ⟨25, _⟩ => ⟨S672, .i32⟩
  | .hbm, ⟨26, _⟩ => ⟨S672, .i32⟩
  | .hbm, ⟨27, _⟩ => ⟨S_, .i32⟩
  | .hbm, ⟨28, _⟩ => ⟨S672, .i32⟩
  | .hbm, ⟨29, _⟩ => ⟨S672, .i1⟩
  | .hbm, ⟨30, _⟩ => ⟨S1x672x1, .i1⟩
  | .hbm, ⟨31, _⟩ => ⟨S336x672x64, .i1⟩
  | .hbm, ⟨32, _⟩ => ⟨S336x672x64, .i1⟩
  | .hbm, ⟨33, _⟩ => ⟨S_, .i1⟩
  | .hbm, ⟨34, _⟩ => ⟨S336x64, .i1⟩
  | .hbm, ⟨35, _⟩ => ⟨S86016x2048x2, .bf16⟩
  | .hbm, ⟨36, _⟩ => ⟨S86016x2048x1, .bf16⟩
  | .hbm, ⟨37, _⟩ => ⟨S86016x2048, .bf16⟩
  | .hbm, ⟨38, _⟩ => ⟨S86016x2048x1, .bf16⟩
  | .hbm, ⟨39, _⟩ => ⟨S86016x2048, .bf16⟩
  | .hbm, ⟨40, _⟩ => ⟨S86016x4096, .bf16⟩
  | .hbm, ⟨41, _⟩ => ⟨S86016x4096, .f32⟩
  | .hbm, ⟨42, _⟩ => ⟨S336x256x4096, .f32⟩
  | .hbm, ⟨43, _⟩ => ⟨S336x256x64x1024, .f32⟩
  | .hbm, ⟨44, _⟩ => ⟨S336x256x64x1024, .f32⟩
  | .hbm, ⟨45, _⟩ => ⟨S336x256x64x1024, .f32⟩
  | .hbm, ⟨46, _⟩ => ⟨S_, .f32⟩
  | .hbm, ⟨47, _⟩ => ⟨S336x256x64x1024, .f32⟩
  | .hbm, ⟨48, _⟩ => ⟨S336x256x64x1024, .f32⟩
  | .hbm, ⟨49, _⟩ => ⟨S_, .f32⟩
  | .hbm, ⟨50, _⟩ => ⟨S336x256x64x1024, .f32⟩
  | .hbm, ⟨51, _⟩ => ⟨S336x256x64x1024, .f32⟩
  | .hbm, ⟨52, _⟩ => ⟨S336x256x64x1024, .f32⟩
  | .hbm, ⟨53, _⟩ => ⟨S336x256x64x1024, .f32⟩
  | .hbm, ⟨54, _⟩ => ⟨S336x256x64x1024, .f32⟩
  | .hbm, ⟨55, _⟩ => ⟨S336x1x64x1, .i1⟩
  | .hbm, ⟨56, _⟩ => ⟨S_, .f32⟩
  | .hbm, ⟨57, _⟩ => ⟨S_, .f32⟩
  | .hbm, ⟨58, _⟩ => ⟨S336x256x64x1024, .i1⟩
  | .hbm, ⟨59, _⟩ => ⟨S336x256x64x1024, .f32⟩
  | .hbm, ⟨60, _⟩ => ⟨S336x256x64x1024, .f32⟩
  | .hbm, ⟨61, _⟩ => ⟨S_, .f32⟩
  | .hbm, ⟨62, _⟩ => ⟨S336x256x1024, .f32⟩
  | .hbm, ⟨63, _⟩ => ⟨S86016x1024, .f32⟩
  | .hbm, ⟨64, _⟩ => ⟨S86016x1024, .bf16⟩
  | _, _ => ⟨S672, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== Means.lean ====
abbrev S8704x2048 : Shape := ⟨2, ![8704, 2048]⟩
abbrev S32x1x2048 : Shape := ⟨3, ![32, 1, 2048]⟩
abbrev S256x2048 : Shape := ⟨2, ![256, 2048]⟩
abbrev S1x1x2048 : Shape := ⟨3, ![1, 1, 2048]⟩
abbrev S2048 : Shape := ⟨1, ![2048]⟩
abbrev S1x2048 : Shape := ⟨2, ![1, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8704x2048, .f32⟩
  | .hbm, ⟨1, _⟩ => ⟨S32x1x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== MeansReferenceIdeal.lean ====
abbrev S8704x2048 : Shape := ⟨2, ![8704, 2048]⟩
abbrev S8192x2048 : Shape := ⟨2, ![8192, 2048]⟩
abbrev S32x256x2048 : Shape := ⟨3, ![32, 256, 2048]⟩
abbrev S_ : Shape := ⟨0, ![]⟩
abbrev S32x2048 : Shape := ⟨2, ![32, 2048]⟩
abbrev S32x1x2048 : Shape := ⟨3, ![32, 1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8192x2048, .f32⟩
  | .hbm, ⟨2, _⟩ => ⟨S32x256x2048, .f32⟩
  | .hbm, ⟨3, _⟩ => ⟨S_, .f32⟩
  | .hbm, ⟨4, _⟩ => ⟨S32x2048, .f32⟩
  | .hbm, ⟨5, _⟩ => ⟨S_, .f32⟩
  | .hbm, ⟨6, _⟩ => ⟨S32x2048, .f32⟩
  | .hbm, ⟨7, _⟩ => ⟨S32x2048, .f32⟩
  | .hbm, ⟨8, _⟩ => ⟨S32x1x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mixed.lean ====
abbrev S8192x4096 : Shape := ⟨2, ![8192, 4096]⟩
abbrev S512x4096 : Shape := ⟨2, ![512, 4096]⟩
abbrev S8704x4096 : Shape := ⟨2, ![8704, 4096]⟩
abbrev S4096 : Shape := ⟨1, ![4096]⟩
abbrev S1x4096 : Shape := ⟨2, ![1, 4096]⟩
abbrev S1x4096x64 : Shape := ⟨3, ![1, 4096, 64]⟩
abbrev S1x64 : Shape := ⟨2, ![1, 64]⟩
abbrev S4096x64 : Shape := ⟨2, ![4096, 64]⟩
abbrev S64 : Shape := ⟨1, ![64]⟩
abbrev S64x4096 : Shape := ⟨2, ![64, 4096]⟩
abbrev S64x1 : Shape := ⟨2, ![64, 1]⟩
abbrev S8x8704 : Shape := ⟨2, ![8, 8704]⟩
abbrev S64x8704 : Shape := ⟨2, ![64, 8704]⟩
abbrev S256x4096 : Shape := ⟨2, ![256, 4096]⟩
abbrev S8x256 : Shape := ⟨2, ![8, 256]⟩
abbrev S64x256 : Shape := ⟨2, ![64, 256]⟩
abbrev S256 : Shape := ⟨1, ![256]⟩
abbrev S256x1 : Shape := ⟨2, ![256, 1]⟩
abbrev S8x8x256 : Shape := ⟨3, ![8, 8, 256]⟩
abbrev S8x1x256 : Shape := ⟨3, ![8, 1, 256]⟩
abbrev S1x256 : Shape := ⟨2, ![1, 256]⟩

abbrev nBuf : Space → Nat
  | .hbm => 27
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S8704x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x4096x64, .f32⟩
  | .hbm, ⟨8, _⟩ => ⟨S1x64, .f32⟩
  | .hbm, ⟨9, _⟩ => ⟨S4096, .f32⟩
  | .hbm, ⟨10, _⟩ => ⟨S4096, .f32⟩
  | .hbm, ⟨11, _⟩ => ⟨S4096x64, .f32⟩
  | .hbm, ⟨12, _⟩ => ⟨S64, .f32⟩
  | .hbm, ⟨13, _⟩ => ⟨S64x4096, .f32⟩
  | .hbm, ⟨14, _⟩ => ⟨S64x4096, .bf16⟩
  | .hbm, ⟨15, _⟩ => ⟨S64x4096, .f32⟩
  | .hbm, ⟨16, _⟩ => ⟨S64x4096, .f32⟩
  | .hbm, ⟨17, _⟩ => ⟨S64x4096, .bf16⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S64x1, .f32⟩
  | .hbm, ⟨23, _⟩ => ⟨S8704x4096, .f32⟩
  | .hbm, ⟨24, _⟩ => ⟨S8x8704, .i32⟩
  | .hbm, ⟨25, _⟩ => ⟨S8x8704, .f32⟩
  | .hbm, ⟨26, _⟩ => ⟨S64x8704, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S64x4096, .bf16⟩
  | .local _ .vmem, ⟨11, _⟩ => ⟨S64x4096, .bf16⟩
  | .local _ .vmem, ⟨12, _⟩ => ⟨S64x1, .f32⟩
  | .local _ .vmem, ⟨13, _⟩ => ⟨S256x4096, .f32⟩
  | .local _ .vmem, ⟨14, _⟩ => ⟨S256x4096, .f32⟩
  | .local _ .vmem, ⟨15, _⟩ => ⟨S8x256, .i32⟩
  | .local _ .vmem, ⟨16, _⟩ => ⟨S8x256, .i32⟩
  | .local _ .vmem, ⟨17, _⟩ => ⟨S8x256, .f32⟩
  | .local _ .vmem, ⟨18, _⟩ => ⟨S8x256, .f32⟩
  | .local _ .vmem, ⟨19, _⟩ => ⟨S64x256, .f32⟩
  | .local _ .vmem, ⟨20, _⟩ => ⟨S64x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixedReferenceIdeal.lean ====
abbrev S8192x4096 : Shape := ⟨2, ![8192, 4096]⟩
abbrev S512x4096 : Shape := ⟨2, ![512, 4096]⟩
abbrev S8704x4096 : Shape := ⟨2, ![8704, 4096]⟩
abbrev S4096 : Shape := ⟨1, ![4096]⟩
abbrev S1x4096 : Shape := ⟨2, ![1, 4096]⟩
abbrev S1x4096x64 : Shape := ⟨3, ![1, 4096, 64]⟩
abbrev S1x64 : Shape := ⟨2, ![1, 64]⟩
abbrev S_ : Shape := ⟨0, ![]⟩
abbrev S8704 : Shape := ⟨1, ![8704]⟩
abbrev S8704x1 : Shape := ⟨2, ![8704, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S8704x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x4096x64, .f32⟩
  | .hbm, ⟨8, _⟩ => ⟨S1x64, .f32⟩
  | .hbm, ⟨9, _⟩ => ⟨S8704x4096, .f32⟩
  | .hbm, ⟨10, _⟩ => ⟨S_, .f32⟩
  | .hbm, ⟨11, _⟩ => ⟨S8704, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x4096, .f32⟩
  | .hbm, ⟨17, _⟩ => ⟨S8704x4096, .f32⟩
  | .hbm, ⟨18, _⟩ => ⟨S8704x4096, .f32⟩
  | .hbm, ⟨19, _⟩ => ⟨S_, .f32⟩
  | .hbm, ⟨20, _⟩ => ⟨S8704, .f32⟩
  | .hbm, ⟨21, _⟩ => ⟨S8704x1, .f32⟩
  | .hbm, ⟨22, _⟩ => ⟨S_, .f32⟩
  | .hbm, ⟨23, _⟩ => ⟨S8704x1, .f32⟩
  | .hbm, ⟨24, _⟩ => ⟨S8704x1, .f32⟩
  | .hbm, ⟨25, _⟩ => ⟨S_, .f32⟩
  | .hbm, ⟨26, _⟩ => ⟨S8704x1, .f32⟩
  | .hbm, ⟨27, _⟩ => ⟨S8704x1, .f32⟩
  | .hbm, ⟨28, _⟩ => ⟨S8704x1, .f32⟩
  | .hbm, ⟨29, _⟩ => ⟨S8704x4096, .f32⟩
  | .hbm, ⟨30, _⟩ => ⟨S8704x4096, .f32⟩
  | .hbm, ⟨31, _⟩ => ⟨S1x4096, .f32⟩
  | .hbm, ⟨32, _⟩ => ⟨S8704x4096, .f32⟩
  | .hbm, ⟨33, _⟩ => ⟨S8704x4096, .f32⟩
  | .hbm, ⟨34, _⟩ => ⟨S1x4096, .f32⟩
  | .hbm, ⟨35, _⟩ => ⟨S8704x4096, .f32⟩
  | .hbm, ⟨36, _⟩ => ⟨S8704x4096, .f32⟩
  | .hbm, ⟨37, _⟩ => ⟨S_, .f32⟩
  | .hbm, ⟨38, _⟩ => ⟨S8704x4096, .f32⟩
  | .hbm, ⟨39, _⟩ => ⟨S8704x4096, .f32⟩
  | .hbm, ⟨40, _⟩ => ⟨S8704x4096, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S8704, .f32⟩
  | .hbm, ⟨45, _⟩ => ⟨S8704x1, .f32⟩
  | .hbm, ⟨46, _⟩ => ⟨S_, .f32⟩
  | .hbm, ⟨47, _⟩ => ⟨S8704x1, .f32⟩
  | .hbm, ⟨48, _⟩ => ⟨S8704x1, .f32⟩
  | .hbm, ⟨49, _⟩ => ⟨S8704x4096, .f32⟩
  | .hbm, ⟨50, _⟩ => ⟨S8704x4096, .f32⟩
  | .hbm, ⟨51, _⟩ => ⟨S8704x4096, .f32⟩
  | .hbm, ⟨52, _⟩ => ⟨S_, .f32⟩
  | .hbm, ⟨53, _⟩ => ⟨S8704, .f32⟩
  | .hbm, ⟨54, _⟩ => ⟨S8704x1, .f32⟩
  | .hbm, ⟨55, _⟩ => ⟨S_, .f32⟩
  | .hbm, ⟨56, _⟩ => ⟨S8704x1, .f32⟩
  | .hbm, ⟨57, _⟩ => ⟨S8704x1, .f32⟩
  | .hbm, ⟨58, _⟩ => ⟨S_, .f32⟩
  | .hbm, ⟨59, _⟩ => ⟨S8704x1, .f32⟩
  | .hbm, ⟨60, _⟩ => ⟨S8704x1, .f32⟩
  | .hbm, ⟨61, _⟩ => ⟨S8704x1, .f32⟩
  | .hbm, ⟨62, _⟩ => ⟨S8704x4096, .f32⟩
  | .hbm, ⟨63, _⟩ => ⟨S8704x4096, .f32⟩
  | .hbm, ⟨64, _⟩ => ⟨S1x4096, .f32⟩
  | .hbm, ⟨65, _⟩ => ⟨S8704x4096, .f32⟩
  | .hbm, ⟨66, _⟩ => ⟨S8704x4096, .f32⟩
  | .hbm, ⟨67, _⟩ => ⟨S1x4096, .f32⟩
  | .hbm, ⟨68, _⟩ => ⟨S8704x4096, .f32⟩
  | .hbm, ⟨69, _⟩ => ⟨S8704x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Proof.Softmax.lean ====
/- The mathematics of the streaming softmax, apart from any program: the three running values of a query (the shift,
   the sum of the exponentials, one entry of the weighted sum of the values) and what one more block of keys makes of
   them; their quotient does not depend on the shift. -/
module

public import Idealize.ShloMosaic.PureOps.Ideal

@[expose] public section

noncomputable section

namespace Cert.Attn

open Idealize.ShloMosaic
open Finset

/-! ## Sums and maxima of extended reals that are real -/

/-- A finite sum of reals, taken in the extended reals, is the real sum. -/
theorem coe_sum {ι : Type*} (K : Finset ι) (f : ι → ℝ) : ∑ i ∈ K, ((f i : ℝ) : EReal) = ((∑ i ∈ K, f i : ℝ) : EReal) := by
  classical
  induction K using Finset.induction_on with
  | empty => simp
  | insert a s ha ih => rw [sum_insert ha, sum_insert ha, ih, EReal.coe_add]

/-- A running maximum from minus infinity is real when no entry is plus infinity and some entry is not minus infinity. -/
theorem fold_max_real {ι : Type*} (K : Finset ι) (f : ι → EReal) (ht : ∀ i ∈ K, f i ≠ ⊤) (hb : ∃ i ∈ K, f i ≠ ⊥) :
    ∃ M : ℝ, K.fold max ⊥ f = (M : EReal) := by
  have h1 : K.fold max ⊥ f < ⊤ := by
    rw [Finset.fold_max_lt]
    exact ⟨bot_lt_top, fun i hi => lt_top_iff_ne_top.2 (ht i hi)⟩
  have h2 : ⊥ < K.fold max ⊥ f := by
    rw [Finset.lt_fold_max]
    obtain ⟨i, hi, h⟩ := hb
    exact Or.inr ⟨i, hi, bot_lt_iff_ne_bot.2 h⟩
  exact ⟨_, (EReal.coe_toReal h1.ne h2.ne').symm⟩

/-- The sum over a block of `n` keys, of which those up to `j` count, over the counted keys' positions. -/
theorem sum_block_le (n b j : ℕ) (hj : j < n) (f : ℕ → ℝ) :
    ∑ k : Fin n, (if k.val ≤ j then f (b + k.val) else 0) = ∑ i ∈ Ico b (b + (j + 1)), f i := by
  rw [Finset.sum_Ico_eq_sum_range, Nat.add_sub_cancel_left,
    Finset.sum_fin_eq_sum_range (n := n) (c := fun k : Fin n => if k.val ≤ j then f (b + k.val) else 0)]
  rw [← Finset.sum_subset (s₁ := range (j + 1)) (s₂ := range n) (by intro x; simp; omega)]
  · refine Finset.sum_congr rfl fun x hx => ?_
    have hx' := Finset.mem_range.1 hx
    rw [dif_pos (by omega), if_pos (by simp; omega)]
  · intro x hx hx'
    have h1 := Finset.mem_range.1 hx
    rw [Finset.mem_range] at hx'
    rw [dif_pos h1, if_neg (by simp; omega)]

/-- The sum over a whole block of `n` keys over their positions. -/
theorem sum_block (n b : ℕ) (f : ℕ → ℝ) : ∑ k : Fin n, f (b + k.val) = ∑ i ∈ Ico b (b + n), f i := by
  rw [Finset.sum_Ico_eq_sum_range, Nat.add_sub_cancel_left, Finset.sum_range]

/-! ## The running values -/

/-- The three running values of a query after the keys `K`: for SOME real shift `M`, the shift itself, the sum of the
    shifted exponentials of the scores `s`, and the sum of the values `v` weighted by them. -/
def Run (K : Finset ℕ) (s v : ℕ → ℝ) (m l a : EReal) : Prop :=
  ∃ M : ℝ, m = M ∧ l = ((∑ i ∈ K, Real.exp (s i - M) : ℝ) : EReal)
    ∧ a = ((∑ i ∈ K, v i * Real.exp (s i - M) : ℝ) : EReal)

/-- The weighted mean of the values `v` under the softmax of the scores `s` over the keys `K`. -/
def mean (K : Finset ℕ) (s v : ℕ → ℝ) : ℝ := (∑ i ∈ K, v i * Real.exp (s i)) / ∑ i ∈ K, Real.exp (s i)

/-- The exponential of a difference of reals. -/
theorem exp_sub_coe (x M : ℝ) : Ideal.exp ((x : EReal) - (M : EReal)) = ((Real.exp (x - M) : ℝ) : EReal) := by
  rw [← EReal.coe_sub, Ideal.exp_coe]

/-- The exponential of minus infinity less a real is zero. -/
theorem exp_bot_sub (M : ℝ) : Ideal.exp ((⊥ : EReal) - (M : EReal)) = 0 := by
  rw [EReal.bot_sub, Ideal.exp_bot]

/-- The first block, masked: of its `n` keys those up to `j` have a real score and the others minus infinity. -/
theorem run_first (n b j : ℕ) (hj : j < n) (s v : ℕ → ℝ) (sc vc : Fin n → EReal) (m l a : EReal)
    (hs : ∀ k, sc k = if k.val ≤ j then ((s (b + k.val) : ℝ) : EReal) else ⊥)
    (hv : ∀ k, vc k = ((v (b + k.val) : ℝ) : EReal))
    (hm : m = univ.fold max ⊥ sc) (hl : l = ∑ k, Ideal.exp (sc k - m))
    (ha : a = ∑ k, vc k * Ideal.exp (sc k - m)) :
    Run (Ico b (b + (j + 1))) s v m l a := by
  obtain ⟨M, hM⟩ := fold_max_real univ sc (fun k _ => by rw [hs]; split <;> simp)
    ⟨⟨0, by omega⟩, mem_univ _, by rw [hs, if_pos (Nat.zero_le _)]; simp⟩
  rw [← hm] at hM
  have he : ∀ k, Ideal.exp (sc k - m) = ((if k.val ≤ j then Real.exp (s (b + k.val) - M) else 0 : ℝ) : EReal) := by
    intro k
    rw [hM, hs]
    split
    · exact exp_sub_coe _ _
    · rw [exp_bot_sub, EReal.coe_zero]
  refine ⟨M, hM, ?_, ?_⟩
  · rw [hl, Finset.sum_congr rfl fun k _ => he k, coe_sum, sum_block_le n b j hj fun i => Real.exp (s i - M)]
  · rw [ha, Finset.sum_congr rfl fun k _ => show vc k * Ideal.exp (sc k - m)
        = ((if k.val ≤ j then v (b + k.val) * Real.exp (s (b + k.val) - M) else 0 : ℝ) : EReal) by
      rw [he, hv, ← EReal.coe_mul, mul_ite, mul_zero], coe_sum,
      sum_block_le n b j hj fun i => v i * Real.exp (s i - M)]

/-- One more whole block: the shift becomes the larger of the shift and the block's maximum, the two sums are scaled by
    the exponential of the difference and the block's terms are added. -/
theorem run_step (n b : ℕ) (hn : 0 < n) (K : Finset ℕ) (hK : Disjoint K (Ico b (b + n))) (s v : ℕ → ℝ)
    (sc vc : Fin n → EReal) (m l a m' l' a' : EReal) (h : Run K s v m l a)
    (hs : ∀ k, sc k = ((s (b + k.val) : ℝ) : EReal)) (hv : ∀ k, vc k = ((v (b + k.val) : ℝ) : EReal))
    (hm : m' = max m (univ.fold max ⊥ sc)) (hl : l' = l * Ideal.exp (m - m') + ∑ k, Ideal.exp (sc k - m'))
    (ha : a' = a * Ideal.exp (m - m') + ∑ k, vc k * Ideal.exp (sc k - m')) :
    Run (K ∪ Ico b (b + n)) s v m' l' a' := by
  obtain ⟨M, rfl, rfl, rfl⟩ := h
  obtain ⟨B, hB⟩ := fold_max_real univ sc (fun k _ => by rw [hs]; simp)
    ⟨⟨0, hn⟩, mem_univ _, by rw [hs]; simp⟩
  obtain ⟨M', hM'⟩ : ∃ M' : ℝ, m' = M' := ⟨max M B, by
    rw [hm, hB]; exact (EReal.coe_strictMono.monotone.map_max).symm⟩
  have he : ∀ k, Ideal.exp (sc k - m') = ((Real.exp (s (b + k.val) - M') : ℝ) : EReal) := by
    intro k
    rw [hM', hs, exp_sub_coe]
  have hr : ∀ x : ℝ, Real.exp (x - M) * Real.exp (M - M') = Real.exp (x - M') := by
    intro x; rw [← Real.exp_add]; congr 1; ring
  refine ⟨M', hM', ?_, ?_⟩
  · rw [hl, Finset.sum_congr rfl fun k _ => he k, coe_sum, sum_block n b fun i => Real.exp (s i - M'), hM', exp_sub_coe,
      ← EReal.coe_mul, ← EReal.coe_add, sum_union hK, sum_mul, Finset.sum_congr rfl fun i _ => hr (s i)]
  · rw [ha, Finset.sum_congr rfl fun k _ => show vc k * Ideal.exp (sc k - m')
        = ((v (b + k.val) * Real.exp (s (b + k.val) - M') : ℝ) : EReal) by rw [he, hv, ← EReal.coe_mul],
      coe_sum, sum_block n b fun i => v i * Real.exp (s i - M'), hM', exp_sub_coe,
      ← EReal.coe_mul, ← EReal.coe_add, sum_union hK, sum_mul,
      Finset.sum_congr rfl fun i _ => (mul_assoc (v i) _ _).trans (by rw [hr (s i)])]

/-- A quotient of two sums of shifted exponentials does not depend on the shift. -/
theorem mean_shift (K : Finset ℕ) (s v : ℕ → ℝ) (M : ℝ) :
    (∑ i ∈ K, v i * Real.exp (s i - M)) / (∑ i ∈ K, Real.exp (s i - M)) = mean K s v := by
  have h1 : ∀ i, v i * Real.exp (s i - M) = v i * Real.exp (s i) * Real.exp (-M) := fun i => by
    rw [sub_eq_add_neg, Real.exp_add, mul_assoc]
  have h2 : ∀ i, Real.exp (s i - M) = Real.exp (s i) * Real.exp (-M) := fun i => by
    rw [sub_eq_add_neg, Real.exp_add]
  rw [Finset.sum_congr rfl fun i _ => h1 i, Finset.sum_congr rfl fun i _ => h2 i, ← sum_mul, ← sum_mul, mul_div_mul_right _ _ (Real.exp_pos _).ne', mean]

/-- A sum of exponentials over some key is not zero. -/
theorem sum_exp_ne (K : Finset ℕ) (hK : K.Nonempty) (s : ℕ → ℝ) (M : ℝ) : (∑ i ∈ K, Real.exp (s i - M)) ≠ 0 :=
  (Finset.sum_pos (fun _ _ => Real.exp_pos _) hK).ne'

/-- The quotient of the running values is the mean. -/
theorem run_div {K : Finset ℕ} (hK : K.Nonempty) {s v : ℕ → ℝ} {m l a : EReal} (h : Run K s v m l a) :
    Ideal.div a l = ((mean K s v : ℝ) : EReal) := by
  obtain ⟨M, -, rfl, rfl⟩ := h
  rw [Ideal.div_coe (sum_exp_ne K hK s M), ← EReal.coe_mul, mul_one_div, mean_shift]

/-! ## The softmax written plainly -/

/-- The plain softmax of `N` scores, of which those up to position `t` are real and the others minus infinity: each
    weight is real, and the weights' sum with the values `v` is the mean over the positions up to `t`. -/
theorem plain (N t : ℕ) (ht : t < N) (s : ℕ → ℝ) (sc : Fin N → EReal) (m l : EReal) (p : Fin N → EReal)
    (hs : ∀ k, sc k = if k.val ≤ t then ((s k.val : ℝ) : EReal) else ⊥)
    (hm : m = univ.fold max ⊥ sc) (hl : l = ∑ k, Ideal.exp (sc k - m))
    (hp : ∀ k, p k = Ideal.div (Ideal.exp (sc k - m)) l) :
    ∃ w : Fin N → ℝ, (∀ k, p k = ((w k : ℝ) : EReal))
      ∧ ∀ v : ℕ → ℝ, ∑ k, w k * v k.val = mean (range (t + 1)) s v := by
  obtain ⟨M, hM⟩ := fold_max_real univ sc (fun k _ => by rw [hs]; split <;> simp)
    ⟨⟨0, by omega⟩, mem_univ _, by rw [hs, if_pos (Nat.zero_le _)]; simp⟩
  rw [← hm] at hM
  have he : ∀ k, Ideal.exp (sc k - m) = ((if k.val ≤ t then Real.exp (s (0 + k.val) - M) else 0 : ℝ) : EReal) := by
    intro k
    rw [hM, hs, zero_add]
    split
    · exact exp_sub_coe _ _
    · rw [exp_bot_sub, EReal.coe_zero]
  have hI : Ico 0 (0 + (t + 1)) = range (t + 1) := by rw [zero_add, Finset.range_eq_Ico]
  have hL : l = ((∑ i ∈ range (t + 1), Real.exp (s i - M) : ℝ) : EReal) := by
    rw [hl, Finset.sum_congr rfl fun k _ => he k, coe_sum, sum_block_le N 0 t ht fun i => Real.exp (s i - M), hI]
  have hne := sum_exp_ne (range (t + 1)) ⟨0, by simp⟩ s M
  refine ⟨fun k => (if k.val ≤ t then Real.exp (s (0 + k.val) - M) else 0)
    * (1 / ∑ i ∈ range (t + 1), Real.exp (s i - M)), fun k => ?_, fun v => ?_⟩
  · rw [hp, he, hL, Ideal.div_coe hne, ← EReal.coe_mul]
  · rw [← mean_shift (range (t + 1)) s v M, ← hI, ← sum_block_le N 0 t ht fun i => v i * Real.exp (s i - M), hI,
      div_eq_mul_one_div (∑ k : Fin N, _), sum_mul]
    refine Finset.sum_congr rfl fun k _ => ?_
    dsimp only
    split
    · rw [zero_add]; ring
    · simp

end Cert.Attn

end
-- ==== Proof.Step.lean ====
/- What one block of keys makes of a chunk's running values, as functions of the score matrix (keys by queries): the
   kernel's own words, named, and each read at an element over the extended reals. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.Attn

open Cert.KernelIdeal Cert.KernelIdeal.Gen Idealize.ShloMosaic Idealize.ShloMosaic.TcCoe
open Finset

section Words
variable {F : FTy → Type} [FloatOps F]

/-- The scores of a block of keys against a chunk's queries. -/
def scores (kb : Vec F S256x128 .bf16) (q : Vec F S128x256 .bf16) : FVec F S256x256 .f32 :=
  matmul dot_S256x128_S128x256_S256x256_1_0_0_1_n_n none kb q (constant S256x256 .f32 0x00000000#32)

/-- The largest score of each query. -/
def colMax (S : FVec F S256x256 .f32) : FVec F S1x256 .f32 :=
  shapeCast S1x256 (multiReduction .maximumf [0] S256 S 0xFF800000#32 reduces_S256x256_S256 (.inl rfl) rfl)
    shapeCasts_S256_S1x256

/-- The exponentials of the scores less each query's shift. -/
def shifted (S : FVec F S256x256 .f32) (m : FVec F S1x256 .f32) : FVec F S256x256 .f32 :=
  exp (subf S (broadcastTo S256x256 m broadcasts_S1x256_S256x256))

/-- Each query's sum. -/
def colSum (P : FVec F S256x256 .f32) : FVec F S1x256 .f32 :=
  shapeCast S1x256 (multiReduction .add [0] S256 P 0x00000000#32 reduces_S256x256_S256 (.inl rfl) rfl)
    shapeCasts_S256_S1x256

/-- The values weighted by the exponentials. -/
def weighted (vb : Vec F S256x256 .bf16) (P : FVec F S256x256 .f32) : FVec F S256x256 .f32 :=
  matmul dot_S256x256_S256x256_S256x256_1_0_0_1_n_n none vb (truncf .bf16 P bitsLt_bf16_f32)
    (constant S256x256 .f32 0x00000000#32)

/-- A slot's row of shifts or of sums. -/
def row (x : Vec F S1x1x256 .f32) : FVec F S1x256 .f32 := shapeCast S1x256 x shapeCasts_S1x1x256_S1x256

/-- The shift, the sum and the weighted sum that the first block leaves. -/
def firstM (S : FVec F S256x256 .f32) : FVec F S1x1x256 .f32 := shapeCast S1x1x256 (colMax S) shapeCasts_S1x256_S1x1x256
/-- The sum that the first block leaves. -/
def firstL (S : FVec F S256x256 .f32) : FVec F S1x1x256 .f32 :=
  shapeCast S1x1x256 (colSum (shifted S (colMax S))) shapeCasts_S1x256_S1x1x256
/-- The weighted sum that the first block leaves. -/
def firstA (S : FVec F S256x256 .f32) (vb : Vec F S256x256 .bf16) : FVec F S1x256x256 .f32 :=
  shapeCast S1x256x256 (weighted vb (shifted S (colMax S))) shapeCasts_S256x256_S1x256x256

/-- The next shift. -/
def newM (S : FVec F S256x256 .f32) (mo : Vec F S1x1x256 .f32) : FVec F S1x256 .f32 := maximumf (row mo) (colMax S)
/-- The factor that the earlier sums take. -/
def factor (S : FVec F S256x256 .f32) (mo : Vec F S1x1x256 .f32) : FVec F S1x256 .f32 := exp (subf (row mo) (newM S mo))

/-- The shift that a later block leaves. -/
def nextM (S : FVec F S256x256 .f32) (mo : Vec F S1x1x256 .f32) : FVec F S1x1x256 .f32 :=
  shapeCast S1x1x256 (newM S mo) shapeCasts_S1x256_S1x1x256
/-- The sum that a later block leaves. -/
def nextL (S : FVec F S256x256 .f32) (mo lo : Vec F S1x1x256 .f32) : FVec F S1x1x256 .f32 :=
  shapeCast S1x1x256 (addf (mulf (factor S mo) (row lo)) (colSum (shifted S (newM S mo)))) shapeCasts_S1x256_S1x1x256
/-- The weighted sum that a later block leaves. -/
def nextA (S : FVec F S256x256 .f32) (vb : Vec F S256x256 .bf16) (mo : Vec F S1x1x256 .f32) (ao : Vec F S1x256x256 .f32) :
    FVec F S1x256x256 .f32 :=
  shapeCast S1x256x256 (addf (mulf (broadcastTo S256x256 (factor S mo) broadcasts_S1x256_S256x256)
    (shapeCast S256x256 ao shapeCasts_S1x256x256_S256x256)) (weighted vb (shifted S (newM S mo)))) shapeCasts_S256x256_S1x256x256

end Words

/-! ## The words at an element -/

/-- A score: the product of a key and a query. -/
theorem scores_apply (kb : Vec Ideal S256x128 .bf16) (q : Vec Ideal S128x256 .bf16) (k j : Fin 256) :
    scores kb q (ix2 k j) = ∑ d : Fin 128, kb (ix2 k d) * q (ix2 d j) := by
  unfold scores
  simp only [pointwise, Ideal.matmul_def, Ideal.matmul]
  rw [zero_add, DotDims.sum_contr₁ _ (a := 1) rfl rfl]
  refine Finset.sum_congr rfl fun k _ => ?_
  congr 2
  all_goals
    funext p
    fin_cases p <;> rfl

/-- A query's largest score. -/
theorem colMax_apply (S : FVec Ideal S256x256 .f32) (j : Fin 256) :
    colMax S (ix2 0 j) = univ.fold max ⊥ fun k : Fin 256 => S (ix2 k j) := by
  unfold colMax
  simp only [pointwise, Ideal.maximumf_def]
  rfl

/-- A shifted exponential. -/
theorem shifted_apply (S : FVec Ideal S256x256 .f32) (m : FVec Ideal S1x256 .f32) (k j : Fin 256) :
    shifted S m (ix2 k j) = Ideal.exp (S (ix2 k j) - m (ix2 0 j)) := by
  unfold shifted
  simp only [pointwise, Ideal.exp_def, Ideal.subf_def]
  rfl

/-- A query's sum. -/
theorem colSum_apply (P : FVec Ideal S256x256 .f32) (j : Fin 256) :
    colSum P (ix2 0 j) = ∑ k : Fin 256, P (ix2 k j) := by
  unfold colSum
  simp only [pointwise, Ideal.reduceAdd_def]

/-- A weighted sum of values. -/
theorem weighted_apply (vb : Vec Ideal S256x256 .bf16) (P : FVec Ideal S256x256 .f32) (e j : Fin 256) :
    weighted vb P (ix2 e j) = ∑ k : Fin 256, vb (ix2 e k) * P (ix2 k j) := by
  unfold weighted
  simp only [pointwise, Ideal.matmul_def, Ideal.matmul]
  rw [zero_add, DotDims.sum_contr₁ _ (a := 1) rfl rfl]
  refine Finset.sum_congr rfl fun k _ => ?_
  congr 2
  all_goals
    funext p
    fin_cases p <;> rfl

/-- A row of a slot. -/
theorem row_apply (x : Vec Ideal S1x1x256 .f32) (j : Fin 256) : row x (ix2 0 j) = x (ix3 0 0 j) := by
  unfold row
  simp only [pointwise]

/-- The first shift at an element. -/
theorem firstM_apply (S : FVec Ideal S256x256 .f32) (j : Fin 256) :
    firstM S (ix3 0 0 j) = univ.fold max ⊥ fun k : Fin 256 => S (ix2 k j) := by
  unfold firstM
  simp only [pointwise]
  exact colMax_apply S j

/-- The first sum at an element. -/
theorem firstL_apply (S : FVec Ideal S256x256 .f32) (j : Fin 256) :
    firstL S (ix3 0 0 j) = ∑ k : Fin 256, Ideal.exp (S (ix2 k j) - firstM S (ix3 0 0 j)) := by
  rw [firstM_apply, ← colMax_apply]
  unfold firstL
  simp only [pointwise]
  refine (colSum_apply _ j).trans ?_
  simp only [shifted_apply]

/-- The first weighted sum at an element. -/
theorem firstA_apply (S : FVec Ideal S256x256 .f32) (vb : Vec Ideal S256x256 .bf16) (e j : Fin 256) :
    firstA S vb (ix3 0 e j) = ∑ k : Fin 256, vb (ix2 e k) * Ideal.exp (S (ix2 k j) - firstM S (ix3 0 0 j)) := by
  rw [firstM_apply, ← colMax_apply]
  unfold firstA
  simp only [pointwise]
  refine (weighted_apply vb _ e j).trans ?_
  simp only [shifted_apply]

/-- The next shift at an element. -/
theorem newM_apply (S : FVec Ideal S256x256 .f32) (mo : Vec Ideal S1x1x256 .f32) (j : Fin 256) :
    newM S mo (ix2 0 j) = max (mo (ix3 0 0 j)) (univ.fold max ⊥ fun k : Fin 256 => S (ix2 k j)) := by
  unfold newM
  simp only [pointwise, Ideal.maximumf_def]
  rw [row_apply, colMax_apply]

/-- The next shift, in its slot, at an element. -/
theorem nextM_apply (S : FVec Ideal S256x256 .f32) (mo : Vec Ideal S1x1x256 .f32) (j : Fin 256) :
    nextM S mo (ix3 0 0 j) = newM S mo (ix2 0 j) := by
  unfold nextM
  simp only [pointwise]

/-- The factor of the earlier sums at an element. -/
theorem factor_apply (S : FVec Ideal S256x256 .f32) (mo : Vec Ideal S1x1x256 .f32) (j : Fin 256) :
    factor S mo (ix2 0 j) = Ideal.exp (mo (ix3 0 0 j) - newM S mo (ix2 0 j)) := by
  unfold factor
  simp only [pointwise, Ideal.exp_def, Ideal.subf_def]
  rw [row_apply]

/-- The next sum at an element. -/
theorem nextL_apply (S : FVec Ideal S256x256 .f32) (mo lo : Vec Ideal S1x1x256 .f32) (j : Fin 256) :
    nextL S mo lo (ix3 0 0 j) = lo (ix3 0 0 j) * Ideal.exp (mo (ix3 0 0 j) - nextM S mo (ix3 0 0 j))
      + ∑ k : Fin 256, Ideal.exp (S (ix2 k j) - nextM S mo (ix3 0 0 j)) := by
  rw [nextM_apply, ← factor_apply, mul_comm, ← row_apply lo]
  unfold nextL
  simp only [pointwise]
  refine congrArg₂ _ rfl ((colSum_apply _ j).trans ?_)
  simp only [shifted_apply]

/-- The next weighted sum at an element. -/
theorem nextA_apply (S : FVec Ideal S256x256 .f32) (vb : Vec Ideal S256x256 .bf16) (mo : Vec Ideal S1x1x256 .f32)
    (ao : Vec Ideal S1x256x256 .f32) (e j : Fin 256) :
    nextA S vb mo ao (ix3 0 e j) = ao (ix3 0 e j) * Ideal.exp (mo (ix3 0 0 j) - nextM S mo (ix3 0 0 j))
      + ∑ k : Fin 256, vb (ix2 e k) * Ideal.exp (S (ix2 k j) - nextM S mo (ix3 0 0 j)) := by
  rw [nextM_apply, ← factor_apply, mul_comm]
  unfold nextA
  simp only [pointwise]
  refine congrArg₂ _ rfl ((weighted_apply vb _ e j).trans ?_)
  simp only [shifted_apply]

/-! ## The running values of a query -/

/-- The first block leaves the running values of its unmasked keys. -/
theorem chunk_first (S : FVec Ideal S256x256 .f32) (vb : Vec Ideal S256x256 .bf16) (b : ℕ) (e j : Fin 256) (s v : ℕ → ℝ)
    (hS : ∀ k : Fin 256, S (ix2 k j) = if k.val ≤ j.val then ((s (b + k.val) : ℝ) : EReal) else ⊥)
    (hv : ∀ k : Fin 256, vb (ix2 e k) = ((v (b + k.val) : ℝ) : EReal)) :
    Run (Ico b (b + (j.val + 1))) s v (firstM S (ix3 0 0 j)) (firstL S (ix3 0 0 j)) (firstA S vb (ix3 0 e j)) :=
  run_first 256 b j.val j.isLt s v _ _ _ _ _ hS hv (firstM_apply S j) (firstL_apply S j) (firstA_apply S vb e j)

/-- A later block adds its keys to the running values. -/
theorem chunk_next (S : FVec Ideal S256x256 .f32) (vb : Vec Ideal S256x256 .bf16) (mo lo : Vec Ideal S1x1x256 .f32)
    (ao : Vec Ideal S1x256x256 .f32) (b : ℕ) (K : Finset ℕ) (hK : Disjoint K (Ico b (b + 256))) (e j : Fin 256) (s v : ℕ → ℝ)
    (h : Run K s v (mo (ix3 0 0 j)) (lo (ix3 0 0 j)) (ao (ix3 0 e j)))
    (hS : ∀ k : Fin 256, S (ix2 k j) = ((s (b + k.val) : ℝ) : EReal))
    (hv : ∀ k : Fin 256, vb (ix2 e k) = ((v (b + k.val) : ℝ) : EReal)) :
    Run (K ∪ Ico b (b + 256)) s v (nextM S mo (ix3 0 0 j)) (nextL S mo lo (ix3 0 0 j)) (nextA S vb mo ao (ix3 0 e j)) :=
  run_step 256 b (by decide) K hK s v _ _ _ _ _ _ _ _ h hS hv ((nextM_apply S mo j).trans (newM_apply S mo j))
    (nextL_apply S mo lo j) (nextA_apply S vb mo ao e j)

end Cert.Attn

end
-- ==== Proof.Trip.lean ====
/- One trip of the kernel's loop over the earlier key blocks: what it writes into the three scratch memrefs, slot by slot,
   in the words of Step.lean; and what the slots hold after the trips so far. -/
module

public import proofs.«01_k».proof.Proof.Gen.KernelIdeal.Loops
public import proofs.«01_k».proof.Proof.Step
public import Idealize.ShloMosaic.Lib.WritesUnit

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Tactic
open Finset

section Slots
variable {Val : EltTy → Type} {sig : RefSig} {κ : Kind} {sp : Space} {s : Shape} {e : EltTy}

/-- A load of the box just stored reads what was stored. -/
theorem load_hit (v : View sig κ sp s e) (f : v.ty.Contents Val) {off size : Fin s.rank → ℕ}
    (inb inb' : ∀ a, off a + size a ≤ s.size a) (w : (Rect.unit off size inb).shape.Idx → Val e) (L : List (View.Piece Val s e)) :
    v.readAt Val (Rect.unit off size inb').toLoadRect (v.writes Val f (⟨Rect.unit off size inb, w⟩ :: L)) = w := by
  funext x
  exact View.read_writes_cons_unit_of_mem v f inb w L _ x rfl fun a => by
    show off a + 1 * (x a).val = off a + (x a).val
    rw [one_mul]

/-- A load of a box passes over a store of a box that lies beside it along the axis `a`. -/
theorem load_miss (v : View sig κ sp s e) (f : v.ty.Contents Val) {off off' size size' : Fin s.rank → ℕ}
    (inb : ∀ a, off a + size a ≤ s.size a) (inb' : ∀ a, off' a + size' a ≤ s.size a)
    (w : (Rect.unit off size inb).shape.Idx → Val e) (L : List (View.Piece Val s e)) (a : Fin s.rank)
    (h : off' a + size' a ≤ off a ∨ off a + size a ≤ off' a) :
    v.readAt Val (Rect.unit off' size' inb').toLoadRect (v.writes Val f (⟨Rect.unit off size inb, w⟩ :: L))
      = v.readAt Val (Rect.unit off' size' inb').toLoadRect (v.writes Val f L) := by
  funext x
  refine View.read_writes_cons_unit_of_not_mem v f inb w L _ rfl a ?_
  have hx : (x a).val < size' a := (x a).isLt
  show off' a + 1 * (x a).val < off a ∨ off a + size a ≤ off' a + 1 * (x a).val
  omega

end Slots

section Pieces
variable {F : FTy → Type} [FloatOps F] [Named F]
variable (𝒱 : Variants) (c : Dev nD) (bd : Option 𝒱.V) (i : grid0.Coords)
  (arg3 : Memref sig .tc .vmem S512x256 .bf16) (harg3 : arg3.IsWhole) (arg4 : Memref sig .tc .vmem S4096x512 .bf16)
  (harg4 : arg4.IsWhole) (arg5 : Memref sig .tc .vmem S512x4096 .bf16) (harg5 : arg5.IsWhole)
  (arg6 : Memref sig .tc .vmem S256x1 .f32) (harg6 : arg6.IsWhole) (arg7 : Memref sig .tc .vmem S1x128 .f32)
  (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x128 .f32)
  (harg10 : arg10.IsWhole) (arg11 : Memref sig .tc .vmem S256x512 .bf16) (harg11 : arg11.IsWhole)
  (arg12 : Memref sig .tc .vmem S4x1x256 .f32) (harg12 : arg12.IsWhole) (arg13 : Memref sig .tc .vmem S4x1x256 .f32)
  (harg13 : arg13.IsWhole) (arg14 : Memref sig .tc .vmem S4x256x256 .f32) (harg14 : arg14.IsWhole)
  (arg2 : BitVec 32) (v93 : Vec F S256x256 .bf16) (v95 : FVec F S1x256 .f32) (v98 : FVec F S256x256 .f32)
  (v100 : FVec F S1x256 .f32) (v101 : Vec F S1x1x256 .f32)
  (X3 : BufTy.Contents (Elt F) arg3.view.ty) (X4 : BufTy.Contents (Elt F) arg4.view.ty)
  (X5 : BufTy.Contents (Elt F) arg5.view.ty)

/-- A chunk's queries, loaded. -/
abbrev ldQ (off : Fin 2 → ℕ) (h : ∀ a, off a + S128x256.size a ≤ S512x256.size a) : Vec F S128x256 .bf16 :=
  View.readAt (Elt F) arg3.view (Rect.unit (s := S512x256) off S128x256.size h).toLoadRect X3
/-- A chunk's keys, loaded. -/
abbrev ldK (off : Fin 2 → ℕ) (h : ∀ a, off a + S256x128.size a ≤ S4096x512.size a) : Vec F S256x128 .bf16 :=
  View.readAt (Elt F) arg4.view (Rect.unit (s := S4096x512) off S256x128.size h).toLoadRect X4
/-- A head's values, loaded. -/
abbrev ldV (off : Fin 2 → ℕ) (h : ∀ a, off a + S256x256.size a ≤ S512x4096.size a) : Vec F S256x256 .bf16 :=
  View.readAt (Elt F) arg5.view (Rect.unit (s := S512x4096) off S256x256.size h).toLoadRect X5
/-- A slot of a row scratch, loaded. -/
abbrev ldR (m : Memref sig .tc .vmem S4x1x256 .f32) (f : BufTy.Contents (Elt F) m.view.ty) (off : Fin 3 → ℕ)
    (h : ∀ a, off a + S1x1x256.size a ≤ S4x1x256.size a) : Vec F S1x1x256 .f32 :=
  View.readAt (Elt F) m.view (Rect.unit (s := S4x1x256) off S1x1x256.size h).toLoadRect f
/-- A slot of the accumulators, loaded. -/
abbrev ldA (m : Memref sig .tc .vmem S4x256x256 .f32) (f : BufTy.Contents (Elt F) m.view.ty) (off : Fin 3 → ℕ)
    (h : ∀ a, off a + S1x256x256.size a ≤ S4x256x256.size a) : Vec F S1x256x256 .f32 :=
  View.readAt (Elt F) m.view (Rect.unit (s := S4x256x256) off S1x256x256.size h).toLoadRect f
/-- The four slots of a row scratch, written. -/
abbrev rows4 (w : Fin 4 → Vec F S1x1x256 .f32) : List (View.Piece (Elt F) S4x1x256 .f32) :=
  [⟨Rect.unit (s := S4x1x256) ![3, 0, 0] S1x1x256.size inb_S4x1x256_S1x1x256_3_0_0, w 3⟩,
   ⟨Rect.unit (s := S4x1x256) ![2, 0, 0] S1x1x256.size inb_S4x1x256_S1x1x256_2_0_0, w 2⟩,
   ⟨Rect.unit (s := S4x1x256) ![1, 0, 0] S1x1x256.size inb_S4x1x256_S1x1x256_1_0_0, w 1⟩,
   ⟨Rect.unit (s := S4x1x256) ![0, 0, 0] S1x1x256.size inb_S4x1x256_S1x1x256_0_0_0, w 0⟩]
/-- The four accumulators, written. -/
abbrev accs4 (w : Fin 4 → Vec F S1x256x256 .f32) : List (View.Piece (Elt F) S4x256x256 .f32) :=
  [⟨Rect.unit (s := S4x256x256) ![3, 0, 0] S1x256x256.size inb_S4x256x256_S1x256x256_3_0_0, w 3⟩,
   ⟨Rect.unit (s := S4x256x256) ![2, 0, 0] S1x256x256.size inb_S4x256x256_S1x256x256_2_0_0, w 2⟩,
   ⟨Rect.unit (s := S4x256x256) ![1, 0, 0] S1x256x256.size inb_S4x256x256_S1x256x256_1_0_0, w 1⟩,
   ⟨Rect.unit (s := S4x256x256) ![0, 0, 0] S1x256x256.size inb_S4x256x256_S1x256x256_0_0_0, w 0⟩]

/-- The slots' row loads together. -/
abbrev rowAt (m : Memref sig .tc .vmem S4x1x256 .f32) (f : BufTy.Contents (Elt F) m.view.ty) : Fin 4 → Vec F S1x1x256 .f32
  | 0 => ldR m f ![0, 0, 0] inb_S4x1x256_S1x1x256_0_0_0
  | 1 => ldR m f ![1, 0, 0] inb_S4x1x256_S1x1x256_1_0_0
  | 2 => ldR m f ![2, 0, 0] inb_S4x1x256_S1x1x256_2_0_0
  | 3 => ldR m f ![3, 0, 0] inb_S4x1x256_S1x1x256_3_0_0
/-- The slots' accumulator loads together. -/
abbrev accAt (m : Memref sig .tc .vmem S4x256x256 .f32) (f : BufTy.Contents (Elt F) m.view.ty) : Fin 4 → Vec F S1x256x256 .f32
  | 0 => ldA m f ![0, 0, 0] inb_S4x256x256_S1x256x256_0_0_0
  | 1 => ldA m f ![1, 0, 0] inb_S4x256x256_S1x256x256_1_0_0
  | 2 => ldA m f ![2, 0, 0] inb_S4x256x256_S1x256x256_2_0_0
  | 3 => ldA m f ![3, 0, 0] inb_S4x256x256_S1x256x256_3_0_0

/-- The chunks' queries. -/
abbrev qs : Fin 4 → Vec F S128x256 .bf16
  | 0 => ldQ arg3 X3 ![0, 0] inb_S512x256_S128x256_0_0
  | 1 => ldQ arg3 X3 ![128, 0] inb_S512x256_S128x256_128_0
  | 2 => ldQ arg3 X3 ![256, 0] inb_S512x256_S128x256_256_0
  | 3 => ldQ arg3 X3 ![384, 0] inb_S512x256_S128x256_384_0
/-- The chunks' keys of trip `k`'s block. -/
abbrev ks (k : Fin (k0_t1_loop i).trips) : Fin 4 → Vec F S256x128 .bf16
  | 0 => ldK arg4 X4 (k0_off7 i k) (k0_off7_inb i k)
  | 1 => ldK arg4 X4 (k0_off9 i k) (k0_off9_inb i k)
  | 2 => ldK arg4 X4 (k0_off10 i k) (k0_off10_inb i k)
  | 3 => ldK arg4 X4 (k0_off12 i k) (k0_off12_inb i k)
/-- The chunks' values of trip `k`'s block: a head's two chunks share them. -/
abbrev vs (k : Fin (k0_t1_loop i).trips) : Fin 4 → Vec F S256x256 .bf16
  | 0 => ldV arg5 X5 (k0_off8 i k) (k0_off8_inb i k)
  | 1 => ldV arg5 X5 (k0_off8 i k) (k0_off8_inb i k)
  | 2 => ldV arg5 X5 (k0_off11 i k) (k0_off11_inb i k)
  | 3 => ldV arg5 X5 (k0_off11 i k) (k0_off11_inb i k)

set_option maxHeartbeats 1600000 in
/-- What one trip writes, from what it finds in the scratch memrefs. -/
theorem tripL_eq (k : Fin (k0_t1_loop i).trips) (f12 : BufTy.Contents (Elt F) arg12.view.ty)
    (f13 : BufTy.Contents (Elt F) arg13.view.ty) (f14 : BufTy.Contents (Elt F) arg14.view.ty) :
    tripL_k0_t1 (F := F) 𝒱 c bd i arg3 harg3 arg4 harg4 arg5 harg5 arg6 harg6 arg7 harg7 arg8 harg8 arg9 harg9 arg10 harg10
        arg11 harg11 arg12 harg12 arg13 harg13 arg14 harg14 arg2 v93 v95 v98 v100 v101 X3 X4 X5 k f12 f13 f14
      = (rows4 fun n => nextM (scores (ks i arg4 X4 k n) (qs arg3 X3 n)) (rowAt arg12 f12 n),
         rows4 fun n => nextL (scores (ks i arg4 X4 k n) (qs arg3 X3 n)) (rowAt arg12 f12 n) (rowAt arg13 f13 n),
         accs4 fun n => nextA (scores (ks i arg4 X4 k n) (qs arg3 X3 n)) (vs i arg5 X5 k n) (rowAt arg12 f12 n)
           (accAt arg14 f14 n)) := by
  unfold tripL_k0_t1 trip_k0_t1
  dsimp only
  rfl

/-- A row scratch whose four slots have just been written reads back what was written. -/
theorem rowAt_writes (m : Memref sig .tc .vmem S4x1x256 .f32) (f : BufTy.Contents (Elt F) m.view.ty)
    (w : Fin 4 → Vec F S1x1x256 .f32) : ∀ n : Fin 4, rowAt m (m.view.writes (Elt F) f (rows4 w)) n = w n
  | 0 => (load_miss _ _ _ _ _ _ (0 : Fin 3) (Or.inl (by decide))).trans <|
    (load_miss _ _ _ _ _ _ (0 : Fin 3) (Or.inl (by decide))).trans <|
    (load_miss _ _ _ _ _ _ (0 : Fin 3) (Or.inl (by decide))).trans <|
    load_hit _ _ _ _ _ _
  | 1 => (load_miss _ _ _ _ _ _ (0 : Fin 3) (Or.inl (by decide))).trans <|
    (load_miss _ _ _ _ _ _ (0 : Fin 3) (Or.inl (by decide))).trans <|
    load_hit _ _ _ _ _ _
  | 2 => (load_miss _ _ _ _ _ _ (0 : Fin 3) (Or.inl (by decide))).trans <|
    load_hit _ _ _ _ _ _
  | 3 => load_hit _ _ _ _ _ _

/-- The accumulators' scratch reads back its four slots the same way. -/
theorem accAt_writes (m : Memref sig .tc .vmem S4x256x256 .f32) (f : BufTy.Contents (Elt F) m.view.ty)
    (w : Fin 4 → Vec F S1x256x256 .f32) : ∀ n : Fin 4, accAt m (m.view.writes (Elt F) f (accs4 w)) n = w n
  | 0 => (load_miss _ _ _ _ _ _ (0 : Fin 3) (Or.inl (by decide))).trans <|
    (load_miss _ _ _ _ _ _ (0 : Fin 3) (Or.inl (by decide))).trans <|
    (load_miss _ _ _ _ _ _ (0 : Fin 3) (Or.inl (by decide))).trans <|
    load_hit _ _ _ _ _ _
  | 1 => (load_miss _ _ _ _ _ _ (0 : Fin 3) (Or.inl (by decide))).trans <|
    (load_miss _ _ _ _ _ _ (0 : Fin 3) (Or.inl (by decide))).trans <|
    load_hit _ _ _ _ _ _
  | 2 => (load_miss _ _ _ _ _ _ (0 : Fin 3) (Or.inl (by decide))).trans <|
    load_hit _ _ _ _ _ _
  | 3 => load_hit _ _ _ _ _ _

variable (G12 : BufTy.Contents (Elt F) arg12.view.ty) (G13 : BufTy.Contents (Elt F) arg13.view.ty)
  (G14 : BufTy.Contents (Elt F) arg14.view.ty)

/-- One more trip turns what the slots held into what the words of Step.lean make of it. -/
theorem trips_step (P : ℕ → List (View.Piece (Elt F) S4x1x256 .f32) × List (View.Piece (Elt F) S4x1x256 .f32) ×
      List (View.Piece (Elt F) S4x256x256 .f32))
    (hP : P = pb_k0_t1 (F := F) 𝒱 c bd i arg3 harg3 arg4 harg4 arg5 harg5 arg6 harg6 arg7 harg7 arg8 harg8 arg9 harg9 arg10 harg10
    arg11 harg11 arg12 harg12 arg13 harg13 arg14 harg14 arg2 v93 v95 v98 v100 v101 X3 X4 X5 G12 G13 G14)
    (k : Fin (k0_t1_loop i).trips) (n : Fin 4) :
    rowAt arg12 (arg12.view.writes (Elt F) G12 (P (k.val + 1)).1) n
        = nextM (scores (ks i arg4 X4 k n) (qs arg3 X3 n)) (rowAt arg12 (arg12.view.writes (Elt F) G12 (P k.val).1) n)
      ∧ rowAt arg13 (arg13.view.writes (Elt F) G13 (P (k.val + 1)).2.1) n
        = nextL (scores (ks i arg4 X4 k n) (qs arg3 X3 n)) (rowAt arg12 (arg12.view.writes (Elt F) G12 (P k.val).1) n)
          (rowAt arg13 (arg13.view.writes (Elt F) G13 (P k.val).2.1) n)
      ∧ accAt arg14 (arg14.view.writes (Elt F) G14 (P (k.val + 1)).2.2) n
        = nextA (scores (ks i arg4 X4 k n) (qs arg3 X3 n)) (vs i arg5 X5 k n)
          (rowAt arg12 (arg12.view.writes (Elt F) G12 (P k.val).1) n)
          (accAt arg14 (arg14.view.writes (Elt F) G14 (P k.val).2.2) n) := by
  have h := pb_k0_t1_succ (F := F) 𝒱 c bd i arg3 harg3 arg4 harg4 arg5 harg5 arg6 harg6 arg7 harg7 arg8 harg8 arg9 harg9 arg10 harg10
    arg11 harg11 arg12 harg12 arg13 harg13 arg14 harg14 arg2 v93 v95 v98 v100 v101 X3 X4 X5 G12 G13 G14 k
  rw [← hP, tripL_eq] at h
  rw [h]
  dsimp only
  rw [View.writes_append, View.writes_append, View.writes_append, rowAt_writes, rowAt_writes, accAt_writes]
  exact ⟨rfl, rfl, rfl⟩

end Pieces

section Trips
variable (𝒱 : Variants) (c : Dev nD) (bd : Option 𝒱.V) (i : grid0.Coords)
  (arg3 : Memref sig .tc .vmem S512x256 .bf16) (harg3 : arg3.IsWhole) (arg4 : Memref sig .tc .vmem S4096x512 .bf16)
  (harg4 : arg4.IsWhole) (arg5 : Memref sig .tc .vmem S512x4096 .bf16) (harg5 : arg5.IsWhole)
  (arg6 : Memref sig .tc .vmem S256x1 .f32) (harg6 : arg6.IsWhole) (arg7 : Memref sig .tc .vmem S1x128 .f32)
  (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x128 .f32)
  (harg10 : arg10.IsWhole) (arg11 : Memref sig .tc .vmem S256x512 .bf16) (harg11 : arg11.IsWhole)
  (arg12 : Memref sig .tc .vmem S4x1x256 .f32) (harg12 : arg12.IsWhole) (arg13 : Memref sig .tc .vmem S4x1x256 .f32)
  (harg13 : arg13.IsWhole) (arg14 : Memref sig .tc .vmem S4x256x256 .f32) (harg14 : arg14.IsWhole)
  (arg2 : BitVec 32) (v93 : Vec Ideal S256x256 .bf16) (v95 : FVec Ideal S1x256 .f32) (v98 : FVec Ideal S256x256 .f32)
  (v100 : FVec Ideal S1x256 .f32) (v101 : Vec Ideal S1x1x256 .f32)
  (X3 : BufTy.Contents (Elt Ideal) arg3.view.ty) (X4 : BufTy.Contents (Elt Ideal) arg4.view.ty)
  (X5 : BufTy.Contents (Elt Ideal) arg5.view.ty)
  (G12 : BufTy.Contents (Elt Ideal) arg12.view.ty) (G13 : BufTy.Contents (Elt Ideal) arg13.view.ty)
  (G14 : BufTy.Contents (Elt Ideal) arg14.view.ty)

/-- After `k` trips the slots hold the running values over the own block's keys and those of the first `k` blocks. -/
theorem trips_run (P : ℕ → List (View.Piece (Elt Ideal) S4x1x256 .f32) × List (View.Piece (Elt Ideal) S4x1x256 .f32) ×
      List (View.Piece (Elt Ideal) S4x256x256 .f32))
    (hP : P = pb_k0_t1 (F := Ideal) 𝒱 c bd i arg3 harg3 arg4 harg4 arg5 harg5 arg6 harg6 arg7 harg7 arg8 harg8 arg9 harg9 arg10 harg10
    arg11 harg11 arg12 harg12 arg13 harg13 arg14 harg14 arg2 v93 v95 v98 v100 v101 X3 X4 X5 G12 G13 G14)
    (n : Fin 4) (e j : Fin 256) (s v : ℕ → ℝ) (K : Finset ℕ)
    (hK : ∀ y ∈ K, 256 * (k0_t1_loop i).trips ≤ y)
    (h0 : Run K s v (rowAt arg12 G12 n (ix3 0 0 j)) (rowAt arg13 G13 n (ix3 0 0 j)) (accAt arg14 G14 n (ix3 0 e j)))
    (hS : ∀ (k : Fin (k0_t1_loop i).trips) (y : Fin 256),
      scores (ks i arg4 X4 k n) (qs arg3 X3 n) (ix2 y j) = ((s (256 * k.val + y.val) : ℝ) : EReal))
    (hv : ∀ (k : Fin (k0_t1_loop i).trips) (y : Fin 256),
      vs i arg5 X5 k n (ix2 e y) = ((v (256 * k.val + y.val) : ℝ) : EReal))
    (k : ℕ) (hk : k ≤ (k0_t1_loop i).trips) :
    Run (K ∪ range (256 * k)) s v
      (rowAt arg12 (arg12.view.writes (Elt Ideal) G12 (P k).1) n (ix3 0 0 j))
      (rowAt arg13 (arg13.view.writes (Elt Ideal) G13 (P k).2.1) n (ix3 0 0 j))
      (accAt arg14 (arg14.view.writes (Elt Ideal) G14 (P k).2.2) n (ix3 0 e j)) := by
  induction k with
  | zero =>
    subst hP
    rw [mul_zero, range_zero, union_empty]
    exact h0
  | succ k ih =>
    have hlt : k < (k0_t1_loop i).trips := hk
    obtain ⟨h1, h2, h3⟩ := trips_step (F := Ideal) 𝒱 c bd i arg3 harg3 arg4 harg4 arg5 harg5 arg6 harg6 arg7 harg7 arg8 harg8 arg9 harg9 arg10 harg10
      arg11 harg11 arg12 harg12 arg13 harg13 arg14 harg14 arg2 v93 v95 v98 v100 v101 X3 X4 X5 G12 G13 G14 P hP ⟨k, hlt⟩ n
    simp only at h1 h2 h3
    rw [h1, h2, h3]
    have hr : K ∪ range (256 * (k + 1)) = (K ∪ range (256 * k)) ∪ Ico (256 * k) (256 * k + 256) := by
      rw [union_assoc]
      congr 1
      ext y
      simp only [mem_union, mem_range, mem_Ico]
      omega
    rw [hr]
    refine chunk_next _ _ _ _ _ _ _ ?_ e j s v (ih (Nat.le_of_lt hlt)) (hS ⟨k, hlt⟩) (hv ⟨k, hlt⟩)
    rw [disjoint_left]
    intro y hy hy'
    rw [mem_Ico] at hy'
    rcases mem_union.1 hy with h | h
    · have := hK y h
      omega
    · have := mem_range.1 h
      omega

end Trips

end Cert.Attn

end
-- ==== Proof.Spec.lean ====
/- The mathematics of the differential attention over the prompt, on arrays of extended reals: the scores, the two means
   of the values under the causal softmaxes, their difference, and the normalised result. Both sides of the claim are read
   into these words. -/
module

public import proofs.«01_k».proof.Proof.Softmax
public import Idealize.ShloMosaic.Lib.Pointwise

@[expose] public section

noncomputable section

namespace Cert.Attn

open Idealize.ShloMosaic Finset

/-- An array of two axes. -/
abbrev Arr (m n : ℕ) := (⟨2, ![m, n]⟩ : Shape).Idx → EReal

/-- Every element of the array is a real number. -/
def IsReal {m n : ℕ} (A : Arr m n) : Prop := ∀ i, A i = (((A i).toReal : ℝ) : EReal)

/-- The row of token `y` of batch `b`. -/
def tok (b : Fin 2) (y : ℕ) : Fin 8192 := ⟨(4096 * b.val + y) % 8192, Nat.mod_lt _ (by decide)⟩

/-- The column of feature `d` of component `p` of head `h`. -/
def feat (h : Fin 8) (p : Fin 2) (d : Fin 128) : Fin 2048 := ⟨256 * h.val + 128 * p.val + d.val, by omega⟩

/-- The column of value entry `e` of head `h`. -/
def vcol (h : Fin 8) (e : Fin 256) : Fin 2048 := ⟨256 * h.val + e.val, by omega⟩

/-- The score of the key at `y` against the query at `t`. -/
def score (A0 : Arr 2048 8192) (A1 : Arr 8192 2048) (b : Fin 2) (h : Fin 8) (p : Fin 2) (t y : ℕ) : ℝ :=
  ∑ d : Fin 128, (A0 (ix2 (feat h p d) (tok b t))).toReal * (A1 (ix2 (tok b y) (feat h p d))).toReal

/-- The value entry `e` of the token at `y`. -/
def value (A2 : Arr 2048 8192) (b : Fin 2) (h : Fin 8) (e : Fin 256) (y : ℕ) : ℝ := (A2 (ix2 (vcol h e) (tok b y))).toReal

/-- The factor of the second softmax. -/
def lam (A4 A5 A6 A7 : Arr 1 128) : EReal :=
  Ideal.exp (∑ d : Fin 128, A4 (ix2 0 d) * A5 (ix2 0 d)) - Ideal.exp (∑ d : Fin 128, A6 (ix2 0 d) * A7 (ix2 0 d))
    + Ideal.ofBits .f32 0x3E4CCCCD#32

/-- The difference of the two means for the query at `t`. -/
def diff (A0 : Arr 2048 8192) (A1 : Arr 8192 2048) (A2 : Arr 2048 8192) (A4 A5 A6 A7 : Arr 1 128) (b : Fin 2) (h : Fin 8)
    (t : ℕ) (e : Fin 256) : EReal :=
  ((mean (range (t + 1)) (score A0 A1 b h 0 t) (value A2 b h e) : ℝ) : EReal)
    - lam A4 A5 A6 A7 * ((mean (range (t + 1)) (score A0 A1 b h 1 t) (value A2 b h e) : ℝ) : EReal)

/-- The root-mean-square norm of a head's difference, with its gain and the constant factor. -/
def tail (d : Fin 256 → EReal) (g : EReal) (e : Fin 256) : EReal :=
  d e * Ideal.rsqrt (Ideal.div (∑ x : Fin 256, d x * d x) (Ideal.ofBits .f32 0x43800000#32) + Ideal.ofBits .f32 0x3727C5AC#32)
    * g * Ideal.ofBits .f32 0x3F4CCCCD#32

/-- The result for the query at `t`. -/
def out (A0 : Arr 2048 8192) (A1 : Arr 8192 2048) (A2 : Arr 2048 8192) (A3 : Arr 1 256) (A4 A5 A6 A7 : Arr 1 128) (b : Fin 2)
    (h : Fin 8) (t : ℕ) (e : Fin 256) : EReal :=
  tail (diff A0 A1 A2 A4 A5 A6 A7 b h t) (A3 (ix2 0 e)) e

/-- The factor of the second softmax is a real number where its four vectors are. -/
theorem lam_real (A4 A5 A6 A7 : Arr 1 128) (h4 : IsReal A4) (h5 : IsReal A5) (h6 : IsReal A6) (h7 : IsReal A7) :
    ∃ r : ℝ, lam A4 A5 A6 A7 = (r : EReal) := by
  have hs : ∀ A B : Arr 1 128, IsReal A → IsReal B → ∃ r : ℝ, ∑ d : Fin 128, A (ix2 0 d) * B (ix2 0 d) = (r : EReal) := by
    intro A B hA hB
    refine ⟨∑ d : Fin 128, (A (ix2 0 d)).toReal * (B (ix2 0 d)).toReal, ?_⟩
    rw [← coe_sum]
    exact sum_congr rfl fun d _ => (congrArg₂ (· * ·) (hA _) (hB _)).trans (EReal.coe_mul _ _).symm
  obtain ⟨r, hr⟩ := hs A4 A5 h4 h5
  obtain ⟨r', hr'⟩ := hs A6 A7 h6 h7
  have hc : ∃ x : ℝ, Ideal.ofBits .f32 0x3E4CCCCD#32 = (x : EReal) := by
    exact ⟨_, rfl⟩
  obtain ⟨x, hx⟩ := hc
  refine ⟨Real.exp r - Real.exp r' + x, ?_⟩
  rw [lam, hr, hr', hx, Ideal.exp_coe, Ideal.exp_coe, ← EReal.coe_sub, ← EReal.coe_add]

end Cert.Attn

end
-- ==== Proof.Tail.lean ====
/- The kernel's last words at an element: the factor of the second softmax, the difference of the two means and its norm;
   and the masked scores of the own block. -/
module

public import proofs.«01_k».proof.Proof.Gen.KernelIdeal.Loops
public import proofs.«01_k».proof.Proof.Step
public import proofs.«01_k».proof.Proof.Spec

@[expose] public section

set_option maxRecDepth 16384

noncomputable section

namespace Cert.Attn

open Cert.KernelIdeal Cert.KernelIdeal.Gen Idealize.ShloMosaic Finset

/-- The factor of the second softmax, as the kernel computes it. -/
theorem pay98_at (a b c d : Vec Ideal S1x128 .f32) : k0_pay98 a b c d (ix2 0 0) = lam a b c d := by
  unfold k0_pay98
  simp only [pointwise, Ideal.exp_def, Ideal.subf_def, Ideal.addf_def, Ideal.mulf_def, Ideal.reduceAdd_def, Ideal.ofBits_def]
  rfl

/-- The first head's result at an element. -/
theorem pay99_at (lm : FVec Ideal S1x1 .f32) (a0 : Vec Ideal S1x256x256 .f32) (l0 : Vec Ideal S1x1x256 .f32)
    (a1 : Vec Ideal S1x256x256 .f32) (l1 : Vec Ideal S1x1x256 .f32) (g : Vec Ideal S256x1 .f32) (j e : Fin 256) :
    k0_pay99 lm a0 l0 a1 l1 g (ix2 j e)
      = tail (fun x => Ideal.div (a0 (ix3 0 x j)) (l0 (ix3 0 0 j)) - lm (ix2 0 0) * Ideal.div (a1 (ix3 0 x j)) (l1 (ix3 0 0 j)))
        (g (ix2 e 0)) e := by
  unfold k0_pay99
  simp only [pointwise, Ideal.exp_def, Ideal.subf_def, Ideal.addf_def, Ideal.mulf_def, Ideal.reduceAdd_def, Ideal.ofBits_def,
    Ideal.divf_def, Ideal.rsqrt_def, Ideal.truncf_def]
  rfl

/-- The second head's result at an element. -/
theorem pay1_at (lm : FVec Ideal S1x1 .f32) (a0 : Vec Ideal S1x256x256 .f32) (l0 : Vec Ideal S1x1x256 .f32)
    (a1 : Vec Ideal S1x256x256 .f32) (l1 : Vec Ideal S1x1x256 .f32) (g : Vec Ideal S256x1 .f32) (j e : Fin 256) :
    k0_pay1 lm (k0_pay100 a0) l0 a1 l1 g (ix2 j e)
      = tail (fun x => Ideal.div (a0 (ix3 0 x j)) (l0 (ix3 0 0 j)) - lm (ix2 0 0) * Ideal.div (a1 (ix3 0 x j)) (l1 (ix3 0 0 j)))
        (g (ix2 e 0)) e := by
  refine Eq.trans ?_ (pay99_at lm a0 l0 a1 l1 g j e)
  rfl

end Cert.Attn

end
-- ==== Proof.Block.lean ====
/- One grid point of the kernel: the running values of a query after its own, masked block and after the loop over the
   earlier blocks. -/
module

public import proofs.«01_k».proof.Proof.Trip
public import proofs.«01_k».proof.Proof.Tail

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Tactic
open Finset

/-- The loop makes as many trips as there are earlier blocks. -/
theorem trips_eq : ∀ i : grid0.Coords, (k0_t1_loop i).trips = (i 2).val := by decide +kernel

section Own
variable {F : FTy → Type} [FloatOps F] [Named F]

/-- The own block's scores, masked to the keys not after the query. -/
def masked (kb : Vec F S256x128 .bf16) (q : Vec F S128x256 .bf16) : FVec F S256x256 .f32 :=
  select (cmpi .sle (iota .tc S256x256 32 [0] iota_S256x256_d0_w32) (iota .tc S256x256 32 [1] iota_S256x256_d1_w32))
    (scores kb q) (broadcast S256x256 (Named.named κ "mask" 0xF149F2CA#32))

end Own

/-- A masked score at an element. -/
theorem masked_apply (kb : Vec Ideal S256x128 .bf16) (q : Vec Ideal S128x256 .bf16) (k j : Fin 256) :
    masked kb q (ix2 k j) = if k.val ≤ j.val then scores kb q (ix2 k j) else ⊥ := by
  have hm : (Named.named κ "mask" 0xF149F2CA#32 : Ideal .f32) = ⊥ := rfl
  unfold masked
  generalize scores kb q = S
  change Scalar.select (IntOp.cmpi .sle (BitVec.ofNat 32 (0 * 256 + k.val)) (BitVec.ofNat 32 (0 * 256 + j.val))) (S (ix2 k j))
    (Named.named κ "mask" 0xF149F2CA#32 : Ideal .f32) = _
  rw [hm, Nat.zero_mul, Nat.zero_add, Nat.zero_add]
  have hk := k.isLt
  have hj := j.isLt
  have hc : ∀ n : ℕ, n < 256 → (BitVec.ofNat 32 n).toInt = (n : ℤ) := by
    intro n hn
    have h : (BitVec.ofNat 32 n).toNat = n := by
      rw [BitVec.toNat_ofNat]
      exact Nat.mod_eq_of_lt (by omega)
    rw [BitVec.toInt_eq_toNat_of_lt (by rw [h]; omega), h]
  unfold Scalar.select IntOp.cmpi
  simp only [BitVec.sle, hc _ hk, hc _ hj, Nat.cast_le]
  by_cases hle : k.val ≤ j.val <;> simp [hle]

section Pieces
variable {F : FTy → Type} [FloatOps F] [Named F] (i : grid0.Coords)
  (arg4 : Memref sig .tc .vmem S4096x512 .bf16) (arg5 : Memref sig .tc .vmem S512x4096 .bf16)
  (X4 : BufTy.Contents (Elt F) arg4.view.ty) (X5 : BufTy.Contents (Elt F) arg5.view.ty)

/-- The chunks' keys of the own block. -/
abbrev ko : Fin 4 → Vec F S256x128 .bf16
  | 0 => ldK arg4 X4 (k0_off1 i) (k0_off1_inb i)
  | 1 => ldK arg4 X4 (k0_off3 i) (k0_off3_inb i)
  | 2 => ldK arg4 X4 (k0_off4 i) (k0_off4_inb i)
  | 3 => ldK arg4 X4 (k0_off6 i) (k0_off6_inb i)
/-- The chunks' values of the own block. -/
abbrev vo : Fin 4 → Vec F S256x256 .bf16
  | 0 => ldV arg5 X5 (k0_off2 i) (k0_off2_inb i)
  | 1 => ldV arg5 X5 (k0_off2 i) (k0_off2_inb i)
  | 2 => ldV arg5 X5 (k0_off5 i) (k0_off5_inb i)
  | 3 => ldV arg5 X5 (k0_off5 i) (k0_off5_inb i)

end Pieces

/-! ## Loads at an element -/

/-- The row of chunk `n`'s feature `d` in the block of queries. -/
def qrow (n : Fin 4) (d : Fin 128) : Fin 512 := ⟨128 * n.val + d.val, by omega⟩
/-- The row of chunk `n`'s value entry `e` in the block of values. -/
def vrow (n : Fin 4) (e : Fin 256) : Fin 512 := ⟨256 * (n.val / 2) + e.val, by omega⟩
/-- The column of key `y`. -/
def krow (y : ℕ) : Fin 4096 := ⟨y % 4096, Nat.mod_lt _ (by decide)⟩

section Loads
variable (i : grid0.Coords) (arg3 : Memref sig .tc .vmem S512x256 .bf16) (arg4 : Memref sig .tc .vmem S4096x512 .bf16)
  (arg5 : Memref sig .tc .vmem S512x4096 .bf16)
  (X3 : BufTy.Contents (Elt Ideal) arg3.view.ty) (X4 : BufTy.Contents (Elt Ideal) arg4.view.ty)
  (X5 : BufTy.Contents (Elt Ideal) arg5.view.ty)

/-- A load of a box of a rank-two window at an element. -/
theorem load_apply {m n m' n' : ℕ} {el : EltTy} {sp : Space} (v : View sig .tc sp ⟨2, ![m, n]⟩ el)
    (X : BufTy.Contents (Elt Ideal) v.ty) (off : Fin 2 → ℕ)
    (h : ∀ a : Fin 2, off a + (![m', n'] : Fin 2 → ℕ) a ≤ (![m, n] : Fin 2 → ℕ) a) (o0 o1 : ℕ) (ho : off = ![o0, o1]) (a : Fin m') (b : Fin n')
    (x : Fin m) (y : Fin n) (hx : x.val = o0 + a.val) (hy : y.val = o1 + b.val) :
    View.readAt (Elt Ideal) v (Rect.unit (s := ⟨2, ![m, n]⟩) off ![m', n'] h).toLoadRect X (ix2 a b)
      = v.read (Elt Ideal) X (ix2 x y) := by
  subst ho
  show v.read (Elt Ideal) X _ = _
  congr 1
  funext p
  refine Fin.ext ?_
  match p with
  | ⟨0, _⟩ =>
    show o0 + 1 * a.val = x.val
    omega
  | ⟨1, _⟩ =>
    show o1 + 1 * b.val = y.val
    omega

/-- A chunk's query at an element. -/
theorem qs_apply (n : Fin 4) (d : Fin 128) (j : Fin 256) :
    qs arg3 X3 n (ix2 d j) = arg3.view.read (Elt Ideal) X3 (ix2 (qrow n d) j) := by
  fin_cases n
  · exact load_apply arg3.view X3 _ _ 0 0 rfl d j _ _ (by simp [qrow]) (by simp)
  · exact load_apply arg3.view X3 _ _ 128 0 rfl d j _ _ (by simp [qrow]) (by simp)
  · exact load_apply arg3.view X3 _ _ 256 0 rfl d j _ _ (by simp [qrow]) (by simp)
  · exact load_apply arg3.view X3 _ _ 384 0 rfl d j _ _ (by simp [qrow]) (by simp)

/-- An earlier block's key at an element. -/
theorem ks_apply (k : Fin (k0_t1_loop i).trips) (n : Fin 4) (y : Fin 256) (d : Fin 128) :
    ks i arg4 X4 k n (ix2 y d) = arg4.view.read (Elt Ideal) X4 (ix2 (krow (256 * k.val + y.val)) (qrow n d)) := by
  have hk : k.val < 16 := by
    have h1 := k.isLt
    have h2 := trips_eq i
    have h3 : (i 2).val < 16 := (i 2).isLt
    omega
  have hm : (256 * k.val + y.val) % 4096 = 256 * k.val + y.val := Nat.mod_eq_of_lt (by omega)
  fin_cases n
  · exact load_apply arg4.view X4 _ _ _ _ (k0_off7_eq i k) y d _ _ hm (by simp [qrow])
  · exact load_apply arg4.view X4 _ _ _ _ (k0_off9_eq i k) y d _ _ hm (by simp [qrow])
  · exact load_apply arg4.view X4 _ _ _ _ (k0_off10_eq i k) y d _ _ hm (by simp [qrow])
  · exact load_apply arg4.view X4 _ _ _ _ (k0_off12_eq i k) y d _ _ hm (by simp [qrow])

/-- An earlier block's value at an element. -/
theorem vs_apply (k : Fin (k0_t1_loop i).trips) (n : Fin 4) (e y : Fin 256) :
    vs i arg5 X5 k n (ix2 e y) = arg5.view.read (Elt Ideal) X5 (ix2 (vrow n e) (krow (256 * k.val + y.val))) := by
  have hk : k.val < 16 := by
    have h1 := k.isLt
    have h2 := trips_eq i
    have h3 : (i 2).val < 16 := (i 2).isLt
    omega
  have hm : (256 * k.val + y.val) % 4096 = 256 * k.val + y.val := Nat.mod_eq_of_lt (by omega)
  fin_cases n
  · exact load_apply arg5.view X5 _ _ _ _ (k0_off8_eq i k) e y _ _ (by simp [vrow]) hm
  · exact load_apply arg5.view X5 _ _ _ _ (k0_off8_eq i k) e y _ _ (by simp [vrow]) hm
  · exact load_apply arg5.view X5 _ _ _ _ (k0_off11_eq i k) e y _ _ (by simp [vrow]) hm
  · exact load_apply arg5.view X5 _ _ _ _ (k0_off11_eq i k) e y _ _ (by simp [vrow]) hm

/-- The own block's key at an element. -/
theorem ko_apply (n : Fin 4) (y : Fin 256) (d : Fin 128) :
    ko i arg4 X4 n (ix2 y d) = arg4.view.read (Elt Ideal) X4 (ix2 (krow (256 * (i 2).val + y.val)) (qrow n d)) := by
  have hk : (i 2).val < 16 := (i 2).isLt
  have hm : (256 * (i 2).val + y.val) % 4096 = 256 * (i 2).val + y.val := Nat.mod_eq_of_lt (by omega)
  fin_cases n
  · exact load_apply arg4.view X4 _ _ _ _ (k0_off1_eq i) y d _ _ hm (by simp [qrow])
  · exact load_apply arg4.view X4 _ _ _ _ (k0_off3_eq i) y d _ _ hm (by simp [qrow])
  · exact load_apply arg4.view X4 _ _ _ _ (k0_off4_eq i) y d _ _ hm (by simp [qrow])
  · exact load_apply arg4.view X4 _ _ _ _ (k0_off6_eq i) y d _ _ hm (by simp [qrow])

/-- The own block's value at an element. -/
theorem vo_apply (n : Fin 4) (e y : Fin 256) :
    vo i arg5 X5 n (ix2 e y) = arg5.view.read (Elt Ideal) X5 (ix2 (vrow n e) (krow (256 * (i 2).val + y.val))) := by
  have hk : (i 2).val < 16 := (i 2).isLt
  have hm : (256 * (i 2).val + y.val) % 4096 = 256 * (i 2).val + y.val := Nat.mod_eq_of_lt (by omega)
  fin_cases n
  · exact load_apply arg5.view X5 _ _ _ _ (k0_off2_eq i) e y _ _ (by simp [vrow]) hm
  · exact load_apply arg5.view X5 _ _ _ _ (k0_off2_eq i) e y _ _ (by simp [vrow]) hm
  · exact load_apply arg5.view X5 _ _ _ _ (k0_off5_eq i) e y _ _ (by simp [vrow]) hm
  · exact load_apply arg5.view X5 _ _ _ _ (k0_off5_eq i) e y _ _ (by simp [vrow]) hm

end Loads

end Cert.Attn

end
-- ==== Proof.KernIdeal.RunA.lean ====
/- The whole-body run of the kernel (one case), taken over from the generated module. The kernel loads a row of sums before
   it first stores it, and uses it nowhere; the run is made with another row in its place, so that what it leaves does not
   name what the scratch held at the start. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The last row that the part before the loops loads goes unused: the part that holds the loops is the same at any. -/
theorem k0_part12_eq (i : grid0.Coords) (arg3 : Memref sig .tc .vmem S512x256 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x512 .bf16) (harg11 : arg11.IsWhole) (arg12 : Memref sig .tc .vmem S4x1x256 .f32) (harg12 : arg12.IsWhole) (arg13 : Memref sig .tc .vmem S4x1x256 .f32) (harg13 : arg13.IsWhole) (arg14 : Memref sig .tc .vmem S4x256x256 .f32) (harg14 : arg14.IsWhole) (arg2 : BitVec 32) (v93 : Vec F S256x256 .bf16) (v95 : FVec F S1x256 .f32) (v98 : FVec F S256x256 .f32) (v100 : FVec F S1x256 .f32) (v101 : Vec F S1x1x256 .f32) :
    k0_part12 (F := F) i arg3 harg3 arg4 harg4 arg5 harg5 arg6 harg6 arg7 harg7 arg8 harg8 arg9 harg9 arg10 harg10 arg11 harg11 arg12 harg12 arg13 harg13 arg14 harg14 arg2 v93 v95 v98 v100 v101
      = k0_part12_skel (F := F) i arg3 harg3 arg4 harg4 arg5 harg5 arg6 harg6 arg7 harg7 arg8 harg8 arg9 harg9 arg10 harg10 arg11 harg11 arg12 harg12 arg13 harg13 arg14 harg14 arg2 v93 v95 v98 v100 (k0_pay89 v100) := rfl

-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg3 : Memref sig .tc .vmem S512x256 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x512 .bf16) (harg11 : arg11.IsWhole) (arg12 : Memref sig .tc .vmem S4x1x256 .f32) (harg12 : arg12.IsWhole) (arg13 : Memref sig .tc .vmem S4x1x256 .f32) (harg13 : arg13.IsWhole) (arg14 : Memref sig .tc .vmem S4x256x256 .f32) (harg14 : arg14.IsWhole)
    (x0 : Vec F S512x256 .bf16) (x1 : Vec F S4096x512 .bf16) (x2 : Vec F S512x4096 .bf16) (x3 : Vec F S256x1 .f32) (x4 : Vec F S1x128 .f32) (x5 : Vec F S1x128 .f32) (x6 : Vec F S1x128 .f32) (x7 : Vec F S1x128 .f32) :
    { L8 : List (View.Piece (Elt F) S256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_diff_prompt i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_diff_prompt_eq_skeleton]; unfold cc0_diff_prompt_skel
    simp only [k0_part9_eq_skeleton, k0_part10_eq_skeleton, k0_part11_eq_skeleton, k0_part12_eq, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Gen

end
-- ==== Proof.KernIdeal.Frame.lean ====
/- The frame of the idealised kernel, taken over from the generated module: it differs from it in the run that it imports. -/
module

public import proofs.«01_k».proof.Proof.KernIdeal.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 8 tile its block (2 stores of `S256x256`, checked by the kernel's evaluation: Lib/Ring.lean `Piece.tiledL`, linear in the pieces, through a loop's `@[irreducible]` trip theorem too), so they cover it. -/
theorem cover0_A_8 (c : Dev nD) (i : grid0.Coords) (arg3 : Memref sig .tc .vmem S512x256 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x512 .bf16) (harg11 : arg11.IsWhole) (arg12 : Memref sig .tc .vmem S4x1x256 .f32) (harg12 : arg12.IsWhole) (arg13 : Memref sig .tc .vmem S4x1x256 .f32) (harg13 : arg13.IsWhole) (arg14 : Memref sig .tc .vmem S4x256x256 .f32) (harg14 : arg14.IsWhole)
    (x0 : Vec F S512x256 .bf16) (x1 : Vec F S4096x512 .bf16) (x2 : Vec F S512x4096 .bf16) (x3 : Vec F S256x1 .f32) (x4 : Vec F S1x128 .f32) (x5 : Vec F S1x128 .f32) (x6 : Vec F S1x128 .f32) (x7 : Vec F S1x128 .f32) (y : S256x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 x0 x1 x2 x3 x4 x5 x6 x7).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 x0 x1 x2 x3 x4 x5 x6 x7).1 S256x256.size (by sl_kernel_rfl) y

/-- What the run leaves in output 8's staging buffer: its pieces read back over junk. -/
def out0_A_8 (c : Dev nD) (i : grid0.Coords) (arg3 : Memref sig .tc .vmem S512x256 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x512 .bf16) (harg11 : arg11.IsWhole) (arg12 : Memref sig .tc .vmem S4x1x256 .f32) (harg12 : arg12.IsWhole) (arg13 : Memref sig .tc .vmem S4x1x256 .f32) (harg13 : arg13.IsWhole) (arg14 : Memref sig .tc .vmem S4x256x256 .f32) (harg14 : arg14.IsWhole)
    (x0 : Vec F S512x256 .bf16) (x1 : Vec F S4096x512 .bf16) (x2 : Vec F S512x4096 .bf16) (x3 : Vec F S256x1 .f32) (x4 : Vec F S1x128 .f32) (x5 : Vec F S1x128 .f32) (x6 : Vec F S1x128 .f32) (x7 : Vec F S1x128 .f32) : Vec F S256x512 .bf16 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 arg14 harg14 x0 x1 x2 x3 x4 x5 x6 x7).1)

/-! ## What the outputs hold after each point -/

/-- What the outputs' staging buffers hold after the body at point `t`: the run's contents at
    the point's memrefs and input blocks. -/
def outsAt0 (c : Dev nD) (t : Fin cfg0.N) : Vec F S256x512 .bf16 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_8
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  iintro ⟨H0, H1, H2, H3, H4, H5, H6, H7, ⟨%e8, H8⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.KernIdeal.Value.lean ====
/- The value leg of the idealised kernel block by block, taken over from the generated module: it differs from it in the
   frame that it imports. -/
module

public import proofs.«01_k».proof.Proof.KernIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`), read through the window's block. -/
theorem flushed8 (c : Dev nD) (t : Fin cfg0.N) :
    (dats m 0 c).flushed 8 t = (cfg0.win 8).cut (grid0.coords t) (outsAt0 m c t) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — the kernel's one case, `Gen.outsAt0` by definition. -/
theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)) := by
  simp only [flushed8, outsAt0]

/-- The index map sends distinct grid points to distinct block indices (decided over the 128 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8192x2048.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v1) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Value

end
-- ==== Proof.Grid.lean ====
/- What the kernel's run leaves in the output block, in the words of Step.lean and Block.lean, and its elements. -/
module

public import proofs.«01_k».proof.Proof.Block
public import proofs.«01_k».proof.Proof.KernIdeal.Value

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Tactic
open Finset

/-- The second loop, over the blocks left past a multiple of the unrolling, makes no trip. -/
theorem trips2_eq : ∀ i : grid0.Coords, Scf.trips (k0_t2_loop i).lb (k0_t2_loop i).ub (k0_t2_loop i).st = 0 := by
  decide +kernel

section Pieces
variable {F : FTy → Type} [FloatOps F] [Named F]
variable (c : Dev nD) (i : grid0.Coords)
  (arg3 : Memref sig .tc .vmem S512x256 .bf16) (harg3 : arg3.IsWhole) (arg4 : Memref sig .tc .vmem S4096x512 .bf16)
  (harg4 : arg4.IsWhole) (arg5 : Memref sig .tc .vmem S512x4096 .bf16) (harg5 : arg5.IsWhole)
  (arg6 : Memref sig .tc .vmem S256x1 .f32) (harg6 : arg6.IsWhole) (arg7 : Memref sig .tc .vmem S1x128 .f32)
  (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x128 .f32)
  (harg10 : arg10.IsWhole) (arg11 : Memref sig .tc .vmem S256x512 .bf16) (harg11 : arg11.IsWhole)
  (arg12 : Memref sig .tc .vmem S4x1x256 .f32) (harg12 : arg12.IsWhole) (arg13 : Memref sig .tc .vmem S4x1x256 .f32)
  (harg13 : arg13.IsWhole) (arg14 : Memref sig .tc .vmem S4x256x256 .f32) (harg14 : arg14.IsWhole)
  (x0 : Vec F S512x256 .bf16) (x1 : Vec F S4096x512 .bf16) (x2 : Vec F S512x4096 .bf16) (x3 : Vec F S256x1 .f32)
  (x4 x5 x6 x7 : Vec F S1x128 .f32)

/-- A chunk's own masked scores. -/
abbrev own (n : Fin 4) : FVec F S256x256 .f32 := masked (ko i arg4 (harg4.unread x1) n) (qs arg3 (harg3.unread x0) n)
/-- The shifts after the own block. -/
abbrev G12 : BufTy.Contents (Elt F) arg12.view.ty :=
  arg12.view.writes (Elt F) arg12.view.junk (rows4 fun n => firstM (own i arg3 harg3 arg4 harg4 x0 x1 n))
/-- The sums after the own block. -/
abbrev G13 : BufTy.Contents (Elt F) arg13.view.ty :=
  arg13.view.writes (Elt F) arg13.view.junk (rows4 fun n => firstL (own i arg3 harg3 arg4 harg4 x0 x1 n))
/-- The weighted sums after the own block. -/
abbrev G14 : BufTy.Contents (Elt F) arg14.view.ty :=
  arg14.view.writes (Elt F) arg14.view.junk
    (accs4 fun n => firstA (own i arg3 harg3 arg4 harg4 x0 x1 n) (vo i arg5 (harg5.unread x2) n))
/-- What the loop writes. -/
abbrev loopP : ℕ → List (View.Piece (Elt F) S4x1x256 .f32) × List (View.Piece (Elt F) S4x1x256 .f32) ×
    List (View.Piece (Elt F) S4x256x256 .f32) :=
  pb_k0_t1 Variants.none c none i arg3 harg3 arg4 harg4 arg5 harg5 arg6 harg6 arg7 harg7 arg8 harg8 arg9 harg9 arg10 harg10 arg11 harg11 arg12 harg12 arg13 harg13 arg14 harg14
    (BitVec.ofNat 32 (i 2).val) (kernelRun0_A.sl.r_2 c i arg5 harg5 x2) (kernelRun0_A.sl.r_3 c i arg3 harg3 arg4 harg4 x0 x1)
    (kernelRun0_A.sl.r_4 c i arg3 harg3 arg4 harg4 x0 x1) (kernelRun0_A.sl.r_5 c i arg3 harg3 arg4 harg4 x0 x1)
    (k0_pay89 (kernelRun0_A.sl.r_5 c i arg3 harg3 arg4 harg4 x0 x1))
    (harg3.unread x0) (harg4.unread x1) (harg5.unread x2)
    (G12 i arg3 harg3 arg4 harg4 arg12 x0 x1) (G13 i arg3 harg3 arg4 harg4 arg13 x0 x1)
    (G14 i arg3 harg3 arg4 harg4 arg5 harg5 arg14 x0 x1 x2)
/-- The sums when the loop is over. -/
abbrev endL (n : Fin 4) : Vec F S1x1x256 .f32 :=
  rowAt arg13 (arg13.view.writes (Elt F) (G13 i arg3 harg3 arg4 harg4 arg13 x0 x1)
    (loopP c i arg3 harg3 arg4 harg4 arg5 harg5 arg6 harg6 arg7 harg7 arg8 harg8 arg9 harg9 arg10 harg10 arg11 harg11 arg12 harg12 arg13 harg13 arg14 harg14 x0 x1 x2 (k0_t1_loop i).trips).2.1) n
/-- The weighted sums when the loop is over. -/
abbrev endA (n : Fin 4) : Vec F S1x256x256 .f32 :=
  accAt arg14 (arg14.view.writes (Elt F) (G14 i arg3 harg3 arg4 harg4 arg5 harg5 arg14 x0 x1 x2)
    (loopP c i arg3 harg3 arg4 harg4 arg5 harg5 arg6 harg6 arg7 harg7 arg8 harg8 arg9 harg9 arg10 harg10 arg11 harg11 arg12 harg12 arg13 harg13 arg14 harg14 x0 x1 x2 (k0_t1_loop i).trips).2.2) n

/-- The shifts stored for the own block. -/
theorem HS0_eq : kernelRun0_A.sl.HS0_4 c i arg3 harg3 arg4 harg4 x0 x1
    = rows4 fun n => firstM (own i arg3 harg3 arg4 harg4 x0 x1 n) := rfl
/-- The sums stored for the own block. -/
theorem HS1_eq : kernelRun0_A.sl.HS1_4 c i arg3 harg3 arg4 harg4 x0 x1
    = rows4 fun n => firstL (own i arg3 harg3 arg4 harg4 x0 x1 n) := rfl
/-- The weighted sums stored for the own block. -/
theorem HS2_eq : kernelRun0_A.sl.HS2_4 c i arg3 harg3 arg4 harg4 arg5 harg5 x0 x1 x2
    = accs4 fun n => firstA (own i arg3 harg3 arg4 harg4 x0 x1 n) (vo i arg5 (harg5.unread x2) n) := rfl

/-- A load after the loops. -/
theorem v132_eq : kernelRun0_A.sl.v132 c i arg3 harg3 arg4 harg4 arg5 harg5 arg6 harg6 arg7 harg7 arg8 harg8 arg9 harg9 arg10 harg10 arg11 harg11 arg12 harg12 arg13 harg13 arg14 harg14 x0 x1 x2 = endA c i arg3 harg3 arg4 harg4 arg5 harg5 arg6 harg6 arg7 harg7 arg8 harg8 arg9 harg9 arg10 harg10 arg11 harg11 arg12 harg12 arg13 harg13 arg14 harg14 x0 x1 x2 0 := by
  unfold kernelRun0_A.sl.v132 View.readCov
  rw [HS0_eq, HS1_eq, HS2_eq, trips2_eq, pb_k0_t2.eq_1, List.nil_append, View.writes_append]

/-- A load after the loops. -/
theorem v134_eq : kernelRun0_A.sl.v134 c i arg3 harg3 arg4 harg4 arg5 harg5 arg6 harg6 arg7 harg7 arg8 harg8 arg9 harg9 arg10 harg10 arg11 harg11 arg12 harg12 arg13 harg13 arg14 harg14 x0 x1 x2 = endL c i arg3 harg3 arg4 harg4 arg5 harg5 arg6 harg6 arg7 harg7 arg8 harg8 arg9 harg9 arg10 harg10 arg11 harg11 arg12 harg12 arg13 harg13 arg14 harg14 x0 x1 x2 0 := by
  unfold kernelRun0_A.sl.v134 View.readCov
  rw [HS0_eq, HS1_eq, HS2_eq, trips2_eq, pb_k0_t2.eq_1, List.nil_append, View.writes_append]

/-- A load after the loops. -/
theorem v138_eq : kernelRun0_A.sl.v138 c i arg3 harg3 arg4 harg4 arg5 harg5 arg6 harg6 arg7 harg7 arg8 harg8 arg9 harg9 arg10 harg10 arg11 harg11 arg12 harg12 arg13 harg13 arg14 harg14 x0 x1 x2 = endA c i arg3 harg3 arg4 harg4 arg5 harg5 arg6 harg6 arg7 harg7 arg8 harg8 arg9 harg9 arg10 harg10 arg11 harg11 arg12 harg12 arg13 harg13 arg14 harg14 x0 x1 x2 1 := by
  unfold kernelRun0_A.sl.v138 View.readCov
  rw [HS0_eq, HS1_eq, HS2_eq, trips2_eq, pb_k0_t2.eq_1, List.nil_append, View.writes_append]

/-- A load after the loops. -/
theorem v140_eq : kernelRun0_A.sl.v140 c i arg3 harg3 arg4 harg4 arg5 harg5 arg6 harg6 arg7 harg7 arg8 harg8 arg9 harg9 arg10 harg10 arg11 harg11 arg12 harg12 arg13 harg13 arg14 harg14 x0 x1 x2 = endL c i arg3 harg3 arg4 harg4 arg5 harg5 arg6 harg6 arg7 harg7 arg8 harg8 arg9 harg9 arg10 harg10 arg11 harg11 arg12 harg12 arg13 harg13 arg14 harg14 x0 x1 x2 1 := by
  unfold kernelRun0_A.sl.v140 View.readCov
  rw [HS0_eq, HS1_eq, HS2_eq, trips2_eq, pb_k0_t2.eq_1, List.nil_append, View.writes_append]

/-- A load after the loops. -/
theorem v166_eq : kernelRun0_A.sl.v166 c i arg3 harg3 arg4 harg4 arg5 harg5 arg6 harg6 arg7 harg7 arg8 harg8 arg9 harg9 arg10 harg10 arg11 harg11 arg12 harg12 arg13 harg13 arg14 harg14 x0 x1 x2 = endA c i arg3 harg3 arg4 harg4 arg5 harg5 arg6 harg6 arg7 harg7 arg8 harg8 arg9 harg9 arg10 harg10 arg11 harg11 arg12 harg12 arg13 harg13 arg14 harg14 x0 x1 x2 2 := by
  unfold kernelRun0_A.sl.v166 View.readCov
  rw [HS0_eq, HS1_eq, HS2_eq, trips2_eq, pb_k0_t2.eq_1, List.nil_append, View.writes_append]

/-- A load after the loops. -/
theorem v168_eq : kernelRun0_A.sl.v168 c i arg3 harg3 arg4 harg4 arg5 harg5 arg6 harg6 arg7 harg7 arg8 harg8 arg9 harg9 arg10 harg10 arg11 harg11 arg12 harg12 arg13 harg13 arg14 harg14 x0 x1 x2 = endL c i arg3 harg3 arg4 harg4 arg5 harg5 arg6 harg6 arg7 harg7 arg8 harg8 arg9 harg9 arg10 harg10 arg11 harg11 arg12 harg12 arg13 harg13 arg14 harg14 x0 x1 x2 2 := by
  unfold kernelRun0_A.sl.v168 View.readCov
  rw [HS0_eq, HS1_eq, HS2_eq, trips2_eq, pb_k0_t2.eq_1, List.nil_append, View.writes_append]

/-- A load after the loops. -/
theorem v172_eq : kernelRun0_A.sl.v172 c i arg3 harg3 arg4 harg4 arg5 harg5 arg6 harg6 arg7 harg7 arg8 harg8 arg9 harg9 arg10 harg10 arg11 harg11 arg12 harg12 arg13 harg13 arg14 harg14 x0 x1 x2 = endA c i arg3 harg3 arg4 harg4 arg5 harg5 arg6 harg6 arg7 harg7 arg8 harg8 arg9 harg9 arg10 harg10 arg11 harg11 arg12 harg12 arg13 harg13 arg14 harg14 x0 x1 x2 3 := by
  unfold kernelRun0_A.sl.v172 View.readCov
  rw [HS0_eq, HS1_eq, HS2_eq, trips2_eq, pb_k0_t2.eq_1, List.nil_append, View.writes_append]

/-- A load after the loops. -/
theorem v174_eq : kernelRun0_A.sl.v174 c i arg3 harg3 arg4 harg4 arg5 harg5 arg6 harg6 arg7 harg7 arg8 harg8 arg9 harg9 arg10 harg10 arg11 harg11 arg12 harg12 arg13 harg13 arg14 harg14 x0 x1 x2 = endL c i arg3 harg3 arg4 harg4 arg5 harg5 arg6 harg6 arg7 harg7 arg8 harg8 arg9 harg9 arg10 harg10 arg11 harg11 arg12 harg12 arg13 harg13 arg14 harg14 x0 x1 x2 3 := by
  unfold kernelRun0_A.sl.v174 View.readCov
  rw [HS0_eq, HS1_eq, HS2_eq, trips2_eq, pb_k0_t2.eq_1, List.nil_append, View.writes_append]

end Pieces

section Elements
variable (c : Dev nD) (i : grid0.Coords)
  (arg3 : Memref sig .tc .vmem S512x256 .bf16) (harg3 : arg3.IsWhole) (arg4 : Memref sig .tc .vmem S4096x512 .bf16)
  (harg4 : arg4.IsWhole) (arg5 : Memref sig .tc .vmem S512x4096 .bf16) (harg5 : arg5.IsWhole)
  (arg6 : Memref sig .tc .vmem S256x1 .f32) (harg6 : arg6.IsWhole) (arg7 : Memref sig .tc .vmem S1x128 .f32)
  (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x128 .f32)
  (harg10 : arg10.IsWhole) (arg11 : Memref sig .tc .vmem S256x512 .bf16) (harg11 : arg11.IsWhole)
  (arg12 : Memref sig .tc .vmem S4x1x256 .f32) (harg12 : arg12.IsWhole) (arg13 : Memref sig .tc .vmem S4x1x256 .f32)
  (harg13 : arg13.IsWhole) (arg14 : Memref sig .tc .vmem S4x256x256 .f32) (harg14 : arg14.IsWhole)
  (x0 : Vec Ideal S512x256 .bf16) (x1 : Vec Ideal S4096x512 .bf16) (x2 : Vec Ideal S512x4096 .bf16) (x3 : Vec Ideal S256x1 .f32)
  (x4 x5 x6 x7 : Vec Ideal S1x128 .f32)

/-- A query's quotient when the loop is over: the mean of the values over the keys up to the query, its own block's first. -/
theorem end_div (n : Fin 4) (e j : Fin 256) (s v : ℕ → ℝ)
    (hs : ∀ y < 4096, (∑ d : Fin 128, x1 (ix2 (krow y) (qrow n d)) * x0 (ix2 (qrow n d) j)) = ((s y : ℝ) : EReal))
    (hv : ∀ y < 4096, x2 (ix2 (vrow n e) (krow y)) = ((v y : ℝ) : EReal)) :
    Ideal.div (endA c i arg3 harg3 arg4 harg4 arg5 harg5 arg6 harg6 arg7 harg7 arg8 harg8 arg9 harg9 arg10 harg10 arg11 harg11 arg12 harg12 arg13 harg13 arg14 harg14 x0 x1 x2 n (ix3 0 e j)) (endL c i arg3 harg3 arg4 harg4 arg5 harg5 arg6 harg6 arg7 harg7 arg8 harg8 arg9 harg9 arg10 harg10 arg11 harg11 arg12 harg12 arg13 harg13 arg14 harg14 x0 x1 x2 n (ix3 0 0 j))
      = ((mean (range (256 * (i 2).val + j.val + 1)) s v : ℝ) : EReal) := by
  have hq : (i 2).val < 16 := (i 2).isLt
  have ht := trips_eq i
  have h := trips_run Variants.none c none i arg3 harg3 arg4 harg4 arg5 harg5 arg6 harg6 arg7 harg7 arg8 harg8 arg9 harg9 arg10 harg10 arg11 harg11 arg12 harg12 arg13 harg13 arg14 harg14
    (BitVec.ofNat 32 (i 2).val) (kernelRun0_A.sl.r_2 c i arg5 harg5 x2) (kernelRun0_A.sl.r_3 c i arg3 harg3 arg4 harg4 x0 x1)
    (kernelRun0_A.sl.r_4 c i arg3 harg3 arg4 harg4 x0 x1) (kernelRun0_A.sl.r_5 c i arg3 harg3 arg4 harg4 x0 x1)
    (k0_pay89 (kernelRun0_A.sl.r_5 c i arg3 harg3 arg4 harg4 x0 x1))
    (harg3.unread x0) (harg4.unread x1) (harg5.unread x2)
    (G12 i arg3 harg3 arg4 harg4 arg12 x0 x1) (G13 i arg3 harg3 arg4 harg4 arg13 x0 x1)
    (G14 i arg3 harg3 arg4 harg4 arg5 harg5 arg14 x0 x1 x2)
    (loopP c i arg3 harg3 arg4 harg4 arg5 harg5 arg6 harg6 arg7 harg7 arg8 harg8 arg9 harg9 arg10 harg10 arg11 harg11 arg12 harg12 arg13 harg13 arg14 harg14 x0 x1 x2) rfl n e j s v (Ico (256 * (i 2).val) (256 * (i 2).val + (j.val + 1)))
    (by
      intro y hy
      rw [ht]
      exact (mem_Ico.1 hy).1)
    (by
      rw [rowAt_writes, rowAt_writes, accAt_writes]
      refine chunk_first _ _ _ e j s v (fun k => ?_) (fun k => ?_)
      · have hk := k.isLt
        show masked _ _ (ix2 k j) = _
        rw [masked_apply, scores_apply, ← hs (256 * (i 2).val + k.val) (by omega)]
        simp only [ko_apply, qs_apply, harg3.read_unread, harg4.read_unread]
      · have hk := k.isLt
        rw [vo_apply, harg5.read_unread]
        exact hv _ (by omega))
    (by
      intro k y
      have hk := k.isLt
      have hy := y.isLt
      rw [scores_apply, ← hs (256 * k.val + y.val) (by omega)]
      simp only [ks_apply, qs_apply, harg3.read_unread, harg4.read_unread])
    (by
      intro k y
      have hk := k.isLt
      have hy := y.isLt
      rw [vs_apply, harg5.read_unread]
      exact hv _ (by omega))
    (k0_t1_loop i).trips le_rfl
  have hr : Ico (256 * (i 2).val) (256 * (i 2).val + (j.val + 1)) ∪ range (256 * (k0_t1_loop i).trips)
      = range (256 * (i 2).val + j.val + 1) := by
    rw [ht]
    ext y
    simp only [mem_union, mem_range, mem_Ico]
    omega
  rw [hr] at h
  exact run_div ⟨0, mem_range.2 (by omega)⟩ h

/-- A load of a whole row reads the row. -/
theorem load_row (arg : Memref sig .tc .vmem S1x128 .f32) (harg : arg.IsWhole) (x : Vec Ideal S1x128 .f32) :
    View.readAt (Elt Ideal) arg.view (Rect.unit (s := S1x128) ![0, 0] S1x128.size inb_S1x128_S1x128_0_0).toLoadRect (harg.unread x) = x := by
  funext z
  obtain ⟨a, b, rfl⟩ : ∃ (a : Fin 1) (b : Fin 128), z = ix2 a b := ⟨z 0, z 1, by
    funext p
    fin_cases p <;> rfl⟩
  rw [load_apply arg.view (harg.unread x) ![0, 0] inb_S1x128_S1x128_0_0 0 0 rfl a b a b (by simp) (by simp), harg.read_unread]

/-- The output block at an element: the first head's columns. -/
theorem out0_first (j e : Fin 256) :
    out0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 x7 (ix2 j ⟨e.val, by omega⟩)
      = tail (fun x => Ideal.div (endA c i arg3 harg3 arg4 harg4 arg5 harg5 arg6 harg6 arg7 harg7 arg8 harg8 arg9 harg9 arg10 harg10 arg11 harg11 arg12 harg12 arg13 harg13 arg14 harg14 x0 x1 x2 0 (ix3 0 x j)) (endL c i arg3 harg3 arg4 harg4 arg5 harg5 arg6 harg6 arg7 harg7 arg8 harg8 arg9 harg9 arg10 harg10 arg11 harg11 arg12 harg12 arg13 harg13 arg14 harg14 x0 x1 x2 0 (ix3 0 0 j))
          - lam x4 x5 x6 x7 * Ideal.div (endA c i arg3 harg3 arg4 harg4 arg5 harg5 arg6 harg6 arg7 harg7 arg8 harg8 arg9 harg9 arg10 harg10 arg11 harg11 arg12 harg12 arg13 harg13 arg14 harg14 x0 x1 x2 1 (ix3 0 x j)) (endL c i arg3 harg3 arg4 harg4 arg5 harg5 arg6 harg6 arg7 harg7 arg8 harg8 arg9 harg9 arg10 harg10 arg11 harg11 arg12 harg12 arg13 harg13 arg14 harg14 x0 x1 x2 1 (ix3 0 0 j)))
        (x3 (ix2 e 0)) e := by
  unfold out0_A_8 kernelRun0_A
  dsimp only
  have hlt : e.val < 256 := e.isLt
  rw [View.read_writes_cons_unit_of_not_mem _ _ _ _ _ _ rfl (1 : Fin 2) (Or.inl hlt)]
  rw [View.read_writes_cons_unit_of_mem _ _ _ _ _ _ (ix2 j e) rfl (by
    intro a
    fin_cases a
    · show j.val = 0 + j.val
      omega
    · show e.val = 0 + e.val
      omega)]
  rw [pay99_at, v132_eq, v134_eq, v138_eq, v140_eq]
  unfold kernelRun0_A.sl.r_6
  rw [pay98_at, load_row, load_row, load_row, load_row]
  refine congrArg (fun z => tail _ z e) ?_
  refine (load_apply arg6.view (harg6.unread x3) ![0, 0] inb_S256x1_S256x1_0_0 0 0 rfl e 0 e 0 (by simp) (by simp)).trans ?_
  rw [harg6.read_unread]

/-- The output block at an element: the second head's columns. -/
theorem out0_second (j e : Fin 256) :
    out0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 x7 (ix2 j ⟨256 + e.val, by omega⟩)
      = tail (fun x => Ideal.div (endA c i arg3 harg3 arg4 harg4 arg5 harg5 arg6 harg6 arg7 harg7 arg8 harg8 arg9 harg9 arg10 harg10 arg11 harg11 arg12 harg12 arg13 harg13 arg14 harg14 x0 x1 x2 2 (ix3 0 x j)) (endL c i arg3 harg3 arg4 harg4 arg5 harg5 arg6 harg6 arg7 harg7 arg8 harg8 arg9 harg9 arg10 harg10 arg11 harg11 arg12 harg12 arg13 harg13 arg14 harg14 x0 x1 x2 2 (ix3 0 0 j))
          - lam x4 x5 x6 x7 * Ideal.div (endA c i arg3 harg3 arg4 harg4 arg5 harg5 arg6 harg6 arg7 harg7 arg8 harg8 arg9 harg9 arg10 harg10 arg11 harg11 arg12 harg12 arg13 harg13 arg14 harg14 x0 x1 x2 3 (ix3 0 x j)) (endL c i arg3 harg3 arg4 harg4 arg5 harg5 arg6 harg6 arg7 harg7 arg8 harg8 arg9 harg9 arg10 harg10 arg11 harg11 arg12 harg12 arg13 harg13 arg14 harg14 x0 x1 x2 3 (ix3 0 0 j)))
        (x3 (ix2 e 0)) e := by
  unfold out0_A_8 kernelRun0_A
  dsimp only
  rw [View.read_writes_cons_unit_of_mem _ _ _ _ _ _ (ix2 j e) rfl (by
    intro a
    fin_cases a
    · show j.val = 0 + j.val
      omega
    · rfl)]
  unfold kernelRun0_A.sl.r_7
  rw [pay1_at, v166_eq, v168_eq, v172_eq, v174_eq]
  unfold kernelRun0_A.sl.r_6
  rw [pay98_at, load_row, load_row, load_row, load_row]
  refine congrArg (fun z => tail _ z e) ?_
  refine (load_apply arg6.view (harg6.unread x3) ![0, 0] inb_S256x1_S256x1_0_0 0 0 rfl e 0 e 0 (by simp) (by simp)).trans ?_
  rw [harg6.read_unread]

end Elements

end Cert.Attn

end
-- ==== Proof.Ref.lean ====
/- The reference at an element: its stages, read one after the other into the words of Spec.lean. -/
module

public import proofs.«01_k».proof.Proof.Gen.ReferenceIdeal.Read
public import proofs.«01_k».proof.Proof.Spec

@[expose] public section

noncomputable section

namespace Cert.Attn.Ref

open Cert.ReferenceIdeal Cert.ReferenceIdeal.Gen Idealize.ShloMosaic Finset
open Cert.ReferenceIdeal.Read

variable (A0 : Arr 2048 8192) (A1 : Arr 8192 2048) (A2 : Arr 2048 8192) (A3 : Arr 1 256) (A4 A5 A6 A7 : Arr 1 128)

/-- A token's row where its position lies in the prompt. -/
theorem tok_val (b : Fin 2) (y : ℕ) (hy : y < 4096) : (tok b y).val = 4096 * b.val + y :=
  Nat.mod_eq_of_lt (by omega)

/-- The queries, regrouped. -/
theorem v10_at (b : Fin 2) (t : Fin 4096) (h : Fin 8) (p : Fin 2) (d : Fin 128) :
    val_main_v10 (F := Ideal) A0 (ix5 b t h p d) = A0 (ix2 (feat h p d) (tok b t.val)) := by
  rw [val_main_v10_apply, val_main_v9_apply, val_main_v8_apply, Ideal.extf_def]
  refine congrArg A0 (funext fun a => Fin.ext ?_)
  have hb := b.isLt; have ht := t.isLt; have hh := h.isLt; have hp := p.isLt; have hd := d.isLt
  match a with
  | ⟨0, _⟩ =>
    show ((((b.val * 4096 + t.val) * 8 + h.val) * 2 + p.val) * 128 + d.val) % 2048 = 256 * h.val + 128 * p.val + d.val
    omega
  | ⟨1, _⟩ =>
    show ((((b.val * 4096 + t.val) * 8 + h.val) * 2 + p.val) * 128 + d.val) / 2048 = (tok b t.val).val
    rw [tok_val b t.val ht]
    omega

/-- The keys, regrouped. -/
theorem v12_at (b : Fin 2) (t : Fin 4096) (h : Fin 8) (p : Fin 2) (d : Fin 128) :
    val_main_v12 (F := Ideal) A1 (ix5 b t h p d) = A1 (ix2 (tok b t.val) (feat h p d)) := by
  rw [val_main_v12_apply, val_main_v11_apply, Ideal.extf_def]
  refine congrArg A1 (funext fun a => Fin.ext ?_)
  have hb := b.isLt; have ht := t.isLt; have hh := h.isLt; have hp := p.isLt; have hd := d.isLt
  match a with
  | ⟨1, _⟩ =>
    show ((((b.val * 4096 + t.val) * 8 + h.val) * 2 + p.val) * 128 + d.val) % 2048 = 256 * h.val + 128 * p.val + d.val
    omega
  | ⟨0, _⟩ =>
    show ((((b.val * 4096 + t.val) * 8 + h.val) * 2 + p.val) * 128 + d.val) / 2048 = (tok b t.val).val
    rw [tok_val b t.val ht]
    omega

/-- The values, regrouped. -/
theorem v15_at (b : Fin 2) (t : Fin 4096) (h : Fin 8) (e : Fin 256) :
    val_main_v15 (F := Ideal) A2 (ix4 b t h e) = A2 (ix2 (vcol h e) (tok b t.val)) := by
  rw [val_main_v15_apply, val_main_v14_apply, val_main_v13_apply, Ideal.extf_def]
  refine congrArg A2 (funext fun a => Fin.ext ?_)
  have hb := b.isLt; have ht := t.isLt; have hh := h.isLt; have he := e.isLt
  match a with
  | ⟨0, _⟩ =>
    show (((b.val * 4096 + t.val) * 8 + h.val) * 256 + e.val) % 2048 = 256 * h.val + e.val
    omega
  | ⟨1, _⟩ =>
    show (((b.val * 4096 + t.val) * 8 + h.val) * 256 + e.val) / 2048 = (tok b t.val).val
    rw [tok_val b t.val ht]
    omega

/-- The causal mask. -/
theorem mask_at (b : Fin 2) (h : Fin 8) (p : Fin 2) (t y : Fin 4096) (x z : EReal) :
    Scalar.select (val_main_call0_v1 (F := Ideal) (ix5 b h p t y)) x z = if y.val ≤ t.val then x else z := by
  rw [val_main_call0_v1_apply, val_main_v21_apply, val_main_v19_apply, val_main_v17_apply, val_main_v16_apply,
    val_main_v20_apply, val_main_v18_apply, val_main_v16_apply]
  show Scalar.select (IntOp.cmpi .sle (BitVec.ofNat 32 y.val) (BitVec.ofNat 32 t.val)) x z = _
  have hy := y.isLt
  have ht := t.isLt
  have hc : ∀ n : ℕ, n < 4096 → (BitVec.ofNat 32 n).toInt = (n : ℤ) := by
    intro n hn
    have hm : (BitVec.ofNat 32 n).toNat = n := by
      rw [BitVec.toNat_ofNat]
      exact Nat.mod_eq_of_lt (by omega)
    rw [BitVec.toInt_eq_toNat_of_lt (by rw [hm]; omega), hm]
  unfold Scalar.select IntOp.cmpi
  simp only [BitVec.sle, hc _ hy, hc _ ht, Nat.cast_le]
  by_cases hle : y.val ≤ t.val <;> simp [hle]

/-- The scores. -/
theorem v22_at (h0 : IsReal A0) (h1 : IsReal A1) (b : Fin 2) (h : Fin 8) (p : Fin 2) (t y : Fin 4096) :
    val_main_v22 (F := Ideal) A0 A1 (ix5 b h p t y) = ((score A0 A1 b h p t.val y.val : ℝ) : EReal) := by
  rw [val_main_v22_apply, score, ← coe_sum]
  refine sum_congr rfl fun d _ => ?_
  have e0 : lidx_main_v22 (ix5 b h p t y) d = ix5 b t h p d := by
    funext a; fin_cases a <;> rfl
  have e1 : ridx_main_v22 (ix5 b h p t y) d = ix5 b y h p d := by
    funext a; fin_cases a <;> rfl
  rw [e0, e1, v10_at, v12_at]
  exact (congrArg₂ (· * ·) (h0 _) (h1 _)).trans (EReal.coe_mul _ _).symm

/-- The masked scores. -/
theorem v23_at (h0 : IsReal A0) (h1 : IsReal A1) (b : Fin 2) (h : Fin 8) (p : Fin 2) (t y : Fin 4096) :
    val_main_v23 (F := Ideal) A0 A1 (ix5 b h p t y)
      = if y.val ≤ t.val then ((score A0 A1 b h p t.val y.val : ℝ) : EReal) else ⊥ := by
  rw [val_main_v23_apply, mask_at, v22_at A0 A1 h0 h1, val_main_call0_v2_apply, val_main_call0_v0_apply,
    val_main_cst_2_apply]
  rfl

/-- The largest score of a row. -/
theorem v26_at (b : Fin 2) (h : Fin 8) (p : Fin 2) (t : Fin 4096) :
    val_main_v26 (F := Ideal) A0 A1 (ix4 b h p t)
      = univ.fold max ⊥ fun y : Fin 4096 => val_main_v23 (F := Ideal) A0 A1 (ix5 b h p t y) := by
  rw [val_main_v26_apply, val_main_v25_apply, val_main_cst_4_apply]
  unfold val_main_v24
  simp only [pointwise, Ideal.maximumf_def, Ideal.ofBits_def]
  exact bot_sup_eq _

/-- The sum of a row. -/
theorem v31_at (b : Fin 2) (h : Fin 8) (p : Fin 2) (t : Fin 4096) :
    val_main_v31 (F := Ideal) A0 A1 (ix4 b h p t)
      = ∑ y : Fin 4096, Ideal.exp (val_main_v23 (F := Ideal) A0 A1 (ix5 b h p t y) - val_main_v26 (F := Ideal) A0 A1 (ix4 b h p t)) := by
  rw [val_main_v31_apply, val_main_cst_5_apply, Ideal.ofBits_def, Ideal.ofBits_zero_f32, zero_add]
  refine sum_congr rfl fun y _ => ?_
  have e : idx_main_v31 (ix4 b h p t) y = ix5 b h p t y := by
    funext a; fin_cases a <;> rfl
  rw [e, val_main_v30_apply, val_main_v29_apply, val_main_v28_apply, val_main_v27_apply, Ideal.hostUnary_exp_def, Ideal.subf_def]
  congr 3
  funext a; fin_cases a <;> rfl

/-- A softmax weight. -/
theorem v34_at (b : Fin 2) (h : Fin 8) (p : Fin 2) (t y : Fin 4096) :
    val_main_v34 (F := Ideal) A0 A1 (ix5 b h p t y)
      = Ideal.div (Ideal.exp (val_main_v23 (F := Ideal) A0 A1 (ix5 b h p t y) - val_main_v26 (F := Ideal) A0 A1 (ix4 b h p t)))
        (val_main_v31 (F := Ideal) A0 A1 (ix4 b h p t)) := by
  rw [val_main_v34_apply, val_main_v30_apply, val_main_v29_apply, val_main_v28_apply, val_main_v27_apply, val_main_v33_apply,
    val_main_v32_apply, Ideal.hostUnary_exp_def, Ideal.subf_def, Ideal.hostDivf_def]
  have e : idx_main_v27 (idx_main_v28 (ix5 b h p t y)) = ix4 b h p t := by
    funext a; fin_cases a <;> rfl
  have e' : idx_main_v32 (idx_main_v33 (ix5 b h p t y)) = ix4 b h p t := by
    funext a; fin_cases a <;> rfl
  rw [e, e']

/-- The weights of a row are reals, and weighing by them is the mean under the causal softmax. -/
theorem weights (h0 : IsReal A0) (h1 : IsReal A1) (b : Fin 2) (h : Fin 8) (p : Fin 2) (t : Fin 4096) :
    ∃ w : Fin 4096 → ℝ, (∀ y, val_main_v34 (F := Ideal) A0 A1 (ix5 b h p t y) = ((w y : ℝ) : EReal))
      ∧ ∀ v : ℕ → ℝ, ∑ y, w y * v y.val = mean (range (t.val + 1)) (score A0 A1 b h p t.val) v :=
  plain 4096 t.val t.isLt (score A0 A1 b h p t.val) (fun y => val_main_v23 (F := Ideal) A0 A1 (ix5 b h p t y)) _ _ _
    (v23_at A0 A1 h0 h1 b h p t) (v26_at A0 A1 b h p t) (v31_at A0 A1 b h p t) (v34_at A0 A1 b h p t)

/-- The factor of the second softmax. -/
theorem v7_at (i : S_.Idx) : val_main_v7 (F := Ideal) A4 A5 A6 A7 i = lam A4 A5 A6 A7 := by
  have hs : ∀ A B : Arr 1 128, ∑ j : S1x128.Idx, A j * B j = ∑ d : Fin 128, A (ix2 0 d) * B (ix2 0 d) := by
    intro A B
    let E : Fin 128 ≃ S1x128.Idx :=
      { toFun := fun d => ix2 0 d
        invFun := fun j => j 1
        left_inv := fun d => rfl
        right_inv := fun j => by
          funext a
          match a with
          | ⟨0, _⟩ => exact (Subsingleton.elim (α := Fin 1) _ _)
          | ⟨1, _⟩ => rfl }
    exact (Equiv.sum_comp E fun j => A j * B j).symm
  rw [val_main_v7_apply, val_main_v6_apply, val_main_v2_apply, val_main_v5_apply, val_main_v1_apply, val_main_v4_apply,
    val_main_cst_apply, val_main_cst_0_apply, val_main_cst_1_apply]
  simp only [val_main_v0_apply, val_main_v3_apply, Ideal.ofBits_def, Ideal.ofBits_zero_f32, zero_add, Ideal.mulf_def,
    Ideal.hostUnary_exp_def, Ideal.subf_def, Ideal.addf_def]
  rw [hs, hs]
  rfl

/-- The difference of the two means. -/
theorem v43_at (h0 : IsReal A0) (h1 : IsReal A1) (h2 : IsReal A2) (h4 : IsReal A4) (h5 : IsReal A5) (h6 : IsReal A6)
    (h7 : IsReal A7) (b : Fin 2) (t : Fin 4096) (h : Fin 8) (e : Fin 256) :
    val_main_v43 (F := Ideal) A0 A1 A2 A4 A5 A6 A7 (ix4 b t h e) = diff A0 A1 A2 A4 A5 A6 A7 b h t.val e := by
  obtain ⟨w, hw, hm⟩ := weights A0 A1 h0 h1 b h 0 t
  obtain ⟨w', hw', hm'⟩ := weights A0 A1 h0 h1 b h 1 t
  obtain ⟨r, hr⟩ := lam_real A4 A5 A6 A7 h4 h5 h6 h7
  rw [val_main_v43_apply, val_main_v42_apply, diff, hr, ← hm, ← hm', ← EReal.coe_mul, ← EReal.coe_sub, mul_sum,
    ← sum_sub_distrib, ← coe_sum]
  refine sum_congr rfl fun y _ => ?_
  have e0 : lidx_main_v42 (idx_main_v43 (ix4 b t h e)) y = ix4 b y h e := by
    funext a; fin_cases a <;> rfl
  have e1 : ridx_main_v42 (idx_main_v43 (ix4 b t h e)) y = ix4 b h t y := by
    funext a; fin_cases a <;> rfl
  have e2 : idx_main_v35 (idx_main_v36 (ix4 b h t y)) = ix5 b h 0 t y := by
    funext a
    refine Fin.ext ?_
    match a with
    | ⟨0, _⟩ =>
      show (((b.val * 8 + h.val) * 4096 + t.val) * 4096 + y.val) / 134217728 = b.val
      omega
    | ⟨1, _⟩ =>
      show (((b.val * 8 + h.val) * 4096 + t.val) * 4096 + y.val) / 16777216 % 8 = h.val
      omega
    | ⟨2, _⟩ => rfl
    | ⟨3, _⟩ =>
      show (((b.val * 8 + h.val) * 4096 + t.val) * 4096 + y.val) / 4096 % 4096 = t.val
      omega
    | ⟨4, _⟩ =>
      show (((b.val * 8 + h.val) * 4096 + t.val) * 4096 + y.val) % 4096 = y.val
      omega
  have e3 : idx_main_v37 (idx_main_v38 (ix4 b h t y)) = ix5 b h 1 t y := by
    funext a
    refine Fin.ext ?_
    match a with
    | ⟨0, _⟩ =>
      show (((b.val * 8 + h.val) * 4096 + t.val) * 4096 + y.val) / 134217728 = b.val
      omega
    | ⟨1, _⟩ =>
      show (((b.val * 8 + h.val) * 4096 + t.val) * 4096 + y.val) / 16777216 % 8 = h.val
      omega
    | ⟨2, _⟩ => rfl
    | ⟨3, _⟩ =>
      show (((b.val * 8 + h.val) * 4096 + t.val) * 4096 + y.val) / 4096 % 4096 = t.val
      omega
    | ⟨4, _⟩ =>
      show (((b.val * 8 + h.val) * 4096 + t.val) * 4096 + y.val) % 4096 = y.val
      omega
  rw [e0, e1, v15_at, val_main_v41_apply, val_main_v36_apply, val_main_v35_apply, val_main_v40_apply, val_main_v39_apply,
    val_main_v38_apply, val_main_v37_apply, v7_at, hr, e2, e3, hw, hw', Ideal.subf_def, Ideal.mulf_def]
  rw [← EReal.coe_mul, ← EReal.coe_sub]
  refine (congrArg (· * _) (h2 _)).trans ?_
  rw [← EReal.coe_mul]
  congr 1
  show value A2 b h e y.val * _ = _
  ring

/-- The result. -/
theorem v61_at (h0 : IsReal A0) (h1 : IsReal A1) (h2 : IsReal A2) (h4 : IsReal A4) (h5 : IsReal A5) (h6 : IsReal A6)
    (h7 : IsReal A7) (b : Fin 2) (t : Fin 4096) (h : Fin 8) (e : Fin 256) :
    val_main_v61 (F := Ideal) A0 A1 A2 A3 A4 A5 A6 A7 (ix2 (tok b t.val) (vcol h e))
      = out A0 A1 A2 A3 A4 A5 A6 A7 b h t.val e := by
  have hd := v43_at A0 A1 A2 A4 A5 A6 A7 h0 h1 h2 h4 h5 h6 h7 b t h
  have e0 : idx_main_v60 (ix2 (tok b t.val) (vcol h e)) = ix4 b t h e := by
    funext a
    refine Fin.ext ?_
    have ht := tok_val b t.val t.isLt
    match a with
    | ⟨0, _⟩ =>
      show ((tok b t.val).val * 2048 + (256 * h.val + e.val)) / 8388608 = b.val
      omega
    | ⟨1, _⟩ =>
      show ((tok b t.val).val * 2048 + (256 * h.val + e.val)) / 2048 % 4096 = t.val
      omega
    | ⟨2, _⟩ =>
      show ((tok b t.val).val * 2048 + (256 * h.val + e.val)) / 256 % 8 = h.val
      omega
    | ⟨3, _⟩ =>
      show ((tok b t.val).val * 2048 + (256 * h.val + e.val)) % 256 = e.val
      omega
  rw [val_main_v61_apply, val_main_v60_apply, e0, val_main_v59_apply, val_main_v57_apply, val_main_v53_apply,
    val_main_v52_apply, val_main_v51_apply, val_main_v50_apply, val_main_v48_apply, val_main_v46_apply, val_main_v45_apply,
    val_main_v58_apply, val_main_v56_apply, val_main_v55_apply, val_main_v54_apply, val_main_v49_apply, val_main_v47_apply,
    val_main_cst_6_apply, val_main_cst_7_apply, val_main_cst_8_apply, val_main_cst_9_apply]
  simp only [Ideal.truncf_def, Ideal.mulf_def, Ideal.addf_def, Ideal.ofBits_def, Ideal.ofBits_zero_f32, zero_add,
    Ideal.hostDivf_def]
  have e1 : ∀ x : Fin 256, idx_main_v45 (idx_main_v46 (idx_main_v52 (ix4 b t h e))) x = ix4 b t h x := by
    intro x
    funext a; fin_cases a <;> rfl
  simp only [val_main_v44_apply, e1, hd, Ideal.mulf_def]
  have e2 : idx_main_v54 (idx_main_v55 (idx_main_v56 (ix4 b t h e))) = ix2 0 e := by
    funext a
    refine Fin.ext ?_
    match a with
    | ⟨0, _⟩ => rfl
    | ⟨1, _⟩ =>
      have he := e.isLt
      show e.val % 256 = e.val
      omega
  rw [e2]
  rfl

end Cert.Attn.Ref

end
-- ==== Proof.Win.lean ====
/- The kernel's windows: which element of which argument a block's element is, and which block holds an element of the
   result. -/
module

public import proofs.«01_k».proof.Proof.Grid
public import proofs.«01_k».proof.Proof.Ref

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Tactic
open Finset

/-- The grid point's batch, group of heads and block of queries. -/
theorem coords_eq : ∀ t : Fin grid0.N, (grid0.coords t 0).val = t.val / 64 ∧ (grid0.coords t 1).val = t.val / 16 % 4
    ∧ (grid0.coords t 2).val = t.val % 16 := by decide +kernel

/-- The block of queries that a point reads. -/
theorem tr0 : ∀ i : grid0.Coords, cc0_transform_0 i 0 = (i 1).val ∧ cc0_transform_0 i 1 = 16 * (i 0).val + (i 2).val := by
  decide +kernel
/-- The block of keys that a point reads. -/
theorem tr1 : ∀ i : grid0.Coords, cc0_transform_1 i 0 = (i 0).val ∧ cc0_transform_1 i 1 = (i 1).val := by decide +kernel
/-- The block of values that a point reads. -/
theorem tr2 : ∀ i : grid0.Coords, cc0_transform_2 i 0 = (i 1).val ∧ cc0_transform_2 i 1 = (i 0).val := by decide +kernel
/-- The block of the result that a point writes. -/
theorem tr8 : ∀ i : grid0.Coords, cc0_transform_8 i 0 = 16 * (i 0).val + (i 2).val ∧ cc0_transform_8 i 1 = (i 1).val := by
  decide +kernel

variable (m : (ℓ : Loc nD τ sig) → Buf (Elt Ideal) ℓ) (c : Dev nD)

/-- A point's block of queries. -/
abbrev qblk (t : Fin cfg0.N) : Vec Ideal S512x256 .bf16 := iblk m c 0 t
/-- A point's block of keys. -/
abbrev kblk (t : Fin cfg0.N) : Vec Ideal S4096x512 .bf16 := iblk m c 1 t

/-- An element of a point's block of queries. -/
theorem iblk0_at (t : Fin cfg0.N) (a : Fin 512) (b : Fin 256) (x : Fin 2048) (y : Fin 8192)
    (hx : x.val = 512 * (grid0.coords t 1).val + a.val)
    (hy : y.val = 4096 * (grid0.coords t 0).val + 256 * (grid0.coords t 2).val + b.val) :
    iblk m c 0 t (ix2 a b) = m ((c : Thread nD τ).loc main_arg0) (ix2 x y) := by
  unfold iblk
  rw [View.read_apply]
  show V m c main_arg0 _ = _
  rw [V_main_arg0]
  congr 1
  funext p
  refine Fin.ext ?_
  obtain ⟨h0, h1⟩ := tr0 (grid0.coords t)
  match p with
  | ⟨0, _⟩ =>
    show cc0_transform_0 (grid0.coords t) 0 * 512 + 1 * a.val = x.val
    omega
  | ⟨1, _⟩ =>
    show cc0_transform_0 (grid0.coords t) 1 * 256 + 1 * b.val = y.val
    omega

/-- An element of a point's block of keys. -/
theorem iblk1_at (t : Fin cfg0.N) (a : Fin 4096) (b : Fin 512) (x : Fin 8192) (y : Fin 2048)
    (hx : x.val = 4096 * (grid0.coords t 0).val + a.val) (hy : y.val = 512 * (grid0.coords t 1).val + b.val) :
    iblk m c 1 t (ix2 a b) = m ((c : Thread nD τ).loc main_arg1) (ix2 x y) := by
  unfold iblk
  rw [View.read_apply]
  show V m c main_arg1 _ = _
  rw [V_main_arg1]
  congr 1
  funext p
  refine Fin.ext ?_
  obtain ⟨h0, h1⟩ := tr1 (grid0.coords t)
  match p with
  | ⟨0, _⟩ =>
    show cc0_transform_1 (grid0.coords t) 0 * 4096 + 1 * a.val = x.val
    omega
  | ⟨1, _⟩ =>
    show cc0_transform_1 (grid0.coords t) 1 * 512 + 1 * b.val = y.val
    omega

/-- An element of a point's block of values. -/
theorem iblk2_at (t : Fin cfg0.N) (a : Fin 512) (b : Fin 4096) (x : Fin 2048) (y : Fin 8192)
    (hx : x.val = 512 * (grid0.coords t 1).val + a.val) (hy : y.val = 4096 * (grid0.coords t 0).val + b.val) :
    iblk m c 2 t (ix2 a b) = m ((c : Thread nD τ).loc main_arg2) (ix2 x y) := by
  unfold iblk
  rw [View.read_apply]
  show V m c main_arg2 _ = _
  rw [V_main_arg2]
  congr 1
  funext p
  refine Fin.ext ?_
  obtain ⟨h0, h1⟩ := tr2 (grid0.coords t)
  match p with
  | ⟨0, _⟩ =>
    show cc0_transform_2 (grid0.coords t) 0 * 512 + 1 * a.val = x.val
    omega
  | ⟨1, _⟩ =>
    show cc0_transform_2 (grid0.coords t) 1 * 4096 + 1 * b.val = y.val
    omega

/-- The gain reaches the kernel as a column. -/
theorem V_gain : V m c main_v0 = shapeCast S256x1 (m ((c : Thread nD τ).loc main_arg3)) shapeCasts_S1x256_S256x1 := rfl

/-- A row turned into a column, at an element. -/
theorem column_at (g : Vec Ideal S1x256 .f32) (e : Fin 256) :
    shapeCast S256x1 g shapeCasts_S1x256_S256x1 (ix2 e 0) = g (ix2 0 e) := by
  simp only [pointwise]

/-- An element of the gain's block. -/
theorem iblk3_at (t : Fin cfg0.N) (e : Fin 256) :
    iblk m c 3 t (ix2 e 0) = m ((c : Thread nD τ).loc main_arg3) (ix2 0 e) := by
  unfold iblk
  rw [View.read_apply]
  refine Eq.trans ?_ (column_at (m ((c : Thread nD τ).loc main_arg3)) e)
  show shapeCast S256x1 (m ((c : Thread nD τ).loc main_arg3)) shapeCasts_S1x256_S256x1 _ = _
  congr 1
  funext p
  match p with
  | ⟨0, _⟩ =>
    refine Fin.ext ?_
    show 0 * 256 + 1 * e.val = e.val
    omega
  | ⟨1, _⟩ => rfl

/-- The lambda vector's block is the vector. -/
theorem iblk4_eq (t : Fin cfg0.N) : iblk m c 4 t = m ((c : Thread nD τ).loc main_arg4) := by
  unfold iblk
  funext z
  rw [View.read_apply]
  show V m c main_arg4 _ = _
  rw [V_main_arg4]
  congr 1
  funext p
  refine Fin.ext ?_
  match p with
  | ⟨0, _⟩ =>
    show 0 * 1 + 1 * (z 0).val = (z 0).val
    omega
  | ⟨1, _⟩ =>
    show 0 * 128 + 1 * (z 1).val = (z 1).val
    omega

/-- The lambda vector's block is the vector. -/
theorem iblk5_eq (t : Fin cfg0.N) : iblk m c 5 t = m ((c : Thread nD τ).loc main_arg5) := by
  unfold iblk
  funext z
  rw [View.read_apply]
  show V m c main_arg5 _ = _
  rw [V_main_arg5]
  congr 1
  funext p
  refine Fin.ext ?_
  match p with
  | ⟨0, _⟩ =>
    show 0 * 1 + 1 * (z 0).val = (z 0).val
    omega
  | ⟨1, _⟩ =>
    show 0 * 128 + 1 * (z 1).val = (z 1).val
    omega

/-- The lambda vector's block is the vector. -/
theorem iblk6_eq (t : Fin cfg0.N) : iblk m c 6 t = m ((c : Thread nD τ).loc main_arg6) := by
  unfold iblk
  funext z
  rw [View.read_apply]
  show V m c main_arg6 _ = _
  rw [V_main_arg6]
  congr 1
  funext p
  refine Fin.ext ?_
  match p with
  | ⟨0, _⟩ =>
    show 0 * 1 + 1 * (z 0).val = (z 0).val
    omega
  | ⟨1, _⟩ =>
    show 0 * 128 + 1 * (z 1).val = (z 1).val
    omega

/-- The lambda vector's block is the vector. -/
theorem iblk7_eq (t : Fin cfg0.N) : iblk m c 7 t = m ((c : Thread nD τ).loc main_arg7) := by
  unfold iblk
  funext z
  rw [View.read_apply]
  show V m c main_arg7 _ = _
  rw [V_main_arg7]
  congr 1
  funext p
  refine Fin.ext ?_
  match p with
  | ⟨0, _⟩ =>
    show 0 * 1 + 1 * (z 0).val = (z 0).val
    omega
  | ⟨1, _⟩ =>
    show 0 * 128 + 1 * (z 1).val = (z 1).val
    omega

/-- What point `t` writes into its block of the result, at the columns of head 0 of its group. -/
theorem point_0 (t : Fin cfg0.N) (b : Fin 2) (h : Fin 8) (q : ℕ) (j e : Fin 256) (hb : b.val = (grid0.coords t 0).val)
    (hh : h.val = 2 * (grid0.coords t 1).val + 0) (hq : q = 256 * (grid0.coords t 2).val + j.val)
    (h0 : IsReal (m ((c : Thread nD τ).loc main_arg0))) (h1 : IsReal (m ((c : Thread nD τ).loc main_arg1)))
    (h2 : IsReal (m ((c : Thread nD τ).loc main_arg2))) :
    (dats m 0 c).flushed 8 t (ix2 j ⟨e.val, by omega⟩)
      = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) b h q e := by
  have hj := j.isLt
  have hg : (grid0.coords t 2).val < 16 := (grid0.coords t 2).isLt
  have hqq : q < 4096 := by omega
  rw [Cert.KernelIdeal.Value.flushed8_A]
  refine Eq.trans (show _ = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t)
    (iblk m c 3 t) (iblk m c 4 t) (iblk m c 5 t) (iblk m c 6 t) (iblk m c 7 t) (ix2 j ⟨e.val, by omega⟩) from rfl) ?_
  rw [out0_first, iblk3_at, iblk4_eq, iblk5_eq, iblk6_eq, iblk7_eq]
  unfold out
  congr 1
  funext x
  unfold diff
  have hs : ∀ (n : Fin 4) (p : Fin 2), n.val = 0 + p.val → ∀ y < 4096,
      (∑ d : Fin 128, kblk m c t (ix2 (krow y) (qrow n d)) * qblk m c t (ix2 (qrow n d) j))
        = ((score (m ((c : Thread nD τ).loc main_arg0)) (m ((c : Thread nD τ).loc main_arg1)) b h p q y : ℝ) : EReal) := by
    intro n p hn y hy
    unfold score
    rw [← coe_sum]
    refine sum_congr rfl fun d _ => ?_
    rw [show kblk m c t (ix2 (krow y) (qrow n d)) = _ from iblk1_at m c t (krow y) (qrow n d) (tok b y) (feat h p d) (by rw [Ref.tok_val b y hy, hb]; show _ = _ + y % 4096; omega)
      (by show 256 * h.val + 128 * p.val + d.val = 512 * _ + (128 * n.val + d.val); omega),
      show qblk m c t (ix2 (qrow n d) j) = _ from iblk0_at m c t (qrow n d) j (feat h p d) (tok b q)
      (by show 256 * h.val + 128 * p.val + d.val = 512 * _ + (128 * n.val + d.val); omega) (by rw [Ref.tok_val b q hqq]; omega),
      mul_comm]
    exact (congrArg₂ (· * ·) (h0 _) (h1 _)).trans (EReal.coe_mul _ _).symm
  have hv : ∀ n : Fin 4, n.val / 2 = 0 → ∀ y < 4096, iblk m c 2 t (ix2 (vrow n x) (krow y))
      = ((value (m ((c : Thread nD τ).loc main_arg2)) b h x y : ℝ) : EReal) := by
    intro n hn y hy
    rw [iblk2_at m c t (vrow n x) (krow y) (vcol h x) (tok b y)
      (by show 256 * h.val + x.val = 512 * _ + (256 * (n.val / 2) + x.val); omega)
      (by rw [Ref.tok_val b y hy, hb]; show _ = _ + y % 4096; omega)]
    exact h2 _
  rw [end_div c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) 0 x j _ _ (hs 0 0 rfl) (hv 0 rfl),
    end_div c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) 1 x j _ _ (hs 1 1 rfl) (hv 1 rfl), ← hq]

/-- What point `t` writes into its block of the result, at the columns of head 1 of its group. -/
theorem point_1 (t : Fin cfg0.N) (b : Fin 2) (h : Fin 8) (q : ℕ) (j e : Fin 256) (hb : b.val = (grid0.coords t 0).val)
    (hh : h.val = 2 * (grid0.coords t 1).val + 1) (hq : q = 256 * (grid0.coords t 2).val + j.val)
    (h0 : IsReal (m ((c : Thread nD τ).loc main_arg0))) (h1 : IsReal (m ((c : Thread nD τ).loc main_arg1)))
    (h2 : IsReal (m ((c : Thread nD τ).loc main_arg2))) :
    (dats m 0 c).flushed 8 t (ix2 j ⟨256 + e.val, by omega⟩)
      = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) b h q e := by
  have hj := j.isLt
  have hg : (grid0.coords t 2).val < 16 := (grid0.coords t 2).isLt
  have hqq : q < 4096 := by omega
  rw [Cert.KernelIdeal.Value.flushed8_A]
  refine Eq.trans (show _ = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t)
    (iblk m c 3 t) (iblk m c 4 t) (iblk m c 5 t) (iblk m c 6 t) (iblk m c 7 t) (ix2 j ⟨256 + e.val, by omega⟩) from rfl) ?_
  rw [out0_second, iblk3_at, iblk4_eq, iblk5_eq, iblk6_eq, iblk7_eq]
  unfold out
  congr 1
  funext x
  unfold diff
  have hs : ∀ (n : Fin 4) (p : Fin 2), n.val = 2 + p.val → ∀ y < 4096,
      (∑ d : Fin 128, kblk m c t (ix2 (krow y) (qrow n d)) * qblk m c t (ix2 (qrow n d) j))
        = ((score (m ((c : Thread nD τ).loc main_arg0)) (m ((c : Thread nD τ).loc main_arg1)) b h p q y : ℝ) : EReal) := by
    intro n p hn y hy
    unfold score
    rw [← coe_sum]
    refine sum_congr rfl fun d _ => ?_
    rw [show kblk m c t (ix2 (krow y) (qrow n d)) = _ from iblk1_at m c t (krow y) (qrow n d) (tok b y) (feat h p d) (by rw [Ref.tok_val b y hy, hb]; show _ = _ + y % 4096; omega)
      (by show 256 * h.val + 128 * p.val + d.val = 512 * _ + (128 * n.val + d.val); omega),
      show qblk m c t (ix2 (qrow n d) j) = _ from iblk0_at m c t (qrow n d) j (feat h p d) (tok b q)
      (by show 256 * h.val + 128 * p.val + d.val = 512 * _ + (128 * n.val + d.val); omega) (by rw [Ref.tok_val b q hqq]; omega),
      mul_comm]
    exact (congrArg₂ (· * ·) (h0 _) (h1 _)).trans (EReal.coe_mul _ _).symm
  have hv : ∀ n : Fin 4, n.val / 2 = 1 → ∀ y < 4096, iblk m c 2 t (ix2 (vrow n x) (krow y))
      = ((value (m ((c : Thread nD τ).loc main_arg2)) b h x y : ℝ) : EReal) := by
    intro n hn y hy
    rw [iblk2_at m c t (vrow n x) (krow y) (vcol h x) (tok b y)
      (by show 256 * h.val + x.val = 512 * _ + (256 * (n.val / 2) + x.val); omega)
      (by rw [Ref.tok_val b y hy, hb]; show _ = _ + y % 4096; omega)]
    exact h2 _
  rw [end_div c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) 2 x j _ _ (hs 2 0 rfl) (hv 2 rfl),
    end_div c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) 3 x j _ _ (hs 3 1 rfl) (hv 3 rfl), ← hq]

end Cert.Attn

end
-- ==== Proof.Result.lean ====
/- The kernel's result as a whole, put against the reference's. -/
module

public import proofs.«01_k».proof.Proof.Win

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Tactic
open Finset

variable (m : (ℓ : Loc nD τ sig) → Buf (Elt Ideal) ℓ) (c : Dev nD)

/-- An element of the final array, through the block that holds it. -/
theorem arr_at_block (t : Fin cfg0.N) (j : Fin 256) (k : Fin 512) (x : Fin 8192) (y : Fin 2048)
    (hx : x.val = 256 * (16 * (grid0.coords t 0).val + (grid0.coords t 2).val) + j.val)
    (hy : y.val = 512 * (grid0.coords t 1).val + k.val) :
    (dats m 0 c).arrAt 8 cfg0.N (ix2 x y) = (dats m 0 c).flushed 8 t (ix2 j k) := by
  refine Eq.trans ?_ (congrFun (Cert.KernelIdeal.Value.blocks8 m c t (flush0_8 t)) (ix2 j k))
  rw [View.read_apply]
  congr 1
  funext p
  refine Fin.ext ?_
  obtain ⟨h0, h1⟩ := tr8 (grid0.coords t)
  match p with
  | ⟨0, _⟩ =>
    show x.val = cc0_transform_8 (grid0.coords t) 0 * 256 + 1 * j.val
    omega
  | ⟨1, _⟩ =>
    show y.val = cc0_transform_8 (grid0.coords t) 1 * 512 + 1 * k.val
    omega

/-- An element of the final array. -/
theorem arr_at (b : Fin 2) (h : Fin 8) (q : Fin 4096) (e : Fin 256)
    (h0 : IsReal (m ((c : Thread nD τ).loc main_arg0))) (h1 : IsReal (m ((c : Thread nD τ).loc main_arg1)))
    (h2 : IsReal (m ((c : Thread nD τ).loc main_arg2))) :
    (dats m 0 c).arrAt 8 cfg0.N (ix2 (tok b q.val) (vcol h e))
      = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) b h q.val e := by
  have hq := q.isLt
  have hb := b.isLt
  have hh := h.isLt
  have he := e.isLt
  let t : Fin cfg0.N := ⟨64 * b.val + 16 * (h.val / 2) + q.val / 256, by show _ < 128; omega⟩
  obtain ⟨c0, c1, c2⟩ := coords_eq t
  have ht : t.val = 64 * b.val + 16 * (h.val / 2) + q.val / 256 := rfl
  have g0 : (grid0.coords t 0).val = b.val := by omega
  have g1 : (grid0.coords t 1).val = h.val / 2 := by omega
  have g2 : (grid0.coords t 2).val = q.val / 256 := by omega
  have hx : (tok b q.val).val
      = 256 * (16 * (grid0.coords t 0).val + (grid0.coords t 2).val) + (⟨q.val % 256, by omega⟩ : Fin 256).val := by
    rw [Ref.tok_val b q.val hq, g0, g2]
    show _ = _ + q.val % 256
    omega
  rcases Nat.mod_two_eq_zero_or_one h.val with hp | hp
  · rw [arr_at_block m c t ⟨q.val % 256, by omega⟩ ⟨e.val, by omega⟩ _ (vcol h e) hx
      (by rw [g1]; show 256 * h.val + e.val = _ + e.val; omega)]
    exact point_0 m c t b h q.val _ e g0.symm (by omega) (by rw [g2]; show _ = _ + q.val % 256; omega) h0 h1 h2
  · rw [arr_at_block m c t ⟨q.val % 256, by omega⟩ ⟨256 + e.val, by omega⟩ _ (vcol h e) hx
      (by rw [g1]; show 256 * h.val + e.val = _ + (256 + e.val); omega)]
    exact point_1 m c t b h q.val _ e g0.symm (by omega) (by rw [g2]; show _ = _ + q.val % 256; omega) h0 h1 h2

/-- The final array is the reference's result on the same arguments. -/
theorem arr_eq (h0 : IsReal (m ((c : Thread nD τ).loc main_arg0))) (h1 : IsReal (m ((c : Thread nD τ).loc main_arg1)))
    (h2 : IsReal (m ((c : Thread nD τ).loc main_arg2))) (h4 : IsReal (m ((c : Thread nD τ).loc main_arg4)))
    (h5 : IsReal (m ((c : Thread nD τ).loc main_arg5))) (h6 : IsReal (m ((c : Thread nD τ).loc main_arg6)))
    (h7 : IsReal (m ((c : Thread nD τ).loc main_arg7))) :
    (dats m 0 c).arrAt 8 cfg0.N = Cert.ReferenceIdeal.Read.val_main_v61 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  funext i
  obtain ⟨x, y, rfl⟩ : ∃ (x : Fin 8192) (y : Fin 2048), i = ix2 x y :=
    ⟨i 0, i 1, by funext p; match p with | ⟨0, _⟩ => rfl | ⟨1, _⟩ => rfl⟩
  have hx := x.isLt
  have hy := y.isLt
  let b : Fin 2 := ⟨x.val / 4096, by omega⟩
  let q : Fin 4096 := ⟨x.val % 4096, by omega⟩
  let h : Fin 8 := ⟨y.val / 256, by omega⟩
  let e : Fin 256 := ⟨y.val % 256, by omega⟩
  have ex : x = tok b q.val := by
    refine Fin.ext ?_
    rw [Ref.tok_val b q.val q.isLt]
    show x.val = 4096 * (x.val / 4096) + x.val % 4096
    omega
  have ey : y = vcol h e := by
    refine Fin.ext ?_
    show y.val = 256 * (y.val / 256) + y.val % 256
    omega
  rw [ex, ey]
  exact (arr_at m c b h q e h0 h1 h2).trans (Ref.v61_at _ _ _ _ _ _ _ _ h0 h1 h2 h4 h5 h6 h7 b q h e).symm

/-- An extended real whose absolute value is below the greatest one is a real number. -/
theorem real_of_abs_lt (x : EReal) (h : max x (-x) < ⊤) : x = ((x.toReal : ℝ) : EReal) := by
  have h1 : x ≠ ⊤ := by rintro rfl; simp at h
  have h2 : x ≠ ⊥ := by rintro rfl; simp at h
  exact (EReal.coe_toReal h1 h2).symm

/-- The precondition's comparison says, at each element, that it is a real number. -/
theorem isReal_of_cmp {a b : ℕ} {φ : FTy} (A : FVec Ideal ⟨2, ![a, b]⟩ φ) (S : FVec Ideal ⟨2, ![a, b]⟩ .f32)
    (T : FVec Ideal ⟨2, ![a, b]⟩ .f32) (hS : ∀ i, S i = A i) (hT : ∀ i, T i = (⊤ : EReal))
    (h : ∀ i, cmpf .olt (Host.absf S) T i = 1#1) : IsReal A := by
  intro i
  refine real_of_abs_lt _ ?_
  have hi : BitVec.ofBool (decide (max (S i : EReal) (-(S i : EReal)) < T i)) = 1#1 := h i
  rw [hT, hS] at hi
  by_contra hc
  rw [decide_eq_false hc] at hi
  exact absurd hi (by decide)

end Cert.Attn
-- ==== Proof.Claims.lean ====
/- The claims of the attention over the prompt. -/
module

public import proofs.«01_k».proof.Defs
public import proofs.«01_k».proof.Proof.Kern.Frame
public import proofs.«01_k».proof.Proof.Result
public import proofs.«01_k».proof.Proof.Gen.Pre_finite

@[expose] public section

noncomputable section

namespace Cert.Attn

open Idealize.ShloMosaic Idealize.SL.Sem

/-- The reference runs, keeps its arguments, and leaves every counter at zero: it declares none. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The pattern of positive infinity is the greatest extended real. -/
theorem inf_eq : Ideal.ofBits .f32 0x7F800000#32 = ⊤ := by simp [Ideal.ofBits, Ideal.ieee]

/-- Under the precondition the seven arguments it names hold real numbers. -/
theorem isReal_of_pre (m : (ℓ : Loc Cert.KernelIdeal.nD Cert.KernelIdeal.τ Cert.KernelIdeal.sig) → Buf (Elt Ideal) ℓ)
    (h : Cert.Pre_KernelIdeal_finite m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg2))
    ∧ IsReal (m ((c.tc : Thread Cert.KernelIdeal.nD Cert.KernelIdeal.τ).loc Cert.KernelIdeal.main_arg4))
    ∧ IsReal (m ((c.tc : Thread Cert.KernelIdeal.nD Cert.KernelIdeal.τ).loc Cert.KernelIdeal.main_arg5))
    ∧ IsReal (m ((c.tc : Thread Cert.KernelIdeal.nD Cert.KernelIdeal.τ).loc Cert.KernelIdeal.main_arg6))
    ∧ IsReal (m ((c.tc : Thread Cert.KernelIdeal.nD Cert.KernelIdeal.τ).loc Cert.KernelIdeal.main_arg7)) := by
  obtain ⟨h0, h1, h2, h4, h5, h6, h7⟩ := h c
  refine ⟨?_, ?_, ?_, ?_, ?_, ?_, ?_⟩
  · exact isReal_of_cmp (φ := .bf16) _ _ _ (fun _ => rfl) (fun _ => inf_eq) (congrFun h0)
  · exact isReal_of_cmp (φ := .bf16) _ _ _ (fun _ => rfl) (fun _ => inf_eq) (congrFun h1)
  · exact isReal_of_cmp (φ := .bf16) _ _ _ (fun _ => rfl) (fun _ => inf_eq) (congrFun h2)
  · exact isReal_of_cmp (φ := .f32) _ _ _ (fun _ => rfl) (fun _ => inf_eq) (congrFun h4)
  · exact isReal_of_cmp (φ := .f32) _ _ _ (fun _ => rfl) (fun _ => inf_eq) (congrFun h5)
  · exact isReal_of_cmp (φ := .f32) _ _ _ (fun _ => rfl) (fun _ => inf_eq) (congrFun h6)
  · exact isReal_of_cmp (φ := .f32) _ _ _ (fun _ => rfl) (fun _ => inf_eq) (congrFun h7)

/-- The kernel's and the reference's results are equal at the ideal instance. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (Cert.KernelIdeal.Gen.dats m 0 c).arrAt 8 Cert.KernelIdeal.cfg0.N,
    Cert.KernelIdeal.Value.run_blocks m g, ?_⟩
  refine (θ_run Cert.ReferenceIdeal.defs _ _).mono (fun r h c => ⟨?_, (h c).2⟩) (Cert.ReferenceIdeal.Value.run (F := Ideal) m' g')
  obtain ⟨h0, h1, h2, h4, h5, h6, h7⟩ := isReal_of_pre m hpre c
  obtain ⟨a0, a1, a2, a3, a4, a5, a6, a7⟩ := hagree c
  rw [(h c).1, Cert.ReferenceIdeal.Read.val_main_v61_eq, a0, a1, a2, a3, a4, a5, a6, a7]
  exact (arr_eq m c h0 h1 h2 h4 h5 h6 h7).symm

end Cert.Attn
-- ==== Proof.Heads.Rope.lean ====
/- One block of a projection of the heads: the rotary embedding of a block's eight heads, element by element. -/
module

public import proofs.«01_k».proof.Proof.Gen.HeadsIdeal.Skeleton
public import Idealize.ShloMosaic.Lib.Pipeline.Value
public import Idealize.ShloMosaic.Lib.ValueIdx
public import Idealize.ShloMosaic.Lib.KernelVsHost
public import Idealize.ShloMosaic.Lib.Pointwise
public import Idealize.ShloMosaic.PureOps.Ideal.Laws

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

/-- One head of a block, rotated: the head times a table, plus the head turned round by 112 and by 16 times two more. -/
def chunk (a c sa sb : FVec Ideal S512x128 .f32) : FVec Ideal S512x128 .f32 :=
  addf (addf (mulf a c) (mulf (dynamicRotate 1 112#32 none a rotates_S512x128_d1) sa))
    (mulf (dynamicRotate 1 16#32 none a rotates_S512x128_d1) sb)

/-- A head of a block rotated, at an element. -/
theorem chunk_at (a c sa sb : FVec Ideal S512x128 .f32) (r : Fin 512) (d : Fin 128) :
    chunk a c sa sb (ix2 r d)
      = a (ix2 r d) * c (ix2 r d) + a (ix2 r ⟨(d.val + 16) % 128, Nat.mod_lt _ (by decide)⟩) * sa (ix2 r d)
        + a (ix2 r ⟨(d.val + 112) % 128, Nat.mod_lt _ (by decide)⟩) * sb (ix2 r d) := by
  unfold chunk
  simp only [pointwise, Ideal.addf_def, Ideal.mulf_def]
  have e1 : (⟨(d.val + 128 - ((112#32).toNat + 0) % 128) % 128, Nat.mod_lt _ (by decide)⟩ : Fin 128)
      = ⟨(d.val + 16) % 128, Nat.mod_lt _ (by decide)⟩ := by
    refine Fin.ext ?_
    show (d.val + 128 - (112 + 0) % 128) % 128 = (d.val + 16) % 128
    omega
  have e2 : (⟨(d.val + 128 - ((16#32).toNat + 0) % 128) % 128, Nat.mod_lt _ (by decide)⟩ : Fin 128)
      = ⟨(d.val + 112) % 128, Nat.mod_lt _ (by decide)⟩ := by
    refine Fin.ext ?_
    show (d.val + 128 - (16 + 0) % 128) % 128 = (d.val + 112) % 128
    omega
  rw [← e1, ← e2]
  rfl

/-- The eight heads of a block, each rotated. -/
abbrev pieces (y : FVec Ideal S512x1024 .f32) (c sa sb : FVec Ideal S512x128 .f32) : List ((s : Shape) × (s.Idx → Ideal .f32)) :=
  [⟨S512x128, chunk (extractStridedSlice S512x128 ![0, 0] y slices_S512x1024_o0_0_S512x128) c sa sb⟩,
    ⟨S512x128, chunk (extractStridedSlice S512x128 ![0, 128] y slices_S512x1024_o0_128_S512x128) c sa sb⟩,
    ⟨S512x128, chunk (extractStridedSlice S512x128 ![0, 256] y slices_S512x1024_o0_256_S512x128) c sa sb⟩,
    ⟨S512x128, chunk (extractStridedSlice S512x128 ![0, 384] y slices_S512x1024_o0_384_S512x128) c sa sb⟩,
    ⟨S512x128, chunk (extractStridedSlice S512x128 ![0, 512] y slices_S512x1024_o0_512_S512x128) c sa sb⟩,
    ⟨S512x128, chunk (extractStridedSlice S512x128 ![0, 640] y slices_S512x1024_o0_640_S512x128) c sa sb⟩,
    ⟨S512x128, chunk (extractStridedSlice S512x128 ![0, 768] y slices_S512x1024_o0_768_S512x128) c sa sb⟩,
    ⟨S512x128, chunk (extractStridedSlice S512x128 ![0, 896] y slices_S512x1024_o0_896_S512x128) c sa sb⟩]

/-- The eight heads of a block, rotated, one beside the other. -/
def ropeB (y : FVec Ideal S512x1024 .f32) (c sa sb : FVec Ideal S512x128 .f32) : FVec Ideal S512x1024 .f32 :=
  concatenate S512x1024 1 (pieces y c sa sb)
    concatenates_S512x128_S512x128_S512x128_S512x128_S512x128_S512x128_S512x128_S512x128_S512x1024_d1

/-- A part of a block that starts at a column, at an element. -/
theorem part_at (y : FVec Ideal S512x1024 .f32) (o : Nat) (hs : S512x1024.Slices ![0, o] S512x128) (ho : o + 128 ≤ 1024)
    (r : Fin 512) (d : Fin 128) :
    extractStridedSlice S512x128 ![0, o] y hs (ix2 r d) = y (ix2 r ⟨o + d.val, by omega⟩) := by
  refine extractStridedSlice_apply ![0, o] y hs (ix2 r d) (ix2 r ⟨o + d.val, by omega⟩) fun a => ?_
  match a with
  | ⟨0, _⟩ => exact (Nat.zero_add _).symm
  | ⟨1, _⟩ => rfl

/-- Head 0 of a block, rotated, at an element. -/
theorem ropeB_at_0 (y : FVec Ideal S512x1024 .f32) (c sa sb : FVec Ideal S512x128 .f32) (r : Fin 512) (d : Fin 128) :
    ropeB y c sa sb (ix2 r ⟨0 + d.val, by omega⟩)
      = chunk (extractStridedSlice S512x128 ![0, 0] y slices_S512x1024_o0_0_S512x128) c sa sb (ix2 r d) := by
  unfold ropeB
  refine concatenate_apply_piece (t := S512x1024) 1 (pieces y c sa sb) _ (ix2 r ⟨0 + d.val, by omega⟩) 0 (show 0 < 8 by decide) S512x128 _ rfl rfl 0 rfl (ix2 r d) (fun b hb => ?_) rfl
  match b with
  | ⟨0, _⟩ => rfl
  | ⟨1, _⟩ => exact absurd rfl hb

/-- Head 1 of a block, rotated, at an element. -/
theorem ropeB_at_1 (y : FVec Ideal S512x1024 .f32) (c sa sb : FVec Ideal S512x128 .f32) (r : Fin 512) (d : Fin 128) :
    ropeB y c sa sb (ix2 r ⟨128 + d.val, by omega⟩)
      = chunk (extractStridedSlice S512x128 ![0, 128] y slices_S512x1024_o0_128_S512x128) c sa sb (ix2 r d) := by
  unfold ropeB
  refine concatenate_apply_piece (t := S512x1024) 1 (pieces y c sa sb) _ (ix2 r ⟨128 + d.val, by omega⟩) 1 (show 1 < 8 by decide) S512x128 _ rfl rfl 128 rfl (ix2 r d) (fun b hb => ?_) rfl
  match b with
  | ⟨0, _⟩ => rfl
  | ⟨1, _⟩ => exact absurd rfl hb

/-- Head 2 of a block, rotated, at an element. -/
theorem ropeB_at_2 (y : FVec Ideal S512x1024 .f32) (c sa sb : FVec Ideal S512x128 .f32) (r : Fin 512) (d : Fin 128) :
    ropeB y c sa sb (ix2 r ⟨256 + d.val, by omega⟩)
      = chunk (extractStridedSlice S512x128 ![0, 256] y slices_S512x1024_o0_256_S512x128) c sa sb (ix2 r d) := by
  unfold ropeB
  refine concatenate_apply_piece (t := S512x1024) 1 (pieces y c sa sb) _ (ix2 r ⟨256 + d.val, by omega⟩) 2 (show 2 < 8 by decide) S512x128 _ rfl rfl 256 rfl (ix2 r d) (fun b hb => ?_) rfl
  match b with
  | ⟨0, _⟩ => rfl
  | ⟨1, _⟩ => exact absurd rfl hb

/-- Head 3 of a block, rotated, at an element. -/
theorem ropeB_at_3 (y : FVec Ideal S512x1024 .f32) (c sa sb : FVec Ideal S512x128 .f32) (r : Fin 512) (d : Fin 128) :
    ropeB y c sa sb (ix2 r ⟨384 + d.val, by omega⟩)
      = chunk (extractStridedSlice S512x128 ![0, 384] y slices_S512x1024_o0_384_S512x128) c sa sb (ix2 r d) := by
  unfold ropeB
  refine concatenate_apply_piece (t := S512x1024) 1 (pieces y c sa sb) _ (ix2 r ⟨384 + d.val, by omega⟩) 3 (show 3 < 8 by decide) S512x128 _ rfl rfl 384 rfl (ix2 r d) (fun b hb => ?_) rfl
  match b with
  | ⟨0, _⟩ => rfl
  | ⟨1, _⟩ => exact absurd rfl hb

/-- Head 4 of a block, rotated, at an element. -/
theorem ropeB_at_4 (y : FVec Ideal S512x1024 .f32) (c sa sb : FVec Ideal S512x128 .f32) (r : Fin 512) (d : Fin 128) :
    ropeB y c sa sb (ix2 r ⟨512 + d.val, by omega⟩)
      = chunk (extractStridedSlice S512x128 ![0, 512] y slices_S512x1024_o0_512_S512x128) c sa sb (ix2 r d) := by
  unfold ropeB
  refine concatenate_apply_piece (t := S512x1024) 1 (pieces y c sa sb) _ (ix2 r ⟨512 + d.val, by omega⟩) 4 (show 4 < 8 by decide) S512x128 _ rfl rfl 512 rfl (ix2 r d) (fun b hb => ?_) rfl
  match b with
  | ⟨0, _⟩ => rfl
  | ⟨1, _⟩ => exact absurd rfl hb

/-- Head 5 of a block, rotated, at an element. -/
theorem ropeB_at_5 (y : FVec Ideal S512x1024 .f32) (c sa sb : FVec Ideal S512x128 .f32) (r : Fin 512) (d : Fin 128) :
    ropeB y c sa sb (ix2 r ⟨640 + d.val, by omega⟩)
      = chunk (extractStridedSlice S512x128 ![0, 640] y slices_S512x1024_o0_640_S512x128) c sa sb (ix2 r d) := by
  unfold ropeB
  refine concatenate_apply_piece (t := S512x1024) 1 (pieces y c sa sb) _ (ix2 r ⟨640 + d.val, by omega⟩) 5 (show 5 < 8 by decide) S512x128 _ rfl rfl 640 rfl (ix2 r d) (fun b hb => ?_) rfl
  match b with
  | ⟨0, _⟩ => rfl
  | ⟨1, _⟩ => exact absurd rfl hb

/-- Head 6 of a block, rotated, at an element. -/
theorem ropeB_at_6 (y : FVec Ideal S512x1024 .f32) (c sa sb : FVec Ideal S512x128 .f32) (r : Fin 512) (d : Fin 128) :
    ropeB y c sa sb (ix2 r ⟨768 + d.val, by omega⟩)
      = chunk (extractStridedSlice S512x128 ![0, 768] y slices_S512x1024_o0_768_S512x128) c sa sb (ix2 r d) := by
  unfold ropeB
  refine concatenate_apply_piece (t := S512x1024) 1 (pieces y c sa sb) _ (ix2 r ⟨768 + d.val, by omega⟩) 6 (show 6 < 8 by decide) S512x128 _ rfl rfl 768 rfl (ix2 r d) (fun b hb => ?_) rfl
  match b with
  | ⟨0, _⟩ => rfl
  | ⟨1, _⟩ => exact absurd rfl hb

/-- Head 7 of a block, rotated, at an element. -/
theorem ropeB_at_7 (y : FVec Ideal S512x1024 .f32) (c sa sb : FVec Ideal S512x128 .f32) (r : Fin 512) (d : Fin 128) :
    ropeB y c sa sb (ix2 r ⟨896 + d.val, by omega⟩)
      = chunk (extractStridedSlice S512x128 ![0, 896] y slices_S512x1024_o0_896_S512x128) c sa sb (ix2 r d) := by
  unfold ropeB
  refine concatenate_apply_piece (t := S512x1024) 1 (pieces y c sa sb) _ (ix2 r ⟨896 + d.val, by omega⟩) 7 (show 7 < 8 by decide) S512x128 _ rfl rfl 896 rfl (ix2 r d) (fun b hb => ?_) rfl
  match b with
  | ⟨0, _⟩ => rfl
  | ⟨1, _⟩ => exact absurd rfl hb

/-- A block's eight heads rotated, at an element. -/
theorem ropeB_at (y : FVec Ideal S512x1024 .f32) (c sa sb : FVec Ideal S512x128 .f32) (r : Fin 512) (h : Fin 8) (d : Fin 128) :
    ropeB y c sa sb (ix2 r ⟨128 * h.val + d.val, by omega⟩)
      = y (ix2 r ⟨128 * h.val + d.val, by omega⟩) * c (ix2 r d)
        + y (ix2 r ⟨128 * h.val + (d.val + 16) % 128, by omega⟩) * sa (ix2 r d)
        + y (ix2 r ⟨128 * h.val + (d.val + 112) % 128, by omega⟩) * sb (ix2 r d) := by
  match h with
  | ⟨0, _⟩ =>
    refine (ropeB_at_0 y c sa sb r d).trans ?_
    rw [chunk_at, part_at y 0 _ (by decide), part_at y 0 _ (by decide), part_at y 0 _ (by decide)]
    rfl
  | ⟨1, _⟩ =>
    refine (ropeB_at_1 y c sa sb r d).trans ?_
    rw [chunk_at, part_at y 128 _ (by decide), part_at y 128 _ (by decide), part_at y 128 _ (by decide)]
    rfl
  | ⟨2, _⟩ =>
    refine (ropeB_at_2 y c sa sb r d).trans ?_
    rw [chunk_at, part_at y 256 _ (by decide), part_at y 256 _ (by decide), part_at y 256 _ (by decide)]
    rfl
  | ⟨3, _⟩ =>
    refine (ropeB_at_3 y c sa sb r d).trans ?_
    rw [chunk_at, part_at y 384 _ (by decide), part_at y 384 _ (by decide), part_at y 384 _ (by decide)]
    rfl
  | ⟨4, _⟩ =>
    refine (ropeB_at_4 y c sa sb r d).trans ?_
    rw [chunk_at, part_at y 512 _ (by decide), part_at y 512 _ (by decide), part_at y 512 _ (by decide)]
    rfl
  | ⟨5, _⟩ =>
    refine (ropeB_at_5 y c sa sb r d).trans ?_
    rw [chunk_at, part_at y 640 _ (by decide), part_at y 640 _ (by decide), part_at y 640 _ (by decide)]
    rfl
  | ⟨6, _⟩ =>
    refine (ropeB_at_6 y c sa sb r d).trans ?_
    rw [chunk_at, part_at y 768 _ (by decide), part_at y 768 _ (by decide), part_at y 768 _ (by decide)]
    rfl
  | ⟨7, _⟩ =>
    refine (ropeB_at_7 y c sa sb r d).trans ?_
    rw [chunk_at, part_at y 896 _ (by decide), part_at y 896 _ (by decide), part_at y 896 _ (by decide)]
    rfl

end Cert.Proj

end
-- ==== Proof.Heads.Norm.lean ====
/- One block of the first layer norm, element by element. -/
module

public import proofs.«01_k».proof.Proof.Gen.HeadsIdeal.Skeleton
public import Idealize.ShloMosaic.Lib.Pipeline.Value
public import Idealize.ShloMosaic.Lib.ValueIdx
public import Idealize.ShloMosaic.Lib.Pointwise
public import Idealize.ShloMosaic.PureOps.Ideal.Laws

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

/-- The mean of a row of 4096. -/
def mean (x : Fin 4096 → EReal) : EReal := Ideal.div (∑ k, x k) (Ideal.ofBits .f32 0x45800000#32)
/-- An element of a row, normalised. -/
def norm (x : Fin 4096 → EReal) (g b : EReal) (k : Fin 4096) : EReal :=
  (x k - mean x) * Ideal.rsqrt (mean (fun j => (x j - mean x) * (x j - mean x)) + Ideal.ofBits .f32 0x3727C5AC#32) * g + b

/-- The first 32 blocks of rows are the prompt's. -/
theorem norm_side : ∀ i : grid0.Coords,
    Scalar.cmpi .slt (BitVec.ofNat 32 (i 0).val) 32#32 = if (i 0).val < 32 then 1#1 else 0#1 := by decide +kernel

/-- A block of the layer norm at an element, from the prompt's rows or the samples'. -/
theorem pay0_at (i : grid0.Coords) (v1 v2 : Vec Ideal S256x4096 .f32) (v4 v6 : Vec Ideal S1x4096 .f32) (r : Fin 256) (k : Fin 4096) :
    k0_pay1 i v1 v2 v4 v6 (ix2 r k)
      = norm (fun j => if (i 0).val < 32 then v1 (ix2 r j) else v2 (ix2 r j)) (v4 (ix2 0 k)) (v6 (ix2 0 k)) k := by
  unfold k0_pay1
  simp only [pointwise, Ideal.exp_def, Ideal.subf_def, Ideal.addf_def, Ideal.mulf_def, Ideal.reduceAdd_def, Ideal.ofBits_def,
    Ideal.divf_def, Ideal.rsqrt_def, Ideal.truncf_def]
  rw [norm_side i]
  by_cases h : (i 0).val < 32
  · simp only [if_pos h]
    rfl
  · simp only [if_neg h]
    rfl

end Cert.Proj

end
-- ==== Proof.Heads.Pay.lean ====
/- What a grid point of each projection leaves, element by element. -/
module

public import proofs.«01_k».proof.Proof.Heads.Rope
public import proofs.«01_k».proof.Proof.Heads.Norm
public import proofs.«01_k».proof.Proof.Gen.HeadsIdeal.Frame

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

/-- A block of rows times a block of columns. -/
def mm (a : Vec Ideal S512x4096 .bf16) (w : Vec Ideal S4096x1024 .bf16) : FVec Ideal S512x1024 .f32 :=
  matmul dot_S512x4096_S4096x1024_S512x1024_1_0_0_1_n_n none (φ₁ := .bf16) (φ₂ := .bf16) a w
    (constant S512x1024 .f32 0x00000000#32)

/-- An element of the product. -/
theorem mm_at (a : Vec Ideal S512x4096 .bf16) (w : Vec Ideal S4096x1024 .bf16) (r : Fin 512) (j : Fin 1024) :
    mm a w (ix2 r j) = ∑ k : Fin 4096, a (ix2 r k) * w (ix2 k j) := by
  unfold mm
  simp only [pointwise, Ideal.matmul_def, Ideal.matmul]
  rw [zero_add, DotDims.sum_contr₁ _ (a := 1) rfl rfl]
  refine Finset.sum_congr rfl fun k _ => ?_
  congr 2
  all_goals
    funext p
    fin_cases p <;> rfl

/-- The scale of the queries. -/
abbrev qscale : EReal := Ideal.ofBits .f32 0x3DB504F3#32

variable (x0 : Vec Ideal S512x4096 .bf16) (x1 : Vec Ideal S4096x1024 .bf16) (x2 x3 x4 : Vec Ideal S512x128 .f32)

/-- The start of a whole block. -/
theorem zz : (![0, 0] : Fin 2 → Nat) = fun _ => 0 := by
  funext a; fin_cases a <;> rfl

/-- The body of call 1 rotates the product and scales it. -/
theorem pay1_eq (a : Vec Ideal S512x4096 .bf16) (w : Vec Ideal S4096x1024 .bf16) (c sa sb : Vec Ideal S512x128 .f32) :
    k1_pay10 (k1_pay1 a w) (k1_pay2 c) (k1_pay3 sa) (k1_pay4 sb) (k1_pay5 a w c sa sb) (k1_pay6 a w c sa sb)
        (k1_pay7 a w c sa sb) (k1_pay8 a w) (k1_pay9 a w c sa)
      = mulf (ropeB (mm a w) c sa sb) (broadcast S512x1024 (Scalar.ofBits .f32 0x3DB504F3#32 : Ideal .f32)) := by
  have h1 : k1_pay1 a w = mm a w := by
    unfold k1_pay1
    simp only [shapeCast_self]
    rfl
  have h2 : k1_pay2 c = c := by
    unfold k1_pay2
    simp only [shapeCast_self]
  have h3 : k1_pay3 sa = sa := by
    unfold k1_pay3
    simp only [shapeCast_self]
  have h4 : k1_pay4 sb = sb := by
    unfold k1_pay4
    simp only [shapeCast_self]
  unfold k1_pay5 k1_pay6 k1_pay7 k1_pay9 k1_pay8
  simp only [h1, h2, h3, h4]
  rfl

/-- What call 1 leaves of a block, at an element. -/
theorem out1_5_at (r : Fin 512) (j : Fin 1024) :
    out1_5 x0 x1 x2 x3 x4 (ix2 r j) = ropeB (mm x0 x1) x2 x3 x4 (ix2 r j) * qscale := by
  have e : out1_5 x0 x1 x2 x3 x4 = truncf .bf16 (k1_pay10 (k1_pay1 x0 x1) (k1_pay2 x2) (k1_pay3 x3) (k1_pay4 x4)
      (k1_pay5 x0 x1 x2 x3 x4) (k1_pay6 x0 x1 x2 x3 x4) (k1_pay7 x0 x1 x2 x3 x4) (k1_pay8 x0 x1) (k1_pay9 x0 x1 x2 x3)) bitsLt_bf16_f32 := by
    unfold out1_5 k1_pay21 k1_pay20 k1_pay19 k1_pay18 k1_pay17 k1_pay16 k1_pay15 k1_pay14 k1_pay13
    rw [View.ld_unit_zero zz, View.ld_unit_zero zz, View.ld_unit_zero zz, View.ld_unit_zero zz, View.ld_unit_zero zz]
    exact View.canon_unit_zero zz _ _
  rw [e, pay1_eq]
  rfl

/-- What call 1 leaves of a block turned over, at an element. -/
theorem out1_6_at (r : Fin 512) (j : Fin 1024) :
    out1_6 x0 x1 x2 x3 x4 (ix2 j r) = ropeB (mm x0 x1) x2 x3 x4 (ix2 r j) * qscale := by
  have e : out1_6 x0 x1 x2 x3 x4 = truncf .bf16 (transpose S1024x512 [1, 0] (k1_pay10 (k1_pay1 x0 x1) (k1_pay2 x2) (k1_pay3 x3) (k1_pay4 x4)
      (k1_pay5 x0 x1 x2 x3 x4) (k1_pay6 x0 x1 x2 x3 x4) (k1_pay7 x0 x1 x2 x3 x4) (k1_pay8 x0 x1) (k1_pay9 x0 x1 x2 x3)) transposes_S512x1024_p1_0_S1024x512) bitsLt_bf16_f32 := by
    unfold out1_6 k1_pay21 k1_pay20 k1_pay19 k1_pay18 k1_pay17 k1_pay16 k1_pay15 k1_pay14 k1_pay13
    rw [View.ld_unit_zero zz, View.ld_unit_zero zz, View.ld_unit_zero zz, View.ld_unit_zero zz, View.ld_unit_zero zz]
    exact View.canon_unit_zero zz _ _
  rw [e, pay1_eq]
  simp only [pointwise, Ideal.truncf_def, Ideal.mulf_def]

/-- The body of call 4 rotates the product and scales it. -/
theorem pay4_eq (a : Vec Ideal S512x4096 .bf16) (w : Vec Ideal S4096x1024 .bf16) (c sa sb : Vec Ideal S512x128 .f32) :
    k4_pay10 (k4_pay1 a w) (k4_pay2 c) (k4_pay3 sa) (k4_pay4 sb) (k4_pay5 a w c sa sb) (k4_pay6 a w c sa sb)
        (k4_pay7 a w c sa sb) (k4_pay8 a w) (k4_pay9 a w c sa)
      = mulf (ropeB (mm a w) c sa sb) (broadcast S512x1024 (Scalar.ofBits .f32 0x3DB504F3#32 : Ideal .f32)) := by
  have h1 : k4_pay1 a w = mm a w := by
    unfold k4_pay1
    simp only [shapeCast_self]
    rfl
  have h2 : k4_pay2 c = c := by
    unfold k4_pay2
    simp only [shapeCast_self]
  have h3 : k4_pay3 sa = sa := by
    unfold k4_pay3
    simp only [shapeCast_self]
  have h4 : k4_pay4 sb = sb := by
    unfold k4_pay4
    simp only [shapeCast_self]
  unfold k4_pay5 k4_pay6 k4_pay7 k4_pay9 k4_pay8
  simp only [h1, h2, h3, h4]
  rfl

/-- What call 4 leaves of a block, at an element. -/
theorem out4_5_at (r : Fin 512) (j : Fin 1024) :
    out4_5 x0 x1 x2 x3 x4 (ix2 r j) = ropeB (mm x0 x1) x2 x3 x4 (ix2 r j) * qscale := by
  have e : out4_5 x0 x1 x2 x3 x4 = truncf .bf16 (k4_pay10 (k4_pay1 x0 x1) (k4_pay2 x2) (k4_pay3 x3) (k4_pay4 x4)
      (k4_pay5 x0 x1 x2 x3 x4) (k4_pay6 x0 x1 x2 x3 x4) (k4_pay7 x0 x1 x2 x3 x4) (k4_pay8 x0 x1) (k4_pay9 x0 x1 x2 x3)) bitsLt_bf16_f32 := by
    unfold out4_5 k4_pay21 k4_pay20 k4_pay19 k4_pay18 k4_pay17 k4_pay16 k4_pay15 k4_pay14 k4_pay13
    rw [View.ld_unit_zero zz, View.ld_unit_zero zz, View.ld_unit_zero zz, View.ld_unit_zero zz, View.ld_unit_zero zz]
    exact View.canon_unit_zero zz _ _
  rw [e, pay4_eq]
  rfl

/-- What call 4 leaves of a block turned over, at an element. -/
theorem out4_6_at (r : Fin 512) (j : Fin 1024) :
    out4_6 x0 x1 x2 x3 x4 (ix2 j r) = ropeB (mm x0 x1) x2 x3 x4 (ix2 r j) * qscale := by
  have e : out4_6 x0 x1 x2 x3 x4 = truncf .bf16 (transpose S1024x512 [1, 0] (k4_pay10 (k4_pay1 x0 x1) (k4_pay2 x2) (k4_pay3 x3) (k4_pay4 x4)
      (k4_pay5 x0 x1 x2 x3 x4) (k4_pay6 x0 x1 x2 x3 x4) (k4_pay7 x0 x1 x2 x3 x4) (k4_pay8 x0 x1) (k4_pay9 x0 x1 x2 x3)) transposes_S512x1024_p1_0_S1024x512) bitsLt_bf16_f32 := by
    unfold out4_6 k4_pay21 k4_pay20 k4_pay19 k4_pay18 k4_pay17 k4_pay16 k4_pay15 k4_pay14 k4_pay13
    rw [View.ld_unit_zero zz, View.ld_unit_zero zz, View.ld_unit_zero zz, View.ld_unit_zero zz, View.ld_unit_zero zz]
    exact View.canon_unit_zero zz _ _
  rw [e, pay4_eq]
  simp only [pointwise, Ideal.truncf_def, Ideal.mulf_def]

/-- The body of call 2 rotates the product. -/
theorem pay2_eq (a : Vec Ideal S512x4096 .bf16) (w : Vec Ideal S4096x1024 .bf16) (c sa sb : Vec Ideal S512x128 .f32) :
    k2_pay1 (k2_pay3 a w) (k2_pay4 c) (k2_pay5 sa) (k2_pay6 sb) (k2_pay7 a w c sa sb) (k2_pay8 a w c sa sb)
        (k2_pay9 a w c sa sb) (k2_pay10 a w) (k2_pay11 a w c sa)
      = ropeB (mm a w) c sa sb := by
  have h1 : k2_pay3 a w = mm a w := by
    unfold k2_pay3
    simp only [shapeCast_self]
    rfl
  have h2 : k2_pay4 c = c := by
    unfold k2_pay4
    simp only [shapeCast_self]
  have h3 : k2_pay5 sa = sa := by
    unfold k2_pay5
    simp only [shapeCast_self]
  have h4 : k2_pay6 sb = sb := by
    unfold k2_pay6
    simp only [shapeCast_self]
  unfold k2_pay7 k2_pay8 k2_pay9 k2_pay11 k2_pay10
  simp only [h1, h2, h3, h4]
  rfl

/-- What call 2 leaves of a block, at an element. -/
theorem out2_5_at (r : Fin 512) (j : Fin 1024) :
    out2_5 x0 x1 x2 x3 x4 (ix2 r j) = ropeB (mm x0 x1) x2 x3 x4 (ix2 r j) := by
  have e : out2_5 x0 x1 x2 x3 x4 = k2_pay1 (k2_pay3 x0 x1) (k2_pay4 x2) (k2_pay5 x3) (k2_pay6 x4)
      (k2_pay7 x0 x1 x2 x3 x4) (k2_pay8 x0 x1 x2 x3 x4) (k2_pay9 x0 x1 x2 x3 x4) (k2_pay10 x0 x1) (k2_pay11 x0 x1 x2 x3) := by
    unfold out2_5 k2_pay20 k2_pay19 k2_pay18 k2_pay17 k2_pay16 k2_pay15 k2_pay14 k2_pay13 k2_pay12
    rw [View.ld_unit_zero zz, View.ld_unit_zero zz, View.ld_unit_zero zz, View.ld_unit_zero zz, View.ld_unit_zero zz]
    exact View.canon_unit_zero zz _ _
  rw [e, pay2_eq]

/-- What call 2 leaves of a block rounded, at an element. -/
theorem out2_6_at (r : Fin 512) (j : Fin 1024) :
    out2_6 x0 x1 x2 x3 x4 (ix2 r j) = ropeB (mm x0 x1) x2 x3 x4 (ix2 r j) := by
  have e : out2_6 x0 x1 x2 x3 x4 = truncf .bf16 (k2_pay1 (k2_pay3 x0 x1) (k2_pay4 x2) (k2_pay5 x3) (k2_pay6 x4)
      (k2_pay7 x0 x1 x2 x3 x4) (k2_pay8 x0 x1 x2 x3 x4) (k2_pay9 x0 x1 x2 x3 x4) (k2_pay10 x0 x1) (k2_pay11 x0 x1 x2 x3)) bitsLt_bf16_f32 := by
    unfold out2_6 k2_pay20 k2_pay19 k2_pay18 k2_pay17 k2_pay16 k2_pay15 k2_pay14 k2_pay13 k2_pay12
    rw [View.ld_unit_zero zz, View.ld_unit_zero zz, View.ld_unit_zero zz, View.ld_unit_zero zz, View.ld_unit_zero zz]
    exact View.canon_unit_zero zz _ _
  rw [e, pay2_eq]
  rfl

/-- The body of call 5 rotates the product. -/
theorem pay5_eq (a : Vec Ideal S512x4096 .bf16) (w : Vec Ideal S4096x1024 .bf16) (c sa sb : Vec Ideal S512x128 .f32) :
    k5_pay1 (k5_pay3 a w) (k5_pay4 c) (k5_pay5 sa) (k5_pay6 sb) (k5_pay7 a w c sa sb) (k5_pay8 a w c sa sb)
        (k5_pay9 a w c sa sb) (k5_pay10 a w) (k5_pay11 a w c sa)
      = ropeB (mm a w) c sa sb := by
  have h1 : k5_pay3 a w = mm a w := by
    unfold k5_pay3
    simp only [shapeCast_self]
    rfl
  have h2 : k5_pay4 c = c := by
    unfold k5_pay4
    simp only [shapeCast_self]
  have h3 : k5_pay5 sa = sa := by
    unfold k5_pay5
    simp only [shapeCast_self]
  have h4 : k5_pay6 sb = sb := by
    unfold k5_pay6
    simp only [shapeCast_self]
  unfold k5_pay7 k5_pay8 k5_pay9 k5_pay11 k5_pay10
  simp only [h1, h2, h3, h4]
  rfl

/-- What call 5 leaves of a block, at an element. -/
theorem out5_5_at (r : Fin 512) (j : Fin 1024) :
    out5_5 x0 x1 x2 x3 x4 (ix2 r j) = ropeB (mm x0 x1) x2 x3 x4 (ix2 r j) := by
  have e : out5_5 x0 x1 x2 x3 x4 = k5_pay1 (k5_pay3 x0 x1) (k5_pay4 x2) (k5_pay5 x3) (k5_pay6 x4)
      (k5_pay7 x0 x1 x2 x3 x4) (k5_pay8 x0 x1 x2 x3 x4) (k5_pay9 x0 x1 x2 x3 x4) (k5_pay10 x0 x1) (k5_pay11 x0 x1 x2 x3) := by
    unfold out5_5 k5_pay20 k5_pay19 k5_pay18 k5_pay17 k5_pay16 k5_pay15 k5_pay14 k5_pay13 k5_pay12
    rw [View.ld_unit_zero zz, View.ld_unit_zero zz, View.ld_unit_zero zz, View.ld_unit_zero zz, View.ld_unit_zero zz]
    exact View.canon_unit_zero zz _ _
  rw [e, pay5_eq]

/-- What call 5 leaves of a block rounded, at an element. -/
theorem out5_6_at (r : Fin 512) (j : Fin 1024) :
    out5_6 x0 x1 x2 x3 x4 (ix2 r j) = ropeB (mm x0 x1) x2 x3 x4 (ix2 r j) := by
  have e : out5_6 x0 x1 x2 x3 x4 = truncf .bf16 (k5_pay1 (k5_pay3 x0 x1) (k5_pay4 x2) (k5_pay5 x3) (k5_pay6 x4)
      (k5_pay7 x0 x1 x2 x3 x4) (k5_pay8 x0 x1 x2 x3 x4) (k5_pay9 x0 x1 x2 x3 x4) (k5_pay10 x0 x1) (k5_pay11 x0 x1 x2 x3)) bitsLt_bf16_f32 := by
    unfold out5_6 k5_pay20 k5_pay19 k5_pay18 k5_pay17 k5_pay16 k5_pay15 k5_pay14 k5_pay13 k5_pay12
    rw [View.ld_unit_zero zz, View.ld_unit_zero zz, View.ld_unit_zero zz, View.ld_unit_zero zz, View.ld_unit_zero zz]
    exact View.canon_unit_zero zz _ _
  rw [e, pay5_eq]
  rfl

/-- What call 3 leaves of a block, at an element. -/
theorem out3_2_at (r : Fin 512) (j : Fin 1024) : out3_2 x0 x1 (ix2 r j) = mm x0 x1 (ix2 r j) := by
  have e : out3_2 x0 x1 = k3_pay1 x0 x1 := by
    unfold out3_2
    rw [View.ld_unit_zero zz, View.ld_unit_zero zz]
    exact View.canon_unit_zero zz _ _
  rw [e]
  unfold k3_pay1
  simp only [shapeCast_self]
  rfl

/-- What call 3 leaves of a block turned over, at an element. -/
theorem out3_3_at (r : Fin 512) (j : Fin 1024) : out3_3 x0 x1 (ix2 j r) = mm x0 x1 (ix2 r j) := by
  have e : out3_3 x0 x1 = k3_pay2 x0 x1 := by
    unfold out3_3
    rw [View.ld_unit_zero zz, View.ld_unit_zero zz]
    exact View.canon_unit_zero zz _ _
  have h : k3_pay1 x0 x1 = mm x0 x1 := by
    unfold k3_pay1
    simp only [shapeCast_self]
    rfl
  rw [e]
  unfold k3_pay2
  simp only [h]
  simp only [pointwise, Ideal.truncf_def]

/-- What call 6 leaves of a block, at an element. -/
theorem out6_2_at (r : Fin 512) (j : Fin 1024) : out6_2 x0 x1 (ix2 r j) = mm x0 x1 (ix2 r j) := by
  have e : out6_2 x0 x1 = k6_pay1 x0 x1 := by
    unfold out6_2
    rw [View.ld_unit_zero zz, View.ld_unit_zero zz]
    exact View.canon_unit_zero zz _ _
  rw [e]
  unfold k6_pay1
  simp only [shapeCast_self]
  rfl

/-- What call 6 leaves of a block turned over, at an element. -/
theorem out6_3_at (r : Fin 512) (j : Fin 1024) : out6_3 x0 x1 (ix2 j r) = mm x0 x1 (ix2 r j) := by
  have e : out6_3 x0 x1 = k6_pay2 x0 x1 := by
    unfold out6_3
    rw [View.ld_unit_zero zz, View.ld_unit_zero zz]
    exact View.canon_unit_zero zz _ _
  have h : k6_pay1 x0 x1 = mm x0 x1 := by
    unfold k6_pay1
    simp only [shapeCast_self]
    rfl
  rw [e]
  unfold k6_pay2
  simp only [h]
  simp only [pointwise, Ideal.truncf_def]

/-- What the first call leaves of a block, at an element. -/
theorem out0_4_at (i : grid0.Coords) (y0 y1 : Vec Ideal S256x4096 .f32) (y2 y3 : Vec Ideal S1x4096 .f32) (r : Fin 256) (k : Fin 4096) :
    out0_4 i y0 y1 y2 y3 (ix2 r k)
      = norm (fun j => if (i 0).val < 32 then y0 (ix2 r j) else y1 (ix2 r j)) (y2 (ix2 0 k)) (y3 (ix2 0 k)) k := by
  have e : out0_4 i y0 y1 y2 y3 = k0_pay1 i y0 y1 y2 y3 := by
    unfold out0_4
    rw [View.ld_unit_zero zz, View.ld_unit_zero zz, View.ld_unit_zero zz, View.ld_unit_zero zz]
    exact View.canon_unit_zero zz _ _
  rw [e, pay0_at]

end Cert.Proj

end
-- ==== Proof.Heads.Run.lean ====
/- The run of the projections, with each result named. -/
module

public import proofs.«01_k».proof.Proof.Heads.Pay

@[expose] public section

set_option maxRecDepth 16384

noncomputable section

namespace Cert.Proj

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HeadsIdeal Cert.HeadsIdeal.Gen Idealize.ShloMosaic Idealize.ShloMosaic.TcCoe Idealize.SL.Sem

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every weakly fair execution of the program ends, nothing faulting; each result holds what its call left in it and the arguments
    are as launched. -/
theorem run_named : θ_run defs (onTc (τ := τ) (main (F := Ideal))) ⟨m, fun _ => 0, ρ⟩ (fun r => ∀ c : Dev nD,
      r.2.mem ((c.tc : Thread nD τ).loc main_v37_0) = W9 m ρ c (Proc.devRef .tc main_v37_0)
      ∧ r.2.mem ((c.tc : Thread nD τ).loc main_v37_1) = W9 m ρ c (Proc.devRef .tc main_v37_1)
      ∧ r.2.mem ((c.tc : Thread nD τ).loc main_v38_0) = W9 m ρ c (Proc.devRef .tc main_v38_0)
      ∧ r.2.mem ((c.tc : Thread nD τ).loc main_v38_1) = W9 m ρ c (Proc.devRef .tc main_v38_1)
      ∧ r.2.mem ((c.tc : Thread nD τ).loc main_v39_0) = W9 m ρ c (Proc.devRef .tc main_v39_0)
      ∧ r.2.mem ((c.tc : Thread nD τ).loc main_v39_1) = W9 m ρ c (Proc.devRef .tc main_v39_1)
      ∧ r.2.mem ((c.tc : Thread nD τ).loc main_v40_0) = W9 m ρ c (Proc.devRef .tc main_v40_0)
      ∧ r.2.mem ((c.tc : Thread nD τ).loc main_v40_1) = W9 m ρ c (Proc.devRef .tc main_v40_1)
      ∧ r.2.mem ((c.tc : Thread nD τ).loc main_v41_0) = W9 m ρ c (Proc.devRef .tc main_v41_0)
      ∧ r.2.mem ((c.tc : Thread nD τ).loc main_v41_1) = W9 m ρ c (Proc.devRef .tc main_v41_1)
      ∧ r.2.mem ((c.tc : Thread nD τ).loc main_v42_0) = W9 m ρ c (Proc.devRef .tc main_v42_0)
      ∧ r.2.mem ((c.tc : Thread nD τ).loc main_v42_1) = W9 m ρ c (Proc.devRef .tc main_v42_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c => ⟨h c _ (mem_uc main_v37_0 (by decide)),
      h c _ (mem_uc main_v37_1 (by decide)),
      h c _ (mem_uc main_v38_0 (by decide)),
      h c _ (mem_uc main_v38_1 (by decide)),
      h c _ (mem_uc main_v39_0 (by decide)),
      h c _ (mem_uc main_v39_1 (by decide)),
      h c _ (mem_uc main_v40_0 (by decide)),
      h c _ (mem_uc main_v40_1 (by decide)),
      h c _ (mem_uc main_v41_0 (by decide)),
      h c _ (mem_uc main_v41_1 (by decide)),
      h c _ (mem_uc main_v42_0 (by decide)),
      h c _ (mem_uc main_v42_1 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c)⟩)

end Cert.Proj

end
-- ==== Proof.Heads.RefNorm.lean ====
/- The reference's layer norm and its one product with the weights, element by element. -/
module

public import proofs.«01_k».proof.Proof.Gen.HeadsReferenceIdeal.Read
public import proofs.«01_k».proof.Proof.Heads.Norm

@[expose] public section

set_option maxRecDepth 16384

noncomputable section

namespace Cert.Proj

open Cert.HeadsReferenceIdeal Cert.HeadsReferenceIdeal.Gen Cert.HeadsReferenceIdeal.Read
open Idealize.ShloMosaic Idealize.ShloMosaic.TcCoe Idealize.SL.Sem
open Idealize.ShloMosaic.Tactic
open Finset

variable (x0 : FVec Ideal S8192x4096 .f32) (x1 : FVec Ideal S512x4096 .f32) (x2 x3 : FVec Ideal S4096 .f32)
  (x4 : FVec Ideal S1x4096x12288 .f32)

/-- A token's row: the prompt's, or a sample's. -/
def row (r : Fin 8704) (k : Fin 4096) : EReal :=
  if h : r.val < 8192 then x0 (ix2 ⟨r.val, h⟩ k) else x1 (ix2 ⟨r.val - 8192, by omega⟩ k)

/-- The tokens of the prompt and of the samples, one after the other, at an element. -/
theorem rows_at (r : Fin 8704) (k : Fin 4096) : val_main_v0 (F := Ideal) x0 x1 (ix2 r k) = row x0 x1 r k := by
  unfold val_main_v0 row
  simp only [pointwise]
  rfl

/-- The reference's mean of a row. -/
theorem mean_at (r : Fin 8704) (e : Fin 1) : val_main_v4 (F := Ideal) x0 x1 (ix2 r e) = mean (row x0 x1 r) := by
  rw [val_main_v4_apply, val_main_v2_apply, val_main_v3_apply, val_main_v1_apply, val_main_cst_apply, val_main_cst_0_apply,
    Ideal.ofBits_def, Ideal.ofBits_zero_f32, zero_add, Ideal.hostDivf_def]
  have e1 : ∀ k : Fin 4096, idx_main_v1 (idx_main_v2 (ix2 r e)) k = ix2 r k := by
    intro k
    funext a; fin_cases a <;> rfl
  simp only [e1, rows_at]
  rfl

/-- A row less its mean, at an element. -/
theorem centred_at (r : Fin 8704) (k : Fin 4096) :
    val_main_v6 (F := Ideal) x0 x1 (ix2 r k) = row x0 x1 r k - mean (row x0 x1 r) := by
  have e1 : idx_main_v5 (ix2 r k) = ix2 r 0 := by
    funext a; fin_cases a <;> rfl
  rw [val_main_v6_apply, val_main_v5_apply, e1, mean_at, rows_at]
  rfl

/-- The mean of a row's squares. -/
theorem square_at (r : Fin 8704) (e : Fin 1) :
    val_main_v11 (F := Ideal) x0 x1 (ix2 r e)
      = mean (fun j => (row x0 x1 r j - mean (row x0 x1 r)) * (row x0 x1 r j - mean (row x0 x1 r))) := by
  rw [val_main_v11_apply, val_main_v9_apply, val_main_v10_apply, val_main_v8_apply, val_main_cst_1_apply, val_main_cst_2_apply,
    Ideal.ofBits_def, Ideal.ofBits_zero_f32, zero_add, Ideal.hostDivf_def]
  have e1 : ∀ k : Fin 4096, idx_main_v8 (idx_main_v9 (ix2 r e)) k = ix2 r k := by
    intro k
    funext a; fin_cases a <;> rfl
  simp only [e1, val_main_v7_apply, centred_at, Ideal.mulf_def]
  rfl

/-- The reference's layer norm, at an element. -/
theorem norm_at (r : Fin 8704) (k : Fin 4096) :
    val_main_v22 (F := Ideal) x0 x1 x2 x3 (ix2 r k) = norm (row x0 x1 r) (x2 (ix1 k)) (x3 (ix1 k)) k := by
  have e1 : idx_main_v5 (ix2 r k) = ix2 r 0 := by
    funext a; fin_cases a <;> rfl
  have e2 : idx_main_v15 (ix2 r k) = ix2 r 0 := by
    funext a; fin_cases a <;> rfl
  have e3 : idx_main_v17 (idx_main_v18 (ix2 r k)) = ix1 k := by
    funext a; fin_cases a; rfl
  have e4 : idx_main_v20 (idx_main_v21 (ix2 r k)) = ix1 k := by
    funext a; fin_cases a; rfl
  have e5 : val_main_v6 (F := Ideal) x0 x1 (ix2 r k) = row x0 x1 r k - mean (row x0 x1 r) := centred_at x0 x1 r k
  rw [val_main_v22_apply, val_main_v19_apply, val_main_v16_apply, val_main_v18_apply, val_main_v17_apply, val_main_v21_apply,
    val_main_v20_apply, val_main_v15_apply, e2, e3, e4, val_main_v14_apply, val_main_v13_apply, val_main_v12_apply,
    val_main_cst_3_apply, square_at, e5]
  rfl

/-- The weights at an element. -/
theorem weight_at (k : Fin 4096) (j : Fin 12288) : val_main_v23 (F := Ideal) x4 (ix2 k j) = x4 (ix3 0 k j) := by
  rw [val_main_v23_apply]
  congr 1
  have hk := k.isLt
  have hj := j.isLt
  funext a
  refine Fin.ext ?_
  match a with
  | ⟨0, _⟩ => rfl
  | ⟨1, _⟩ =>
    show (k.val * 12288 + j.val) / 12288 % 4096 = k.val
    omega
  | ⟨2, _⟩ =>
    show (k.val * 12288 + j.val) % 12288 = j.val
    omega

/-- The product of a normalised row and a column of the weights. -/
def dot (r : Fin 8704) (j : Fin 12288) : EReal :=
  ∑ k : Fin 4096, norm (row x0 x1 r) (x2 (ix1 k)) (x3 (ix1 k)) k * x4 (ix3 0 k j)

/-- The reference's product, at an element. -/
theorem dot_at (r : Fin 8704) (j : Fin 12288) : val_main_v24 (F := Ideal) x0 x1 x2 x3 x4 (ix2 r j) = dot x0 x1 x2 x3 x4 r j := by
  rw [val_main_v24_apply]
  refine Finset.sum_congr rfl fun k _ => ?_
  have e1 : lidx_main_v24 (ix2 r j) k = ix2 r k := by
    funext a; fin_cases a <;> rfl
  have e2 : ridx_main_v24 (ix2 r j) k = ix2 k j := by
    funext a; fin_cases a <;> rfl
  rw [e1, e2, norm_at, weight_at]

end Cert.Proj

end
-- ==== Proof.Heads.RefRope.lean ====
/- The reference's rotary embedding, element by element. -/
module

public import proofs.«01_k».proof.Proof.Heads.RefNorm

@[expose] public section

set_option maxRecDepth 16384

noncomputable section

namespace Cert.Proj

open Cert.HeadsReferenceIdeal Cert.HeadsReferenceIdeal.Gen Cert.HeadsReferenceIdeal.Read
open Idealize.ShloMosaic Idealize.ShloMosaic.TcCoe Idealize.SL.Sem
open Idealize.ShloMosaic.Tactic
open Finset

/-- The columns of sixteen heads as heads of 128. -/
abbrev split (y : FVec Ideal S8704x2048 .f32) : FVec Ideal S8704x16x128 .f32 := shapeCast S8704x16x128 y shapeCasts_S8704x2048_S8704x16x128
/-- The first sixteen lanes of each head. -/
abbrev low (y : FVec Ideal S8704x2048 .f32) : FVec Ideal S8704x16x16 .f32 :=
  extractStridedSlice S8704x16x16 ![0, 0, 0] (split y) slices_S8704x16x128_S8704x16x16_0_0_0
/-- The next sixteen lanes of each head. -/
abbrev high (y : FVec Ideal S8704x2048 .f32) : FVec Ideal S8704x16x16 .f32 :=
  extractStridedSlice S8704x16x16 ![0, 0, 16] (split y) slices_S8704x16x128_S8704x16x16_0_0_16
/-- A table of a token and a lane, the same for each head. -/
abbrev spread (t : FVec Ideal S8704x16 .f32) : FVec Ideal S8704x16x16 .f32 :=
  broadcastInDim S8704x16x16 ![0, 1, 2] bcast_S8704x1x16_S8704x16x16_0_1_2
    (broadcastInDim S8704x1x16 ![0, 2] bcast_S8704x16_S8704x1x16_0_2 t)
/-- The lanes of each head that are not rotated. -/
abbrev rest (y : FVec Ideal S8704x2048 .f32) : FVec Ideal S8704x16x96 .f32 :=
  extractStridedSlice S8704x16x96 ![0, 0, 32] (split y) slices_S8704x16x128_S8704x16x96_0_0_32
/-- The three parts of each head, rotated. -/
abbrev parts (y : FVec Ideal S8704x2048 .f32) (cs sn : FVec Ideal S8704x16 .f32) : List ((s : Shape) × (s.Idx → Ideal .f32)) :=
  [⟨S8704x16x16, subf (mulf (low y) (spread cs)) (mulf (high y) (spread sn))⟩,
    ⟨S8704x16x16, addf (mulf (high y) (spread cs)) (mulf (low y) (spread sn))⟩, ⟨S8704x16x96, rest y⟩]
/-- The reference's rotary embedding. -/
def ropeR (y : FVec Ideal S8704x2048 .f32) (cs sn : FVec Ideal S8704x16 .f32) : FVec Ideal S8704x2048 .f32 :=
  shapeCast S8704x2048 (concatenate S8704x16x128 2 (parts y cs sn) concatenates_S8704x16x16_S8704x16x16_S8704x16x96_S8704x16x128_d2)
    shapeCasts_S8704x16x128_S8704x2048

variable (y : FVec Ideal S8704x2048 .f32) (cs sn : FVec Ideal S8704x16 .f32)

/-- A head's lane, at its column. -/
theorem split_at (r : Fin 8704) (h : Fin 16) (d : Fin 128) :
    split y (ix3 r h d) = y (ix2 r ⟨128 * h.val + d.val, by omega⟩) := by
  refine shapeCast_apply y shapeCasts_S8704x2048_S8704x16x128 (ix3 r h d) (ix2 r ⟨128 * h.val + d.val, by omega⟩) ?_
  rw [Shape.rowMajor_val_three, Shape.rowMajor_val_two]
  show r.val * 2048 + (128 * h.val + d.val) = (r.val * 16 + h.val) * 128 + d.val
  omega

/-- A lane of the first sixteen. -/
theorem low_at (r : Fin 8704) (h : Fin 16) (d : Fin 16) :
    low y (ix3 r h d) = y (ix2 r ⟨128 * h.val + d.val, by omega⟩) := by
  have e : low y (ix3 r h d) = split y (ix3 r h ⟨d.val, by omega⟩) := by
    unfold low
    generalize split y = z
    refine extractStridedSlice_apply ![0, 0, 0] z slices_S8704x16x128_S8704x16x16_0_0_0 (ix3 r h d) (ix3 r h ⟨d.val, by omega⟩) fun a => ?_
    match a with
    | ⟨0, _⟩ => exact (Nat.zero_add _).symm
    | ⟨1, _⟩ => exact (Nat.zero_add _).symm
    | ⟨2, _⟩ => exact (Nat.zero_add _).symm
  rw [e, split_at]

/-- A lane of the next sixteen. -/
theorem high_at (r : Fin 8704) (h : Fin 16) (d : Fin 16) :
    high y (ix3 r h d) = y (ix2 r ⟨128 * h.val + (16 + d.val), by omega⟩) := by
  refine Eq.trans ?_ (split_at y r h ⟨16 + d.val, by omega⟩)
  refine extractStridedSlice_apply ![0, 0, 16] (split y) _ (ix3 r h d) (ix3 r h ⟨16 + d.val, by omega⟩) fun a => ?_
  match a with
  | ⟨0, _⟩ => exact (Nat.zero_add _).symm
  | ⟨1, _⟩ => exact (Nat.zero_add _).symm
  | ⟨2, _⟩ => rfl

/-- A lane of those that are not rotated. -/
theorem rest_at (r : Fin 8704) (h : Fin 16) (d : Fin 96) :
    rest y (ix3 r h d) = y (ix2 r ⟨128 * h.val + (32 + d.val), by omega⟩) := by
  refine Eq.trans ?_ (split_at y r h ⟨32 + d.val, by omega⟩)
  refine extractStridedSlice_apply ![0, 0, 32] (split y) _ (ix3 r h d) (ix3 r h ⟨32 + d.val, by omega⟩) fun a => ?_
  match a with
  | ⟨0, _⟩ => exact (Nat.zero_add _).symm
  | ⟨1, _⟩ => exact (Nat.zero_add _).symm
  | ⟨2, _⟩ => rfl

/-- A table at a head's lane. -/
theorem spread_at (t : FVec Ideal S8704x16 .f32) (r : Fin 8704) (h : Fin 16) (d : Fin 16) : spread t (ix3 r h d) = t (ix2 r d) := by
  unfold spread
  simp only [pointwise]
  rfl

/-- An element of the result, at a head's lane. -/
theorem ropeR_split (r : Fin 8704) (h : Fin 16) (d : Fin 128) :
    ropeR y cs sn (ix2 r ⟨128 * h.val + d.val, by omega⟩)
      = concatenate S8704x16x128 2 (parts y cs sn) concatenates_S8704x16x16_S8704x16x16_S8704x16x96_S8704x16x128_d2 (ix3 r h d) := by
  refine shapeCast_apply _ _ _ _ ?_
  rw [Shape.rowMajor_val_three, Shape.rowMajor_val_two]
  show (r.val * 16 + h.val) * 128 + d.val = r.val * 2048 + (128 * h.val + d.val)
  omega

/-- The first sixteen lanes of a head, rotated. -/
theorem ropeR_low (r : Fin 8704) (h : Fin 16) (d : Fin 16) :
    ropeR y cs sn (ix2 r ⟨128 * h.val + d.val, by omega⟩)
      = y (ix2 r ⟨128 * h.val + d.val, by omega⟩) * cs (ix2 r d) - y (ix2 r ⟨128 * h.val + (16 + d.val), by omega⟩) * sn (ix2 r d) := by
  rw [← low_at y r h d, ← high_at y r h d, ← spread_at cs r h d, ← spread_at sn r h d]
  refine (ropeR_split y cs sn r h ⟨d.val, by omega⟩).trans ?_
  refine concatenate_apply_piece (t := S8704x16x128) 2 (parts y cs sn) _ (ix3 r h ⟨d.val, by omega⟩) 0 (show 0 < 3 by decide) S8704x16x16 _ rfl rfl 0 rfl
    (ix3 r h d) (fun b hb => ?_) (Nat.zero_add _)
  match b with
  | ⟨0, _⟩ => rfl
  | ⟨1, _⟩ => rfl
  | ⟨2, _⟩ => exact absurd rfl hb

/-- The next sixteen lanes of a head, rotated. -/
theorem ropeR_high (r : Fin 8704) (h : Fin 16) (d : Fin 16) :
    ropeR y cs sn (ix2 r ⟨128 * h.val + (16 + d.val), by omega⟩)
      = y (ix2 r ⟨128 * h.val + (16 + d.val), by omega⟩) * cs (ix2 r d) + y (ix2 r ⟨128 * h.val + d.val, by omega⟩) * sn (ix2 r d) := by
  rw [← low_at y r h d, ← high_at y r h d, ← spread_at cs r h d, ← spread_at sn r h d]
  refine (ropeR_split y cs sn r h ⟨16 + d.val, by omega⟩).trans ?_
  refine concatenate_apply_piece (t := S8704x16x128) 2 (parts y cs sn) _ (ix3 r h ⟨16 + d.val, by omega⟩) 1 (show 1 < 3 by decide) S8704x16x16 _ rfl rfl 16 rfl
    (ix3 r h d) (fun b hb => ?_) rfl
  match b with
  | ⟨0, _⟩ => rfl
  | ⟨1, _⟩ => rfl
  | ⟨2, _⟩ => exact absurd rfl hb

/-- The other lanes of a head are as they were. -/
theorem ropeR_rest (r : Fin 8704) (h : Fin 16) (d : Fin 96) :
    ropeR y cs sn (ix2 r ⟨128 * h.val + (32 + d.val), by omega⟩) = y (ix2 r ⟨128 * h.val + (32 + d.val), by omega⟩) := by
  rw [← rest_at y r h d]
  refine (ropeR_split y cs sn r h ⟨32 + d.val, by omega⟩).trans ?_
  refine concatenate_apply_piece (t := S8704x16x128) 2 (parts y cs sn) _ (ix3 r h ⟨32 + d.val, by omega⟩) 2 (show 2 < 3 by decide) S8704x16x96 _ rfl rfl 32 rfl
    (ix3 r h d) (fun b hb => ?_) rfl
  match b with
  | ⟨0, _⟩ => rfl
  | ⟨1, _⟩ => rfl
  | ⟨2, _⟩ => exact absurd rfl hb

variable (x0 : FVec Ideal S8192x4096 .f32) (x1 : FVec Ideal S512x4096 .f32) (x2 x3 : FVec Ideal S4096 .f32)
  (x4 : FVec Ideal S1x4096x12288 .f32)

/-- The reference's cosines of a token's angles. -/
abbrev cosT : FVec Ideal S8704x16 .f32 := val_main_v55 (F := Ideal)
/-- The reference's sines of a token's angles. -/
abbrev sinT : FVec Ideal S8704x16 .f32 := val_main_v57 (F := Ideal)

/-- The first queries are their columns rotated. -/
theorem v73_eq : val_main_v73 (F := Ideal) x0 x1 x2 x3 x4 = ropeR (val_main_v25 (F := Ideal) x0 x1 x2 x3 x4) cosT sinT := rfl
/-- The first keys are their columns rotated. -/
theorem v107_eq : val_main_v107 (F := Ideal) x0 x1 x2 x3 x4 = ropeR (val_main_v26 (F := Ideal) x0 x1 x2 x3 x4) cosT sinT := rfl
/-- The second queries are their columns rotated. -/
theorem v139_eq : val_main_v139 (F := Ideal) x0 x1 x2 x3 x4 = ropeR (val_main_v28 (F := Ideal) x0 x1 x2 x3 x4) cosT sinT := rfl
/-- The second keys are their columns rotated. -/
theorem v173_eq : val_main_v173 (F := Ideal) x0 x1 x2 x3 x4 = ropeR (val_main_v29 (F := Ideal) x0 x1 x2 x3 x4) cosT sinT := rfl

end Cert.Proj

end
-- ==== Proof.Heads.Table.lean ====
/- The tables of the rotary embedding, and what the calls read, element by element. -/
module

public import proofs.«01_k».proof.Proof.Heads.Pay
public import proofs.«01_k».proof.Proof.Heads.RefRope
public import Idealize.ShloMosaic.Lib.StableHlo.RunRead

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

variable (m : (ℓ : Loc nD τ sig) → Buf (Elt Ideal) ℓ) (ρ : Dev nD → PrngReg) (c : Dev nD)

/-- Ones for the lanes that are not rotated. -/
abbrev ones : FVec Ideal S8704x96 .f32 := broadcastInDim S8704x96 ![] bcast_S_S8704x96 (constant S_ .f32 0x3F800000#32)
/-- Zeros for the lanes that are not rotated. -/
abbrev zeros96 : FVec Ideal S8704x96 .f32 := broadcastInDim S8704x96 ![] bcast_S_S8704x96 (constant S_ .f32 0x00000000#32)
/-- Zeros for sixteen lanes. -/
abbrev zeros16 : FVec Ideal S8704x16 .f32 := broadcastInDim S8704x16 ![] bcast_S_S8704x16 (constant S_ .f32 0x00000000#32)
/-- The parts of the first table. -/
abbrev partsC : List ((s : Shape) × (s.Idx → Ideal .f32)) := [⟨S8704x16, cosT⟩, ⟨S8704x16, cosT⟩, ⟨S8704x96, ones⟩]
/-- The parts of the second table. -/
abbrev partsA : List ((s : Shape) × (s.Idx → Ideal .f32)) := [⟨S8704x16, (Host.negf (sinT : FVec Ideal S8704x16 .f32) : FVec Ideal S8704x16 .f32)⟩, ⟨S8704x16, zeros16⟩, ⟨S8704x96, zeros96⟩]
/-- The parts of the third table. -/
abbrev partsB : List ((s : Shape) × (s.Idx → Ideal .f32)) := [⟨S8704x16, zeros16⟩, ⟨S8704x16, sinT⟩, ⟨S8704x96, zeros96⟩]

/-- The first table: cosines, and ones for the lanes that are not rotated. -/
theorem W1_v28 : W1 m ρ c (Proc.devRef .tc main_v28)
    = concatenate S8704x128 1 partsC concatenates_S8704x16_S8704x16_S8704x96_S8704x128_d1 := by
  show StableHlo.after hostOps0 _ _ = _
  after_reads_simp
  rfl

/-- The second table: minus the sines for the first sixteen lanes. -/
theorem W1_v30 : W1 m ρ c (Proc.devRef .tc main_v30)
    = concatenate S8704x128 1 partsA concatenates_S8704x16_S8704x16_S8704x96_S8704x128_d1 := by
  show StableHlo.after hostOps0 _ _ = _
  after_reads_simp
  rfl

/-- The third table: the sines for the next sixteen lanes. -/
theorem W1_v31 : W1 m ρ c (Proc.devRef .tc main_v31)
    = concatenate S8704x128 1 partsB concatenates_S8704x16_S8704x16_S8704x96_S8704x128_d1 := by
  show StableHlo.after hostOps0 _ _ = _
  after_reads_simp
  rfl

/-- The first table at an element. -/
def tabC (r : Fin 8704) (d : Fin 128) : EReal :=
  if h : d.val < 32 then cosT (ix2 r ⟨d.val % 16, Nat.mod_lt _ (by decide)⟩) else Ideal.ofBits .f32 0x3F800000#32
/-- The second table at an element. -/
def tabA (r : Fin 8704) (d : Fin 128) : EReal :=
  if h : d.val < 16 then -(sinT (ix2 r ⟨d.val, h⟩) : EReal) else 0
/-- The third table at an element. -/
def tabB (r : Fin 8704) (d : Fin 128) : EReal :=
  if h : 16 ≤ d.val ∧ d.val < 32 then sinT (ix2 r ⟨d.val - 16, by omega⟩) else 0

/-- An element of a table in its first sixteen lanes. -/
theorem tab_0 (a b : FVec Ideal S8704x16 .f32) (z : FVec Ideal S8704x96 .f32) (r : Fin 8704) (d : Fin 128) (hd : d.val < 16) :
    concatenate S8704x128 1 ([⟨S8704x16, a⟩, ⟨S8704x16, b⟩, ⟨S8704x96, z⟩] : List ((s : Shape) × (s.Idx → Ideal .f32)))
      concatenates_S8704x16_S8704x16_S8704x96_S8704x128_d1 (ix2 r d) = a (ix2 r ⟨d.val, hd⟩) := by
  refine concatenate_apply_piece (t := S8704x128) 1 ([⟨S8704x16, a⟩, ⟨S8704x16, b⟩, ⟨S8704x96, z⟩] : List ((s : Shape) × (s.Idx → Ideal .f32))) _ (ix2 r d) 0
    (show 0 < 3 by decide) S8704x16 _ rfl rfl 0 rfl (ix2 r ⟨d.val, hd⟩) (fun k hk => ?_) (Nat.zero_add _)
  match k with
  | ⟨0, _⟩ => rfl
  | ⟨1, _⟩ => exact absurd rfl hk

/-- An element of a table in its next sixteen lanes. -/
theorem tab_1 (a b : FVec Ideal S8704x16 .f32) (z : FVec Ideal S8704x96 .f32) (r : Fin 8704) (d : Fin 128) (hd : 16 ≤ d.val) (h2 : d.val < 32) :
    concatenate S8704x128 1 ([⟨S8704x16, a⟩, ⟨S8704x16, b⟩, ⟨S8704x96, z⟩] : List ((s : Shape) × (s.Idx → Ideal .f32)))
      concatenates_S8704x16_S8704x16_S8704x96_S8704x128_d1 (ix2 r d) = b (ix2 r ⟨d.val - 16, by omega⟩) := by
  refine concatenate_apply_piece (t := S8704x128) 1 ([⟨S8704x16, a⟩, ⟨S8704x16, b⟩, ⟨S8704x96, z⟩] : List ((s : Shape) × (s.Idx → Ideal .f32))) _ (ix2 r d) 1
    (show 1 < 3 by decide) S8704x16 _ rfl rfl 16 rfl (ix2 r ⟨d.val - 16, by omega⟩) (fun k hk => ?_) ?_
  · match k with
    | ⟨0, _⟩ => rfl
    | ⟨1, _⟩ => exact absurd rfl hk
  · show 16 + (d.val - 16) = d.val
    omega

/-- An element of a table in its other lanes. -/
theorem tab_2 (a b : FVec Ideal S8704x16 .f32) (z : FVec Ideal S8704x96 .f32) (r : Fin 8704) (d : Fin 128) (hd : 32 ≤ d.val) :
    concatenate S8704x128 1 ([⟨S8704x16, a⟩, ⟨S8704x16, b⟩, ⟨S8704x96, z⟩] : List ((s : Shape) × (s.Idx → Ideal .f32)))
      concatenates_S8704x16_S8704x16_S8704x96_S8704x128_d1 (ix2 r d) = z (ix2 r ⟨d.val - 32, by omega⟩) := by
  refine concatenate_apply_piece (t := S8704x128) 1 ([⟨S8704x16, a⟩, ⟨S8704x16, b⟩, ⟨S8704x96, z⟩] : List ((s : Shape) × (s.Idx → Ideal .f32))) _ (ix2 r d) 2
    (show 2 < 3 by decide) S8704x96 _ rfl rfl 32 rfl (ix2 r ⟨d.val - 32, by omega⟩) (fun k hk => ?_) ?_
  · match k with
    | ⟨0, _⟩ => rfl
    | ⟨1, _⟩ => exact absurd rfl hk
  · show 32 + (d.val - 32) = d.val
    omega

/-- Zeros for sixteen lanes are zero. -/
theorem zeros16_at (i : S8704x16.Idx) : zeros16 i = (0 : EReal) := Ideal.ofBits_zero_f32
/-- Zeros for the other lanes are zero. -/
theorem zeros96_at (i : S8704x96.Idx) : zeros96 i = (0 : EReal) := Ideal.ofBits_zero_f32

/-- The first table, at an element. -/
theorem W1_v28_at (r : Fin 8704) (d : Fin 128) : W1 m ρ c (Proc.devRef .tc main_v28) (ix2 r d) = tabC r d := by
  rw [W1_v28]
  unfold tabC
  rcases Nat.lt_or_ge d.val 16 with h | h
  · rw [dif_pos (by omega)]
    refine (tab_0 cosT cosT ones r d h).trans ?_
    have e : (⟨d.val, h⟩ : Fin 16) = ⟨d.val % 16, Nat.mod_lt _ (by decide)⟩ := Fin.ext (Nat.mod_eq_of_lt h).symm
    rw [e]
  rcases Nat.lt_or_ge d.val 32 with h2 | h2
  · rw [dif_pos h2]
    refine (tab_1 cosT cosT ones r d h h2).trans ?_
    have e : (⟨d.val - 16, by omega⟩ : Fin 16) = ⟨d.val % 16, Nat.mod_lt _ (by decide)⟩ :=
      Fin.ext (by show d.val - 16 = d.val % 16; omega)
    rw [e]
  · rw [dif_neg (by omega)]
    exact tab_2 cosT cosT ones r d h2

/-- The second table, at an element. -/
theorem W1_v30_at (r : Fin 8704) (d : Fin 128) : W1 m ρ c (Proc.devRef .tc main_v30) (ix2 r d) = tabA r d := by
  rw [W1_v30]
  unfold tabA
  rcases Nat.lt_or_ge d.val 16 with h | h
  · rw [dif_pos h]
    exact tab_0 _ zeros16 zeros96 r d h
  rw [dif_neg (by omega)]
  rcases Nat.lt_or_ge d.val 32 with h2 | h2
  · exact (tab_1 _ zeros16 zeros96 r d h h2).trans (zeros16_at _)
  · exact (tab_2 _ zeros16 zeros96 r d h2).trans (zeros96_at _)

/-- The third table, at an element. -/
theorem W1_v31_at (r : Fin 8704) (d : Fin 128) : W1 m ρ c (Proc.devRef .tc main_v31) (ix2 r d) = tabB r d := by
  rw [W1_v31]
  unfold tabB
  rcases Nat.lt_or_ge d.val 16 with h | h
  · rw [dif_neg (by omega)]
    exact (tab_0 zeros16 sinT zeros96 r d h).trans (zeros16_at _)
  rcases Nat.lt_or_ge d.val 32 with h2 | h2
  · rw [dif_pos ⟨h, h2⟩]
    exact tab_1 zeros16 sinT zeros96 r d h h2
  · rw [dif_neg (by omega)]
    exact (tab_2 zeros16 sinT zeros96 r d h2).trans (zeros96_at _)

/-- The gains as the first call reads them. -/
theorem W1_v32_at (k : Fin 4096) : W1 m ρ c (Proc.devRef .tc main_v32) (ix2 0 k) = m ((c : Thread nD τ).loc main_arg2) (ix1 k) := by
  have e : W1 m ρ c (Proc.devRef .tc main_v32)
      = shapeCast S1x4096 (m ((c : Thread nD τ).loc main_arg2) : Vec Ideal S4096 .f32) shapeCasts_S4096_S1x4096 := by
    show StableHlo.after hostOps0 _ _ = _
    after_reads_simp
    rfl
  rw [e]
  simp only [pointwise]

/-- The biases as the first call reads them. -/
theorem W1_v33_at (k : Fin 4096) : W1 m ρ c (Proc.devRef .tc main_v33) (ix2 0 k) = m ((c : Thread nD τ).loc main_arg3) (ix1 k) := by
  have e : W1 m ρ c (Proc.devRef .tc main_v33)
      = shapeCast S1x4096 (m ((c : Thread nD τ).loc main_arg3) : Vec Ideal S4096 .f32) shapeCasts_S4096_S1x4096 := by
    show StableHlo.after hostOps0 _ _ = _
    after_reads_simp
    rfl
  rw [e]
  simp only [pointwise]

/-- The weights as the projections read them. -/
theorem W3_v36_at (k : Fin 4096) (j : Fin 12288) :
    W3 m ρ c (Proc.devRef .tc main_v36) (ix2 k j) = m ((c : Thread nD τ).loc main_arg4) (ix3 0 k j) := by
  have e : W3 m ρ c (Proc.devRef .tc main_v36)
      = truncf (F := Ideal) (φ := .f32) .bf16 (shapeCast S4096x12288 (W2 m ρ c (Proc.devRef .tc main_arg4) : Vec Ideal S1x4096x12288 .f32)
          shapeCasts_S1x4096x12288_S4096x12288) bitsLt_bf16_f32 := by
    show StableHlo.after hostOps1 _ _ = _
    after_reads_simp
    rfl
  rw [e, W2_args m ρ c main_arg4 (by decide)]
  refine shapeCast_apply (α := EReal) _ _ (ix2 k j) (ix3 0 k j) ?_
  rw [Shape.rowMajor_val_three, Shape.rowMajor_val_two]
  show (0 * 4096 + k.val) * 12288 + j.val = k.val * 12288 + j.val
  omega

end Cert.Proj

end
-- ==== Proof.Heads.Block.lean ====
/- A block of a projection put against the reference's columns, at an element. -/
module

public import proofs.«01_k».proof.Proof.Heads.Table

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

/-- The number one. -/
theorem one_eq : Ideal.ofBits .f32 0x3F800000#32 = (1 : EReal) := by
  simp [Ideal.ofBits, Ideal.ieee]
  rw [← EReal.coe_mul]
  norm_num

/-- The reference's rotation written with the three tables. -/
theorem ropeR_tab (y : FVec Ideal S8704x2048 .f32) (r : Fin 8704) (h : Fin 16) (d : Fin 128) :
    ropeR y cosT sinT (ix2 r ⟨128 * h.val + d.val, by omega⟩)
      = y (ix2 r ⟨128 * h.val + d.val, by omega⟩) * tabC r d + y (ix2 r ⟨128 * h.val + (d.val + 16) % 128, by omega⟩) * tabA r d
        + y (ix2 r ⟨128 * h.val + (d.val + 112) % 128, by omega⟩) * tabB r d := by
  have hh := h.isLt
  have hd := d.isLt
  rcases Nat.lt_or_ge d.val 16 with h1 | h1
  · have e : (⟨d.val % 16, Nat.mod_lt _ (by decide)⟩ : Fin 16) = ⟨d.val, h1⟩ := Fin.ext (Nat.mod_eq_of_lt h1)
    have e2 : (⟨128 * h.val + (d.val + 16) % 128, by omega⟩ : Fin 2048) = ⟨128 * h.val + (16 + d.val), by omega⟩ :=
      Fin.ext (by show 128 * h.val + (d.val + 16) % 128 = 128 * h.val + (16 + d.val); omega)
    unfold tabC tabA tabB
    rw [dif_pos (by omega), dif_pos h1, dif_neg (by omega), e, e2, mul_zero, add_zero, mul_neg, ← sub_eq_add_neg]
    exact ropeR_low y cosT sinT r h ⟨d.val, h1⟩
  rcases Nat.lt_or_ge d.val 32 with h2 | h2
  · have e : (⟨d.val % 16, Nat.mod_lt _ (by decide)⟩ : Fin 16) = ⟨d.val - 16, by omega⟩ :=
      Fin.ext (by show d.val % 16 = d.val - 16; omega)
    have e2 : (⟨128 * h.val + (d.val + 112) % 128, by omega⟩ : Fin 2048) = ⟨128 * h.val + (d.val - 16), by omega⟩ :=
      Fin.ext (by show 128 * h.val + (d.val + 112) % 128 = 128 * h.val + (d.val - 16); omega)
    have e3 : (⟨128 * h.val + d.val, by omega⟩ : Fin 2048) = ⟨128 * h.val + (16 + (d.val - 16)), by omega⟩ :=
      Fin.ext (by show 128 * h.val + d.val = 128 * h.val + (16 + (d.val - 16)); omega)
    unfold tabC tabA tabB
    rw [dif_pos h2, dif_neg (by omega), dif_pos ⟨h1, h2⟩, e, e2, e3, mul_zero, add_zero]
    exact ropeR_high y cosT sinT r h ⟨d.val - 16, by omega⟩
  · have e3 : (⟨128 * h.val + d.val, by omega⟩ : Fin 2048) = ⟨128 * h.val + (32 + (d.val - 32)), by omega⟩ :=
      Fin.ext (by show 128 * h.val + d.val = 128 * h.val + (32 + (d.val - 32)); omega)
    unfold tabC tabA tabB
    rw [dif_neg (by omega), dif_neg (by omega), dif_neg (by omega), e3, mul_zero, add_zero, mul_zero, add_zero, one_eq, mul_one]
    exact ropeR_rest y cosT sinT r h ⟨d.val - 32, by omega⟩

/-- An element of a block, rotated, is the reference's. -/
theorem block_rope (z : FVec Ideal S512x1024 .f32) (c sa sb : Vec Ideal S512x128 .f32) (y : FVec Ideal S8704x2048 .f32) (r : Fin 8704)
    (r' : Fin 512) (b : Fin 2) (j : Fin 1024)
    (hc : ∀ d : Fin 128, c (ix2 r' d) = tabC r d) (ha : ∀ d : Fin 128, sa (ix2 r' d) = tabA r d) (hb : ∀ d : Fin 128, sb (ix2 r' d) = tabB r d)
    (hz : ∀ j : Fin 1024, z (ix2 r' j) = y (ix2 r ⟨1024 * b.val + j.val, by omega⟩)) :
    ropeB z c sa sb (ix2 r' j) = ropeR y cosT sinT (ix2 r ⟨1024 * b.val + j.val, by omega⟩) := by
  have hj := j.isLt
  have hb2 := b.isLt
  let h : Fin 8 := ⟨j.val / 128, by omega⟩
  let d : Fin 128 := ⟨j.val % 128, by omega⟩
  let H : Fin 16 := ⟨8 * b.val + j.val / 128, by omega⟩
  have ej : j = ⟨128 * h.val + d.val, by omega⟩ := Fin.ext (by show j.val = 128 * (j.val / 128) + j.val % 128; omega)
  have eJ : (⟨1024 * b.val + j.val, by omega⟩ : Fin 2048) = ⟨128 * H.val + d.val, by omega⟩ :=
    Fin.ext (by show 1024 * b.val + j.val = 128 * (8 * b.val + j.val / 128) + j.val % 128; omega)
  have eX : ∀ x : Nat, (hx : x < 128) → (⟨1024 * b.val + (128 * h.val + x), by omega⟩ : Fin 2048) = ⟨128 * H.val + x, by omega⟩ := fun x hx =>
    Fin.ext (by show 1024 * b.val + (128 * (j.val / 128) + x) = 128 * (8 * b.val + j.val / 128) + x; omega)
  rw [eJ, ropeR_tab y r H d]
  refine (congrArg (fun q : Fin 1024 => ropeB z c sa sb (ix2 r' q)) ej).trans ?_
  refine (ropeB_at z c sa sb r' h d).trans ?_
  rw [hc, ha, hb, hz, hz, hz, ← eX d.val d.isLt, ← eX ((d.val + 16) % 128) (by omega), ← eX ((d.val + 112) % 128) (by omega)]

section Columns

open Cert.HeadsReferenceIdeal.Read

variable (x0 : FVec Ideal S8192x4096 .f32) (x1 : FVec Ideal S512x4096 .f32) (x2 x3 : FVec Ideal S4096 .f32)
  (x4 : FVec Ideal S1x4096x12288 .f32)

/-- An element of a block's product, from the rows and columns it reads. -/
theorem block_mm (a : Vec Ideal S512x4096 .bf16) (w : Vec Ideal S4096x1024 .bf16) (r : Fin 8704) (r' : Fin 512) (j : Fin 1024) (col : Fin 12288)
    (ha : ∀ k : Fin 4096, a (ix2 r' k) = norm (row x0 x1 r) (x2 (ix1 k)) (x3 (ix1 k)) k)
    (hw : ∀ k : Fin 4096, w (ix2 k j) = x4 (ix3 0 k col)) : mm a w (ix2 r' j) = dot x0 x1 x2 x3 x4 r col := by
  rw [mm_at]
  exact Finset.sum_congr rfl fun k _ => by rw [ha, hw]

/-- The columns of the first queries. -/
theorem v25_at (r : Fin 8704) (j : Fin 2048) :
    val_main_v25 (F := Ideal) x0 x1 x2 x3 x4 (ix2 r j) = dot x0 x1 x2 x3 x4 r ⟨j.val, by omega⟩ := by
  rw [val_main_v25_apply, ← dot_at]
  congr 1
  funext a; refine Fin.ext ?_
  match a with
  | ⟨0, _⟩ => rfl
  | ⟨1, _⟩ => rfl

/-- The columns of the first keys. -/
theorem v26_at (r : Fin 8704) (j : Fin 2048) :
    val_main_v26 (F := Ideal) x0 x1 x2 x3 x4 (ix2 r j) = dot x0 x1 x2 x3 x4 r ⟨2048 + j.val, by omega⟩ := by
  rw [val_main_v26_apply, ← dot_at]
  congr 1
  funext a; refine Fin.ext ?_
  match a with
  | ⟨0, _⟩ => rfl
  | ⟨1, _⟩ => rfl

/-- The columns of the first values. -/
theorem v27_at (r : Fin 8704) (j : Fin 2048) :
    val_main_v27 (F := Ideal) x0 x1 x2 x3 x4 (ix2 r j) = dot x0 x1 x2 x3 x4 r ⟨4096 + j.val, by omega⟩ := by
  rw [val_main_v27_apply, ← dot_at]
  congr 1
  funext a; refine Fin.ext ?_
  match a with
  | ⟨0, _⟩ => rfl
  | ⟨1, _⟩ => rfl

/-- The columns of the second queries. -/
theorem v28_at (r : Fin 8704) (j : Fin 2048) :
    val_main_v28 (F := Ideal) x0 x1 x2 x3 x4 (ix2 r j) = dot x0 x1 x2 x3 x4 r ⟨6144 + j.val, by omega⟩ := by
  rw [val_main_v28_apply, ← dot_at]
  congr 1
  funext a; refine Fin.ext ?_
  match a with
  | ⟨0, _⟩ => rfl
  | ⟨1, _⟩ => rfl

/-- The columns of the second keys. -/
theorem v29_at (r : Fin 8704) (j : Fin 2048) :
    val_main_v29 (F := Ideal) x0 x1 x2 x3 x4 (ix2 r j) = dot x0 x1 x2 x3 x4 r ⟨8192 + j.val, by omega⟩ := by
  rw [val_main_v29_apply, ← dot_at]
  congr 1
  funext a; refine Fin.ext ?_
  match a with
  | ⟨0, _⟩ => rfl
  | ⟨1, _⟩ => rfl

/-- The columns of the second values. -/
theorem v30_at (r : Fin 8704) (j : Fin 2048) :
    val_main_v30 (F := Ideal) x0 x1 x2 x3 x4 (ix2 r j) = dot x0 x1 x2 x3 x4 r ⟨10240 + j.val, by omega⟩ := by
  rw [val_main_v30_apply, ← dot_at]
  congr 1
  funext a; refine Fin.ext ?_
  match a with
  | ⟨0, _⟩ => rfl
  | ⟨1, _⟩ => rfl

end Columns

end Cert.Proj

end
-- ==== Proof.Heads.R0.lean ====
/- The first call's array, element by element. -/
module

public import proofs.«01_k».proof.Proof.Heads.Block

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

/-- A grid point of the first call is its block of rows. -/
theorem coords0 : ∀ t : Fin grid0.N, (grid0.coords t 0).val = t.val := by decide +kernel
/-- The prompt's rows that a point reads. -/
theorem tr0_0 : ∀ i : grid0.Coords, (i 0).val < 32 → cc0_transform_0 i 0 = (i 0).val ∧ cc0_transform_0 i 1 = 0 := by decide +kernel
/-- The samples' rows that a point reads. -/
theorem tr0_1 : ∀ i : grid0.Coords, 32 ≤ (i 0).val → cc0_transform_1 i 0 = (i 0).val - 32 ∧ cc0_transform_1 i 1 = 0 := by decide +kernel
/-- The gains that a point reads. -/
theorem tr0_2 : ∀ i : grid0.Coords, cc0_transform_2 i 0 = 0 ∧ cc0_transform_2 i 1 = 0 := by decide +kernel
/-- The biases that a point reads. -/
theorem tr0_3 : ∀ i : grid0.Coords, cc0_transform_3 i 0 = 0 ∧ cc0_transform_3 i 1 = 0 := by decide +kernel
/-- The rows that a point writes. -/
theorem tr0_4 : ∀ i : grid0.Coords, cc0_transform_4 i 0 = (i 0).val ∧ cc0_transform_4 i 1 = 0 := by decide +kernel
/-- No two points write the same block. -/
theorem inj0_4 : ∀ t t' : Fin cfg0.N, win0_4.index t = win0_4.index t' → t = t' :=
  (by decide +kernel : ∀ t t' : Fin grid0.N, win0_4.index t = win0_4.index t' → t = t')

variable (m : (ℓ : Loc nD τ sig) → Buf (Elt Ideal) ℓ) (ρ : Dev nD → PrngReg) (c : Dev nD)

/-- An element of a point's block of the prompt's rows. -/
theorem in0_0 (t : Fin cfg0.N) (r : Fin 256) (k : Fin 4096) (x : Fin 8192) (ht : t.val < 32) (hx : x.val = 256 * t.val + r.val) :
    iblk0 (V1 m ρ) c 0 t (ix2 r k) = m ((c : Thread nD τ).loc main_arg0) (ix2 x k) := by
  unfold iblk0
  rw [View.read_apply]
  show W1 m ρ c (Proc.devRef .tc main_arg0) _ = _
  rw [W1_args m ρ c main_arg0 (by decide)]
  congr 1
  funext p
  refine Fin.ext ?_
  have h := coords0 t
  obtain ⟨h0, h1⟩ := tr0_0 (grid0.coords t) (by omega)
  match p with
  | ⟨0, _⟩ =>
    show cc0_transform_0 (grid0.coords t) 0 * 256 + 1 * r.val = x.val
    omega
  | ⟨1, _⟩ =>
    show cc0_transform_0 (grid0.coords t) 1 * 4096 + 1 * k.val = k.val
    omega

/-- An element of a point's block of the samples' rows. -/
theorem in0_1 (t : Fin cfg0.N) (r : Fin 256) (k : Fin 4096) (x : Fin 512) (ht : 32 ≤ t.val) (hx : x.val = 256 * (t.val - 32) + r.val) :
    iblk0 (V1 m ρ) c 1 t (ix2 r k) = m ((c : Thread nD τ).loc main_arg1) (ix2 x k) := by
  unfold iblk0
  rw [View.read_apply]
  show W1 m ρ c (Proc.devRef .tc main_arg1) _ = _
  rw [W1_args m ρ c main_arg1 (by decide)]
  congr 1
  funext p
  refine Fin.ext ?_
  have h := coords0 t
  obtain ⟨h0, h1⟩ := tr0_1 (grid0.coords t) (by omega)
  match p with
  | ⟨0, _⟩ =>
    show cc0_transform_1 (grid0.coords t) 0 * 256 + 1 * r.val = x.val
    omega
  | ⟨1, _⟩ =>
    show cc0_transform_1 (grid0.coords t) 1 * 4096 + 1 * k.val = k.val
    omega

/-- A gain that a point reads. -/
theorem in0_2 (t : Fin cfg0.N) (k : Fin 4096) : iblk0 (V1 m ρ) c 2 t (ix2 0 k) = m ((c : Thread nD τ).loc main_arg2) (ix1 k) := by
  refine Eq.trans ?_ (W1_v32_at m ρ c k)
  unfold iblk0
  rw [View.read_apply]
  show W1 m ρ c (Proc.devRef .tc main_v32) _ = _
  congr 1
  funext p
  refine Fin.ext ?_
  obtain ⟨h0, h1⟩ := tr0_2 (grid0.coords t)
  match p with
  | ⟨0, _⟩ =>
    show cc0_transform_2 (grid0.coords t) 0 * 1 + 1 * 0 = 0
    omega
  | ⟨1, _⟩ =>
    show cc0_transform_2 (grid0.coords t) 1 * 4096 + 1 * k.val = k.val
    omega

/-- A bias that a point reads. -/
theorem in0_3 (t : Fin cfg0.N) (k : Fin 4096) : iblk0 (V1 m ρ) c 3 t (ix2 0 k) = m ((c : Thread nD τ).loc main_arg3) (ix1 k) := by
  refine Eq.trans ?_ (W1_v33_at m ρ c k)
  unfold iblk0
  rw [View.read_apply]
  show W1 m ρ c (Proc.devRef .tc main_v33) _ = _
  congr 1
  funext p
  refine Fin.ext ?_
  obtain ⟨h0, h1⟩ := tr0_3 (grid0.coords t)
  match p with
  | ⟨0, _⟩ =>
    show cc0_transform_3 (grid0.coords t) 0 * 1 + 1 * 0 = 0
    omega
  | ⟨1, _⟩ =>
    show cc0_transform_3 (grid0.coords t) 1 * 4096 + 1 * k.val = k.val
    omega

/-- The normalised rows as the first call leaves them. -/
abbrev hOf (r : Fin 8704) (k : Fin 4096) : EReal :=
  norm (row (m ((c : Thread nD τ).loc main_arg0)) (m ((c : Thread nD τ).loc main_arg1)) r)
    (m ((c : Thread nD τ).loc main_arg2) (ix1 k)) (m ((c : Thread nD τ).loc main_arg3) (ix1 k)) k

/-- What a point leaves, at an element. -/
theorem left0 (t : Fin cfg0.N) (r' : Fin 256) (k : Fin 4096) (r : Fin 8704) (hr : r.val = 256 * t.val + r'.val) :
    (dat0 (V1 m ρ) c).flushed 4 t (ix2 r' k) = hOf m c r k := by
  have ht := coords0 t
  refine (congrFun (after0_4 (V1 m ρ) c t) (ix2 r' k)).trans ?_
  refine (out0_4_at (grid0.coords t) _ _ _ _ r' k).trans ?_
  rw [in0_2, in0_3]
  refine congrArg (fun f : Fin 4096 → EReal => norm f _ _ k) ?_
  funext j
  rcases Nat.lt_or_ge t.val 32 with h | h
  · rw [if_pos (by omega)]
    unfold row
    rw [dif_pos (show r.val < 8192 by omega)]
    exact in0_0 m ρ c t r' j _ h hr
  · rw [if_neg (by omega)]
    unfold row
    rw [dif_neg (show ¬ r.val < 8192 by omega)]
    exact in0_1 m ρ c t r' j _ h (by show r.val - 8192 = _; omega)

/-- The first call's array after it, at an element. -/
theorem W2_v34_at (r : Fin 8704) (k : Fin 4096) : W2 m ρ c (Proc.devRef .tc main_v34) (ix2 r k) = hOf m c r k := by
  have hr := r.isLt
  let t : Fin cfg0.N := ⟨r.val / 256, by show _ < 34; omega⟩
  have ht := coords0 t
  have hd : ∀ t t' : Fin cfg0.N, (cfg0.win 4).flush t = true → (cfg0.win 4).flush t' = true → t ≠ t' →
      Disjoint ((cfg0.win 4).blk t).view.set ((cfg0.win 4).blk t').view.set :=
    fun t t' _ _ hne => (cfg0.win 4).disjoint_blk fun h => hne (inj0_4 t t' h)
  have e1 : W2 m ρ c (Proc.devRef .tc main_v34) (ix2 r k) = (dat0 (V1 m ρ) c).arrAt 4 cfg0.N (ix2 r k) := congrFun (W2_arr m ρ c 4) (ix2 r k)
  rw [e1]
  refine Eq.trans ?_ (left0 m ρ c t ⟨r.val % 256, Nat.mod_lt _ (by decide)⟩ k r (by show r.val = 256 * (r.val / 256) + r.val % 256; omega))
  refine Eq.trans ?_ (congrFun ((dat0 (V1 m ρ) c).read_blk_arrAt_eq_flushed 4 hd cfg0.N t t.isLt (flush0_4 t)) (ix2 ⟨r.val % 256, Nat.mod_lt _ (by decide)⟩ k))
  rw [View.read_apply]
  congr 1
  funext p
  refine Fin.ext ?_
  obtain ⟨h0, h1⟩ := tr0_4 (grid0.coords t)
  match p with
  | ⟨0, _⟩ =>
    show r.val = cc0_transform_4 (grid0.coords t) 0 * 256 + 1 * (r.val % 256)
    rw [h0, ht]
    show r.val = r.val / 256 * 256 + 1 * (r.val % 256)
    omega
  | ⟨1, _⟩ =>
    show k.val = cc0_transform_4 (grid0.coords t) 1 * 4096 + 1 * k.val
    omega

end Cert.Proj

end
-- ==== Proof.Heads.Entry.lean ====
/- What each projection reads at its entry, element by element. -/
module

public import proofs.«01_k».proof.Proof.Heads.R0

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

variable (m : (ℓ : Loc nD τ sig) → Buf (Elt Ideal) ℓ) (ρ : Dev nD → PrngReg) (c : Dev nD)

/-- The normalised rows at the entry of call 1. -/
theorem W3_h (r : Fin 8704) (k : Fin 4096) : W3 m ρ c (Proc.devRef .tc main_v34) (ix2 r k) = hOf m c r k :=
  (congrFun (W3_of m ρ c main_v34 (by decide)) (ix2 r k)).trans (W2_v34_at m ρ c r k)

/-- The weights at the entry of call 1. -/
theorem W3_w (k : Fin 4096) (j : Fin 12288) : W3 m ρ c (Proc.devRef .tc main_v36) (ix2 k j) = m ((c : Thread nD τ).loc main_arg4) (ix3 0 k j) :=
  W3_v36_at m ρ c k j

/-- The first table at the entry of call 1. -/
theorem W3_c (r : Fin 8704) (d : Fin 128) : W3 m ρ c (Proc.devRef .tc main_v28) (ix2 r d) = tabC r d :=
  (congrFun (W3_of m ρ c main_v28 (by decide)) (ix2 r d)).trans ((congrFun (W2_of m ρ c main_v28 (by decide)) (ix2 r d)).trans (W1_v28_at m ρ c r d))

/-- The second table at the entry of call 1. -/
theorem W3_a (r : Fin 8704) (d : Fin 128) : W3 m ρ c (Proc.devRef .tc main_v30) (ix2 r d) = tabA r d :=
  (congrFun (W3_of m ρ c main_v30 (by decide)) (ix2 r d)).trans ((congrFun (W2_of m ρ c main_v30 (by decide)) (ix2 r d)).trans (W1_v30_at m ρ c r d))

/-- The third table at the entry of call 1. -/
theorem W3_b (r : Fin 8704) (d : Fin 128) : W3 m ρ c (Proc.devRef .tc main_v31) (ix2 r d) = tabB r d :=
  (congrFun (W3_of m ρ c main_v31 (by decide)) (ix2 r d)).trans ((congrFun (W2_of m ρ c main_v31 (by decide)) (ix2 r d)).trans (W1_v31_at m ρ c r d))

/-- The normalised rows at the entry of call 2. -/
theorem W4_h (r : Fin 8704) (k : Fin 4096) : W4 m ρ c (Proc.devRef .tc main_v34) (ix2 r k) = hOf m c r k :=
  (congrFun (W4_of m ρ c main_v34 (by decide)) (ix2 r k)).trans (W3_h m ρ c r k)

/-- The weights at the entry of call 2. -/
theorem W4_w (k : Fin 4096) (j : Fin 12288) : W4 m ρ c (Proc.devRef .tc main_v36) (ix2 k j) = m ((c : Thread nD τ).loc main_arg4) (ix3 0 k j) :=
  (congrFun (W4_of m ρ c main_v36 (by decide)) (ix2 k j)).trans (W3_w m ρ c k j)

/-- The first table at the entry of call 2. -/
theorem W4_c (r : Fin 8704) (d : Fin 128) : W4 m ρ c (Proc.devRef .tc main_v28) (ix2 r d) = tabC r d :=
  (congrFun (W4_of m ρ c main_v28 (by decide)) (ix2 r d)).trans (W3_c m ρ c r d)

/-- The second table at the entry of call 2. -/
theorem W4_a (r : Fin 8704) (d : Fin 128) : W4 m ρ c (Proc.devRef .tc main_v30) (ix2 r d) = tabA r d :=
  (congrFun (W4_of m ρ c main_v30 (by decide)) (ix2 r d)).trans (W3_a m ρ c r d)

/-- The third table at the entry of call 2. -/
theorem W4_b (r : Fin 8704) (d : Fin 128) : W4 m ρ c (Proc.devRef .tc main_v31) (ix2 r d) = tabB r d :=
  (congrFun (W4_of m ρ c main_v31 (by decide)) (ix2 r d)).trans (W3_b m ρ c r d)

/-- The normalised rows at the entry of call 3. -/
theorem W5_h (r : Fin 8704) (k : Fin 4096) : W5 m ρ c (Proc.devRef .tc main_v34) (ix2 r k) = hOf m c r k :=
  (congrFun (W5_of m ρ c main_v34 (by decide)) (ix2 r k)).trans (W4_h m ρ c r k)

/-- The weights at the entry of call 3. -/
theorem W5_w (k : Fin 4096) (j : Fin 12288) : W5 m ρ c (Proc.devRef .tc main_v36) (ix2 k j) = m ((c : Thread nD τ).loc main_arg4) (ix3 0 k j) :=
  (congrFun (W5_of m ρ c main_v36 (by decide)) (ix2 k j)).trans (W4_w m ρ c k j)

/-- The first table at the entry of call 3. -/
theorem W5_c (r : Fin 8704) (d : Fin 128) : W5 m ρ c (Proc.devRef .tc main_v28) (ix2 r d) = tabC r d :=
  (congrFun (W5_of m ρ c main_v28 (by decide)) (ix2 r d)).trans (W4_c m ρ c r d)

/-- The second table at the entry of call 3. -/
theorem W5_a (r : Fin 8704) (d : Fin 128) : W5 m ρ c (Proc.devRef .tc main_v30) (ix2 r d) = tabA r d :=
  (congrFun (W5_of m ρ c main_v30 (by decide)) (ix2 r d)).trans (W4_a m ρ c r d)

/-- The third table at the entry of call 3. -/
theorem W5_b (r : Fin 8704) (d : Fin 128) : W5 m ρ c (Proc.devRef .tc main_v31) (ix2 r d) = tabB r d :=
  (congrFun (W5_of m ρ c main_v31 (by decide)) (ix2 r d)).trans (W4_b m ρ c r d)

/-- The normalised rows at the entry of call 4. -/
theorem W6_h (r : Fin 8704) (k : Fin 4096) : W6 m ρ c (Proc.devRef .tc main_v34) (ix2 r k) = hOf m c r k :=
  (congrFun (W6_of m ρ c main_v34 (by decide)) (ix2 r k)).trans (W5_h m ρ c r k)

/-- The weights at the entry of call 4. -/
theorem W6_w (k : Fin 4096) (j : Fin 12288) : W6 m ρ c (Proc.devRef .tc main_v36) (ix2 k j) = m ((c : Thread nD τ).loc main_arg4) (ix3 0 k j) :=
  (congrFun (W6_of m ρ c main_v36 (by decide)) (ix2 k j)).trans (W5_w m ρ c k j)

/-- The first table at the entry of call 4. -/
theorem W6_c (r : Fin 8704) (d : Fin 128) : W6 m ρ c (Proc.devRef .tc main_v28) (ix2 r d) = tabC r d :=
  (congrFun (W6_of m ρ c main_v28 (by decide)) (ix2 r d)).trans (W5_c m ρ c r d)

/-- The second table at the entry of call 4. -/
theorem W6_a (r : Fin 8704) (d : Fin 128) : W6 m ρ c (Proc.devRef .tc main_v30) (ix2 r d) = tabA r d :=
  (congrFun (W6_of m ρ c main_v30 (by decide)) (ix2 r d)).trans (W5_a m ρ c r d)

/-- The third table at the entry of call 4. -/
theorem W6_b (r : Fin 8704) (d : Fin 128) : W6 m ρ c (Proc.devRef .tc main_v31) (ix2 r d) = tabB r d :=
  (congrFun (W6_of m ρ c main_v31 (by decide)) (ix2 r d)).trans (W5_b m ρ c r d)

/-- The normalised rows at the entry of call 5. -/
theorem W7_h (r : Fin 8704) (k : Fin 4096) : W7 m ρ c (Proc.devRef .tc main_v34) (ix2 r k) = hOf m c r k :=
  (congrFun (W7_of m ρ c main_v34 (by decide)) (ix2 r k)).trans (W6_h m ρ c r k)

/-- The weights at the entry of call 5. -/
theorem W7_w (k : Fin 4096) (j : Fin 12288) : W7 m ρ c (Proc.devRef .tc main_v36) (ix2 k j) = m ((c : Thread nD τ).loc main_arg4) (ix3 0 k j) :=
  (congrFun (W7_of m ρ c main_v36 (by decide)) (ix2 k j)).trans (W6_w m ρ c k j)

/-- The first table at the entry of call 5. -/
theorem W7_c (r : Fin 8704) (d : Fin 128) : W7 m ρ c (Proc.devRef .tc main_v28) (ix2 r d) = tabC r d :=
  (congrFun (W7_of m ρ c main_v28 (by decide)) (ix2 r d)).trans (W6_c m ρ c r d)

/-- The second table at the entry of call 5. -/
theorem W7_a (r : Fin 8704) (d : Fin 128) : W7 m ρ c (Proc.devRef .tc main_v30) (ix2 r d) = tabA r d :=
  (congrFun (W7_of m ρ c main_v30 (by decide)) (ix2 r d)).trans (W6_a m ρ c r d)

/-- The third table at the entry of call 5. -/
theorem W7_b (r : Fin 8704) (d : Fin 128) : W7 m ρ c (Proc.devRef .tc main_v31) (ix2 r d) = tabB r d :=
  (congrFun (W7_of m ρ c main_v31 (by decide)) (ix2 r d)).trans (W6_b m ρ c r d)

/-- The normalised rows at the entry of call 6. -/
theorem W8_h (r : Fin 8704) (k : Fin 4096) : W8 m ρ c (Proc.devRef .tc main_v34) (ix2 r k) = hOf m c r k :=
  (congrFun (W8_of m ρ c main_v34 (by decide)) (ix2 r k)).trans (W7_h m ρ c r k)

/-- The weights at the entry of call 6. -/
theorem W8_w (k : Fin 4096) (j : Fin 12288) : W8 m ρ c (Proc.devRef .tc main_v36) (ix2 k j) = m ((c : Thread nD τ).loc main_arg4) (ix3 0 k j) :=
  (congrFun (W8_of m ρ c main_v36 (by decide)) (ix2 k j)).trans (W7_w m ρ c k j)

/-- The first table at the entry of call 6. -/
theorem W8_c (r : Fin 8704) (d : Fin 128) : W8 m ρ c (Proc.devRef .tc main_v28) (ix2 r d) = tabC r d :=
  (congrFun (W8_of m ρ c main_v28 (by decide)) (ix2 r d)).trans (W7_c m ρ c r d)

/-- The second table at the entry of call 6. -/
theorem W8_a (r : Fin 8704) (d : Fin 128) : W8 m ρ c (Proc.devRef .tc main_v30) (ix2 r d) = tabA r d :=
  (congrFun (W8_of m ρ c main_v30 (by decide)) (ix2 r d)).trans (W7_a m ρ c r d)

/-- The third table at the entry of call 6. -/
theorem W8_b (r : Fin 8704) (d : Fin 128) : W8 m ρ c (Proc.devRef .tc main_v31) (ix2 r d) = tabB r d :=
  (congrFun (W8_of m ρ c main_v31 (by decide)) (ix2 r d)).trans (W7_b m ρ c r d)

section Reference

open Cert.HeadsReferenceIdeal.Read

/-- Stage 25 of the reference on the kernel's arguments. -/
abbrev col25 : FVec Ideal S8704x2048 .f32 := val_main_v25 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- Stage 26 of the reference on the kernel's arguments. -/
abbrev col26 : FVec Ideal S8704x2048 .f32 := val_main_v26 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- Stage 27 of the reference on the kernel's arguments. -/
abbrev col27 : FVec Ideal S8704x2048 .f32 := val_main_v27 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- Stage 28 of the reference on the kernel's arguments. -/
abbrev col28 : FVec Ideal S8704x2048 .f32 := val_main_v28 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- Stage 29 of the reference on the kernel's arguments. -/
abbrev col29 : FVec Ideal S8704x2048 .f32 := val_main_v29 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- Stage 30 of the reference on the kernel's arguments. -/
abbrev col30 : FVec Ideal S8704x2048 .f32 := val_main_v30 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

end Reference

end Cert.Proj

end
-- ==== Proof.Heads.R1.lean ====
/- The first queries: the arrays that call 1 leaves, element by element. -/
module

public import proofs.«01_k».proof.Proof.Heads.Entry

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

variable (m : (ℓ : Loc nD τ sig) → Buf (Elt Ideal) ℓ) (ρ : Dev nD → PrngReg) (c : Dev nD)

/-- A grid point is a block of rows and a block of columns. -/
theorem coords1 : ∀ t : Fin grid1.N, (grid1.coords t 0).val = t.val / 2 ∧ (grid1.coords t 1).val = t.val % 2 := by decide +kernel
/-- The rows that a point reads. -/
theorem tr1_0 : ∀ i : grid1.Coords, cc1_transform_0 i 0 = (i 0).val ∧ cc1_transform_0 i 1 = 0 := by decide +kernel
/-- The columns of the weights that a point reads. -/
theorem tr1_1 : ∀ i : grid1.Coords, cc1_transform_1 i 0 = 0 ∧ cc1_transform_1 i 1 = 0 + (i 1).val := by decide +kernel
/-- The rows of a table that a point reads. -/
theorem tr1_2 : ∀ i : grid1.Coords, cc1_transform_2 i 0 = (i 0).val ∧ cc1_transform_2 i 1 = 0 := by decide +kernel
/-- The rows of a table that a point reads. -/
theorem tr1_3 : ∀ i : grid1.Coords, cc1_transform_3 i 0 = (i 0).val ∧ cc1_transform_3 i 1 = 0 := by decide +kernel
/-- The rows of a table that a point reads. -/
theorem tr1_4 : ∀ i : grid1.Coords, cc1_transform_4 i 0 = (i 0).val ∧ cc1_transform_4 i 1 = 0 := by decide +kernel
/-- The block that a point writes. -/
theorem tr1_5 : ∀ i : grid1.Coords, cc1_transform_5 i 0 = (i 0).val ∧ cc1_transform_5 i 1 = (i 1).val := by decide +kernel
/-- No two points write the same block. -/
theorem inj1_5 : ∀ t t' : Fin cfg1.N, win1_5.index t = win1_5.index t' → t = t' :=
  (by decide +kernel : ∀ t t' : Fin grid1.N, win1_5.index t = win1_5.index t' → t = t')
/-- The block that a point writes. -/
theorem tr1_6 : ∀ i : grid1.Coords, cc1_transform_6 i 0 = (i 1).val ∧ cc1_transform_6 i 1 = (i 0).val := by decide +kernel
/-- No two points write the same block. -/
theorem inj1_6 : ∀ t t' : Fin cfg1.N, win1_6.index t = win1_6.index t' → t = t' :=
  (by decide +kernel : ∀ t t' : Fin grid1.N, win1_6.index t = win1_6.index t' → t = t')

/-- An element of a point's block of rows. -/
theorem in1_0 (t : Fin cfg1.N) (r' : Fin 512) (k : Fin 4096) (r : Fin 8704) (hr : r.val = 512 * (t.val / 2) + r'.val) :
    iblk1 (V3 m ρ) c 0 t (ix2 r' k) = hOf m c r k := by
  refine Eq.trans ?_ (W3_h m ρ c r k)
  unfold iblk1
  rw [View.read_apply]
  show W3 m ρ c (Proc.devRef .tc main_v34) _ = _
  congr 1
  funext p
  refine Fin.ext ?_
  obtain ⟨g0, g1⟩ := coords1 t
  obtain ⟨h0, h1⟩ := tr1_0 (grid1.coords t)
  match p with
  | ⟨0, _⟩ =>
    show cc1_transform_0 (grid1.coords t) 0 * 512 + 1 * r'.val = r.val
    omega
  | ⟨1, _⟩ =>
    show cc1_transform_0 (grid1.coords t) 1 * 4096 + 1 * k.val = k.val
    omega

/-- An element of a point's block of weights. -/
theorem in1_1 (t : Fin cfg1.N) (k : Fin 4096) (j : Fin 1024) (x : Fin 12288) (hx : x.val = 0 + (1024 * (t.val % 2) + j.val)) :
    iblk1 (V3 m ρ) c 1 t (ix2 k j) = m ((c : Thread nD τ).loc main_arg4) (ix3 0 k x) := by
  refine Eq.trans ?_ (W3_w m ρ c k x)
  unfold iblk1
  rw [View.read_apply]
  show W3 m ρ c (Proc.devRef .tc main_v36) _ = _
  congr 1
  funext p
  refine Fin.ext ?_
  obtain ⟨g0, g1⟩ := coords1 t
  obtain ⟨h0, h1⟩ := tr1_1 (grid1.coords t)
  match p with
  | ⟨0, _⟩ =>
    show cc1_transform_1 (grid1.coords t) 0 * 4096 + 1 * k.val = k.val
    omega
  | ⟨1, _⟩ =>
    show cc1_transform_1 (grid1.coords t) 1 * 1024 + 1 * j.val = x.val
    omega

/-- An element of a point's block of a table. -/
theorem in1_2 (t : Fin cfg1.N) (r' : Fin 512) (d : Fin 128) (r : Fin 8704) (hr : r.val = 512 * (t.val / 2) + r'.val) :
    iblk1 (V3 m ρ) c 2 t (ix2 r' d) = tabC r d := by
  refine Eq.trans ?_ (W3_c m ρ c r d)
  unfold iblk1
  rw [View.read_apply]
  show W3 m ρ c (Proc.devRef .tc main_v28) _ = _
  congr 1
  funext p
  refine Fin.ext ?_
  obtain ⟨g0, g1⟩ := coords1 t
  obtain ⟨h0, h1⟩ := tr1_2 (grid1.coords t)
  match p with
  | ⟨0, _⟩ =>
    show cc1_transform_2 (grid1.coords t) 0 * 512 + 1 * r'.val = r.val
    omega
  | ⟨1, _⟩ =>
    show cc1_transform_2 (grid1.coords t) 1 * 128 + 1 * d.val = d.val
    omega

/-- An element of a point's block of a table. -/
theorem in1_3 (t : Fin cfg1.N) (r' : Fin 512) (d : Fin 128) (r : Fin 8704) (hr : r.val = 512 * (t.val / 2) + r'.val) :
    iblk1 (V3 m ρ) c 3 t (ix2 r' d) = tabA r d := by
  refine Eq.trans ?_ (W3_a m ρ c r d)
  unfold iblk1
  rw [View.read_apply]
  show W3 m ρ c (Proc.devRef .tc main_v30) _ = _
  congr 1
  funext p
  refine Fin.ext ?_
  obtain ⟨g0, g1⟩ := coords1 t
  obtain ⟨h0, h1⟩ := tr1_3 (grid1.coords t)
  match p with
  | ⟨0, _⟩ =>
    show cc1_transform_3 (grid1.coords t) 0 * 512 + 1 * r'.val = r.val
    omega
  | ⟨1, _⟩ =>
    show cc1_transform_3 (grid1.coords t) 1 * 128 + 1 * d.val = d.val
    omega

/-- An element of a point's block of a table. -/
theorem in1_4 (t : Fin cfg1.N) (r' : Fin 512) (d : Fin 128) (r : Fin 8704) (hr : r.val = 512 * (t.val / 2) + r'.val) :
    iblk1 (V3 m ρ) c 4 t (ix2 r' d) = tabB r d := by
  refine Eq.trans ?_ (W3_b m ρ c r d)
  unfold iblk1
  rw [View.read_apply]
  show W3 m ρ c (Proc.devRef .tc main_v31) _ = _
  congr 1
  funext p
  refine Fin.ext ?_
  obtain ⟨g0, g1⟩ := coords1 t
  obtain ⟨h0, h1⟩ := tr1_4 (grid1.coords t)
  match p with
  | ⟨0, _⟩ =>
    show cc1_transform_4 (grid1.coords t) 0 * 512 + 1 * r'.val = r.val
    omega
  | ⟨1, _⟩ =>
    show cc1_transform_4 (grid1.coords t) 1 * 128 + 1 * d.val = d.val
    omega

/-- A point's product, at an element. -/
theorem prod1 (t : Fin cfg1.N) (r' : Fin 512) (j : Fin 1024) (r : Fin 8704) (b : Fin 2) (hr : r.val = 512 * (t.val / 2) + r'.val)
    (hb : b.val = t.val % 2) :
    mm (iblk1 (V3 m ρ) c 0 t) (iblk1 (V3 m ρ) c 1 t) (ix2 r' j) = col25 m c (ix2 r ⟨1024 * b.val + j.val, by omega⟩) := by
  refine Eq.trans ?_ (v25_at _ _ _ _ _ r ⟨1024 * b.val + j.val, by omega⟩).symm
  refine block_mm _ _ _ _ _ _ _ r r' j _ (fun k => in1_0 m ρ c t r' k r hr) (fun k => in1_1 m ρ c t k j _ ?_)
  show 1024 * b.val + j.val = _
  omega

/-- What a point leaves in window 5, at an element. -/
theorem left1_5 (t : Fin cfg1.N) (r' : Fin 512) (j : Fin 1024) (r : Fin 8704) (b : Fin 2) (hr : r.val = 512 * (t.val / 2) + r'.val)
    (hb : b.val = t.val % 2) :
    (dat1 (V3 m ρ) c).flushed 5 t (ix2 r' j) = ropeR (col25 m c) cosT sinT (ix2 r ⟨1024 * b.val + j.val, by omega⟩) * qscale := by
  refine (congrFun (after1_5 (V3 m ρ) c t) (ix2 r' j)).trans ?_
  refine (out1_5_at (iblk1 (V3 m ρ) c 0 t) (iblk1 (V3 m ρ) c 1 t) (iblk1 (V3 m ρ) c 2 t) (iblk1 (V3 m ρ) c 3 t) (iblk1 (V3 m ρ) c 4 t) r' j).trans ?_
  exact congrArg (· * qscale) (block_rope _ _ _ _ (col25 m c) r r' b j (fun d => in1_2 m ρ c t r' d r hr) (fun d => in1_3 m ρ c t r' d r hr)
    (fun d => in1_4 m ρ c t r' d r hr) (fun j => prod1 m ρ c t r' j r b hr hb))

/-- The array of window 5 after the call, at an element. -/
theorem arr1_5 (r : Fin 8704) (x : Fin 2048) :
    W4 m ρ c (Proc.devRef .tc main_v37_0) (ix2 r x) = ropeR (col25 m c) cosT sinT (ix2 r x) * qscale := by
  have hr := r.isLt
  have hx := x.isLt
  let t : Fin cfg1.N := ⟨2 * (r.val / 512) + x.val / 1024, by show _ < 34; omega⟩
  have ht : t.val = 2 * (r.val / 512) + x.val / 1024 := rfl
  have hd : ∀ t t' : Fin cfg1.N, (cfg1.win 5).flush t = true → (cfg1.win 5).flush t' = true → t ≠ t' →
      Disjoint ((cfg1.win 5).blk t).view.set ((cfg1.win 5).blk t').view.set :=
    fun t t' _ _ hne => (cfg1.win 5).disjoint_blk fun h => hne (inj1_5 t t' h)
  have e1 : W4 m ρ c (Proc.devRef .tc main_v37_0) (ix2 r x) = (dat1 (V3 m ρ) c).arrAt 5 cfg1.N (ix2 r x) :=
    congrFun (W4_arr m ρ c 5) (ix2 r x)
  have ex : (⟨1024 * (x.val / 1024) + x.val % 1024, by omega⟩ : Fin 2048) = x := Fin.ext (by show 1024 * (x.val / 1024) + x.val % 1024 = x.val; omega)
  rw [e1]
  have e2 := left1_5 m ρ c t ⟨r.val % 512, Nat.mod_lt _ (by decide)⟩ ⟨x.val % 1024, Nat.mod_lt _ (by decide)⟩ r ⟨x.val / 1024, by omega⟩
    (by rw [ht]; show r.val = 512 * ((2 * (r.val / 512) + x.val / 1024) / 2) + r.val % 512; omega)
    (by rw [ht]; show x.val / 1024 = _; omega)
  rw [← ex]
  refine Eq.trans ?_ e2
  rw [ex]
  refine Eq.trans ?_ (congrFun ((dat1 (V3 m ρ) c).read_blk_arrAt_eq_flushed 5 hd cfg1.N t t.isLt (flush1_5 t))
    (ix2 ⟨r.val % 512, Nat.mod_lt _ (by decide)⟩ ⟨x.val % 1024, Nat.mod_lt _ (by decide)⟩))
  rw [View.read_apply]
  congr 1
  funext p
  refine Fin.ext ?_
  obtain ⟨g0, g1⟩ := coords1 t
  obtain ⟨h0, h1⟩ := tr1_5 (grid1.coords t)
  match p with
  | ⟨0, _⟩ =>
    show r.val = cc1_transform_5 (grid1.coords t) 0 * 512 + 1 * (r.val % 512)
    rw [h0, g0, ht]
    omega
  | ⟨1, _⟩ =>
    show x.val = cc1_transform_5 (grid1.coords t) 1 * 1024 + 1 * (x.val % 1024)
    rw [h1, g1, ht]
    omega

/-- What a point leaves in window 6, at an element. -/
theorem left1_6 (t : Fin cfg1.N) (r' : Fin 512) (j : Fin 1024) (r : Fin 8704) (b : Fin 2) (hr : r.val = 512 * (t.val / 2) + r'.val)
    (hb : b.val = t.val % 2) :
    (dat1 (V3 m ρ) c).flushed 6 t (ix2 j r') = ropeR (col25 m c) cosT sinT (ix2 r ⟨1024 * b.val + j.val, by omega⟩) * qscale := by
  refine (congrFun (after1_6 (V3 m ρ) c t) (ix2 j r')).trans ?_
  refine (out1_6_at (iblk1 (V3 m ρ) c 0 t) (iblk1 (V3 m ρ) c 1 t) (iblk1 (V3 m ρ) c 2 t) (iblk1 (V3 m ρ) c 3 t) (iblk1 (V3 m ρ) c 4 t) r' j).trans ?_
  exact congrArg (· * qscale) (block_rope _ _ _ _ (col25 m c) r r' b j (fun d => in1_2 m ρ c t r' d r hr) (fun d => in1_3 m ρ c t r' d r hr)
    (fun d => in1_4 m ρ c t r' d r hr) (fun j => prod1 m ρ c t r' j r b hr hb))

/-- The array of window 6 after the call, at an element. -/
theorem arr1_6 (r : Fin 8704) (x : Fin 2048) :
    W4 m ρ c (Proc.devRef .tc main_v37_1) (ix2 x r) = ropeR (col25 m c) cosT sinT (ix2 r x) * qscale := by
  have hr := r.isLt
  have hx := x.isLt
  let t : Fin cfg1.N := ⟨2 * (r.val / 512) + x.val / 1024, by show _ < 34; omega⟩
  have ht : t.val = 2 * (r.val / 512) + x.val / 1024 := rfl
  have hd : ∀ t t' : Fin cfg1.N, (cfg1.win 6).flush t = true → (cfg1.win 6).flush t' = true → t ≠ t' →
      Disjoint ((cfg1.win 6).blk t).view.set ((cfg1.win 6).blk t').view.set :=
    fun t t' _ _ hne => (cfg1.win 6).disjoint_blk fun h => hne (inj1_6 t t' h)
  have e1 : W4 m ρ c (Proc.devRef .tc main_v37_1) (ix2 x r) = (dat1 (V3 m ρ) c).arrAt 6 cfg1.N (ix2 x r) :=
    congrFun (W4_arr m ρ c 6) (ix2 x r)
  have ex : (⟨1024 * (x.val / 1024) + x.val % 1024, by omega⟩ : Fin 2048) = x := Fin.ext (by show 1024 * (x.val / 1024) + x.val % 1024 = x.val; omega)
  rw [e1]
  have e2 := left1_6 m ρ c t ⟨r.val % 512, Nat.mod_lt _ (by decide)⟩ ⟨x.val % 1024, Nat.mod_lt _ (by decide)⟩ r ⟨x.val / 1024, by omega⟩
    (by rw [ht]; show r.val = 512 * ((2 * (r.val / 512) + x.val / 1024) / 2) + r.val % 512; omega)
    (by rw [ht]; show x.val / 1024 = _; omega)
  rw [← ex]
  refine Eq.trans ?_ e2
  rw [ex]
  refine Eq.trans ?_ (congrFun ((dat1 (V3 m ρ) c).read_blk_arrAt_eq_flushed 6 hd cfg1.N t t.isLt (flush1_6 t))
    (ix2 ⟨x.val % 1024, Nat.mod_lt _ (by decide)⟩ ⟨r.val % 512, Nat.mod_lt _ (by decide)⟩))
  rw [View.read_apply]
  congr 1
  funext p
  refine Fin.ext ?_
  obtain ⟨g0, g1⟩ := coords1 t
  obtain ⟨h0, h1⟩ := tr1_6 (grid1.coords t)
  match p with
  | ⟨0, _⟩ =>
    show x.val = cc1_transform_6 (grid1.coords t) 0 * 1024 + 1 * (x.val % 1024)
    rw [h0, g1, ht]
    omega
  | ⟨1, _⟩ =>
    show r.val = cc1_transform_6 (grid1.coords t) 1 * 512 + 1 * (r.val % 512)
    rw [h1, g0, ht]
    omega

end Cert.Proj

end
-- ==== Proof.Heads.R2.lean ====
/- The first keys: the arrays that call 2 leaves, element by element. -/
module

public import proofs.«01_k».proof.Proof.Heads.Entry

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

variable (m : (ℓ : Loc nD τ sig) → Buf (Elt Ideal) ℓ) (ρ : Dev nD → PrngReg) (c : Dev nD)

/-- A grid point is a block of rows and a block of columns. -/
theorem coords2 : ∀ t : Fin grid2.N, (grid2.coords t 0).val = t.val / 2 ∧ (grid2.coords t 1).val = t.val % 2 := by decide +kernel
/-- The rows that a point reads. -/
theorem tr2_0 : ∀ i : grid2.Coords, cc2_transform_0 i 0 = (i 0).val ∧ cc2_transform_0 i 1 = 0 := by decide +kernel
/-- The columns of the weights that a point reads. -/
theorem tr2_1 : ∀ i : grid2.Coords, cc2_transform_1 i 0 = 0 ∧ cc2_transform_1 i 1 = 2 + (i 1).val := by decide +kernel
/-- The rows of a table that a point reads. -/
theorem tr2_2 : ∀ i : grid2.Coords, cc2_transform_2 i 0 = (i 0).val ∧ cc2_transform_2 i 1 = 0 := by decide +kernel
/-- The rows of a table that a point reads. -/
theorem tr2_3 : ∀ i : grid2.Coords, cc2_transform_3 i 0 = (i 0).val ∧ cc2_transform_3 i 1 = 0 := by decide +kernel
/-- The rows of a table that a point reads. -/
theorem tr2_4 : ∀ i : grid2.Coords, cc2_transform_4 i 0 = (i 0).val ∧ cc2_transform_4 i 1 = 0 := by decide +kernel
/-- The block that a point writes. -/
theorem tr2_5 : ∀ i : grid2.Coords, cc2_transform_5 i 0 = (i 0).val ∧ cc2_transform_5 i 1 = (i 1).val := by decide +kernel
/-- No two points write the same block. -/
theorem inj2_5 : ∀ t t' : Fin cfg2.N, win2_5.index t = win2_5.index t' → t = t' :=
  (by decide +kernel : ∀ t t' : Fin grid2.N, win2_5.index t = win2_5.index t' → t = t')
/-- The block that a point writes. -/
theorem tr2_6 : ∀ i : grid2.Coords, cc2_transform_6 i 0 = (i 0).val ∧ cc2_transform_6 i 1 = (i 1).val := by decide +kernel
/-- No two points write the same block. -/
theorem inj2_6 : ∀ t t' : Fin cfg2.N, win2_6.index t = win2_6.index t' → t = t' :=
  (by decide +kernel : ∀ t t' : Fin grid2.N, win2_6.index t = win2_6.index t' → t = t')

/-- An element of a point's block of rows. -/
theorem in2_0 (t : Fin cfg2.N) (r' : Fin 512) (k : Fin 4096) (r : Fin 8704) (hr : r.val = 512 * (t.val / 2) + r'.val) :
    iblk2 (V4 m ρ) c 0 t (ix2 r' k) = hOf m c r k := by
  refine Eq.trans ?_ (W4_h m ρ c r k)
  unfold iblk2
  rw [View.read_apply]
  show W4 m ρ c (Proc.devRef .tc main_v34) _ = _
  congr 1
  funext p
  refine Fin.ext ?_
  obtain ⟨g0, g1⟩ := coords2 t
  obtain ⟨h0, h1⟩ := tr2_0 (grid2.coords t)
  match p with
  | ⟨0, _⟩ =>
    show cc2_transform_0 (grid2.coords t) 0 * 512 + 1 * r'.val = r.val
    omega
  | ⟨1, _⟩ =>
    show cc2_transform_0 (grid2.coords t) 1 * 4096 + 1 * k.val = k.val
    omega

/-- An element of a point's block of weights. -/
theorem in2_1 (t : Fin cfg2.N) (k : Fin 4096) (j : Fin 1024) (x : Fin 12288) (hx : x.val = 2048 + (1024 * (t.val % 2) + j.val)) :
    iblk2 (V4 m ρ) c 1 t (ix2 k j) = m ((c : Thread nD τ).loc main_arg4) (ix3 0 k x) := by
  refine Eq.trans ?_ (W4_w m ρ c k x)
  unfold iblk2
  rw [View.read_apply]
  show W4 m ρ c (Proc.devRef .tc main_v36) _ = _
  congr 1
  funext p
  refine Fin.ext ?_
  obtain ⟨g0, g1⟩ := coords2 t
  obtain ⟨h0, h1⟩ := tr2_1 (grid2.coords t)
  match p with
  | ⟨0, _⟩ =>
    show cc2_transform_1 (grid2.coords t) 0 * 4096 + 1 * k.val = k.val
    omega
  | ⟨1, _⟩ =>
    show cc2_transform_1 (grid2.coords t) 1 * 1024 + 1 * j.val = x.val
    omega

/-- An element of a point's block of a table. -/
theorem in2_2 (t : Fin cfg2.N) (r' : Fin 512) (d : Fin 128) (r : Fin 8704) (hr : r.val = 512 * (t.val / 2) + r'.val) :
    iblk2 (V4 m ρ) c 2 t (ix2 r' d) = tabC r d := by
  refine Eq.trans ?_ (W4_c m ρ c r d)
  unfold iblk2
  rw [View.read_apply]
  show W4 m ρ c (Proc.devRef .tc main_v28) _ = _
  congr 1
  funext p
  refine Fin.ext ?_
  obtain ⟨g0, g1⟩ := coords2 t
  obtain ⟨h0, h1⟩ := tr2_2 (grid2.coords t)
  match p with
  | ⟨0, _⟩ =>
    show cc2_transform_2 (grid2.coords t) 0 * 512 + 1 * r'.val = r.val
    omega
  | ⟨1, _⟩ =>
    show cc2_transform_2 (grid2.coords t) 1 * 128 + 1 * d.val = d.val
    omega

/-- An element of a point's block of a table. -/
theorem in2_3 (t : Fin cfg2.N) (r' : Fin 512) (d : Fin 128) (r : Fin 8704) (hr : r.val = 512 * (t.val / 2) + r'.val) :
    iblk2 (V4 m ρ) c 3 t (ix2 r' d) = tabA r d := by
  refine Eq.trans ?_ (W4_a m ρ c r d)
  unfold iblk2
  rw [View.read_apply]
  show W4 m ρ c (Proc.devRef .tc main_v30) _ = _
  congr 1
  funext p
  refine Fin.ext ?_
  obtain ⟨g0, g1⟩ := coords2 t
  obtain ⟨h0, h1⟩ := tr2_3 (grid2.coords t)
  match p with
  | ⟨0, _⟩ =>
    show cc2_transform_3 (grid2.coords t) 0 * 512 + 1 * r'.val = r.val
    omega
  | ⟨1, _⟩ =>
    show cc2_transform_3 (grid2.coords t) 1 * 128 + 1 * d.val = d.val
    omega

/-- An element of a point's block of a table. -/
theorem in2_4 (t : Fin cfg2.N) (r' : Fin 512) (d : Fin 128) (r : Fin 8704) (hr : r.val = 512 * (t.val / 2) + r'.val) :
    iblk2 (V4 m ρ) c 4 t (ix2 r' d) = tabB r d := by
  refine Eq.trans ?_ (W4_b m ρ c r d)
  unfold iblk2
  rw [View.read_apply]
  show W4 m ρ c (Proc.devRef .tc main_v31) _ = _
  congr 1
  funext p
  refine Fin.ext ?_
  obtain ⟨g0, g1⟩ := coords2 t
  obtain ⟨h0, h1⟩ := tr2_4 (grid2.coords t)
  match p with
  | ⟨0, _⟩ =>
    show cc2_transform_4 (grid2.coords t) 0 * 512 + 1 * r'.val = r.val
    omega
  | ⟨1, _⟩ =>
    show cc2_transform_4 (grid2.coords t) 1 * 128 + 1 * d.val = d.val
    omega

/-- A point's product, at an element. -/
theorem prod2 (t : Fin cfg2.N) (r' : Fin 512) (j : Fin 1024) (r : Fin 8704) (b : Fin 2) (hr : r.val = 512 * (t.val / 2) + r'.val)
    (hb : b.val = t.val % 2) :
    mm (iblk2 (V4 m ρ) c 0 t) (iblk2 (V4 m ρ) c 1 t) (ix2 r' j) = col26 m c (ix2 r ⟨1024 * b.val + j.val, by omega⟩) := by
  refine Eq.trans ?_ (v26_at _ _ _ _ _ r ⟨1024 * b.val + j.val, by omega⟩).symm
  refine block_mm _ _ _ _ _ _ _ r r' j _ (fun k => in2_0 m ρ c t r' k r hr) (fun k => in2_1 m ρ c t k j _ ?_)
  show 2048 + (1024 * b.val + j.val) = _
  omega

/-- What a point leaves in window 5, at an element. -/
theorem left2_5 (t : Fin cfg2.N) (r' : Fin 512) (j : Fin 1024) (r : Fin 8704) (b : Fin 2) (hr : r.val = 512 * (t.val / 2) + r'.val)
    (hb : b.val = t.val % 2) :
    (dat2 (V4 m ρ) c).flushed 5 t (ix2 r' j) = ropeR (col26 m c) cosT sinT (ix2 r ⟨1024 * b.val + j.val, by omega⟩) := by
  refine (congrFun (after2_5 (V4 m ρ) c t) (ix2 r' j)).trans ?_
  refine (out2_5_at (iblk2 (V4 m ρ) c 0 t) (iblk2 (V4 m ρ) c 1 t) (iblk2 (V4 m ρ) c 2 t) (iblk2 (V4 m ρ) c 3 t) (iblk2 (V4 m ρ) c 4 t) r' j).trans ?_
  exact block_rope _ _ _ _ (col26 m c) r r' b j (fun d => in2_2 m ρ c t r' d r hr) (fun d => in2_3 m ρ c t r' d r hr)
    (fun d => in2_4 m ρ c t r' d r hr) (fun j => prod2 m ρ c t r' j r b hr hb)

/-- The array of window 5 after the call, at an element. -/
theorem arr2_5 (r : Fin 8704) (x : Fin 2048) :
    W5 m ρ c (Proc.devRef .tc main_v38_0) (ix2 r x) = ropeR (col26 m c) cosT sinT (ix2 r x) := by
  have hr := r.isLt
  have hx := x.isLt
  let t : Fin cfg2.N := ⟨2 * (r.val / 512) + x.val / 1024, by show _ < 34; omega⟩
  have ht : t.val = 2 * (r.val / 512) + x.val / 1024 := rfl
  have hd : ∀ t t' : Fin cfg2.N, (cfg2.win 5).flush t = true → (cfg2.win 5).flush t' = true → t ≠ t' →
      Disjoint ((cfg2.win 5).blk t).view.set ((cfg2.win 5).blk t').view.set :=
    fun t t' _ _ hne => (cfg2.win 5).disjoint_blk fun h => hne (inj2_5 t t' h)
  have e1 : W5 m ρ c (Proc.devRef .tc main_v38_0) (ix2 r x) = (dat2 (V4 m ρ) c).arrAt 5 cfg2.N (ix2 r x) :=
    congrFun (W5_arr m ρ c 5) (ix2 r x)
  have ex : (⟨1024 * (x.val / 1024) + x.val % 1024, by omega⟩ : Fin 2048) = x := Fin.ext (by show 1024 * (x.val / 1024) + x.val % 1024 = x.val; omega)
  rw [e1]
  have e2 := left2_5 m ρ c t ⟨r.val % 512, Nat.mod_lt _ (by decide)⟩ ⟨x.val % 1024, Nat.mod_lt _ (by decide)⟩ r ⟨x.val / 1024, by omega⟩
    (by rw [ht]; show r.val = 512 * ((2 * (r.val / 512) + x.val / 1024) / 2) + r.val % 512; omega)
    (by rw [ht]; show x.val / 1024 = _; omega)
  rw [← ex]
  refine Eq.trans ?_ e2
  rw [ex]
  refine Eq.trans ?_ (congrFun ((dat2 (V4 m ρ) c).read_blk_arrAt_eq_flushed 5 hd cfg2.N t t.isLt (flush2_5 t))
    (ix2 ⟨r.val % 512, Nat.mod_lt _ (by decide)⟩ ⟨x.val % 1024, Nat.mod_lt _ (by decide)⟩))
  rw [View.read_apply]
  congr 1
  funext p
  refine Fin.ext ?_
  obtain ⟨g0, g1⟩ := coords2 t
  obtain ⟨h0, h1⟩ := tr2_5 (grid2.coords t)
  match p with
  | ⟨0, _⟩ =>
    show r.val = cc2_transform_5 (grid2.coords t) 0 * 512 + 1 * (r.val % 512)
    rw [h0, g0, ht]
    omega
  | ⟨1, _⟩ =>
    show x.val = cc2_transform_5 (grid2.coords t) 1 * 1024 + 1 * (x.val % 1024)
    rw [h1, g1, ht]
    omega

/-- What a point leaves in window 6, at an element. -/
theorem left2_6 (t : Fin cfg2.N) (r' : Fin 512) (j : Fin 1024) (r : Fin 8704) (b : Fin 2) (hr : r.val = 512 * (t.val / 2) + r'.val)
    (hb : b.val = t.val % 2) :
    (dat2 (V4 m ρ) c).flushed 6 t (ix2 r' j) = ropeR (col26 m c) cosT sinT (ix2 r ⟨1024 * b.val + j.val, by omega⟩) := by
  refine (congrFun (after2_6 (V4 m ρ) c t) (ix2 r' j)).trans ?_
  refine (out2_6_at (iblk2 (V4 m ρ) c 0 t) (iblk2 (V4 m ρ) c 1 t) (iblk2 (V4 m ρ) c 2 t) (iblk2 (V4 m ρ) c 3 t) (iblk2 (V4 m ρ) c 4 t) r' j).trans ?_
  exact block_rope _ _ _ _ (col26 m c) r r' b j (fun d => in2_2 m ρ c t r' d r hr) (fun d => in2_3 m ρ c t r' d r hr)
    (fun d => in2_4 m ρ c t r' d r hr) (fun j => prod2 m ρ c t r' j r b hr hb)

/-- The array of window 6 after the call, at an element. -/
theorem arr2_6 (r : Fin 8704) (x : Fin 2048) :
    W5 m ρ c (Proc.devRef .tc main_v38_1) (ix2 r x) = ropeR (col26 m c) cosT sinT (ix2 r x) := by
  have hr := r.isLt
  have hx := x.isLt
  let t : Fin cfg2.N := ⟨2 * (r.val / 512) + x.val / 1024, by show _ < 34; omega⟩
  have ht : t.val = 2 * (r.val / 512) + x.val / 1024 := rfl
  have hd : ∀ t t' : Fin cfg2.N, (cfg2.win 6).flush t = true → (cfg2.win 6).flush t' = true → t ≠ t' →
      Disjoint ((cfg2.win 6).blk t).view.set ((cfg2.win 6).blk t').view.set :=
    fun t t' _ _ hne => (cfg2.win 6).disjoint_blk fun h => hne (inj2_6 t t' h)
  have e1 : W5 m ρ c (Proc.devRef .tc main_v38_1) (ix2 r x) = (dat2 (V4 m ρ) c).arrAt 6 cfg2.N (ix2 r x) :=
    congrFun (W5_arr m ρ c 6) (ix2 r x)
  have ex : (⟨1024 * (x.val / 1024) + x.val % 1024, by omega⟩ : Fin 2048) = x := Fin.ext (by show 1024 * (x.val / 1024) + x.val % 1024 = x.val; omega)
  rw [e1]
  have e2 := left2_6 m ρ c t ⟨r.val % 512, Nat.mod_lt _ (by decide)⟩ ⟨x.val % 1024, Nat.mod_lt _ (by decide)⟩ r ⟨x.val / 1024, by omega⟩
    (by rw [ht]; show r.val = 512 * ((2 * (r.val / 512) + x.val / 1024) / 2) + r.val % 512; omega)
    (by rw [ht]; show x.val / 1024 = _; omega)
  rw [← ex]
  refine Eq.trans ?_ e2
  rw [ex]
  refine Eq.trans ?_ (congrFun ((dat2 (V4 m ρ) c).read_blk_arrAt_eq_flushed 6 hd cfg2.N t t.isLt (flush2_6 t))
    (ix2 ⟨r.val % 512, Nat.mod_lt _ (by decide)⟩ ⟨x.val % 1024, Nat.mod_lt _ (by decide)⟩))
  rw [View.read_apply]
  congr 1
  funext p
  refine Fin.ext ?_
  obtain ⟨g0, g1⟩ := coords2 t
  obtain ⟨h0, h1⟩ := tr2_6 (grid2.coords t)
  match p with
  | ⟨0, _⟩ =>
    show r.val = cc2_transform_6 (grid2.coords t) 0 * 512 + 1 * (r.val % 512)
    rw [h0, g0, ht]
    omega
  | ⟨1, _⟩ =>
    show x.val = cc2_transform_6 (grid2.coords t) 1 * 1024 + 1 * (x.val % 1024)
    rw [h1, g1, ht]
    omega

end Cert.Proj

end
-- ==== Proof.Heads.R3.lean ====
/- The first values: the arrays that call 3 leaves, element by element. -/
module

public import proofs.«01_k».proof.Proof.Heads.Entry

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

variable (m : (ℓ : Loc nD τ sig) → Buf (Elt Ideal) ℓ) (ρ : Dev nD → PrngReg) (c : Dev nD)

/-- A grid point is a block of rows and a block of columns. -/
theorem coords3 : ∀ t : Fin grid3.N, (grid3.coords t 0).val = t.val / 2 ∧ (grid3.coords t 1).val = t.val % 2 := by decide +kernel
/-- The rows that a point reads. -/
theorem tr3_0 : ∀ i : grid3.Coords, cc3_transform_0 i 0 = (i 0).val ∧ cc3_transform_0 i 1 = 0 := by decide +kernel
/-- The columns of the weights that a point reads. -/
theorem tr3_1 : ∀ i : grid3.Coords, cc3_transform_1 i 0 = 0 ∧ cc3_transform_1 i 1 = 4 + (i 1).val := by decide +kernel
/-- The block that a point writes. -/
theorem tr3_2 : ∀ i : grid3.Coords, cc3_transform_2 i 0 = (i 0).val ∧ cc3_transform_2 i 1 = (i 1).val := by decide +kernel
/-- No two points write the same block. -/
theorem inj3_2 : ∀ t t' : Fin cfg3.N, win3_2.index t = win3_2.index t' → t = t' :=
  (by decide +kernel : ∀ t t' : Fin grid3.N, win3_2.index t = win3_2.index t' → t = t')
/-- The block that a point writes. -/
theorem tr3_3 : ∀ i : grid3.Coords, cc3_transform_3 i 0 = (i 1).val ∧ cc3_transform_3 i 1 = (i 0).val := by decide +kernel
/-- No two points write the same block. -/
theorem inj3_3 : ∀ t t' : Fin cfg3.N, win3_3.index t = win3_3.index t' → t = t' :=
  (by decide +kernel : ∀ t t' : Fin grid3.N, win3_3.index t = win3_3.index t' → t = t')

/-- An element of a point's block of rows. -/
theorem in3_0 (t : Fin cfg3.N) (r' : Fin 512) (k : Fin 4096) (r : Fin 8704) (hr : r.val = 512 * (t.val / 2) + r'.val) :
    iblk3 (V5 m ρ) c 0 t (ix2 r' k) = hOf m c r k := by
  refine Eq.trans ?_ (W5_h m ρ c r k)
  unfold iblk3
  rw [View.read_apply]
  show W5 m ρ c (Proc.devRef .tc main_v34) _ = _
  congr 1
  funext p
  refine Fin.ext ?_
  obtain ⟨g0, g1⟩ := coords3 t
  obtain ⟨h0, h1⟩ := tr3_0 (grid3.coords t)
  match p with
  | ⟨0, _⟩ =>
    show cc3_transform_0 (grid3.coords t) 0 * 512 + 1 * r'.val = r.val
    omega
  | ⟨1, _⟩ =>
    show cc3_transform_0 (grid3.coords t) 1 * 4096 + 1 * k.val = k.val
    omega

/-- An element of a point's block of weights. -/
theorem in3_1 (t : Fin cfg3.N) (k : Fin 4096) (j : Fin 1024) (x : Fin 12288) (hx : x.val = 4096 + (1024 * (t.val % 2) + j.val)) :
    iblk3 (V5 m ρ) c 1 t (ix2 k j) = m ((c : Thread nD τ).loc main_arg4) (ix3 0 k x) := by
  refine Eq.trans ?_ (W5_w m ρ c k x)
  unfold iblk3
  rw [View.read_apply]
  show W5 m ρ c (Proc.devRef .tc main_v36) _ = _
  congr 1
  funext p
  refine Fin.ext ?_
  obtain ⟨g0, g1⟩ := coords3 t
  obtain ⟨h0, h1⟩ := tr3_1 (grid3.coords t)
  match p with
  | ⟨0, _⟩ =>
    show cc3_transform_1 (grid3.coords t) 0 * 4096 + 1 * k.val = k.val
    omega
  | ⟨1, _⟩ =>
    show cc3_transform_1 (grid3.coords t) 1 * 1024 + 1 * j.val = x.val
    omega

/-- A point's product, at an element. -/
theorem prod3 (t : Fin cfg3.N) (r' : Fin 512) (j : Fin 1024) (r : Fin 8704) (b : Fin 2) (hr : r.val = 512 * (t.val / 2) + r'.val)
    (hb : b.val = t.val % 2) :
    mm (iblk3 (V5 m ρ) c 0 t) (iblk3 (V5 m ρ) c 1 t) (ix2 r' j) = col27 m c (ix2 r ⟨1024 * b.val + j.val, by omega⟩) := by
  refine Eq.trans ?_ (v27_at _ _ _ _ _ r ⟨1024 * b.val + j.val, by omega⟩).symm
  refine block_mm _ _ _ _ _ _ _ r r' j _ (fun k => in3_0 m ρ c t r' k r hr) (fun k => in3_1 m ρ c t k j _ ?_)
  show 4096 + (1024 * b.val + j.val) = _
  omega

/-- What a point leaves in window 2, at an element. -/
theorem left3_2 (t : Fin cfg3.N) (r' : Fin 512) (j : Fin 1024) (r : Fin 8704) (b : Fin 2) (hr : r.val = 512 * (t.val / 2) + r'.val)
    (hb : b.val = t.val % 2) :
    (dat3 (V5 m ρ) c).flushed 2 t (ix2 r' j) = col27 m c (ix2 r ⟨1024 * b.val + j.val, by omega⟩) := by
  refine (congrFun (after3_2 (V5 m ρ) c t) (ix2 r' j)).trans ?_
  refine (out3_2_at (iblk3 (V5 m ρ) c 0 t) (iblk3 (V5 m ρ) c 1 t) r' j).trans ?_
  exact prod3 m ρ c t r' j r b hr hb

/-- The array of window 2 after the call, at an element. -/
theorem arr3_2 (r : Fin 8704) (x : Fin 2048) :
    W6 m ρ c (Proc.devRef .tc main_v39_0) (ix2 r x) = col27 m c (ix2 r x) := by
  have hr := r.isLt
  have hx := x.isLt
  let t : Fin cfg3.N := ⟨2 * (r.val / 512) + x.val / 1024, by show _ < 34; omega⟩
  have ht : t.val = 2 * (r.val / 512) + x.val / 1024 := rfl
  have hd : ∀ t t' : Fin cfg3.N, (cfg3.win 2).flush t = true → (cfg3.win 2).flush t' = true → t ≠ t' →
      Disjoint ((cfg3.win 2).blk t).view.set ((cfg3.win 2).blk t').view.set :=
    fun t t' _ _ hne => (cfg3.win 2).disjoint_blk fun h => hne (inj3_2 t t' h)
  have e1 : W6 m ρ c (Proc.devRef .tc main_v39_0) (ix2 r x) = (dat3 (V5 m ρ) c).arrAt 2 cfg3.N (ix2 r x) :=
    congrFun (W6_arr m ρ c 2) (ix2 r x)
  have ex : (⟨1024 * (x.val / 1024) + x.val % 1024, by omega⟩ : Fin 2048) = x := Fin.ext (by show 1024 * (x.val / 1024) + x.val % 1024 = x.val; omega)
  rw [e1]
  have e2 := left3_2 m ρ c t ⟨r.val % 512, Nat.mod_lt _ (by decide)⟩ ⟨x.val % 1024, Nat.mod_lt _ (by decide)⟩ r ⟨x.val / 1024, by omega⟩
    (by rw [ht]; show r.val = 512 * ((2 * (r.val / 512) + x.val / 1024) / 2) + r.val % 512; omega)
    (by rw [ht]; show x.val / 1024 = _; omega)
  rw [← ex]
  refine Eq.trans ?_ e2
  rw [ex]
  refine Eq.trans ?_ (congrFun ((dat3 (V5 m ρ) c).read_blk_arrAt_eq_flushed 2 hd cfg3.N t t.isLt (flush3_2 t))
    (ix2 ⟨r.val % 512, Nat.mod_lt _ (by decide)⟩ ⟨x.val % 1024, Nat.mod_lt _ (by decide)⟩))
  rw [View.read_apply]
  congr 1
  funext p
  refine Fin.ext ?_
  obtain ⟨g0, g1⟩ := coords3 t
  obtain ⟨h0, h1⟩ := tr3_2 (grid3.coords t)
  match p with
  | ⟨0, _⟩ =>
    show r.val = cc3_transform_2 (grid3.coords t) 0 * 512 + 1 * (r.val % 512)
    rw [h0, g0, ht]
    omega
  | ⟨1, _⟩ =>
    show x.val = cc3_transform_2 (grid3.coords t) 1 * 1024 + 1 * (x.val % 1024)
    rw [h1, g1, ht]
    omega

/-- What a point leaves in window 3, at an element. -/
theorem left3_3 (t : Fin cfg3.N) (r' : Fin 512) (j : Fin 1024) (r : Fin 8704) (b : Fin 2) (hr : r.val = 512 * (t.val / 2) + r'.val)
    (hb : b.val = t.val % 2) :
    (dat3 (V5 m ρ) c).flushed 3 t (ix2 j r') = col27 m c (ix2 r ⟨1024 * b.val + j.val, by omega⟩) := by
  refine (congrFun (after3_3 (V5 m ρ) c t) (ix2 j r')).trans ?_
  refine (out3_3_at (iblk3 (V5 m ρ) c 0 t) (iblk3 (V5 m ρ) c 1 t) r' j).trans ?_
  exact prod3 m ρ c t r' j r b hr hb

/-- The array of window 3 after the call, at an element. -/
theorem arr3_3 (r : Fin 8704) (x : Fin 2048) :
    W6 m ρ c (Proc.devRef .tc main_v39_1) (ix2 x r) = col27 m c (ix2 r x) := by
  have hr := r.isLt
  have hx := x.isLt
  let t : Fin cfg3.N := ⟨2 * (r.val / 512) + x.val / 1024, by show _ < 34; omega⟩
  have ht : t.val = 2 * (r.val / 512) + x.val / 1024 := rfl
  have hd : ∀ t t' : Fin cfg3.N, (cfg3.win 3).flush t = true → (cfg3.win 3).flush t' = true → t ≠ t' →
      Disjoint ((cfg3.win 3).blk t).view.set ((cfg3.win 3).blk t').view.set :=
    fun t t' _ _ hne => (cfg3.win 3).disjoint_blk fun h => hne (inj3_3 t t' h)
  have e1 : W6 m ρ c (Proc.devRef .tc main_v39_1) (ix2 x r) = (dat3 (V5 m ρ) c).arrAt 3 cfg3.N (ix2 x r) :=
    congrFun (W6_arr m ρ c 3) (ix2 x r)
  have ex : (⟨1024 * (x.val / 1024) + x.val % 1024, by omega⟩ : Fin 2048) = x := Fin.ext (by show 1024 * (x.val / 1024) + x.val % 1024 = x.val; omega)
  rw [e1]
  have e2 := left3_3 m ρ c t ⟨r.val % 512, Nat.mod_lt _ (by decide)⟩ ⟨x.val % 1024, Nat.mod_lt _ (by decide)⟩ r ⟨x.val / 1024, by omega⟩
    (by rw [ht]; show r.val = 512 * ((2 * (r.val / 512) + x.val / 1024) / 2) + r.val % 512; omega)
    (by rw [ht]; show x.val / 1024 = _; omega)
  rw [← ex]
  refine Eq.trans ?_ e2
  rw [ex]
  refine Eq.trans ?_ (congrFun ((dat3 (V5 m ρ) c).read_blk_arrAt_eq_flushed 3 hd cfg3.N t t.isLt (flush3_3 t))
    (ix2 ⟨x.val % 1024, Nat.mod_lt _ (by decide)⟩ ⟨r.val % 512, Nat.mod_lt _ (by decide)⟩))
  rw [View.read_apply]
  congr 1
  funext p
  refine Fin.ext ?_
  obtain ⟨g0, g1⟩ := coords3 t
  obtain ⟨h0, h1⟩ := tr3_3 (grid3.coords t)
  match p with
  | ⟨0, _⟩ =>
    show x.val = cc3_transform_3 (grid3.coords t) 0 * 1024 + 1 * (x.val % 1024)
    rw [h0, g1, ht]
    omega
  | ⟨1, _⟩ =>
    show r.val = cc3_transform_3 (grid3.coords t) 1 * 512 + 1 * (r.val % 512)
    rw [h1, g0, ht]
    omega

end Cert.Proj

end
-- ==== Proof.Heads.R4.lean ====
/- The second queries: the arrays that call 4 leaves, element by element. -/
module

public import proofs.«01_k».proof.Proof.Heads.Entry

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

variable (m : (ℓ : Loc nD τ sig) → Buf (Elt Ideal) ℓ) (ρ : Dev nD → PrngReg) (c : Dev nD)

/-- A grid point is a block of rows and a block of columns. -/
theorem coords4 : ∀ t : Fin grid4.N, (grid4.coords t 0).val = t.val / 2 ∧ (grid4.coords t 1).val = t.val % 2 := by decide +kernel
/-- The rows that a point reads. -/
theorem tr4_0 : ∀ i : grid4.Coords, cc4_transform_0 i 0 = (i 0).val ∧ cc4_transform_0 i 1 = 0 := by decide +kernel
/-- The columns of the weights that a point reads. -/
theorem tr4_1 : ∀ i : grid4.Coords, cc4_transform_1 i 0 = 0 ∧ cc4_transform_1 i 1 = 6 + (i 1).val := by decide +kernel
/-- The rows of a table that a point reads. -/
theorem tr4_2 : ∀ i : grid4.Coords, cc4_transform_2 i 0 = (i 0).val ∧ cc4_transform_2 i 1 = 0 := by decide +kernel
/-- The rows of a table that a point reads. -/
theorem tr4_3 : ∀ i : grid4.Coords, cc4_transform_3 i 0 = (i 0).val ∧ cc4_transform_3 i 1 = 0 := by decide +kernel
/-- The rows of a table that a point reads. -/
theorem tr4_4 : ∀ i : grid4.Coords, cc4_transform_4 i 0 = (i 0).val ∧ cc4_transform_4 i 1 = 0 := by decide +kernel
/-- The block that a point writes. -/
theorem tr4_5 : ∀ i : grid4.Coords, cc4_transform_5 i 0 = (i 0).val ∧ cc4_transform_5 i 1 = (i 1).val := by decide +kernel
/-- No two points write the same block. -/
theorem inj4_5 : ∀ t t' : Fin cfg4.N, win4_5.index t = win4_5.index t' → t = t' :=
  (by decide +kernel : ∀ t t' : Fin grid4.N, win4_5.index t = win4_5.index t' → t = t')
/-- The block that a point writes. -/
theorem tr4_6 : ∀ i : grid4.Coords, cc4_transform_6 i 0 = (i 1).val ∧ cc4_transform_6 i 1 = (i 0).val := by decide +kernel
/-- No two points write the same block. -/
theorem inj4_6 : ∀ t t' : Fin cfg4.N, win4_6.index t = win4_6.index t' → t = t' :=
  (by decide +kernel : ∀ t t' : Fin grid4.N, win4_6.index t = win4_6.index t' → t = t')

/-- An element of a point's block of rows. -/
theorem in4_0 (t : Fin cfg4.N) (r' : Fin 512) (k : Fin 4096) (r : Fin 8704) (hr : r.val = 512 * (t.val / 2) + r'.val) :
    iblk4 (V6 m ρ) c 0 t (ix2 r' k) = hOf m c r k := by
  refine Eq.trans ?_ (W6_h m ρ c r k)
  unfold iblk4
  rw [View.read_apply]
  show W6 m ρ c (Proc.devRef .tc main_v34) _ = _
  congr 1
  funext p
  refine Fin.ext ?_
  obtain ⟨g0, g1⟩ := coords4 t
  obtain ⟨h0, h1⟩ := tr4_0 (grid4.coords t)
  match p with
  | ⟨0, _⟩ =>
    show cc4_transform_0 (grid4.coords t) 0 * 512 + 1 * r'.val = r.val
    omega
  | ⟨1, _⟩ =>
    show cc4_transform_0 (grid4.coords t) 1 * 4096 + 1 * k.val = k.val
    omega

/-- An element of a point's block of weights. -/
theorem in4_1 (t : Fin cfg4.N) (k : Fin 4096) (j : Fin 1024) (x : Fin 12288) (hx : x.val = 6144 + (1024 * (t.val % 2) + j.val)) :
    iblk4 (V6 m ρ) c 1 t (ix2 k j) = m ((c : Thread nD τ).loc main_arg4) (ix3 0 k x) := by
  refine Eq.trans ?_ (W6_w m ρ c k x)
  unfold iblk4
  rw [View.read_apply]
  show W6 m ρ c (Proc.devRef .tc main_v36) _ = _
  congr 1
  funext p
  refine Fin.ext ?_
  obtain ⟨g0, g1⟩ := coords4 t
  obtain ⟨h0, h1⟩ := tr4_1 (grid4.coords t)
  match p with
  | ⟨0, _⟩ =>
    show cc4_transform_1 (grid4.coords t) 0 * 4096 + 1 * k.val = k.val
    omega
  | ⟨1, _⟩ =>
    show cc4_transform_1 (grid4.coords t) 1 * 1024 + 1 * j.val = x.val
    omega

/-- An element of a point's block of a table. -/
theorem in4_2 (t : Fin cfg4.N) (r' : Fin 512) (d : Fin 128) (r : Fin 8704) (hr : r.val = 512 * (t.val / 2) + r'.val) :
    iblk4 (V6 m ρ) c 2 t (ix2 r' d) = tabC r d := by
  refine Eq.trans ?_ (W6_c m ρ c r d)
  unfold iblk4
  rw [View.read_apply]
  show W6 m ρ c (Proc.devRef .tc main_v28) _ = _
  congr 1
  funext p
  refine Fin.ext ?_
  obtain ⟨g0, g1⟩ := coords4 t
  obtain ⟨h0, h1⟩ := tr4_2 (grid4.coords t)
  match p with
  | ⟨0, _⟩ =>
    show cc4_transform_2 (grid4.coords t) 0 * 512 + 1 * r'.val = r.val
    omega
  | ⟨1, _⟩ =>
    show cc4_transform_2 (grid4.coords t) 1 * 128 + 1 * d.val = d.val
    omega

/-- An element of a point's block of a table. -/
theorem in4_3 (t : Fin cfg4.N) (r' : Fin 512) (d : Fin 128) (r : Fin 8704) (hr : r.val = 512 * (t.val / 2) + r'.val) :
    iblk4 (V6 m ρ) c 3 t (ix2 r' d) = tabA r d := by
  refine Eq.trans ?_ (W6_a m ρ c r d)
  unfold iblk4
  rw [View.read_apply]
  show W6 m ρ c (Proc.devRef .tc main_v30) _ = _
  congr 1
  funext p
  refine Fin.ext ?_
  obtain ⟨g0, g1⟩ := coords4 t
  obtain ⟨h0, h1⟩ := tr4_3 (grid4.coords t)
  match p with
  | ⟨0, _⟩ =>
    show cc4_transform_3 (grid4.coords t) 0 * 512 + 1 * r'.val = r.val
    omega
  | ⟨1, _⟩ =>
    show cc4_transform_3 (grid4.coords t) 1 * 128 + 1 * d.val = d.val
    omega

/-- An element of a point's block of a table. -/
theorem in4_4 (t : Fin cfg4.N) (r' : Fin 512) (d : Fin 128) (r : Fin 8704) (hr : r.val = 512 * (t.val / 2) + r'.val) :
    iblk4 (V6 m ρ) c 4 t (ix2 r' d) = tabB r d := by
  refine Eq.trans ?_ (W6_b m ρ c r d)
  unfold iblk4
  rw [View.read_apply]
  show W6 m ρ c (Proc.devRef .tc main_v31) _ = _
  congr 1
  funext p
  refine Fin.ext ?_
  obtain ⟨g0, g1⟩ := coords4 t
  obtain ⟨h0, h1⟩ := tr4_4 (grid4.coords t)
  match p with
  | ⟨0, _⟩ =>
    show cc4_transform_4 (grid4.coords t) 0 * 512 + 1 * r'.val = r.val
    omega
  | ⟨1, _⟩ =>
    show cc4_transform_4 (grid4.coords t) 1 * 128 + 1 * d.val = d.val
    omega

/-- A point's product, at an element. -/
theorem prod4 (t : Fin cfg4.N) (r' : Fin 512) (j : Fin 1024) (r : Fin 8704) (b : Fin 2) (hr : r.val = 512 * (t.val / 2) + r'.val)
    (hb : b.val = t.val % 2) :
    mm (iblk4 (V6 m ρ) c 0 t) (iblk4 (V6 m ρ) c 1 t) (ix2 r' j) = col28 m c (ix2 r ⟨1024 * b.val + j.val, by omega⟩) := by
  refine Eq.trans ?_ (v28_at _ _ _ _ _ r ⟨1024 * b.val + j.val, by omega⟩).symm
  refine block_mm _ _ _ _ _ _ _ r r' j _ (fun k => in4_0 m ρ c t r' k r hr) (fun k => in4_1 m ρ c t k j _ ?_)
  show 6144 + (1024 * b.val + j.val) = _
  omega

/-- What a point leaves in window 5, at an element. -/
theorem left4_5 (t : Fin cfg4.N) (r' : Fin 512) (j : Fin 1024) (r : Fin 8704) (b : Fin 2) (hr : r.val = 512 * (t.val / 2) + r'.val)
    (hb : b.val = t.val % 2) :
    (dat4 (V6 m ρ) c).flushed 5 t (ix2 r' j) = ropeR (col28 m c) cosT sinT (ix2 r ⟨1024 * b.val + j.val, by omega⟩) * qscale := by
  refine (congrFun (after4_5 (V6 m ρ) c t) (ix2 r' j)).trans ?_
  refine (out4_5_at (iblk4 (V6 m ρ) c 0 t) (iblk4 (V6 m ρ) c 1 t) (iblk4 (V6 m ρ) c 2 t) (iblk4 (V6 m ρ) c 3 t) (iblk4 (V6 m ρ) c 4 t) r' j).trans ?_
  exact congrArg (· * qscale) (block_rope _ _ _ _ (col28 m c) r r' b j (fun d => in4_2 m ρ c t r' d r hr) (fun d => in4_3 m ρ c t r' d r hr)
    (fun d => in4_4 m ρ c t r' d r hr) (fun j => prod4 m ρ c t r' j r b hr hb))

/-- The array of window 5 after the call, at an element. -/
theorem arr4_5 (r : Fin 8704) (x : Fin 2048) :
    W7 m ρ c (Proc.devRef .tc main_v40_0) (ix2 r x) = ropeR (col28 m c) cosT sinT (ix2 r x) * qscale := by
  have hr := r.isLt
  have hx := x.isLt
  let t : Fin cfg4.N := ⟨2 * (r.val / 512) + x.val / 1024, by show _ < 34; omega⟩
  have ht : t.val = 2 * (r.val / 512) + x.val / 1024 := rfl
  have hd : ∀ t t' : Fin cfg4.N, (cfg4.win 5).flush t = true → (cfg4.win 5).flush t' = true → t ≠ t' →
      Disjoint ((cfg4.win 5).blk t).view.set ((cfg4.win 5).blk t').view.set :=
    fun t t' _ _ hne => (cfg4.win 5).disjoint_blk fun h => hne (inj4_5 t t' h)
  have e1 : W7 m ρ c (Proc.devRef .tc main_v40_0) (ix2 r x) = (dat4 (V6 m ρ) c).arrAt 5 cfg4.N (ix2 r x) :=
    congrFun (W7_arr m ρ c 5) (ix2 r x)
  have ex : (⟨1024 * (x.val / 1024) + x.val % 1024, by omega⟩ : Fin 2048) = x := Fin.ext (by show 1024 * (x.val / 1024) + x.val % 1024 = x.val; omega)
  rw [e1]
  have e2 := left4_5 m ρ c t ⟨r.val % 512, Nat.mod_lt _ (by decide)⟩ ⟨x.val % 1024, Nat.mod_lt _ (by decide)⟩ r ⟨x.val / 1024, by omega⟩
    (by rw [ht]; show r.val = 512 * ((2 * (r.val / 512) + x.val / 1024) / 2) + r.val % 512; omega)
    (by rw [ht]; show x.val / 1024 = _; omega)
  rw [← ex]
  refine Eq.trans ?_ e2
  rw [ex]
  refine Eq.trans ?_ (congrFun ((dat4 (V6 m ρ) c).read_blk_arrAt_eq_flushed 5 hd cfg4.N t t.isLt (flush4_5 t))
    (ix2 ⟨r.val % 512, Nat.mod_lt _ (by decide)⟩ ⟨x.val % 1024, Nat.mod_lt _ (by decide)⟩))
  rw [View.read_apply]
  congr 1
  funext p
  refine Fin.ext ?_
  obtain ⟨g0, g1⟩ := coords4 t
  obtain ⟨h0, h1⟩ := tr4_5 (grid4.coords t)
  match p with
  | ⟨0, _⟩ =>
    show r.val = cc4_transform_5 (grid4.coords t) 0 * 512 + 1 * (r.val % 512)
    rw [h0, g0, ht]
    omega
  | ⟨1, _⟩ =>
    show x.val = cc4_transform_5 (grid4.coords t) 1 * 1024 + 1 * (x.val % 1024)
    rw [h1, g1, ht]
    omega

/-- What a point leaves in window 6, at an element. -/
theorem left4_6 (t : Fin cfg4.N) (r' : Fin 512) (j : Fin 1024) (r : Fin 8704) (b : Fin 2) (hr : r.val = 512 * (t.val / 2) + r'.val)
    (hb : b.val = t.val % 2) :
    (dat4 (V6 m ρ) c).flushed 6 t (ix2 j r') = ropeR (col28 m c) cosT sinT (ix2 r ⟨1024 * b.val + j.val, by omega⟩) * qscale := by
  refine (congrFun (after4_6 (V6 m ρ) c t) (ix2 j r')).trans ?_
  refine (out4_6_at (iblk4 (V6 m ρ) c 0 t) (iblk4 (V6 m ρ) c 1 t) (iblk4 (V6 m ρ) c 2 t) (iblk4 (V6 m ρ) c 3 t) (iblk4 (V6 m ρ) c 4 t) r' j).trans ?_
  exact congrArg (· * qscale) (block_rope _ _ _ _ (col28 m c) r r' b j (fun d => in4_2 m ρ c t r' d r hr) (fun d => in4_3 m ρ c t r' d r hr)
    (fun d => in4_4 m ρ c t r' d r hr) (fun j => prod4 m ρ c t r' j r b hr hb))

/-- The array of window 6 after the call, at an element. -/
theorem arr4_6 (r : Fin 8704) (x : Fin 2048) :
    W7 m ρ c (Proc.devRef .tc main_v40_1) (ix2 x r) = ropeR (col28 m c) cosT sinT (ix2 r x) * qscale := by
  have hr := r.isLt
  have hx := x.isLt
  let t : Fin cfg4.N := ⟨2 * (r.val / 512) + x.val / 1024, by show _ < 34; omega⟩
  have ht : t.val = 2 * (r.val / 512) + x.val / 1024 := rfl
  have hd : ∀ t t' : Fin cfg4.N, (cfg4.win 6).flush t = true → (cfg4.win 6).flush t' = true → t ≠ t' →
      Disjoint ((cfg4.win 6).blk t).view.set ((cfg4.win 6).blk t').view.set :=
    fun t t' _ _ hne => (cfg4.win 6).disjoint_blk fun h => hne (inj4_6 t t' h)
  have e1 : W7 m ρ c (Proc.devRef .tc main_v40_1) (ix2 x r) = (dat4 (V6 m ρ) c).arrAt 6 cfg4.N (ix2 x r) :=
    congrFun (W7_arr m ρ c 6) (ix2 x r)
  have ex : (⟨1024 * (x.val / 1024) + x.val % 1024, by omega⟩ : Fin 2048) = x := Fin.ext (by show 1024 * (x.val / 1024) + x.val % 1024 = x.val; omega)
  rw [e1]
  have e2 := left4_6 m ρ c t ⟨r.val % 512, Nat.mod_lt _ (by decide)⟩ ⟨x.val % 1024, Nat.mod_lt _ (by decide)⟩ r ⟨x.val / 1024, by omega⟩
    (by rw [ht]; show r.val = 512 * ((2 * (r.val / 512) + x.val / 1024) / 2) + r.val % 512; omega)
    (by rw [ht]; show x.val / 1024 = _; omega)
  rw [← ex]
  refine Eq.trans ?_ e2
  rw [ex]
  refine Eq.trans ?_ (congrFun ((dat4 (V6 m ρ) c).read_blk_arrAt_eq_flushed 6 hd cfg4.N t t.isLt (flush4_6 t))
    (ix2 ⟨x.val % 1024, Nat.mod_lt _ (by decide)⟩ ⟨r.val % 512, Nat.mod_lt _ (by decide)⟩))
  rw [View.read_apply]
  congr 1
  funext p
  refine Fin.ext ?_
  obtain ⟨g0, g1⟩ := coords4 t
  obtain ⟨h0, h1⟩ := tr4_6 (grid4.coords t)
  match p with
  | ⟨0, _⟩ =>
    show x.val = cc4_transform_6 (grid4.coords t) 0 * 1024 + 1 * (x.val % 1024)
    rw [h0, g1, ht]
    omega
  | ⟨1, _⟩ =>
    show r.val = cc4_transform_6 (grid4.coords t) 1 * 512 + 1 * (r.val % 512)
    rw [h1, g0, ht]
    omega

end Cert.Proj

end
-- ==== Proof.Heads.R5.lean ====
/- The second keys: the arrays that call 5 leaves, element by element. -/
module

public import proofs.«01_k».proof.Proof.Heads.Entry

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

variable (m : (ℓ : Loc nD τ sig) → Buf (Elt Ideal) ℓ) (ρ : Dev nD → PrngReg) (c : Dev nD)

/-- A grid point is a block of rows and a block of columns. -/
theorem coords5 : ∀ t : Fin grid5.N, (grid5.coords t 0).val = t.val / 2 ∧ (grid5.coords t 1).val = t.val % 2 := by decide +kernel
/-- The rows that a point reads. -/
theorem tr5_0 : ∀ i : grid5.Coords, cc5_transform_0 i 0 = (i 0).val ∧ cc5_transform_0 i 1 = 0 := by decide +kernel
/-- The columns of the weights that a point reads. -/
theorem tr5_1 : ∀ i : grid5.Coords, cc5_transform_1 i 0 = 0 ∧ cc5_transform_1 i 1 = 8 + (i 1).val := by decide +kernel
/-- The rows of a table that a point reads. -/
theorem tr5_2 : ∀ i : grid5.Coords, cc5_transform_2 i 0 = (i 0).val ∧ cc5_transform_2 i 1 = 0 := by decide +kernel
/-- The rows of a table that a point reads. -/
theorem tr5_3 : ∀ i : grid5.Coords, cc5_transform_3 i 0 = (i 0).val ∧ cc5_transform_3 i 1 = 0 := by decide +kernel
/-- The rows of a table that a point reads. -/
theorem tr5_4 : ∀ i : grid5.Coords, cc5_transform_4 i 0 = (i 0).val ∧ cc5_transform_4 i 1 = 0 := by decide +kernel
/-- The block that a point writes. -/
theorem tr5_5 : ∀ i : grid5.Coords, cc5_transform_5 i 0 = (i 0).val ∧ cc5_transform_5 i 1 = (i 1).val := by decide +kernel
/-- No two points write the same block. -/
theorem inj5_5 : ∀ t t' : Fin cfg5.N, win5_5.index t = win5_5.index t' → t = t' :=
  (by decide +kernel : ∀ t t' : Fin grid5.N, win5_5.index t = win5_5.index t' → t = t')
/-- The block that a point writes. -/
theorem tr5_6 : ∀ i : grid5.Coords, cc5_transform_6 i 0 = (i 0).val ∧ cc5_transform_6 i 1 = (i 1).val := by decide +kernel
/-- No two points write the same block. -/
theorem inj5_6 : ∀ t t' : Fin cfg5.N, win5_6.index t = win5_6.index t' → t = t' :=
  (by decide +kernel : ∀ t t' : Fin grid5.N, win5_6.index t = win5_6.index t' → t = t')

/-- An element of a point's block of rows. -/
theorem in5_0 (t : Fin cfg5.N) (r' : Fin 512) (k : Fin 4096) (r : Fin 8704) (hr : r.val = 512 * (t.val / 2) + r'.val) :
    iblk5 (V7 m ρ) c 0 t (ix2 r' k) = hOf m c r k := by
  refine Eq.trans ?_ (W7_h m ρ c r k)
  unfold iblk5
  rw [View.read_apply]
  show W7 m ρ c (Proc.devRef .tc main_v34) _ = _
  congr 1
  funext p
  refine Fin.ext ?_
  obtain ⟨g0, g1⟩ := coords5 t
  obtain ⟨h0, h1⟩ := tr5_0 (grid5.coords t)
  match p with
  | ⟨0, _⟩ =>
    show cc5_transform_0 (grid5.coords t) 0 * 512 + 1 * r'.val = r.val
    omega
  | ⟨1, _⟩ =>
    show cc5_transform_0 (grid5.coords t) 1 * 4096 + 1 * k.val = k.val
    omega

/-- An element of a point's block of weights. -/
theorem in5_1 (t : Fin cfg5.N) (k : Fin 4096) (j : Fin 1024) (x : Fin 12288) (hx : x.val = 8192 + (1024 * (t.val % 2) + j.val)) :
    iblk5 (V7 m ρ) c 1 t (ix2 k j) = m ((c : Thread nD τ).loc main_arg4) (ix3 0 k x) := by
  refine Eq.trans ?_ (W7_w m ρ c k x)
  unfold iblk5
  rw [View.read_apply]
  show W7 m ρ c (Proc.devRef .tc main_v36) _ = _
  congr 1
  funext p
  refine Fin.ext ?_
  obtain ⟨g0, g1⟩ := coords5 t
  obtain ⟨h0, h1⟩ := tr5_1 (grid5.coords t)
  match p with
  | ⟨0, _⟩ =>
    show cc5_transform_1 (grid5.coords t) 0 * 4096 + 1 * k.val = k.val
    omega
  | ⟨1, _⟩ =>
    show cc5_transform_1 (grid5.coords t) 1 * 1024 + 1 * j.val = x.val
    omega

/-- An element of a point's block of a table. -/
theorem in5_2 (t : Fin cfg5.N) (r' : Fin 512) (d : Fin 128) (r : Fin 8704) (hr : r.val = 512 * (t.val / 2) + r'.val) :
    iblk5 (V7 m ρ) c 2 t (ix2 r' d) = tabC r d := by
  refine Eq.trans ?_ (W7_c m ρ c r d)
  unfold iblk5
  rw [View.read_apply]
  show W7 m ρ c (Proc.devRef .tc main_v28) _ = _
  congr 1
  funext p
  refine Fin.ext ?_
  obtain ⟨g0, g1⟩ := coords5 t
  obtain ⟨h0, h1⟩ := tr5_2 (grid5.coords t)
  match p with
  | ⟨0, _⟩ =>
    show cc5_transform_2 (grid5.coords t) 0 * 512 + 1 * r'.val = r.val
    omega
  | ⟨1, _⟩ =>
    show cc5_transform_2 (grid5.coords t) 1 * 128 + 1 * d.val = d.val
    omega

/-- An element of a point's block of a table. -/
theorem in5_3 (t : Fin cfg5.N) (r' : Fin 512) (d : Fin 128) (r : Fin 8704) (hr : r.val = 512 * (t.val / 2) + r'.val) :
    iblk5 (V7 m ρ) c 3 t (ix2 r' d) = tabA r d := by
  refine Eq.trans ?_ (W7_a m ρ c r d)
  unfold iblk5
  rw [View.read_apply]
  show W7 m ρ c (Proc.devRef .tc main_v30) _ = _
  congr 1
  funext p
  refine Fin.ext ?_
  obtain ⟨g0, g1⟩ := coords5 t
  obtain ⟨h0, h1⟩ := tr5_3 (grid5.coords t)
  match p with
  | ⟨0, _⟩ =>
    show cc5_transform_3 (grid5.coords t) 0 * 512 + 1 * r'.val = r.val
    omega
  | ⟨1, _⟩ =>
    show cc5_transform_3 (grid5.coords t) 1 * 128 + 1 * d.val = d.val
    omega

/-- An element of a point's block of a table. -/
theorem in5_4 (t : Fin cfg5.N) (r' : Fin 512) (d : Fin 128) (r : Fin 8704) (hr : r.val = 512 * (t.val / 2) + r'.val) :
    iblk5 (V7 m ρ) c 4 t (ix2 r' d) = tabB r d := by
  refine Eq.trans ?_ (W7_b m ρ c r d)
  unfold iblk5
  rw [View.read_apply]
  show W7 m ρ c (Proc.devRef .tc main_v31) _ = _
  congr 1
  funext p
  refine Fin.ext ?_
  obtain ⟨g0, g1⟩ := coords5 t
  obtain ⟨h0, h1⟩ := tr5_4 (grid5.coords t)
  match p with
  | ⟨0, _⟩ =>
    show cc5_transform_4 (grid5.coords t) 0 * 512 + 1 * r'.val = r.val
    omega
  | ⟨1, _⟩ =>
    show cc5_transform_4 (grid5.coords t) 1 * 128 + 1 * d.val = d.val
    omega

/-- A point's product, at an element. -/
theorem prod5 (t : Fin cfg5.N) (r' : Fin 512) (j : Fin 1024) (r : Fin 8704) (b : Fin 2) (hr : r.val = 512 * (t.val / 2) + r'.val)
    (hb : b.val = t.val % 2) :
    mm (iblk5 (V7 m ρ) c 0 t) (iblk5 (V7 m ρ) c 1 t) (ix2 r' j) = col29 m c (ix2 r ⟨1024 * b.val + j.val, by omega⟩) := by
  refine Eq.trans ?_ (v29_at _ _ _ _ _ r ⟨1024 * b.val + j.val, by omega⟩).symm
  refine block_mm _ _ _ _ _ _ _ r r' j _ (fun k => in5_0 m ρ c t r' k r hr) (fun k => in5_1 m ρ c t k j _ ?_)
  show 8192 + (1024 * b.val + j.val) = _
  omega

/-- What a point leaves in window 5, at an element. -/
theorem left5_5 (t : Fin cfg5.N) (r' : Fin 512) (j : Fin 1024) (r : Fin 8704) (b : Fin 2) (hr : r.val = 512 * (t.val / 2) + r'.val)
    (hb : b.val = t.val % 2) :
    (dat5 (V7 m ρ) c).flushed 5 t (ix2 r' j) = ropeR (col29 m c) cosT sinT (ix2 r ⟨1024 * b.val + j.val, by omega⟩) := by
  refine (congrFun (after5_5 (V7 m ρ) c t) (ix2 r' j)).trans ?_
  refine (out5_5_at (iblk5 (V7 m ρ) c 0 t) (iblk5 (V7 m ρ) c 1 t) (iblk5 (V7 m ρ) c 2 t) (iblk5 (V7 m ρ) c 3 t) (iblk5 (V7 m ρ) c 4 t) r' j).trans ?_
  exact block_rope _ _ _ _ (col29 m c) r r' b j (fun d => in5_2 m ρ c t r' d r hr) (fun d => in5_3 m ρ c t r' d r hr)
    (fun d => in5_4 m ρ c t r' d r hr) (fun j => prod5 m ρ c t r' j r b hr hb)

/-- The array of window 5 after the call, at an element. -/
theorem arr5_5 (r : Fin 8704) (x : Fin 2048) :
    W8 m ρ c (Proc.devRef .tc main_v41_0) (ix2 r x) = ropeR (col29 m c) cosT sinT (ix2 r x) := by
  have hr := r.isLt
  have hx := x.isLt
  let t : Fin cfg5.N := ⟨2 * (r.val / 512) + x.val / 1024, by show _ < 34; omega⟩
  have ht : t.val = 2 * (r.val / 512) + x.val / 1024 := rfl
  have hd : ∀ t t' : Fin cfg5.N, (cfg5.win 5).flush t = true → (cfg5.win 5).flush t' = true → t ≠ t' →
      Disjoint ((cfg5.win 5).blk t).view.set ((cfg5.win 5).blk t').view.set :=
    fun t t' _ _ hne => (cfg5.win 5).disjoint_blk fun h => hne (inj5_5 t t' h)
  have e1 : W8 m ρ c (Proc.devRef .tc main_v41_0) (ix2 r x) = (dat5 (V7 m ρ) c).arrAt 5 cfg5.N (ix2 r x) :=
    congrFun (W8_arr m ρ c 5) (ix2 r x)
  have ex : (⟨1024 * (x.val / 1024) + x.val % 1024, by omega⟩ : Fin 2048) = x := Fin.ext (by show 1024 * (x.val / 1024) + x.val % 1024 = x.val; omega)
  rw [e1]
  have e2 := left5_5 m ρ c t ⟨r.val % 512, Nat.mod_lt _ (by decide)⟩ ⟨x.val % 1024, Nat.mod_lt _ (by decide)⟩ r ⟨x.val / 1024, by omega⟩
    (by rw [ht]; show r.val = 512 * ((2 * (r.val / 512) + x.val / 1024) / 2) + r.val % 512; omega)
    (by rw [ht]; show x.val / 1024 = _; omega)
  rw [← ex]
  refine Eq.trans ?_ e2
  rw [ex]
  refine Eq.trans ?_ (congrFun ((dat5 (V7 m ρ) c).read_blk_arrAt_eq_flushed 5 hd cfg5.N t t.isLt (flush5_5 t))
    (ix2 ⟨r.val % 512, Nat.mod_lt _ (by decide)⟩ ⟨x.val % 1024, Nat.mod_lt _ (by decide)⟩))
  rw [View.read_apply]
  congr 1
  funext p
  refine Fin.ext ?_
  obtain ⟨g0, g1⟩ := coords5 t
  obtain ⟨h0, h1⟩ := tr5_5 (grid5.coords t)
  match p with
  | ⟨0, _⟩ =>
    show r.val = cc5_transform_5 (grid5.coords t) 0 * 512 + 1 * (r.val % 512)
    rw [h0, g0, ht]
    omega
  | ⟨1, _⟩ =>
    show x.val = cc5_transform_5 (grid5.coords t) 1 * 1024 + 1 * (x.val % 1024)
    rw [h1, g1, ht]
    omega

/-- What a point leaves in window 6, at an element. -/
theorem left5_6 (t : Fin cfg5.N) (r' : Fin 512) (j : Fin 1024) (r : Fin 8704) (b : Fin 2) (hr : r.val = 512 * (t.val / 2) + r'.val)
    (hb : b.val = t.val % 2) :
    (dat5 (V7 m ρ) c).flushed 6 t (ix2 r' j) = ropeR (col29 m c) cosT sinT (ix2 r ⟨1024 * b.val + j.val, by omega⟩) := by
  refine (congrFun (after5_6 (V7 m ρ) c t) (ix2 r' j)).trans ?_
  refine (out5_6_at (iblk5 (V7 m ρ) c 0 t) (iblk5 (V7 m ρ) c 1 t) (iblk5 (V7 m ρ) c 2 t) (iblk5 (V7 m ρ) c 3 t) (iblk5 (V7 m ρ) c 4 t) r' j).trans ?_
  exact block_rope _ _ _ _ (col29 m c) r r' b j (fun d => in5_2 m ρ c t r' d r hr) (fun d => in5_3 m ρ c t r' d r hr)
    (fun d => in5_4 m ρ c t r' d r hr) (fun j => prod5 m ρ c t r' j r b hr hb)

/-- The array of window 6 after the call, at an element. -/
theorem arr5_6 (r : Fin 8704) (x : Fin 2048) :
    W8 m ρ c (Proc.devRef .tc main_v41_1) (ix2 r x) = ropeR (col29 m c) cosT sinT (ix2 r x) := by
  have hr := r.isLt
  have hx := x.isLt
  let t : Fin cfg5.N := ⟨2 * (r.val / 512) + x.val / 1024, by show _ < 34; omega⟩
  have ht : t.val = 2 * (r.val / 512) + x.val / 1024 := rfl
  have hd : ∀ t t' : Fin cfg5.N, (cfg5.win 6).flush t = true → (cfg5.win 6).flush t' = true → t ≠ t' →
      Disjoint ((cfg5.win 6).blk t).view.set ((cfg5.win 6).blk t').view.set :=
    fun t t' _ _ hne => (cfg5.win 6).disjoint_blk fun h => hne (inj5_6 t t' h)
  have e1 : W8 m ρ c (Proc.devRef .tc main_v41_1) (ix2 r x) = (dat5 (V7 m ρ) c).arrAt 6 cfg5.N (ix2 r x) :=
    congrFun (W8_arr m ρ c 6) (ix2 r x)
  have ex : (⟨1024 * (x.val / 1024) + x.val % 1024, by omega⟩ : Fin 2048) = x := Fin.ext (by show 1024 * (x.val / 1024) + x.val % 1024 = x.val; omega)
  rw [e1]
  have e2 := left5_6 m ρ c t ⟨r.val % 512, Nat.mod_lt _ (by decide)⟩ ⟨x.val % 1024, Nat.mod_lt _ (by decide)⟩ r ⟨x.val / 1024, by omega⟩
    (by rw [ht]; show r.val = 512 * ((2 * (r.val / 512) + x.val / 1024) / 2) + r.val % 512; omega)
    (by rw [ht]; show x.val / 1024 = _; omega)
  rw [← ex]
  refine Eq.trans ?_ e2
  rw [ex]
  refine Eq.trans ?_ (congrFun ((dat5 (V7 m ρ) c).read_blk_arrAt_eq_flushed 6 hd cfg5.N t t.isLt (flush5_6 t))
    (ix2 ⟨r.val % 512, Nat.mod_lt _ (by decide)⟩ ⟨x.val % 1024, Nat.mod_lt _ (by decide)⟩))
  rw [View.read_apply]
  congr 1
  funext p
  refine Fin.ext ?_
  obtain ⟨g0, g1⟩ := coords5 t
  obtain ⟨h0, h1⟩ := tr5_6 (grid5.coords t)
  match p with
  | ⟨0, _⟩ =>
    show r.val = cc5_transform_6 (grid5.coords t) 0 * 512 + 1 * (r.val % 512)
    rw [h0, g0, ht]
    omega
  | ⟨1, _⟩ =>
    show x.val = cc5_transform_6 (grid5.coords t) 1 * 1024 + 1 * (x.val % 1024)
    rw [h1, g1, ht]
    omega

end Cert.Proj

end
-- ==== Proof.Heads.R6.lean ====
/- The second values: the arrays that call 6 leaves, element by element. -/
module

public import proofs.«01_k».proof.Proof.Heads.Entry

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

variable (m : (ℓ : Loc nD τ sig) → Buf (Elt Ideal) ℓ) (ρ : Dev nD → PrngReg) (c : Dev nD)

/-- A grid point is a block of rows and a block of columns. -/
theorem coords6 : ∀ t : Fin grid6.N, (grid6.coords t 0).val = t.val / 2 ∧ (grid6.coords t 1).val = t.val % 2 := by decide +kernel
/-- The rows that a point reads. -/
theorem tr6_0 : ∀ i : grid6.Coords, cc6_transform_0 i 0 = (i 0).val ∧ cc6_transform_0 i 1 = 0 := by decide +kernel
/-- The columns of the weights that a point reads. -/
theorem tr6_1 : ∀ i : grid6.Coords, cc6_transform_1 i 0 = 0 ∧ cc6_transform_1 i 1 = 10 + (i 1).val := by decide +kernel
/-- The block that a point writes. -/
theorem tr6_2 : ∀ i : grid6.Coords, cc6_transform_2 i 0 = (i 0).val ∧ cc6_transform_2 i 1 = (i 1).val := by decide +kernel
/-- No two points write the same block. -/
theorem inj6_2 : ∀ t t' : Fin cfg6.N, win6_2.index t = win6_2.index t' → t = t' :=
  (by decide +kernel : ∀ t t' : Fin grid6.N, win6_2.index t = win6_2.index t' → t = t')
/-- The block that a point writes. -/
theorem tr6_3 : ∀ i : grid6.Coords, cc6_transform_3 i 0 = (i 1).val ∧ cc6_transform_3 i 1 = (i 0).val := by decide +kernel
/-- No two points write the same block. -/
theorem inj6_3 : ∀ t t' : Fin cfg6.N, win6_3.index t = win6_3.index t' → t = t' :=
  (by decide +kernel : ∀ t t' : Fin grid6.N, win6_3.index t = win6_3.index t' → t = t')

/-- An element of a point's block of rows. -/
theorem in6_0 (t : Fin cfg6.N) (r' : Fin 512) (k : Fin 4096) (r : Fin 8704) (hr : r.val = 512 * (t.val / 2) + r'.val) :
    iblk6 (V8 m ρ) c 0 t (ix2 r' k) = hOf m c r k := by
  refine Eq.trans ?_ (W8_h m ρ c r k)
  unfold iblk6
  rw [View.read_apply]
  show W8 m ρ c (Proc.devRef .tc main_v34) _ = _
  congr 1
  funext p
  refine Fin.ext ?_
  obtain ⟨g0, g1⟩ := coords6 t
  obtain ⟨h0, h1⟩ := tr6_0 (grid6.coords t)
  match p with
  | ⟨0, _⟩ =>
    show cc6_transform_0 (grid6.coords t) 0 * 512 + 1 * r'.val = r.val
    omega
  | ⟨1, _⟩ =>
    show cc6_transform_0 (grid6.coords t) 1 * 4096 + 1 * k.val = k.val
    omega

/-- An element of a point's block of weights. -/
theorem in6_1 (t : Fin cfg6.N) (k : Fin 4096) (j : Fin 1024) (x : Fin 12288) (hx : x.val = 10240 + (1024 * (t.val % 2) + j.val)) :
    iblk6 (V8 m ρ) c 1 t (ix2 k j) = m ((c : Thread nD τ).loc main_arg4) (ix3 0 k x) := by
  refine Eq.trans ?_ (W8_w m ρ c k x)
  unfold iblk6
  rw [View.read_apply]
  show W8 m ρ c (Proc.devRef .tc main_v36) _ = _
  congr 1
  funext p
  refine Fin.ext ?_
  obtain ⟨g0, g1⟩ := coords6 t
  obtain ⟨h0, h1⟩ := tr6_1 (grid6.coords t)
  match p with
  | ⟨0, _⟩ =>
    show cc6_transform_1 (grid6.coords t) 0 * 4096 + 1 * k.val = k.val
    omega
  | ⟨1, _⟩ =>
    show cc6_transform_1 (grid6.coords t) 1 * 1024 + 1 * j.val = x.val
    omega

/-- A point's product, at an element. -/
theorem prod6 (t : Fin cfg6.N) (r' : Fin 512) (j : Fin 1024) (r : Fin 8704) (b : Fin 2) (hr : r.val = 512 * (t.val / 2) + r'.val)
    (hb : b.val = t.val % 2) :
    mm (iblk6 (V8 m ρ) c 0 t) (iblk6 (V8 m ρ) c 1 t) (ix2 r' j) = col30 m c (ix2 r ⟨1024 * b.val + j.val, by omega⟩) := by
  refine Eq.trans ?_ (v30_at _ _ _ _ _ r ⟨1024 * b.val + j.val, by omega⟩).symm
  refine block_mm _ _ _ _ _ _ _ r r' j _ (fun k => in6_0 m ρ c t r' k r hr) (fun k => in6_1 m ρ c t k j _ ?_)
  show 10240 + (1024 * b.val + j.val) = _
  omega

/-- What a point leaves in window 2, at an element. -/
theorem left6_2 (t : Fin cfg6.N) (r' : Fin 512) (j : Fin 1024) (r : Fin 8704) (b : Fin 2) (hr : r.val = 512 * (t.val / 2) + r'.val)
    (hb : b.val = t.val % 2) :
    (dat6 (V8 m ρ) c).flushed 2 t (ix2 r' j) = col30 m c (ix2 r ⟨1024 * b.val + j.val, by omega⟩) := by
  refine (congrFun (after6_2 (V8 m ρ) c t) (ix2 r' j)).trans ?_
  refine (out6_2_at (iblk6 (V8 m ρ) c 0 t) (iblk6 (V8 m ρ) c 1 t) r' j).trans ?_
  exact prod6 m ρ c t r' j r b hr hb

/-- The array of window 2 after the call, at an element. -/
theorem arr6_2 (r : Fin 8704) (x : Fin 2048) :
    W9 m ρ c (Proc.devRef .tc main_v42_0) (ix2 r x) = col30 m c (ix2 r x) := by
  have hr := r.isLt
  have hx := x.isLt
  let t : Fin cfg6.N := ⟨2 * (r.val / 512) + x.val / 1024, by show _ < 34; omega⟩
  have ht : t.val = 2 * (r.val / 512) + x.val / 1024 := rfl
  have hd : ∀ t t' : Fin cfg6.N, (cfg6.win 2).flush t = true → (cfg6.win 2).flush t' = true → t ≠ t' →
      Disjoint ((cfg6.win 2).blk t).view.set ((cfg6.win 2).blk t').view.set :=
    fun t t' _ _ hne => (cfg6.win 2).disjoint_blk fun h => hne (inj6_2 t t' h)
  have e1 : W9 m ρ c (Proc.devRef .tc main_v42_0) (ix2 r x) = (dat6 (V8 m ρ) c).arrAt 2 cfg6.N (ix2 r x) :=
    congrFun (W9_arr m ρ c 2) (ix2 r x)
  have ex : (⟨1024 * (x.val / 1024) + x.val % 1024, by omega⟩ : Fin 2048) = x := Fin.ext (by show 1024 * (x.val / 1024) + x.val % 1024 = x.val; omega)
  rw [e1]
  have e2 := left6_2 m ρ c t ⟨r.val % 512, Nat.mod_lt _ (by decide)⟩ ⟨x.val % 1024, Nat.mod_lt _ (by decide)⟩ r ⟨x.val / 1024, by omega⟩
    (by rw [ht]; show r.val = 512 * ((2 * (r.val / 512) + x.val / 1024) / 2) + r.val % 512; omega)
    (by rw [ht]; show x.val / 1024 = _; omega)
  rw [← ex]
  refine Eq.trans ?_ e2
  rw [ex]
  refine Eq.trans ?_ (congrFun ((dat6 (V8 m ρ) c).read_blk_arrAt_eq_flushed 2 hd cfg6.N t t.isLt (flush6_2 t))
    (ix2 ⟨r.val % 512, Nat.mod_lt _ (by decide)⟩ ⟨x.val % 1024, Nat.mod_lt _ (by decide)⟩))
  rw [View.read_apply]
  congr 1
  funext p
  refine Fin.ext ?_
  obtain ⟨g0, g1⟩ := coords6 t
  obtain ⟨h0, h1⟩ := tr6_2 (grid6.coords t)
  match p with
  | ⟨0, _⟩ =>
    show r.val = cc6_transform_2 (grid6.coords t) 0 * 512 + 1 * (r.val % 512)
    rw [h0, g0, ht]
    omega
  | ⟨1, _⟩ =>
    show x.val = cc6_transform_2 (grid6.coords t) 1 * 1024 + 1 * (x.val % 1024)
    rw [h1, g1, ht]
    omega

/-- What a point leaves in window 3, at an element. -/
theorem left6_3 (t : Fin cfg6.N) (r' : Fin 512) (j : Fin 1024) (r : Fin 8704) (b : Fin 2) (hr : r.val = 512 * (t.val / 2) + r'.val)
    (hb : b.val = t.val % 2) :
    (dat6 (V8 m ρ) c).flushed 3 t (ix2 j r') = col30 m c (ix2 r ⟨1024 * b.val + j.val, by omega⟩) := by
  refine (congrFun (after6_3 (V8 m ρ) c t) (ix2 j r')).trans ?_
  refine (out6_3_at (iblk6 (V8 m ρ) c 0 t) (iblk6 (V8 m ρ) c 1 t) r' j).trans ?_
  exact prod6 m ρ c t r' j r b hr hb

/-- The array of window 3 after the call, at an element. -/
theorem arr6_3 (r : Fin 8704) (x : Fin 2048) :
    W9 m ρ c (Proc.devRef .tc main_v42_1) (ix2 x r) = col30 m c (ix2 r x) := by
  have hr := r.isLt
  have hx := x.isLt
  let t : Fin cfg6.N := ⟨2 * (r.val / 512) + x.val / 1024, by show _ < 34; omega⟩
  have ht : t.val = 2 * (r.val / 512) + x.val / 1024 := rfl
  have hd : ∀ t t' : Fin cfg6.N, (cfg6.win 3).flush t = true → (cfg6.win 3).flush t' = true → t ≠ t' →
      Disjoint ((cfg6.win 3).blk t).view.set ((cfg6.win 3).blk t').view.set :=
    fun t t' _ _ hne => (cfg6.win 3).disjoint_blk fun h => hne (inj6_3 t t' h)
  have e1 : W9 m ρ c (Proc.devRef .tc main_v42_1) (ix2 x r) = (dat6 (V8 m ρ) c).arrAt 3 cfg6.N (ix2 x r) :=
    congrFun (W9_arr m ρ c 3) (ix2 x r)
  have ex : (⟨1024 * (x.val / 1024) + x.val % 1024, by omega⟩ : Fin 2048) = x := Fin.ext (by show 1024 * (x.val / 1024) + x.val % 1024 = x.val; omega)
  rw [e1]
  have e2 := left6_3 m ρ c t ⟨r.val % 512, Nat.mod_lt _ (by decide)⟩ ⟨x.val % 1024, Nat.mod_lt _ (by decide)⟩ r ⟨x.val / 1024, by omega⟩
    (by rw [ht]; show r.val = 512 * ((2 * (r.val / 512) + x.val / 1024) / 2) + r.val % 512; omega)
    (by rw [ht]; show x.val / 1024 = _; omega)
  rw [← ex]
  refine Eq.trans ?_ e2
  rw [ex]
  refine Eq.trans ?_ (congrFun ((dat6 (V8 m ρ) c).read_blk_arrAt_eq_flushed 3 hd cfg6.N t t.isLt (flush6_3 t))
    (ix2 ⟨x.val % 1024, Nat.mod_lt _ (by decide)⟩ ⟨r.val % 512, Nat.mod_lt _ (by decide)⟩))
  rw [View.read_apply]
  congr 1
  funext p
  refine Fin.ext ?_
  obtain ⟨g0, g1⟩ := coords6 t
  obtain ⟨h0, h1⟩ := tr6_3 (grid6.coords t)
  match p with
  | ⟨0, _⟩ =>
    show x.val = cc6_transform_3 (grid6.coords t) 0 * 1024 + 1 * (x.val % 1024)
    rw [h0, g1, ht]
    omega
  | ⟨1, _⟩ =>
    show r.val = cc6_transform_3 (grid6.coords t) 1 * 512 + 1 * (r.val % 512)
    rw [h1, g0, ht]
    omega

end Cert.Proj

end
-- ==== Proof.Heads.Results.lean ====
/- Each result of the projections is the reference's. -/
module

public import proofs.«01_k».proof.Proof.Heads.R1
public import proofs.«01_k».proof.Proof.Heads.R2
public import proofs.«01_k».proof.Proof.Heads.R3
public import proofs.«01_k».proof.Proof.Heads.R4
public import proofs.«01_k».proof.Proof.Heads.R5
public import proofs.«01_k».proof.Proof.Heads.R6

@[expose] public section

set_option maxRecDepth 16384

noncomputable section

namespace Cert.Proj

open Cert.HeadsIdeal Cert.HeadsIdeal.Gen Idealize.ShloMosaic Idealize.ShloMosaic.TcCoe Idealize.SL.Sem
open Idealize.ShloMosaic.Tactic
open Finset

variable (m : (ℓ : Loc nD τ sig) → Buf (Elt Ideal) ℓ) (ρ : Dev nD → PrngReg) (c : Dev nD)

section Reference

open Cert.HeadsReferenceIdeal.Read

/-- The reference's result 174, at an element. -/
theorem ref174_at (x0 : FVec Ideal S8192x4096 .f32) (x1 : FVec Ideal S512x4096 .f32) (x2 x3 : FVec Ideal S4096 .f32)
    (x4 : FVec Ideal S1x4096x12288 .f32) (r : Fin 8704) (x : Fin 2048) :
    val_main_v174 (F := Ideal) x0 x1 x2 x3 x4 (ix2 r x) = ropeR (val_main_v25 (F := Ideal) x0 x1 x2 x3 x4) cosT sinT (ix2 r x) * qscale := by
  rw [val_main_v174_apply, val_main_v75_apply, v73_eq, val_main_v74_apply, val_main_cst_6_apply]
  rfl

/-- The kernel's result `main_v37_0` is the reference's. -/
theorem res_main_v37_0 : W9 m ρ c (Proc.devRef .tc main_v37_0) = val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := W4 m ρ c (Proc.devRef .tc main_v37_0)) ?_ ?_
  · exact (W9_of m ρ c main_v37_0 (by decide)).trans <| (W8_of m ρ c main_v37_0 (by decide)).trans <| (W7_of m ρ c main_v37_0 (by decide)).trans <| (W6_of m ρ c main_v37_0 (by decide)).trans <| (W5_of m ρ c main_v37_0 (by decide)).trans <| rfl
  funext i
  obtain ⟨r, x, rfl⟩ : ∃ (r : Fin 8704) (x : Fin 2048), i = ix2 r x :=
    ⟨i 0, i 1, by funext p; match p with | ⟨0, _⟩ => rfl | ⟨1, _⟩ => rfl⟩
  exact (arr1_5 m ρ c r x).trans (ref174_at _ _ _ _ _ r x).symm

/-- The reference's result 176, at an element. -/
theorem ref176_at (x0 : FVec Ideal S8192x4096 .f32) (x1 : FVec Ideal S512x4096 .f32) (x2 x3 : FVec Ideal S4096 .f32)
    (x4 : FVec Ideal S1x4096x12288 .f32) (r : Fin 8704) (x : Fin 2048) :
    val_main_v176 (F := Ideal) x0 x1 x2 x3 x4 (ix2 x r) = ropeR (val_main_v25 (F := Ideal) x0 x1 x2 x3 x4) cosT sinT (ix2 r x) * qscale := by
  have e : idx_main_v175 (ix2 x r) = ix2 r x := by
    funext a; fin_cases a <;> rfl
  rw [val_main_v176_apply, val_main_v175_apply, e, val_main_v75_apply, v73_eq, val_main_v74_apply, val_main_cst_6_apply]
  rfl

/-- The kernel's result `main_v37_1` is the reference's. -/
theorem res_main_v37_1 : W9 m ρ c (Proc.devRef .tc main_v37_1) = val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := W4 m ρ c (Proc.devRef .tc main_v37_1)) ?_ ?_
  · exact (W9_of m ρ c main_v37_1 (by decide)).trans <| (W8_of m ρ c main_v37_1 (by decide)).trans <| (W7_of m ρ c main_v37_1 (by decide)).trans <| (W6_of m ρ c main_v37_1 (by decide)).trans <| (W5_of m ρ c main_v37_1 (by decide)).trans <| rfl
  funext i
  obtain ⟨x, r, rfl⟩ : ∃ (x : Fin 2048) (r : Fin 8704), i = ix2 x r :=
    ⟨i 0, i 1, by funext p; match p with | ⟨0, _⟩ => rfl | ⟨1, _⟩ => rfl⟩
  exact (arr1_6 m ρ c r x).trans (ref176_at _ _ _ _ _ r x).symm

/-- The reference's result 107, at an element. -/
theorem ref107_at (x0 : FVec Ideal S8192x4096 .f32) (x1 : FVec Ideal S512x4096 .f32) (x2 x3 : FVec Ideal S4096 .f32)
    (x4 : FVec Ideal S1x4096x12288 .f32) (r : Fin 8704) (x : Fin 2048) :
    val_main_v107 (F := Ideal) x0 x1 x2 x3 x4 (ix2 r x) = ropeR (val_main_v26 (F := Ideal) x0 x1 x2 x3 x4) cosT sinT (ix2 r x) := by
  rw [v107_eq]

/-- The kernel's result `main_v38_0` is the reference's. -/
theorem res_main_v38_0 : W9 m ρ c (Proc.devRef .tc main_v38_0) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := W5 m ρ c (Proc.devRef .tc main_v38_0)) ?_ ?_
  · exact (W9_of m ρ c main_v38_0 (by decide)).trans <| (W8_of m ρ c main_v38_0 (by decide)).trans <| (W7_of m ρ c main_v38_0 (by decide)).trans <| (W6_of m ρ c main_v38_0 (by decide)).trans <| rfl
  funext i
  obtain ⟨r, x, rfl⟩ : ∃ (r : Fin 8704) (x : Fin 2048), i = ix2 r x :=
    ⟨i 0, i 1, by funext p; match p with | ⟨0, _⟩ => rfl | ⟨1, _⟩ => rfl⟩
  exact (arr2_5 m ρ c r x).trans (ref107_at _ _ _ _ _ r x).symm

/-- The reference's result 177, at an element. -/
theorem ref177_at (x0 : FVec Ideal S8192x4096 .f32) (x1 : FVec Ideal S512x4096 .f32) (x2 x3 : FVec Ideal S4096 .f32)
    (x4 : FVec Ideal S1x4096x12288 .f32) (r : Fin 8704) (x : Fin 2048) :
    val_main_v177 (F := Ideal) x0 x1 x2 x3 x4 (ix2 r x) = ropeR (val_main_v26 (F := Ideal) x0 x1 x2 x3 x4) cosT sinT (ix2 r x) := by
  rw [val_main_v177_apply, v107_eq]
  rfl

/-- The kernel's result `main_v38_1` is the reference's. -/
theorem res_main_v38_1 : W9 m ρ c (Proc.devRef .tc main_v38_1) = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := W5 m ρ c (Proc.devRef .tc main_v38_1)) ?_ ?_
  · exact (W9_of m ρ c main_v38_1 (by decide)).trans <| (W8_of m ρ c main_v38_1 (by decide)).trans <| (W7_of m ρ c main_v38_1 (by decide)).trans <| (W6_of m ρ c main_v38_1 (by decide)).trans <| rfl
  funext i
  obtain ⟨r, x, rfl⟩ : ∃ (r : Fin 8704) (x : Fin 2048), i = ix2 r x :=
    ⟨i 0, i 1, by funext p; match p with | ⟨0, _⟩ => rfl | ⟨1, _⟩ => rfl⟩
  exact (arr2_6 m ρ c r x).trans (ref177_at _ _ _ _ _ r x).symm

/-- The reference's result 27, at an element. -/
theorem ref27_at (x0 : FVec Ideal S8192x4096 .f32) (x1 : FVec Ideal S512x4096 .f32) (x2 x3 : FVec Ideal S4096 .f32)
    (x4 : FVec Ideal S1x4096x12288 .f32) (r : Fin 8704) (x : Fin 2048) :
    val_main_v27 (F := Ideal) x0 x1 x2 x3 x4 (ix2 r x) = val_main_v27 (F := Ideal) x0 x1 x2 x3 x4 (ix2 r x) := by
  rfl

/-- The kernel's result `main_v39_0` is the reference's. -/
theorem res_main_v39_0 : W9 m ρ c (Proc.devRef .tc main_v39_0) = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := W6 m ρ c (Proc.devRef .tc main_v39_0)) ?_ ?_
  · exact (W9_of m ρ c main_v39_0 (by decide)).trans <| (W8_of m ρ c main_v39_0 (by decide)).trans <| (W7_of m ρ c main_v39_0 (by decide)).trans <| rfl
  funext i
  obtain ⟨r, x, rfl⟩ : ∃ (r : Fin 8704) (x : Fin 2048), i = ix2 r x :=
    ⟨i 0, i 1, by funext p; match p with | ⟨0, _⟩ => rfl | ⟨1, _⟩ => rfl⟩
  exact (arr3_2 m ρ c r x).trans (ref27_at _ _ _ _ _ r x).symm

/-- The reference's result 179, at an element. -/
theorem ref179_at (x0 : FVec Ideal S8192x4096 .f32) (x1 : FVec Ideal S512x4096 .f32) (x2 x3 : FVec Ideal S4096 .f32)
    (x4 : FVec Ideal S1x4096x12288 .f32) (r : Fin 8704) (x : Fin 2048) :
    val_main_v179 (F := Ideal) x0 x1 x2 x3 x4 (ix2 x r) = val_main_v27 (F := Ideal) x0 x1 x2 x3 x4 (ix2 r x) := by
  have e : idx_main_v178 (ix2 x r) = ix2 r x := by
    funext a; fin_cases a <;> rfl
  rw [val_main_v179_apply, val_main_v178_apply, e]
  rfl

/-- The kernel's result `main_v39_1` is the reference's. -/
theorem res_main_v39_1 : W9 m ρ c (Proc.devRef .tc main_v39_1) = val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := W6 m ρ c (Proc.devRef .tc main_v39_1)) ?_ ?_
  · exact (W9_of m ρ c main_v39_1 (by decide)).trans <| (W8_of m ρ c main_v39_1 (by decide)).trans <| (W7_of m ρ c main_v39_1 (by decide)).trans <| rfl
  funext i
  obtain ⟨x, r, rfl⟩ : ∃ (x : Fin 2048) (r : Fin 8704), i = ix2 x r :=
    ⟨i 0, i 1, by funext p; match p with | ⟨0, _⟩ => rfl | ⟨1, _⟩ => rfl⟩
  exact (arr3_3 m ρ c r x).trans (ref179_at _ _ _ _ _ r x).symm

/-- The reference's result 180, at an element. -/
theorem ref180_at (x0 : FVec Ideal S8192x4096 .f32) (x1 : FVec Ideal S512x4096 .f32) (x2 x3 : FVec Ideal S4096 .f32)
    (x4 : FVec Ideal S1x4096x12288 .f32) (r : Fin 8704) (x : Fin 2048) :
    val_main_v180 (F := Ideal) x0 x1 x2 x3 x4 (ix2 r x) = ropeR (val_main_v28 (F := Ideal) x0 x1 x2 x3 x4) cosT sinT (ix2 r x) * qscale := by
  rw [val_main_v180_apply, val_main_v141_apply, v139_eq, val_main_v140_apply, val_main_cst_11_apply]
  rfl

/-- The kernel's result `main_v40_0` is the reference's. -/
theorem res_main_v40_0 : W9 m ρ c (Proc.devRef .tc main_v40_0) = val_main_v180 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := W7 m ρ c (Proc.devRef .tc main_v40_0)) ?_ ?_
  · exact (W9_of m ρ c main_v40_0 (by decide)).trans <| (W8_of m ρ c main_v40_0 (by decide)).trans <| rfl
  funext i
  obtain ⟨r, x, rfl⟩ : ∃ (r : Fin 8704) (x : Fin 2048), i = ix2 r x :=
    ⟨i 0, i 1, by funext p; match p with | ⟨0, _⟩ => rfl | ⟨1, _⟩ => rfl⟩
  exact (arr4_5 m ρ c r x).trans (ref180_at _ _ _ _ _ r x).symm

/-- The reference's result 182, at an element. -/
theorem ref182_at (x0 : FVec Ideal S8192x4096 .f32) (x1 : FVec Ideal S512x4096 .f32) (x2 x3 : FVec Ideal S4096 .f32)
    (x4 : FVec Ideal S1x4096x12288 .f32) (r : Fin 8704) (x : Fin 2048) :
    val_main_v182 (F := Ideal) x0 x1 x2 x3 x4 (ix2 x r) = ropeR (val_main_v28 (F := Ideal) x0 x1 x2 x3 x4) cosT sinT (ix2 r x) * qscale := by
  have e : idx_main_v181 (ix2 x r) = ix2 r x := by
    funext a; fin_cases a <;> rfl
  rw [val_main_v182_apply, val_main_v181_apply, e, val_main_v141_apply, v139_eq, val_main_v140_apply, val_main_cst_11_apply]
  rfl

/-- The kernel's result `main_v40_1` is the reference's. -/
theorem res_main_v40_1 : W9 m ρ c (Proc.devRef .tc main_v40_1) = val_main_v182 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := W7 m ρ c (Proc.devRef .tc main_v40_1)) ?_ ?_
  · exact (W9_of m ρ c main_v40_1 (by decide)).trans <| (W8_of m ρ c main_v40_1 (by decide)).trans <| rfl
  funext i
  obtain ⟨x, r, rfl⟩ : ∃ (x : Fin 2048) (r : Fin 8704), i = ix2 x r :=
    ⟨i 0, i 1, by funext p; match p with | ⟨0, _⟩ => rfl | ⟨1, _⟩ => rfl⟩
  exact (arr4_6 m ρ c r x).trans (ref182_at _ _ _ _ _ r x).symm

/-- The reference's result 173, at an element. -/
theorem ref173_at (x0 : FVec Ideal S8192x4096 .f32) (x1 : FVec Ideal S512x4096 .f32) (x2 x3 : FVec Ideal S4096 .f32)
    (x4 : FVec Ideal S1x4096x12288 .f32) (r : Fin 8704) (x : Fin 2048) :
    val_main_v173 (F := Ideal) x0 x1 x2 x3 x4 (ix2 r x) = ropeR (val_main_v29 (F := Ideal) x0 x1 x2 x3 x4) cosT sinT (ix2 r x) := by
  rw [v173_eq]

/-- The kernel's result `main_v41_0` is the reference's. -/
theorem res_main_v41_0 : W9 m ρ c (Proc.devRef .tc main_v41_0) = val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := W8 m ρ c (Proc.devRef .tc main_v41_0)) ?_ ?_
  · exact (W9_of m ρ c main_v41_0 (by decide)).trans <| rfl
  funext i
  obtain ⟨r, x, rfl⟩ : ∃ (r : Fin 8704) (x : Fin 2048), i = ix2 r x :=
    ⟨i 0, i 1, by funext p; match p with | ⟨0, _⟩ => rfl | ⟨1, _⟩ => rfl⟩
  exact (arr5_5 m ρ c r x).trans (ref173_at _ _ _ _ _ r x).symm

/-- The reference's result 183, at an element. -/
theorem ref183_at (x0 : FVec Ideal S8192x4096 .f32) (x1 : FVec Ideal S512x4096 .f32) (x2 x3 : FVec Ideal S4096 .f32)
    (x4 : FVec Ideal S1x4096x12288 .f32) (r : Fin 8704) (x : Fin 2048) :
    val_main_v183 (F := Ideal) x0 x1 x2 x3 x4 (ix2 r x) = ropeR (val_main_v29 (F := Ideal) x0 x1 x2 x3 x4) cosT sinT (ix2 r x) := by
  rw [val_main_v183_apply, v173_eq]
  rfl

/-- The kernel's result `main_v41_1` is the reference's. -/
theorem res_main_v41_1 : W9 m ρ c (Proc.devRef .tc main_v41_1) = val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := W8 m ρ c (Proc.devRef .tc main_v41_1)) ?_ ?_
  · exact (W9_of m ρ c main_v41_1 (by decide)).trans <| rfl
  funext i
  obtain ⟨r, x, rfl⟩ : ∃ (r : Fin 8704) (x : Fin 2048), i = ix2 r x :=
    ⟨i 0, i 1, by funext p; match p with | ⟨0, _⟩ => rfl | ⟨1, _⟩ => rfl⟩
  exact (arr5_6 m ρ c r x).trans (ref183_at _ _ _ _ _ r x).symm

/-- The reference's result 30, at an element. -/
theorem ref30_at (x0 : FVec Ideal S8192x4096 .f32) (x1 : FVec Ideal S512x4096 .f32) (x2 x3 : FVec Ideal S4096 .f32)
    (x4 : FVec Ideal S1x4096x12288 .f32) (r : Fin 8704) (x : Fin 2048) :
    val_main_v30 (F := Ideal) x0 x1 x2 x3 x4 (ix2 r x) = val_main_v30 (F := Ideal) x0 x1 x2 x3 x4 (ix2 r x) := by
  rfl

/-- The kernel's result `main_v42_0` is the reference's. -/
theorem res_main_v42_0 : W9 m ρ c (Proc.devRef .tc main_v42_0) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := W9 m ρ c (Proc.devRef .tc main_v42_0)) ?_ ?_
  · exact rfl
  funext i
  obtain ⟨r, x, rfl⟩ : ∃ (r : Fin 8704) (x : Fin 2048), i = ix2 r x :=
    ⟨i 0, i 1, by funext p; match p with | ⟨0, _⟩ => rfl | ⟨1, _⟩ => rfl⟩
  exact (arr6_2 m ρ c r x).trans (ref30_at _ _ _ _ _ r x).symm

/-- The reference's result 185, at an element. -/
theorem ref185_at (x0 : FVec Ideal S8192x4096 .f32) (x1 : FVec Ideal S512x4096 .f32) (x2 x3 : FVec Ideal S4096 .f32)
    (x4 : FVec Ideal S1x4096x12288 .f32) (r : Fin 8704) (x : Fin 2048) :
    val_main_v185 (F := Ideal) x0 x1 x2 x3 x4 (ix2 x r) = val_main_v30 (F := Ideal) x0 x1 x2 x3 x4 (ix2 r x) := by
  have e : idx_main_v184 (ix2 x r) = ix2 r x := by
    funext a; fin_cases a <;> rfl
  rw [val_main_v185_apply, val_main_v184_apply, e]
  rfl

/-- The kernel's result `main_v42_1` is the reference's. -/
theorem res_main_v42_1 : W9 m ρ c (Proc.devRef .tc main_v42_1) = val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans (b := W9 m ρ c (Proc.devRef .tc main_v42_1)) ?_ ?_
  · exact rfl
  funext i
  obtain ⟨x, r, rfl⟩ : ∃ (x : Fin 2048) (r : Fin 8704), i = ix2 x r :=
    ⟨i 0, i 1, by funext p; match p with | ⟨0, _⟩ => rfl | ⟨1, _⟩ => rfl⟩
  exact (arr6_3 m ρ c r x).trans (ref185_at _ _ _ _ _ r x).symm

end Reference

end Cert.Proj

end
-- ==== Proof.Heads.lean ====
/- The claims of the projections of the heads. -/
module

public import proofs.«01_k».proof.Proof.Heads.Run
public import proofs.«01_k».proof.Proof.Heads.Results
public import proofs.«01_k».proof.Proof.Gen.Heads.Frame
public import proofs.«01_k».proof.Proof.Gen.HeadsReferenceIdeal.Run
public import proofs.«01_k».proof.Defs

@[expose] public section

set_option maxRecDepth 16384

noncomputable section

namespace Cert.Proj

open Idealize.ShloMosaic Idealize.ShloMosaic.TcCoe Idealize.SL.Sem

/-- The reference ends from any memory, with its arguments as launched and every counter at zero. -/
theorem frame_ref (m : (ℓ : Loc Cert.HeadsReferenceIdeal.nD Cert.HeadsReferenceIdeal.τ Cert.HeadsReferenceIdeal.sig) → Buf (Elt Ideal) ℓ) (g : Dev Cert.HeadsReferenceIdeal.nD → PrngReg) :
    θ_run (Cert.HeadsReferenceIdeal.defs (F := Ideal)) (onTc (τ := Cert.HeadsReferenceIdeal.τ) (Cert.HeadsReferenceIdeal.main (F := Ideal)))
      ⟨m, fun _ => 0, g⟩ (fun r => (∀ c : Dev Cert.HeadsReferenceIdeal.nD,
        r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
        ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
        ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2)
        ∧ r.2.mem ((c.tc : Thread Cert.HeadsReferenceIdeal.nD Cert.HeadsReferenceIdeal.τ).loc Cert.HeadsReferenceIdeal.main_arg3) = m ((c.tc : Thread Cert.HeadsReferenceIdeal.nD Cert.HeadsReferenceIdeal.τ).loc Cert.HeadsReferenceIdeal.main_arg3)
        ∧ r.2.mem ((c.tc : Thread Cert.HeadsReferenceIdeal.nD Cert.HeadsReferenceIdeal.τ).loc Cert.HeadsReferenceIdeal.main_arg4) = m ((c.tc : Thread Cert.HeadsReferenceIdeal.nD Cert.HeadsReferenceIdeal.τ).loc Cert.HeadsReferenceIdeal.main_arg4))
        ∧ r.2.sem = fun _ => 0) :=
  (θ_run Cert.HeadsReferenceIdeal.defs _ _).mono (fun r h => ⟨fun c => (h c).2.2.2.2.2.2.2.2.2.2.2.2, sem_eq_zero_of_no_sems (by decide) r.2⟩)
    (Cert.HeadsReferenceIdeal.Value.run (F := Ideal) m g)

/-- The kernel's and the reference's results are equal at the ideal instance. -/
theorem algebraic : Cert.algebraic_HeadsIdeal_HeadsReferenceIdeal (hHeadsIdeal := Cert.HeadsIdeal.Gen.facts)
    (hHeadsReferenceIdeal := Cert.HeadsReferenceIdeal.Gen.facts) := by
  intro m g m' g' hpre hagree
  refine ⟨fun c => Cert.HeadsIdeal.Gen.W9 m g c (Proc.devRef .tc Cert.HeadsIdeal.main_v37_0), fun c => Cert.HeadsIdeal.Gen.W9 m g c (Proc.devRef .tc Cert.HeadsIdeal.main_v37_1), fun c => Cert.HeadsIdeal.Gen.W9 m g c (Proc.devRef .tc Cert.HeadsIdeal.main_v38_0), fun c => Cert.HeadsIdeal.Gen.W9 m g c (Proc.devRef .tc Cert.HeadsIdeal.main_v38_1), fun c => Cert.HeadsIdeal.Gen.W9 m g c (Proc.devRef .tc Cert.HeadsIdeal.main_v39_0), fun c => Cert.HeadsIdeal.Gen.W9 m g c (Proc.devRef .tc Cert.HeadsIdeal.main_v39_1), fun c => Cert.HeadsIdeal.Gen.W9 m g c (Proc.devRef .tc Cert.HeadsIdeal.main_v40_0), fun c => Cert.HeadsIdeal.Gen.W9 m g c (Proc.devRef .tc Cert.HeadsIdeal.main_v40_1), fun c => Cert.HeadsIdeal.Gen.W9 m g c (Proc.devRef .tc Cert.HeadsIdeal.main_v41_0), fun c => Cert.HeadsIdeal.Gen.W9 m g c (Proc.devRef .tc Cert.HeadsIdeal.main_v41_1), fun c => Cert.HeadsIdeal.Gen.W9 m g c (Proc.devRef .tc Cert.HeadsIdeal.main_v42_0), fun c => Cert.HeadsIdeal.Gen.W9 m g c (Proc.devRef .tc Cert.HeadsIdeal.main_v42_1),
    run_named m g, ?_⟩
  refine (θ_run Cert.HeadsReferenceIdeal.defs _ _).mono (fun r h c => ?_) (Cert.HeadsReferenceIdeal.Value.run (F := Ideal) m' g')
  have a0 : StableHlo.launchContents m' c (Proc.devRef .tc Cert.HeadsReferenceIdeal.main_arg0) = m ((c.tc : Thread Cert.HeadsIdeal.nD Cert.HeadsIdeal.τ).loc Cert.HeadsIdeal.main_arg0) := (hagree c).1
  have a1 : StableHlo.launchContents m' c (Proc.devRef .tc Cert.HeadsReferenceIdeal.main_arg1) = m ((c.tc : Thread Cert.HeadsIdeal.nD Cert.HeadsIdeal.τ).loc Cert.HeadsIdeal.main_arg1) := (hagree c).2.1
  have a2 : StableHlo.launchContents m' c (Proc.devRef .tc Cert.HeadsReferenceIdeal.main_arg2) = m ((c.tc : Thread Cert.HeadsIdeal.nD Cert.HeadsIdeal.τ).loc Cert.HeadsIdeal.main_arg2) := (hagree c).2.2.1
  have a3 : StableHlo.launchContents m' c (Proc.devRef .tc Cert.HeadsReferenceIdeal.main_arg3) = m ((c.tc : Thread Cert.HeadsIdeal.nD Cert.HeadsIdeal.τ).loc Cert.HeadsIdeal.main_arg3) := (hagree c).2.2.2.1
  have a4 : StableHlo.launchContents m' c (Proc.devRef .tc Cert.HeadsReferenceIdeal.main_arg4) = m ((c.tc : Thread Cert.HeadsIdeal.nD Cert.HeadsIdeal.τ).loc Cert.HeadsIdeal.main_arg4) := (hagree c).2.2.2.2
  obtain ⟨h174, h176, h107, h177, h27, h179, h180, h182, h173, h183, h30, h185, hk⟩ := h c
  refine ⟨?_, ?_, ?_, ?_, ?_, ?_, ?_, ?_, ?_, ?_, ?_, ?_, hk⟩
  · rw [h174, Cert.HeadsReferenceIdeal.Read.val_main_v174_eq, a0, a1, a2, a3, a4]
    exact (res_main_v37_0 m g c).symm
  · rw [h176, Cert.HeadsReferenceIdeal.Read.val_main_v176_eq, a0, a1, a2, a3, a4]
    exact (res_main_v37_1 m g c).symm
  · rw [h107, Cert.HeadsReferenceIdeal.Read.val_main_v107_eq, a0, a1, a2, a3, a4]
    exact (res_main_v38_0 m g c).symm
  · rw [h177, Cert.HeadsReferenceIdeal.Read.val_main_v177_eq, a0, a1, a2, a3, a4]
    exact (res_main_v38_1 m g c).symm
  · rw [h27, Cert.HeadsReferenceIdeal.Read.val_main_v27_eq, a0, a1, a2, a3, a4]
    exact (res_main_v39_0 m g c).symm
  · rw [h179, Cert.HeadsReferenceIdeal.Read.val_main_v179_eq, a0, a1, a2, a3, a4]
    exact (res_main_v39_1 m g c).symm
  · rw [h180, Cert.HeadsReferenceIdeal.Read.val_main_v180_eq, a0, a1, a2, a3, a4]
    exact (res_main_v40_0 m g c).symm
  · rw [h182, Cert.HeadsReferenceIdeal.Read.val_main_v182_eq, a0, a1, a2, a3, a4]
    exact (res_main_v40_1 m g c).symm
  · rw [h173, Cert.HeadsReferenceIdeal.Read.val_main_v173_eq, a0, a1, a2, a3, a4]
    exact (res_main_v41_0 m g c).symm
  · rw [h183, Cert.HeadsReferenceIdeal.Read.val_main_v183_eq, a0, a1, a2, a3, a4]
    exact (res_main_v41_1 m g c).symm
  · rw [h30, Cert.HeadsReferenceIdeal.Read.val_main_v30_eq, a0, a1, a2, a3, a4]
    exact (res_main_v42_0 m g c).symm
  · rw [h185, Cert.HeadsReferenceIdeal.Read.val_main_v185_eq, a0, a1, a2, a3, a4]
    exact (res_main_v42_1 m g c).symm

end Cert.Proj

end
-- ==== Proof.OutProj.lean ====
/- The claims of the output projection. -/
module

public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjReferenceIdeal.Run
public import proofs.«01_k».proof.Proof.Gen.OutProjReferenceIdeal.Read
public import Idealize.ShloMosaic.Lib.Pointwise
public import Idealize.ShloMosaic.Lib.StableHlo.RunRead
public import proofs.«01_k».proof.Defs

@[expose] public section

set_option maxRecDepth 16384

noncomputable section

namespace Cert.Out

open Cert.OutProjIdeal Cert.OutProjIdeal.Gen Idealize.ShloMosaic Idealize.ShloMosaic.TcCoe Idealize.SL.Sem
open Idealize.ShloMosaic.Tactic
open Finset

/-- The start of a whole block. -/
theorem zz : (![0, 0] : Fin 2 → Nat) = fun _ => 0 := by
  funext a; fin_cases a <;> rfl

/-- What a grid point leaves of its block: the product of its rows and columns. -/
theorem out_at (a : Vec Ideal S512x4096 .bf16) (w : Vec Ideal S4096x1024 .bf16) (r : Fin 512) (j : Fin 1024) :
    out0_2 a w (ix2 r j) = ∑ k : Fin 4096, a (ix2 r k) * w (ix2 k j) := by
  have e : out0_2 a w = k0_pay1 a w := by
    unfold out0_2
    rw [View.ld_unit_zero zz, View.ld_unit_zero zz]
    exact View.canon_unit_zero zz _ _
  rw [e]
  unfold k0_pay1
  simp only [shapeCast_self]
  simp only [pointwise, Ideal.matmul_def, Ideal.matmul]
  rw [zero_add, DotDims.sum_contr₁ _ (a := 1) rfl rfl]
  refine Finset.sum_congr rfl fun k _ => ?_
  congr 2
  all_goals
    funext p
    fin_cases p <;> rfl

/-- An element of the projection: the sum over the columns of all heads. -/
def prod (a : FVec Ideal S8704x4096 .bf16) (w : FVec Ideal S1x4096x4096 .f32) (r : Fin 8704) (x : Fin 4096) : EReal :=
  ∑ k : Fin 4096, a (ix2 r k) * w (ix3 0 k x)

section Kernel

variable (m : (ℓ : Loc nD τ sig) → Buf (Elt Ideal) ℓ) (c : Dev nD)

/-- The weights as the call finds them. -/
theorem w_at (k j : Fin 4096) : V m c main_v1 (ix2 k j) = m ((c : Thread nD τ).loc main_arg1) (ix3 0 k j) := by
  have e : V m c main_v1
      = truncf (F := Ideal) (φ := .f32) .bf16 (shapeCast S4096x4096 (m ((c : Thread nD τ).loc main_arg1) : Vec Ideal S1x4096x4096 .f32)
          shapeCasts_S1x4096x4096_S4096x4096) bitsLt_bf16_f32 := by
    show StableHlo.after hostOps0 _ _ = _
    after_reads_simp
    rfl
  rw [e]
  refine shapeCast_apply (α := EReal) _ _ (ix2 k j) (ix3 0 k j) ?_
  rw [Shape.rowMajor_val_three, Shape.rowMajor_val_two]
  show (0 * 4096 + k.val) * 4096 + j.val = k.val * 4096 + j.val
  omega

/-- A grid point is a block of rows and a block of columns. -/
theorem coords : ∀ t : Fin grid0.N, (grid0.coords t 0).val = t.val / 4 ∧ (grid0.coords t 1).val = t.val % 4 := by decide +kernel
/-- The rows that a point reads. -/
theorem tr0 : ∀ i : grid0.Coords, cc0_transform_0 i 0 = (i 0).val ∧ cc0_transform_0 i 1 = 0 := by decide +kernel
/-- The columns of the weights that a point reads. -/
theorem tr1 : ∀ i : grid0.Coords, cc0_transform_1 i 0 = 0 ∧ cc0_transform_1 i 1 = (i 1).val := by decide +kernel
/-- The block that a point writes. -/
theorem tr2 : ∀ i : grid0.Coords, cc0_transform_2 i 0 = (i 0).val ∧ cc0_transform_2 i 1 = (i 1).val := by decide +kernel

/-- An element of a point's block of rows. -/
theorem in0 (t : Fin cfg0.N) (r' : Fin 512) (k : Fin 4096) (r : Fin 8704) (hr : r.val = 512 * (t.val / 4) + r'.val) :
    iblk m c 0 t (ix2 r' k) = m ((c : Thread nD τ).loc main_arg0) (ix2 r k) := by
  refine Eq.trans ?_ (congrFun (V_main_arg0 m c) (ix2 r k))
  unfold iblk
  rw [View.read_apply]
  show V m c main_arg0 _ = _
  congr 1
  funext p
  refine Fin.ext ?_
  obtain ⟨g0, g1⟩ := coords t
  obtain ⟨h0, h1⟩ := tr0 (grid0.coords t)
  match p with
  | ⟨0, _⟩ =>
    show cc0_transform_0 (grid0.coords t) 0 * 512 + 1 * r'.val = r.val
    omega
  | ⟨1, _⟩ =>
    show cc0_transform_0 (grid0.coords t) 1 * 4096 + 1 * k.val = k.val
    omega

/-- An element of a point's block of weights. -/
theorem in1 (t : Fin cfg0.N) (k : Fin 4096) (j : Fin 1024) (x : Fin 4096) (hx : x.val = 1024 * (t.val % 4) + j.val) :
    iblk m c 1 t (ix2 k j) = m ((c : Thread nD τ).loc main_arg1) (ix3 0 k x) := by
  refine Eq.trans ?_ (w_at m c k x)
  unfold iblk
  rw [View.read_apply]
  show V m c main_v1 _ = _
  congr 1
  funext p
  refine Fin.ext ?_
  obtain ⟨g0, g1⟩ := coords t
  obtain ⟨h0, h1⟩ := tr1 (grid0.coords t)
  match p with
  | ⟨0, _⟩ =>
    show cc0_transform_1 (grid0.coords t) 0 * 4096 + 1 * k.val = k.val
    omega
  | ⟨1, _⟩ =>
    show cc0_transform_1 (grid0.coords t) 1 * 1024 + 1 * j.val = x.val
    omega

/-- The array after the call, at an element. -/
theorem arr_at (r : Fin 8704) (x : Fin 4096) :
    (dats m 0 c).arrAt 2 cfg0.N (ix2 r x)
      = prod (m ((c : Thread nD τ).loc main_arg0)) (m ((c : Thread nD τ).loc main_arg1)) r x := by
  have hr := r.isLt
  have hx := x.isLt
  let t : Fin cfg0.N := ⟨4 * (r.val / 512) + x.val / 1024, by show _ < 68; omega⟩
  have ht : t.val = 4 * (r.val / 512) + x.val / 1024 := rfl
  have e2 : (dats m 0 c).flushed 2 t (ix2 ⟨r.val % 512, Nat.mod_lt _ (by decide)⟩ ⟨x.val % 1024, Nat.mod_lt _ (by decide)⟩)
      = prod (m ((c : Thread nD τ).loc main_arg0)) (m ((c : Thread nD τ).loc main_arg1)) r x := by
    refine (congrFun (after0_2 m c t) _).trans ((out_at (iblk m c 0 t) (iblk m c 1 t) _ _).trans ?_)
    refine Finset.sum_congr rfl fun k _ => ?_
    rw [in0 m c t _ k r (by rw [ht]; show r.val = 512 * ((4 * (r.val / 512) + x.val / 1024) / 4) + r.val % 512; omega),
      in1 m c t k _ x (by rw [ht]; show x.val = 1024 * ((4 * (r.val / 512) + x.val / 1024) % 4) + x.val % 1024; omega)]
  refine Eq.trans ?_ e2
  refine Eq.trans ?_ (congrFun (Cert.OutProjIdeal.Value.blocks2 m c t (flush0_2 t)) _)
  rw [View.read_apply]
  congr 1
  funext p
  refine Fin.ext ?_
  obtain ⟨g0, g1⟩ := coords t
  obtain ⟨h0, h1⟩ := tr2 (grid0.coords t)
  match p with
  | ⟨0, _⟩ =>
    show r.val = cc0_transform_2 (grid0.coords t) 0 * 512 + 1 * (r.val % 512)
    rw [h0, g0, ht]
    omega
  | ⟨1, _⟩ =>
    show x.val = cc0_transform_2 (grid0.coords t) 1 * 1024 + 1 * (x.val % 1024)
    rw [h1, g1, ht]
    omega

end Kernel

section Reference

open Cert.OutProjReferenceIdeal.Read

/-- The reference's product, at an element. -/
theorem ref_at (x0 : FVec Ideal S8704x4096 .bf16) (x1 : FVec Ideal S1x4096x4096 .f32) (r : Fin 8704) (x : Fin 4096) :
    val_main_v2 (F := Ideal) x0 x1 (ix2 r x) = prod x0 x1 r x := by
  rw [val_main_v2_apply]
  refine Finset.sum_congr rfl fun k _ => ?_
  rw [val_main_v0_apply, val_main_v1_apply]
  have e0 : lidx_main_v2 (ix2 r x) k = ix2 r k := by
    funext a; fin_cases a <;> rfl
  have e1 : idx_main_v1 (ridx_main_v2 (ix2 r x) k) = ix3 0 k x := by
    have hk := k.isLt
    have hx := x.isLt
    funext a
    refine Fin.ext ?_
    match a with
    | ⟨0, _⟩ => rfl
    | ⟨1, _⟩ => show (k.val * 4096 + x.val) / 4096 % 4096 = k.val; omega
    | ⟨2, _⟩ => show (k.val * 4096 + x.val) % 4096 = x.val; omega
  rw [e0, e1]
  rfl

end Reference

/-- The reference ends from any memory, with its arguments as launched and every counter at zero. -/
theorem frame_ref (m : (ℓ : Loc Cert.OutProjReferenceIdeal.nD Cert.OutProjReferenceIdeal.τ Cert.OutProjReferenceIdeal.sig) → Buf (Elt Ideal) ℓ)
    (g : Dev Cert.OutProjReferenceIdeal.nD → PrngReg) :
    θ_run (Cert.OutProjReferenceIdeal.defs (F := Ideal)) (onTc (τ := Cert.OutProjReferenceIdeal.τ) (Cert.OutProjReferenceIdeal.main (F := Ideal)))
      ⟨m, fun _ => 0, g⟩ (fun r => (∀ c : Dev Cert.OutProjReferenceIdeal.nD,
        r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
        ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
        ∧ r.2.sem = fun _ => 0) :=
  (θ_run Cert.OutProjReferenceIdeal.defs _ _).mono (fun r h => ⟨fun c => (h c).2, sem_eq_zero_of_no_sems (by decide) r.2⟩)
    (Cert.OutProjReferenceIdeal.Value.run (F := Ideal) m g)

/-- The kernel's and the reference's results are equal at the ideal instance. -/
theorem algebraic : Cert.algebraic_OutProjIdeal_OutProjReferenceIdeal (hOutProjIdeal := Cert.OutProjIdeal.Gen.facts)
    (hOutProjReferenceIdeal := Cert.OutProjReferenceIdeal.Gen.facts) := by
  intro m g m' g' hpre hagree
  refine ⟨fun c => (Cert.OutProjIdeal.Gen.dats m 0 c).arrAt 2 Cert.OutProjIdeal.cfg0.N, Cert.OutProjIdeal.Value.run_blocks m g, ?_⟩
  refine (θ_run Cert.OutProjReferenceIdeal.defs _ _).mono (fun r h c => ⟨?_, (h c).2⟩) (Cert.OutProjReferenceIdeal.Value.run (F := Ideal) m' g')
  obtain ⟨a0, a1⟩ := hagree c
  rw [(h c).1, Cert.OutProjReferenceIdeal.Read.val_main_v2_eq, a0, a1]
  funext i
  obtain ⟨p, q, rfl⟩ : ∃ (p : Fin 8704) (q : Fin 4096), i = ix2 p q :=
    ⟨i 0, i 1, by funext a; match a with | ⟨0, _⟩ => rfl | ⟨1, _⟩ => rfl⟩
  exact (ref_at _ _ p q).trans (arr_at m c p q).symm

end Cert.Out

end
-- ==== Proof.Down.KitIdeal.lean ====
/- The experts' second product, the kernel body at one grid point: the buffers the body is handed, the names of the
   slices it transfers, and what its tables say at the point. -/
module

public import proofs.«01_k».proof.Proof.Gen.DownIdeal.Launch
public import proofs.«01_k».proof.Proof.Gen.DownIdeal.Skeleton
public import Idealize.ShloMosaic.Lib.Pipeline.KitQuiescent
public import Idealize.ShloMosaic.Lib.Pipeline.FrameValue
public import Idealize.ShloMosaic.Lib.Pipeline.FrameBody
public import Idealize.ShloMosaic.Lib.Tactic
public import Idealize.ShloMosaic.Lib.VecWindow
public import Idealize.ShloMosaic.Lib.Pipeline.Value
public import Idealize.ShloMosaic.Lib.Claim

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four tables, the weights, the two scratch buffers, each whole. -/
abbrev tb0 : Memref sig .tc .smem S336 .i32 := Memref.whole main_arg0
abbrev tb1 : Memref sig .tc .smem S336 .i32 := Memref.whole main_arg1
abbrev tb2 : Memref sig .tc .smem S336 .i32 := Memref.whole main_arg2
abbrev tb3 : Memref sig .tc .smem S336 .i32 := Memref.whole main_arg3
abbrev wd : Memref sig .tc .hbm S64x1024x4096 .f32 := Memref.whole main_arg5
abbrev wdb : Memref sig .tc .vmem S1024x4096 .bf16 := Memref.whole cc0_scratch0
abbrev stg : Memref sig .tc .vmem S1024x4096 .f32 := Memref.whole cc0_scratch1

/-- A memref's buffer on core `c`: its contents type, and the buffer held at them. -/
abbrev MB (c : Dev nD) {sp : Space} {S : Shape} {e : EltTy} (M : Memref sig .tc sp S e) : Type := Buf (Elt F) (M.view.loc (c : Thread nD τ))
abbrev tbPt (c : Dev nD) (M : Memref sig .tc .smem S336 .i32) (f : MB (F := F) c M) : sProp 𝕄 :=
  M.view.loc (c : Thread nD τ) ↦{fullShare.right} f
abbrev hbPt (c : Dev nD) {sp : Space} {S : Shape} {e : EltTy} (M : Memref sig .tc sp S e) (f : MB (F := F) c M) : sProp 𝕄 :=
  M.view.loc (c : Thread nD τ) ↦{fullShare} f

/-- The word of a table at grid point `i`, as the body's scalar load reads it. -/
abbrev rd (c : Dev nD) (M : Memref sig .tc .smem S336 .i32) (f : MB (F := F) c M) (i : grid0.Coords) : BitVec 32 :=
  M.view.readAt (Elt F) (Rect.unit (s := S336) (k0_off1 i) S1.size (k0_off1_inb i)).toLoadRect f (Shape.Idx.first (show 0 < S1.numel by decide))

/-- The word names an expert. -/
abbrev Fits (e : BitVec 32) : Prop := ∀ a, (k0_off2 e) a + S1x1024x4096.size a ≤ S64x1024x4096.size a

/-- The kernel's own semaphore. -/
def csm : DmaSems sig S_ := (cc0_scratch2.slice (Rect.unit (s := S1) ![0] S1.size inb_S1_S1_0)).squeeze S_ squeezes_S1_S_

/-- Expert `e`'s matrix in the weights. -/
abbrev expert (e : BitVec 32) (h : Fits e) : Memref sig .tc .hbm S1024x4096 .f32 :=
  (wd.slice (Rect.unit (s := S64x1024x4096) (k0_off2 e) S1x1024x4096.size h) (fun _ => rfl)).squeeze S1024x4096 squeezes_S1x1024x4096_S1024x4096

@[sl_canon] theorem sem_canon (hh) : (cc0_scratch2.slice (Rect.unit (s := S1) ![0] S1.size hh)).squeeze S_ squeezes_S1_S_ = csm := rfl

/-- Expert `e`'s matrix, read off the weights' contents. -/
abbrev wexp (c : Dev nD) (X : MB (F := F) c wd) (e : BitVec 32) (h : Fits e) : Vec F S1024x4096 .f32 :=
  ReadAs.same.apply ((expert e h).view.read (Elt F) X)

/-- What the transfer of expert `e` leaves in the staging buffer. -/
abbrev landed (c : Dev nD) (X : MB (F := F) c wd) (e : BitVec 32) (h : Fits e) (f : MB (F := F) c stg) : MB (F := F) c stg :=
  stg.view.write (Elt F) f (wexp c X e h) Finset.univ

/-- The transfer of expert `e` in flight, and the rest of the weights. -/
abbrev flying (c : Dev nD) (X : MB (F := F) c wd) (e : BitVec 32) (h : Fits e) (f : MB (F := F) c stg) : sProp 𝕄 :=
  iprop(Transfers.Flight countersEmb (c : Thread nD τ) (SemLoc.dma csm.sem) () stg.view.dmaCredit
      iprop((stg.view.loc (c : Thread nD τ) ↦{fullShare} landed c X e h f) ∗ ((expert e h).view.loc (c : Thread nD τ) ↦[(expert e h).view.set]{fullShare} X))
    ∗ ((expert e h).view.loc (c : Thread nD τ) ↦[Finset.univ \ (expert e h).view.set]{fullShare} X))

/-- Nothing in flight: the staging buffer at anything, the semaphore at zero, the weights whole. -/
abbrev idle (c : Dev nD) (X : MB (F := F) c wd) : sProp 𝕄 :=
  iprop((∃ f, hbPt c stg f) ∗ semVal ((c : Thread nD τ), SemLoc.dma csm.sem) 0 ∗ hbPt c wd X)

/-- The half width weights at `w`. -/
abbrev held (c : Dev nD) (w : Vec F S1024x4096 .bf16) : sProp 𝕄 :=
  iprop(∃ g : MB (F := F) c wdb, ⌜wdb.view.read (Elt F) g = w⌝ ∗ hbPt c wdb g)

/-- The weights held through the name of one expert's slice are the weights. -/
theorem whole_eq (c : Dev nD) (X : MB (F := F) c wd) (e : BitVec 32) (h : Fits e) :
    ((expert e h).view.loc (c : Thread nD τ) ↦{fullShare} X : sProp 𝕄) = hbPt c wd X := rfl

/-- The start of a whole block. -/
theorem zz : (![0, 0] : Fin 2 → Nat) = fun _ => 0 := by
  funext a; fin_cases a <;> rfl

section Stored
variable {Val : EltTy → Type} {sg : RefSig} {κ : Kind} {sp : Space} {s : Shape} {e : EltTy}

/-- A store over a whole view leaves what was stored. -/
theorem wrote (v : View sg κ sp s e) (f : v.ty.Contents Val) {off : Fin s.rank → ℕ} (inb : ∀ a, off a + s.size a ≤ s.size a)
    (w : s.Idx → Val e) (L : List (View.Piece Val s e)) :
    v.read Val (v.writes Val f (⟨Rect.unit off s.size inb, w⟩ :: L)) = w := by
  rw [← View.readAt_full v _ inb]
  funext x
  exact View.read_writes_cons_unit_of_mem v f inb w L _ x rfl fun a => by
    show off a + 1 * (x a).val = off a + (x a).val
    rw [one_mul]
end Stored

end Cert.DownIdeal.Hand

end
-- ==== Proof.Down.BodyIdeal.lean ====
/- The experts' second product, the kernel body run to its end at each kind of grid point: the first point, a point with
   a new expert, a point with the expert of the one before; with or without a transfer to start; with a block to
   compute or none. -/
module

public import proofs.«01_k».proof.Proof.Down.KitIdeal

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- At the first point the body fetches its expert, waits for it and narrows it, starts the next expert's transfer; it leaves the product. -/
theorem run_first_ahead_used (c : Dev nD) (i : grid0.Coords)
    (arg5 : Memref sig .tc .vmem S256x1024 .bf16) (harg5 : arg5.IsWhole) (arg7 : Memref sig .tc .vmem S256x4096 .f32) (harg7 : arg7.IsWhole)
    (x : Vec F S256x1024 .bf16) (f1 : MB (F := F) c tb1) (f2 : MB (F := F) c tb2) (f3 : MB (F := F) c tb3) (X : MB (F := F) c wd)
    (e fl ne : BitVec 32) (he : rd c tb1 f1 i = e) (hfl : rd c tb2 f2 i = fl) (hne : rd c tb3 f3 i = ne)
    (h1 : Fits e) (h3 : Fits ne) (c1 : k0_cond1 i = 1#1) (c2 : k0_cond2 fl = 1#1) (c3 : k0_cond3 fl = 1#1)
    (c4 : k0_cond4 fl = 1#1) (c5 : ¬ k0_cond5 fl = 1#1)
    (W : Waits sig Unit) (K : PUnit → sProp 𝕄) :
    iprop(owns (c : Thread nD τ) arg5 fullShare x
        ∗ (∃ d, owns (c : Thread nD τ) arg7 fullShare d)
        ∗ tbPt c tb1 f1
        ∗ tbPt c tb2 f2
        ∗ tbPt c tb3 f3
        ∗ (∃ g, hbPt c wdb g)
        ∗ idle c X
        ∗ owes (c : Thread nD τ) 0 W
        ∗ (iprop(owns (c : Thread nD τ) arg5 fullShare x
        ∗ owns (c : Thread nD τ) arg7 fullShare (k0_pay3 x (k0_pay2 (wexp c X e h1)))
        ∗ tbPt c tb1 f1
        ∗ tbPt c tb2 f2
        ∗ tbPt c tb3 f3
        ∗ held c (k0_pay2 (wexp c X e h1))
        ∗ (∃ g, flying c X ne h3 g)
        ∗ (∃ W', owes (c : Thread nD τ) 0 W')) -∗ K ⟨⟩))
      ⊢ wp frame (wpE (defs₀ (F := F)) Variants.none c none) Set.univ
          (cc0_moe_down i tb0 (Memref.isWhole_whole _) tb1 (Memref.isWhole_whole _) tb2 (Memref.isWhole_whole _) tb3 (Memref.isWhole_whole _)
            arg5 harg5 wd (Memref.isWhole_whole _) arg7 harg7 wdb (Memref.isWhole_whole _) stg (Memref.isWhole_whole _) cc0_scratch2) K := by
  simp only [cc0_moe_down_eq_skeleton]; unfold cc0_moe_down_skel
  simp only [k0_part1_eq_skeleton, k0_part2_eq_skeleton]; unfold k0_part1_skel k0_part2_skel
  unfold owns
  iintro ⟨⟨%f0, %hf0, H0⟩, ⟨%d1, %g1, -, H1⟩, HT1, HT2, HT3, ⟨%gw, Hw⟩, ⟨⟨%fs, Hs⟩, HF, HX⟩, HW, Hk⟩
  obtain rfl := harg5.eq_unread hf0; clear hf0
  sl_exec
  rw [show run_first_ahead_used.sl.r c i f2 = fl from hfl, show run_first_ahead_used.sl.r_1 c i f1 = e from he]
  have k1 : k0_chk1 i fl e := ⟨fun _ => h1, fun _ => h1⟩
  sl_exec
  rw [show run_first_ahead_used.sl.r_2 c i f3 = ne from hne]
  have k2 : k0_chk2 fl ne := fun _ _ => h3
  sl_exec
  sl_step
  iapply Hk
  isplitl [H0]
  · iexists _; isplitr; swap; · iexact H0
    ipureintro; exact harg5.read_unread x
  isplitl [H1]
  · iexists _; isplitr; swap; · iexact H1
    ipureintro
    rw [wrote, View.readAt_full, harg5.read_unread]
    refine congrArg (k0_pay3 x) ?_
    unfold run_first_ahead_used.sl.v83; unfold run_first_ahead_used.sl.Hw_1; rw [View.readCov_unit_zero _ zz, View.readAt_full, View.read_write_univ]; rfl
  isplitl [HT1]; · iexact HT1
  isplitl [HT2]; · iexact HT2
  isplitl [HT3]; · iexact HT3
  isplitl [Hw]
  · iexists _; isplitr; swap; · iexact Hw
    ipureintro
    unfold run_first_ahead_used.sl.Hw_1; rw [wrote, View.readAt_full, View.read_write_univ]; rfl
  isplitl [HF HX]
  · iexists _; isplitl [HF]; · iexact HF
    iexact HX
  iexists _; iexact HW

set_option maxHeartbeats 1000000 in
/-- At the first point the body fetches its expert, waits for it and narrows it, starts the next expert's transfer; its block is no part of the work and it leaves zeros. -/
theorem run_first_ahead_unused (c : Dev nD) (i : grid0.Coords)
    (arg5 : Memref sig .tc .vmem S256x1024 .bf16) (harg5 : arg5.IsWhole) (arg7 : Memref sig .tc .vmem S256x4096 .f32) (harg7 : arg7.IsWhole)
    (x : Vec F S256x1024 .bf16) (f1 : MB (F := F) c tb1) (f2 : MB (F := F) c tb2) (f3 : MB (F := F) c tb3) (X : MB (F := F) c wd)
    (e fl ne : BitVec 32) (he : rd c tb1 f1 i = e) (hfl : rd c tb2 f2 i = fl) (hne : rd c tb3 f3 i = ne)
    (h1 : Fits e) (h3 : Fits ne) (c1 : k0_cond1 i = 1#1) (c2 : k0_cond2 fl = 1#1) (c3 : k0_cond3 fl = 1#1)
    (c4 : ¬ k0_cond4 fl = 1#1) (c5 : k0_cond5 fl = 1#1)
    (W : Waits sig Unit) (K : PUnit → sProp 𝕄) :
    iprop(owns (c : Thread nD τ) arg5 fullShare x
        ∗ (∃ d, owns (c : Thread nD τ) arg7 fullShare d)
        ∗ tbPt c tb1 f1
        ∗ tbPt c tb2 f2
        ∗ tbPt c tb3 f3
        ∗ (∃ g, hbPt c wdb g)
        ∗ idle c X
        ∗ owes (c : Thread nD τ) 0 W
        ∗ (iprop(owns (c : Thread nD τ) arg5 fullShare x
        ∗ owns (c : Thread nD τ) arg7 fullShare k0_pay1
        ∗ tbPt c tb1 f1
        ∗ tbPt c tb2 f2
        ∗ tbPt c tb3 f3
        ∗ held c (k0_pay2 (wexp c X e h1))
        ∗ (∃ g, flying c X ne h3 g)
        ∗ (∃ W', owes (c : Thread nD τ) 0 W')) -∗ K ⟨⟩))
      ⊢ wp frame (wpE (defs₀ (F := F)) Variants.none c none) Set.univ
          (cc0_moe_down i tb0 (Memref.isWhole_whole _) tb1 (Memref.isWhole_whole _) tb2 (Memref.isWhole_whole _) tb3 (Memref.isWhole_whole _)
            arg5 harg5 wd (Memref.isWhole_whole _) arg7 harg7 wdb (Memref.isWhole_whole _) stg (Memref.isWhole_whole _) cc0_scratch2) K := by
  simp only [cc0_moe_down_eq_skeleton]; unfold cc0_moe_down_skel
  simp only [k0_part1_eq_skeleton, k0_part2_eq_skeleton]; unfold k0_part1_skel k0_part2_skel
  unfold owns
  iintro ⟨⟨%f0, %hf0, H0⟩, ⟨%d1, %g1, -, H1⟩, HT1, HT2, HT3, ⟨%gw, Hw⟩, ⟨⟨%fs, Hs⟩, HF, HX⟩, HW, Hk⟩
  obtain rfl := harg5.eq_unread hf0; clear hf0
  sl_exec
  rw [show run_first_ahead_unused.sl.r c i f2 = fl from hfl, show run_first_ahead_unused.sl.r_1 c i f1 = e from he]
  have k1 : k0_chk1 i fl e := ⟨fun _ => h1, fun _ => h1⟩
  sl_exec
  rw [show run_first_ahead_unused.sl.r_2 c i f3 = ne from hne]
  have k2 : k0_chk2 fl ne := fun _ _ => h3
  sl_exec
  sl_step
  iapply Hk
  isplitl [H0]
  · iexists _; isplitr; swap; · iexact H0
    ipureintro; exact harg5.read_unread x
  isplitl [H1]
  · iexists _; isplitr; swap; · iexact H1
    ipureintro
    exact wrote _ _ _ _ _
  isplitl [HT1]; · iexact HT1
  isplitl [HT2]; · iexact HT2
  isplitl [HT3]; · iexact HT3
  isplitl [Hw]
  · iexists _; isplitr; swap; · iexact Hw
    ipureintro
    rw [wrote, View.readAt_full, View.read_write_univ]; rfl
  isplitl [HF HX]
  · iexists _; isplitl [HF]; · iexact HF
    iexact HX
  iexists _; iexact HW

set_option maxHeartbeats 1000000 in
/-- At the first point the body fetches its expert, waits for it and narrows it; it leaves the product. -/
theorem run_first_used (c : Dev nD) (i : grid0.Coords)
    (arg5 : Memref sig .tc .vmem S256x1024 .bf16) (harg5 : arg5.IsWhole) (arg7 : Memref sig .tc .vmem S256x4096 .f32) (harg7 : arg7.IsWhole)
    (x : Vec F S256x1024 .bf16) (f1 : MB (F := F) c tb1) (f2 : MB (F := F) c tb2) (f3 : MB (F := F) c tb3) (X : MB (F := F) c wd)
    (e fl ne : BitVec 32) (he : rd c tb1 f1 i = e) (hfl : rd c tb2 f2 i = fl) (hne : rd c tb3 f3 i = ne)
    (h1 : Fits e) (c1 : k0_cond1 i = 1#1) (c2 : k0_cond2 fl = 1#1) (c3 : ¬ k0_cond3 fl = 1#1)
    (c4 : k0_cond4 fl = 1#1) (c5 : ¬ k0_cond5 fl = 1#1)
    (W : Waits sig Unit) (K : PUnit → sProp 𝕄) :
    iprop(owns (c : Thread nD τ) arg5 fullShare x
        ∗ (∃ d, owns (c : Thread nD τ) arg7 fullShare d)
        ∗ tbPt c tb1 f1
        ∗ tbPt c tb2 f2
        ∗ tbPt c tb3 f3
        ∗ (∃ g, hbPt c wdb g)
        ∗ idle c X
        ∗ owes (c : Thread nD τ) 0 W
        ∗ (iprop(owns (c : Thread nD τ) arg5 fullShare x
        ∗ owns (c : Thread nD τ) arg7 fullShare (k0_pay3 x (k0_pay2 (wexp c X e h1)))
        ∗ tbPt c tb1 f1
        ∗ tbPt c tb2 f2
        ∗ tbPt c tb3 f3
        ∗ held c (k0_pay2 (wexp c X e h1))
        ∗ idle c X
        ∗ (∃ W', owes (c : Thread nD τ) 0 W')) -∗ K ⟨⟩))
      ⊢ wp frame (wpE (defs₀ (F := F)) Variants.none c none) Set.univ
          (cc0_moe_down i tb0 (Memref.isWhole_whole _) tb1 (Memref.isWhole_whole _) tb2 (Memref.isWhole_whole _) tb3 (Memref.isWhole_whole _)
            arg5 harg5 wd (Memref.isWhole_whole _) arg7 harg7 wdb (Memref.isWhole_whole _) stg (Memref.isWhole_whole _) cc0_scratch2) K := by
  simp only [cc0_moe_down_eq_skeleton]; unfold cc0_moe_down_skel
  simp only [k0_part1_eq_skeleton, k0_part2_eq_skeleton]; unfold k0_part1_skel k0_part2_skel
  unfold owns
  iintro ⟨⟨%f0, %hf0, H0⟩, ⟨%d1, %g1, -, H1⟩, HT1, HT2, HT3, ⟨%gw, Hw⟩, ⟨⟨%fs, Hs⟩, HF, HX⟩, HW, Hk⟩
  obtain rfl := harg5.eq_unread hf0; clear hf0
  sl_exec
  rw [show run_first_used.sl.r c i f2 = fl from hfl, show run_first_used.sl.r_1 c i f1 = e from he]
  have k1 : k0_chk1 i fl e := ⟨fun _ => h1, fun _ => h1⟩
  sl_exec
  rw [show run_first_used.sl.r_2 c i f3 = ne from hne]
  have k2 : k0_chk2 fl ne := fun _ _ => by exact absurd ‹k0_cond3 fl = 1#1› c3
  sl_exec
  sl_step
  iapply Hk
  isplitl [H0]
  · iexists _; isplitr; swap; · iexact H0
    ipureintro; exact harg5.read_unread x
  isplitl [H1]
  · iexists _; isplitr; swap; · iexact H1
    ipureintro
    rw [wrote, View.readAt_full, harg5.read_unread]
    refine congrArg (k0_pay3 x) ?_
    unfold run_first_used.sl.v83; unfold run_first_used.sl.Hw_1; rw [View.readCov_unit_zero _ zz, View.readAt_full, View.read_write_univ]; rfl
  isplitl [HT1]; · iexact HT1
  isplitl [HT2]; · iexact HT2
  isplitl [HT3]; · iexact HT3
  isplitl [Hw]
  · iexists _; isplitr; swap; · iexact Hw
    ipureintro
    unfold run_first_used.sl.Hw_1; rw [wrote, View.readAt_full, View.read_write_univ]; rfl
  isplitl [Hs HF HX]
  · isplitl [Hs]; · iexists _; iexact Hs
    isplitl [HF]; · iexact HF
    iexact HX
  iexists _; iexact HW

set_option maxHeartbeats 1000000 in
/-- At the first point the body fetches its expert, waits for it and narrows it; its block is no part of the work and it leaves zeros. -/
theorem run_first_unused (c : Dev nD) (i : grid0.Coords)
    (arg5 : Memref sig .tc .vmem S256x1024 .bf16) (harg5 : arg5.IsWhole) (arg7 : Memref sig .tc .vmem S256x4096 .f32) (harg7 : arg7.IsWhole)
    (x : Vec F S256x1024 .bf16) (f1 : MB (F := F) c tb1) (f2 : MB (F := F) c tb2) (f3 : MB (F := F) c tb3) (X : MB (F := F) c wd)
    (e fl ne : BitVec 32) (he : rd c tb1 f1 i = e) (hfl : rd c tb2 f2 i = fl) (hne : rd c tb3 f3 i = ne)
    (h1 : Fits e) (c1 : k0_cond1 i = 1#1) (c2 : k0_cond2 fl = 1#1) (c3 : ¬ k0_cond3 fl = 1#1)
    (c4 : ¬ k0_cond4 fl = 1#1) (c5 : k0_cond5 fl = 1#1)
    (W : Waits sig Unit) (K : PUnit → sProp 𝕄) :
    iprop(owns (c : Thread nD τ) arg5 fullShare x
        ∗ (∃ d, owns (c : Thread nD τ) arg7 fullShare d)
        ∗ tbPt c tb1 f1
        ∗ tbPt c tb2 f2
        ∗ tbPt c tb3 f3
        ∗ (∃ g, hbPt c wdb g)
        ∗ idle c X
        ∗ owes (c : Thread nD τ) 0 W
        ∗ (iprop(owns (c : Thread nD τ) arg5 fullShare x
        ∗ owns (c : Thread nD τ) arg7 fullShare k0_pay1
        ∗ tbPt c tb1 f1
        ∗ tbPt c tb2 f2
        ∗ tbPt c tb3 f3
        ∗ held c (k0_pay2 (wexp c X e h1))
        ∗ idle c X
        ∗ (∃ W', owes (c : Thread nD τ) 0 W')) -∗ K ⟨⟩))
      ⊢ wp frame (wpE (defs₀ (F := F)) Variants.none c none) Set.univ
          (cc0_moe_down i tb0 (Memref.isWhole_whole _) tb1 (Memref.isWhole_whole _) tb2 (Memref.isWhole_whole _) tb3 (Memref.isWhole_whole _)
            arg5 harg5 wd (Memref.isWhole_whole _) arg7 harg7 wdb (Memref.isWhole_whole _) stg (Memref.isWhole_whole _) cc0_scratch2) K := by
  simp only [cc0_moe_down_eq_skeleton]; unfold cc0_moe_down_skel
  simp only [k0_part1_eq_skeleton, k0_part2_eq_skeleton]; unfold k0_part1_skel k0_part2_skel
  unfold owns
  iintro ⟨⟨%f0, %hf0, H0⟩, ⟨%d1, %g1, -, H1⟩, HT1, HT2, HT3, ⟨%gw, Hw⟩, ⟨⟨%fs, Hs⟩, HF, HX⟩, HW, Hk⟩
  obtain rfl := harg5.eq_unread hf0; clear hf0
  sl_exec
  rw [show run_first_unused.sl.r c i f2 = fl from hfl, show run_first_unused.sl.r_1 c i f1 = e from he]
  have k1 : k0_chk1 i fl e := ⟨fun _ => h1, fun _ => h1⟩
  sl_exec
  rw [show run_first_unused.sl.r_2 c i f3 = ne from hne]
  have k2 : k0_chk2 fl ne := fun _ _ => by exact absurd ‹k0_cond3 fl = 1#1› c3
  sl_exec
  sl_step
  iapply Hk
  isplitl [H0]
  · iexists _; isplitr; swap; · iexact H0
    ipureintro; exact harg5.read_unread x
  isplitl [H1]
  · iexists _; isplitr; swap; · iexact H1
    ipureintro
    exact wrote _ _ _ _ _
  isplitl [HT1]; · iexact HT1
  isplitl [HT2]; · iexact HT2
  isplitl [HT3]; · iexact HT3
  isplitl [Hw]
  · iexists _; isplitr; swap; · iexact Hw
    ipureintro
    rw [wrote, View.readAt_full, View.read_write_univ]; rfl
  isplitl [Hs HF HX]
  · isplitl [Hs]; · iexists _; iexact Hs
    isplitl [HF]; · iexact HF
    iexact HX
  iexists _; iexact HW

set_option maxHeartbeats 1000000 in
/-- At a point with a new expert the body waits for the weights in flight and narrows them, starts the next expert's transfer; it leaves the product. -/
theorem run_turn_ahead_used (c : Dev nD) (i : grid0.Coords)
    (arg5 : Memref sig .tc .vmem S256x1024 .bf16) (harg5 : arg5.IsWhole) (arg7 : Memref sig .tc .vmem S256x4096 .f32) (harg7 : arg7.IsWhole)
    (x : Vec F S256x1024 .bf16) (f1 : MB (F := F) c tb1) (f2 : MB (F := F) c tb2) (f3 : MB (F := F) c tb3) (X : MB (F := F) c wd)
    (e fl ne : BitVec 32) (he : rd c tb1 f1 i = e) (hfl : rd c tb2 f2 i = fl) (hne : rd c tb3 f3 i = ne)
    (h1 : Fits e) (h3 : Fits ne) (c1 : ¬ k0_cond1 i = 1#1) (c2 : k0_cond2 fl = 1#1) (c3 : k0_cond3 fl = 1#1)
    (c4 : k0_cond4 fl = 1#1) (c5 : ¬ k0_cond5 fl = 1#1)
    (W : Waits sig Unit) (K : PUnit → sProp 𝕄) :
    iprop(owns (c : Thread nD τ) arg5 fullShare x
        ∗ (∃ d, owns (c : Thread nD τ) arg7 fullShare d)
        ∗ tbPt c tb1 f1
        ∗ tbPt c tb2 f2
        ∗ tbPt c tb3 f3
        ∗ (∃ g, hbPt c wdb g)
        ∗ (∃ f, flying c X e h1 f)
        ∗ owes (c : Thread nD τ) 0 W
        ∗ (iprop(owns (c : Thread nD τ) arg5 fullShare x
        ∗ owns (c : Thread nD τ) arg7 fullShare (k0_pay3 x (k0_pay2 (wexp c X e h1)))
        ∗ tbPt c tb1 f1
        ∗ tbPt c tb2 f2
        ∗ tbPt c tb3 f3
        ∗ held c (k0_pay2 (wexp c X e h1))
        ∗ (∃ g, flying c X ne h3 g)
        ∗ (∃ W', owes (c : Thread nD τ) 0 W')) -∗ K ⟨⟩))
      ⊢ wp frame (wpE (defs₀ (F := F)) Variants.none c none) Set.univ
          (cc0_moe_down i tb0 (Memref.isWhole_whole _) tb1 (Memref.isWhole_whole _) tb2 (Memref.isWhole_whole _) tb3 (Memref.isWhole_whole _)
            arg5 harg5 wd (Memref.isWhole_whole _) arg7 harg7 wdb (Memref.isWhole_whole _) stg (Memref.isWhole_whole _) cc0_scratch2) K := by
  simp only [cc0_moe_down_eq_skeleton]; unfold cc0_moe_down_skel
  simp only [k0_part1_eq_skeleton, k0_part2_eq_skeleton]; unfold k0_part1_skel k0_part2_skel
  unfold owns
  iintro ⟨⟨%f0, %hf0, H0⟩, ⟨%d1, %g1, -, H1⟩, HT1, HT2, HT3, ⟨%gw, Hw⟩, ⟨%f, HF, HX⟩, HW, Hk⟩
  obtain rfl := harg5.eq_unread hf0; clear hf0
  sl_exec
  rw [show run_turn_ahead_used.sl.r c i f2 = fl from hfl, show run_turn_ahead_used.sl.r_1 c i f1 = e from he]
  have k1 : k0_chk1 i fl e := ⟨fun _ => h1, fun _ => h1⟩
  sl_exec
  rw [show run_turn_ahead_used.sl.r_2 c i f3 = ne from hne]
  have k2 : k0_chk2 fl ne := fun _ _ => h3
  sl_exec
  ihave HX := (Entails.of_eq (whole_eq c X e h1)) $$ HX
  sl_exec
  sl_step
  iapply Hk
  isplitl [H0]
  · iexists _; isplitr; swap; · iexact H0
    ipureintro; exact harg5.read_unread x
  isplitl [H1]
  · iexists _; isplitr; swap; · iexact H1
    ipureintro
    rw [wrote, View.readAt_full, harg5.read_unread]
    refine congrArg (k0_pay3 x) ?_
    unfold run_turn_ahead_used.sl.v83; rw [View.readCov_unit_zero _ zz, View.readAt_full, View.read_write_univ]
  isplitl [HT1]; · iexact HT1
  isplitl [HT2]; · iexact HT2
  isplitl [HT3]; · iexact HT3
  isplitl [Hw]
  · iexists _; isplitr; swap; · iexact Hw
    ipureintro
    rw [wrote, View.readAt_full, View.read_write_univ]
  isplitl [HF HX]
  · iexists _; isplitl [HF]; · iexact HF
    iexact HX
  iexists _; iexact HW

set_option maxHeartbeats 1000000 in
/-- At a point with a new expert the body waits for the weights in flight and narrows them, starts the next expert's transfer; its block is no part of the work and it leaves zeros. -/
theorem run_turn_ahead_unused (c : Dev nD) (i : grid0.Coords)
    (arg5 : Memref sig .tc .vmem S256x1024 .bf16) (harg5 : arg5.IsWhole) (arg7 : Memref sig .tc .vmem S256x4096 .f32) (harg7 : arg7.IsWhole)
    (x : Vec F S256x1024 .bf16) (f1 : MB (F := F) c tb1) (f2 : MB (F := F) c tb2) (f3 : MB (F := F) c tb3) (X : MB (F := F) c wd)
    (e fl ne : BitVec 32) (he : rd c tb1 f1 i = e) (hfl : rd c tb2 f2 i = fl) (hne : rd c tb3 f3 i = ne)
    (h1 : Fits e) (h3 : Fits ne) (c1 : ¬ k0_cond1 i = 1#1) (c2 : k0_cond2 fl = 1#1) (c3 : k0_cond3 fl = 1#1)
    (c4 : ¬ k0_cond4 fl = 1#1) (c5 : k0_cond5 fl = 1#1)
    (W : Waits sig Unit) (K : PUnit → sProp 𝕄) :
    iprop(owns (c : Thread nD τ) arg5 fullShare x
        ∗ (∃ d, owns (c : Thread nD τ) arg7 fullShare d)
        ∗ tbPt c tb1 f1
        ∗ tbPt c tb2 f2
        ∗ tbPt c tb3 f3
        ∗ (∃ g, hbPt c wdb g)
        ∗ (∃ f, flying c X e h1 f)
        ∗ owes (c : Thread nD τ) 0 W
        ∗ (iprop(owns (c : Thread nD τ) arg5 fullShare x
        ∗ owns (c : Thread nD τ) arg7 fullShare k0_pay1
        ∗ tbPt c tb1 f1
        ∗ tbPt c tb2 f2
        ∗ tbPt c tb3 f3
        ∗ held c (k0_pay2 (wexp c X e h1))
        ∗ (∃ g, flying c X ne h3 g)
        ∗ (∃ W', owes (c : Thread nD τ) 0 W')) -∗ K ⟨⟩))
      ⊢ wp frame (wpE (defs₀ (F := F)) Variants.none c none) Set.univ
          (cc0_moe_down i tb0 (Memref.isWhole_whole _) tb1 (Memref.isWhole_whole _) tb2 (Memref.isWhole_whole _) tb3 (Memref.isWhole_whole _)
            arg5 harg5 wd (Memref.isWhole_whole _) arg7 harg7 wdb (Memref.isWhole_whole _) stg (Memref.isWhole_whole _) cc0_scratch2) K := by
  simp only [cc0_moe_down_eq_skeleton]; unfold cc0_moe_down_skel
  simp only [k0_part1_eq_skeleton, k0_part2_eq_skeleton]; unfold k0_part1_skel k0_part2_skel
  unfold owns
  iintro ⟨⟨%f0, %hf0, H0⟩, ⟨%d1, %g1, -, H1⟩, HT1, HT2, HT3, ⟨%gw, Hw⟩, ⟨%f, HF, HX⟩, HW, Hk⟩
  obtain rfl := harg5.eq_unread hf0; clear hf0
  sl_exec
  rw [show run_turn_ahead_unused.sl.r c i f2 = fl from hfl, show run_turn_ahead_unused.sl.r_1 c i f1 = e from he]
  have k1 : k0_chk1 i fl e := ⟨fun _ => h1, fun _ => h1⟩
  sl_exec
  rw [show run_turn_ahead_unused.sl.r_2 c i f3 = ne from hne]
  have k2 : k0_chk2 fl ne := fun _ _ => h3
  sl_exec
  ihave HX := (Entails.of_eq (whole_eq c X e h1)) $$ HX
  sl_exec
  sl_step
  iapply Hk
  isplitl [H0]
  · iexists _; isplitr; swap; · iexact H0
    ipureintro; exact harg5.read_unread x
  isplitl [H1]
  · iexists _; isplitr; swap; · iexact H1
    ipureintro
    exact wrote _ _ _ _ _
  isplitl [HT1]; · iexact HT1
  isplitl [HT2]; · iexact HT2
  isplitl [HT3]; · iexact HT3
  isplitl [Hw]
  · iexists _; isplitr; swap; · iexact Hw
    ipureintro
    rw [wrote, View.readAt_full, View.read_write_univ]
  isplitl [HF HX]
  · iexists _; isplitl [HF]; · iexact HF
    iexact HX
  iexists _; iexact HW

set_option maxHeartbeats 1000000 in
/-- At a point with a new expert the body waits for the weights in flight and narrows them; it leaves the product. -/
theorem run_turn_used (c : Dev nD) (i : grid0.Coords)
    (arg5 : Memref sig .tc .vmem S256x1024 .bf16) (harg5 : arg5.IsWhole) (arg7 : Memref sig .tc .vmem S256x4096 .f32) (harg7 : arg7.IsWhole)
    (x : Vec F S256x1024 .bf16) (f1 : MB (F := F) c tb1) (f2 : MB (F := F) c tb2) (f3 : MB (F := F) c tb3) (X : MB (F := F) c wd)
    (e fl ne : BitVec 32) (he : rd c tb1 f1 i = e) (hfl : rd c tb2 f2 i = fl) (hne : rd c tb3 f3 i = ne)
    (h1 : Fits e) (c1 : ¬ k0_cond1 i = 1#1) (c2 : k0_cond2 fl = 1#1) (c3 : ¬ k0_cond3 fl = 1#1)
    (c4 : k0_cond4 fl = 1#1) (c5 : ¬ k0_cond5 fl = 1#1)
    (W : Waits sig Unit) (K : PUnit → sProp 𝕄) :
    iprop(owns (c : Thread nD τ) arg5 fullShare x
        ∗ (∃ d, owns (c : Thread nD τ) arg7 fullShare d)
        ∗ tbPt c tb1 f1
        ∗ tbPt c tb2 f2
        ∗ tbPt c tb3 f3
        ∗ (∃ g, hbPt c wdb g)
        ∗ (∃ f, flying c X e h1 f)
        ∗ owes (c : Thread nD τ) 0 W
        ∗ (iprop(owns (c : Thread nD τ) arg5 fullShare x
        ∗ owns (c : Thread nD τ) arg7 fullShare (k0_pay3 x (k0_pay2 (wexp c X e h1)))
        ∗ tbPt c tb1 f1
        ∗ tbPt c tb2 f2
        ∗ tbPt c tb3 f3
        ∗ held c (k0_pay2 (wexp c X e h1))
        ∗ idle c X
        ∗ (∃ W', owes (c : Thread nD τ) 0 W')) -∗ K ⟨⟩))
      ⊢ wp frame (wpE (defs₀ (F := F)) Variants.none c none) Set.univ
          (cc0_moe_down i tb0 (Memref.isWhole_whole _) tb1 (Memref.isWhole_whole _) tb2 (Memref.isWhole_whole _) tb3 (Memref.isWhole_whole _)
            arg5 harg5 wd (Memref.isWhole_whole _) arg7 harg7 wdb (Memref.isWhole_whole _) stg (Memref.isWhole_whole _) cc0_scratch2) K := by
  simp only [cc0_moe_down_eq_skeleton]; unfold cc0_moe_down_skel
  simp only [k0_part1_eq_skeleton, k0_part2_eq_skeleton]; unfold k0_part1_skel k0_part2_skel
  unfold owns
  iintro ⟨⟨%f0, %hf0, H0⟩, ⟨%d1, %g1, -, H1⟩, HT1, HT2, HT3, ⟨%gw, Hw⟩, ⟨%f, HF, HX⟩, HW, Hk⟩
  obtain rfl := harg5.eq_unread hf0; clear hf0
  sl_exec
  rw [show run_turn_used.sl.r c i f2 = fl from hfl, show run_turn_used.sl.r_1 c i f1 = e from he]
  have k1 : k0_chk1 i fl e := ⟨fun _ => h1, fun _ => h1⟩
  sl_exec
  rw [show run_turn_used.sl.r_2 c i f3 = ne from hne]
  have k2 : k0_chk2 fl ne := fun _ _ => by exact absurd ‹k0_cond3 fl = 1#1› c3
  sl_exec
  sl_step
  iapply Hk
  isplitl [H0]
  · iexists _; isplitr; swap; · iexact H0
    ipureintro; exact harg5.read_unread x
  isplitl [H1]
  · iexists _; isplitr; swap; · iexact H1
    ipureintro
    rw [wrote, View.readAt_full, harg5.read_unread]
    refine congrArg (k0_pay3 x) ?_
    unfold run_turn_used.sl.v83; unfold run_turn_used.sl.Hw_1; rw [View.readCov_unit_zero _ zz, View.readAt_full, View.read_write_univ]
  isplitl [HT1]; · iexact HT1
  isplitl [HT2]; · iexact HT2
  isplitl [HT3]; · iexact HT3
  isplitl [Hw]
  · iexists _; isplitr; swap; · iexact Hw
    ipureintro
    unfold run_turn_used.sl.Hw_1; rw [wrote, View.readAt_full, View.read_write_univ]
  isplitl [HF_dst HF HX]
  · isplitl [HF_dst]; · iexists _; iexact HF_dst
    isplitl [HF]; · iexact HF
    iexact HX
  iexists _; iexact HW

set_option maxHeartbeats 1000000 in
/-- At a point with a new expert the body waits for the weights in flight and narrows them; its block is no part of the work and it leaves zeros. -/
theorem run_turn_unused (c : Dev nD) (i : grid0.Coords)
    (arg5 : Memref sig .tc .vmem S256x1024 .bf16) (harg5 : arg5.IsWhole) (arg7 : Memref sig .tc .vmem S256x4096 .f32) (harg7 : arg7.IsWhole)
    (x : Vec F S256x1024 .bf16) (f1 : MB (F := F) c tb1) (f2 : MB (F := F) c tb2) (f3 : MB (F := F) c tb3) (X : MB (F := F) c wd)
    (e fl ne : BitVec 32) (he : rd c tb1 f1 i = e) (hfl : rd c tb2 f2 i = fl) (hne : rd c tb3 f3 i = ne)
    (h1 : Fits e) (c1 : ¬ k0_cond1 i = 1#1) (c2 : k0_cond2 fl = 1#1) (c3 : ¬ k0_cond3 fl = 1#1)
    (c4 : ¬ k0_cond4 fl = 1#1) (c5 : k0_cond5 fl = 1#1)
    (W : Waits sig Unit) (K : PUnit → sProp 𝕄) :
    iprop(owns (c : Thread nD τ) arg5 fullShare x
        ∗ (∃ d, owns (c : Thread nD τ) arg7 fullShare d)
        ∗ tbPt c tb1 f1
        ∗ tbPt c tb2 f2
        ∗ tbPt c tb3 f3
        ∗ (∃ g, hbPt c wdb g)
        ∗ (∃ f, flying c X e h1 f)
        ∗ owes (c : Thread nD τ) 0 W
        ∗ (iprop(owns (c : Thread nD τ) arg5 fullShare x
        ∗ owns (c : Thread nD τ) arg7 fullShare k0_pay1
        ∗ tbPt c tb1 f1
        ∗ tbPt c tb2 f2
        ∗ tbPt c tb3 f3
        ∗ held c (k0_pay2 (wexp c X e h1))
        ∗ idle c X
        ∗ (∃ W', owes (c : Thread nD τ) 0 W')) -∗ K ⟨⟩))
      ⊢ wp frame (wpE (defs₀ (F := F)) Variants.none c none) Set.univ
          (cc0_moe_down i tb0 (Memref.isWhole_whole _) tb1 (Memref.isWhole_whole _) tb2 (Memref.isWhole_whole _) tb3 (Memref.isWhole_whole _)
            arg5 harg5 wd (Memref.isWhole_whole _) arg7 harg7 wdb (Memref.isWhole_whole _) stg (Memref.isWhole_whole _) cc0_scratch2) K := by
  simp only [cc0_moe_down_eq_skeleton]; unfold cc0_moe_down_skel
  simp only [k0_part1_eq_skeleton, k0_part2_eq_skeleton]; unfold k0_part1_skel k0_part2_skel
  unfold owns
  iintro ⟨⟨%f0, %hf0, H0⟩, ⟨%d1, %g1, -, H1⟩, HT1, HT2, HT3, ⟨%gw, Hw⟩, ⟨%f, HF, HX⟩, HW, Hk⟩
  obtain rfl := harg5.eq_unread hf0; clear hf0
  sl_exec
  rw [show run_turn_unused.sl.r c i f2 = fl from hfl, show run_turn_unused.sl.r_1 c i f1 = e from he]
  have k1 : k0_chk1 i fl e := ⟨fun _ => h1, fun _ => h1⟩
  sl_exec
  rw [show run_turn_unused.sl.r_2 c i f3 = ne from hne]
  have k2 : k0_chk2 fl ne := fun _ _ => by exact absurd ‹k0_cond3 fl = 1#1› c3
  sl_exec
  sl_step
  iapply Hk
  isplitl [H0]
  · iexists _; isplitr; swap; · iexact H0
    ipureintro; exact harg5.read_unread x
  isplitl [H1]
  · iexists _; isplitr; swap; · iexact H1
    ipureintro
    exact wrote _ _ _ _ _
  isplitl [HT1]; · iexact HT1
  isplitl [HT2]; · iexact HT2
  isplitl [HT3]; · iexact HT3
  isplitl [Hw]
  · iexists _; isplitr; swap; · iexact Hw
    ipureintro
    rw [wrote, View.readAt_full, View.read_write_univ]
  isplitl [HF_dst HF HX]
  · isplitl [HF_dst]; · iexists _; iexact HF_dst
    isplitl [HF]; · iexact HF
    iexact HX
  iexists _; iexact HW

set_option maxHeartbeats 1000000 in
/-- At a point with the expert of the one before the body fetches nothing; it leaves the product. -/
theorem run_same_used (c : Dev nD) (i : grid0.Coords)
    (arg5 : Memref sig .tc .vmem S256x1024 .bf16) (harg5 : arg5.IsWhole) (arg7 : Memref sig .tc .vmem S256x4096 .f32) (harg7 : arg7.IsWhole)
    (x : Vec F S256x1024 .bf16) (f1 : MB (F := F) c tb1) (f2 : MB (F := F) c tb2) (f3 : MB (F := F) c tb3) (X : MB (F := F) c wd)
    (e fl ne : BitVec 32) (he : rd c tb1 f1 i = e) (hfl : rd c tb2 f2 i = fl) (hne : rd c tb3 f3 i = ne)
    (w : Vec F S1024x4096 .bf16) (c1 : ¬ k0_cond1 i = 1#1) (c2 : ¬ k0_cond2 fl = 1#1)
    (c4 : k0_cond4 fl = 1#1) (c5 : ¬ k0_cond5 fl = 1#1)
    (W : Waits sig Unit) (K : PUnit → sProp 𝕄) :
    iprop(owns (c : Thread nD τ) arg5 fullShare x
        ∗ (∃ d, owns (c : Thread nD τ) arg7 fullShare d)
        ∗ tbPt c tb1 f1
        ∗ tbPt c tb2 f2
        ∗ tbPt c tb3 f3
        ∗ held c w
        ∗ owes (c : Thread nD τ) 0 W
        ∗ (iprop(owns (c : Thread nD τ) arg5 fullShare x
        ∗ owns (c : Thread nD τ) arg7 fullShare (k0_pay3 x w)
        ∗ tbPt c tb1 f1
        ∗ tbPt c tb2 f2
        ∗ tbPt c tb3 f3
        ∗ held c w
        ∗ (∃ W', owes (c : Thread nD τ) 0 W')) -∗ K ⟨⟩))
      ⊢ wp frame (wpE (defs₀ (F := F)) Variants.none c none) Set.univ
          (cc0_moe_down i tb0 (Memref.isWhole_whole _) tb1 (Memref.isWhole_whole _) tb2 (Memref.isWhole_whole _) tb3 (Memref.isWhole_whole _)
            arg5 harg5 wd (Memref.isWhole_whole _) arg7 harg7 wdb (Memref.isWhole_whole _) stg (Memref.isWhole_whole _) cc0_scratch2) K := by
  simp only [cc0_moe_down_eq_skeleton]; unfold cc0_moe_down_skel
  simp only [k0_part1_eq_skeleton, k0_part2_eq_skeleton]; unfold k0_part1_skel k0_part2_skel
  unfold owns
  iintro ⟨⟨%f0, %hf0, H0⟩, ⟨%d1, %g1, -, H1⟩, HT1, HT2, HT3, ⟨%gw, %hgw, Hw⟩, HW, Hk⟩
  obtain rfl := harg5.eq_unread hf0; clear hf0
  subst hgw
  sl_exec
  rw [show run_same_used.sl.r c i f2 = fl from hfl, show run_same_used.sl.r_1 c i f1 = e from he]
  have k1 : k0_chk1 i fl e := ⟨fun _ => by exact absurd ‹_› c1, fun _ => by exact absurd ‹_› c2⟩
  sl_exec
  rw [show run_same_used.sl.r_2 c i f3 = ne from hne]
  have k2 : k0_chk2 fl ne := fun _ _ => by exact absurd ‹k0_cond2 fl = 1#1› c2
  sl_exec
  sl_step
  iapply Hk
  isplitl [H0]
  · iexists _; isplitr; swap; · iexact H0
    ipureintro; exact harg5.read_unread x
  isplitl [H1]
  · iexists _; isplitr; swap; · iexact H1
    ipureintro
    rw [wrote, View.readAt_full, harg5.read_unread]
    refine congrArg (k0_pay3 x) ?_
    exact View.readAt_full _ _ _
  isplitl [HT1]; · iexact HT1
  isplitl [HT2]; · iexact HT2
  isplitl [HT3]; · iexact HT3
  isplitl [Hw]
  · iexists _; isplitr; swap; · iexact Hw
    ipureintro
    rfl
  iexists _; iexact HW

set_option maxHeartbeats 1000000 in
/-- At a point with the expert of the one before the body fetches nothing; its block is no part of the work and it leaves zeros. -/
theorem run_same_unused (c : Dev nD) (i : grid0.Coords)
    (arg5 : Memref sig .tc .vmem S256x1024 .bf16) (harg5 : arg5.IsWhole) (arg7 : Memref sig .tc .vmem S256x4096 .f32) (harg7 : arg7.IsWhole)
    (x : Vec F S256x1024 .bf16) (f1 : MB (F := F) c tb1) (f2 : MB (F := F) c tb2) (f3 : MB (F := F) c tb3) (X : MB (F := F) c wd)
    (e fl ne : BitVec 32) (he : rd c tb1 f1 i = e) (hfl : rd c tb2 f2 i = fl) (hne : rd c tb3 f3 i = ne)
    (w : Vec F S1024x4096 .bf16) (c1 : ¬ k0_cond1 i = 1#1) (c2 : ¬ k0_cond2 fl = 1#1)
    (c4 : ¬ k0_cond4 fl = 1#1) (c5 : k0_cond5 fl = 1#1)
    (W : Waits sig Unit) (K : PUnit → sProp 𝕄) :
    iprop(owns (c : Thread nD τ) arg5 fullShare x
        ∗ (∃ d, owns (c : Thread nD τ) arg7 fullShare d)
        ∗ tbPt c tb1 f1
        ∗ tbPt c tb2 f2
        ∗ tbPt c tb3 f3
        ∗ held c w
        ∗ owes (c : Thread nD τ) 0 W
        ∗ (iprop(owns (c : Thread nD τ) arg5 fullShare x
        ∗ owns (c : Thread nD τ) arg7 fullShare k0_pay1
        ∗ tbPt c tb1 f1
        ∗ tbPt c tb2 f2
        ∗ tbPt c tb3 f3
        ∗ held c w
        ∗ (∃ W', owes (c : Thread nD τ) 0 W')) -∗ K ⟨⟩))
      ⊢ wp frame (wpE (defs₀ (F := F)) Variants.none c none) Set.univ
          (cc0_moe_down i tb0 (Memref.isWhole_whole _) tb1 (Memref.isWhole_whole _) tb2 (Memref.isWhole_whole _) tb3 (Memref.isWhole_whole _)
            arg5 harg5 wd (Memref.isWhole_whole _) arg7 harg7 wdb (Memref.isWhole_whole _) stg (Memref.isWhole_whole _) cc0_scratch2) K := by
  simp only [cc0_moe_down_eq_skeleton]; unfold cc0_moe_down_skel
  simp only [k0_part1_eq_skeleton, k0_part2_eq_skeleton]; unfold k0_part1_skel k0_part2_skel
  unfold owns
  iintro ⟨⟨%f0, %hf0, H0⟩, ⟨%d1, %g1, -, H1⟩, HT1, HT2, HT3, ⟨%gw, %hgw, Hw⟩, HW, Hk⟩
  obtain rfl := harg5.eq_unread hf0; clear hf0
  subst hgw
  sl_exec
  rw [show run_same_unused.sl.r c i f2 = fl from hfl, show run_same_unused.sl.r_1 c i f1 = e from he]
  have k1 : k0_chk1 i fl e := ⟨fun _ => by exact absurd ‹_› c1, fun _ => by exact absurd ‹_› c2⟩
  sl_exec
  rw [show run_same_unused.sl.r_2 c i f3 = ne from hne]
  have k2 : k0_chk2 fl ne := fun _ _ => by exact absurd ‹k0_cond2 fl = 1#1› c2
  sl_exec
  sl_step
  iapply Hk
  isplitl [H0]
  · iexists _; isplitr; swap; · iexact H0
    ipureintro; exact harg5.read_unread x
  isplitl [H1]
  · iexists _; isplitr; swap; · iexact H1
    ipureintro
    exact wrote _ _ _ _ _
  isplitl [HT1]; · iexact HT1
  isplitl [HT2]; · iexact HT2
  isplitl [HT3]; · iexact HT3
  isplitl [Hw]
  · iexists _; isplitr; swap; · iexact Hw
    ipureintro
    rfl
  iexists _; iexact HW

end Cert.DownIdeal.Hand

end
-- ==== Proof.Down.StepIdeal.lean ====
/- The experts' second product, from one grid point to the next: what the tables say of each other, what the points hand
   on, and the body at any point between the two. -/
module

public import proofs.«01_k».proof.Proof.Down.BodyIdeal

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The buffers when the call begins: as launched. -/
abbrev V (c : Dev nD) (b : Ref sig .tc) : Buf (Elt F) ((c : Thread nD τ).loc b) := m ((c : Thread nD τ).loc b)

/-- The tables' contents when the call begins. -/
def tbl : pre0.Contents (Elt F) := fun j => V m (0 : Dev nD) (pre0.ref j)

/-- The expert, the flags and the next expert of a grid point. -/
abbrev eAt (c : Dev nD) (t : Fin grid0.N) : BitVec 32 := rd (F := F) c tb1 (tbl m 1) (grid0.coords t)
abbrev gAt (c : Dev nD) (t : Fin grid0.N) : BitVec 32 := rd (F := F) c tb2 (tbl m 2) (grid0.coords t)
abbrev nAt (c : Dev nD) (t : Fin grid0.N) : BitVec 32 := rd (F := F) c tb3 (tbl m 3) (grid0.coords t)

/-- What the tables say of each other: they name experts; the first point fetches its expert; the last starts no transfer;
    a point with a new expert finds that expert's transfer started by the ones before, and a point with the expert of the
    one before repeats what that one says. -/
structure Chain (c : Dev nD) : Prop where
  fe : ∀ t, Fits (eAt m c t)
  fn : ∀ t, k0_cond3 (gAt m c t) = 1#1 → Fits (nAt m c t)
  used : ∀ t, (k0_cond4 (gAt m c t) = 1#1 ∧ ¬ k0_cond5 (gAt m c t) = 1#1) ∨ (¬ k0_cond4 (gAt m c t) = 1#1 ∧ k0_cond5 (gAt m c t) = 1#1)
  first : ∀ t : Fin grid0.N, t.val = 0 → k0_cond2 (gAt m c t) = 1#1
  last : ∀ t : Fin grid0.N, t.val = 335 → ¬ k0_cond3 (gAt m c t) = 1#1
  turn : ∀ s t : Fin grid0.N, t.val = s.val + 1 → k0_cond2 (gAt m c t) = 1#1 → k0_cond3 (gAt m c s) = 1#1 ∧ nAt m c s = eAt m c t
  same : ∀ s t : Fin grid0.N, t.val = s.val + 1 → ¬ k0_cond2 (gAt m c t) = 1#1 →
    eAt m c s = eAt m c t ∧ nAt m c s = nAt m c t ∧ (k0_cond3 (gAt m c s) = 1#1 ↔ k0_cond3 (gAt m c t) = 1#1)

variable {m}

/-- A point's expert's matrix, narrowed. -/
abbrev hw {c : Dev nD} (hC : Chain m c) (t : Fin grid0.N) : Vec F S1024x4096 .bf16 :=
  k0_pay2 (wexp c (V m c main_arg5) (eAt m c t) (hC.fe t))

/-- What a point leaves of its block: the product, or zeros. -/
def res {c : Dev nD} (hC : Chain m c) (t : Fin grid0.N) (x : Vec F S256x1024 .bf16) : Vec F S256x4096 .f32 :=
  if k0_cond4 (gAt m c t) = 1#1 then k0_pay3 x (hw hC t) else k0_pay1

/-- What a point hands on: its expert's matrix, narrowed; and the next expert's transfer in flight, or nothing. -/
def carryAt {c : Dev nD} (hC : Chain m c) (t : Fin grid0.N) : sProp 𝕄 :=
  iprop(held c (hw hC t) ∗ (if h : k0_cond3 (gAt m c t) = 1#1 then iprop(∃ g, flying c (V m c main_arg5) (nAt m c t) (hC.fn t h) g) else idle c (V m c main_arg5)))

/-- What the first `k` points hand on. -/
def carry {c : Dev nD} (hC : Chain m c) : (k : ℕ) → k ≤ grid0.N → sProp 𝕄
  | 0, _ => iprop((∃ g, hbPt (F := F) c wdb g) ∗ idle c (V m c main_arg5))
  | s + 1, h => carryAt hC ⟨s, h⟩

/-- The transfers of equal experts are the same. -/
theorem flying_congr (c : Dev nD) (X : MB (F := F) c wd) (a b : BitVec 32) (h : a = b) (ha : Fits a) (hb : Fits b) (f : MB (F := F) c stg) :
    (flying c X a ha f : sProp 𝕄) = flying c X b hb f := by subst h; rfl

/-- The matrices of equal experts are the same. -/
theorem wexp_congr (c : Dev nD) (X : MB (F := F) c wd) (a b : BitVec 32) (h : a = b) (ha : Fits a) (hb : Fits b) :
    wexp c X a ha = wexp c X b hb := by subst h; rfl

/-- The body fetches its own expert at the first point and at no other. -/
theorem cond1_iff : ∀ t : Fin grid0.N, k0_cond1 (grid0.coords t) = 1#1 ↔ t.val = 0 := by decide +kernel

set_option maxHeartbeats 1000000 in
/-- The body at any point, from what the points before hand on to what this one does. -/
theorem body_step {c : Dev nD} (hC : Chain m c) (t : Fin grid0.N)
    (arg5 : Memref sig .tc .vmem S256x1024 .bf16) (harg5 : arg5.IsWhole) (arg7 : Memref sig .tc .vmem S256x4096 .f32) (harg7 : arg7.IsWhole)
    (x : Vec F S256x1024 .bf16) (W : Waits sig Unit) (K : PUnit → sProp 𝕄) :
    iprop(owns (c : Thread nD τ) arg5 fullShare x ∗ (∃ d, owns (c : Thread nD τ) arg7 fullShare d)
        ∗ tbPt (F := F) c tb1 (tbl m 1) ∗ tbPt (F := F) c tb2 (tbl m 2) ∗ tbPt (F := F) c tb3 (tbl m 3)
        ∗ carry hC t.val (Nat.le_of_lt t.isLt) ∗ owes (c : Thread nD τ) 0 W
        ∗ (iprop(owns (c : Thread nD τ) arg5 fullShare x ∗ owns (c : Thread nD τ) arg7 fullShare (res hC t x)
          ∗ tbPt (F := F) c tb1 (tbl m 1) ∗ tbPt (F := F) c tb2 (tbl m 2) ∗ tbPt (F := F) c tb3 (tbl m 3)
          ∗ carryAt hC t ∗ (∃ W', owes (c : Thread nD τ) 0 W')) -∗ K ⟨⟩))
      ⊢ wp frame (wpE (defs₀ (F := F)) Variants.none c none) Set.univ
          (cc0_moe_down (grid0.coords t) tb0 (Memref.isWhole_whole _) tb1 (Memref.isWhole_whole _) tb2 (Memref.isWhole_whole _) tb3 (Memref.isWhole_whole _)
            arg5 harg5 wd (Memref.isWhole_whole _) arg7 harg7 wdb (Memref.isWhole_whole _) stg (Memref.isWhole_whole _) cc0_scratch2) K := by
  unfold res carryAt
  obtain ⟨k, hk⟩ := t
  rcases k with _ | s
  · have c1 := (cond1_iff ⟨0, hk⟩).mpr rfl
    have c2 := hC.first ⟨0, hk⟩ rfl
    show iprop(_ ∗ _ ∗ _ ∗ _ ∗ _ ∗ ((∃ g, hbPt (F := F) c wdb g) ∗ idle c (V m c main_arg5)) ∗ _ ∗ _) ⊢ _
    by_cases c3 : k0_cond3 (gAt m c ⟨0, hk⟩) = 1#1 <;> rcases hC.used ⟨0, hk⟩ with ⟨c4, c5⟩ | ⟨c4, c5⟩
    case' pos.inl =>
      rw [dif_pos c3, if_pos c4]
      iintro ⟨H0, H1, T1, T2, T3, ⟨Hw, Hi⟩, HW, Hk⟩
      iapply (run_first_ahead_used c _ arg5 harg5 arg7 harg7 x _ _ _ _ _ _ _ rfl rfl rfl (hC.fe ⟨0, hk⟩) (hC.fn ⟨0, hk⟩ c3) c1 c2 c3 c4 c5 W K)
    case' pos.inr =>
      rw [dif_pos c3, if_neg c4]
      iintro ⟨H0, H1, T1, T2, T3, ⟨Hw, Hi⟩, HW, Hk⟩
      iapply (run_first_ahead_unused c _ arg5 harg5 arg7 harg7 x _ _ _ _ _ _ _ rfl rfl rfl (hC.fe ⟨0, hk⟩) (hC.fn ⟨0, hk⟩ c3) c1 c2 c3 c4 c5 W K)
    case' neg.inl =>
      rw [dif_neg c3, if_pos c4]
      iintro ⟨H0, H1, T1, T2, T3, ⟨Hw, Hi⟩, HW, Hk⟩
      iapply (run_first_used c _ arg5 harg5 arg7 harg7 x _ _ _ _ _ _ _ rfl rfl rfl (hC.fe ⟨0, hk⟩) c1 c2 c3 c4 c5 W K)
    case' neg.inr =>
      rw [dif_neg c3, if_neg c4]
      iintro ⟨H0, H1, T1, T2, T3, ⟨Hw, Hi⟩, HW, Hk⟩
      iapply (run_first_unused c _ arg5 harg5 arg7 harg7 x _ _ _ _ _ _ _ rfl rfl rfl (hC.fe ⟨0, hk⟩) c1 c2 c3 c4 c5 W K)
    all_goals
      isplitl [H0]; · iexact H0
      isplitl [H1]; · iexact H1
      isplitl [T1]; · iexact T1
      isplitl [T2]; · iexact T2
      isplitl [T3]; · iexact T3
      isplitl [Hw]; · iexact Hw
      isplitl [Hi]; · iexact Hi
      isplitl [HW]; · iexact HW
      iintro ⟨H0, H1, T1, T2, T3, Hw, Hf, HW⟩
      iapply Hk
      isplitl [H0]; · iexact H0
      isplitl [H1]; · iexact H1
      isplitl [T1]; · iexact T1
      isplitl [T2]; · iexact T2
      isplitl [T3]; · iexact T3
      isplitl [Hw Hf]
      · isplitl [Hw]; · iexact Hw
        iexact Hf
      iexact HW
  · have hs : s < grid0.N := Nat.lt_of_succ_lt hk
    have c1 : ¬ k0_cond1 (grid0.coords ⟨s + 1, hk⟩) = 1#1 := fun h => Nat.succ_ne_zero s ((cond1_iff ⟨s + 1, hk⟩).mp h)
    show iprop(_ ∗ _ ∗ _ ∗ _ ∗ _ ∗ (held c (hw hC ⟨s, hs⟩) ∗ (if h : k0_cond3 (gAt m c ⟨s, hs⟩) = 1#1 then iprop(∃ g, flying c (V m c main_arg5) (nAt m c ⟨s, hs⟩) (hC.fn ⟨s, hs⟩ h) g) else idle c (V m c main_arg5))) ∗ _ ∗ _) ⊢ _
    by_cases c2 : k0_cond2 (gAt m c ⟨s + 1, hk⟩) = 1#1
    · obtain ⟨ca, en⟩ := hC.turn ⟨s, hs⟩ ⟨s + 1, hk⟩ rfl c2
      rw [dif_pos ca]
      by_cases c3 : k0_cond3 (gAt m c ⟨s + 1, hk⟩) = 1#1 <;> rcases hC.used ⟨s + 1, hk⟩ with ⟨c4, c5⟩ | ⟨c4, c5⟩
      case' pos.inl =>
        rw [dif_pos c3, if_pos c4]
        iintro ⟨H0, H1, T1, T2, T3, ⟨⟨%gw, -, Hw⟩, ⟨%f, Hi⟩⟩, HW, Hk⟩
        iapply (run_turn_ahead_used c _ arg5 harg5 arg7 harg7 x _ _ _ _ _ _ _ rfl rfl rfl (hC.fe ⟨s + 1, hk⟩) (hC.fn ⟨s + 1, hk⟩ c3) c1 c2 c3 c4 c5 W K)
      case' pos.inr =>
        rw [dif_pos c3, if_neg c4]
        iintro ⟨H0, H1, T1, T2, T3, ⟨⟨%gw, -, Hw⟩, ⟨%f, Hi⟩⟩, HW, Hk⟩
        iapply (run_turn_ahead_unused c _ arg5 harg5 arg7 harg7 x _ _ _ _ _ _ _ rfl rfl rfl (hC.fe ⟨s + 1, hk⟩) (hC.fn ⟨s + 1, hk⟩ c3) c1 c2 c3 c4 c5 W K)
      case' neg.inl =>
        rw [dif_neg c3, if_pos c4]
        iintro ⟨H0, H1, T1, T2, T3, ⟨⟨%gw, -, Hw⟩, ⟨%f, Hi⟩⟩, HW, Hk⟩
        iapply (run_turn_used c _ arg5 harg5 arg7 harg7 x _ _ _ _ _ _ _ rfl rfl rfl (hC.fe ⟨s + 1, hk⟩) c1 c2 c3 c4 c5 W K)
      case' neg.inr =>
        rw [dif_neg c3, if_neg c4]
        iintro ⟨H0, H1, T1, T2, T3, ⟨⟨%gw, -, Hw⟩, ⟨%f, Hi⟩⟩, HW, Hk⟩
        iapply (run_turn_unused c _ arg5 harg5 arg7 harg7 x _ _ _ _ _ _ _ rfl rfl rfl (hC.fe ⟨s + 1, hk⟩) c1 c2 c3 c4 c5 W K)
      all_goals
        isplitl [H0]; · iexact H0
        isplitl [H1]; · iexact H1
        isplitl [T1]; · iexact T1
        isplitl [T2]; · iexact T2
        isplitl [T3]; · iexact T3
        isplitl [Hw]; · iexists gw; iexact Hw
        isplitl [Hi]
        · iexists f
          iapply (Entails.of_eq (flying_congr c (V m c main_arg5) _ _ en (hC.fn ⟨s, hs⟩ ca) (hC.fe ⟨s + 1, hk⟩) f))
          iexact Hi
        isplitl [HW]; · iexact HW
        iintro ⟨H0, H1, T1, T2, T3, Hw, Hf, HW⟩
        iapply Hk
        isplitl [H0]; · iexact H0
        isplitl [H1]; · iexact H1
        isplitl [T1]; · iexact T1
        isplitl [T2]; · iexact T2
        isplitl [T3]; · iexact T3
        isplitl [Hw Hf]
        · isplitl [Hw]; · iexact Hw
          iexact Hf
        iexact HW
    · obtain ⟨ee, en, ea⟩ := hC.same ⟨s, hs⟩ ⟨s + 1, hk⟩ rfl c2
      have ew : hw hC ⟨s, hs⟩ = hw hC ⟨s + 1, hk⟩ := congrArg k0_pay2 (wexp_congr c (V m c main_arg5) _ _ ee (hC.fe ⟨s, hs⟩) (hC.fe ⟨s + 1, hk⟩))
      have ef : (if h : k0_cond3 (gAt m c ⟨s, hs⟩) = 1#1 then iprop(∃ g, flying c (V m c main_arg5) (nAt m c ⟨s, hs⟩) (hC.fn ⟨s, hs⟩ h) g) else idle c (V m c main_arg5) : sProp 𝕄)
          = (if h : k0_cond3 (gAt m c ⟨s + 1, hk⟩) = 1#1 then iprop(∃ g, flying c (V m c main_arg5) (nAt m c ⟨s + 1, hk⟩) (hC.fn ⟨s + 1, hk⟩ h) g) else idle c (V m c main_arg5)) := by
        by_cases c3 : k0_cond3 (gAt m c ⟨s, hs⟩) = 1#1
        · rw [dif_pos c3, dif_pos (ea.mp c3)]
          refine congrArg _ (funext fun g => ?_)
          exact flying_congr c (V m c main_arg5) _ _ en (hC.fn ⟨s, hs⟩ c3) (hC.fn ⟨s + 1, hk⟩ (ea.mp c3)) g
        · rw [dif_neg c3, dif_neg (fun h => c3 (ea.mpr h))]
      rw [ew, ef]
      rcases hC.used ⟨s + 1, hk⟩ with ⟨c4, c5⟩ | ⟨c4, c5⟩
      case' inl =>
        rw [if_pos c4]
        iintro ⟨H0, H1, T1, T2, T3, ⟨Hw, Hi⟩, HW, Hk⟩
        iapply (run_same_used c _ arg5 harg5 arg7 harg7 x _ _ _ (V m c main_arg5) _ _ _ rfl rfl rfl _ c1 c2 c4 c5 W K)
      case' inr =>
        rw [if_neg c4]
        iintro ⟨H0, H1, T1, T2, T3, ⟨Hw, Hi⟩, HW, Hk⟩
        iapply (run_same_unused c _ arg5 harg5 arg7 harg7 x _ _ _ (V m c main_arg5) _ _ _ rfl rfl rfl _ c1 c2 c4 c5 W K)
      all_goals
        isplitl [H0]; · iexact H0
        isplitl [H1]; · iexact H1
        isplitl [T1]; · iexact T1
        isplitl [T2]; · iexact T2
        isplitl [T3]; · iexact T3
        isplitl [Hw]; · iexact Hw
        isplitl [HW]; · iexact HW
        iintro ⟨H0, H1, T1, T2, T3, Hw, HW⟩
        iapply Hk
        isplitl [H0]; · iexact H0
        isplitl [H1]; · iexact H1
        isplitl [T1]; · iexact T1
        isplitl [T2]; · iexact T2
        isplitl [T3]; · iexact T3
        isplitl [Hw Hi]
        · isplitl [Hw]; · iexact Hw
          iexact Hi
        iexact HW

end Cert.DownIdeal.Hand

end
-- ==== Proof.Down.RunIdeal.lean ====
/- The experts' second product, the whole call: the body at every grid point under the pipeline, the run, and what it leaves
   of its arguments and of its result. -/
module

public import proofs.«01_k».proof.Proof.Down.StepIdeal

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to the call: the call alone. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- On every device the tables hold what `tbl` says (there is one device). -/
theorem V_pre (c : Dev nD) (j : Fin 4) : V m c (pre0.ref j) = tbl m j := by
  obtain rfl : c = 0 := Subsingleton.elim _ _; rfl
/-- Every block that the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the call hands them to the body, one by one. -/
theorem PhiT0_eq (c : Dev nD) : (Pipeline.ΦT pre0 (tbl m) c : sProp 𝕄)
    = iprop(tbPt (F := F) c tb0 (tbl m 0) ∗ tbPt (F := F) c tb1 (tbl m 1) ∗ tbPt (F := F) c tb2 (tbl m 2) ∗ tbPt (F := F) c tb3 (tbl m 3)) := by
  unfold Pipeline.ΦT Pipeline.prefHeld
  rw [bigSep_univ_eq_bigSepL [(0 : Fin 4), 1, 2, 3] (by decide) (by decide)]
  rfl

/-- A window's block at a point, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The rows' staging buffer holds its block at every point. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Each window's staging buffer at a point. -/
abbrev ms0_0 (hO : Ok m) (t : Fin (cfgM m hO).N) : Memref sig .tc .vmem S256x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x4096 .f32 := spec0_1.stage ((cfgM m hO).slots t 1)
abbrev hs0_1 (hO : Ok m) (t : Fin (cfgM m hO).N) : (ms0_1 m hO t).IsWhole := hstage0_1 (((cfgM m hO).slots t 1).cast nbuf0_1)

/-- The body at a point, as the pipeline calls it. -/
abbrev bodyAt0 (hO : Ok m) (t : Fin (cfgM m hO).N) : Prog (TpuEff nD τ sig (Elt F) Λ₀ .tc) PUnit :=
  cc0_moe_down (grid0.coords t) tb0 (Memref.isWhole_whole _) tb1 (Memref.isWhole_whole _) tb2 (Memref.isWhole_whole _) tb3 (Memref.isWhole_whole _)
    (ms0_0 m hO t) (hs0_0 m hO t) wd (Memref.isWhole_whole _) (ms0_1 m hO t) (hs0_1 m hO t) wdb (Memref.isWhole_whole _) stg (Memref.isWhole_whole _) cc0_scratch2

/-- The kernel's own semaphore. -/
abbrev osem0 : Fin 1 → SemLoc sig := fun _ => SemLoc.dma ⟨4, by decide⟩
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma csm.sem) 0 := by
  rw [Pipeline.ownSems0_eq_of_list c osem0 [0] (by decide) (by decide)]; rfl
/-- The weights, which the kernel fetches by itself. -/
def H0 : Finset (Ref sig .tc) := {main_arg5}
theorem H0_sub : H0 ⊆ Pipeline.restRefsP sig pre0 spec0 := by decide
theorem hbmPts0_eq (c : Dev nD) :
    (bigSep H0 (fun b => ((c : Thread nD τ).loc b) ↦{fullShare} V m c b) : sProp 𝕄) = hbPt c wd (V m c main_arg5) := by
  rw [BI.bigSep_eq_bigSepL_of_eq [main_arg5] (by decide) (by decide)]; rfl

/-- What the body has of its own when the call begins, one by one. -/
theorem PhiD0_eq (c : Dev nD) :
    (Pipeline.ΦD osem0 spec0 H0 (V m) c : sProp 𝕄)
      = iprop(((∃ g, hbPt (F := F) c wdb g) ∗ (∃ g, hbPt (F := F) c stg g)) ∗ (∃ r, prngReg c r)
          ∗ semVal ((c : Thread nD τ), SemLoc.dma csm.sem) 0 ∗ hbPt c wd (V m c main_arg5)) := by
  rw [Pipeline.ΦD_eq, scopedRest0_eq, ownSems00_eq, hbmPts0_eq]

/-- The proof data: the rows' buffer keeps its block, the result's is left at the product or zeros, and between the points
    is what they hand on. -/
def dats (hO : Ok m) (hC : ∀ c, Chain m c) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => res (hC c) t (iblk m hO c 0 t)
  Φ t := iprop(carry (hC c) t.val (Nat.le_of_lt_succ t.isLt) ∗ (∃ r, prngReg c r) ∗ Pipeline.ΦT pre0 (tbl m) c)
  q _ := fullShare
  owed _ := 0

theorem A_eq (hO : Ok m) (hC : ∀ c, Chain m c) (c : Dev nD) (w : Fin (cfgM m hO).W) : (dats m hO hC 0 c).A w = V m c (Pipeline.arrRef spec0 w) := by
  dsimp only [dats]
theorem after0_0 (hO : Ok m) (hC : ∀ c, Chain m c) (c : Dev nD) (t : Fin (cfgM m hO).N) : (dats m hO hC 0 c).after 0 t = iblk m hO c 0 t := by dsimp only [dats]; try rfl
theorem after0_1 (hO : Ok m) (hC : ∀ c, Chain m c) (c : Dev nD) (t : Fin (cfgM m hO).N) :
    (dats m hO hC 0 c).after 1 t = res (hC c) t (iblk m hO c 0 t) := by dsimp only [dats]; try rfl
theorem before0_0 (hO : Ok m) (hC : ∀ c, Chain m c) (c : Dev nD) (t : Fin (cfgM m hO).N) (d) : (dats m hO hC 0 c).before 0 t d = iblk m hO c 0 t :=
  before0_0_of m hO (dats m hO hC 0 c) (A_eq m hO hC c 0) (after0_0 m hO hC c) t d
theorem Phi_castSucc (hO : Ok m) (hC : ∀ c, Chain m c) (c : Dev nD) (t : Fin (cfgM m hO).N) :
    (dats m hO hC 0 c).Φ t.castSucc = iprop(carry (hC c) t.val (Nat.le_of_lt t.isLt) ∗ (∃ r, prngReg c r) ∗ Pipeline.ΦT pre0 (tbl m) c) := by
  dsimp only [dats]; rfl
theorem Phi_succ (hO : Ok m) (hC : ∀ c, Chain m c) (c : Dev nD) (t : Fin (cfgM m hO).N) :
    (dats m hO hC 0 c).Φ t.succ = iprop(carryAt (hC c) t ∗ (∃ r, prngReg c r) ∗ Pipeline.ΦT pre0 (tbl m) c) := by
  dsimp only [dats]; rfl

/-- What the body is called with at a point, and what it returns. -/
def bodyPre (hO : Ok m) (hC : ∀ c, Chain m c) (c : Dev nD) (t : Fin (cfgM m hO).N) : sProp 𝕄 :=
  iprop((dats m hO hC 0 c).Φ t.castSucc ∗ (dats m hO hC 0 c).owesAt () t.castSucc
    ∗ (∃ d, owns (c : Thread nD τ) (ms0_0 m hO t) fullShare ((dats m hO hC 0 c).before 0 t d))
    ∗ (∃ d, owns (c : Thread nD τ) (ms0_1 m hO t) fullShare ((dats m hO hC 0 c).before 1 t d)))
def bodyPost (hO : Ok m) (hC : ∀ c, Chain m c) (c : Dev nD) (t : Fin (cfgM m hO).N) : sProp 𝕄 :=
  iprop((dats m hO hC 0 c).Φ t.succ ∗ (dats m hO hC 0 c).owesAt () t.succ
    ∗ owns (c : Thread nD τ) (ms0_0 m hO t) fullShare ((dats m hO hC 0 c).after 0 t)
    ∗ owns (c : Thread nD τ) (ms0_1 m hO t) fullShare ((dats m hO hC 0 c).after 1 t))

/-- The body at any point. -/
theorem sound_body (hO : Ok m) (hC : ∀ c, Chain m c) (c : Dev nD) (t : Fin (cfgM m hO).N) :
    bodyPre m hO hC c t ⊢ wp frame (wpE (defs₀ (F := F)) Variants.none c none) Set.univ (bodyAt0 m hO t) (fun _ => bodyPost m hO hC c t) := by
  unfold bodyPre bodyPost bodyAt0
  simp only [before0_0]
  rw [Phi_castSucc, Phi_succ, after0_0, after0_1, PhiT0_eq]
  unfold Dat.owesAt Pipeline.owesWithin
  rw [show (dats m hO hC 0 c).owed t.castSucc = 0 from rfl, show (dats m hO hC 0 c).owed t.succ = 0 from rfl]
  iintro ⟨⟨Hc, Hg, T0, T1, T2, T3⟩, ⟨%W, -, HW⟩, ⟨%d0, H0⟩, ⟨%d1, H1⟩⟩
  iapply (body_step (hC c) t _ _ _ _ (iblk m hO c 0 t) W _)
  isplitl [H0]; · iexact H0
  isplitl [H1]; · iexists _; iexact H1
  isplitl [T1]; · iexact T1
  isplitl [T2]; · iexact T2
  isplitl [T3]; · iexact T3
  isplitl [Hc]; · iexact Hc
  isplitl [HW]; · iexact HW
  iintro ⟨H0, H1, T1, T2, T3, Hc, ⟨%W', HW'⟩⟩
  isplitl [Hc Hg T0 T1 T2 T3]
  · isplitl [Hc]; · iexact Hc
    isplitl [Hg]; · iexact Hg
    isplitl [T0]; · iexact T0
    isplitl [T1]; · iexact T1
    isplitl [T2]; · iexact T2
    iexact T3
  isplitl [HW']
  · iexists W'; isplitr; · ipureintro; exact fun _ _ => Or.inl trivial
    iexact HW'
  isplitl [H0]; · iexact H0
  iexact H1

/-- The result's block is stored at every point. -/
theorem idle0_1 (hO : Ok m) (hC : ∀ c, Chain m c) (t : Fin (cfgM m hO).N) : (cfgM m hO).idle (1 : Fin 2) ((cfgM m hO).grid.coords t) = false := by
  have e : (tbl m).atD 2 (k0_off1 (grid0.coords t)) = gAt m 0 t := by
    unfold Pipeline.Prefetch.Contents.atD
    have hb : ∀ a : Fin 1, k0_off1 (grid0.coords t) a + 1 ≤ S336.size a := fun a => by
      fin_cases a
      exact k0_off1_inb (grid0.coords t) 0
    refine Eq.trans (dif_pos hb) ?_
    refine congrArg (tbl m 2) ?_
    funext a
    refine Fin.ext ?_
    fin_cases a
    rfl
  show (!(k0_cond4 ((tbl m).atD 2 (k0_off1 (grid0.coords t))) == 1#1) && !(k0_cond5 ((tbl m).atD 2 (k0_off1 (grid0.coords t))) == 1#1)) = false
  rw [e]
  rcases (hC 0).used t with ⟨h, -⟩ | ⟨-, h⟩ <;> rw [h] <;> simp

theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

/-- The body at every point, as the pipeline asks it. -/
theorem body_obligation (hO : Ok m) (hC : ∀ c, Chain m c) (c : Dev nD) :
    BodyObligation (dats (F := F) m hO hC 0 c) (defs₀ (F := F)) Variants.none () Set.univ := fun t => by
  rw [bigSep_W0, bigSep_W0, defs₀_row m hO]
  rw [idle0_1 m hO hC t]
  exact triple_restated (sound_body m hO hC c t) rfl .rfl fun _ => .rfl

set_option backward.isDefEq.respectTransparency.types false in
/-- The run: it ends, with the arguments as launched, the result at what the points left, and every counter at zero. -/
theorem run_main_quiescent (hO : Ok m) (hC : ∀ c, Chain m c) : θ_run defs (onTc (τ := τ) (main (F := F))) (s₀ m ρ)
    (fun r => (Pipeline.FramePost (Pipeline.pin pcfgs fun _ => adm m hO) (dats m hO hC) 0 (V m)) r ∧ r.2.sem = fun _ => 0) :=
  Pipeline.θ_run_frameP_dma (Q' := _) pcfgs (fun _ => adm m hO) (dats m hO hC) (0 : Fin 1) launch0 osem0 defs₀ Variants.none ownSemFacts0 H0 H0_sub m ρ main
    (hbody := fun c => (body_obligation m hO hC c).loose) (hshare := fun c => (dats m hO hC 0 c).share_full fun _ => rfl)
    (howed := fun _ _ => rfl) (V := V m) (hmain := hmain m Variants.none) (hA := A_eq m hO hC) (hpf := V_pre m)
    (hin := fun c => by
      rw [PhiD0_eq]
      show iprop(_ ∗ _) ⊢ iprop(((∃ g, hbPt (F := F) c wdb g) ∗ idle c (V m c main_arg5)) ∗ (∃ r, prngReg c r) ∗ Pipeline.ΦT pre0 (tbl m) c)
      iintro ⟨⟨⟨Hw, Hs⟩, Hg, Hv, HX⟩, HT⟩
      isplitl [Hw Hs Hv HX]
      · isplitl [Hw]; · iexact Hw
        isplitl [Hs]; · iexact Hs
        isplitl [Hv]; · iexact Hv
        iexact HX
      isplitl [Hg]; · iexact Hg
      iexact HT)
    (hout := fun c => by
      rw [PhiD0_eq]
      have e : (dats m hO hC 0 c).Φ (Fin.last (cfgM m hO).N)
          = iprop(carryAt (hC c) ⟨335, by decide⟩ ∗ (∃ r, prngReg c r) ∗ Pipeline.ΦT pre0 (tbl m) c) := Phi_succ m hO hC c ⟨335, show 335 < grid0.N by decide⟩
      refine (Entails.of_eq e).trans ?_
      unfold carryAt
      rw [dif_neg ((hC c).last ⟨335, by decide⟩ rfl)]
      iintro ⟨⟨⟨%g, -, Hw⟩, Hs, Hv, HX⟩, Hg, -⟩
      isplitl [Hw Hs]
      · isplitl [Hw]; · iexists g; iexact Hw
        iexact Hs
      isplitl [Hg]; · iexact Hg
      isplitl [Hv]; · iexact Hv
      iexact HX)

/-- The arguments end as launched. -/
theorem frame (hO : Ok m) (hC : ∀ c, Chain m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      ((h.1 c).1 0).trans (((dats m hO hC 0 c).arrAt_in 0 rfl _).trans (A_eq m hO hC c 0)),
      (h.1 c).2 main_arg5 (by decide : main_arg5 ∈ Pipeline.restRefs sig spec0)⟩, h.2⟩) (run_main_quiescent m ρ hO hC)

/-- The arguments end as launched and the result at what the points left. -/
theorem run_blocks (hO : Ok m) (hC : ∀ c, Chain m c) : θ_run defs (onTc (τ := τ) (main (F := F))) ⟨m, fun _ => 0, ρ⟩ (fun r => ∀ c : Dev nD,
      r.2.mem ((c.tc : Thread nD τ).loc main_v0) = (dats m hO hC 0 c).arrAt 1 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨h.1.1 c, h.2.1 c⟩)
    (θ_run_and ((θ_run defs _ _).mono (fun r h => ⟨fun c => (h.1 c).1 1, trivial⟩) (run_main_quiescent m ρ hO hC) : θ_run defs (onTc (τ := τ) (main (F := F))) ⟨m, fun _ => 0, ρ⟩ (fun r => (∀ c : Dev nD, r.2.mem ((c.tc : Thread nD τ).loc main_v0) = (dats m hO hC 0 c).arrAt 1 (cfgM m hO).N) ∧ True)) (frame m ρ hO hC))

end Cert.DownIdeal.Hand

end
-- ==== Proof.Down.Words.lean ====
/- The tables of the experts' second product: what the precondition says of their words, point by point. -/
module

public import proofs.«01_k».proof.Proof.Gen.Pre_tables
public import Idealize.ShloMosaic.Lib.Pointwise
public import Idealize.ShloMosaic.Lib.Decide

@[expose] public section

set_option maxRecDepth 16384

noncomputable section

namespace Cert.Tables

open Cert.Pre_tables Cert.Pre_tables.Gen
open Idealize.ShloMosaic

variable {F : FTy → Type} [FloatOps F]

/-- A truth value's bit is set exactly when it is true. -/
theorem bit_iff (b : Bool) : BitVec.ofBool b = 1#1 ↔ b = true := by cases b <;> decide

/-- Two bits' conjunction is set exactly when both are. -/
theorem and_iff : ∀ a b : BitVec 1, IntOp.andi a b = 1#1 ↔ a = 1#1 ∧ b = 1#1 := by decide

/-- The bit of an equation. -/
theorem eq_iff {w : Nat} (x y : BitVec w) : IntOp.cmpi .eq x y = 1#1 ↔ x = y := by
  show BitVec.ofBool (x == y) = 1#1 ↔ _
  rw [bit_iff, beq_iff_eq]

/-- The bit of a signed comparison. -/
theorem sge_iff (x y : BitVec 32) : IntOp.cmpi .sge x y = 1#1 ↔ y.sle x = true := bit_iff _
theorem slt_iff (x y : BitVec 32) : IntOp.cmpi .slt x y = 1#1 ↔ x.slt y = true := bit_iff _

/-- A choice between two bits. -/
theorem pick : ∀ c a b : BitVec 1, Scalar.select c a b = 1#1 → (c = 1#1 → a = 1#1) ∧ (¬ c = 1#1 → b = 1#1) := by decide

/-- Signed comparisons of equal outcome have equal bits, and the other way round. -/
theorem sge_congr (x y x' y' : BitVec 32) (h : IntOp.cmpi .sge x y = IntOp.cmpi .sge x' y') : y.sle x = true ↔ y'.sle x' = true := by
  rw [← sge_iff, ← sge_iff, h]

/-- A word from zero up to a small bound is the small number. -/
theorem small (x : BitVec 32) (b : Nat) (hb : b < 2 ^ 31) (h0 : (0#32).sle x = true) (h1 : x.slt (BitVec.ofNat 32 b) = true) : x.toNat < b := by
  rw [BitVec.sle_iff_toInt_le] at h0
  rw [BitVec.slt_iff_toInt_lt] at h1
  have e : (BitVec.ofNat 32 b).toInt = b := by
    rw [BitVec.toInt_eq_toNat_of_lt (by rw [BitVec.toNat_ofNat]; omega), BitVec.toNat_ofNat]
    omega
  rw [e] at h1
  have e0 : (0#32).toInt = 0 := by decide
  rw [e0] at h0
  have := BitVec.toInt_eq_toNat_cond x
  split at this <;> omega

/-- What the precondition says: point `i` takes block `i`; its expert is one of the 64 and its flags are three bits; the
    first point brings new weights and the last announces none; a point that brings new weights brings those that the
    point before announced, and any other goes on with what the point before says. -/
structure Says (r e g n : IVec S336 32) : Prop where
  rows : ∀ i : Fin 336, r (ix1 i) = BitVec.ofNat 32 i.val
  expert : ∀ i : Fin 336, (e (ix1 i)).toNat < 64
  flags : ∀ i : Fin 336, (g (ix1 i)).toNat < 8
  first : ∀ i : Fin 336, i.val = 0 → g (ix1 i) &&& 1#32 = 1#32
  last : ∀ i : Fin 336, i.val = 335 → (g (ix1 i)).slt 4#32 = true
  turn : ∀ s t : Fin 336, t.val = s.val + 1 → g (ix1 t) &&& 1#32 = 1#32 → (4#32).sle (g (ix1 s)) = true ∧ n (ix1 s) = e (ix1 t)
  same : ∀ s t : Fin 336, t.val = s.val + 1 → ¬ g (ix1 t) &&& 1#32 = 1#32 →
    e (ix1 s) = e (ix1 t) ∧ n (ix1 s) = n (ix1 t) ∧ ((4#32).sle (g (ix1 s)) = true ↔ (4#32).sle (g (ix1 t)) = true)

/-- The precondition's six conditions say that. -/
theorem tables_say (r e g n : IVec S336 32) (hb : FVec F S86016x1024 .bf16) (w : FVec F S64x1024x4096 .f32)
    (h1 : (Cert.Pre_tables.fn (F := F) r e g n hb w).1 = fun _ => 1#1)
    (h2 : (Cert.Pre_tables.fn (F := F) r e g n hb w).2.1 = fun _ => 1#1)
    (h3 : (Cert.Pre_tables.fn (F := F) r e g n hb w).2.2.1 = fun _ => 1#1)
    (h4 : (Cert.Pre_tables.fn (F := F) r e g n hb w).2.2.2.1 = fun _ => 1#1)
    (h5 : (Cert.Pre_tables.fn (F := F) r e g n hb w).2.2.2.2.1 = fun _ => 1#1)
    (h6 : (Cert.Pre_tables.fn (F := F) r e g n hb w).2.2.2.2.2 = fun _ => 1#1) : Says r e g n := by
  have k6 : ∀ s t : Fin 336, t.val = s.val + 1 →
      Scalar.select (IntOp.cmpi .eq (IntOp.andi (g (ix1 t)) 1#32) 1#32)
        (IntOp.andi (IntOp.cmpi .sge (g (ix1 s)) 4#32) (IntOp.cmpi .eq (n (ix1 s)) (e (ix1 t))))
        (IntOp.andi (IntOp.andi (IntOp.cmpi .eq (e (ix1 t)) (e (ix1 s))) (IntOp.cmpi .eq (n (ix1 t)) (n (ix1 s))))
          (IntOp.cmpi .eq (IntOp.cmpi .sge (g (ix1 t)) 4#32) (IntOp.cmpi .sge (g (ix1 s)) 4#32))) = 1#1 := by
    intro s t hst
    have h := congrFun h6 (ix1 ⟨s.val, by have := t.isLt; omega⟩)
    unfold Cert.Pre_tables.fn Cert.Pre_tables.fn_part1 Cert.Pre_tables.fn_where at h
    simp only [pointwise] at h
    have es : ∀ p, (⟨(![0] : Fin 1 → Nat) 0 + s.val, p⟩ : Fin 336) = s := fun p => Fin.ext (by show 0 + s.val = s.val; omega)
    have et : ∀ p, (⟨(![1] : Fin 1 → Nat) 0 + s.val, p⟩ : Fin 336) = t := fun p => Fin.ext (by show 1 + s.val = t.val; omega)
    simp only [es, et] at h
    exact h
  refine ⟨fun i => ?_, fun i => ?_, fun i => ?_, fun i hi => ?_, fun i hi => ?_, fun s t hst ht => ?_, fun s t hst ht => ?_⟩
  · have h := congrFun h1 (ix1 i)
    unfold Cert.Pre_tables.fn Cert.Pre_tables.fn_part1 at h
    simp only [pointwise] at h
    exact (eq_iff _ _).mp h
  · have h := congrFun h2 (ix1 i)
    unfold Cert.Pre_tables.fn Cert.Pre_tables.fn_part1 at h
    simp only [pointwise] at h
    obtain ⟨a, b⟩ := (and_iff _ _).mp h
    exact small _ 64 (by decide) ((sge_iff _ _).mp a) ((slt_iff _ _).mp b)
  · have h := congrFun h3 (ix1 i)
    unfold Cert.Pre_tables.fn Cert.Pre_tables.fn_part1 at h
    simp only [pointwise] at h
    obtain ⟨a, b⟩ := (and_iff _ _).mp h
    exact small _ 8 (by decide) ((sge_iff _ _).mp a) ((slt_iff _ _).mp b)
  · have h := congrFun h4 (ix1 0)
    unfold Cert.Pre_tables.fn Cert.Pre_tables.fn_part1 at h
    simp only [pointwise] at h
    obtain rfl : i = 0 := Fin.ext hi
    exact (eq_iff _ _).mp h
  · have h := congrFun h5 (ix1 0)
    unfold Cert.Pre_tables.fn Cert.Pre_tables.fn_part1 at h
    simp only [pointwise] at h
    obtain rfl : i = 335 := Fin.ext hi
    exact (slt_iff _ _).mp h
  · have h := k6 s t hst
    obtain ⟨a, b⟩ := (and_iff _ _).mp ((pick _ _ _ h).1 ((eq_iff _ _).mpr ht))
    exact ⟨(sge_iff _ _).mp a, (eq_iff _ _).mp b⟩
  · have h := k6 s t hst
    obtain ⟨ab, c⟩ := (and_iff _ _).mp ((pick _ _ _ h).2 (fun q => ht ((eq_iff _ _).mp q)))
    obtain ⟨a, b⟩ := (and_iff _ _).mp ab
    exact ⟨((eq_iff _ _).mp a).symm, ((eq_iff _ _).mp b).symm, (sge_congr _ _ _ _ ((eq_iff _ _).mp c)).symm⟩

/-- A word below eight is one of the eight. -/
theorem eight (x : BitVec 32) (h : x.toNat < 8) : ∃ v : Fin 8, x = BitVec.ofNat 32 v.val :=
  ⟨⟨x.toNat, h⟩, by simp⟩

end Cert.Tables

end
-- ==== Proof.Down.TablesIdeal.lean ====
/- The experts' second product: the tables that the precondition admits keep every block inside its array, and say of each
   other what the points need. -/
module

public import proofs.«01_k».proof.Proof.Down.RunIdeal
public import proofs.«01_k».proof.Proof.Down.Words

@[expose] public section

set_option maxRecDepth 16384

noncomputable section

namespace Cert.DownIdeal.Hand

open Cert.DownIdeal Cert.DownIdeal.Gen
open Idealize.ShloMosaic Idealize.ShloMosaic.TcCoe

variable {F : FTy → Type} [FloatOps F]

variable (m : (ℓ : Loc nD τ sig) → Buf (Elt F) ℓ)

/-- What the precondition says of the launched tables. -/
abbrev Told : Prop := ∀ c : Dev nD, Cert.Tables.Says
  (m ((c.tc : Thread nD τ).loc main_arg0)) (m ((c.tc : Thread nD τ).loc main_arg1))
  (m ((c.tc : Thread nD τ).loc main_arg2)) (m ((c.tc : Thread nD τ).loc main_arg3))

/-- Point `t` reads word `t` of its tables. -/
theorem off_val : ∀ t : Fin grid0.N, k0_off1 (grid0.coords t) 0 = t.val := by decide +kernel

/-- A point's number, as an index of the tables. -/
abbrev pt (t : Fin grid0.N) : Fin 336 := ⟨t.val, t.isLt⟩

theorem eAt_eq (c : Dev nD) (t : Fin grid0.N) : eAt m c t = m ((c.tc : Thread nD τ).loc main_arg1) (ix1 (pt t)) := by
  obtain rfl : c = 0 := Subsingleton.elim _ _
  refine congrArg (m (((0 : Dev nD).tc : Thread nD τ).loc main_arg1)) ?_
  funext a
  refine Fin.ext ?_
  match a with
  | ⟨0, _⟩ => exact (Nat.add_zero _).trans (off_val t)
theorem gAt_eq (c : Dev nD) (t : Fin grid0.N) : gAt m c t = m ((c.tc : Thread nD τ).loc main_arg2) (ix1 (pt t)) := by
  obtain rfl : c = 0 := Subsingleton.elim _ _
  refine congrArg (m (((0 : Dev nD).tc : Thread nD τ).loc main_arg2)) ?_
  funext a
  refine Fin.ext ?_
  match a with
  | ⟨0, _⟩ => exact (Nat.add_zero _).trans (off_val t)
theorem nAt_eq (c : Dev nD) (t : Fin grid0.N) : nAt m c t = m ((c.tc : Thread nD τ).loc main_arg3) (ix1 (pt t)) := by
  obtain rfl : c = 0 := Subsingleton.elim _ _
  refine congrArg (m (((0 : Dev nD).tc : Thread nD τ).loc main_arg3)) ?_
  funext a
  refine Fin.ext ?_
  match a with
  | ⟨0, _⟩ => exact (Nat.add_zero _).trans (off_val t)

/-- The index maps at point `t`: the row block that the first table names. -/
theorem ix_first (i : grid0.Coords) : cc0_transform_0 k0_off1_inb numel1_S1 (tbl m) i 0
    = (m (((0 : Dev nD).tc : Thread nD τ).loc main_arg0) (ix1 ⟨k0_off1 i 0, by have := k0_off1_inb i 0; exact this⟩)).toNat := by
  refine congrArg (fun q => (m (((0 : Dev nD).tc : Thread nD τ).loc main_arg0) q : BitVec 32).toNat) ?_
  funext a
  refine Fin.ext ?_
  match a with
  | ⟨0, _⟩ => exact Nat.add_zero _
theorem ix_second (i : grid0.Coords) : cc0_transform_2 k0_off1_inb numel1_S1 (tbl m) i = cc0_transform_0 k0_off1_inb numel1_S1 (tbl m) i := rfl

/-- A coordinate is its point's number. -/
theorem off_lt : ∀ i : grid0.Coords, k0_off1 i 0 < 336 := fun i => by have := k0_off1_inb i 0; exact this

variable {m}

theorem ix_row (hT : Told m) (i : grid0.Coords) : cc0_transform_0 k0_off1_inb numel1_S1 (tbl m) i 0 = k0_off1 i 0 := by
  rw [ix_first, (hT 0).rows]
  have := off_lt i
  show (BitVec.ofNat 32 (k0_off1 i 0)).toNat = _
  rw [BitVec.toNat_ofNat]
  omega

/-- The blocks are inside their arrays. -/
theorem ok_of (hT : Told m) : Ok m := by
  have hb : ∀ (i : grid0.Coords) (a : Fin 2), (cc0_transform_0 k0_off1_inb numel1_S1 (tbl m) i a + 1) * S256x1024.size a ≤ S86016x1024.size a := by
    intro i a
    have h := off_lt i
    match a with
    | ⟨0, _⟩ =>
      show (cc0_transform_0 k0_off1_inb numel1_S1 (tbl m) i 0 + 1) * 256 ≤ 86016
      rw [ix_row hT]; omega
    | ⟨1, _⟩ => exact (by decide : (0 + 1) * 1024 ≤ 1024)
  have hc : ∀ (i : grid0.Coords) (a : Fin 2), (cc0_transform_2 k0_off1_inb numel1_S1 (tbl m) i a + 1) * S256x4096.size a ≤ S86016x4096.size a := by
    intro i a
    have h := off_lt i
    match a with
    | ⟨0, _⟩ =>
      show (cc0_transform_0 k0_off1_inb numel1_S1 (tbl m) i 0 + 1) * 256 ≤ 86016
      rw [ix_row hT]; omega
    | ⟨1, _⟩ => exact (by decide : (0 + 1) * 4096 ≤ 4096)
  exact ⟨fun i => ⟨hb i, .inr (Affine.block_words_dvd (of_decide_eq_true rfl) (by decide))⟩, fun i => ⟨hc i, .inl rfl⟩⟩

/-- The conditions of the body on three bits of flags. -/
theorem cond2_small : ∀ v : Fin 8, k0_cond2 (BitVec.ofNat 32 v.val) = 1#1 ↔ BitVec.ofNat 32 v.val &&& 1#32 = 1#32 := by decide +kernel
theorem cond3_small : ∀ v : Fin 8, k0_cond3 (BitVec.ofNat 32 v.val) = 1#1 ↔ (4#32).sle (BitVec.ofNat 32 v.val) = true := by decide +kernel
theorem last_small : ∀ v : Fin 8, (BitVec.ofNat 32 v.val).slt 4#32 = true → ¬ (4#32).sle (BitVec.ofNat 32 v.val) = true := by decide +kernel
theorem used_small : ∀ v : Fin 8, (k0_cond4 (BitVec.ofNat 32 v.val) = 1#1 ∧ ¬ k0_cond5 (BitVec.ofNat 32 v.val) = 1#1)
    ∨ (¬ k0_cond4 (BitVec.ofNat 32 v.val) = 1#1 ∧ k0_cond5 (BitVec.ofNat 32 v.val) = 1#1) := by decide +kernel
theorem cond4_small : ∀ v : Fin 8, k0_cond4 (BitVec.ofNat 32 v.val) = 1#1 ↔ BitVec.ofNat 32 v.val &&& 2#32 = 2#32 := by decide +kernel

/-- A word below 64 names an expert. -/
theorem fits_of (e : BitVec 32) (h : e.toNat < 64) : Fits e := by
  intro a
  match a with
  | ⟨0, _⟩ => show e.toNat + 1 ≤ 64; omega
  | ⟨1, _⟩ => exact (by decide : 0 + 1024 ≤ 1024)
  | ⟨2, _⟩ => exact (by decide : 0 + 4096 ≤ 4096)

/-- The tables say of each other what the points need. -/
theorem chain_of (hT : Told m) (c : Dev nD) : Chain m c := by
  have hS := hT c
  have hv : ∀ t, ∃ v : Fin 8, gAt m c t = BitVec.ofNat 32 v.val := fun t => by
    rw [gAt_eq]; exact Cert.Tables.eight _ (hS.flags (pt t))
  have h2 : ∀ t, k0_cond2 (gAt m c t) = 1#1 ↔ gAt m c t &&& 1#32 = 1#32 := fun t => by
    obtain ⟨v, e⟩ := hv t; rw [e]; exact cond2_small v
  have h3 : ∀ t, k0_cond3 (gAt m c t) = 1#1 ↔ (4#32).sle (gAt m c t) = true := fun t => by
    obtain ⟨v, e⟩ := hv t; rw [e]; exact cond3_small v
  have fe : ∀ t, Fits (eAt m c t) := fun t => by
    rw [eAt_eq]; exact fits_of _ (hS.expert (pt t))
  have last : ∀ t : Fin grid0.N, t.val = 335 → ¬ k0_cond3 (gAt m c t) = 1#1 := fun t ht => by
    rw [h3]
    have := hS.last (pt t) ht
    rw [← gAt_eq m c t] at this
    obtain ⟨v, e⟩ := hv t
    rw [e] at this ⊢
    exact last_small v this
  have turn : ∀ s t : Fin grid0.N, t.val = s.val + 1 → k0_cond2 (gAt m c t) = 1#1 → k0_cond3 (gAt m c s) = 1#1 ∧ nAt m c s = eAt m c t := fun s t hst h => by
    rw [h2, gAt_eq] at h
    rw [h3, gAt_eq, nAt_eq, eAt_eq]
    exact hS.turn (pt s) (pt t) hst h
  have same : ∀ s t : Fin grid0.N, t.val = s.val + 1 → ¬ k0_cond2 (gAt m c t) = 1#1 →
      eAt m c s = eAt m c t ∧ nAt m c s = nAt m c t ∧ (k0_cond3 (gAt m c s) = 1#1 ↔ k0_cond3 (gAt m c t) = 1#1) := fun s t hst h => by
    rw [h2, gAt_eq] at h
    rw [h3, h3, gAt_eq, gAt_eq, nAt_eq, nAt_eq, eAt_eq, eAt_eq]
    exact hS.same (pt s) (pt t) hst h
  have fn : ∀ (d : Nat) (t : Fin grid0.N), t.val + d = 335 → k0_cond3 (gAt m c t) = 1#1 → Fits (nAt m c t) := by
    intro d
    induction d with
    | zero => intro t ht h; exact absurd h (last t ht)
    | succ d ih =>
      intro t ht h
      have hlt : t.val + 1 < grid0.N := by show _ < 336; omega
      by_cases c2 : k0_cond2 (gAt m c ⟨t.val + 1, hlt⟩) = 1#1
      · rw [(turn t ⟨t.val + 1, hlt⟩ rfl c2).2]; exact fe _
      · obtain ⟨-, en, ea⟩ := same t ⟨t.val + 1, hlt⟩ rfl c2
        rw [en]
        exact ih ⟨t.val + 1, hlt⟩ (by show t.val + 1 + d = 335; omega) (ea.mp h)
  exact {
    fe := fe
    fn := fun t h => fn (335 - t.val) t (by have : t.val < 336 := t.isLt; omega) h
    used := fun t => by obtain ⟨v, e⟩ := hv t; rw [e]; exact used_small v
    first := fun t ht => by
      rw [h2, gAt_eq]; exact hS.first (pt t) ht
    last := last
    turn := turn
    same := same }

end Cert.DownIdeal.Hand

end
-- ==== Proof.Down.ValueIdeal.lean ====
/- The experts' second product: the array that the call leaves, element by element, at the ideal instance. -/
module

public import proofs.«01_k».proof.Proof.Down.TablesIdeal
public import Idealize.ShloMosaic.Lib.Pointwise
public import Idealize.ShloMosaic.Lib.StableHlo.RunRead

@[expose] public section

set_option maxRecDepth 16384

noncomputable section

namespace Cert.DownIdeal.Hand

open Cert.DownIdeal Cert.DownIdeal.Gen
open Idealize.ShloMosaic Idealize.ShloMosaic.TcCoe
open Idealize.ShloMosaic.Tactic
open Finset

/-- An element of the product in block `i`: the row times the column of the matrix of the block's expert, or zero where the
    block is not used. -/
def prodIn (e g : IVec S336 32) (a : FVec Ideal S86016x1024 .bf16) (w : FVec Ideal S64x1024x4096 .f32)
    (he : ∀ i : Fin 336, (e (ix1 i)).toNat < 64) (i : Fin 336) (r : Fin 86016) (x : Fin 4096) : EReal :=
  if g (ix1 i) &&& 2#32 = 2#32 then ∑ k : Fin 1024, a (ix2 r k) * w (ix3 ⟨(e (ix1 i)).toNat, he i⟩ k x) else 0

/-- An element of the product: row `r` is in block `r / 256`. -/
def prod (e g : IVec S336 32) (a : FVec Ideal S86016x1024 .bf16) (w : FVec Ideal S64x1024x4096 .f32)
    (he : ∀ i : Fin 336, (e (ix1 i)).toNat < 64) (r : Fin 86016) (x : Fin 4096) : EReal :=
  prodIn e g a w he ⟨r.val / 256, by have := r.isLt; omega⟩ r x

/-- The product of a block, at an element. -/
theorem pay3_at (a : Vec Ideal S256x1024 .bf16) (w : Vec Ideal S1024x4096 .bf16) (r : Fin 256) (j : Fin 4096) :
    k0_pay3 a w (ix2 r j) = ∑ k : Fin 1024, a (ix2 r k) * w (ix2 k j) := by
  unfold k0_pay3
  simp only [pointwise, Ideal.matmul_def, Ideal.matmul]
  rw [zero_add, DotDims.sum_contr₁ _ (a := 1) rfl rfl]
  refine Finset.sum_congr rfl fun k _ => ?_
  congr 2
  all_goals
    funext p
    fin_cases p <;> rfl

/-- The blank block, at an element. -/
theorem pay1_at (i : S256x4096.Idx) : k0_pay1 (F := Ideal) i = 0 := by
  unfold k0_pay1
  simp only [pointwise, Ideal.ofBits_def]

/-- The narrowed matrix, at an element: the same. -/
theorem pay2_at (w : Vec Ideal S1024x4096 .f32) (i : S1024x4096.Idx) : k0_pay2 w i = w i := by
  unfold k0_pay2
  simp only [shapeCast_self]
  rfl

/-- An expert's matrix, at an element. -/
theorem wexp_at (c : Dev nD) (X : MB (F := Ideal) c wd) (e : BitVec 32) (h : Fits e) (he : e.toNat < 64) (k : Fin 1024) (x : Fin 4096) :
    wexp c X e h (ix2 k x) = X (ix3 ⟨e.toNat, he⟩ k x) := by
  have q : ∀ hn : S1024x4096.numel = S1x1024x4096.numel, Shape.reshapeEquiv hn (ix2 k x : S1024x4096.Idx) = (ix3 0 k x : S1x1024x4096.Idx) := by
    intro hn
    refine (Equiv.symm_apply_eq S1x1024x4096.rowMajor).mpr (Fin.ext ?_)
    show (S1024x4096.rowMajor (ix2 k x)).val = (S1x1024x4096.rowMajor (ix3 0 k x)).val
    rw [Shape.rowMajor_val_two, Shape.rowMajor_val_three]
    show k.val * 4096 + x.val = (0 * 1024 + k.val) * 4096 + x.val
    omega
  have q2 : (expert e h).view.emb (ix2 k x) = ix3 ⟨e.toNat, he⟩ k x := by
    refine Eq.trans (b := (wd.slice (Rect.unit (s := S64x1024x4096) (k0_off2 e) S1x1024x4096.size h) (fun _ => rfl)).view.emb (ix3 0 k x : S1x1024x4096.Idx))
      (congrArg (wd.slice (Rect.unit (s := S64x1024x4096) (k0_off2 e) S1x1024x4096.size h) (fun _ => rfl)).view.emb (q (by decide))) ?_
    funext p
    refine Fin.ext ?_
    match p with
    | ⟨0, _⟩ => show e.toNat + 1 * 0 = e.toNat; omega
    | ⟨1, _⟩ => show 0 + 1 * k.val = k.val; omega
    | ⟨2, _⟩ => show 0 + 1 * x.val = x.val; omega
  exact congrArg X q2

section Kernel

variable {m : (ℓ : Loc nD τ sig) → Buf (Elt Ideal) ℓ}

/-- The result's blocks are those of the points. -/
theorem coord_val : ∀ t : Fin grid0.N, (grid0.coords t 0).val = t.val := by decide +kernel

/-- Two points with the same block are the same. -/
theorem index_inj (hT : Told m) (t t' : Fin (cfgM m (ok_of hT)).N)
    (h : ((cfgM m (ok_of hT)).win 1).index t = ((cfgM m (ok_of hT)).win 1).index t') : t = t' := by
  have e := congrFun h (0 : Fin 2)
  refine Fin.ext ?_
  have e1 : ((cfgM m (ok_of hT)).win 1).index t (0 : Fin 2) = t.val := (ix_row hT (grid0.coords t)).trans (off_val t)
  have e2 : ((cfgM m (ok_of hT)).win 1).index t' (0 : Fin 2) = t'.val := (ix_row hT (grid0.coords t')).trans (off_val t')
  exact e1.symm.trans (e.trans e2)

/-- Every point stores its block. -/
theorem flush1 (hT : Told m) (t : Fin (cfgM m (ok_of hT)).N) : ((cfgM m (ok_of hT)).win 1).flush t = true := by
  unfold Pipeline.Window.flush
  rw [Bool.and_eq_true]
  refine ⟨rfl, ?_⟩
  rw [Bool.or_eq_true, decide_eq_true_eq, decide_eq_true_eq]
  by_cases h : t.val + 1 = (cfgM m (ok_of hT)).grid.N
  · exact Or.inl h
  · refine Or.inr ⟨Nat.lt_of_le_of_ne t.isLt h, fun e => ?_⟩
    have := congrArg Fin.val (index_inj hT _ _ e)
    exact absurd this (Nat.succ_ne_self _)

/-- A point's block of the array after the call. -/
theorem blocks1 (hT : Told m) (hC : ∀ c, Chain m c) (c : Dev nD) (t : Fin (cfgM m (ok_of hT)).N) :
    (((cfgM m (ok_of hT)).win 1).blk t).view.read (Elt Ideal) ((dats m (ok_of hT) hC 0 c).arrAt 1 (cfgM m (ok_of hT)).N)
      = (dats m (ok_of hT) hC 0 c).flushed 1 t :=
  (dats m (ok_of hT) hC 0 c).read_blk_arrAt_eq_flushed 1
    (fun t t' _ _ hne => ((cfgM m (ok_of hT)).win 1).disjoint_blk fun h => hne (index_inj hT t t' h)) _ t t.isLt (flush1 hT t)

/-- An element of a point's block of rows. -/
theorem in0 (hT : Told m) (c : Dev nD) (t : Fin (cfgM m (ok_of hT)).N) (r' : Fin 256) (k : Fin 1024) (r : Fin 86016) (hr : r.val = t.val * 256 + r'.val) :
    iblk m (ok_of hT) c 0 t (ix2 r' k) = m ((c : Thread nD τ).loc main_arg4) (ix2 r k) := by
  refine Eq.trans (b := m ((c : Thread nD τ).loc main_arg4) ((((cfgM m (ok_of hT)).win 0).blk t).view.emb (ix2 r' k))) rfl ?_
  refine congrArg (m ((c : Thread nD τ).loc main_arg4)) ?_
  funext p
  refine Fin.ext ?_
  have h0 := (ix_row hT (grid0.coords t)).trans (off_val t)
  match p with
  | ⟨0, _⟩ =>
    show cc0_transform_0 k0_off1_inb numel1_S1 (tbl m) (grid0.coords t) 0 * 256 + 1 * r'.val = r.val
    rw [h0]; omega
  | ⟨1, _⟩ =>
    show 0 * 1024 + 1 * k.val = k.val
    omega

/-- A point's expert's matrix, narrowed, at an element. -/
theorem hw_at (hT : Told m) {c : Dev nD} (hC : Chain m c) (t : Fin grid0.N) (k : Fin 1024) (x : Fin 4096) :
    hw hC t (ix2 k x) = m ((c.tc : Thread nD τ).loc main_arg5) (ix3 ⟨(m ((c.tc : Thread nD τ).loc main_arg1) (ix1 (pt t)) : BitVec 32).toNat, (hT c).expert _⟩ k x) := by
  have he := eAt_eq m c t
  refine (pay2_at _ _).trans ((wexp_at c _ _ _ (by rw [he]; exact (hT c).expert (pt t)) k x).trans ?_)
  refine congrArg (m ((c.tc : Thread nD τ).loc main_arg5)) ?_
  funext p
  refine Fin.ext ?_
  match p with
  | ⟨0, _⟩ =>
    show (eAt m c t : BitVec 32).toNat = (m ((c.tc : Thread nD τ).loc main_arg1) (ix1 (pt t)) : BitVec 32).toNat
    rw [he]
  | ⟨1, _⟩ => rfl
  | ⟨2, _⟩ => rfl

/-- What a point leaves, at an element. -/
theorem res_at (hT : Told m) {c : Dev nD} (hC : Chain m c) (t : Fin grid0.N) (a : Vec Ideal S256x1024 .bf16) (r : Fin 86016) (x : Fin 4096) (r' : Fin 256)
    (ht : t.val = r.val / 256) (ha : ∀ k, a (ix2 r' k) = m ((c.tc : Thread nD τ).loc main_arg4) (ix2 r k)) :
    res hC t a (ix2 r' x)
      = prod (m ((c.tc : Thread nD τ).loc main_arg1)) (m ((c.tc : Thread nD τ).loc main_arg2)) (m ((c.tc : Thread nD τ).loc main_arg4))
          (m ((c.tc : Thread nD τ).loc main_arg5)) (hT c).expert r x := by
  have hg := gAt_eq m c t
  have ep : pt t = ⟨r.val / 256, by have := r.isLt; omega⟩ := Fin.ext ht
  obtain ⟨v, ev⟩ := Cert.Tables.eight _ ((hT c).flags (pt t))
  have h4 := cond4_small v
  rw [← ev] at h4
  unfold res prod
  rw [hg, ← ep]
  unfold prodIn
  by_cases c4 : k0_cond4 (m ((c.tc : Thread nD τ).loc main_arg2) (ix1 (pt t))) = 1#1
  · rw [if_pos c4, if_pos (h4.mp c4)]
    refine (pay3_at _ _ r' x).trans (Finset.sum_congr rfl fun k _ => ?_)
    rw [ha k, hw_at hT hC t k x]
  · rw [if_neg c4, if_neg (fun q => c4 (h4.mpr q))]
    exact pay1_at _

/-- An element of a point's block of the result, in the array. -/
theorem read_at (hT : Told m) (c : Dev nD) (t : Fin (cfgM m (ok_of hT)).N) (f : Buf (Elt Ideal) ((c.tc : Thread nD τ).loc main_v0))
    (r' : Fin 256) (x : Fin 4096) (r : Fin 86016) (hr : r.val = t.val * 256 + r'.val) :
    (((cfgM m (ok_of hT)).win 1).blk t).view.read (Elt Ideal) f (ix2 r' x) = f (ix2 r x) := by
  refine Eq.trans (b := f ((((cfgM m (ok_of hT)).win 1).blk t).view.emb (ix2 r' x))) rfl ?_
  refine congrArg f ?_
  funext p
  refine Fin.ext ?_
  have h0 := (ix_row hT (grid0.coords t)).trans (off_val t)
  match p with
  | ⟨0, _⟩ =>
    show cc0_transform_0 k0_off1_inb numel1_S1 (tbl m) (grid0.coords t) 0 * 256 + 1 * r'.val = r.val
    rw [h0]; omega
  | ⟨1, _⟩ =>
    show 0 * 4096 + 1 * x.val = x.val
    omega

/-- The array after the call, at an element. -/
theorem arr_at (hT : Told m) (hC : ∀ c, Chain m c) (c : Dev nD) (r : Fin 86016) (x : Fin 4096) :
    (dats m (ok_of hT) hC 0 c).arrAt 1 (cfgM m (ok_of hT)).N (ix2 r x)
      = prod (m ((c.tc : Thread nD τ).loc main_arg1)) (m ((c.tc : Thread nD τ).loc main_arg2)) (m ((c.tc : Thread nD τ).loc main_arg4))
          (m ((c.tc : Thread nD τ).loc main_arg5)) (hT c).expert r x := by
  have hr := r.isLt
  obtain ⟨t, ht⟩ : ∃ t : Fin (cfgM m (ok_of hT)).N, t.val = r.val / 256 := ⟨⟨r.val / 256, by show _ < 336; omega⟩, rfl⟩
  obtain ⟨r', hr'⟩ : ∃ r' : Fin 256, r'.val = r.val % 256 := ⟨⟨r.val % 256, Nat.mod_lt _ (by decide)⟩, rfl⟩
  have e2 : (dats m (ok_of hT) hC 0 c).flushed 1 t (ix2 r' x)
      = prod (m ((c.tc : Thread nD τ).loc main_arg1)) (m ((c.tc : Thread nD τ).loc main_arg2)) (m ((c.tc : Thread nD τ).loc main_arg4))
          (m ((c.tc : Thread nD τ).loc main_arg5)) (hT c).expert r x :=
    (congrFun (after0_1 m (ok_of hT) hC c t) _).trans
      (res_at hT (hC c) t _ r x r' ht fun k => in0 hT c t r' k r (by rw [ht, hr']; omega))
  exact (read_at hT c t _ r' x r (by rw [ht, hr']; omega)).symm.trans ((congrFun (blocks1 hT hC c t) _).trans e2)

end Kernel

end Cert.DownIdeal.Hand

end
-- ==== Proof.Down.Reference.lean ====
/- The experts' second product: the reference's array, element by element, at the ideal instance. -/
module

public import proofs.«01_k».proof.Proof.Down.ValueIdeal
public import proofs.«01_k».proof.Proof.Gen.DownReferenceIdeal.Run
public import proofs.«01_k».proof.Proof.Gen.DownReferenceIdeal.Read

@[expose] public section

set_option maxRecDepth 16384

noncomputable section

namespace Cert.DownReferenceIdeal.Hand

open Cert.DownReferenceIdeal Cert.DownReferenceIdeal.Gen Cert.DownReferenceIdeal.Read
open Idealize.ShloMosaic
open Cert.DownIdeal.Hand (prod prodIn)
open Finset

/-- The float zero is zero. -/
theorem zero_bits : (FloatOps.ofBits .f32 0x00000000#32 : Ideal .f32) = (0 : EReal) := by
  simp only [pointwise, Ideal.ofBits_def]

variable (e g : IVec S336 32) (a : FVec Ideal S86016x1024 .bf16) (w : FVec Ideal S64x1024x4096 .f32)

/-- A row of a block times a column of an expert's matrix. -/
theorem dot_at (i : Fin 336) (r' : Fin 256) (j : Fin 64) (x : Fin 4096) (r : Fin 86016) (hr : r.val = i.val * 256 + r'.val) :
    val_main_v2 (F := Ideal) a w (ix4 i r' j x) = ∑ k : Fin 1024, a (ix2 r k) * w (ix3 j k x) := by
  rw [val_main_v2_apply]
  refine Finset.sum_congr rfl fun k _ => ?_
  rw [val_main_v1_apply, val_main_v0_apply]
  have hk := k.isLt
  have hr' := r'.isLt
  have e0 : idx_main_v1 (lidx_main_v2 (ix4 i r' j x) k) = ix2 r k := by
    funext p
    refine Fin.ext ?_
    match p with
    | ⟨0, _⟩ => show ((i.val * 256 + r'.val) * 1024 + k.val) / 1024 = r.val; omega
    | ⟨1, _⟩ => show ((i.val * 256 + r'.val) * 1024 + k.val) % 1024 = k.val; omega
  have e1 : ridx_main_v2 (ix4 i r' j x) k = ix3 j k x := by
    funext p
    match p with
    | ⟨0, _⟩ => rfl
    | ⟨1, _⟩ => rfl
    | ⟨2, _⟩ => rfl
  rw [e0, e1]
  rfl

/-- The mask of a block's own expert. -/
theorem own_at (i : Fin 336) (r' : Fin 256) (j : Fin 64) (x : Fin 4096) :
    val_main_call0_v1 (F := Ideal) e (ix4 i r' j x) = IntOp.cmpi .eq (e (ix1 i)) (BitVec.ofNat 32 j.val) := by
  rw [val_main_call0_v1_apply, val_main_v9_apply, val_main_v8_apply, val_main_v6_apply, val_main_v3_apply, val_main_v7_apply,
    val_main_v5_apply, val_main_v4_apply]
  refine congrArg (fun q => IntOp.cmpi .eq (e q) (BitVec.ofNat 32 j.val)) ?_
  funext p
  match p with
  | ⟨0, _⟩ => rfl

/-- The mask of the used blocks. -/
theorem used_at (i : Fin 336) (r' : Fin 256) (x : Fin 4096) :
    val_main_call1_v1 (F := Ideal) g (ix3 i r' x) = IntOp.cmpi .eq (g (ix1 i) &&& 2#32) 2#32 := by
  rw [val_main_call1_v1_apply, val_main_v16_apply, val_main_v15_apply, val_main_v13_apply, val_main_v14_apply, val_main_v12_apply]
  refine congrArg (fun q => IntOp.cmpi .eq (g q &&& 2#32) 2#32) ?_
  funext p
  match p with
  | ⟨0, _⟩ => rfl

/-- The sum over the experts has one term: the block's own. -/
theorem sum_at (he : ∀ i : Fin 336, (e (ix1 i)).toNat < 64) (i : Fin 336) (r' : Fin 256) (x : Fin 4096) (r : Fin 86016) (hr : r.val = i.val * 256 + r'.val) :
    val_main_v11 (F := Ideal) e a w (ix3 i r' x) = ∑ k : Fin 1024, a (ix2 r k) * w (ix3 ⟨(e (ix1 i)).toNat, he i⟩ k x) := by
  rw [val_main_v11_apply, val_main_cst_0_apply, zero_bits, zero_add]
  have ei : ∀ j : Fin 64, idx_main_v11 (ix3 i r' x) j = ix4 i r' j x := fun j => by
    funext p
    match p with
    | ⟨0, _⟩ => rfl
    | ⟨1, _⟩ => rfl
    | ⟨2, _⟩ => rfl
    | ⟨3, _⟩ => rfl
  rw [Finset.sum_eq_single (⟨(e (ix1 i)).toNat, he i⟩ : Fin 64)]
  · rw [ei, val_main_v10_apply, own_at]
    have h : IntOp.cmpi .eq (e (ix1 i)) (BitVec.ofNat 32 (e (ix1 i)).toNat) = 1#1 := (Cert.Tables.eq_iff _ _).mpr (by simp)
    unfold Scalar.select
    exact (if_pos h).trans (dot_at a w i r' _ x r hr)
  · intro j _ hj
    rw [ei, val_main_v10_apply, own_at]
    have h : ¬ IntOp.cmpi .eq (e (ix1 i)) (BitVec.ofNat 32 j.val) = 1#1 := fun q => hj (Fin.ext (by
      have := (Cert.Tables.eq_iff _ _).mp q
      show j.val = (e (ix1 i)).toNat
      rw [this, BitVec.toNat_ofNat]
      have := j.isLt
      omega))
    unfold Scalar.select
    refine (if_neg h).trans ?_
    rw [val_main_call0_v2_apply, val_main_call0_v0_apply, val_main_cst_apply]
    exact zero_bits
  · intro h; exact absurd (Finset.mem_univ _) h

/-- The reference's array, at an element. -/
theorem ref_at (he : ∀ i : Fin 336, (e (ix1 i)).toNat < 64) (r : Fin 86016) (x : Fin 4096) :
    val_main_v18 (F := Ideal) e g a w (ix2 r x) = prod e g a w he r x := by
  have hr := r.isLt
  have hx := x.isLt
  obtain ⟨i, hi⟩ : ∃ i : Fin 336, i.val = r.val / 256 := ⟨⟨r.val / 256, by omega⟩, rfl⟩
  obtain ⟨r', hr'⟩ : ∃ r' : Fin 256, r'.val = r.val % 256 := ⟨⟨r.val % 256, Nat.mod_lt _ (by decide)⟩, rfl⟩
  have ei : idx_main_v18 (ix2 r x) = ix3 i r' x := by
    funext p
    refine Fin.ext ?_
    match p with
    | ⟨0, _⟩ => show (r.val * 4096 + x.val) / 1048576 = i.val; omega
    | ⟨1, _⟩ => show (r.val * 4096 + x.val) / 4096 % 256 = r'.val; omega
    | ⟨2, _⟩ => show (r.val * 4096 + x.val) % 4096 = x.val; omega
  have ep : (⟨r.val / 256, by omega⟩ : Fin 336) = i := Fin.ext hi.symm
  rw [val_main_v18_apply, ei, val_main_v17_apply, used_at, sum_at e a w he i r' x r (by omega)]
  unfold prod
  rw [ep]
  unfold prodIn Scalar.select
  by_cases h : g (ix1 i) &&& 2#32 = 2#32
  · rw [if_pos h]
    exact if_pos ((Cert.Tables.eq_iff _ _).mpr h)
  · rw [if_neg h]
    refine (if_neg (fun q => h ((Cert.Tables.eq_iff _ _).mp q))).trans ?_
    rw [val_main_call1_v2_apply, val_main_call1_v0_apply, val_main_cst_2_apply]
    exact zero_bits

end Cert.DownReferenceIdeal.Hand

end
-- ==== Proof.Down.lean ====
/- The claims of the experts' second product. -/
module

public import proofs.«01_k».proof.Proof.Down.TablesIdeal
public import proofs.«01_k».proof.Proof.Down.Reference
public import proofs.«01_k».proof.Proof.Gen.Down.Launch
public import proofs.«01_k».proof.Proof.Gen.Down.Skeleton
public import proofs.«01_k».proof.Defs

@[expose] public section

set_option maxRecDepth 16384

noncomputable section

namespace Cert.Experts

open Idealize.ShloMosaic Idealize.ShloMosaic.TcCoe Idealize.SL.Sem

section Same
variable {F : FTy → Type} [FloatOps F]

/-- Nothing was replaced: the two programs' bodies are one text. -/
theorem bodies : @Cert.Down.defs₀ F _ Cert.Down.Gen.facts = @Cert.DownIdeal.defs₀ F _ Cert.DownIdeal.Gen.facts :=
  congrArg Defs.onTc (funext fun l => funext fun a => match l, a with
    | 0, (t, s) => rfl
    | ⟨n + 1, h⟩, _ => absurd h (Nat.not_lt.2 (Nat.le_add_left _ _)))
/-- So are the two programs. -/
theorem same : @Cert.Down.defs F _ Cert.Down.Gen.facts = @Cert.DownIdeal.defs F _ Cert.DownIdeal.Gen.facts :=
  congrArg (Pipeline.defs (@Cert.DownIdeal.pcfgs F _ Cert.DownIdeal.Gen.facts)) bodies
end Same

/-- The precondition, as what the tables say (the kernel's words). -/
theorem told_bits (m : (ℓ : Loc Cert.Down.nD Cert.Down.τ Cert.Down.sig) → Buf (Elt Bits) ℓ)
    (h : Cert.Pre_Down (hPre_tables := Cert.Pre_tables.Gen.facts) m) : Cert.DownIdeal.Hand.Told m := fun c =>
  Cert.Tables.tables_say _ _ _ _ _ _ (h c).1 (h c).2.1 (h c).2.2.1 (h c).2.2.2.1 (h c).2.2.2.2.1 (h c).2.2.2.2.2

/-- The precondition, as what the tables say (at the ideal instance). -/
theorem told (m : (ℓ : Loc Cert.DownIdeal.nD Cert.DownIdeal.τ Cert.DownIdeal.sig) → Buf (Elt Ideal) ℓ)
    (h : Cert.Pre_DownIdeal (hPre_tables := Cert.Pre_tables.Gen.facts) m) : Cert.DownIdeal.Hand.Told m := fun c =>
  Cert.Tables.tables_say _ _ _ _ _ _ (h c).1 (h c).2.1 (h c).2.2.1 (h c).2.2.2.1 (h c).2.2.2.2.1 (h c).2.2.2.2.2

/-- The kernel ends from any memory whose tables meet the precondition, with its arguments as launched and every counter at
    zero. -/
theorem frame : Cert.quiescent_Down (hDown := Cert.Down.Gen.facts) (hPre_tables := Cert.Pre_tables.Gen.facts) := by
  intro m g h
  rw [same]
  exact Cert.DownIdeal.Hand.frame m g (Cert.DownIdeal.Hand.ok_of (told_bits m h)) (Cert.DownIdeal.Hand.chain_of (told_bits m h))

/-- So does the idealized kernel. -/
theorem frame_ideal : Cert.quiescent_DownIdeal (hDownIdeal := Cert.DownIdeal.Gen.facts) (hPre_tables := Cert.Pre_tables.Gen.facts) :=
  fun m g h => Cert.DownIdeal.Hand.frame m g (Cert.DownIdeal.Hand.ok_of (told m h)) (Cert.DownIdeal.Hand.chain_of (told m h))

/-- The reference ends from any memory, with its arguments as launched and every counter at zero. -/
theorem frame_ref : Cert.quiescent_DownReferenceIdeal (hDownReferenceIdeal := Cert.DownReferenceIdeal.Gen.facts) :=
  fun m g => fun _ => (θ_run Cert.DownReferenceIdeal.defs _ _).mono (fun r h => ⟨fun c => (h c).2, sem_eq_zero_of_no_sems (by decide) r.2⟩)
    (Cert.DownReferenceIdeal.Value.run (F := Ideal) m g)

/-- The same under the precondition. -/
theorem frame_ref_pre : Cert.quiescent_DownReferenceIdeal_pre_tables (hDownReferenceIdeal := Cert.DownReferenceIdeal.Gen.facts)
    (hPre_tables := Cert.Pre_tables.Gen.facts) := fun m g _ => frame_ref m g trivial

/-- The kernel's and the reference's results are equal at the ideal instance. -/
theorem algebraic : Cert.algebraic_DownIdeal_DownReferenceIdeal (hDownIdeal := Cert.DownIdeal.Gen.facts)
    (hDownReferenceIdeal := Cert.DownReferenceIdeal.Gen.facts) (hPre_tables := Cert.Pre_tables.Gen.facts) := by
  intro m g m' g' hpre hagree
  have hT := told m hpre
  have hC := Cert.DownIdeal.Hand.chain_of hT
  have hO := Cert.DownIdeal.Hand.ok_of hT
  refine ⟨fun c => (Cert.DownIdeal.Hand.dats m hO hC 0 c).arrAt 1 (Cert.DownIdeal.Hand.cfgM m hO).N, Cert.DownIdeal.Hand.run_blocks m g hO hC, ?_⟩
  refine (θ_run Cert.DownReferenceIdeal.defs _ _).mono (fun r h c => ⟨?_, (h c).2⟩) (Cert.DownReferenceIdeal.Value.run (F := Ideal) m' g')
  obtain ⟨a0, a1, a2, a3, a4, a5⟩ := hagree c
  rw [(h c).1, Cert.DownReferenceIdeal.Read.val_main_v18_eq, a1, a2, a4, a5]
  funext i
  obtain ⟨p, q, rfl⟩ : ∃ (p : Fin 86016) (q : Fin 4096), i = ix2 p q :=
    ⟨i 0, i 1, by funext a; match a with | ⟨0, _⟩ => rfl | ⟨1, _⟩ => rfl⟩
  exact (Cert.DownReferenceIdeal.Hand.ref_at _ _ _ _ (hT c).expert p q).trans (Cert.DownIdeal.Hand.arr_at hT hC c p q).symm

end Cert.Experts

end
-- ==== Proof.Up.KitIdeal.lean ====
/- The experts' first products, the kernel body at one grid point: the buffers the body is handed, the names of the
   slices it transfers, and what its tables say at the point. -/
module

public import proofs.«01_k».proof.Proof.Gen.UpIdeal.Launch
public import proofs.«01_k».proof.Proof.Gen.UpIdeal.Skeleton
public import Idealize.ShloMosaic.Lib.Pipeline.KitQuiescent
public import Idealize.ShloMosaic.Lib.Pipeline.FrameValue
public import Idealize.ShloMosaic.Lib.Pipeline.FrameBody
public import Idealize.ShloMosaic.Lib.Tactic
public import Idealize.ShloMosaic.Lib.VecWindow
public import Idealize.ShloMosaic.Lib.Pipeline.Value
public import Idealize.ShloMosaic.Lib.Claim
public import Idealize.ShloMosaic.Lib.Pointwise
public import Idealize.ShloMosaic.Lib.StableHlo.RunRead

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The six tables, the two weights, the two half width scratch buffers, the staging buffer, each whole. -/
abbrev tb0 : Memref sig .tc .smem S672 .i32 := Memref.whole main_arg0
abbrev tb1 : Memref sig .tc .smem S672 .i32 := Memref.whole main_arg1
abbrev tb2 : Memref sig .tc .smem S672 .i32 := Memref.whole main_arg2
abbrev tb3 : Memref sig .tc .smem S672 .i32 := Memref.whole main_arg3
abbrev tb4 : Memref sig .tc .smem S672 .i32 := Memref.whole main_arg4
abbrev tb5 : Memref sig .tc .smem S672 .i32 := Memref.whole main_arg5
abbrev wg : Memref sig .tc .hbm S64x4096x1024 .f32 := Memref.whole main_arg7
abbrev wu : Memref sig .tc .hbm S64x4096x1024 .f32 := Memref.whole main_arg8
abbrev wgb : Memref sig .tc .vmem S4096x512 .bf16 := Memref.whole cc0_scratch0
abbrev wub : Memref sig .tc .vmem S4096x512 .bf16 := Memref.whole cc0_scratch1
abbrev stg : Memref sig .tc .vmem S2x4096x512 .f32 := Memref.whole cc0_scratch2

/-- A memref's buffer on core `c`: its contents type, and the buffer held at them. -/
abbrev MB (c : Dev nD) {sp : Space} {S : Shape} {e : EltTy} (M : Memref sig .tc sp S e) : Type := Buf (Elt F) (M.view.loc (c : Thread nD τ))
abbrev tbPt (c : Dev nD) (M : Memref sig .tc .smem S672 .i32) (f : MB (F := F) c M) : sProp 𝕄 :=
  M.view.loc (c : Thread nD τ) ↦{fullShare.right} f
abbrev hbPt (c : Dev nD) {sp : Space} {S : Shape} {e : EltTy} (M : Memref sig .tc sp S e) (f : MB (F := F) c M) : sProp 𝕄 :=
  M.view.loc (c : Thread nD τ) ↦{fullShare} f

/-- The word of a table at grid point `i`, as the body's scalar load reads it. -/
abbrev rd (c : Dev nD) (M : Memref sig .tc .smem S672 .i32) (f : MB (F := F) c M) (i : grid0.Coords) : BitVec 32 :=
  M.view.readAt (Elt F) (Rect.unit (s := S672) (k0_off1 i) S1.size (k0_off1_inb i)).toLoadRect f (Shape.Idx.first (show 0 < S1.numel by decide))

/-- The words name an expert and a half of its columns. -/
abbrev Fits (e h : BitVec 32) : Prop := 512 ∣ (k0_mult1 h).toNat ∧ ∀ a, (k0_off2 e h) a + S1x4096x512.size a ≤ S64x4096x1024.size a

/-- The kernel's own semaphores. -/
def csmA : DmaSems sig S_ := (cc0_scratch3.slice (Rect.unit (s := S2) ![0] S1.size inb_S2_S1_0)).squeeze S_ squeezes_S1_S_
def csmB : DmaSems sig S_ := (cc0_scratch3.slice (Rect.unit (s := S2) ![1] S1.size inb_S2_S1_1)).squeeze S_ squeezes_S1_S_

/-- A half of the columns of an expert's matrix, in either weights; the two halves of the staging buffer. -/
abbrev cut (w : Memref sig .tc .hbm S64x4096x1024 .f32) (e h : BitVec 32) (H : Fits e h) : Memref sig .tc .hbm S4096x512 .f32 :=
  (w.slice (Rect.unit (s := S64x4096x1024) (k0_off2 e h) S1x4096x512.size H.2) (fun _ => rfl)).squeeze S4096x512 squeezes_S1x4096x512_S4096x512
abbrev stgA : Memref sig .tc .vmem S4096x512 .f32 :=
  (stg.slice (Rect.unit (s := S2x4096x512) ![0, 0, 0] S1x4096x512.size inb_S2x4096x512_S1x4096x512_0_0_0) (fun _ => rfl)).squeeze S4096x512 squeezes_S1x4096x512_S4096x512
abbrev stgB : Memref sig .tc .vmem S4096x512 .f32 :=
  (stg.slice (Rect.unit (s := S2x4096x512) ![1, 0, 0] S1x4096x512.size inb_S2x4096x512_S1x4096x512_1_0_0) (fun _ => rfl)).squeeze S4096x512 squeezes_S1x4096x512_S4096x512

@[sl_canon] theorem semA_canon (hh) : (cc0_scratch3.slice (Rect.unit (s := S2) ![0] S1.size hh)).squeeze S_ squeezes_S1_S_ = csmA := rfl
@[sl_canon] theorem semB_canon (hh) : (cc0_scratch3.slice (Rect.unit (s := S2) ![1] S1.size hh)).squeeze S_ squeezes_S1_S_ = csmB := rfl

/-- Nothing in flight: the staging buffer at anything, the semaphores at zero, the weights whole. -/
abbrev idle (c : Dev nD) (X : MB (F := F) c wg) (Y : MB (F := F) c wu) : sProp 𝕄 :=
  iprop((∃ f, hbPt c stg f) ∗ semVal ((c : Thread nD τ), SemLoc.dma csmA.sem) 0 ∗ semVal ((c : Thread nD τ), SemLoc.dma csmB.sem) 0
    ∗ hbPt c wg X ∗ hbPt c wu Y)

/-- A half of the columns of expert `e`'s matrix, read off a weight's contents. -/
abbrev half (w : Memref sig .tc .hbm S64x4096x1024 .f32) (c : Dev nD) (X : MB (F := F) c w) (e h : BitVec 32) (H : Fits e h) : Vec F S4096x512 .f32 :=
  ReadAs.same.apply ((cut w e h H).view.read (Elt F) X)

/-- What the transfers leave in the staging buffer: the one of its first half, and both. -/
abbrev landA (c : Dev nD) (f : MB (F := F) c stg) (a : Vec F S4096x512 .f32) : MB (F := F) c stg := stgA.view.write (Elt F) f a Finset.univ
abbrev landB (c : Dev nD) (f : MB (F := F) c stg) (b : Vec F S4096x512 .f32) : MB (F := F) c stg := stgB.view.write (Elt F) f b Finset.univ

/-- The two transfers of expert `e` in flight, the rest of the weights, and what of the staging buffer is neither half. -/
abbrev flying (c : Dev nD) (X : MB (F := F) c wg) (Y : MB (F := F) c wu) (e h : BitVec 32) (H : Fits e h) (f : MB (F := F) c stg) : sProp 𝕄 :=
  iprop(Transfers.Flight countersEmb (c : Thread nD τ) (SemLoc.dma csmA.sem) () stgA.view.dmaCredit
      iprop((stg.view.loc (c : Thread nD τ) ↦[stgA.view.set]{fullShare} landA c f (half wg c X e h H))
        ∗ (wg.view.loc (c : Thread nD τ) ↦[(cut wg e h H).view.set]{fullShare} X))
    ∗ (wg.view.loc (c : Thread nD τ) ↦[Finset.univ \ (cut wg e h H).view.set]{fullShare} X)
    ∗ Transfers.Flight countersEmb (c : Thread nD τ) (SemLoc.dma csmB.sem) () stgB.view.dmaCredit
      iprop((stg.view.loc (c : Thread nD τ) ↦[stgB.view.set]{fullShare} landB c (landA c f (half wg c X e h H)) (half wu c Y e h H))
        ∗ (wu.view.loc (c : Thread nD τ) ↦[(cut wu e h H).view.set]{fullShare} Y))
    ∗ (wu.view.loc (c : Thread nD τ) ↦[Finset.univ \ (cut wu e h H).view.set]{fullShare} Y)
    ∗ (stg.view.loc (c : Thread nD τ) ↦[(Finset.univ \ stgA.view.set) \ stgB.view.set]{fullShare}
        landB c (landA c f (half wg c X e h H)) (half wu c Y e h H)))

/-- The half width weights at `g` and `u`. -/
abbrev held (c : Dev nD) (g u : Vec F S4096x512 .bf16) : sProp 𝕄 :=
  iprop((∃ k : MB (F := F) c wgb, ⌜wgb.view.read (Elt F) k = g⌝ ∗ hbPt c wgb k)
    ∗ ∃ k : MB (F := F) c wub, ⌜wub.view.read (Elt F) k = u⌝ ∗ hbPt c wub k)

/-- A matrix as one of a stack of one. -/
def lift3 (v : Vec F S4096x512 .f32) : Vec F S1x4096x512 .f32 := fun p => v (ix2 (p 1) (p 2))

/-- The half width weights of expert `e`, as the body stores them. -/
def gateOf (c : Dev nD) (X : MB (F := F) c wg) (e h : BitVec 32) (H : Fits e h) : Vec F S4096x512 .bf16 := k0_pay2 (lift3 (half wg c X e h H))
def upOf (c : Dev nD) (Y : MB (F := F) c wu) (e h : BitVec 32) (H : Fits e h) : Vec F S4096x512 .bf16 := k0_pay3 (lift3 (half wu c Y e h H))

/-- Dropping an axis of one keeps the other coordinates. -/
theorem drop_one (hn : S4096x512.numel = S1x4096x512.numel) (k : Fin 4096) (x : Fin 512) :
    Shape.reshapeEquiv hn (ix2 k x : S4096x512.Idx) = (ix3 0 k x : S1x4096x512.Idx) := by
  refine (Equiv.symm_apply_eq S1x4096x512.rowMajor).mpr (Fin.ext ?_)
  show (S4096x512.rowMajor (ix2 k x)).val = (S1x4096x512.rowMajor (ix3 0 k x)).val
  rw [Shape.rowMajor_val_two, Shape.rowMajor_val_three]
  show k.val * 512 + x.val = (0 * 4096 + k.val) * 512 + x.val
  omega

/-- Where the halves of the staging buffer lie in it. -/
theorem at_first (k : Fin 4096) (x : Fin 512) : stgA.view.emb (ix2 k x) = (ix3 0 k x : S2x4096x512.Idx) := by
  refine Eq.trans (b := (stg.slice (Rect.unit (s := S2x4096x512) ![0, 0, 0] S1x4096x512.size inb_S2x4096x512_S1x4096x512_0_0_0) (fun _ => rfl)).view.emb (ix3 0 k x : S1x4096x512.Idx))
    (congrArg (stg.slice (Rect.unit (s := S2x4096x512) ![0, 0, 0] S1x4096x512.size inb_S2x4096x512_S1x4096x512_0_0_0) (fun _ => rfl)).view.emb (drop_one (by decide) k x)) ?_
  funext p
  refine Fin.ext ?_
  match p with
  | ⟨0, _⟩ => rfl
  | ⟨1, _⟩ => show 0 + 1 * k.val = k.val; omega
  | ⟨2, _⟩ => show 0 + 1 * x.val = x.val; omega
theorem at_second (k : Fin 4096) (x : Fin 512) : stgB.view.emb (ix2 k x) = (ix3 1 k x : S2x4096x512.Idx) := by
  refine Eq.trans (b := (stg.slice (Rect.unit (s := S2x4096x512) ![1, 0, 0] S1x4096x512.size inb_S2x4096x512_S1x4096x512_1_0_0) (fun _ => rfl)).view.emb (ix3 0 k x : S1x4096x512.Idx))
    (congrArg (stg.slice (Rect.unit (s := S2x4096x512) ![1, 0, 0] S1x4096x512.size inb_S2x4096x512_S1x4096x512_1_0_0) (fun _ => rfl)).view.emb (drop_one (by decide) k x)) ?_
  funext p
  refine Fin.ext ?_
  match p with
  | ⟨0, _⟩ => rfl
  | ⟨1, _⟩ => show 0 + 1 * k.val = k.val; omega
  | ⟨2, _⟩ => show 0 + 1 * x.val = x.val; omega

/-- An index of a matrix by its coordinates. -/
theorem pair_eq (q : S4096x512.Idx) : q = ix2 (q 0) (q 1) := by
  funext a
  match a with
  | ⟨0, _⟩ => rfl
  | ⟨1, _⟩ => rfl

/-- The second half of the staging buffer, read as the body reads it. -/
theorem read_second (c : Dev nD) (f : MB (F := F) c stg) (b : Vec F S4096x512 .f32) :
    stg.view.readAt (Elt F) (Rect.unit (s := S2x4096x512) ![1, 0, 0] S1x4096x512.size inb_S2x4096x512_S1x4096x512_1_0_0).toLoadRect (landB c f b) = lift3 b := by
  funext p
  obtain ⟨k, hk⟩ : ∃ k : Fin 4096, k = p 1 := ⟨_, rfl⟩
  obtain ⟨x, hx⟩ : ∃ x : Fin 512, x = p 2 := ⟨_, rfl⟩
  refine Eq.trans ?_ ((congrFun (View.read_write_univ (v := stgB.view) (Val := Elt F) f b) (ix2 k x)).trans (by rw [hk, hx]; rfl))
  refine Eq.trans (b := landB c f b (stgB.view.emb (ix2 k x))) ?_ rfl
  rw [at_second]
  generalize landB c f b = g
  refine congrArg g ?_
  funext a
  refine Fin.ext ?_
  match a with
  | ⟨0, _⟩ => show 1 + 1 * (p 0).val = 1; have h : (p 0).val < 1 := (p 0).isLt; omega
  | ⟨1, _⟩ => show 0 + 1 * (p 1).val = k.val; rw [hk]; omega
  | ⟨2, _⟩ => show 0 + 1 * (p 2).val = x.val; rw [hx]; omega

/-- The first half, under what came into the second. -/
theorem read_first (c : Dev nD) (f : MB (F := F) c stg) (a b : Vec F S4096x512 .f32) :
    stg.view.readAt (Elt F) (Rect.unit (s := S2x4096x512) ![0, 0, 0] S1x4096x512.size inb_S2x4096x512_S1x4096x512_0_0_0).toLoadRect
      (landB c (landA c f a) b) = lift3 a := by
  funext p
  obtain ⟨k, hk⟩ : ∃ k : Fin 4096, k = p 1 := ⟨_, rfl⟩
  obtain ⟨x, hx⟩ : ∃ x : Fin 512, x = p 2 := ⟨_, rfl⟩
  have off : stgA.view.emb (ix2 k x) ∉ stgB.view.setOn Finset.univ := by
    intro h
    obtain ⟨q, -, hq⟩ := Finset.mem_map.mp h
    have e := (at_second (q 0) (q 1)).symm.trans ((congrArg stgB.view.emb (pair_eq q)).symm.trans (hq.trans (at_first k x)))
    exact absurd (congrArg Fin.val (congrFun e 0)) Nat.one_ne_zero
  refine Eq.trans ?_ ((congrFun (View.read_write_univ (v := stgA.view) (Val := Elt F) f a) (ix2 k x)).trans (by rw [hk, hx]; rfl))
  refine Eq.trans (b := landB c (landA c f a) b (stgA.view.emb (ix2 k x))) ?_ (View.write_of_not_mem (v := stgB.view) (Val := Elt F) (landA c f a) b Finset.univ off)
  rw [at_first]
  generalize landB c (landA c f a) b = g
  refine congrArg g ?_
  funext a
  refine Fin.ext ?_
  match a with
  | ⟨0, _⟩ => show 0 + 1 * (p 0).val = 0; have h : (p 0).val < 1 := (p 0).isLt; omega
  | ⟨1, _⟩ => show 0 + 1 * (p 1).val = k.val; rw [hk]; omega
  | ⟨2, _⟩ => show 0 + 1 * (p 2).val = x.val; rw [hx]; omega

/-- The start of a whole block. -/
theorem zz : (![0, 0] : Fin 2 → Nat) = fun _ => 0 := by
  funext a; fin_cases a <;> rfl

section Stored
variable {Val : EltTy → Type} {sg : RefSig} {κ : Kind} {sp : Space} {s : Shape} {e : EltTy}

/-- A store over a whole view leaves what was stored. -/
theorem wrote (v : View sg κ sp s e) (f : v.ty.Contents Val) {off : Fin s.rank → ℕ} (inb : ∀ a, off a + s.size a ≤ s.size a)
    (w : s.Idx → Val e) (L : List (View.Piece Val s e)) :
    v.read Val (v.writes Val f (⟨Rect.unit off s.size inb, w⟩ :: L)) = w := by
  rw [← View.readAt_full v _ inb]
  funext x
  exact View.read_writes_cons_unit_of_mem v f inb w L _ x rfl fun a => by
    show off a + 1 * (x a).val = off a + (x a).val
    rw [one_mul]
end Stored

end Cert.UpIdeal.Hand

end
-- ==== Proof.Up.BodyIdeal.lean ====
/- The experts' first products, the first part of the kernel body run to its end at each kind of grid point: the first
   point, a point with a new expert or a new half of its columns, a point with those of the one before; with or without
   transfers to start. -/
module

public import proofs.«01_k».proof.Proof.Up.KitIdeal

@[expose] public section

set_option maxRecDepth 16384
set_option sl_exec.dmaWindow true

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The five tables the body reads. -/
abbrev tbls (c : Dev nD) (f1 : MB (F := F) c tb1) (f2 : MB (F := F) c tb2) (f3 : MB (F := F) c tb3) (f4 : MB (F := F) c tb4) (f5 : MB (F := F) c tb5) : sProp 𝕄 :=
  iprop(tbPt c tb1 f1 ∗ tbPt c tb2 f2 ∗ tbPt c tb3 f3 ∗ tbPt c tb4 f4 ∗ tbPt c tb5 f5)

/-- The first part of the body, over the buffers it is given. -/
abbrev first_part (i : grid0.Coords) (arg7 : Memref sig .tc .vmem S256x2048 .i32) (harg7 : arg7.IsWhole) (arg10 : Memref sig .tc .vmem S256x512 .bf16) (harg10 : arg10.IsWhole) :=
  k0_part1 (F := F) i tb0 (Memref.isWhole_whole _) tb1 (Memref.isWhole_whole _) tb2 (Memref.isWhole_whole _) tb3 (Memref.isWhole_whole _)
    tb4 (Memref.isWhole_whole _) tb5 (Memref.isWhole_whole _) arg7 harg7 wg (Memref.isWhole_whole _) wu (Memref.isWhole_whole _) arg10 harg10
    wgb (Memref.isWhole_whole _) wub (Memref.isWhole_whole _) stg (Memref.isWhole_whole _) cc0_scratch3

set_option maxHeartbeats 1000000 in
/-- At the first point the body fetches its expert, waits for it and narrows it, and starts the next transfers. -/
theorem part_first_ahead (c : Dev nD) (i : grid0.Coords)
    (arg7 : Memref sig .tc .vmem S256x2048 .i32) (harg7 : arg7.IsWhole) (arg10 : Memref sig .tc .vmem S256x512 .bf16) (harg10 : arg10.IsWhole)
    (f1 : MB (F := F) c tb1) (f2 : MB (F := F) c tb2) (f3 : MB (F := F) c tb3) (f4 : MB (F := F) c tb4) (f5 : MB (F := F) c tb5)
    (X : MB (F := F) c wg) (Y : MB (F := F) c wu)
    (e h fl ne nh : BitVec 32) (hh : rd c tb1 f1 i = h) (he : rd c tb2 f2 i = e) (hfl : rd c tb3 f3 i = fl) (hne : rd c tb4 f4 i = ne) (hnh : rd c tb5 f5 i = nh)
    (h1 : Fits e h) (h3 : Fits ne nh) (c1 : k0_cond1 i = 1#1) (c2 : k0_cond2 fl = 1#1) (c3 : k0_cond3 fl = 1#1)
    (W : Waits sig Unit) (K : _ → sProp 𝕄) :
    iprop(owes (c : Thread nD τ) 0 W
        ∗ tbls c f1 f2 f3 f4 f5
        ∗ (∃ g, hbPt c wgb g)
        ∗ (∃ g, hbPt c wub g)
        ∗ idle c X Y
        ∗ (∀ p q r s, (iprop((∃ W', owes (c : Thread nD τ) 0 W')
        ∗ tbls c f1 f2 f3 f4 f5
        ∗ held c (gateOf c X e h h1) (upOf c Y e h h1)
        ∗ (∃ f, flying c X Y ne nh h3 f)) -∗ K ⟨fl, p, q, r, s⟩)))
      ⊢ wp frame (wpE (defs₀ (F := F)) Variants.none c none) Set.univ (first_part i arg7 harg7 arg10 harg10) K := by
  unfold first_part
  simp only [k0_part1_eq_skeleton]; unfold k0_part1_skel
  iintro ⟨HW, ⟨HT1, HT2, HT3, HT4, HT5⟩, ⟨%gw, Hg⟩, ⟨%gu, Hu⟩, ⟨⟨%fs, Hs⟩, HA, HB, HX, HY⟩, Hk⟩
  sl_exec
  rw [show part_first_ahead.sl.r c i f3 = fl from hfl, show part_first_ahead.sl.r_1 c i f2 = e from he, show part_first_ahead.sl.r_2 c i f1 = h from hh]
  have k1 : k0_chk1 i fl e h := ⟨fun _ => h1.1, fun _ => h1.2, fun _ => h1.1, fun _ => h1.2⟩
  sl_exec
  rw [show part_first_ahead.sl.r_3 c i f4 = ne from hne, show part_first_ahead.sl.r_4 c i f5 = nh from hnh]
  have k2 : k0_chk2 fl ne nh := ⟨fun _ _ => h3.1, fun _ _ => h3.2⟩
  sl_exec
  sl_step
  iapply Hk
  isplitl [HW]; · iexists _; iexact HW
  isplitl [HT1 HT2 HT3 HT4 HT5]
  · isplitl [HT1]; · iexact HT1
    isplitl [HT2]; · iexact HT2
    isplitl [HT3]; · iexact HT3
    isplitl [HT4]; · iexact HT4
    iexact HT5
  isplitl [Hg Hu]
  · isplitl [Hg]
    · iexists _; isplitr; swap; · iexact Hg
      ipureintro
      rw [wrote]
      exact congrArg k0_pay2 (read_first c fs _ _)
    · iexists _; isplitr; swap; · iexact Hu
      ipureintro
      rw [wrote]
      exact congrArg k0_pay3 (read_second c _ _)
  iexists _
  isplitl [HA]; · iexact HA
  isplitl [HX]; · iexact HX
  isplitl [HB]; · iexact HB
  isplitl [HY]; · iexact HY
  iexact Hs

set_option maxHeartbeats 1000000 in
/-- At the first point the body fetches its expert, waits for it and narrows it. -/
theorem part_first (c : Dev nD) (i : grid0.Coords)
    (arg7 : Memref sig .tc .vmem S256x2048 .i32) (harg7 : arg7.IsWhole) (arg10 : Memref sig .tc .vmem S256x512 .bf16) (harg10 : arg10.IsWhole)
    (f1 : MB (F := F) c tb1) (f2 : MB (F := F) c tb2) (f3 : MB (F := F) c tb3) (f4 : MB (F := F) c tb4) (f5 : MB (F := F) c tb5)
    (X : MB (F := F) c wg) (Y : MB (F := F) c wu)
    (e h fl ne nh : BitVec 32) (hh : rd c tb1 f1 i = h) (he : rd c tb2 f2 i = e) (hfl : rd c tb3 f3 i = fl) (hne : rd c tb4 f4 i = ne) (hnh : rd c tb5 f5 i = nh)
    (h1 : Fits e h) (c1 : k0_cond1 i = 1#1) (c2 : k0_cond2 fl = 1#1) (c3 : ¬ k0_cond3 fl = 1#1)
    (W : Waits sig Unit) (K : _ → sProp 𝕄) :
    iprop(owes (c : Thread nD τ) 0 W
        ∗ tbls c f1 f2 f3 f4 f5
        ∗ (∃ g, hbPt c wgb g)
        ∗ (∃ g, hbPt c wub g)
        ∗ idle c X Y
        ∗ (∀ p q r s, (iprop((∃ W', owes (c : Thread nD τ) 0 W')
        ∗ tbls c f1 f2 f3 f4 f5
        ∗ held c (gateOf c X e h h1) (upOf c Y e h h1)
        ∗ idle c X Y) -∗ K ⟨fl, p, q, r, s⟩)))
      ⊢ wp frame (wpE (defs₀ (F := F)) Variants.none c none) Set.univ (first_part i arg7 harg7 arg10 harg10) K := by
  unfold first_part
  simp only [k0_part1_eq_skeleton]; unfold k0_part1_skel
  iintro ⟨HW, ⟨HT1, HT2, HT3, HT4, HT5⟩, ⟨%gw, Hg⟩, ⟨%gu, Hu⟩, ⟨⟨%fs, Hs⟩, HA, HB, HX, HY⟩, Hk⟩
  sl_exec
  rw [show part_first.sl.r c i f3 = fl from hfl, show part_first.sl.r_1 c i f2 = e from he, show part_first.sl.r_2 c i f1 = h from hh]
  have k1 : k0_chk1 i fl e h := ⟨fun _ => h1.1, fun _ => h1.2, fun _ => h1.1, fun _ => h1.2⟩
  sl_exec
  rw [show part_first.sl.r_3 c i f4 = ne from hne, show part_first.sl.r_4 c i f5 = nh from hnh]
  have k2 : k0_chk2 fl ne nh := ⟨fun _ h => absurd h c3, fun _ h => absurd h c3⟩
  sl_exec
  sl_step
  iapply Hk
  isplitl [HW]; · iexists _; iexact HW
  isplitl [HT1 HT2 HT3 HT4 HT5]
  · isplitl [HT1]; · iexact HT1
    isplitl [HT2]; · iexact HT2
    isplitl [HT3]; · iexact HT3
    isplitl [HT4]; · iexact HT4
    iexact HT5
  isplitl [Hg Hu]
  · isplitl [Hg]
    · iexists _; isplitr; swap; · iexact Hg
      ipureintro
      rw [wrote]
      exact congrArg k0_pay2 (read_first c fs _ _)
    · iexists _; isplitr; swap; · iexact Hu
      ipureintro
      rw [wrote]
      exact congrArg k0_pay3 (read_second c _ _)
  isplitl [Hs]; · iexists _; iexact Hs
  isplitl [HA]; · iexact HA
  isplitl [HB]; · iexact HB
  isplitl [HX]; · iexact HX
  iexact HY

set_option maxHeartbeats 1000000 in
/-- At a turn the body waits for its expert and narrows it, and starts the next transfers. -/
theorem part_turn_ahead (c : Dev nD) (i : grid0.Coords)
    (arg7 : Memref sig .tc .vmem S256x2048 .i32) (harg7 : arg7.IsWhole) (arg10 : Memref sig .tc .vmem S256x512 .bf16) (harg10 : arg10.IsWhole)
    (f1 : MB (F := F) c tb1) (f2 : MB (F := F) c tb2) (f3 : MB (F := F) c tb3) (f4 : MB (F := F) c tb4) (f5 : MB (F := F) c tb5)
    (X : MB (F := F) c wg) (Y : MB (F := F) c wu)
    (e h fl ne nh : BitVec 32) (hh : rd c tb1 f1 i = h) (he : rd c tb2 f2 i = e) (hfl : rd c tb3 f3 i = fl) (hne : rd c tb4 f4 i = ne) (hnh : rd c tb5 f5 i = nh)
    (h1 : Fits e h) (h3 : Fits ne nh) (c1 : ¬ k0_cond1 i = 1#1) (c2 : k0_cond2 fl = 1#1) (c3 : k0_cond3 fl = 1#1)
    (W : Waits sig Unit) (K : _ → sProp 𝕄) :
    iprop(owes (c : Thread nD τ) 0 W
        ∗ tbls c f1 f2 f3 f4 f5
        ∗ (∃ g, hbPt c wgb g)
        ∗ (∃ g, hbPt c wub g)
        ∗ (∃ f, flying c X Y e h h1 f)
        ∗ (∀ p q r s, (iprop((∃ W', owes (c : Thread nD τ) 0 W')
        ∗ tbls c f1 f2 f3 f4 f5
        ∗ held c (gateOf c X e h h1) (upOf c Y e h h1)
        ∗ (∃ f, flying c X Y ne nh h3 f)) -∗ K ⟨fl, p, q, r, s⟩)))
      ⊢ wp frame (wpE (defs₀ (F := F)) Variants.none c none) Set.univ (first_part i arg7 harg7 arg10 harg10) K := by
  unfold first_part
  simp only [k0_part1_eq_skeleton]; unfold k0_part1_skel
  iintro ⟨HW, ⟨HT1, HT2, HT3, HT4, HT5⟩, ⟨%gw, Hg⟩, ⟨%gu, Hu⟩, ⟨%fs, HA, HX, HB, HY, Hs⟩, Hk⟩
  sl_exec
  rw [show part_turn_ahead.sl.r c i f3 = fl from hfl, show part_turn_ahead.sl.r_1 c i f2 = e from he, show part_turn_ahead.sl.r_2 c i f1 = h from hh]
  have k1 : k0_chk1 i fl e h := ⟨fun _ => h1.1, fun _ => h1.2, fun _ => h1.1, fun _ => h1.2⟩
  sl_exec
  rw [show part_turn_ahead.sl.r_3 c i f4 = ne from hne, show part_turn_ahead.sl.r_4 c i f5 = nh from hnh]
  have k2 : k0_chk2 fl ne nh := ⟨fun _ _ => h3.1, fun _ _ => h3.2⟩
  sl_exec
  sl_step
  iapply Hk
  isplitl [HW]; · iexists _; iexact HW
  isplitl [HT1 HT2 HT3 HT4 HT5]
  · isplitl [HT1]; · iexact HT1
    isplitl [HT2]; · iexact HT2
    isplitl [HT3]; · iexact HT3
    isplitl [HT4]; · iexact HT4
    iexact HT5
  isplitl [Hg Hu]
  · isplitl [Hg]
    · iexists _; isplitr; swap; · iexact Hg
      ipureintro
      rw [wrote]
      exact congrArg k0_pay2 (read_first c fs _ _)
    · iexists _; isplitr; swap; · iexact Hu
      ipureintro
      rw [wrote]
      exact congrArg k0_pay3 (read_second c _ _)
  iexists _
  isplitl [HA]; · iexact HA
  isplitl [HX]; · iexact HX
  isplitl [HB]; · iexact HB
  isplitl [HY]; · iexact HY
  iexact Hs

set_option maxHeartbeats 1000000 in
/-- At a turn the body waits for its expert and narrows it. -/
theorem part_turn (c : Dev nD) (i : grid0.Coords)
    (arg7 : Memref sig .tc .vmem S256x2048 .i32) (harg7 : arg7.IsWhole) (arg10 : Memref sig .tc .vmem S256x512 .bf16) (harg10 : arg10.IsWhole)
    (f1 : MB (F := F) c tb1) (f2 : MB (F := F) c tb2) (f3 : MB (F := F) c tb3) (f4 : MB (F := F) c tb4) (f5 : MB (F := F) c tb5)
    (X : MB (F := F) c wg) (Y : MB (F := F) c wu)
    (e h fl ne nh : BitVec 32) (hh : rd c tb1 f1 i = h) (he : rd c tb2 f2 i = e) (hfl : rd c tb3 f3 i = fl) (hne : rd c tb4 f4 i = ne) (hnh : rd c tb5 f5 i = nh)
    (h1 : Fits e h) (c1 : ¬ k0_cond1 i = 1#1) (c2 : k0_cond2 fl = 1#1) (c3 : ¬ k0_cond3 fl = 1#1)
    (W : Waits sig Unit) (K : _ → sProp 𝕄) :
    iprop(owes (c : Thread nD τ) 0 W
        ∗ tbls c f1 f2 f3 f4 f5
        ∗ (∃ g, hbPt c wgb g)
        ∗ (∃ g, hbPt c wub g)
        ∗ (∃ f, flying c X Y e h h1 f)
        ∗ (∀ p q r s, (iprop((∃ W', owes (c : Thread nD τ) 0 W')
        ∗ tbls c f1 f2 f3 f4 f5
        ∗ held c (gateOf c X e h h1) (upOf c Y e h h1)
        ∗ idle c X Y) -∗ K ⟨fl, p, q, r, s⟩)))
      ⊢ wp frame (wpE (defs₀ (F := F)) Variants.none c none) Set.univ (first_part i arg7 harg7 arg10 harg10) K := by
  unfold first_part
  simp only [k0_part1_eq_skeleton]; unfold k0_part1_skel
  iintro ⟨HW, ⟨HT1, HT2, HT3, HT4, HT5⟩, ⟨%gw, Hg⟩, ⟨%gu, Hu⟩, ⟨%fs, HA, HX, HB, HY, Hs⟩, Hk⟩
  sl_exec
  rw [show part_turn.sl.r c i f3 = fl from hfl, show part_turn.sl.r_1 c i f2 = e from he, show part_turn.sl.r_2 c i f1 = h from hh]
  have k1 : k0_chk1 i fl e h := ⟨fun _ => h1.1, fun _ => h1.2, fun _ => h1.1, fun _ => h1.2⟩
  sl_exec
  rw [show part_turn.sl.r_3 c i f4 = ne from hne, show part_turn.sl.r_4 c i f5 = nh from hnh]
  have k2 : k0_chk2 fl ne nh := ⟨fun _ h => absurd h c3, fun _ h => absurd h c3⟩
  sl_exec
  sl_step
  iapply Hk
  isplitl [HW]; · iexists _; iexact HW
  isplitl [HT1 HT2 HT3 HT4 HT5]
  · isplitl [HT1]; · iexact HT1
    isplitl [HT2]; · iexact HT2
    isplitl [HT3]; · iexact HT3
    isplitl [HT4]; · iexact HT4
    iexact HT5
  isplitl [Hg Hu]
  · isplitl [Hg]
    · iexists _; isplitr; swap; · iexact Hg
      ipureintro
      rw [wrote]
      exact congrArg k0_pay2 (read_first c fs _ _)
    · iexists _; isplitr; swap; · iexact Hu
      ipureintro
      rw [wrote]
      exact congrArg k0_pay3 (read_second c _ _)
  isplitl [Hs]; · iexists _; iexact Hs
  isplitl [HA]; · iexact HA
  isplitl [HB]; · iexact HB
  isplitl [HX]; · iexact HX
  iexact HY

set_option maxHeartbeats 1000000 in
/-- Elsewhere the first part does nothing. -/
theorem part_same (c : Dev nD) (i : grid0.Coords)
    (arg7 : Memref sig .tc .vmem S256x2048 .i32) (harg7 : arg7.IsWhole) (arg10 : Memref sig .tc .vmem S256x512 .bf16) (harg10 : arg10.IsWhole)
    (f1 : MB (F := F) c tb1) (f2 : MB (F := F) c tb2) (f3 : MB (F := F) c tb3) (f4 : MB (F := F) c tb4) (f5 : MB (F := F) c tb5)
    (X : MB (F := F) c wg) (Y : MB (F := F) c wu)
    (e h fl ne nh : BitVec 32) (hh : rd c tb1 f1 i = h) (he : rd c tb2 f2 i = e) (hfl : rd c tb3 f3 i = fl) (hne : rd c tb4 f4 i = ne) (hnh : rd c tb5 f5 i = nh)
    (h1 : Fits e h) (c1 : ¬ k0_cond1 i = 1#1) (c2 : ¬ k0_cond2 fl = 1#1)
    (W : Waits sig Unit) (K : _ → sProp 𝕄) :
    iprop(owes (c : Thread nD τ) 0 W
        ∗ tbls c f1 f2 f3 f4 f5
        ∗ (∀ p q r s, (iprop((∃ W', owes (c : Thread nD τ) 0 W')
        ∗ tbls c f1 f2 f3 f4 f5) -∗ K ⟨fl, p, q, r, s⟩)))
      ⊢ wp frame (wpE (defs₀ (F := F)) Variants.none c none) Set.univ (first_part i arg7 harg7 arg10 harg10) K := by
  unfold first_part
  simp only [k0_part1_eq_skeleton]; unfold k0_part1_skel
  iintro ⟨HW, ⟨HT1, HT2, HT3, HT4, HT5⟩, Hk⟩
  sl_exec
  rw [show part_same.sl.r c i f3 = fl from hfl, show part_same.sl.r_1 c i f2 = e from he, show part_same.sl.r_2 c i f1 = h from hh]
  have k1 : k0_chk1 i fl e h := ⟨fun _ => h1.1, fun _ => h1.2, fun _ => h1.1, fun _ => h1.2⟩
  sl_exec
  rw [show part_same.sl.r_3 c i f4 = ne from hne, show part_same.sl.r_4 c i f5 = nh from hnh]
  have k2 : k0_chk2 fl ne nh := ⟨fun h => absurd h c2, fun h => absurd h c2⟩
  sl_exec
  sl_step
  iapply Hk
  isplitl [HW]; · iexists _; iexact HW
  isplitl [HT1]; · iexact HT1
  isplitl [HT2]; · iexact HT2
  isplitl [HT3]; · iexact HT3
  isplitl [HT4]; · iexact HT4
  iexact HT5

end Cert.UpIdeal.Hand

end
-- ==== Proof.Up.StepIdeal.lean ====
/- The experts' first products, from one grid point to the next: what the tables say of each other, what the points hand
   on, and the body at any point between the two. -/
module

public import proofs.«01_k».proof.Proof.Up.BodyIdeal

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The buffers when the call begins: as launched. -/
abbrev V (c : Dev nD) (b : Ref sig .tc) : Buf (Elt F) ((c : Thread nD τ).loc b) := m ((c : Thread nD τ).loc b)

/-- The tables' contents when the call begins. -/
def tbl : pre0.Contents (Elt F) := fun j => V m (0 : Dev nD) (pre0.ref j)

/-- The half, the expert, the flags, the next expert and its half of a grid point. -/
abbrev hAt (c : Dev nD) (t : Fin grid0.N) : BitVec 32 := rd (F := F) c tb1 (tbl m 1) (grid0.coords t)
abbrev eAt (c : Dev nD) (t : Fin grid0.N) : BitVec 32 := rd (F := F) c tb2 (tbl m 2) (grid0.coords t)
abbrev gAt (c : Dev nD) (t : Fin grid0.N) : BitVec 32 := rd (F := F) c tb3 (tbl m 3) (grid0.coords t)
abbrev nAt (c : Dev nD) (t : Fin grid0.N) : BitVec 32 := rd (F := F) c tb4 (tbl m 4) (grid0.coords t)
abbrev nhAt (c : Dev nD) (t : Fin grid0.N) : BitVec 32 := rd (F := F) c tb5 (tbl m 5) (grid0.coords t)

/-- What the tables say of each other: they name experts and halves; the first point fetches its own; the last starts no
    transfer; a point with a new expert or half finds its transfers started by the ones before, and a point with those of
    the one before repeats what that one says. -/
structure Chain (c : Dev nD) : Prop where
  fe : ∀ t, Fits (eAt m c t) (hAt m c t)
  fn : ∀ t, k0_cond3 (gAt m c t) = 1#1 → Fits (nAt m c t) (nhAt m c t)
  used : ∀ t, (k0_cond4 (gAt m c t) = 1#1 ∧ ¬ k0_cond5 (gAt m c t) = 1#1) ∨ (¬ k0_cond4 (gAt m c t) = 1#1 ∧ k0_cond5 (gAt m c t) = 1#1)
  first : ∀ t : Fin grid0.N, t.val = 0 → k0_cond2 (gAt m c t) = 1#1
  last : ∀ t : Fin grid0.N, t.val = 671 → ¬ k0_cond3 (gAt m c t) = 1#1
  turn : ∀ s t : Fin grid0.N, t.val = s.val + 1 → k0_cond2 (gAt m c t) = 1#1 →
    k0_cond3 (gAt m c s) = 1#1 ∧ nAt m c s = eAt m c t ∧ nhAt m c s = hAt m c t
  same : ∀ s t : Fin grid0.N, t.val = s.val + 1 → ¬ k0_cond2 (gAt m c t) = 1#1 →
    eAt m c s = eAt m c t ∧ hAt m c s = hAt m c t ∧ nAt m c s = nAt m c t ∧ nhAt m c s = nhAt m c t
      ∧ (k0_cond3 (gAt m c s) = 1#1 ↔ k0_cond3 (gAt m c t) = 1#1)

variable {m}

/-- A point's expert's matrices, narrowed. -/
abbrev gw {c : Dev nD} (hC : Chain m c) (t : Fin grid0.N) : Vec F S4096x512 .bf16 := gateOf c (V m c main_arg7) (eAt m c t) (hAt m c t) (hC.fe t)
abbrev uw {c : Dev nD} (hC : Chain m c) (t : Fin grid0.N) : Vec F S4096x512 .bf16 := upOf c (V m c main_arg8) (eAt m c t) (hAt m c t) (hC.fe t)

/-- The first and the last rows of a matrix. -/
def top (w : Vec F S4096x512 .bf16) : Vec F S2048x512 .bf16 := fun p => w (ix2 ⟨(p 0).val, Nat.lt_of_lt_of_le (p 0).isLt (by decide)⟩ (p 1))
def bot (w : Vec F S4096x512 .bf16) : Vec F S2048x512 .bf16 := fun p => w (ix2 ⟨2048 + (p 0).val, by have h : (p 0).val < 2048 := (p 0).isLt; omega⟩ (p 1))

/-- What a point leaves of its block: the gated product, or zeros. -/
def res {c : Dev nD} (hC : Chain m c) (t : Fin grid0.N) (x : Vec F S256x2048 .i32) : Vec F S256x512 .bf16 :=
  if k0_cond4 (gAt m c t) = 1#1 then k0_pay4 x (top (gw hC t)) (bot (gw hC t)) (top (uw hC t)) (bot (uw hC t)) else k0_pay1

/-- The transfers a point has started, or nothing. -/
def started {c : Dev nD} (hC : Chain m c) (t : Fin grid0.N) : sProp 𝕄 :=
  if h : k0_cond3 (gAt m c t) = 1#1 then iprop(∃ g, flying c (V m c main_arg7) (V m c main_arg8) (nAt m c t) (nhAt m c t) (hC.fn t h) g)
  else idle c (V m c main_arg7) (V m c main_arg8)

/-- What a point hands on: its expert's matrices, narrowed; and the next transfers in flight, or nothing. -/
def carryAt {c : Dev nD} (hC : Chain m c) (t : Fin grid0.N) : sProp 𝕄 := iprop(held c (gw hC t) (uw hC t) ∗ started hC t)

/-- What the first `k` points hand on. -/
def carry {c : Dev nD} (hC : Chain m c) : (k : ℕ) → k ≤ grid0.N → sProp 𝕄
  | 0, _ => iprop(((∃ g, hbPt (F := F) c wgb g) ∗ (∃ g, hbPt (F := F) c wub g)) ∗ idle c (V m c main_arg7) (V m c main_arg8))
  | s + 1, h => carryAt hC ⟨s, h⟩

/-- The transfers of equal experts and halves are the same. -/
theorem flying_congr (c : Dev nD) (X : MB (F := F) c wg) (Y : MB (F := F) c wu) (a b p q : BitVec 32) (h : a = b) (k : p = q) (ha : Fits a p) (hb : Fits b q)
    (f : MB (F := F) c stg) : (flying c X Y a p ha f : sProp 𝕄) = flying c X Y b q hb f := by subst h; subst k; rfl

/-- The matrices of equal experts and halves are the same. -/
theorem gate_congr (c : Dev nD) (X : MB (F := F) c wg) (a b p q : BitVec 32) (h : a = b) (k : p = q) (ha : Fits a p) (hb : Fits b q) :
    gateOf c X a p ha = gateOf c X b q hb := by subst h; subst k; rfl
theorem up_congr (c : Dev nD) (X : MB (F := F) c wu) (a b p q : BitVec 32) (h : a = b) (k : p = q) (ha : Fits a p) (hb : Fits b q) :
    upOf c X a p ha = upOf c X b q hb := by subst h; subst k; rfl

/-- The body fetches its own expert at the first point and at no other. -/
theorem cond1_iff : ∀ t : Fin grid0.N, k0_cond1 (grid0.coords t) = 1#1 ↔ t.val = 0 := by decide +kernel

set_option maxHeartbeats 1000000 in
/-- The first part of the body at any point, from what the points before hand on to what this one does. -/
theorem part_step {c : Dev nD} (hC : Chain m c) (t : Fin grid0.N)
    (arg7 : Memref sig .tc .vmem S256x2048 .i32) (harg7 : arg7.IsWhole) (arg10 : Memref sig .tc .vmem S256x512 .bf16) (harg10 : arg10.IsWhole)
    (W : Waits sig Unit) (K : _ → sProp 𝕄) :
    iprop(owes (c : Thread nD τ) 0 W
        ∗ tbls (F := F) c (tbl m 1) (tbl m 2) (tbl m 3) (tbl m 4) (tbl m 5)
        ∗ carry hC t.val (Nat.le_of_lt t.isLt)
        ∗ (∀ p q r s, (iprop((∃ W', owes (c : Thread nD τ) 0 W')
          ∗ tbls (F := F) c (tbl m 1) (tbl m 2) (tbl m 3) (tbl m 4) (tbl m 5)
          ∗ carryAt hC t) -∗ K ⟨gAt m c t, p, q, r, s⟩)))
      ⊢ wp frame (wpE (defs₀ (F := F)) Variants.none c none) Set.univ (first_part (grid0.coords t) arg7 harg7 arg10 harg10) K := by
  unfold carryAt
  obtain ⟨k, hk⟩ := t
  rcases k with _ | s
  · have c1 := (cond1_iff ⟨0, hk⟩).mpr rfl
    have c2 := hC.first ⟨0, hk⟩ rfl
    show iprop(_ ∗ _ ∗ (((∃ g, hbPt (F := F) c wgb g) ∗ (∃ g, hbPt (F := F) c wub g)) ∗ idle c (V m c main_arg7) (V m c main_arg8)) ∗ _) ⊢ _
    unfold started
    by_cases c3 : k0_cond3 (gAt m c ⟨0, hk⟩) = 1#1
    case' pos =>
      rw [dif_pos c3]
      iintro ⟨HW, HT, ⟨⟨Hg, Hu⟩, Hi⟩, Hk⟩
      iapply (part_first_ahead c _ arg7 harg7 arg10 harg10 _ _ _ _ _ _ _ _ _ _ _ _ rfl rfl rfl rfl rfl (hC.fe ⟨0, hk⟩) (hC.fn ⟨0, hk⟩ c3) c1 c2 c3 W K)
    case' neg =>
      rw [dif_neg c3]
      iintro ⟨HW, HT, ⟨⟨Hg, Hu⟩, Hi⟩, Hk⟩
      iapply (part_first c _ arg7 harg7 arg10 harg10 _ _ _ _ _ _ _ _ _ _ _ _ rfl rfl rfl rfl rfl (hC.fe ⟨0, hk⟩) c1 c2 c3 W K)
    all_goals
      isplitl [HW]; · iexact HW
      isplitl [HT]; · iexact HT
      isplitl [Hg]; · iexact Hg
      isplitl [Hu]; · iexact Hu
      isplitl [Hi]; · iexact Hi
      iintro %p %q %r %s ⟨HW, HT, Hh, Hi⟩
      iapply Hk
      isplitl [HW]; · iexact HW
      isplitl [HT]; · iexact HT
      isplitl [Hh]; · iexact Hh
      iexact Hi
  · have hs : s < grid0.N := Nat.lt_of_succ_lt hk
    have c1 : ¬ k0_cond1 (grid0.coords ⟨s + 1, hk⟩) = 1#1 := fun h => Nat.succ_ne_zero s ((cond1_iff ⟨s + 1, hk⟩).mp h)
    show iprop(_ ∗ _ ∗ (held c (gw hC ⟨s, hs⟩) (uw hC ⟨s, hs⟩) ∗ started hC ⟨s, hs⟩) ∗ _) ⊢ _
    by_cases c2 : k0_cond2 (gAt m c ⟨s + 1, hk⟩) = 1#1
    · obtain ⟨ca, en, eh⟩ := hC.turn ⟨s, hs⟩ ⟨s + 1, hk⟩ rfl c2
      unfold started
      rw [dif_pos ca]
      by_cases c3 : k0_cond3 (gAt m c ⟨s + 1, hk⟩) = 1#1
      case' pos =>
        rw [dif_pos c3]
        iintro ⟨HW, HT, ⟨⟨⟨%kg, -, Hg⟩, ⟨%ku, -, Hu⟩⟩, ⟨%f, Hi⟩⟩, Hk⟩
        iapply (part_turn_ahead c _ arg7 harg7 arg10 harg10 _ _ _ _ _ _ _ _ _ _ _ _ rfl rfl rfl rfl rfl (hC.fe ⟨s + 1, hk⟩) (hC.fn ⟨s + 1, hk⟩ c3) c1 c2 c3 W K)
      case' neg =>
        rw [dif_neg c3]
        iintro ⟨HW, HT, ⟨⟨⟨%kg, -, Hg⟩, ⟨%ku, -, Hu⟩⟩, ⟨%f, Hi⟩⟩, Hk⟩
        iapply (part_turn c _ arg7 harg7 arg10 harg10 _ _ _ _ _ _ _ _ _ _ _ _ rfl rfl rfl rfl rfl (hC.fe ⟨s + 1, hk⟩) c1 c2 c3 W K)
      all_goals
        isplitl [HW]; · iexact HW
        isplitl [HT]; · iexact HT
        isplitl [Hg]; · iexists kg; iexact Hg
        isplitl [Hu]; · iexists ku; iexact Hu
        isplitl [Hi]
        · iexists f
          iapply (Entails.of_eq (flying_congr c (V m c main_arg7) (V m c main_arg8) _ _ _ _ en eh (hC.fn ⟨s, hs⟩ ca) (hC.fe ⟨s + 1, hk⟩) f))
          iexact Hi
        iintro %p %q %r %s ⟨HW, HT, Hh, Hi⟩
        iapply Hk
        isplitl [HW]; · iexact HW
        isplitl [HT]; · iexact HT
        isplitl [Hh]; · iexact Hh
        iexact Hi
    · obtain ⟨ee, eh, en, enh, ea⟩ := hC.same ⟨s, hs⟩ ⟨s + 1, hk⟩ rfl c2
      have eg : gw hC ⟨s, hs⟩ = gw hC ⟨s + 1, hk⟩ := gate_congr c (V m c main_arg7) _ _ _ _ ee eh (hC.fe ⟨s, hs⟩) (hC.fe ⟨s + 1, hk⟩)
      have eu : uw hC ⟨s, hs⟩ = uw hC ⟨s + 1, hk⟩ := up_congr c (V m c main_arg8) _ _ _ _ ee eh (hC.fe ⟨s, hs⟩) (hC.fe ⟨s + 1, hk⟩)
      have ef : (started hC ⟨s, hs⟩ : sProp 𝕄) = started hC ⟨s + 1, hk⟩ := by
        unfold started
        by_cases c3 : k0_cond3 (gAt m c ⟨s, hs⟩) = 1#1
        · rw [dif_pos c3, dif_pos (ea.mp c3)]
          refine congrArg _ (funext fun g => ?_)
          exact flying_congr c (V m c main_arg7) (V m c main_arg8) _ _ _ _ en enh (hC.fn ⟨s, hs⟩ c3) (hC.fn ⟨s + 1, hk⟩ (ea.mp c3)) g
        · rw [dif_neg c3, dif_neg (fun h => c3 (ea.mpr h))]
      rw [eg, eu, ef]
      iintro ⟨HW, HT, Hc, Hk⟩
      iapply (part_same c _ arg7 harg7 arg10 harg10 _ _ _ _ _ (V m c main_arg7) (V m c main_arg8) _ _ _ _ _ rfl rfl rfl rfl rfl (hC.fe ⟨s + 1, hk⟩) c1 c2 W K)
      isplitl [HW]; · iexact HW
      isplitl [HT]; · iexact HT
      iintro %p %q %r %s ⟨HW, HT⟩
      iapply Hk
      isplitl [HW]; · iexact HW
      isplitl [HT]; · iexact HT
      iexact Hc

/-- The first and the last rows, read as the body reads them. -/
theorem read_top {sp : Space} (v : View sig .tc sp S4096x512 .bf16) (f : v.ty.Contents (Elt F)) :
    v.readAt (Elt F) (Rect.unit (s := S4096x512) ![0, 0] S2048x512.size inb_S4096x512_S2048x512_0_0).toLoadRect f = top (v.read (Elt F) f) := by
  funext p
  refine congrArg (v.read (Elt F) f) ?_
  funext a
  refine Fin.ext ?_
  match a with
  | ⟨0, _⟩ => show 0 + 1 * (p 0).val = (p 0).val; omega
  | ⟨1, _⟩ => show 0 + 1 * (p 1).val = (p 1).val; omega
theorem read_bot {sp : Space} (v : View sig .tc sp S4096x512 .bf16) (f : v.ty.Contents (Elt F)) :
    v.readAt (Elt F) (Rect.unit (s := S4096x512) ![2048, 0] S2048x512.size inb_S4096x512_S2048x512_2048_0).toLoadRect f = bot (v.read (Elt F) f) := by
  funext p
  refine congrArg (v.read (Elt F) f) ?_
  funext a
  refine Fin.ext ?_
  match a with
  | ⟨0, _⟩ => show 2048 + 1 * (p 0).val = 2048 + (p 0).val; omega
  | ⟨1, _⟩ => show 0 + 1 * (p 1).val = (p 1).val; omega

set_option maxHeartbeats 1000000 in
/-- The body at any point, from what the points before hand on to what this one does. -/
theorem body_step {c : Dev nD} (hC : Chain m c) (t : Fin grid0.N)
    (arg7 : Memref sig .tc .vmem S256x2048 .i32) (harg7 : arg7.IsWhole) (arg10 : Memref sig .tc .vmem S256x512 .bf16) (harg10 : arg10.IsWhole)
    (x : Vec F S256x2048 .i32) (W : Waits sig Unit) (K : PUnit → sProp 𝕄) :
    iprop(owns (c : Thread nD τ) arg7 fullShare x ∗ (∃ d, owns (c : Thread nD τ) arg10 fullShare d)
        ∗ tbls (F := F) c (tbl m 1) (tbl m 2) (tbl m 3) (tbl m 4) (tbl m 5)
        ∗ carry hC t.val (Nat.le_of_lt t.isLt) ∗ owes (c : Thread nD τ) 0 W
        ∗ (iprop(owns (c : Thread nD τ) arg7 fullShare x ∗ owns (c : Thread nD τ) arg10 fullShare (res hC t x)
          ∗ tbls (F := F) c (tbl m 1) (tbl m 2) (tbl m 3) (tbl m 4) (tbl m 5)
          ∗ carryAt hC t ∗ (∃ W', owes (c : Thread nD τ) 0 W')) -∗ K ⟨⟩))
      ⊢ wp frame (wpE (defs₀ (F := F)) Variants.none c none) Set.univ
          (cc0_moe_up (grid0.coords t) tb0 (Memref.isWhole_whole _) tb1 (Memref.isWhole_whole _) tb2 (Memref.isWhole_whole _) tb3 (Memref.isWhole_whole _)
            tb4 (Memref.isWhole_whole _) tb5 (Memref.isWhole_whole _) arg7 harg7 wg (Memref.isWhole_whole _) wu (Memref.isWhole_whole _) arg10 harg10
            wgb (Memref.isWhole_whole _) wub (Memref.isWhole_whole _) stg (Memref.isWhole_whole _) cc0_scratch3) K := by
  simp only [cc0_moe_up_eq_skeleton]; unfold cc0_moe_up_skel
  rw [wp_bind_eq]
  have ps := fun K => part_step hC t arg7 harg7 arg10 harg10 W K
  unfold carryAt at ps ⊢
  iintro ⟨Hx, Ho, HT, Hc, HW, Hk⟩
  iapply (ps _)
  isplitl [HW]; · iexact HW
  isplitl [HT]; · iexact HT
  isplitl [Hc]; · iexact Hc
  iintro %p %q %r %s ⟨HW, HT, ⟨⟨%kg, %eg, Hg⟩, ⟨%ku, %eu, Hu⟩⟩, Hs⟩
  simp only [k0_part2_eq_skeleton]; unfold k0_part2_skel
  unfold owns
  icases Hx with ⟨%f0, %hf0, H0⟩
  icases Ho with ⟨%d1, %g1, -, H1⟩
  obtain rfl := harg7.eq_unread hf0
  rcases hC.used t with ⟨c4, c5⟩ | ⟨c4, c5⟩
  case' inl =>
    sl_exec
    have er : ∀ (L : List (View.Piece (Elt F) S256x512 .bf16)), arg10.view.read (Elt F) (arg10.view.writes (Elt F) g1 (⟨Rect.unit ![0, 0] S256x512.size inb_S256x512_S256x512_0_0,
        k0_pay4 (arg7.view.readAt (Elt F) (Rect.unit (s := S256x2048) ![0, 0] S256x2048.size inb_S256x2048_S256x2048_0_0).toLoadRect (harg7.unread x))
          (wgb.view.readAt (Elt F) (Rect.unit (s := S4096x512) ![0, 0] S2048x512.size inb_S4096x512_S2048x512_0_0).toLoadRect kg)
          (wgb.view.readAt (Elt F) (Rect.unit (s := S4096x512) ![2048, 0] S2048x512.size inb_S4096x512_S2048x512_2048_0).toLoadRect kg)
          (wub.view.readAt (Elt F) (Rect.unit (s := S4096x512) ![0, 0] S2048x512.size inb_S4096x512_S2048x512_0_0).toLoadRect ku)
          (wub.view.readAt (Elt F) (Rect.unit (s := S4096x512) ![2048, 0] S2048x512.size inb_S4096x512_S2048x512_2048_0).toLoadRect ku)⟩ :: L)) = res hC t x := fun L => by
      unfold res
      rw [if_pos c4, wrote, View.readAt_full, harg7.read_unread, read_top, read_bot, read_top, read_bot, eg, eu]
  case' inr =>
    sl_exec
    have er : ∀ (L : List (View.Piece (Elt F) S256x512 .bf16)), arg10.view.read (Elt F) (arg10.view.writes (Elt F) g1 (⟨Rect.unit ![0, 0] S256x512.size inb_S256x512_S256x512_0_0, k0_pay1⟩ :: L)) = res hC t x := fun L => by
      unfold res
      rw [if_neg c4, wrote]
  all_goals
    sl_step
    iapply Hk
    isplitl [H0]
    · iexists _; isplitr; swap; · iexact H0
      ipureintro; exact hf0
    isplitl [H1]
    · iexists _; isplitr; swap; · iexact H1
      ipureintro; exact er []
    isplitl [HT]; · iexact HT
    isplitl [Hg Hu Hs]
    · isplitl [Hg Hu]
      · isplitl [Hg]
        · iexists kg; isplitr; swap; · iexact Hg
          ipureintro; exact eg
        · iexists ku; isplitr; swap; · iexact Hu
          ipureintro; exact eu
      iexact Hs
    iexact HW

end Cert.UpIdeal.Hand

end
-- ==== Proof.Up.RunIdeal.lean ====
/- The experts' first products, the whole call: the body at every grid point under the pipeline, the run, and what it leaves
   of its arguments and of its result. -/
module

public import proofs.«01_k».proof.Proof.Up.StepIdeal

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to the call: the call alone. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- On every device the tables hold what `tbl` says (there is one device). -/
theorem V_pre (c : Dev nD) (j : Fin 6) : V m c (pre0.ref j) = tbl m j := by
  obtain rfl : c = 0 := Subsingleton.elim _ _; rfl
/-- Every block that the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the call hands them to the body, one by one. -/
theorem PhiT0_eq (c : Dev nD) : (Pipeline.ΦT pre0 (tbl m) c : sProp 𝕄)
    = iprop(tbPt (F := F) c tb0 (tbl m 0) ∗ tbPt (F := F) c tb1 (tbl m 1) ∗ tbPt (F := F) c tb2 (tbl m 2) ∗ tbPt (F := F) c tb3 (tbl m 3)
      ∗ tbPt (F := F) c tb4 (tbl m 4) ∗ tbPt (F := F) c tb5 (tbl m 5)) := by
  unfold Pipeline.ΦT Pipeline.prefHeld
  rw [bigSep_univ_eq_bigSepL [(0 : Fin 6), 1, 2, 3, 4, 5] (by decide) (by decide)]
  rfl

/-- A window's block at a point, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The rows' staging buffer holds its block at every point. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Each window's staging buffer at a point. -/
abbrev ms0_0 (hO : Ok m) (t : Fin (cfgM m hO).N) : Memref sig .tc .vmem S256x2048 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x512 .bf16 := spec0_1.stage ((cfgM m hO).slots t 1)
abbrev hs0_1 (hO : Ok m) (t : Fin (cfgM m hO).N) : (ms0_1 m hO t).IsWhole := hstage0_1 (((cfgM m hO).slots t 1).cast nbuf0_1)

/-- The body at a point, as the pipeline calls it. -/
abbrev bodyAt0 (hO : Ok m) (t : Fin (cfgM m hO).N) : Prog (TpuEff nD τ sig (Elt F) Λ₀ .tc) PUnit :=
  cc0_moe_up (grid0.coords t) tb0 (Memref.isWhole_whole _) tb1 (Memref.isWhole_whole _) tb2 (Memref.isWhole_whole _) tb3 (Memref.isWhole_whole _)
    tb4 (Memref.isWhole_whole _) tb5 (Memref.isWhole_whole _) (ms0_0 m hO t) (hs0_0 m hO t) wg (Memref.isWhole_whole _) wu (Memref.isWhole_whole _)
    (ms0_1 m hO t) (hs0_1 m hO t) wgb (Memref.isWhole_whole _) wub (Memref.isWhole_whole _) stg (Memref.isWhole_whole _) cc0_scratch3

/-- The kernel's own semaphores. -/
abbrev osem0 : Fin 2 → SemLoc sig := fun | 0 => SemLoc.dma ⟨4, by decide⟩ | 1 => SemLoc.dma ⟨5, by decide⟩
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma csmA.sem) 0 ∗ semVal ((c : Thread nD τ), SemLoc.dma csmB.sem) 0) := by
  rw [Pipeline.ownSems0_eq_of_list c osem0 [0, 1] (by decide) (by decide)]; rfl
/-- The weights, which the kernel fetches by itself. -/
def H0 : Finset (Ref sig .tc) := {main_arg7, main_arg8}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt c wg (V m c main_arg7) ∗ hbPt c wu (V m c main_arg8)) := by
  rw [BI.bigSep_eq_bigSepL_of_eq [main_arg7, main_arg8] (by decide) (by decide)]; rfl

/-- What the body has of its own when the call begins, one by one. -/
theorem PhiD0_eq (c : Dev nD) :
    (Pipeline.ΦD osem0 spec0 H0 (V m) c : sProp 𝕄)
      = iprop(((∃ g, hbPt (F := F) c wgb g) ∗ (∃ g, hbPt (F := F) c wub g) ∗ (∃ g, hbPt (F := F) c stg g)) ∗ (∃ r, prngReg c r)
          ∗ (semVal ((c : Thread nD τ), SemLoc.dma csmA.sem) 0 ∗ semVal ((c : Thread nD τ), SemLoc.dma csmB.sem) 0)
          ∗ hbPt c wg (V m c main_arg7) ∗ hbPt c wu (V m c main_arg8)) := by
  rw [Pipeline.ΦD_eq, scopedRest0_eq, ownSems00_eq, hbmPts0_eq]

/-- The proof data: the rows' buffer keeps its block, the result's is left at the gated product or zeros, and between the points
    is what they hand on. -/
def dats (hO : Ok m) (hC : ∀ c, Chain m c) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => res (hC c) t (iblk m hO c 0 t)
  Φ t := iprop(carry (hC c) t.val (Nat.le_of_lt_succ t.isLt) ∗ (∃ r, prngReg c r) ∗ Pipeline.ΦT pre0 (tbl m) c)
  q _ := fullShare
  owed _ := 0

theorem A_eq (hO : Ok m) (hC : ∀ c, Chain m c) (c : Dev nD) (w : Fin (cfgM m hO).W) : (dats m hO hC 0 c).A w = V m c (Pipeline.arrRef spec0 w) := by
  dsimp only [dats]
theorem after0_0 (hO : Ok m) (hC : ∀ c, Chain m c) (c : Dev nD) (t : Fin (cfgM m hO).N) : (dats m hO hC 0 c).after 0 t = iblk m hO c 0 t := by dsimp only [dats]; try rfl
theorem after0_1 (hO : Ok m) (hC : ∀ c, Chain m c) (c : Dev nD) (t : Fin (cfgM m hO).N) :
    (dats m hO hC 0 c).after 1 t = res (hC c) t (iblk m hO c 0 t) := by dsimp only [dats]; try rfl
theorem before0_0 (hO : Ok m) (hC : ∀ c, Chain m c) (c : Dev nD) (t : Fin (cfgM m hO).N) (d) : (dats m hO hC 0 c).before 0 t d = iblk m hO c 0 t :=
  before0_0_of m hO (dats m hO hC 0 c) (A_eq m hO hC c 0) (after0_0 m hO hC c) t d
theorem Phi_castSucc (hO : Ok m) (hC : ∀ c, Chain m c) (c : Dev nD) (t : Fin (cfgM m hO).N) :
    (dats m hO hC 0 c).Φ t.castSucc = iprop(carry (hC c) t.val (Nat.le_of_lt t.isLt) ∗ (∃ r, prngReg c r) ∗ Pipeline.ΦT pre0 (tbl m) c) := by
  dsimp only [dats]; rfl
theorem Phi_succ (hO : Ok m) (hC : ∀ c, Chain m c) (c : Dev nD) (t : Fin (cfgM m hO).N) :
    (dats m hO hC 0 c).Φ t.succ = iprop(carryAt (hC c) t ∗ (∃ r, prngReg c r) ∗ Pipeline.ΦT pre0 (tbl m) c) := by
  dsimp only [dats]; rfl

/-- What the body is called with at a point, and what it returns. -/
def bodyPre (hO : Ok m) (hC : ∀ c, Chain m c) (c : Dev nD) (t : Fin (cfgM m hO).N) : sProp 𝕄 :=
  iprop((dats m hO hC 0 c).Φ t.castSucc ∗ (dats m hO hC 0 c).owesAt () t.castSucc
    ∗ (∃ d, owns (c : Thread nD τ) (ms0_0 m hO t) fullShare ((dats m hO hC 0 c).before 0 t d))
    ∗ (∃ d, owns (c : Thread nD τ) (ms0_1 m hO t) fullShare ((dats m hO hC 0 c).before 1 t d)))
def bodyPost (hO : Ok m) (hC : ∀ c, Chain m c) (c : Dev nD) (t : Fin (cfgM m hO).N) : sProp 𝕄 :=
  iprop((dats m hO hC 0 c).Φ t.succ ∗ (dats m hO hC 0 c).owesAt () t.succ
    ∗ owns (c : Thread nD τ) (ms0_0 m hO t) fullShare ((dats m hO hC 0 c).after 0 t)
    ∗ owns (c : Thread nD τ) (ms0_1 m hO t) fullShare ((dats m hO hC 0 c).after 1 t))

/-- The body at any point. -/
theorem sound_body (hO : Ok m) (hC : ∀ c, Chain m c) (c : Dev nD) (t : Fin (cfgM m hO).N) :
    bodyPre m hO hC c t ⊢ wp frame (wpE (defs₀ (F := F)) Variants.none c none) Set.univ (bodyAt0 m hO t) (fun _ => bodyPost m hO hC c t) := by
  unfold bodyPre bodyPost bodyAt0
  simp only [before0_0]
  rw [Phi_castSucc, Phi_succ, after0_0, after0_1, PhiT0_eq]
  unfold Dat.owesAt Pipeline.owesWithin
  rw [show (dats m hO hC 0 c).owed t.castSucc = 0 from rfl, show (dats m hO hC 0 c).owed t.succ = 0 from rfl]
  iintro ⟨⟨Hc, Hg, T0, T⟩, ⟨%W, -, HW⟩, ⟨%d0, H0⟩, ⟨%d1, H1⟩⟩
  iapply (body_step (hC c) t _ _ _ _ (iblk m hO c 0 t) W _)
  isplitl [H0]; · iexact H0
  isplitl [H1]; · iexists _; iexact H1
  isplitl [T]; · iexact T
  isplitl [Hc]; · iexact Hc
  isplitl [HW]; · iexact HW
  iintro ⟨H0, H1, T, Hc, ⟨%W', HW'⟩⟩
  isplitl [Hc Hg T0 T]
  · isplitl [Hc]; · iexact Hc
    isplitl [Hg]; · iexact Hg
    isplitl [T0]; · iexact T0
    iexact T
  isplitl [HW']
  · iexists W'; isplitr; · ipureintro; exact fun _ _ => Or.inl trivial
    iexact HW'
  isplitl [H0]; · iexact H0
  iexact H1

/-- The result's block is stored at every point. -/
theorem idle0_1 (hO : Ok m) (hC : ∀ c, Chain m c) (t : Fin (cfgM m hO).N) : (cfgM m hO).idle (1 : Fin 2) ((cfgM m hO).grid.coords t) = false := by
  have e : (tbl m).atD 3 (k0_off1 (grid0.coords t)) = gAt m 0 t := by
    unfold Pipeline.Prefetch.Contents.atD
    have hb : ∀ a : Fin 1, k0_off1 (grid0.coords t) a + 1 ≤ S672.size a := fun a => by
      fin_cases a
      exact k0_off1_inb (grid0.coords t) 0
    refine Eq.trans (dif_pos hb) ?_
    refine congrArg (tbl m 3) ?_
    funext a
    refine Fin.ext ?_
    fin_cases a
    rfl
  show (!(k0_cond4 ((tbl m).atD 3 (k0_off1 (grid0.coords t))) == 1#1) && !(k0_cond5 ((tbl m).atD 3 (k0_off1 (grid0.coords t))) == 1#1)) = false
  rw [e]
  rcases (hC 0).used t with ⟨h, -⟩ | ⟨-, h⟩ <;> rw [h] <;> simp

theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

/-- The body at every point, as the pipeline asks it. -/
theorem body_obligation (hO : Ok m) (hC : ∀ c, Chain m c) (c : Dev nD) :
    BodyObligation (dats (F := F) m hO hC 0 c) (defs₀ (F := F)) Variants.none () Set.univ := fun t => by
  rw [bigSep_W0, bigSep_W0, defs₀_row m hO]
  rw [idle0_1 m hO hC t]
  exact triple_restated (sound_body m hO hC c t) rfl .rfl fun _ => .rfl

set_option backward.isDefEq.respectTransparency.types false in
/-- The run: it ends, with the arguments as launched, the result at what the points left, and every counter at zero. -/
theorem run_main_quiescent (hO : Ok m) (hC : ∀ c, Chain m c) : θ_run defs (onTc (τ := τ) (main (F := F))) (s₀ m ρ)
    (fun r => (Pipeline.FramePost (Pipeline.pin pcfgs fun _ => adm m hO) (dats m hO hC) 0 (V m)) r ∧ r.2.sem = fun _ => 0) :=
  Pipeline.θ_run_frameP_dma (Q' := _) pcfgs (fun _ => adm m hO) (dats m hO hC) (0 : Fin 1) launch0 osem0 defs₀ Variants.none ownSemFacts0 H0 H0_sub m ρ main
    (hbody := fun c => (body_obligation m hO hC c).loose) (hshare := fun c => (dats m hO hC 0 c).share_full fun _ => rfl)
    (howed := fun _ _ => rfl) (V := V m) (hmain := hmain m Variants.none) (hA := A_eq m hO hC) (hpf := V_pre m)
    (hin := fun c => by
      rw [PhiD0_eq]
      show iprop(_ ∗ _) ⊢ iprop((((∃ g, hbPt (F := F) c wgb g) ∗ (∃ g, hbPt (F := F) c wub g)) ∗ idle c (V m c main_arg7) (V m c main_arg8)) ∗ (∃ r, prngReg c r) ∗ Pipeline.ΦT pre0 (tbl m) c)
      iintro ⟨⟨⟨Hw, Hu, Hs⟩, Hg, ⟨Hv, Hv'⟩, HX, HY⟩, HT⟩
      isplitl [Hw Hu Hs Hv Hv' HX HY]
      · isplitl [Hw Hu]
        · isplitl [Hw]; · iexact Hw
          iexact Hu
        isplitl [Hs]; · iexact Hs
        isplitl [Hv]; · iexact Hv
        isplitl [Hv']; · iexact Hv'
        isplitl [HX]; · iexact HX
        iexact HY
      isplitl [Hg]; · iexact Hg
      iexact HT)
    (hout := fun c => by
      rw [PhiD0_eq]
      have e : (dats m hO hC 0 c).Φ (Fin.last (cfgM m hO).N)
          = iprop(carryAt (hC c) ⟨671, by decide⟩ ∗ (∃ r, prngReg c r) ∗ Pipeline.ΦT pre0 (tbl m) c) := Phi_succ m hO hC c ⟨671, show 671 < grid0.N by decide⟩
      refine (Entails.of_eq e).trans ?_
      unfold carryAt started
      rw [dif_neg ((hC c).last ⟨671, by decide⟩ rfl)]
      iintro ⟨⟨⟨⟨%g, -, Hw⟩, ⟨%u, -, Hu⟩⟩, Hs, Hv, Hv', HX, HY⟩, Hg, -⟩
      isplitl [Hw Hu Hs]
      · isplitl [Hw]; · iexists g; iexact Hw
        isplitl [Hu]; · iexists u; iexact Hu
        iexact Hs
      isplitl [Hg]; · iexact Hg
      isplitl [Hv Hv']
      · isplitl [Hv]; · iexact Hv
        iexact Hv'
      isplitl [HX]; · iexact HX
      iexact HY)

/-- The arguments end as launched. -/
theorem frame (hO : Ok m) (hC : ∀ c, Chain m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      (h.1 c).2 main_arg4 (by decide : main_arg4 ∈ Pipeline.restRefs sig spec0),
      (h.1 c).2 main_arg5 (by decide : main_arg5 ∈ Pipeline.restRefs sig spec0),
      ((h.1 c).1 0).trans (((dats m hO hC 0 c).arrAt_in 0 rfl _).trans (A_eq m hO hC c 0)),
      (h.1 c).2 main_arg7 (by decide : main_arg7 ∈ Pipeline.restRefs sig spec0),
      (h.1 c).2 main_arg8 (by decide : main_arg8 ∈ Pipeline.restRefs sig spec0)⟩, h.2⟩) (run_main_quiescent m ρ hO hC)

/-- The arguments end as launched and the result at what the points left. -/
theorem run_blocks (hO : Ok m) (hC : ∀ c, Chain m c) : θ_run defs (onTc (τ := τ) (main (F := F))) ⟨m, fun _ => 0, ρ⟩ (fun r => ∀ c : Dev nD,
      r.2.mem ((c.tc : Thread nD τ).loc main_v0) = (dats m hO hC 0 c).arrAt 1 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h.1.1 c, h.2.1 c⟩)
    (θ_run_and ((θ_run defs _ _).mono (fun r h => ⟨fun c => (h.1 c).1 1, trivial⟩) (run_main_quiescent m ρ hO hC) : θ_run defs (onTc (τ := τ) (main (F := F))) ⟨m, fun _ => 0, ρ⟩ (fun r => (∀ c : Dev nD, r.2.mem ((c.tc : Thread nD τ).loc main_v0) = (dats m hO hC 0 c).arrAt 1 (cfgM m hO).N) ∧ True)) (frame m ρ hO hC))

end Cert.UpIdeal.Hand

end
-- ==== Proof.Up.Words.lean ====
/- The tables of the experts' first products: what the precondition says of their words, point by point. -/
module

public import proofs.«01_k».proof.Proof.Gen.Pre_up_tables
public import proofs.«01_k».proof.Proof.Down.Words

@[expose] public section

set_option maxRecDepth 16384

noncomputable section

namespace Cert.UpTables

open Cert.Pre_up_tables Cert.Pre_up_tables.Gen
open Idealize.ShloMosaic
open Cert.Tables (bit_iff and_iff eq_iff sge_iff slt_iff pick sge_congr small)

variable {F : FTy → Type} [FloatOps F]

/-- Of two bits one is set exactly when their disjunction is. -/
theorem or_iff : ∀ a b : BitVec 1, IntOp.ori a b = 1#1 ↔ a = 1#1 ∨ b = 1#1 := by decide

/-- The bit of a difference. -/
theorem ne_iff {w : Nat} (x y : BitVec w) : IntOp.cmpi .ne x y = 1#1 ↔ x ≠ y := by
  show BitVec.ofBool (x != y) = 1#1 ↔ _
  rw [bit_iff, bne_iff_ne]

/-- Equations of equal outcome hold together. -/
theorem eq_congr {w : Nat} (x y x' y' : BitVec w) (h : IntOp.cmpi .eq x y = IntOp.cmpi .eq x' y') : x = y ↔ x' = y' :=
  (eq_iff x y).symm.trans (by rw [h]; exact eq_iff x' y')

/-- Different numbers below 672 are different words. -/
theorem word_inj (s t : Fin 672) (h : BitVec.ofNat 32 s.val = BitVec.ofNat 32 t.val) : s = t := by
  have h' := congrArg BitVec.toNat h
  rw [BitVec.toNat_ofNat, BitVec.toNat_ofNat] at h'
  have := s.isLt
  have := t.isLt
  exact Fin.ext (by omega)

/-- What the precondition says: every point names a row block, a half of the columns, an expert and three bits of flags; the
    first point brings new weights and the last announces none; a point that brings new weights brings those that the
    point before announced, and any other goes on with what the point before says; no two points have both the row block
    and the half in common, and points of one row block agree on its expert and on whether it is used. -/
structure Says (r h e g n q : IVec S672 32) : Prop where
  rows : ∀ i : Fin 672, (r (ix1 i)).toNat < 336
  half : ∀ i : Fin 672, (h (ix1 i)).toNat < 2
  expert : ∀ i : Fin 672, (e (ix1 i)).toNat < 64
  flags : ∀ i : Fin 672, (g (ix1 i)).toNat < 8
  first : ∀ i : Fin 672, i.val = 0 → g (ix1 i) &&& 1#32 = 1#32
  last : ∀ i : Fin 672, i.val = 671 → (g (ix1 i)).slt 4#32 = true
  turn : ∀ s t : Fin 672, t.val = s.val + 1 → g (ix1 t) &&& 1#32 = 1#32 →
    (4#32).sle (g (ix1 s)) = true ∧ n (ix1 s) = e (ix1 t) ∧ q (ix1 s) = h (ix1 t)
  same : ∀ s t : Fin 672, t.val = s.val + 1 → ¬ g (ix1 t) &&& 1#32 = 1#32 →
    e (ix1 s) = e (ix1 t) ∧ h (ix1 s) = h (ix1 t) ∧ n (ix1 s) = n (ix1 t) ∧ q (ix1 s) = q (ix1 t)
      ∧ ((4#32).sle (g (ix1 s)) = true ↔ (4#32).sle (g (ix1 t)) = true)
  cells : ∀ s t : Fin 672, r (ix1 s) = r (ix1 t) → h (ix1 s) = h (ix1 t) → s = t
  agree : ∀ s t : Fin 672, r (ix1 s) = r (ix1 t) →
    e (ix1 s) = e (ix1 t) ∧ (g (ix1 s) &&& 2#32 = 2#32 ↔ g (ix1 t) &&& 2#32 = 2#32)

/-- The precondition's nine conditions say that. -/
theorem tables_say (r h e g n q : IVec S672 32) (xp : IVec S86016x2048 32) (wg wu : FVec F S64x4096x1024 .f32)
    (h1 : (Cert.Pre_up_tables.fn (F := F) r h e g n q xp wg wu).1 = fun _ => 1#1)
    (h2 : (Cert.Pre_up_tables.fn (F := F) r h e g n q xp wg wu).2.1 = fun _ => 1#1)
    (h3 : (Cert.Pre_up_tables.fn (F := F) r h e g n q xp wg wu).2.2.1 = fun _ => 1#1)
    (h4 : (Cert.Pre_up_tables.fn (F := F) r h e g n q xp wg wu).2.2.2.1 = fun _ => 1#1)
    (h5 : (Cert.Pre_up_tables.fn (F := F) r h e g n q xp wg wu).2.2.2.2.1 = fun _ => 1#1)
    (h6 : (Cert.Pre_up_tables.fn (F := F) r h e g n q xp wg wu).2.2.2.2.2.1 = fun _ => 1#1)
    (h7 : (Cert.Pre_up_tables.fn (F := F) r h e g n q xp wg wu).2.2.2.2.2.2.1 = fun _ => 1#1)
    (h8 : (Cert.Pre_up_tables.fn (F := F) r h e g n q xp wg wu).2.2.2.2.2.2.2.1 = fun _ => 1#1)
    (h9 : (Cert.Pre_up_tables.fn (F := F) r h e g n q xp wg wu).2.2.2.2.2.2.2.2 = fun _ => 1#1) : Says r h e g n q := by
  have k7 : ∀ s t : Fin 672, t.val = s.val + 1 →
      Scalar.select (IntOp.cmpi .eq (IntOp.andi (g (ix1 t)) 1#32) 1#32)
        (IntOp.andi (IntOp.andi (IntOp.cmpi .sge (g (ix1 s)) 4#32) (IntOp.cmpi .eq (n (ix1 s)) (e (ix1 t)))) (IntOp.cmpi .eq (q (ix1 s)) (h (ix1 t))))
        (IntOp.andi (IntOp.andi (IntOp.andi (IntOp.andi (IntOp.cmpi .eq (e (ix1 t)) (e (ix1 s))) (IntOp.cmpi .eq (h (ix1 t)) (h (ix1 s))))
          (IntOp.cmpi .eq (n (ix1 t)) (n (ix1 s)))) (IntOp.cmpi .eq (q (ix1 t)) (q (ix1 s))))
          (IntOp.cmpi .eq (IntOp.cmpi .sge (g (ix1 t)) 4#32) (IntOp.cmpi .sge (g (ix1 s)) 4#32))) = 1#1 := by
    intro s t hst
    have w := congrFun h7 (ix1 ⟨s.val, by have := t.isLt; omega⟩)
    unfold Cert.Pre_up_tables.fn Cert.Pre_up_tables.fn_part1 Cert.Pre_up_tables.fn_part2 Cert.Pre_up_tables.fn_part3 Cert.Pre_up_tables.fn_part4 Cert.Pre_up_tables.fn_where at w
    simp only [pointwise] at w
    have es : ∀ p, (⟨(![0] : Fin 1 → Nat) 0 + s.val, p⟩ : Fin 672) = s := fun p => Fin.ext (by show 0 + s.val = s.val; omega)
    have et : ∀ p, (⟨(![1] : Fin 1 → Nat) 0 + s.val, p⟩ : Fin 672) = t := fun p => Fin.ext (by show 1 + s.val = t.val; omega)
    simp only [es, et] at w
    exact w
  refine ⟨fun i => ?_, fun i => ?_, fun i => ?_, fun i => ?_, fun i hi => ?_, fun i hi => ?_, fun s t hst ht => ?_, fun s t hst ht => ?_,
    fun s t hr hh => ?_, fun s t hr => ?_⟩
  · have w := congrFun h1 (ix1 i)
    unfold Cert.Pre_up_tables.fn Cert.Pre_up_tables.fn_part1 Cert.Pre_up_tables.fn_part2 Cert.Pre_up_tables.fn_part3 Cert.Pre_up_tables.fn_part4 at w
    simp only [pointwise] at w
    obtain ⟨a, b⟩ := (and_iff _ _).mp w
    exact small _ 336 (by decide) ((sge_iff _ _).mp a) ((slt_iff _ _).mp b)
  · have w := congrFun h2 (ix1 i)
    unfold Cert.Pre_up_tables.fn Cert.Pre_up_tables.fn_part1 Cert.Pre_up_tables.fn_part2 Cert.Pre_up_tables.fn_part3 Cert.Pre_up_tables.fn_part4 at w
    simp only [pointwise] at w
    obtain ⟨a, b⟩ := (and_iff _ _).mp w
    exact small _ 2 (by decide) ((sge_iff _ _).mp a) ((slt_iff _ _).mp b)
  · have w := congrFun h3 (ix1 i)
    unfold Cert.Pre_up_tables.fn Cert.Pre_up_tables.fn_part1 Cert.Pre_up_tables.fn_part2 Cert.Pre_up_tables.fn_part3 Cert.Pre_up_tables.fn_part4 at w
    simp only [pointwise] at w
    obtain ⟨a, b⟩ := (and_iff _ _).mp w
    exact small _ 64 (by decide) ((sge_iff _ _).mp a) ((slt_iff _ _).mp b)
  · have w := congrFun h4 (ix1 i)
    unfold Cert.Pre_up_tables.fn Cert.Pre_up_tables.fn_part1 Cert.Pre_up_tables.fn_part2 Cert.Pre_up_tables.fn_part3 Cert.Pre_up_tables.fn_part4 at w
    simp only [pointwise] at w
    obtain ⟨a, b⟩ := (and_iff _ _).mp w
    exact small _ 8 (by decide) ((sge_iff _ _).mp a) ((slt_iff _ _).mp b)
  · have w := congrFun h5 (ix1 0)
    unfold Cert.Pre_up_tables.fn Cert.Pre_up_tables.fn_part1 Cert.Pre_up_tables.fn_part2 Cert.Pre_up_tables.fn_part3 Cert.Pre_up_tables.fn_part4 at w
    simp only [pointwise] at w
    obtain rfl : i = 0 := Fin.ext hi
    exact (eq_iff _ _).mp w
  · have w := congrFun h6 (ix1 0)
    unfold Cert.Pre_up_tables.fn Cert.Pre_up_tables.fn_part1 Cert.Pre_up_tables.fn_part2 Cert.Pre_up_tables.fn_part3 Cert.Pre_up_tables.fn_part4 at w
    simp only [pointwise] at w
    obtain rfl : i = 671 := Fin.ext hi
    exact (slt_iff _ _).mp w
  · obtain ⟨ab, c⟩ := (and_iff _ _).mp ((pick _ _ _ (k7 s t hst)).1 ((eq_iff _ _).mpr ht))
    obtain ⟨a, b⟩ := (and_iff _ _).mp ab
    exact ⟨(sge_iff _ _).mp a, (eq_iff _ _).mp b, (eq_iff _ _).mp c⟩
  · obtain ⟨abcd, x⟩ := (and_iff _ _).mp ((pick _ _ _ (k7 s t hst)).2 (fun p => ht ((eq_iff _ _).mp p)))
    obtain ⟨abc, d⟩ := (and_iff _ _).mp abcd
    obtain ⟨ab, c⟩ := (and_iff _ _).mp abc
    obtain ⟨a, b⟩ := (and_iff _ _).mp ab
    exact ⟨((eq_iff _ _).mp a).symm, ((eq_iff _ _).mp b).symm, ((eq_iff _ _).mp c).symm, ((eq_iff _ _).mp d).symm,
      (sge_congr _ _ _ _ ((eq_iff _ _).mp x)).symm⟩
  · have w := congrFun h8 (ix2 s t)
    unfold Cert.Pre_up_tables.fn Cert.Pre_up_tables.fn_part1 Cert.Pre_up_tables.fn_part2 Cert.Pre_up_tables.fn_part3 Cert.Pre_up_tables.fn_part4 at w
    simp only [pointwise] at w
    rcases (or_iff _ _).mp w with w | w
    · rcases (or_iff _ _).mp w with w | w
      · exact word_inj s t ((eq_iff _ _).mp w)
      · exact absurd hr ((ne_iff _ _).mp w)
    · exact absurd hh ((ne_iff _ _).mp w)
  · have w := congrFun h9 (ix2 s t)
    unfold Cert.Pre_up_tables.fn Cert.Pre_up_tables.fn_part1 Cert.Pre_up_tables.fn_part2 Cert.Pre_up_tables.fn_part3 Cert.Pre_up_tables.fn_part4 at w
    simp only [pointwise] at w
    rcases (or_iff _ _).mp w with w | w
    · exact absurd hr ((ne_iff _ _).mp w)
    · obtain ⟨a, b⟩ := (and_iff _ _).mp w
      exact ⟨(eq_iff _ _).mp a, eq_congr _ _ _ _ ((eq_iff _ _).mp b)⟩

/-- Every row block has a point for either half: there are as many points as pairs, and no two have the same. -/
theorem Says.onto {r h e g n q : IVec S672 32} (hS : Says r h e g n q) (b : Fin 336) (c : Fin 2) :
    ∃ t : Fin 672, (r (ix1 t)).toNat = b.val ∧ (h (ix1 t)).toNat = c.val := by
  have hinj : Function.Injective fun t : Fin 672 => ((⟨_, hS.rows t⟩ : Fin 336), (⟨_, hS.half t⟩ : Fin 2)) := fun s t hst =>
    hS.cells s t (BitVec.eq_of_toNat_eq (congrArg (fun p => p.1.val) hst)) (BitVec.eq_of_toNat_eq (congrArg (fun p => p.2.val) hst))
  obtain ⟨t, ht⟩ := ((Fintype.bijective_iff_injective_and_card _).mpr ⟨hinj, by simp⟩).2 (b, c)
  exact ⟨t, congrArg (fun p => p.1.val) ht, congrArg (fun p => p.2.val) ht⟩

end Cert.UpTables

end
-- ==== Proof.Up.TablesIdeal.lean ====
/- The experts' first products: the tables that the precondition admits keep every block inside its array, and say of each
   other what the points need. -/
module

public import proofs.«01_k».proof.Proof.Up.RunIdeal
public import proofs.«01_k».proof.Proof.Up.Words

@[expose] public section

set_option maxRecDepth 16384

noncomputable section

namespace Cert.UpIdeal.Hand

open Cert.UpIdeal Cert.UpIdeal.Gen
open Idealize.ShloMosaic Idealize.ShloMosaic.TcCoe

variable {F : FTy → Type} [FloatOps F]

variable (m : (ℓ : Loc nD τ sig) → Buf (Elt F) ℓ)

/-- What the precondition says of the launched tables. -/
abbrev Told : Prop := ∀ c : Dev nD, Cert.UpTables.Says
  (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))

/-- Point `t` reads word `t` of its tables. -/
theorem off_val : ∀ t : Fin grid0.N, k0_off1 (grid0.coords t) 0 = t.val := by decide +kernel

/-- A point's number, as an index of the tables. -/
abbrev pt (t : Fin grid0.N) : Fin 672 := ⟨t.val, t.isLt⟩

theorem off_in (t : Fin grid0.N) : ∀ a : Fin 1, k0_off1 (grid0.coords t) a + 0 < S672.size a := fun a => by
  match a with
  | ⟨0, _⟩ => exact k0_off1_inb (grid0.coords t) 0

/-- The word that point `t` reads, as an index. -/
theorem word_ix (t : Fin grid0.N) : (fun a => ⟨k0_off1 (grid0.coords t) a + 0, off_in t a⟩ : S672.Idx) = ix1 (pt t) := by
  funext a
  refine Fin.ext ?_
  match a with
  | ⟨0, _⟩ => exact (Nat.add_zero _).trans (off_val t)

theorem hAt_eq (c : Dev nD) (t : Fin grid0.N) : hAt m c t = m ((c.tc : Thread nD τ).loc main_arg1) (ix1 (pt t)) := by
  obtain rfl : c = 0 := Subsingleton.elim _ _
  exact congrArg (m (((0 : Dev nD).tc : Thread nD τ).loc main_arg1)) (word_ix t)
theorem eAt_eq (c : Dev nD) (t : Fin grid0.N) : eAt m c t = m ((c.tc : Thread nD τ).loc main_arg2) (ix1 (pt t)) := by
  obtain rfl : c = 0 := Subsingleton.elim _ _
  exact congrArg (m (((0 : Dev nD).tc : Thread nD τ).loc main_arg2)) (word_ix t)
theorem gAt_eq (c : Dev nD) (t : Fin grid0.N) : gAt m c t = m ((c.tc : Thread nD τ).loc main_arg3) (ix1 (pt t)) := by
  obtain rfl : c = 0 := Subsingleton.elim _ _
  exact congrArg (m (((0 : Dev nD).tc : Thread nD τ).loc main_arg3)) (word_ix t)
theorem nAt_eq (c : Dev nD) (t : Fin grid0.N) : nAt m c t = m ((c.tc : Thread nD τ).loc main_arg4) (ix1 (pt t)) := by
  obtain rfl : c = 0 := Subsingleton.elim _ _
  exact congrArg (m (((0 : Dev nD).tc : Thread nD τ).loc main_arg4)) (word_ix t)
theorem nhAt_eq (c : Dev nD) (t : Fin grid0.N) : nhAt m c t = m ((c.tc : Thread nD τ).loc main_arg5) (ix1 (pt t)) := by
  obtain rfl : c = 0 := Subsingleton.elim _ _
  exact congrArg (m (((0 : Dev nD).tc : Thread nD τ).loc main_arg5)) (word_ix t)

/-- The index maps at point `t`: the row block and the half that the first two tables name. -/
theorem ix_x (t : Fin grid0.N) : cc0_transform_0 k0_off1_inb numel1_S1 (tbl m) (grid0.coords t) 0
    = (m (((0 : Dev nD).tc : Thread nD τ).loc main_arg0) (ix1 (pt t)) : BitVec 32).toNat :=
  congrArg (fun q => (m (((0 : Dev nD).tc : Thread nD τ).loc main_arg0) q : BitVec 32).toNat) (word_ix t)
theorem ix_row (t : Fin grid0.N) : cc0_transform_3 k0_off1_inb numel1_S1 (tbl m) (grid0.coords t) 0
    = (m (((0 : Dev nD).tc : Thread nD τ).loc main_arg0) (ix1 (pt t)) : BitVec 32).toNat :=
  congrArg (fun q => (m (((0 : Dev nD).tc : Thread nD τ).loc main_arg0) q : BitVec 32).toNat) (word_ix t)
theorem ix_col (t : Fin grid0.N) : cc0_transform_3 k0_off1_inb numel1_S1 (tbl m) (grid0.coords t) 1
    = (m (((0 : Dev nD).tc : Thread nD τ).loc main_arg1) (ix1 (pt t)) : BitVec 32).toNat :=
  congrArg (fun q => (m (((0 : Dev nD).tc : Thread nD τ).loc main_arg1) q : BitVec 32).toNat) (word_ix t)

variable {m}

/-- A point's coordinate is its number. -/
theorem coord_val : ∀ t : Fin grid0.N, (grid0.coords t 0).val = t.val := by decide +kernel

/-- Every coordinate is that of a point. -/
theorem coords_onto (i : grid0.Coords) : ∃ t : Fin grid0.N, grid0.coords t = i :=
  ⟨⟨(i 0).val, (i 0).isLt⟩, by
    funext a
    match a with
    | ⟨0, _⟩ => exact Fin.ext (coord_val ⟨(i 0).val, (i 0).isLt⟩)⟩

/-- The blocks are inside their arrays. -/
theorem ok_of (hT : Told m) : Ok m := by
  have hb : ∀ (i : grid0.Coords) (a : Fin 2), (cc0_transform_0 k0_off1_inb numel1_S1 (tbl m) i a + 1) * S256x2048.size a ≤ S86016x2048.size a := by
    intro i a
    obtain ⟨t, rfl⟩ := coords_onto i
    have h := (hT 0).rows (pt t)
    match a with
    | ⟨0, _⟩ =>
      show (cc0_transform_0 k0_off1_inb numel1_S1 (tbl m) (grid0.coords t) 0 + 1) * 256 ≤ 86016
      rw [ix_x]; omega
    | ⟨1, _⟩ => exact (by decide : (0 + 1) * 2048 ≤ 2048)
  have hc : ∀ (i : grid0.Coords) (a : Fin 2), (cc0_transform_3 k0_off1_inb numel1_S1 (tbl m) i a + 1) * S256x512.size a ≤ S86016x1024.size a := by
    intro i a
    obtain ⟨t, rfl⟩ := coords_onto i
    have h := (hT 0).rows (pt t)
    have h' := (hT 0).half (pt t)
    match a with
    | ⟨0, _⟩ =>
      show (cc0_transform_3 k0_off1_inb numel1_S1 (tbl m) (grid0.coords t) 0 + 1) * 256 ≤ 86016
      rw [ix_row]; omega
    | ⟨1, _⟩ =>
      show (cc0_transform_3 k0_off1_inb numel1_S1 (tbl m) (grid0.coords t) 1 + 1) * 512 ≤ 1024
      rw [ix_col]; omega
  exact ⟨fun i => ⟨hb i, .inl rfl⟩, fun i => ⟨hc i, .inr (Affine.block_words_dvd (of_decide_eq_true rfl) (by decide))⟩⟩

/-- The conditions of the body on three bits of flags. -/
theorem cond2_small : ∀ v : Fin 8, k0_cond2 (BitVec.ofNat 32 v.val) = 1#1 ↔ BitVec.ofNat 32 v.val &&& 1#32 = 1#32 := by decide +kernel
theorem cond3_small : ∀ v : Fin 8, k0_cond3 (BitVec.ofNat 32 v.val) = 1#1 ↔ (4#32).sle (BitVec.ofNat 32 v.val) = true := by decide +kernel
theorem last_small : ∀ v : Fin 8, (BitVec.ofNat 32 v.val).slt 4#32 = true → ¬ (4#32).sle (BitVec.ofNat 32 v.val) = true := by decide +kernel
theorem used_small : ∀ v : Fin 8, (k0_cond4 (BitVec.ofNat 32 v.val) = 1#1 ∧ ¬ k0_cond5 (BitVec.ofNat 32 v.val) = 1#1)
    ∨ (¬ k0_cond4 (BitVec.ofNat 32 v.val) = 1#1 ∧ k0_cond5 (BitVec.ofNat 32 v.val) = 1#1) := by decide +kernel
theorem cond4_small : ∀ v : Fin 8, k0_cond4 (BitVec.ofNat 32 v.val) = 1#1 ↔ BitVec.ofNat 32 v.val &&& 2#32 = 2#32 := by decide +kernel

/-- A half's first column. -/
theorem col_small : ∀ v : Fin 2, (k0_mult1 (BitVec.ofNat 32 v.val)).toNat = v.val * 512 := by decide +kernel
theorem col_of (h : BitVec 32) (hh : h.toNat < 2) : (k0_mult1 h).toNat = h.toNat * 512 := by
  have e : h = BitVec.ofNat 32 (⟨h.toNat, hh⟩ : Fin 2).val := by simp
  have := col_small ⟨h.toNat, hh⟩
  rw [← e] at this
  exact this

/-- A word below 64 and one below 2 name an expert and a half. -/
theorem fits_of (e h : BitVec 32) (he : e.toNat < 64) (hh : h.toNat < 2) : Fits e h := by
  have hc := col_of h hh
  refine ⟨⟨h.toNat, by rw [hc, Nat.mul_comm]⟩, fun a => ?_⟩
  match a with
  | ⟨0, _⟩ => show e.toNat + 1 ≤ 64; omega
  | ⟨1, _⟩ => exact (by decide : 0 + 4096 ≤ 4096)
  | ⟨2, _⟩ => show (k0_mult1 h).toNat + 512 ≤ 1024; omega

/-- The tables say of each other what the points need. -/
theorem chain_of (hT : Told m) (c : Dev nD) : Chain m c := by
  have hS := hT c
  have hv : ∀ t, ∃ v : Fin 8, gAt m c t = BitVec.ofNat 32 v.val := fun t => by
    rw [gAt_eq]; exact Cert.Tables.eight _ (hS.flags (pt t))
  have h2 : ∀ t, k0_cond2 (gAt m c t) = 1#1 ↔ gAt m c t &&& 1#32 = 1#32 := fun t => by
    obtain ⟨v, e⟩ := hv t; rw [e]; exact cond2_small v
  have h3 : ∀ t, k0_cond3 (gAt m c t) = 1#1 ↔ (4#32).sle (gAt m c t) = true := fun t => by
    obtain ⟨v, e⟩ := hv t; rw [e]; exact cond3_small v
  have fe : ∀ t, Fits (eAt m c t) (hAt m c t) := fun t => by
    rw [eAt_eq, hAt_eq]; exact fits_of _ _ (hS.expert (pt t)) (hS.half (pt t))
  have last : ∀ t : Fin grid0.N, t.val = 671 → ¬ k0_cond3 (gAt m c t) = 1#1 := fun t ht => by
    rw [h3]
    have := hS.last (pt t) ht
    rw [← gAt_eq m c t] at this
    obtain ⟨v, e⟩ := hv t
    rw [e] at this ⊢
    exact last_small v this
  have turn : ∀ s t : Fin grid0.N, t.val = s.val + 1 → k0_cond2 (gAt m c t) = 1#1 → k0_cond3 (gAt m c s) = 1#1 ∧ nAt m c s = eAt m c t ∧ nhAt m c s = hAt m c t := fun s t hst h => by
    rw [h2, gAt_eq] at h
    rw [h3, gAt_eq, nAt_eq, nhAt_eq, eAt_eq, hAt_eq]
    exact hS.turn (pt s) (pt t) hst h
  have same : ∀ s t : Fin grid0.N, t.val = s.val + 1 → ¬ k0_cond2 (gAt m c t) = 1#1 →
      eAt m c s = eAt m c t ∧ hAt m c s = hAt m c t ∧ nAt m c s = nAt m c t ∧ nhAt m c s = nhAt m c t ∧ (k0_cond3 (gAt m c s) = 1#1 ↔ k0_cond3 (gAt m c t) = 1#1) := fun s t hst h => by
    rw [h2, gAt_eq] at h
    rw [h3, h3, gAt_eq, gAt_eq, nAt_eq, nAt_eq, nhAt_eq, nhAt_eq, eAt_eq, eAt_eq, hAt_eq, hAt_eq]
    exact hS.same (pt s) (pt t) hst h
  have fn : ∀ (d : Nat) (t : Fin grid0.N), t.val + d = 671 → k0_cond3 (gAt m c t) = 1#1 → Fits (nAt m c t) (nhAt m c t) := by
    intro d
    induction d with
    | zero => intro t ht h; exact absurd h (last t ht)
    | succ d ih =>
      intro t ht h
      have hlt : t.val + 1 < grid0.N := by show _ < 672; omega
      by_cases c2 : k0_cond2 (gAt m c ⟨t.val + 1, hlt⟩) = 1#1
      · obtain ⟨-, en, eh⟩ := turn t ⟨t.val + 1, hlt⟩ rfl c2
        rw [en, eh]; exact fe _
      · obtain ⟨-, -, en, eh, ea⟩ := same t ⟨t.val + 1, hlt⟩ rfl c2
        rw [en, eh]
        exact ih ⟨t.val + 1, hlt⟩ (by show t.val + 1 + d = 671; omega) (ea.mp h)
  exact {
    fe := fe
    fn := fun t h => fn (671 - t.val) t (by have : t.val < 672 := t.isLt; omega) h
    used := fun t => by obtain ⟨v, e⟩ := hv t; rw [e]; exact used_small v
    first := fun t ht => by
      rw [h2, gAt_eq]; exact hS.first (pt t) ht
    last := last
    turn := turn
    same := same }

end Cert.UpIdeal.Hand

end
-- ==== Proof.Up.ValueIdeal.lean ====
/- The experts' first products: the array that the call leaves, element by element, at the ideal instance. -/
module

public import proofs.«01_k».proof.Proof.Up.TablesIdeal
public import Idealize.ShloMosaic.Lib.Pointwise
public import Idealize.ShloMosaic.Lib.StableHlo.RunRead

@[expose] public section

set_option maxRecDepth 16384

noncomputable section

namespace Cert.UpIdeal.Hand

open Cert.UpIdeal Cert.UpIdeal.Gen
open Idealize.ShloMosaic Idealize.ShloMosaic.TcCoe
open Idealize.ShloMosaic.Tactic
open Finset

/-- Sixteen zero bits below a half width float make the full width float of the same value. -/
theorem wide (b : BitVec 16) : Ideal.ieee 8 23 (b ++ 0#16) = Ideal.ieee 8 7 b := by
  have hs : (b ++ 0#16).extractLsb' (8 + 23) 1 = b.extractLsb' (8 + 7) 1 := by
    refine BitVec.eq_of_getLsbD_eq fun i hi => ?_
    simp only [BitVec.getLsbD_extractLsb', BitVec.getLsbD_append]
    have : ¬ 8 + 23 + i < 16 := by omega
    have e : 8 + 23 + i - 16 = 8 + 7 + i := by omega
    simp [this, e]
  have hx : (b ++ 0#16).extractLsb' 23 8 = b.extractLsb' 7 8 := by
    refine BitVec.eq_of_getLsbD_eq fun i hi => ?_
    simp only [BitVec.getLsbD_extractLsb', BitVec.getLsbD_append]
    have : ¬ 23 + i < 16 := by omega
    have e : 23 + i - 16 = 7 + i := by omega
    simp [this, e]
  have hf : ((b ++ 0#16).extractLsb' 0 23).toNat = 2 ^ 16 * (b.extractLsb' 0 7).toNat := by
    simp only [BitVec.extractLsb'_toNat, BitVec.toNat_append]
    simp [Nat.shiftLeft_eq]
    omega
  unfold Ideal.ieee
  simp only [hs, hx, hf]
  generalize (b.extractLsb' (8 + 7) 1 == 1#1) = s
  generalize (b.extractLsb' 7 8).toNat = x
  generalize (b.extractLsb' 0 7).toNat = f
  by_cases h1 : x = 2 ^ 8 - 1
  · rw [if_pos h1, if_pos h1]
    by_cases h2 : f = 0
    · rw [if_pos h2, if_pos (by omega)]
    · rw [if_neg h2, if_neg (by omega)]
  · rw [if_neg h1, if_neg h1]
    by_cases h2 : x = 0
    · rw [if_pos h2, if_pos h2]
      congr 1
      push_cast
      rw [show (-133 : ℤ) = -149 + 16 by norm_num, zpow_add₀ (by norm_num : (2 : ℝ) ≠ 0)]
      norm_num
      ring_nf
    · rw [if_neg h2, if_neg h2]
      congr 1
      push_cast
      rw [show ((x : ℤ) - 127 - 7) = (x - 127 - 23) + 16 by ring, zpow_add₀ (by norm_num : (2 : ℝ) ≠ 0)]
      norm_num
      ring_nf

/-- The mask keeps the upper sixteen bits. -/
theorem mask_bit : ∀ i : Fin 32, (4294901760#32).getLsbD i.val = decide (16 ≤ i.val) := by decide

/-- The word's two halves, each above sixteen zero bits. -/
theorem low_word (w : BitVec 32) : w <<< 16 = w.extractLsb' 0 16 ++ 0#16 := by
  refine BitVec.eq_of_getLsbD_eq fun i hi => ?_
  simp only [BitVec.getLsbD_extractLsb', BitVec.getLsbD_append, BitVec.getLsbD_shiftLeft]
  by_cases h : i < 16
  · simp [h]
  · have : i - 16 < 16 := by omega
    simp [h, hi, this]
theorem high_word (w : BitVec 32) : w &&& 4294901760#32 = w.extractLsb' 16 16 ++ 0#16 := by
  refine BitVec.eq_of_getLsbD_eq fun i hi => ?_
  simp only [BitVec.getLsbD_extractLsb', BitVec.getLsbD_append, BitVec.getLsbD_and]
  rw [mask_bit ⟨i, hi⟩]
  by_cases h : i < 16
  · simp [h]
  · have : i - 16 < 16 := by omega
    have e : 16 + (i - 16) = i := by omega
    simp [h, this, e]
    omega
/-- The kernel's shift by sixteen. -/
theorem shl16 (w : BitVec 32) : IntOp.shli .vector w 16#32 = w <<< 16 := by
  unfold IntOp.shli
  simp
/-- The float one is one. -/
theorem one_bits : (FloatOps.ofBits .f32 0x3F800000#32 : Ideal .f32) = (1 : EReal) := by
  simp only [pointwise, Ideal.ofBits_def]

/-- The two floats of a word. -/
def lo (w : BitVec 32) : EReal := Ideal.ofBits .bf16 (w.extractLsb' 0 16)
def hi (w : BitVec 32) : EReal := Ideal.ofBits .bf16 (w.extractLsb' 16 16)

theorem lo_eq (w : BitVec 32) : Ideal.ofBits .f32 (IntOp.shli .vector w 16#32) = lo w := by
  rw [shl16, low_word]
  exact wide _
theorem hi_eq (w : BitVec 32) : Ideal.ofBits .f32 (IntOp.andi w 4294901760#32) = hi w := by
  unfold IntOp.andi
  rw [high_word]
  exact wide _

/-- A feature of a row: the first 2048 are the lower floats of the row's words, the others the upper. -/
def feat (xp : IVec S86016x2048 32) (r : Fin 86016) (k : Fin 4096) : EReal :=
  if h : k.val < 2048 then lo (xp (ix2 r ⟨k.val, h⟩)) else hi (xp (ix2 r ⟨k.val - 2048, by have := k.isLt; omega⟩))

/-- A row times a column of an expert's matrix. -/
def dotAt (xp : IVec S86016x2048 32) (w : FVec Ideal S64x4096x1024 .f32) (e : Fin 64) (r : Fin 86016) (x : Fin 1024) : EReal :=
  ∑ k : Fin 4096, feat xp r k * w (ix3 e k x)

/-- The gate: `g · (1 / (1 + exp (-g))) · u`. -/
def act (g u : EReal) : EReal := g * Ideal.div 1 (1 + Ideal.exp (-g)) * u

/-- An element of the gated product, with expert `e`, or zero where the block is not used. -/
def prod (xp : IVec S86016x2048 32) (wg wu : FVec Ideal S64x4096x1024 .f32) (e : Fin 64) (g : BitVec 32) (r : Fin 86016) (x : Fin 1024) : EReal :=
  if g &&& 2#32 = 2#32 then act (dotAt xp wg e r x) (dotAt xp wu e r x) else 0

/-- A sum over 4096 is that over the first half and that over the second. -/
theorem sum_halves (f : Fin 4096 → EReal) : ∑ k, f k
    = (∑ k : Fin 2048, f ⟨k.val, by have := k.isLt; omega⟩) + ∑ k : Fin 2048, f ⟨2048 + k.val, by have := k.isLt; omega⟩ :=
  Fin.sum_univ_add (a := 2048) (b := 2048) f

/-- A feature of either half. -/
theorem feat_lo (xp : IVec S86016x2048 32) (r : Fin 86016) (k : Fin 2048) : feat xp r ⟨k.val, by have := k.isLt; omega⟩ = lo (xp (ix2 r k)) :=
  dif_pos k.isLt
theorem feat_hi (xp : IVec S86016x2048 32) (r : Fin 86016) (k : Fin 2048) : feat xp r ⟨2048 + k.val, by have := k.isLt; omega⟩ = hi (xp (ix2 r k)) := by
  have h : ¬ 2048 + k.val < 2048 := by omega
  refine (dif_neg h).trans ?_
  have e : (⟨2048 + k.val - 2048, by have := k.isLt; omega⟩ : Fin 2048) = k := Fin.ext (by show 2048 + k.val - 2048 = k.val; omega)
  exact congrArg (fun q => hi (xp (ix2 r q))) e

/-- The sum over the features is that over the lower floats and that over the upper. -/
theorem dot_halves (xp : IVec S86016x2048 32) (w : FVec Ideal S64x4096x1024 .f32) (e : Fin 64) (r : Fin 86016) (x : Fin 1024) :
    dotAt xp w e r x = (∑ k : Fin 2048, lo (xp (ix2 r k)) * w (ix3 e ⟨k.val, by have := k.isLt; omega⟩ x))
      + ∑ k : Fin 2048, hi (xp (ix2 r k)) * w (ix3 e ⟨2048 + k.val, by have := k.isLt; omega⟩ x) := by
  unfold dotAt
  rw [sum_halves]
  simp only [feat_lo, feat_hi]

/-- A product over half of the features, at an element. -/
theorem half_at (f : S256x2048.Idx → EReal) (a : S2048x512.Idx → EReal) (r : Fin 256) (j : Fin 512) :
    ∑ k, f (dot_S256x2048_S2048x512_S256x512_1_0_0_1_n_n.lhsIdx (ix2 r j) k) * a (dot_S256x2048_S2048x512_S256x512_1_0_0_1_n_n.rhsIdx (ix2 r j) k)
      = ∑ k : Fin 2048, f (ix2 r k) * a (ix2 k j) := by
  rw [DotDims.sum_contr₁ _ (a := 1) rfl rfl]
  refine Finset.sum_congr rfl fun k _ => ?_
  congr 2
  all_goals
    funext p
    fin_cases p <;> rfl

/-- What the body computes of a block, at an element. -/
theorem pay4_at (x : Vec Ideal S256x2048 .i32) (a b c d : Vec Ideal S2048x512 .bf16) (r : Fin 256) (j : Fin 512) :
    k0_pay4 x a b c d (ix2 r j)
      = act ((∑ k : Fin 2048, lo (x (ix2 r k)) * a (ix2 k j)) + ∑ k : Fin 2048, hi (x (ix2 r k)) * b (ix2 k j))
          ((∑ k : Fin 2048, lo (x (ix2 r k)) * c (ix2 k j)) + ∑ k : Fin 2048, hi (x (ix2 r k)) * d (ix2 k j)) := by
  rw [← half_at (fun i => lo (x i)) a r j, ← half_at (fun i => hi (x i)) b r j, ← half_at (fun i => lo (x i)) c r j, ← half_at (fun i => hi (x i)) d r j]
  unfold k0_pay4 act
  simp only [pointwise, Ideal.matmul_def, Ideal.matmul, lo_eq, hi_eq, zero_add, zero_sub]

/-- The blank block, at an element. -/
theorem pay1_at (i : S256x512.Idx) : k0_pay1 (F := Ideal) i = 0 := by
  unfold k0_pay1
  simp only [pointwise, Ideal.ofBits_def]

/-- The narrowed matrices, at an element: the same. -/
theorem pay2_at (v : Vec Ideal S4096x512 .f32) (k : Fin 4096) (x : Fin 512) : k0_pay2 (lift3 v) (ix2 k x) = v (ix2 k x) := by
  unfold k0_pay2
  simp only [shapeCast_self]
  exact congrArg (lift3 v) (drop_one _ k x)
theorem pay3_at (v : Vec Ideal S4096x512 .f32) (k : Fin 4096) (x : Fin 512) : k0_pay3 (lift3 v) (ix2 k x) = v (ix2 k x) := by
  unfold k0_pay3
  simp only [shapeCast_self]
  exact congrArg (lift3 v) (drop_one _ k x)

/-- Where a half of an expert's columns lies in the stack of matrices. -/
theorem cut_emb (w : Memref sig .tc .hbm S64x4096x1024 .f32) (e h : BitVec 32) (H : Fits e h) (k : Fin 4096) (x : Fin 512) :
    (cut w e h H).view.emb (ix2 k x)
      = (w.slice (Rect.unit (s := S64x4096x1024) (k0_off2 e h) S1x4096x512.size H.2) (fun _ => rfl)).view.emb (ix3 0 k x : S1x4096x512.Idx) :=
  congrArg (w.slice (Rect.unit (s := S64x4096x1024) (k0_off2 e h) S1x4096x512.size H.2) (fun _ => rfl)).view.emb (drop_one (by decide) k x)

theorem gate_at (c : Dev nD) (X : MB (F := Ideal) c wg) (e h : BitVec 32) (H : Fits e h) (he : e.toNat < 64) (hh : h.toNat < 2) (k : Fin 4096) (x : Fin 512)
    (y : Fin 1024) (hy : y.val = h.toNat * 512 + x.val) : gateOf c X e h H (ix2 k x) = X (ix3 ⟨e.toNat, he⟩ k y) := by
  unfold gateOf
  rw [pay2_at]
  have hc := col_of h hh
  have q : (cut wg e h H).view.emb (ix2 k x) = (ix3 ⟨e.toNat, he⟩ k y : S64x4096x1024.Idx) := by
    refine (cut_emb wg e h H k x).trans ?_
    funext p
    refine Fin.ext ?_
    match p with
    | ⟨0, _⟩ => show e.toNat + 1 * 0 = e.toNat; omega
    | ⟨1, _⟩ => show 0 + 1 * k.val = k.val; omega
    | ⟨2, _⟩ => show (k0_mult1 h).toNat + 1 * x.val = y.val; omega
  exact congrArg X q
theorem up_at (c : Dev nD) (X : MB (F := Ideal) c wu) (e h : BitVec 32) (H : Fits e h) (he : e.toNat < 64) (hh : h.toNat < 2) (k : Fin 4096) (x : Fin 512)
    (y : Fin 1024) (hy : y.val = h.toNat * 512 + x.val) : upOf c X e h H (ix2 k x) = X (ix3 ⟨e.toNat, he⟩ k y) := by
  unfold upOf
  rw [pay3_at]
  have hc := col_of h hh
  have q : (cut wu e h H).view.emb (ix2 k x) = (ix3 ⟨e.toNat, he⟩ k y : S64x4096x1024.Idx) := by
    refine (cut_emb wu e h H k x).trans ?_
    funext p
    refine Fin.ext ?_
    match p with
    | ⟨0, _⟩ => show e.toNat + 1 * 0 = e.toNat; omega
    | ⟨1, _⟩ => show 0 + 1 * k.val = k.val; omega
    | ⟨2, _⟩ => show (k0_mult1 h).toNat + 1 * x.val = y.val; omega
  exact congrArg X q

section Kernel

variable {m : (ℓ : Loc nD τ sig) → Buf (Elt Ideal) ℓ}

/-- Two points with the same block of the result are the same. -/
theorem index_inj (hT : Told m) (t t' : Fin (cfgM m (ok_of hT)).N)
    (h : ((cfgM m (ok_of hT)).win 1).index t = ((cfgM m (ok_of hT)).win 1).index t') : t = t' := by
  have e0 := (ix_row m t).symm.trans ((congrFun h (0 : Fin 2)).trans (ix_row m t'))
  have e1 := (ix_col m t).symm.trans ((congrFun h (1 : Fin 2)).trans (ix_col m t'))
  have := (hT 0).cells (pt t) (pt t') (BitVec.eq_of_toNat_eq e0) (BitVec.eq_of_toNat_eq e1)
  exact Fin.ext (congrArg Fin.val this)

/-- Every point stores its block. -/
theorem flush1 (hT : Told m) (t : Fin (cfgM m (ok_of hT)).N) : ((cfgM m (ok_of hT)).win 1).flush t = true := by
  unfold Pipeline.Window.flush
  rw [Bool.and_eq_true]
  refine ⟨rfl, ?_⟩
  rw [Bool.or_eq_true, decide_eq_true_eq, decide_eq_true_eq]
  by_cases h : t.val + 1 = (cfgM m (ok_of hT)).grid.N
  · exact Or.inl h
  · refine Or.inr ⟨Nat.lt_of_le_of_ne t.isLt h, fun e => ?_⟩
    have := congrArg Fin.val (index_inj hT _ _ e)
    exact absurd this (Nat.succ_ne_self _)

/-- A point's block of the array after the call. -/
theorem blocks1 (hT : Told m) (hC : ∀ c, Chain m c) (c : Dev nD) (t : Fin (cfgM m (ok_of hT)).N) :
    (((cfgM m (ok_of hT)).win 1).blk t).view.read (Elt Ideal) ((dats m (ok_of hT) hC 0 c).arrAt 1 (cfgM m (ok_of hT)).N)
      = (dats m (ok_of hT) hC 0 c).flushed 1 t :=
  (dats m (ok_of hT) hC 0 c).read_blk_arrAt_eq_flushed 1
    (fun t t' _ _ hne => ((cfgM m (ok_of hT)).win 1).disjoint_blk fun h => hne (index_inj hT t t' h)) _ t t.isLt (flush1 hT t)

/-- An element of a point's block of rows. -/
theorem in0 (hT : Told m) (t : Fin (cfgM m (ok_of hT)).N) (r' : Fin 256) (k : Fin 2048) (r : Fin 86016)
    (hr : r.val = (m (((0 : Dev nD).tc : Thread nD τ).loc main_arg0) (ix1 (pt t)) : BitVec 32).toNat * 256 + r'.val) :
    iblk m (ok_of hT) 0 0 t (ix2 r' k) = m (((0 : Dev nD).tc : Thread nD τ).loc main_arg6) (ix2 r k) := by
  refine Eq.trans (b := m (((0 : Dev nD).tc : Thread nD τ).loc main_arg6) ((((cfgM m (ok_of hT)).win 0).blk t).view.emb (ix2 r' k))) rfl ?_
  refine congrArg (m (((0 : Dev nD).tc : Thread nD τ).loc main_arg6)) ?_
  funext p
  refine Fin.ext ?_
  have h0 := ix_x m t
  match p with
  | ⟨0, _⟩ =>
    show cc0_transform_0 k0_off1_inb numel1_S1 (tbl m) (grid0.coords t) 0 * 256 + 1 * r'.val = r.val
    rw [h0]; omega
  | ⟨1, _⟩ =>
    show 0 * 2048 + 1 * k.val = k.val
    omega

/-- A point's expert. -/
abbrev ex (hT : Told m) (t : Fin grid0.N) : Fin 64 := ⟨(m (((0 : Dev nD).tc : Thread nD τ).loc main_arg2) (ix1 (pt t)) : BitVec 32).toNat, (hT 0).expert _⟩

/-- A point's expert's matrices, narrowed, at an element. -/
theorem gw_at (hT : Told m) (hC : Chain m 0) (t : Fin grid0.N) (k : Fin 4096) (x : Fin 512) (y : Fin 1024)
    (hy : y.val = (m (((0 : Dev nD).tc : Thread nD τ).loc main_arg1) (ix1 (pt t)) : BitVec 32).toNat * 512 + x.val) :
    gw hC t (ix2 k x) = m (((0 : Dev nD).tc : Thread nD τ).loc main_arg7) (ix3 (ex hT t) k y) := by
  have he := eAt_eq m 0 t
  have hh := hAt_eq m 0 t
  refine (gate_at 0 _ _ _ _ (by rw [he]; exact (hT 0).expert (pt t)) (by rw [hh]; exact (hT 0).half (pt t)) k x y (by rw [hh]; exact hy)).trans ?_
  refine congrArg (m (((0 : Dev nD).tc : Thread nD τ).loc main_arg7)) ?_
  funext p
  refine Fin.ext ?_
  match p with
  | ⟨0, _⟩ =>
    show (eAt m 0 t : BitVec 32).toNat = (m (((0 : Dev nD).tc : Thread nD τ).loc main_arg2) (ix1 (pt t)) : BitVec 32).toNat
    rw [he]
  | ⟨1, _⟩ => rfl
  | ⟨2, _⟩ => rfl
theorem uw_at (hT : Told m) (hC : Chain m 0) (t : Fin grid0.N) (k : Fin 4096) (x : Fin 512) (y : Fin 1024)
    (hy : y.val = (m (((0 : Dev nD).tc : Thread nD τ).loc main_arg1) (ix1 (pt t)) : BitVec 32).toNat * 512 + x.val) :
    uw hC t (ix2 k x) = m (((0 : Dev nD).tc : Thread nD τ).loc main_arg8) (ix3 (ex hT t) k y) := by
  have he := eAt_eq m 0 t
  have hh := hAt_eq m 0 t
  refine (up_at 0 _ _ _ _ (by rw [he]; exact (hT 0).expert (pt t)) (by rw [hh]; exact (hT 0).half (pt t)) k x y (by rw [hh]; exact hy)).trans ?_
  refine congrArg (m (((0 : Dev nD).tc : Thread nD τ).loc main_arg8)) ?_
  funext p
  refine Fin.ext ?_
  match p with
  | ⟨0, _⟩ =>
    show (eAt m 0 t : BitVec 32).toNat = (m (((0 : Dev nD).tc : Thread nD τ).loc main_arg2) (ix1 (pt t)) : BitVec 32).toNat
    rw [he]
  | ⟨1, _⟩ => rfl
  | ⟨2, _⟩ => rfl

/-- What a point leaves, at an element. -/
theorem res_at (hT : Told m) (hC : Chain m 0) (t : Fin grid0.N) (a : Vec Ideal S256x2048 .i32) (r : Fin 86016) (r' : Fin 256) (x : Fin 512) (y : Fin 1024)
    (hy : y.val = (m (((0 : Dev nD).tc : Thread nD τ).loc main_arg1) (ix1 (pt t)) : BitVec 32).toNat * 512 + x.val)
    (ha : ∀ k, a (ix2 r' k) = m (((0 : Dev nD).tc : Thread nD τ).loc main_arg6) (ix2 r k)) :
    res hC t a (ix2 r' x)
      = prod (m (((0 : Dev nD).tc : Thread nD τ).loc main_arg6)) (m (((0 : Dev nD).tc : Thread nD τ).loc main_arg7))
          (m (((0 : Dev nD).tc : Thread nD τ).loc main_arg8)) (ex hT t) (m (((0 : Dev nD).tc : Thread nD τ).loc main_arg3) (ix1 (pt t))) r y := by
  have hg := gAt_eq m 0 t
  obtain ⟨v, ev⟩ := Cert.Tables.eight _ ((hT 0).flags (pt t))
  have h4 := cond4_small v
  rw [← ev] at h4
  unfold res prod
  rw [hg]
  by_cases c4 : k0_cond4 (m (((0 : Dev nD).tc : Thread nD τ).loc main_arg3) (ix1 (pt t))) = 1#1
  · rw [if_pos c4, if_pos (h4.mp c4), dot_halves, dot_halves]
    refine (pay4_at _ _ _ _ _ r' x).trans ?_
    have tg : ∀ k : Fin 2048, top (gw hC t) (ix2 k x) = m (((0 : Dev nD).tc : Thread nD τ).loc main_arg7) (ix3 (ex hT t) ⟨k.val, by have := k.isLt; omega⟩ y) :=
      fun k => gw_at hT hC t _ x y hy
    have bg : ∀ k : Fin 2048, bot (gw hC t) (ix2 k x) = m (((0 : Dev nD).tc : Thread nD τ).loc main_arg7) (ix3 (ex hT t) ⟨2048 + k.val, by have := k.isLt; omega⟩ y) :=
      fun k => gw_at hT hC t _ x y hy
    have tu : ∀ k : Fin 2048, top (uw hC t) (ix2 k x) = m (((0 : Dev nD).tc : Thread nD τ).loc main_arg8) (ix3 (ex hT t) ⟨k.val, by have := k.isLt; omega⟩ y) :=
      fun k => uw_at hT hC t _ x y hy
    have bu : ∀ k : Fin 2048, bot (uw hC t) (ix2 k x) = m (((0 : Dev nD).tc : Thread nD τ).loc main_arg8) (ix3 (ex hT t) ⟨2048 + k.val, by have := k.isLt; omega⟩ y) :=
      fun k => uw_at hT hC t _ x y hy
    simp only [ha, tg, bg, tu, bu]
  · rw [if_neg c4, if_neg (fun q => c4 (h4.mpr q))]
    exact pay1_at _

/-- An element of a point's block of the result, in the array. -/
theorem read_at (hT : Told m) (t : Fin (cfgM m (ok_of hT)).N) (f : Buf (Elt Ideal) (((0 : Dev nD).tc : Thread nD τ).loc main_v0))
    (r' : Fin 256) (x : Fin 512) (r : Fin 86016) (y : Fin 1024)
    (hr : r.val = (m (((0 : Dev nD).tc : Thread nD τ).loc main_arg0) (ix1 (pt t)) : BitVec 32).toNat * 256 + r'.val)
    (hy : y.val = (m (((0 : Dev nD).tc : Thread nD τ).loc main_arg1) (ix1 (pt t)) : BitVec 32).toNat * 512 + x.val) :
    (((cfgM m (ok_of hT)).win 1).blk t).view.read (Elt Ideal) f (ix2 r' x) = f (ix2 r y) := by
  refine Eq.trans (b := f ((((cfgM m (ok_of hT)).win 1).blk t).view.emb (ix2 r' x))) rfl ?_
  refine congrArg f ?_
  funext p
  refine Fin.ext ?_
  have h0 := ix_row m t
  have h1 := ix_col m t
  match p with
  | ⟨0, _⟩ =>
    show cc0_transform_3 k0_off1_inb numel1_S1 (tbl m) (grid0.coords t) 0 * 256 + 1 * r'.val = r.val
    rw [h0]; omega
  | ⟨1, _⟩ =>
    show cc0_transform_3 k0_off1_inb numel1_S1 (tbl m) (grid0.coords t) 1 * 512 + 1 * x.val = y.val
    rw [h1]; omega

/-- The array after the call, at an element of the block of point `t`. -/
theorem arr_at (hT : Told m) (hC : ∀ c, Chain m c) (t : Fin grid0.N) (r : Fin 86016) (y : Fin 1024)
    (hr : (m (((0 : Dev nD).tc : Thread nD τ).loc main_arg0) (ix1 (pt t)) : BitVec 32).toNat = r.val / 256)
    (hy : (m (((0 : Dev nD).tc : Thread nD τ).loc main_arg1) (ix1 (pt t)) : BitVec 32).toNat = y.val / 512) :
    (dats m (ok_of hT) hC 0 0).arrAt 1 (cfgM m (ok_of hT)).N (ix2 r y)
      = prod (m (((0 : Dev nD).tc : Thread nD τ).loc main_arg6)) (m (((0 : Dev nD).tc : Thread nD τ).loc main_arg7))
          (m (((0 : Dev nD).tc : Thread nD τ).loc main_arg8)) (ex hT t) (m (((0 : Dev nD).tc : Thread nD τ).loc main_arg3) (ix1 (pt t))) r y := by
  obtain ⟨r', hr'⟩ : ∃ r' : Fin 256, r'.val = r.val % 256 := ⟨⟨r.val % 256, Nat.mod_lt _ (by decide)⟩, rfl⟩
  obtain ⟨x, hx⟩ : ∃ x : Fin 512, x.val = y.val % 512 := ⟨⟨y.val % 512, Nat.mod_lt _ (by decide)⟩, rfl⟩
  have hr2 : r.val = (m (((0 : Dev nD).tc : Thread nD τ).loc main_arg0) (ix1 (pt t)) : BitVec 32).toNat * 256 + r'.val := by rw [hr, hr']; omega
  have hy2 : y.val = (m (((0 : Dev nD).tc : Thread nD τ).loc main_arg1) (ix1 (pt t)) : BitVec 32).toNat * 512 + x.val := by rw [hy, hx]; omega
  have e2 : (dats m (ok_of hT) hC 0 0).flushed 1 t (ix2 r' x)
      = prod (m (((0 : Dev nD).tc : Thread nD τ).loc main_arg6)) (m (((0 : Dev nD).tc : Thread nD τ).loc main_arg7))
          (m (((0 : Dev nD).tc : Thread nD τ).loc main_arg8)) (ex hT t) (m (((0 : Dev nD).tc : Thread nD τ).loc main_arg3) (ix1 (pt t))) r y :=
    (congrFun (after0_1 m (ok_of hT) hC 0 t) _).trans (res_at hT (hC 0) t _ r r' x y hy2 fun k => in0 hT t r' k r hr2)
  exact (read_at hT t _ r' x r y hr2 hy2).symm.trans ((congrFun (blocks1 hT hC 0 t) _).trans e2)

end Kernel

end Cert.UpIdeal.Hand

end
-- ==== Proof.Up.Reference.lean ====
/- The experts' first products: the reference's array, element by element, at the ideal instance. -/
module

public import proofs.«01_k».proof.Proof.Up.ValueIdeal
public import proofs.«01_k».proof.Proof.Gen.UpReferenceIdeal.Run
public import proofs.«01_k».proof.Proof.Gen.UpReferenceIdeal.Read
public import Idealize.ShloMosaic.Lib.BitcastConvert

@[expose] public section

set_option maxRecDepth 16384

noncomputable section

namespace Cert.UpReferenceIdeal.Hand

open Cert.UpReferenceIdeal Cert.UpReferenceIdeal.Gen Cert.UpReferenceIdeal.Read
open Idealize.ShloMosaic
open Cert.UpIdeal.Hand (lo hi feat dotAt act prod one_bits)
open Cert.UpTables (Says)
open Finset

/-- The float zero is zero. -/
theorem zero_bits : (FloatOps.ofBits .f32 0x00000000#32 : Ideal .f32) = (0 : EReal) := by
  simp only [pointwise, Ideal.ofBits_def]

variable (r h e g n q : IVec S672 32) (xp : IVec S86016x2048 32) (wg wu : FVec Ideal S64x4096x1024 .f32)

/-- The floats of a word: the lower sixteen bits are part 0, the upper part 1. -/
theorem part_at (a : Fin 86016) (k : Fin 2048) (p : Fin 2) :
    val_main_v23 (F := Ideal) xp (ix3 a k p) = Ideal.ofBits .bf16 ((xp (ix2 a k)).extractLsb' (p.val * 16) 16) := by
  unfold val_main_v23
  refine (congrArg (Ideal.ofBits .bf16) (Host.bitcastConvertNarrow_apply S86016x2048x2 16 xp splits_S86016x2048_w32_S86016x2048x2_w16 (ix3 a k p))).trans ?_
  have e1 : splits_S86016x2048_w32_S86016x2048x2_w16.drop (ix3 a k p) = ix2 a k := by
    funext b
    match b with
    | ⟨0, _⟩ => rfl
    | ⟨1, _⟩ => rfl
  rw [e1]
  rfl
theorem first_at (a : Fin 86016) (k : Fin 2048) : val_main_v25 (F := Ideal) xp (ix2 a k) = lo (xp (ix2 a k)) := by
  rw [val_main_v25_apply, val_main_v24_apply]
  have hk := k.isLt
  have e1 : idx_main_v24 (idx_main_v25 (ix2 a k)) = ix3 a k 0 := by
    funext b
    refine Fin.ext ?_
    match b with
    | ⟨0, _⟩ => show (a.val * 2048 + k.val) / 2048 = a.val; omega
    | ⟨1, _⟩ => show (a.val * 2048 + k.val) / 1 % 2048 = k.val; omega
    | ⟨2, _⟩ => rfl
  rw [e1]
  exact part_at xp a k 0
theorem second_at (a : Fin 86016) (k : Fin 2048) : val_main_v27 (F := Ideal) xp (ix2 a k) = hi (xp (ix2 a k)) := by
  rw [val_main_v27_apply, val_main_v26_apply]
  have hk := k.isLt
  have e1 : idx_main_v26 (idx_main_v27 (ix2 a k)) = ix3 a k 1 := by
    funext b
    refine Fin.ext ?_
    match b with
    | ⟨0, _⟩ => show (a.val * 2048 + k.val) / 2048 = a.val; omega
    | ⟨1, _⟩ => show (a.val * 2048 + k.val) / 1 % 2048 = k.val; omega
    | ⟨2, _⟩ => rfl
  rw [e1]
  exact part_at xp a k 1

/-- A feature of a row. -/
theorem feat_at (a : Fin 86016) (k : Fin 4096) : val_main_v29 (F := Ideal) xp (ix2 a k) = feat xp a k := by
  rw [val_main_v29_apply]
  refine Eq.trans (b := val_main_v28 (F := Ideal) xp (ix2 a k)) rfl ?_
  have hk := k.isLt
  unfold val_main_v28 feat
  by_cases hlt : k.val < 2048
  · rw [dif_pos hlt, ← first_at]
    exact concatenate_pair_apply_left 1 (val_main_v25 (F := Ideal) xp) (val_main_v27 (F := Ideal) xp) _ (ix2 a k) rfl (ix2 a ⟨k.val, hlt⟩) (fun b => match b with
      | ⟨0, _⟩ => rfl
      | ⟨1, _⟩ => rfl)
  · rw [dif_neg hlt, ← second_at]
    refine concatenate_pair_apply_right 1 (val_main_v25 (F := Ideal) xp) (val_main_v27 (F := Ideal) xp) _ (ix2 a k) rfl rfl (ix2 a ⟨k.val - 2048, by omega⟩) (fun b hb => ?_) ?_
    · match b with
      | ⟨0, _⟩ => rfl
      | ⟨1, _⟩ => exact absurd rfl hb
    · show k.val - 2048 + 2048 = k.val
      omega

/-- A row of a block, as the products read it. -/
theorem row_at (i : Fin 336) (r' : Fin 256) (k : Fin 4096) (a : Fin 86016) (ha : a.val = i.val * 256 + r'.val) :
    val_main_v30 (F := Ideal) xp (ix3 i r' k) = feat xp a k := by
  rw [val_main_v30_apply, ← feat_at]
  refine congrArg (val_main_v29 (F := Ideal) xp) ?_
  have hk := k.isLt
  funext p
  refine Fin.ext ?_
  match p with
  | ⟨0, _⟩ => show ((i.val * 256 + r'.val) * 4096 + k.val) / 4096 = a.val; omega
  | ⟨1, _⟩ => show ((i.val * 256 + r'.val) * 4096 + k.val) % 4096 = k.val; omega

/-- A row of a block times a column of an expert's matrix. -/
theorem gate_dot (i : Fin 336) (r' : Fin 256) (j : Fin 64) (x : Fin 1024) (a : Fin 86016) (ha : a.val = i.val * 256 + r'.val) :
    val_main_v31 (F := Ideal) xp wg (ix4 i r' j x) = dotAt xp wg j a x := by
  rw [val_main_v31_apply]
  refine Finset.sum_congr rfl fun k _ => ?_
  have e1 : ridx_main_v31 (ix4 i r' j x) k = ix3 j k x := by
    funext p
    match p with
    | ⟨0, _⟩ => rfl
    | ⟨1, _⟩ => rfl
    | ⟨2, _⟩ => rfl
  have e0 : lidx_main_v31 (ix4 i r' j x) k = ix3 i r' k := by
    funext p
    match p with
    | ⟨0, _⟩ => rfl
    | ⟨1, _⟩ => rfl
    | ⟨2, _⟩ => rfl
  rw [e0, e1, row_at xp i r' k a ha]
theorem up_dot (i : Fin 336) (r' : Fin 256) (j : Fin 64) (x : Fin 1024) (a : Fin 86016) (ha : a.val = i.val * 256 + r'.val) :
    val_main_v33 (F := Ideal) xp wu (ix4 i r' j x) = dotAt xp wu j a x := by
  rw [val_main_v33_apply]
  refine Finset.sum_congr rfl fun k _ => ?_
  have e1 : ridx_main_v33 (ix4 i r' j x) k = ix3 j k x := by
    funext p
    match p with
    | ⟨0, _⟩ => rfl
    | ⟨1, _⟩ => rfl
    | ⟨2, _⟩ => rfl
  have e0 : lidx_main_v33 (ix4 i r' j x) k = ix3 i r' k := by
    funext p
    match p with
    | ⟨0, _⟩ => rfl
    | ⟨1, _⟩ => rfl
    | ⟨2, _⟩ => rfl
  rw [e0, e1, row_at xp i r' k a ha]

/-- The gated product of a row with any expert. -/
theorem act_at (i : Fin 336) (r' : Fin 256) (j : Fin 64) (x : Fin 1024) (a : Fin 86016) (ha : a.val = i.val * 256 + r'.val) :
    val_main_v34 (F := Ideal) xp wg wu (ix4 i r' j x) = act (dotAt xp wg j a x) (dotAt xp wu j a x) := by
  rw [val_main_v34_apply, val_main_v32_apply, val_main_call0_v5_apply, val_main_call0_v4_apply, val_main_call0_cst_0_apply,
    val_main_call0_v3_apply, val_main_call0_v2_apply, val_main_call0_cst_apply, val_main_call0_v1_apply, val_main_call0_v0_apply,
    one_bits, gate_dot xp wg i r' j x a ha, up_dot xp wu i r' j x a ha]
  rfl

/-- A fold of disjunctions is set exactly when the start or one of the bits is. -/
theorem any_iff {ι : Type} (f : ι → BitVec 1) (l : List ι) : ∀ b : BitVec 1,
    l.foldl (fun a i => IntOp.ori a (f i)) b = 1#1 ↔ b = 1#1 ∨ ∃ i ∈ l, f i = 1#1 := by
  induction l with
  | nil => intro b; simp
  | cons i l ih =>
    intro b
    rw [List.foldl_cons, ih, Cert.UpTables.or_iff]
    simp [or_assoc]

/-- A point is of a block and of an expert, and used. -/
theorem own_step (b : Fin 336) (s : Fin 672) (j : Fin 64) : val_main_v21 (F := Ideal) r e g (ix3 b s j) = 1#1
    ↔ r (ix1 s) = BitVec.ofNat 32 b.val ∧ e (ix1 s) = BitVec.ofNat 32 j.val ∧ g (ix1 s) &&& 2#32 = 2#32 := by
  rw [val_main_v21_apply, Cert.Tables.and_iff, val_main_v14_apply, Cert.Tables.and_iff, val_main_v12_apply, val_main_v5_apply, Cert.Tables.eq_iff,
    val_main_v3_apply, val_main_v0_apply, val_main_v4_apply, val_main_v2_apply, val_main_v1_apply, val_main_v13_apply, val_main_v11_apply,
    Cert.Tables.eq_iff, val_main_v9_apply, val_main_v6_apply, val_main_v10_apply, val_main_v8_apply, val_main_v7_apply, val_main_v20_apply,
    val_main_v19_apply, val_main_v18_apply, Cert.Tables.eq_iff, val_main_v16_apply, val_main_v15_apply, val_main_v17_apply, val_main_c_apply,
    val_main_c_0_apply, and_assoc]
  have e0 : idx_main_v0 (idx_main_v3 (idx_main_v12 (ix3 b s j))) = ix1 s := by
    funext p
    match p with
    | ⟨0, _⟩ => rfl
  have e1 : idx_main_v6 (idx_main_v9 (idx_main_v13 (ix3 b s j))) = ix1 s := by
    funext p
    match p with
    | ⟨0, _⟩ => rfl
  have e2 : idx_main_v19 (idx_main_v20 (ix3 b s j)) = ix1 s := by
    funext p
    match p with
    | ⟨0, _⟩ => rfl
  rw [e0, e1, e2]
  rfl

/-- An expert has a block exactly when some used point of the block names it. -/
theorem own_at (b : Fin 336) (j : Fin 64) : val_main_v22 (F := Ideal) r e g (ix2 b j) = 1#1
    ↔ ∃ s : Fin 672, r (ix1 s) = BitVec.ofNat 32 b.val ∧ e (ix1 s) = BitVec.ofNat 32 j.val ∧ g (ix1 s) &&& 2#32 = 2#32 := by
  unfold val_main_v22
  rw [Host.reduce_eq_foldl, any_iff, val_main_c_1_apply]
  have hd : ∀ (b' : Fin 336) (s : Fin 672) (j' : Fin 64), reducesTo_S336x672x64_S336x64_d1.drop (ix3 b' s j') = ix2 b' j' := fun b' s j' => by
    funext p
    match p with
    | ⟨0, _⟩ => rfl
    | ⟨1, _⟩ => rfl
  constructor
  · rintro (h0 | ⟨i, hi, h1⟩)
    · exact absurd h0 (by decide)
    · rw [List.mem_filter, decide_eq_true_eq] at hi
      obtain ⟨b', s, j', rfl⟩ : ∃ (b' : Fin 336) (s : Fin 672) (j' : Fin 64), i = ix3 b' s j' :=
        ⟨i 0, i 1, i 2, by funext a; match a with | ⟨0, _⟩ => rfl | ⟨1, _⟩ => rfl | ⟨2, _⟩ => rfl⟩
      have hq := (hd b' s j').symm.trans hi.2
      obtain rfl : b' = b := congrFun hq (0 : Fin 2)
      obtain rfl : j' = j := congrFun hq (1 : Fin 2)
      exact ⟨s, (own_step r e g _ s _).mp h1⟩
  · rintro ⟨s, hs⟩
    refine Or.inr ⟨ix3 b s j, ?_, (own_step r e g b s j).mpr hs⟩
    rw [List.mem_filter, decide_eq_true_eq]
    exact ⟨List.mem_map.mpr ⟨S336x672x64.rowMajor (ix3 b s j), List.mem_finRange _, Equiv.symm_apply_apply _ _⟩, hd b s j⟩

/-- A word is the word of its number. -/
theorem word_eq (w : BitVec 32) (k : Nat) (hk : w.toNat = k) : w = BitVec.ofNat 32 k := by subst hk; simp

/-- Under what the tables say, an expert has a block exactly when it is that of any point of the block, and the point is used. -/
theorem own_of (hS : Says r h e g n q) (b : Fin 336) (t : Fin 672) (hb : (r (ix1 t)).toNat = b.val) (j : Fin 64) :
    val_main_v22 (F := Ideal) r e g (ix2 b j) = 1#1 ↔ j = ⟨(e (ix1 t)).toNat, hS.expert t⟩ ∧ g (ix1 t) &&& 2#32 = 2#32 := by
  have hb' := word_eq _ _ hb
  rw [own_at]
  constructor
  · rintro ⟨s, h1, h2, h3⟩
    obtain ⟨ae, ag⟩ := hS.agree s t (h1.trans hb'.symm)
    refine ⟨Fin.ext ?_, ag.mp h3⟩
    show j.val = (e (ix1 t)).toNat
    rw [← ae, h2, BitVec.toNat_ofNat]
    have := j.isLt
    omega
  · rintro ⟨rfl, h3⟩
    exact ⟨t, hb', word_eq _ _ rfl, h3⟩

/-- The sum over the experts has at most one term: that of the block's own. -/
theorem sum_at (hS : Says r h e g n q) (b : Fin 336) (t : Fin 672) (hb : (r (ix1 t)).toNat = b.val) (r' : Fin 256) (x : Fin 1024)
    (a : Fin 86016) (ha : a.val = b.val * 256 + r'.val) :
    val_main_v37 (F := Ideal) r e g xp wg wu (ix3 b r' x) = prod xp wg wu ⟨(e (ix1 t)).toNat, hS.expert t⟩ (g (ix1 t)) a x := by
  rw [val_main_v37_apply, val_main_cst_2_apply, zero_bits, zero_add]
  have ei : ∀ j : Fin 64, idx_main_v37 (ix3 b r' x) j = ix4 b r' j x := fun j => by
    funext p
    match p with
    | ⟨0, _⟩ => rfl
    | ⟨1, _⟩ => rfl
    | ⟨2, _⟩ => rfl
    | ⟨3, _⟩ => rfl
  have em : ∀ j : Fin 64, val_main_call1_v1 (F := Ideal) r e g (ix4 b r' j x) = val_main_v22 (F := Ideal) r e g (ix2 b j) := fun j => by
    rw [val_main_call1_v1_apply, val_main_v35_apply]
    refine congrArg (val_main_v22 (F := Ideal) r e g) ?_
    funext p
    match p with
    | ⟨0, _⟩ => rfl
    | ⟨1, _⟩ => rfl
  have ez : ∀ j : Fin 64, val_main_call1_v2 (F := Ideal) (ix4 b r' j x) = (0 : EReal) := fun j => by
    rw [val_main_call1_v2_apply, val_main_call1_v0_apply, val_main_cst_apply]
    exact zero_bits
  have et : ∀ j : Fin 64, val_main_v36 (F := Ideal) r e g xp wg wu (ix4 b r' j x)
      = if val_main_v22 (F := Ideal) r e g (ix2 b j) = 1#1 then act (dotAt xp wg j a x) (dotAt xp wu j a x) else 0 := fun j => by
    rw [val_main_v36_apply, em, ez, act_at xp wg wu b r' j x a ha]
    rfl
  rw [Finset.sum_eq_single (⟨(e (ix1 t)).toNat, hS.expert t⟩ : Fin 64)]
  · rw [ei, et]
    unfold prod
    refine if_congr ?_ rfl rfl
    rw [own_of r h e g n q hS b t hb]
    exact ⟨fun p => p.2, fun p => ⟨rfl, p⟩⟩
  · intro j _ hj
    rw [ei, et]
    exact if_neg fun p => hj ((own_of r h e g n q hS b t hb j).mp p).1
  · intro p; exact absurd (Finset.mem_univ _) p

/-- The reference's array, at an element of the block of point `t`. -/
theorem ref_at (hS : Says r h e g n q) (t : Fin 672) (a : Fin 86016) (x : Fin 1024) (hb : (r (ix1 t)).toNat = a.val / 256) :
    val_main_v39 (F := Ideal) r e g xp wg wu (ix2 a x) = prod xp wg wu ⟨(e (ix1 t)).toNat, hS.expert t⟩ (g (ix1 t)) a x := by
  have ha := a.isLt
  have hx := x.isLt
  obtain ⟨b, hb'⟩ : ∃ b : Fin 336, b.val = a.val / 256 := ⟨⟨a.val / 256, by omega⟩, rfl⟩
  obtain ⟨r', hr'⟩ : ∃ r' : Fin 256, r'.val = a.val % 256 := ⟨⟨a.val % 256, Nat.mod_lt _ (by decide)⟩, rfl⟩
  have ei : idx_main_v38 (ix2 a x) = ix3 b r' x := by
    funext p
    refine Fin.ext ?_
    match p with
    | ⟨0, _⟩ => show (a.val * 1024 + x.val) / 262144 = b.val; omega
    | ⟨1, _⟩ => show (a.val * 1024 + x.val) / 1024 % 256 = r'.val; omega
    | ⟨2, _⟩ => show (a.val * 1024 + x.val) % 1024 = x.val; omega
  rw [val_main_v39_apply, val_main_v38_apply, ei, sum_at r h e g n q xp wg wu hS b t (hb.trans hb'.symm) r' x a (by omega)]
  rfl

end Cert.UpReferenceIdeal.Hand

end
-- ==== Proof.Up.lean ====
/- The claims of the experts' first products. -/
module

public import proofs.«01_k».proof.Proof.Up.TablesIdeal
public import proofs.«01_k».proof.Proof.Up.Reference
public import proofs.«01_k».proof.Proof.Gen.Up.Launch
public import proofs.«01_k».proof.Proof.Gen.Up.Skeleton
public import proofs.«01_k».proof.Defs

@[expose] public section

set_option maxRecDepth 16384

noncomputable section

namespace Cert.First

open Idealize.ShloMosaic Idealize.ShloMosaic.TcCoe Idealize.SL.Sem

section Same
variable {F : FTy → Type} [FloatOps F]

/-- Nothing was replaced: the two programs' bodies are one text. -/
theorem bodies : @Cert.Up.defs₀ F _ Cert.Up.Gen.facts = @Cert.UpIdeal.defs₀ F _ Cert.UpIdeal.Gen.facts :=
  congrArg Defs.onTc (funext fun l => funext fun a => match l, a with
    | 0, (t, s) => rfl
    | ⟨n + 1, h⟩, _ => absurd h (Nat.not_lt.2 (Nat.le_add_left _ _)))
/-- So are the two programs. -/
theorem same : @Cert.Up.defs F _ Cert.Up.Gen.facts = @Cert.UpIdeal.defs F _ Cert.UpIdeal.Gen.facts :=
  congrArg (Pipeline.defs (@Cert.UpIdeal.pcfgs F _ Cert.UpIdeal.Gen.facts)) bodies
end Same

/-- The precondition, as what the tables say (the kernel's words). -/
theorem told_bits (m : (ℓ : Loc Cert.Up.nD Cert.Up.τ Cert.Up.sig) → Buf (Elt Bits) ℓ)
    (h : Cert.Pre_Up (hPre_up_tables := Cert.Pre_up_tables.Gen.facts) m) : Cert.UpIdeal.Hand.Told m := fun c =>
  Cert.UpTables.tables_say _ _ _ _ _ _ _ _ _ (h c).1 (h c).2.1 (h c).2.2.1 (h c).2.2.2.1 (h c).2.2.2.2.1 (h c).2.2.2.2.2.1 (h c).2.2.2.2.2.2.1 (h c).2.2.2.2.2.2.2.1 (h c).2.2.2.2.2.2.2.2

/-- The precondition, as what the tables say (at the ideal instance). -/
theorem told (m : (ℓ : Loc Cert.UpIdeal.nD Cert.UpIdeal.τ Cert.UpIdeal.sig) → Buf (Elt Ideal) ℓ)
    (h : Cert.Pre_UpIdeal (hPre_up_tables := Cert.Pre_up_tables.Gen.facts) m) : Cert.UpIdeal.Hand.Told m := fun c =>
  Cert.UpTables.tables_say _ _ _ _ _ _ _ _ _ (h c).1 (h c).2.1 (h c).2.2.1 (h c).2.2.2.1 (h c).2.2.2.2.1 (h c).2.2.2.2.2.1 (h c).2.2.2.2.2.2.1 (h c).2.2.2.2.2.2.2.1 (h c).2.2.2.2.2.2.2.2

/-- The kernel ends from any memory whose tables meet the precondition, with its arguments as launched and every counter at
    zero. -/
theorem frame : Cert.quiescent_Up (hUp := Cert.Up.Gen.facts) (hPre_up_tables := Cert.Pre_up_tables.Gen.facts) := by
  intro m g h
  rw [same]
  exact Cert.UpIdeal.Hand.frame m g (Cert.UpIdeal.Hand.ok_of (told_bits m h)) (Cert.UpIdeal.Hand.chain_of (told_bits m h))

/-- So does the idealized kernel. -/
theorem frame_ideal : Cert.quiescent_UpIdeal (hUpIdeal := Cert.UpIdeal.Gen.facts) (hPre_up_tables := Cert.Pre_up_tables.Gen.facts) :=
  fun m g h => Cert.UpIdeal.Hand.frame m g (Cert.UpIdeal.Hand.ok_of (told m h)) (Cert.UpIdeal.Hand.chain_of (told m h))

/-- The reference ends from any memory, with its arguments as launched and every counter at zero. -/
theorem frame_ref : Cert.quiescent_UpReferenceIdeal (hUpReferenceIdeal := Cert.UpReferenceIdeal.Gen.facts) :=
  fun m g => fun _ => (θ_run Cert.UpReferenceIdeal.defs _ _).mono (fun r h => ⟨fun c => (h c).2, sem_eq_zero_of_no_sems (by decide) r.2⟩)
    (Cert.UpReferenceIdeal.Value.run (F := Ideal) m g)

/-- The same under the precondition. -/
theorem frame_ref_pre : Cert.quiescent_UpReferenceIdeal_pre_up_tables (hUpReferenceIdeal := Cert.UpReferenceIdeal.Gen.facts)
    (hPre_up_tables := Cert.Pre_up_tables.Gen.facts) := fun m g _ => frame_ref m g trivial

/-- The kernel's and the reference's results are equal at the ideal instance: every element lies in the block of some point. -/
theorem algebraic : Cert.algebraic_UpIdeal_UpReferenceIdeal (hUpIdeal := Cert.UpIdeal.Gen.facts)
    (hUpReferenceIdeal := Cert.UpReferenceIdeal.Gen.facts) (hPre_up_tables := Cert.Pre_up_tables.Gen.facts) := by
  intro m g m' g' hpre hagree
  have hT := told m hpre
  have hC := Cert.UpIdeal.Hand.chain_of hT
  have hO := Cert.UpIdeal.Hand.ok_of hT
  refine ⟨fun c => (Cert.UpIdeal.Hand.dats m hO hC 0 c).arrAt 1 (Cert.UpIdeal.Hand.cfgM m hO).N, Cert.UpIdeal.Hand.run_blocks m g hO hC, ?_⟩
  refine (θ_run Cert.UpReferenceIdeal.defs _ _).mono (fun r h c => ⟨?_, (h c).2⟩) (Cert.UpReferenceIdeal.Value.run (F := Ideal) m' g')
  obtain rfl : c = 0 := Subsingleton.elim _ _
  obtain ⟨a0, a1, a2, a3, a4, a5, a6, a7, a8⟩ := hagree 0
  rw [(h 0).1, Cert.UpReferenceIdeal.Read.val_main_v39_eq, a0, a2, a3, a6, a7, a8]
  funext i
  obtain ⟨p, q, rfl⟩ : ∃ (p : Fin 86016) (q : Fin 1024), i = ix2 p q :=
    ⟨i 0, i 1, by funext a; match a with | ⟨0, _⟩ => rfl | ⟨1, _⟩ => rfl⟩
  have hp := p.isLt
  have hq := q.isLt
  obtain ⟨t, hr, hy⟩ := (hT 0).onto ⟨p.val / 256, by omega⟩ ⟨q.val / 512, by omega⟩
  exact (Cert.UpReferenceIdeal.Hand.ref_at _ _ _ _ _ _ _ _ _ (hT 0) t p q hr).trans
    (Cert.UpIdeal.Hand.arr_at hT hC t p q hr hy).symm

end Cert.First

end
-- ==== Proof.Means.lean ====
/- The claims of the means over the key blocks. -/
module

public import proofs.«01_k».proof.Proof.Gen.Means.Frame
public import proofs.«01_k».proof.Proof.Gen.MeansIdeal.Frame
public import proofs.«01_k».proof.Proof.Gen.MeansIdeal.Value
public import proofs.«01_k».proof.Proof.Gen.MeansReferenceIdeal.Run
public import proofs.«01_k».proof.Proof.Gen.MeansReferenceIdeal.Read
public import Idealize.ShloMosaic.Lib.Pointwise
public import proofs.«01_k».proof.Defs

@[expose] public section

set_option maxRecDepth 16384

noncomputable section

namespace Cert.Blocks

open Cert.MeansIdeal Cert.MeansIdeal.Gen Idealize.ShloMosaic Idealize.ShloMosaic.TcCoe Idealize.SL.Sem
open Idealize.ShloMosaic.Tactic
open Finset

/-- The start of a whole block of rows. -/
theorem zz : (![0, 0] : Fin 2 → Nat) = fun _ => 0 := by
  funext a; fin_cases a <;> rfl

/-- What a grid point leaves of its block: the mean of its rows, column by column. -/
theorem out_at (x : Vec Ideal S256x2048 .f32) (j : Fin 2048) :
    out0_1 x (ix3 0 0 j) = Ideal.div (∑ k : Fin 256, x (ix2 k j)) (Ideal.ofBits .f32 0x43800000#32) := by
  unfold out0_1
  rw [View.ld_unit_zero zz]
  refine (Cert.MeansIdeal.Value.canon1_eq x (ix3 0 0 j)).trans ?_
  show FloatOps.divf _ _ = _
  simp only [pointwise, Ideal.reduceAdd_def, Ideal.divf_def, Ideal.ofBits_def]

/-- The mean of 256 rows of the keys, at a column. -/
def avg (x : FVec Ideal S8704x2048 .f32) (b : Fin 32) (j : Fin 2048) : EReal :=
  Ideal.div (∑ k : Fin 256, x (ix2 ⟨256 * b.val + k.val, by omega⟩ j)) (Ideal.ofBits .f32 0x43800000#32)

section Kernel

variable (m : (ℓ : Loc nD τ sig) → Buf (Elt Ideal) ℓ) (c : Dev nD)

/-- A grid point is a block of rows. -/
theorem coords : ∀ t : Fin grid0.N, (grid0.coords t 0).val = t.val := by decide +kernel
/-- The rows that a point reads. -/
theorem tr0 : ∀ i : grid0.Coords, cc0_transform_0 i 0 = (i 0).val ∧ cc0_transform_0 i 1 = 0 := by decide +kernel
/-- The row that a point writes. -/
theorem tr1 : ∀ i : grid0.Coords, cc0_transform_1 i 0 = (i 0).val ∧ cc0_transform_1 i 1 = 0 ∧ cc0_transform_1 i 2 = 0 := by decide +kernel

/-- An element of a point's block of rows. -/
theorem in0 (t : Fin cfg0.N) (k : Fin 256) (j : Fin 2048) (r : Fin 8704) (hr : r.val = 256 * t.val + k.val) :
    iblk m c 0 t (ix2 k j) = m ((c : Thread nD τ).loc main_arg0) (ix2 r j) := by
  refine Eq.trans ?_ (congrFun (V_main_arg0 m c) (ix2 r j))
  unfold iblk
  rw [View.read_apply]
  show V m c main_arg0 _ = _
  congr 1
  funext p
  refine Fin.ext ?_
  have g0 := coords t
  obtain ⟨h0, h1⟩ := tr0 (grid0.coords t)
  match p with
  | ⟨0, _⟩ =>
    show cc0_transform_0 (grid0.coords t) 0 * 256 + 1 * k.val = r.val
    omega
  | ⟨1, _⟩ =>
    show cc0_transform_0 (grid0.coords t) 1 * 2048 + 1 * j.val = j.val
    omega

/-- What a point leaves, at an element. -/
theorem left (t : Fin cfg0.N) (b : Fin 32) (hb : b.val = t.val) (j : Fin 2048) :
    (dats m 0 c).flushed 1 t (ix3 0 0 j) = avg (m ((c : Thread nD τ).loc main_arg0)) b j := by
  refine (congrFun (after0_1 m c t) (ix3 0 0 j)).trans ((out_at (iblk m c 0 t) j).trans ?_)
  unfold avg
  refine congrArg (fun s : EReal => Ideal.div s _) ?_
  exact Finset.sum_congr rfl fun k _ => in0 m c t k j _ (by show 256 * b.val + k.val = _; omega)

/-- The array after the call, at an element. -/
theorem arr_at (b : Fin 32) (e : Fin 1) (j : Fin 2048) :
    (dats m 0 c).arrAt 1 cfg0.N (ix3 b e j) = avg (m ((c : Thread nD τ).loc main_arg0)) b j := by
  let t : Fin cfg0.N := ⟨b.val, b.isLt⟩
  have ht : t.val = b.val := rfl
  refine Eq.trans ?_ (left m c t b rfl j)
  refine Eq.trans ?_ (congrFun (Cert.MeansIdeal.Value.blocks1 m c t (flush0_1 t)) _)
  rw [View.read_apply]
  congr 1
  funext p
  refine Fin.ext ?_
  have g0 := coords t
  obtain ⟨h0, h1, h2⟩ := tr1 (grid0.coords t)
  match p with
  | ⟨0, _⟩ =>
    show b.val = cc0_transform_1 (grid0.coords t) 0 * 1 + 1 * 0
    rw [h0, g0, ht]
    omega
  | ⟨1, _⟩ =>
    show e.val = cc0_transform_1 (grid0.coords t) 1 * 1 + 1 * 0
    have := e.isLt
    omega
  | ⟨2, _⟩ =>
    show j.val = cc0_transform_1 (grid0.coords t) 2 * 2048 + 1 * j.val
    omega

end Kernel

section Reference

open Cert.MeansReferenceIdeal.Read

/-- The reference's mean, at an element. -/
theorem ref_at (x : FVec Ideal S8704x2048 .f32) (b : Fin 32) (e : Fin 1) (j : Fin 2048) :
    val_main_v5 (F := Ideal) x (ix3 b e j) = avg x b j := by
  rw [val_main_v5_apply, val_main_v4_apply, val_main_v2_apply, val_main_v3_apply, val_main_cst_apply, val_main_cst_0_apply,
    Ideal.ofBits_def, Ideal.ofBits_zero_f32, zero_add, Ideal.hostDivf_def]
  unfold avg
  congr 1
  refine Finset.sum_congr rfl fun k _ => ?_
  rw [val_main_v1_apply, val_main_v0_apply]
  congr 1
  have hk := k.isLt
  have hb := b.isLt
  have hj := j.isLt
  funext a
  refine Fin.ext ?_
  match a with
  | ⟨0, _⟩ =>
    show ((b.val * 256 + k.val) * 2048 + j.val) / 2048 = 256 * b.val + k.val
    omega
  | ⟨1, _⟩ =>
    show ((b.val * 256 + k.val) * 2048 + j.val) % 2048 = j.val
    omega

end Reference

/-- The reference ends from any memory, with its argument as launched and every counter at zero. -/
theorem frame_ref (m : (ℓ : Loc Cert.MeansReferenceIdeal.nD Cert.MeansReferenceIdeal.τ Cert.MeansReferenceIdeal.sig) → Buf (Elt Ideal) ℓ)
    (g : Dev Cert.MeansReferenceIdeal.nD → PrngReg) :
    θ_run (Cert.MeansReferenceIdeal.defs (F := Ideal)) (onTc (τ := Cert.MeansReferenceIdeal.τ) (Cert.MeansReferenceIdeal.main (F := Ideal)))
      ⟨m, fun _ => 0, g⟩ (fun r => (∀ c : Dev Cert.MeansReferenceIdeal.nD,
        r.2.mem ((c.tc : Thread Cert.MeansReferenceIdeal.nD Cert.MeansReferenceIdeal.τ).loc Cert.MeansReferenceIdeal.main_arg0) = m ((c.tc : Thread Cert.MeansReferenceIdeal.nD Cert.MeansReferenceIdeal.τ).loc Cert.MeansReferenceIdeal.main_arg0))
        ∧ r.2.sem = fun _ => 0) :=
  (θ_run Cert.MeansReferenceIdeal.defs _ _).mono (fun r h => ⟨fun c => (h c).2, sem_eq_zero_of_no_sems (by decide) r.2⟩)
    (Cert.MeansReferenceIdeal.Value.run (F := Ideal) m g)

/-- The kernel's and the reference's results are equal at the ideal instance. -/
theorem algebraic : Cert.algebraic_MeansIdeal_MeansReferenceIdeal (hMeansIdeal := Cert.MeansIdeal.Gen.facts)
    (hMeansReferenceIdeal := Cert.MeansReferenceIdeal.Gen.facts) := by
  intro m g m' g' hpre hagree
  refine ⟨fun c => (Cert.MeansIdeal.Gen.dats m 0 c).arrAt 1 Cert.MeansIdeal.cfg0.N, Cert.MeansIdeal.Value.run_blocks m g, ?_⟩
  refine (θ_run Cert.MeansReferenceIdeal.defs _ _).mono (fun r h c => ⟨?_, (h c).2⟩) (Cert.MeansReferenceIdeal.Value.run (F := Ideal) m' g')
  have a0 := hagree c
  rw [(h c).1, Cert.MeansReferenceIdeal.Read.val_main_v5_eq, a0]
  funext i
  obtain ⟨p, e, q, rfl⟩ : ∃ (p : Fin 32) (e : Fin 1) (q : Fin 2048), i = ix3 p e q :=
    ⟨i 0, i 1, i 2, by funext a; match a with | ⟨0, _⟩ => rfl | ⟨1, _⟩ => rfl | ⟨2, _⟩ => rfl⟩
  exact (ref_at _ p e q).trans (arr_at m c p e q).symm

end Cert.Blocks

end
-- ==== Proof.Mixed.lean ====
/- The claims of the two layer norms after the mix. -/
module

public import proofs.«01_k».proof.Proof.Gen.Mixed.Frame
public import proofs.«01_k».proof.Proof.Gen.MixedIdeal.Frame
public import proofs.«01_k».proof.Proof.Gen.MixedIdeal.Value
public import proofs.«01_k».proof.Proof.Gen.MixedReferenceIdeal.Run
public import proofs.«01_k».proof.Proof.Gen.MixedReferenceIdeal.Read
public import proofs.«01_k».proof.Proof.Heads.RefNorm
public import Idealize.ShloMosaic.Lib.Pointwise
public import Idealize.ShloMosaic.Lib.StableHlo.RunRead
public import proofs.«01_k».proof.Defs

@[expose] public section

set_option maxRecDepth 16384

noncomputable section

namespace Cert.Mix

open Cert.MixedIdeal Cert.MixedIdeal.Gen Idealize.ShloMosaic Idealize.ShloMosaic.TcCoe Idealize.SL.Sem
open Idealize.ShloMosaic.Tactic
open Finset
open Cert.Proj (mean norm row)

/-- A row after the mix: the row normalised and scaled, plus what the mix adds. -/
def mixed (x g b a : Fin 4096 → EReal) (k : Fin 4096) : EReal :=
  Ideal.ofBits .f32 0x3F9837F0#32 * norm x (g k) (b k) k + a k

/-- A block after the mix at an element, from the prompt's rows or the samples'. -/
theorem mixed_at (i : grid0.Coords) (v1 v2 : Vec Ideal S256x4096 .f32) (v4 v6 : Vec Ideal S1x4096 .f32) (v30 : Vec Ideal S256x4096 .f32)
    (r : Fin 256) (k : Fin 4096) :
    k0_pay4 i v1 v2 v4 v6 v30 (ix2 r k)
      = mixed (fun j => if (i 0).val < 32 then v1 (ix2 r j) else v2 (ix2 r j)) (fun j => v4 (ix2 0 j)) (fun j => v6 (ix2 0 j))
          (fun j => v30 (ix2 r j)) k := by
  unfold k0_pay4
  simp only [pointwise, Ideal.exp_def, Ideal.subf_def, Ideal.addf_def, Ideal.mulf_def, Ideal.reduceAdd_def, Ideal.ofBits_def,
    Ideal.divf_def, Ideal.rsqrt_def, Ideal.truncf_def]
  rw [Cert.Proj.norm_side i]
  by_cases h : (i 0).val < 32
  · simp only [if_pos h]
    rfl
  · simp only [if_neg h]
    rfl

/-- The second layer norm at an element, from the rows and their sums. -/
theorem norm2_at (v31 : FVec Ideal S256x4096 .f32) (v33 v35 : FVec Ideal S1x4096 .f32) (v36 : FVec Ideal S256 .f32)
    (hs : ∀ r : Fin 256, v36 (ix1 r) = ∑ j : Fin 4096, v31 (ix2 r j)) (r : Fin 256) (k : Fin 4096) :
    k0_pay8 v31 v33 v35 v36 (ix2 r k) = norm (fun j => v31 (ix2 r j)) (v33 (ix2 0 k)) (v35 (ix2 0 k)) k := by
  have e : mean (fun j => v31 (ix2 r j)) = Ideal.div (v36 (ix1 r)) (Ideal.ofBits .f32 0x45800000#32) := by
    rw [hs r]
    rfl
  unfold k0_pay8 Cert.Proj.norm
  rw [e]
  simp only [pointwise, Ideal.exp_def, Ideal.subf_def, Ideal.addf_def, Ideal.mulf_def, Ideal.reduceAdd_def, Ideal.ofBits_def,
    Ideal.divf_def, Ideal.rsqrt_def, Ideal.truncf_def]
  rfl

/-- The sums of the rows after the mix. -/
theorem sums_at (i : grid0.Coords) (v1 v2 : Vec Ideal S256x4096 .f32) (v4 v6 : Vec Ideal S1x4096 .f32) (v30 : Vec Ideal S256x4096 .f32)
    (r : Fin 256) :
    k0_pay7 i v1 v2 v4 v6 v30 (ix1 r) = ∑ j : Fin 4096, k0_pay4 i v1 v2 v4 v6 v30 (ix2 r j) := by
  unfold k0_pay7
  generalize k0_pay4 i v1 v2 v4 v6 v30 = w
  simp only [pointwise, Ideal.reduceAdd_def]

/-- The start of a whole block. -/
theorem zz : (![0, 0] : Fin 2 → Nat) = fun _ => 0 := by
  funext a; fin_cases a <;> rfl

/-- What a grid point leaves of its block: both norms of its rows. -/
theorem out_at (i : grid0.Coords) (x0 x1 x2 : Vec Ideal S256x4096 .f32) (x3 x4 x5 x6 : Vec Ideal S1x4096 .f32)
    (x7 x8 : Vec Ideal S64x4096 .bf16) (x9 : Vec Ideal S64x1 .f32) (r : Fin 256) (k : Fin 4096) :
    out0_10 i x0 x1 x2 x3 x4 x5 x6 x7 x8 x9 (ix2 r k)
      = norm (mixed (fun j => if (i 0).val < 32 then x0 (ix2 r j) else x1 (ix2 r j)) (fun j => x3 (ix2 0 j)) (fun j => x4 (ix2 0 j))
          (fun j => x2 (ix2 r j))) (x5 (ix2 0 k)) (x6 (ix2 0 k)) k := by
  have e : out0_10 i x0 x1 x2 x3 x4 x5 x6 x7 x8 x9
      = k0_pay8 (k0_pay4 i x0 x1 x3 x4 x2) x5 x6 (k0_pay7 i x0 x1 x3 x4 x2) := by
    unfold out0_10 k0_pay51 k0_pay52 k0_pay53 k0_pay54 k0_pay5 k0_pay6
    rw [View.ld_unit_zero zz, View.ld_unit_zero zz, View.ld_unit_zero zz, View.ld_unit_zero zz, View.ld_unit_zero zz, View.ld_unit_zero zz, View.ld_unit_zero zz]
    simp only [shapeCast_self]
    exact View.canon_unit_zero zz _ _
  rw [e]
  refine (norm2_at _ _ _ _ (sums_at i x0 x1 x3 x4 x2) r k).trans ?_
  exact congrArg (fun f : Fin 4096 → EReal => norm f _ _ k) (funext fun j => mixed_at i x0 x1 x3 x4 x2 r j)

/-- A token's row after the mix. -/
def rowMixed (x0 : FVec Ideal S8192x4096 .f32) (x1 : FVec Ideal S512x4096 .f32) (x2 : FVec Ideal S8704x4096 .f32)
    (x3 x4 : FVec Ideal S4096 .f32) (r : Fin 8704) : Fin 4096 → EReal :=
  mixed (row x0 x1 r) (fun j => x3 (ix1 j)) (fun j => x4 (ix1 j)) (fun j => x2 (ix2 r j))

section Kernel

variable (m : (ℓ : Loc nD τ sig) → Buf (Elt Ideal) ℓ) (c : Dev nD)

/-- A vector as one row, at an element. -/
theorem flat_at (v : FVec Ideal S4096 .f32) (k : Fin 4096) : shapeCast S1x4096 v shapeCasts_S4096_S1x4096 (ix2 0 k) = v (ix1 k) := by
  refine shapeCast_apply (α := EReal) _ _ (ix2 0 k) (ix1 k) ?_
  rw [Shape.rowMajor_val_one, Shape.rowMajor_val_two]
  show k.val = 0 * 4096 + k.val
  omega

/-- A row as a vector, at an element. -/
theorem vec_at (v : FVec Ideal S1x4096 .f32) (k : Fin 4096) : shapeCast S4096 v shapeCasts_S1x4096_S4096 (ix1 k) = v (ix2 0 k) := by
  refine shapeCast_apply (α := EReal) _ _ (ix1 k) (ix2 0 k) ?_
  rw [Shape.rowMajor_val_one, Shape.rowMajor_val_two]
  show 0 * 4096 + k.val = k.val
  omega

/-- The first gains as the call finds them. -/
theorem v9_at (k : Fin 4096) : V m c main_v9 (ix2 0 k) = m ((c : Thread nD τ).loc main_arg3) (ix1 k) := by
  have e : V m c main_v9 = shapeCast S1x4096 (m ((c : Thread nD τ).loc main_arg3) : Vec Ideal S4096 .f32) shapeCasts_S4096_S1x4096 := by
    show StableHlo.after hostOps0 _ _ = _
    after_reads_simp
    rfl
  rw [e]
  exact flat_at _ k

/-- The first biases as the call finds them. -/
theorem v10_at (k : Fin 4096) : V m c main_v10 (ix2 0 k) = m ((c : Thread nD τ).loc main_arg4) (ix1 k) := by
  have e : V m c main_v10 = shapeCast S1x4096 (m ((c : Thread nD τ).loc main_arg4) : Vec Ideal S4096 .f32) shapeCasts_S4096_S1x4096 := by
    show StableHlo.after hostOps0 _ _ = _
    after_reads_simp
    rfl
  rw [e]
  exact flat_at _ k

/-- The second gains as the call finds them. -/
theorem v11_at (k : Fin 4096) : V m c main_v11 (ix2 0 k) = m ((c : Thread nD τ).loc main_arg5) (ix2 0 k) := by
  have e : V m c main_v11 = shapeCast S1x4096 (shapeCast S4096 (m ((c : Thread nD τ).loc main_arg5) : Vec Ideal S1x4096 .f32)
      shapeCasts_S1x4096_S4096) shapeCasts_S4096_S1x4096 := by
    show StableHlo.after hostOps0 _ _ = _
    after_reads_simp
    rfl
  rw [e]
  exact (flat_at _ k).trans (vec_at _ k)

/-- The second biases as the call finds them. -/
theorem v12_at (k : Fin 4096) : V m c main_v12 (ix2 0 k) = m ((c : Thread nD τ).loc main_arg6) (ix2 0 k) := by
  have e : V m c main_v12 = shapeCast S1x4096 (shapeCast S4096 (m ((c : Thread nD τ).loc main_arg6) : Vec Ideal S1x4096 .f32)
      shapeCasts_S1x4096_S4096) shapeCasts_S4096_S1x4096 := by
    show StableHlo.after hostOps0 _ _ = _
    after_reads_simp
    rfl
  rw [e]
  exact (flat_at _ k).trans (vec_at _ k)

/-- A grid point is a block of rows. -/
theorem coords : ∀ t : Fin grid0.N, (grid0.coords t 0).val = t.val := by decide +kernel
/-- The prompt's rows that a point reads. -/
theorem tr0 : ∀ i : grid0.Coords, (i 0).val < 32 → cc0_transform_0 i 0 = (i 0).val ∧ cc0_transform_0 i 1 = 0 := by decide +kernel
/-- The samples' rows that a point reads. -/
theorem tr1 : ∀ i : grid0.Coords, 32 ≤ (i 0).val → cc0_transform_1 i 0 = (i 0).val - 32 ∧ cc0_transform_1 i 1 = 0 := by decide +kernel
/-- The rows of the mix that a point reads. -/
theorem tr2 : ∀ i : grid0.Coords, cc0_transform_2 i 0 = (i 0).val ∧ cc0_transform_2 i 1 = 0 := by decide +kernel
/-- Every point reads the whole of the gains and the biases. -/
theorem trv : ∀ i : grid0.Coords, (cc0_transform_3 i 0 = 0 ∧ cc0_transform_3 i 1 = 0) ∧ (cc0_transform_4 i 0 = 0 ∧ cc0_transform_4 i 1 = 0)
    ∧ (cc0_transform_5 i 0 = 0 ∧ cc0_transform_5 i 1 = 0) ∧ (cc0_transform_6 i 0 = 0 ∧ cc0_transform_6 i 1 = 0) := by decide +kernel
/-- The rows that a point writes. -/
theorem tr10 : ∀ i : grid0.Coords, cc0_transform_10 i 0 = (i 0).val ∧ cc0_transform_10 i 1 = 0 := by decide +kernel

/-- An element of a point's block of the prompt's rows. -/
theorem in0 (t : Fin cfg0.N) (r : Fin 256) (k : Fin 4096) (x : Fin 8192) (ht : t.val < 32) (hx : x.val = 256 * t.val + r.val) :
    iblk m c 0 t (ix2 r k) = m ((c : Thread nD τ).loc main_arg0) (ix2 x k) := by
  refine Eq.trans ?_ (congrFun (V_main_arg0 m c) (ix2 x k))
  unfold iblk
  rw [View.read_apply]
  show V m c main_arg0 _ = _
  congr 1
  funext p
  refine Fin.ext ?_
  have h := coords t
  obtain ⟨h0, h1⟩ := tr0 (grid0.coords t) (by omega)
  match p with
  | ⟨0, _⟩ =>
    show cc0_transform_0 (grid0.coords t) 0 * 256 + 1 * r.val = x.val
    omega
  | ⟨1, _⟩ =>
    show cc0_transform_0 (grid0.coords t) 1 * 4096 + 1 * k.val = k.val
    omega

/-- An element of a point's block of the samples' rows. -/
theorem in1 (t : Fin cfg0.N) (r : Fin 256) (k : Fin 4096) (x : Fin 512) (ht : 32 ≤ t.val) (hx : x.val = 256 * (t.val - 32) + r.val) :
    iblk m c 1 t (ix2 r k) = m ((c : Thread nD τ).loc main_arg1) (ix2 x k) := by
  refine Eq.trans ?_ (congrFun (V_main_arg1 m c) (ix2 x k))
  unfold iblk
  rw [View.read_apply]
  show V m c main_arg1 _ = _
  congr 1
  funext p
  refine Fin.ext ?_
  have h := coords t
  obtain ⟨h0, h1⟩ := tr1 (grid0.coords t) (by omega)
  match p with
  | ⟨0, _⟩ =>
    show cc0_transform_1 (grid0.coords t) 0 * 256 + 1 * r.val = x.val
    omega
  | ⟨1, _⟩ =>
    show cc0_transform_1 (grid0.coords t) 1 * 4096 + 1 * k.val = k.val
    omega

/-- An element of a point's block of the mix. -/
theorem in2 (t : Fin cfg0.N) (r : Fin 256) (k : Fin 4096) (x : Fin 8704) (hx : x.val = 256 * t.val + r.val) :
    iblk m c 2 t (ix2 r k) = m ((c : Thread nD τ).loc main_arg2) (ix2 x k) := by
  refine Eq.trans ?_ (congrFun (V_main_arg2 m c) (ix2 x k))
  unfold iblk
  rw [View.read_apply]
  show V m c main_arg2 _ = _
  congr 1
  funext p
  refine Fin.ext ?_
  have h := coords t
  obtain ⟨h0, h1⟩ := tr2 (grid0.coords t)
  match p with
  | ⟨0, _⟩ =>
    show cc0_transform_2 (grid0.coords t) 0 * 256 + 1 * r.val = x.val
    omega
  | ⟨1, _⟩ =>
    show cc0_transform_2 (grid0.coords t) 1 * 4096 + 1 * k.val = k.val
    omega

/-- A first gain that a point reads. -/
theorem in3 (t : Fin cfg0.N) (k : Fin 4096) : iblk m c 3 t (ix2 0 k) = m ((c : Thread nD τ).loc main_arg3) (ix1 k) := by
  refine Eq.trans ?_ (v9_at m c k)
  unfold iblk
  rw [View.read_apply]
  show V m c main_v9 _ = _
  congr 1
  funext p
  refine Fin.ext ?_
  obtain ⟨⟨h0, h1⟩, _⟩ := trv (grid0.coords t)
  match p with
  | ⟨0, _⟩ =>
    show cc0_transform_3 (grid0.coords t) 0 * 1 + 1 * 0 = 0
    omega
  | ⟨1, _⟩ =>
    show cc0_transform_3 (grid0.coords t) 1 * 4096 + 1 * k.val = k.val
    omega

/-- A first bias that a point reads. -/
theorem in4 (t : Fin cfg0.N) (k : Fin 4096) : iblk m c 4 t (ix2 0 k) = m ((c : Thread nD τ).loc main_arg4) (ix1 k) := by
  refine Eq.trans ?_ (v10_at m c k)
  unfold iblk
  rw [View.read_apply]
  show V m c main_v10 _ = _
  congr 1
  funext p
  refine Fin.ext ?_
  obtain ⟨_, ⟨h0, h1⟩, _⟩ := trv (grid0.coords t)
  match p with
  | ⟨0, _⟩ =>
    show cc0_transform_4 (grid0.coords t) 0 * 1 + 1 * 0 = 0
    omega
  | ⟨1, _⟩ =>
    show cc0_transform_4 (grid0.coords t) 1 * 4096 + 1 * k.val = k.val
    omega

/-- A second gain that a point reads. -/
theorem in5 (t : Fin cfg0.N) (k : Fin 4096) : iblk m c 5 t (ix2 0 k) = m ((c : Thread nD τ).loc main_arg5) (ix2 0 k) := by
  refine Eq.trans ?_ (v11_at m c k)
  unfold iblk
  rw [View.read_apply]
  show V m c main_v11 _ = _
  congr 1
  funext p
  refine Fin.ext ?_
  obtain ⟨_, _, ⟨h0, h1⟩, _⟩ := trv (grid0.coords t)
  match p with
  | ⟨0, _⟩ =>
    show cc0_transform_5 (grid0.coords t) 0 * 1 + 1 * 0 = 0
    omega
  | ⟨1, _⟩ =>
    show cc0_transform_5 (grid0.coords t) 1 * 4096 + 1 * k.val = k.val
    omega

/-- A second bias that a point reads. -/
theorem in6 (t : Fin cfg0.N) (k : Fin 4096) : iblk m c 6 t (ix2 0 k) = m ((c : Thread nD τ).loc main_arg6) (ix2 0 k) := by
  refine Eq.trans ?_ (v12_at m c k)
  unfold iblk
  rw [View.read_apply]
  show V m c main_v12 _ = _
  congr 1
  funext p
  refine Fin.ext ?_
  obtain ⟨_, _, _, ⟨h0, h1⟩⟩ := trv (grid0.coords t)
  match p with
  | ⟨0, _⟩ =>
    show cc0_transform_6 (grid0.coords t) 0 * 1 + 1 * 0 = 0
    omega
  | ⟨1, _⟩ =>
    show cc0_transform_6 (grid0.coords t) 1 * 4096 + 1 * k.val = k.val
    omega

/-- A token's row after both norms, as the call leaves it. -/
abbrev resOf (r : Fin 8704) (k : Fin 4096) : EReal :=
  norm (rowMixed (m ((c : Thread nD τ).loc main_arg0)) (m ((c : Thread nD τ).loc main_arg1)) (m ((c : Thread nD τ).loc main_arg2))
      (m ((c : Thread nD τ).loc main_arg3)) (m ((c : Thread nD τ).loc main_arg4)) r)
    (m ((c : Thread nD τ).loc main_arg5) (ix2 0 k)) (m ((c : Thread nD τ).loc main_arg6) (ix2 0 k)) k

/-- What a point leaves, at an element. -/
theorem left (t : Fin cfg0.N) (r' : Fin 256) (k : Fin 4096) (r : Fin 8704) (hr : r.val = 256 * t.val + r'.val) :
    (dats m 0 c).flushed 10 t (ix2 r' k) = resOf m c r k := by
  have ht := coords t
  refine (congrFun (after0_10 m c t) (ix2 r' k)).trans ?_
  refine (out_at (grid0.coords t) _ _ _ _ _ _ _ _ _ _ r' k).trans ?_
  rw [in5, in6]
  refine congrArg (fun f : Fin 4096 → EReal => norm f _ _ k) ?_
  unfold rowMixed
  simp only [in3, in4, in2 m c t r' _ r hr]
  refine congrArg (fun f : Fin 4096 → EReal => mixed f _ _ _) ?_
  funext j
  rcases Nat.lt_or_ge t.val 32 with h | h
  · rw [if_pos (by omega)]
    unfold row
    rw [dif_pos (show r.val < 8192 by omega)]
    exact in0 m c t r' j _ h hr
  · rw [if_neg (by omega)]
    unfold row
    rw [dif_neg (show ¬ r.val < 8192 by omega)]
    exact in1 m c t r' j _ h (by show r.val - 8192 = _; omega)

/-- The array after the call, at an element. -/
theorem arr_at (r : Fin 8704) (k : Fin 4096) : (dats m 0 c).arrAt 10 cfg0.N (ix2 r k) = resOf m c r k := by
  have hr := r.isLt
  let t : Fin cfg0.N := ⟨r.val / 256, by show _ < 34; omega⟩
  have ht := coords t
  refine Eq.trans ?_ (left m c t ⟨r.val % 256, Nat.mod_lt _ (by decide)⟩ k r (by show r.val = 256 * (r.val / 256) + r.val % 256; omega))
  refine Eq.trans ?_ (congrFun (Cert.MixedIdeal.Value.blocks10 m c t (flush0_10 t)) _)
  rw [View.read_apply]
  congr 1
  funext p
  refine Fin.ext ?_
  obtain ⟨h0, h1⟩ := tr10 (grid0.coords t)
  match p with
  | ⟨0, _⟩ =>
    show r.val = cc0_transform_10 (grid0.coords t) 0 * 256 + 1 * (r.val % 256)
    rw [h0, ht]
    show r.val = r.val / 256 * 256 + 1 * (r.val % 256)
    omega
  | ⟨1, _⟩ =>
    show k.val = cc0_transform_10 (grid0.coords t) 1 * 4096 + 1 * k.val
    omega

end Kernel

section Reference

open Cert.MixedReferenceIdeal.Read

variable (x0 : FVec Ideal S8192x4096 .f32) (x1 : FVec Ideal S512x4096 .f32) (x2 : FVec Ideal S8704x4096 .f32)
  (x3 x4 : FVec Ideal S4096 .f32) (x5 x6 : FVec Ideal S1x4096 .f32)

/-- The reference's first layer norm is the one before the projections, at an element. -/
theorem norm_at (r : Fin 8704) (k : Fin 4096) :
    val_main_v22 (F := Ideal) x0 x1 x3 x4 (ix2 r k) = norm (row x0 x1 r) (x3 (ix1 k)) (x4 (ix1 k)) k :=
  Eq.trans (by rfl) (Cert.Proj.norm_at x0 x1 x3 x4 r k)

/-- The reference's rows after the mix, at an element. -/
theorem rows2_at (r : Fin 8704) (k : Fin 4096) :
    val_main_v25 (F := Ideal) x0 x1 x2 x3 x4 (ix2 r k) = rowMixed x0 x1 x2 x3 x4 r k := by
  rw [val_main_v25_apply, val_main_v24_apply, val_main_v23_apply, val_main_cst_4_apply, norm_at]
  rfl

/-- The reference's mean of a row after the mix. -/
theorem mean2_at (r : Fin 8704) (e : Fin 1) :
    val_main_v31 (F := Ideal) x0 x1 x2 x3 x4 (ix2 r e) = mean (rowMixed x0 x1 x2 x3 x4 r) := by
  rw [val_main_v31_apply, val_main_v29_apply, val_main_v30_apply, val_main_v28_apply, val_main_cst_5_apply, val_main_cst_6_apply,
    Ideal.ofBits_def, Ideal.ofBits_zero_f32, zero_add, Ideal.hostDivf_def]
  have e1 : ∀ k : Fin 4096, idx_main_v28 (idx_main_v29 (ix2 r e)) k = ix2 r k := by
    intro k
    funext a; fin_cases a <;> rfl
  simp only [e1, rows2_at]
  rfl

/-- A row after the mix less its mean, at an element. -/
theorem centred2_at (r : Fin 8704) (k : Fin 4096) :
    val_main_v33 (F := Ideal) x0 x1 x2 x3 x4 (ix2 r k)
      = rowMixed x0 x1 x2 x3 x4 r k - mean (rowMixed x0 x1 x2 x3 x4 r) := by
  have e1 : idx_main_v32 (ix2 r k) = ix2 r 0 := by
    funext a; fin_cases a <;> rfl
  rw [val_main_v33_apply, val_main_v32_apply, e1, mean2_at, rows2_at]
  rfl

/-- The mean of the squares of a row after the mix. -/
theorem square2_at (r : Fin 8704) (e : Fin 1) :
    val_main_v38 (F := Ideal) x0 x1 x2 x3 x4 (ix2 r e)
      = mean (fun j => (rowMixed x0 x1 x2 x3 x4 r j - mean (rowMixed x0 x1 x2 x3 x4 r))
          * (rowMixed x0 x1 x2 x3 x4 r j - mean (rowMixed x0 x1 x2 x3 x4 r))) := by
  rw [val_main_v38_apply, val_main_v36_apply, val_main_v37_apply, val_main_v35_apply, val_main_cst_7_apply, val_main_cst_8_apply,
    Ideal.ofBits_def, Ideal.ofBits_zero_f32, zero_add, Ideal.hostDivf_def]
  have e1 : ∀ k : Fin 4096, idx_main_v35 (idx_main_v36 (ix2 r e)) k = ix2 r k := by
    intro k
    funext a; fin_cases a <;> rfl
  simp only [e1, val_main_v34_apply, centred2_at, Ideal.mulf_def]
  rfl

/-- The reference's second layer norm, at an element. -/
theorem ref_at (r : Fin 8704) (k : Fin 4096) :
    val_main_v49 (F := Ideal) x0 x1 x2 x3 x4 x5 x6 (ix2 r k)
      = norm (rowMixed x0 x1 x2 x3 x4 r) (x5 (ix2 0 k)) (x6 (ix2 0 k)) k := by
  have e2 : idx_main_v42 (ix2 r k) = ix2 r 0 := by
    funext a; fin_cases a <;> rfl
  have e3 : idx_main_v44 (idx_main_v45 (ix2 r k)) = ix1 k := by
    funext a; fin_cases a; rfl
  have e4 : idx_main_v47 (idx_main_v48 (ix2 r k)) = ix1 k := by
    funext a; fin_cases a; rfl
  have g : val_main_v26 (F := Ideal) x5 (ix1 k) = x5 (ix2 0 k) := vec_at x5 k
  have b : val_main_v27 (F := Ideal) x6 (ix1 k) = x6 (ix2 0 k) := vec_at x6 k
  rw [val_main_v49_apply, val_main_v46_apply, val_main_v43_apply, val_main_v45_apply, val_main_v44_apply, val_main_v48_apply,
    val_main_v47_apply, val_main_v42_apply, e2, e3, e4, val_main_v41_apply, val_main_v40_apply, val_main_v39_apply,
    val_main_cst_9_apply, square2_at, centred2_at, g, b]
  rfl

end Reference

/-- The reference ends from any memory, with its arguments as launched and every counter at zero. -/
theorem frame_ref (m : (ℓ : Loc Cert.MixedReferenceIdeal.nD Cert.MixedReferenceIdeal.τ Cert.MixedReferenceIdeal.sig) → Buf (Elt Ideal) ℓ)
    (g : Dev Cert.MixedReferenceIdeal.nD → PrngReg) :
    θ_run (Cert.MixedReferenceIdeal.defs (F := Ideal)) (onTc (τ := Cert.MixedReferenceIdeal.τ) (Cert.MixedReferenceIdeal.main (F := Ideal)))
      ⟨m, fun _ => 0, g⟩ (fun r => (∀ c : Dev Cert.MixedReferenceIdeal.nD,
        r.2.mem ((c.tc : Thread Cert.MixedReferenceIdeal.nD Cert.MixedReferenceIdeal.τ).loc Cert.MixedReferenceIdeal.main_arg0) = m ((c.tc : Thread Cert.MixedReferenceIdeal.nD Cert.MixedReferenceIdeal.τ).loc Cert.MixedReferenceIdeal.main_arg0)
        ∧ r.2.mem ((c.tc : Thread Cert.MixedReferenceIdeal.nD Cert.MixedReferenceIdeal.τ).loc Cert.MixedReferenceIdeal.main_arg1) = m ((c.tc : Thread Cert.MixedReferenceIdeal.nD Cert.MixedReferenceIdeal.τ).loc Cert.MixedReferenceIdeal.main_arg1)
        ∧ r.2.mem ((c.tc : Thread Cert.MixedReferenceIdeal.nD Cert.MixedReferenceIdeal.τ).loc Cert.MixedReferenceIdeal.main_arg2) = m ((c.tc : Thread Cert.MixedReferenceIdeal.nD Cert.MixedReferenceIdeal.τ).loc Cert.MixedReferenceIdeal.main_arg2)
        ∧ r.2.mem ((c.tc : Thread Cert.MixedReferenceIdeal.nD Cert.MixedReferenceIdeal.τ).loc Cert.MixedReferenceIdeal.main_arg3) = m ((c.tc : Thread Cert.MixedReferenceIdeal.nD Cert.MixedReferenceIdeal.τ).loc Cert.MixedReferenceIdeal.main_arg3)
        ∧ r.2.mem ((c.tc : Thread Cert.MixedReferenceIdeal.nD Cert.MixedReferenceIdeal.τ).loc Cert.MixedReferenceIdeal.main_arg4) = m ((c.tc : Thread Cert.MixedReferenceIdeal.nD Cert.MixedReferenceIdeal.τ).loc Cert.MixedReferenceIdeal.main_arg4)
        ∧ r.2.mem ((c.tc : Thread Cert.MixedReferenceIdeal.nD Cert.MixedReferenceIdeal.τ).loc Cert.MixedReferenceIdeal.main_arg5) = m ((c.tc : Thread Cert.MixedReferenceIdeal.nD Cert.MixedReferenceIdeal.τ).loc Cert.MixedReferenceIdeal.main_arg5)
        ∧ r.2.mem ((c.tc : Thread Cert.MixedReferenceIdeal.nD Cert.MixedReferenceIdeal.τ).loc Cert.MixedReferenceIdeal.main_arg6) = m ((c.tc : Thread Cert.MixedReferenceIdeal.nD Cert.MixedReferenceIdeal.τ).loc Cert.MixedReferenceIdeal.main_arg6)
        ∧ r.2.mem ((c.tc : Thread Cert.MixedReferenceIdeal.nD Cert.MixedReferenceIdeal.τ).loc Cert.MixedReferenceIdeal.main_arg7) = m ((c.tc : Thread Cert.MixedReferenceIdeal.nD Cert.MixedReferenceIdeal.τ).loc Cert.MixedReferenceIdeal.main_arg7)
        ∧ r.2.mem ((c.tc : Thread Cert.MixedReferenceIdeal.nD Cert.MixedReferenceIdeal.τ).loc Cert.MixedReferenceIdeal.main_arg8) = m ((c.tc : Thread Cert.MixedReferenceIdeal.nD Cert.MixedReferenceIdeal.τ).loc Cert.MixedReferenceIdeal.main_arg8))
        ∧ r.2.sem = fun _ => 0) :=
  (θ_run Cert.MixedReferenceIdeal.defs _ _).mono (fun r h => ⟨fun c => (h c).2, sem_eq_zero_of_no_sems (by decide) r.2⟩)
    (Cert.MixedReferenceIdeal.Value.run (F := Ideal) m g)

/-- The kernel's and the reference's results are equal at the ideal instance. -/
theorem algebraic : Cert.algebraic_MixedIdeal_MixedReferenceIdeal (hMixedIdeal := Cert.MixedIdeal.Gen.facts)
    (hMixedReferenceIdeal := Cert.MixedReferenceIdeal.Gen.facts) := by
  intro m g m' g' hpre hagree
  refine ⟨fun c => (Cert.MixedIdeal.Gen.dats m 0 c).arrAt 10 Cert.MixedIdeal.cfg0.N, ?_, ?_⟩
  · exact (θ_run Cert.MixedIdeal.defs _ _).mono (fun r h c => ⟨(h c).1, (h c).2.2.2.2⟩) (Cert.MixedIdeal.Value.run_blocks m g)
  refine (θ_run Cert.MixedReferenceIdeal.defs _ _).mono (fun r h c => ⟨?_, (h c).2⟩) (Cert.MixedReferenceIdeal.Value.run (F := Ideal) m' g')
  obtain ⟨a0, a1, a2, a3, a4, a5, a6, _, _⟩ := hagree c
  rw [(h c).1, Cert.MixedReferenceIdeal.Read.val_main_v49_eq, a0, a1, a2, a3, a4, a5, a6]
  funext i
  obtain ⟨p, q, rfl⟩ : ∃ (p : Fin 8704) (q : Fin 4096), i = ix2 p q :=
    ⟨i 0, i 1, by funext a; match a with | ⟨0, _⟩ => rfl | ⟨1, _⟩ => rfl⟩
  exact (ref_at _ _ _ _ _ _ _ p q).trans (arr_at m c p q).symm

end Cert.Mix

end
-- ==== Proof.lean ====
module

public import proofs.«01_k».proof.Defs
public import proofs.«01_k».proof.Proof.Claims
public import proofs.«01_k».proof.Proof.Heads
public import proofs.«01_k».proof.Proof.OutProj
public import proofs.«01_k».proof.Proof.Down
public import proofs.«01_k».proof.Proof.Up
public import proofs.«01_k».proof.Proof.Means
public import proofs.«01_k».proof.Proof.Mixed
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Heads.Gen.facts, Cert.HeadsIdeal.Gen.facts, Cert.HeadsReferenceIdeal.Gen.facts,
  Cert.OutProj.Gen.facts, Cert.OutProjIdeal.Gen.facts, Cert.OutProjReferenceIdeal.Gen.facts,
  Cert.Down.Gen.facts, Cert.DownIdeal.Gen.facts, Cert.DownReferenceIdeal.Gen.facts,
  Cert.Up.Gen.facts, Cert.UpIdeal.Gen.facts, Cert.UpReferenceIdeal.Gen.facts,
  Cert.Means.Gen.facts, Cert.MeansIdeal.Gen.facts, Cert.MeansReferenceIdeal.Gen.facts,
  Cert.Mixed.Gen.facts, Cert.MixedIdeal.Gen.facts, Cert.MixedReferenceIdeal.Gen.facts,
  Cert.Pre_finite.Gen.facts, Cert.Pre_tables.Gen.facts, Cert.Pre_up_tables.Gen.facts,
  fun m ρ _ => Cert.Kernel.Gen.frame m ρ, fun m ρ _ => Cert.KernelIdeal.Gen.frame m ρ, fun m ρ _ => Cert.KernelIdeal.Gen.frame m ρ,
  fun m ρ _ => Cert.Attn.frame_ref m ρ, fun m ρ _ => Cert.Attn.frame_ref m ρ,
  fun m ρ _ => Cert.Heads.Gen.frame m ρ, fun m ρ _ => Cert.HeadsIdeal.Gen.frame m ρ, fun m ρ _ => Cert.Proj.frame_ref m ρ,
  fun m ρ _ => Cert.OutProj.Gen.frame m ρ, fun m ρ _ => Cert.OutProjIdeal.Gen.frame m ρ, fun m ρ _ => Cert.Out.frame_ref m ρ,
  Cert.Experts.frame, Cert.Experts.frame_ideal, Cert.Experts.frame_ref, Cert.Experts.frame_ref_pre,
  Cert.First.frame, Cert.First.frame_ideal, Cert.First.frame_ref, Cert.First.frame_ref_pre,
  fun m ρ _ => Cert.Means.Gen.frame m ρ, fun m ρ _ => Cert.MeansIdeal.Gen.frame m ρ, fun m ρ _ => Cert.Blocks.frame_ref m ρ,
  fun m ρ _ => Cert.Mixed.Gen.frame m ρ, fun m ρ _ => Cert.MixedIdeal.Gen.frame m ρ, fun m ρ _ => Cert.Mix.frame_ref m ρ,
  IdealRules.named_const.statement Cert.KernelIdeal.κ "mask" .f32 0xF149F2CA#32 ⊥ rfl,
  Cert.Attn.algebraic, trivial, Cert.Proj.algebraic, trivial, Cert.Out.algebraic, trivial, Cert.Experts.algebraic,
  trivial, Cert.First.algebraic, trivial, Cert.Blocks.algebraic, trivial, Cert.Mix.algebraic⟩

end Cert.Proof

end
